-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_finite_gates [hPre_finite_gates : Cert.Pre_finite_gates.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_finite_gates.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3)) (m ((c.tc : Thread Cert.GateGradIdeal.nD Cert.GateGradIdeal.τ).loc Cert.GateGradIdeal.main_arg4)) (m ((c.tc : Thread Cert.GateGradIdeal.nD Cert.GateGradIdeal.τ).loc Cert.GateGradIdeal.main_arg5))) = (fun _ => 1#1)

def Pre_GateGradReferenceIdeal (m : (ℓ : Loc Cert.GateGradReferenceIdeal.nD Cert.GateGradReferenceIdeal.τ Cert.GateGradReferenceIdeal.sig) → Buf (Elt Ideal) ℓ) : Prop :=
  True

def Pre_GateGradReferenceIdeal_finite_gates [hPre_finite_gates : Cert.Pre_finite_gates.Facts] (m : (ℓ : Loc Cert.GateGradReferenceIdeal.nD Cert.GateGradReferenceIdeal.τ Cert.GateGradReferenceIdeal.sig) → Buf (Elt Ideal) ℓ) : Prop :=
  ∀ c : Dev Cert.GateGradReferenceIdeal.nD,
    (Cert.Pre_finite_gates.fn (F := Ideal) (m ((c.tc : Thread Cert.GateGradReferenceIdeal.nD Cert.GateGradReferenceIdeal.τ).loc Cert.GateGradReferenceIdeal.main_arg0)) (m ((c.tc : Thread Cert.GateGradReferenceIdeal.nD Cert.GateGradReferenceIdeal.τ).loc Cert.GateGradReferenceIdeal.main_arg1)) (m ((c.tc : Thread Cert.GateGradReferenceIdeal.nD Cert.GateGradReferenceIdeal.τ).loc Cert.GateGradReferenceIdeal.main_arg2)) (m ((c.tc : Thread Cert.GateGradReferenceIdeal.nD Cert.GateGradReferenceIdeal.τ).loc Cert.GateGradReferenceIdeal.main_arg3)) (m ((c.tc : Thread Cert.GateGradReferenceIdeal.nD Cert.GateGradReferenceIdeal.τ).loc Cert.GateGradReferenceIdeal.main_arg4)) (m ((c.tc : Thread Cert.GateGradReferenceIdeal.nD Cert.GateGradReferenceIdeal.τ).loc Cert.GateGradReferenceIdeal.main_arg5))) = (fun _ => 1#1)

def Pre_ConvForward (m : (ℓ : Loc Cert.ConvForward.nD Cert.ConvForward.τ Cert.ConvForward.sig) → Buf (Elt Bits) ℓ) : Prop :=
  True

def Pre_ConvForwardIdeal (m : (ℓ : Loc Cert.ConvForwardIdeal.nD Cert.ConvForwardIdeal.τ Cert.ConvForwardIdeal.sig) → Buf (Elt Ideal) ℓ) : Prop :=
  True

def Pre_ConvForwardReferenceIdeal (m : (ℓ : Loc Cert.ConvForwardReferenceIdeal.nD Cert.ConvForwardReferenceIdeal.τ Cert.ConvForwardReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_EvenGrad (m : (ℓ : Loc Cert.EvenGrad.nD Cert.EvenGrad.τ Cert.EvenGrad.sig) → Buf (Elt Bits) ℓ) : Prop :=
  True

def Pre_EvenGradIdeal (m : (ℓ : Loc Cert.EvenGradIdeal.nD Cert.EvenGradIdeal.τ Cert.EvenGradIdeal.sig) → Buf (Elt Ideal) ℓ) : Prop :=
  True

def Pre_EvenGradReferenceIdeal (m : (ℓ : Loc Cert.EvenGradReferenceIdeal.nD Cert.EvenGradReferenceIdeal.τ Cert.EvenGradReferenceIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterReferenceIdeal (m : (ℓ : Loc Cert.EnterReferenceIdeal.nD Cert.EnterReferenceIdeal.τ Cert.EnterReferenceIdeal.sig) → Buf (Elt Ideal) ℓ) : Prop :=
  True

def Pre_Leave (m : (ℓ : Loc Cert.Leave.nD Cert.Leave.τ Cert.Leave.sig) → Buf (Elt Bits) ℓ) : Prop :=
  True

def Pre_LeaveIdeal (m : (ℓ : Loc Cert.LeaveIdeal.nD Cert.LeaveIdeal.τ Cert.LeaveIdeal.sig) → Buf (Elt Ideal) ℓ) : Prop :=
  True

def Pre_LeaveIdeal_finite_leave [hPre_finite_leave : Cert.Pre_finite_leave.Facts] (m : (ℓ : Loc Cert.LeaveIdeal.nD Cert.LeaveIdeal.τ Cert.LeaveIdeal.sig) → Buf (Elt Ideal) ℓ) : Prop :=
  ∀ c : Dev Cert.LeaveIdeal.nD,
    (Cert.Pre_finite_leave.fn (F := Ideal) (m ((c.tc : Thread Cert.LeaveIdeal.nD Cert.LeaveIdeal.τ).loc Cert.LeaveIdeal.main_arg0)) (m ((c.tc : Thread Cert.LeaveIdeal.nD Cert.LeaveIdeal.τ).loc Cert.LeaveIdeal.main_arg1)) (m ((c.tc : Thread Cert.LeaveIdeal.nD Cert.LeaveIdeal.τ).loc Cert.LeaveIdeal.main_arg2)) (m ((c.tc : Thread Cert.LeaveIdeal.nD Cert.LeaveIdeal.τ).loc Cert.LeaveIdeal.main_arg3)) (m ((c.tc : Thread Cert.LeaveIdeal.nD Cert.LeaveIdeal.τ).loc Cert.LeaveIdeal.main_arg4))) = (fun _ => 1#1)

def Pre_LeaveReferenceIdeal (m : (ℓ : Loc Cert.LeaveReferenceIdeal.nD Cert.LeaveReferenceIdeal.τ Cert.LeaveReferenceIdeal.sig) → Buf (Elt Ideal) ℓ) : Prop :=
  True

def Pre_LeaveReferenceIdeal_finite_leave [hPre_finite_leave : Cert.Pre_finite_leave.Facts] (m : (ℓ : Loc Cert.LeaveReferenceIdeal.nD Cert.LeaveReferenceIdeal.τ Cert.LeaveReferenceIdeal.sig) → Buf (Elt Ideal) ℓ) : Prop :=
  ∀ c : Dev Cert.LeaveReferenceIdeal.nD,
    (Cert.Pre_finite_leave.fn (F := Ideal) (m ((c.tc : Thread Cert.LeaveReferenceIdeal.nD Cert.LeaveReferenceIdeal.τ).loc Cert.LeaveReferenceIdeal.main_arg0)) (m ((c.tc : Thread Cert.LeaveReferenceIdeal.nD Cert.LeaveReferenceIdeal.τ).loc Cert.LeaveReferenceIdeal.main_arg1)) (m ((c.tc : Thread Cert.LeaveReferenceIdeal.nD Cert.LeaveReferenceIdeal.τ).loc Cert.LeaveReferenceIdeal.main_arg2)) (m ((c.tc : Thread Cert.LeaveReferenceIdeal.nD Cert.LeaveReferenceIdeal.τ).loc Cert.LeaveReferenceIdeal.main_arg3)) (m ((c.tc : Thread Cert.LeaveReferenceIdeal.nD Cert.LeaveReferenceIdeal.τ).loc Cert.LeaveReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_pool [hPre_finite_pool : Cert.Pre_finite_pool.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5)
      ∧ r.2.mem ((c.tc : Thread Cert.NormGrad.nD Cert.NormGrad.τ).loc Cert.NormGrad.main_arg6) = m ((c.tc : Thread Cert.NormGrad.nD Cert.NormGrad.τ).loc Cert.NormGrad.main_arg6))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4)
      ∧ r.2.mem ((c.tc : Thread Cert.NormGradReferenceIdeal.nD Cert.NormGradReferenceIdeal.τ).loc Cert.NormGradReferenceIdeal.main_arg5) = m ((c.tc : Thread Cert.NormGradReferenceIdeal.nD Cert.NormGradReferenceIdeal.τ).loc Cert.NormGradReferenceIdeal.main_arg5)
      ∧ r.2.mem ((c.tc : Thread Cert.NormGradReferenceIdeal.nD Cert.NormGradReferenceIdeal.τ).loc Cert.NormGradReferenceIdeal.main_arg6) = m ((c.tc : Thread Cert.NormGradReferenceIdeal.nD Cert.NormGradReferenceIdeal.τ).loc Cert.NormGradReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3)
      ∧ r.2.mem ((c.tc : Thread Cert.GateGrad.nD Cert.GateGrad.τ).loc Cert.GateGrad.main_arg4) = m ((c.tc : Thread Cert.GateGrad.nD Cert.GateGrad.τ).loc Cert.GateGrad.main_arg4)
      ∧ r.2.mem ((c.tc : Thread Cert.GateGrad.nD Cert.GateGrad.τ).loc Cert.GateGrad.main_arg5) = m ((c.tc : Thread Cert.GateGrad.nD Cert.GateGrad.τ).loc Cert.GateGrad.main_arg5))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
      ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ r.2.sem = fun _ => 0)

def quiescent_GateGradIdeal_pre_finite_gates [hGateGradIdeal : Cert.GateGradIdeal.Facts] [hPre_finite_gates : Cert.Pre_finite_gates.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_finite_gates m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
      ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3)
      ∧ r.2.mem ((c.tc : Thread Cert.GateGradReferenceIdeal.nD Cert.GateGradReferenceIdeal.τ).loc Cert.GateGradReferenceIdeal.main_arg4) = m ((c.tc : Thread Cert.GateGradReferenceIdeal.nD Cert.GateGradReferenceIdeal.τ).loc Cert.GateGradReferenceIdeal.main_arg4)
      ∧ r.2.mem ((c.tc : Thread Cert.GateGradReferenceIdeal.nD Cert.GateGradReferenceIdeal.τ).loc Cert.GateGradReferenceIdeal.main_arg5) = m ((c.tc : Thread Cert.GateGradReferenceIdeal.nD Cert.GateGradReferenceIdeal.τ).loc Cert.GateGradReferenceIdeal.main_arg5))
      ∧ r.2.sem = fun _ => 0)

def quiescent_GateGradReferenceIdeal_pre_finite_gates [hGateGradReferenceIdeal : Cert.GateGradReferenceIdeal.Facts] [hPre_finite_gates : Cert.Pre_finite_gates.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal_finite_gates m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3)
      ∧ r.2.mem ((c.tc : Thread Cert.GateGradReferenceIdeal.nD Cert.GateGradReferenceIdeal.τ).loc Cert.GateGradReferenceIdeal.main_arg4) = m ((c.tc : Thread Cert.GateGradReferenceIdeal.nD Cert.GateGradReferenceIdeal.τ).loc Cert.GateGradReferenceIdeal.main_arg4)
      ∧ r.2.mem ((c.tc : Thread Cert.GateGradReferenceIdeal.nD Cert.GateGradReferenceIdeal.τ).loc Cert.GateGradReferenceIdeal.main_arg5) = m ((c.tc : Thread Cert.GateGradReferenceIdeal.nD Cert.GateGradReferenceIdeal.τ).loc Cert.GateGradReferenceIdeal.main_arg5))
      ∧ r.2.sem = fun _ => 0)

def quiescent_ConvForward [hConvForward : Cert.ConvForward.Facts] : Prop :=
  ∀ (m : (ℓ : Loc Cert.ConvForward.nD Cert.ConvForward.τ Cert.ConvForward.sig) → Buf (Elt Bits) ℓ) (g : Dev Cert.ConvForward.nD → PrngReg), Pre_ConvForward m →
    θ_run (Cert.ConvForward.defs (F := Bits)) (onTc (τ := Cert.ConvForward.τ) (Cert.ConvForward.main (F := Bits))) ⟨m, fun _ => 0, g⟩ (fun r => (∀ c : Dev Cert.ConvForward.nD,
      r.2.mem ((c.tc : Thread Cert.ConvForward.nD Cert.ConvForward.τ).loc Cert.ConvForward.main_arg0) = m ((c.tc : Thread Cert.ConvForward.nD Cert.ConvForward.τ).loc Cert.ConvForward.main_arg0)
      ∧ r.2.mem ((c.tc : Thread Cert.ConvForward.nD Cert.ConvForward.τ).loc Cert.ConvForward.main_arg1) = m ((c.tc : Thread Cert.ConvForward.nD Cert.ConvForward.τ).loc Cert.ConvForward.main_arg1)
      ∧ r.2.mem ((c.tc : Thread Cert.ConvForward.nD Cert.ConvForward.τ).loc Cert.ConvForward.main_arg2) = m ((c.tc : Thread Cert.ConvForward.nD Cert.ConvForward.τ).loc Cert.ConvForward.main_arg2)
      ∧ r.2.mem ((c.tc : Thread Cert.ConvForward.nD Cert.ConvForward.τ).loc Cert.ConvForward.main_arg3) = m ((c.tc : Thread Cert.ConvForward.nD Cert.ConvForward.τ).loc Cert.ConvForward.main_arg3)
      ∧ r.2.mem ((c.tc : Thread Cert.ConvForward.nD Cert.ConvForward.τ).loc Cert.ConvForward.main_arg4) = m ((c.tc : Thread Cert.ConvForward.nD Cert.ConvForward.τ).loc Cert.ConvForward.main_arg4))
      ∧ r.2.sem = fun _ => 0)

def quiescent_ConvForwardIdeal [hConvForwardIdeal : Cert.ConvForwardIdeal.Facts] : Prop :=
  ∀ (m : (ℓ : Loc Cert.ConvForwardIdeal.nD Cert.ConvForwardIdeal.τ Cert.ConvForwardIdeal.sig) → Buf (Elt Ideal) ℓ) (g : Dev Cert.ConvForwardIdeal.nD → PrngReg), Pre_ConvForwardIdeal m →
    θ_run (Cert.ConvForwardIdeal.defs (F := Ideal)) (onTc (τ := Cert.ConvForwardIdeal.τ) (Cert.ConvForwardIdeal.main (F := Ideal))) ⟨m, fun _ => 0, g⟩ (fun r => (∀ c : Dev Cert.ConvForwardIdeal.nD,
      r.2.mem ((c.tc : Thread Cert.ConvForwardIdeal.nD Cert.ConvForwardIdeal.τ).loc Cert.ConvForwardIdeal.main_arg0) = m ((c.tc : Thread Cert.ConvForwardIdeal.nD Cert.ConvForwardIdeal.τ).loc Cert.ConvForwardIdeal.main_arg0)
      ∧ r.2.mem ((c.tc : Thread Cert.ConvForwardIdeal.nD Cert.ConvForwardIdeal.τ).loc Cert.ConvForwardIdeal.main_arg1) = m ((c.tc : Thread Cert.ConvForwardIdeal.nD Cert.ConvForwardIdeal.τ).loc Cert.ConvForwardIdeal.main_arg1)
      ∧ r.2.mem ((c.tc : Thread Cert.ConvForwardIdeal.nD Cert.ConvForwardIdeal.τ).loc Cert.ConvForwardIdeal.main_arg2) = m ((c.tc : Thread Cert.ConvForwardIdeal.nD Cert.ConvForwardIdeal.τ).loc Cert.ConvForwardIdeal.main_arg2)
      ∧ r.2.mem ((c.tc : Thread Cert.ConvForwardIdeal.nD Cert.ConvForwardIdeal.τ).loc Cert.ConvForwardIdeal.main_arg3) = m ((c.tc : Thread Cert.ConvForwardIdeal.nD Cert.ConvForwardIdeal.τ).loc Cert.ConvForwardIdeal.main_arg3)
      ∧ r.2.mem ((c.tc : Thread Cert.ConvForwardIdeal.nD Cert.ConvForwardIdeal.τ).loc Cert.ConvForwardIdeal.main_arg4) = m ((c.tc : Thread Cert.ConvForwardIdeal.nD Cert.ConvForwardIdeal.τ).loc Cert.ConvForwardIdeal.main_arg4))
      ∧ r.2.sem = fun _ => 0)

def quiescent_ConvForwardReferenceIdeal [hConvForwardReferenceIdeal : Cert.ConvForwardReferenceIdeal.Facts] : Prop :=
  ∀ (m : (ℓ : Loc Cert.ConvForwardReferenceIdeal.nD Cert.ConvForwardReferenceIdeal.τ Cert.ConvForwardReferenceIdeal.sig) → Buf (Elt Ideal) ℓ) (g : Dev Cert.ConvForwardReferenceIdeal.nD → PrngReg), Pre_ConvForwardReferenceIdeal m →
    θ_run (Cert.ConvForwardReferenceIdeal.defs (F := Ideal)) (onTc (τ := Cert.ConvForwardReferenceIdeal.τ) (Cert.ConvForwardReferenceIdeal.main (F := Ideal))) ⟨m, fun _ => 0, g⟩ (fun r => (∀ c : Dev Cert.ConvForwardReferenceIdeal.nD,
      r.2.mem ((c.tc : Thread Cert.ConvForwardReferenceIdeal.nD Cert.ConvForwardReferenceIdeal.τ).loc Cert.ConvForwardReferenceIdeal.main_arg0) = m ((c.tc : Thread Cert.ConvForwardReferenceIdeal.nD Cert.ConvForwardReferenceIdeal.τ).loc Cert.ConvForwardReferenceIdeal.main_arg0)
      ∧ r.2.mem ((c.tc : Thread Cert.ConvForwardReferenceIdeal.nD Cert.ConvForwardReferenceIdeal.τ).loc Cert.ConvForwardReferenceIdeal.main_arg1) = m ((c.tc : Thread Cert.ConvForwardReferenceIdeal.nD Cert.ConvForwardReferenceIdeal.τ).loc Cert.ConvForwardReferenceIdeal.main_arg1)
      ∧ r.2.mem ((c.tc : Thread Cert.ConvForwardReferenceIdeal.nD Cert.ConvForwardReferenceIdeal.τ).loc Cert.ConvForwardReferenceIdeal.main_arg2) = m ((c.tc : Thread Cert.ConvForwardReferenceIdeal.nD Cert.ConvForwardReferenceIdeal.τ).loc Cert.ConvForwardReferenceIdeal.main_arg2)
      ∧ r.2.mem ((c.tc : Thread Cert.ConvForwardReferenceIdeal.nD Cert.ConvForwardReferenceIdeal.τ).loc Cert.ConvForwardReferenceIdeal.main_arg3) = m ((c.tc : Thread Cert.ConvForwardReferenceIdeal.nD Cert.ConvForwardReferenceIdeal.τ).loc Cert.ConvForwardReferenceIdeal.main_arg3)
      ∧ r.2.mem ((c.tc : Thread Cert.ConvForwardReferenceIdeal.nD Cert.ConvForwardReferenceIdeal.τ).loc Cert.ConvForwardReferenceIdeal.main_arg4) = m ((c.tc : Thread Cert.ConvForwardReferenceIdeal.nD Cert.ConvForwardReferenceIdeal.τ).loc Cert.ConvForwardReferenceIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5))
      ∧ r.2.sem = fun _ => 0)

def quiescent_EvenGrad [hEvenGrad : Cert.EvenGrad.Facts] : Prop :=
  ∀ (m : (ℓ : Loc Cert.EvenGrad.nD Cert.EvenGrad.τ Cert.EvenGrad.sig) → Buf (Elt Bits) ℓ) (g : Dev Cert.EvenGrad.nD → PrngReg), Pre_EvenGrad m →
    θ_run (Cert.EvenGrad.defs (F := Bits)) (onTc (τ := Cert.EvenGrad.τ) (Cert.EvenGrad.main (F := Bits))) ⟨m, fun _ => 0, g⟩ (fun r => (∀ c : Dev Cert.EvenGrad.nD,
      r.2.mem ((c.tc : Thread Cert.EvenGrad.nD Cert.EvenGrad.τ).loc Cert.EvenGrad.main_arg0) = m ((c.tc : Thread Cert.EvenGrad.nD Cert.EvenGrad.τ).loc Cert.EvenGrad.main_arg0)
      ∧ r.2.mem ((c.tc : Thread Cert.EvenGrad.nD Cert.EvenGrad.τ).loc Cert.EvenGrad.main_arg1) = m ((c.tc : Thread Cert.EvenGrad.nD Cert.EvenGrad.τ).loc Cert.EvenGrad.main_arg1)
      ∧ r.2.mem ((c.tc : Thread Cert.EvenGrad.nD Cert.EvenGrad.τ).loc Cert.EvenGrad.main_arg2) = m ((c.tc : Thread Cert.EvenGrad.nD Cert.EvenGrad.τ).loc Cert.EvenGrad.main_arg2)
      ∧ r.2.mem ((c.tc : Thread Cert.EvenGrad.nD Cert.EvenGrad.τ).loc Cert.EvenGrad.main_arg3) = m ((c.tc : Thread Cert.EvenGrad.nD Cert.EvenGrad.τ).loc Cert.EvenGrad.main_arg3)
      ∧ r.2.mem ((c.tc : Thread Cert.EvenGrad.nD Cert.EvenGrad.τ).loc Cert.EvenGrad.main_arg4) = m ((c.tc : Thread Cert.EvenGrad.nD Cert.EvenGrad.τ).loc Cert.EvenGrad.main_arg4)
      ∧ r.2.mem ((c.tc : Thread Cert.EvenGrad.nD Cert.EvenGrad.τ).loc Cert.EvenGrad.main_arg5) = m ((c.tc : Thread Cert.EvenGrad.nD Cert.EvenGrad.τ).loc Cert.EvenGrad.main_arg5)
      ∧ r.2.mem ((c.tc : Thread Cert.EvenGrad.nD Cert.EvenGrad.τ).loc Cert.EvenGrad.main_arg6) = m ((c.tc : Thread Cert.EvenGrad.nD Cert.EvenGrad.τ).loc Cert.EvenGrad.main_arg6))
      ∧ r.2.sem = fun _ => 0)

def quiescent_EvenGradIdeal [hEvenGradIdeal : Cert.EvenGradIdeal.Facts] : Prop :=
  ∀ (m : (ℓ : Loc Cert.EvenGradIdeal.nD Cert.EvenGradIdeal.τ Cert.EvenGradIdeal.sig) → Buf (Elt Ideal) ℓ) (g : Dev Cert.EvenGradIdeal.nD → PrngReg), Pre_EvenGradIdeal m →
    θ_run (Cert.EvenGradIdeal.defs (F := Ideal)) (onTc (τ := Cert.EvenGradIdeal.τ) (Cert.EvenGradIdeal.main (F := Ideal))) ⟨m, fun _ => 0, g⟩ (fun r => (∀ c : Dev Cert.EvenGradIdeal.nD,
      r.2.mem ((c.tc : Thread Cert.EvenGradIdeal.nD Cert.EvenGradIdeal.τ).loc Cert.EvenGradIdeal.main_arg0) = m ((c.tc : Thread Cert.EvenGradIdeal.nD Cert.EvenGradIdeal.τ).loc Cert.EvenGradIdeal.main_arg0)
      ∧ r.2.mem ((c.tc : Thread Cert.EvenGradIdeal.nD Cert.EvenGradIdeal.τ).loc Cert.EvenGradIdeal.main_arg1) = m ((c.tc : Thread Cert.EvenGradIdeal.nD Cert.EvenGradIdeal.τ).loc Cert.EvenGradIdeal.main_arg1)
      ∧ r.2.mem ((c.tc : Thread Cert.EvenGradIdeal.nD Cert.EvenGradIdeal.τ).loc Cert.EvenGradIdeal.main_arg2) = m ((c.tc : Thread Cert.EvenGradIdeal.nD Cert.EvenGradIdeal.τ).loc Cert.EvenGradIdeal.main_arg2)
      ∧ r.2.mem ((c.tc : Thread Cert.EvenGradIdeal.nD Cert.EvenGradIdeal.τ).loc Cert.EvenGradIdeal.main_arg3) = m ((c.tc : Thread Cert.EvenGradIdeal.nD Cert.EvenGradIdeal.τ).loc Cert.EvenGradIdeal.main_arg3)
      ∧ r.2.mem ((c.tc : Thread Cert.EvenGradIdeal.nD Cert.EvenGradIdeal.τ).loc Cert.EvenGradIdeal.main_arg4) = m ((c.tc : Thread Cert.EvenGradIdeal.nD Cert.EvenGradIdeal.τ).loc Cert.EvenGradIdeal.main_arg4)
      ∧ r.2.mem ((c.tc : Thread Cert.EvenGradIdeal.nD Cert.EvenGradIdeal.τ).loc Cert.EvenGradIdeal.main_arg5) = m ((c.tc : Thread Cert.EvenGradIdeal.nD Cert.EvenGradIdeal.τ).loc Cert.EvenGradIdeal.main_arg5)
      ∧ r.2.mem ((c.tc : Thread Cert.EvenGradIdeal.nD Cert.EvenGradIdeal.τ).loc Cert.EvenGradIdeal.main_arg6) = m ((c.tc : Thread Cert.EvenGradIdeal.nD Cert.EvenGradIdeal.τ).loc Cert.EvenGradIdeal.main_arg6))
      ∧ r.2.sem = fun _ => 0)

def quiescent_EvenGradReferenceIdeal [hEvenGradReferenceIdeal : Cert.EvenGradReferenceIdeal.Facts] : Prop :=
  ∀ (m : (ℓ : Loc Cert.EvenGradReferenceIdeal.nD Cert.EvenGradReferenceIdeal.τ Cert.EvenGradReferenceIdeal.sig) → Buf (Elt Ideal) ℓ) (g : Dev Cert.EvenGradReferenceIdeal.nD → PrngReg), Pre_EvenGradReferenceIdeal m →
    θ_run (Cert.EvenGradReferenceIdeal.defs (F := Ideal)) (onTc (τ := Cert.EvenGradReferenceIdeal.τ) (Cert.EvenGradReferenceIdeal.main (F := Ideal))) ⟨m, fun _ => 0, g⟩ (fun r => (∀ c : Dev Cert.EvenGradReferenceIdeal.nD,
      r.2.mem ((c.tc : Thread Cert.EvenGradReferenceIdeal.nD Cert.EvenGradReferenceIdeal.τ).loc Cert.EvenGradReferenceIdeal.main_arg0) = m ((c.tc : Thread Cert.EvenGradReferenceIdeal.nD Cert.EvenGradReferenceIdeal.τ).loc Cert.EvenGradReferenceIdeal.main_arg0)
      ∧ r.2.mem ((c.tc : Thread Cert.EvenGradReferenceIdeal.nD Cert.EvenGradReferenceIdeal.τ).loc Cert.EvenGradReferenceIdeal.main_arg1) = m ((c.tc : Thread Cert.EvenGradReferenceIdeal.nD Cert.EvenGradReferenceIdeal.τ).loc Cert.EvenGradReferenceIdeal.main_arg1)
      ∧ r.2.mem ((c.tc : Thread Cert.EvenGradReferenceIdeal.nD Cert.EvenGradReferenceIdeal.τ).loc Cert.EvenGradReferenceIdeal.main_arg2) = m ((c.tc : Thread Cert.EvenGradReferenceIdeal.nD Cert.EvenGradReferenceIdeal.τ).loc Cert.EvenGradReferenceIdeal.main_arg2)
      ∧ r.2.mem ((c.tc : Thread Cert.EvenGradReferenceIdeal.nD Cert.EvenGradReferenceIdeal.τ).loc Cert.EvenGradReferenceIdeal.main_arg3) = m ((c.tc : Thread Cert.EvenGradReferenceIdeal.nD Cert.EvenGradReferenceIdeal.τ).loc Cert.EvenGradReferenceIdeal.main_arg3)
      ∧ r.2.mem ((c.tc : Thread Cert.EvenGradReferenceIdeal.nD Cert.EvenGradReferenceIdeal.τ).loc Cert.EvenGradReferenceIdeal.main_arg4) = m ((c.tc : Thread Cert.EvenGradReferenceIdeal.nD Cert.EvenGradReferenceIdeal.τ).loc Cert.EvenGradReferenceIdeal.main_arg4)
      ∧ r.2.mem ((c.tc : Thread Cert.EvenGradReferenceIdeal.nD Cert.EvenGradReferenceIdeal.τ).loc Cert.EvenGradReferenceIdeal.main_arg5) = m ((c.tc : Thread Cert.EvenGradReferenceIdeal.nD Cert.EvenGradReferenceIdeal.τ).loc Cert.EvenGradReferenceIdeal.main_arg5)
      ∧ r.2.mem ((c.tc : Thread Cert.EvenGradReferenceIdeal.nD Cert.EvenGradReferenceIdeal.τ).loc Cert.EvenGradReferenceIdeal.main_arg6) = m ((c.tc : Thread Cert.EvenGradReferenceIdeal.nD Cert.EvenGradReferenceIdeal.τ).loc Cert.EvenGradReferenceIdeal.main_arg6))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1)
      ∧ r.2.mem ((c.tc : Thread Cert.Enter.nD Cert.Enter.τ).loc Cert.Enter.main_arg2) = m ((c.tc : Thread Cert.Enter.nD Cert.Enter.τ).loc Cert.Enter.main_arg2))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2))
      ∧ r.2.sem = fun _ => 0)

def quiescent_EnterReferenceIdeal [hEnterReferenceIdeal : Cert.EnterReferenceIdeal.Facts] : Prop :=
  ∀ (m : (ℓ : Loc Cert.EnterReferenceIdeal.nD Cert.EnterReferenceIdeal.τ Cert.EnterReferenceIdeal.sig) → Buf (Elt Ideal) ℓ) (g : Dev Cert.EnterReferenceIdeal.nD → PrngReg), Pre_EnterReferenceIdeal m →
    θ_run (Cert.EnterReferenceIdeal.defs (F := Ideal)) (onTc (τ := Cert.EnterReferenceIdeal.τ) (Cert.EnterReferenceIdeal.main (F := Ideal))) ⟨m, fun _ => 0, g⟩ (fun r => (∀ c : Dev Cert.EnterReferenceIdeal.nD,
      r.2.mem ((c.tc : Thread Cert.EnterReferenceIdeal.nD Cert.EnterReferenceIdeal.τ).loc Cert.EnterReferenceIdeal.main_arg0) = m ((c.tc : Thread Cert.EnterReferenceIdeal.nD Cert.EnterReferenceIdeal.τ).loc Cert.EnterReferenceIdeal.main_arg0)
      ∧ r.2.mem ((c.tc : Thread Cert.EnterReferenceIdeal.nD Cert.EnterReferenceIdeal.τ).loc Cert.EnterReferenceIdeal.main_arg1) = m ((c.tc : Thread Cert.EnterReferenceIdeal.nD Cert.EnterReferenceIdeal.τ).loc Cert.EnterReferenceIdeal.main_arg1)
      ∧ r.2.mem ((c.tc : Thread Cert.EnterReferenceIdeal.nD Cert.EnterReferenceIdeal.τ).loc Cert.EnterReferenceIdeal.main_arg2) = m ((c.tc : Thread Cert.EnterReferenceIdeal.nD Cert.EnterReferenceIdeal.τ).loc Cert.EnterReferenceIdeal.main_arg2))
      ∧ r.2.sem = fun _ => 0)

def quiescent_Leave [hLeave : Cert.Leave.Facts] : Prop :=
  ∀ (m : (ℓ : Loc Cert.Leave.nD Cert.Leave.τ Cert.Leave.sig) → Buf (Elt Bits) ℓ) (g : Dev Cert.Leave.nD → PrngReg), Pre_Leave m →
    θ_run (Cert.Leave.defs (F := Bits)) (onTc (τ := Cert.Leave.τ) (Cert.Leave.main (F := Bits))) ⟨m, fun _ => 0, g⟩ (fun r => (∀ c : Dev Cert.Leave.nD,
      r.2.mem ((c.tc : Thread Cert.Leave.nD Cert.Leave.τ).loc Cert.Leave.main_arg0) = m ((c.tc : Thread Cert.Leave.nD Cert.Leave.τ).loc Cert.Leave.main_arg0)
      ∧ r.2.mem ((c.tc : Thread Cert.Leave.nD Cert.Leave.τ).loc Cert.Leave.main_arg1) = m ((c.tc : Thread Cert.Leave.nD Cert.Leave.τ).loc Cert.Leave.main_arg1)
      ∧ r.2.mem ((c.tc : Thread Cert.Leave.nD Cert.Leave.τ).loc Cert.Leave.main_arg2) = m ((c.tc : Thread Cert.Leave.nD Cert.Leave.τ).loc Cert.Leave.main_arg2)
      ∧ r.2.mem ((c.tc : Thread Cert.Leave.nD Cert.Leave.τ).loc Cert.Leave.main_arg3) = m ((c.tc : Thread Cert.Leave.nD Cert.Leave.τ).loc Cert.Leave.main_arg3)
      ∧ r.2.mem ((c.tc : Thread Cert.Leave.nD Cert.Leave.τ).loc Cert.Leave.main_arg4) = m ((c.tc : Thread Cert.Leave.nD Cert.Leave.τ).loc Cert.Leave.main_arg4))
      ∧ r.2.sem = fun _ => 0)

def quiescent_LeaveIdeal [hLeaveIdeal : Cert.LeaveIdeal.Facts] : Prop :=
  ∀ (m : (ℓ : Loc Cert.LeaveIdeal.nD Cert.LeaveIdeal.τ Cert.LeaveIdeal.sig) → Buf (Elt Ideal) ℓ) (g : Dev Cert.LeaveIdeal.nD → PrngReg), Pre_LeaveIdeal m →
    θ_run (Cert.LeaveIdeal.defs (F := Ideal)) (onTc (τ := Cert.LeaveIdeal.τ) (Cert.LeaveIdeal.main (F := Ideal))) ⟨m, fun _ => 0, g⟩ (fun r => (∀ c : Dev Cert.LeaveIdeal.nD,
      r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
      ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
      ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
      ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3)
      ∧ r.2.mem ((c.tc : Thread Cert.LeaveIdeal.nD Cert.LeaveIdeal.τ).loc Cert.LeaveIdeal.main_arg4) = m ((c.tc : Thread Cert.LeaveIdeal.nD Cert.LeaveIdeal.τ).loc Cert.LeaveIdeal.main_arg4))
      ∧ r.2.sem = fun _ => 0)

def quiescent_LeaveIdeal_pre_finite_leave [hLeaveIdeal : Cert.LeaveIdeal.Facts] [hPre_finite_leave : Cert.Pre_finite_leave.Facts] : Prop :=
  ∀ (m : (ℓ : Loc Cert.LeaveIdeal.nD Cert.LeaveIdeal.τ Cert.LeaveIdeal.sig) → Buf (Elt Ideal) ℓ) (g : Dev Cert.LeaveIdeal.nD → PrngReg), Pre_LeaveIdeal_finite_leave m →
    θ_run (Cert.LeaveIdeal.defs (F := Ideal)) (onTc (τ := Cert.LeaveIdeal.τ) (Cert.LeaveIdeal.main (F := Ideal))) ⟨m, fun _ => 0, g⟩ (fun r => (∀ c : Dev Cert.LeaveIdeal.nD,
      r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
      ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
      ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
      ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3)
      ∧ r.2.mem ((c.tc : Thread Cert.LeaveIdeal.nD Cert.LeaveIdeal.τ).loc Cert.LeaveIdeal.main_arg4) = m ((c.tc : Thread Cert.LeaveIdeal.nD Cert.LeaveIdeal.τ).loc Cert.LeaveIdeal.main_arg4))
      ∧ r.2.sem = fun _ => 0)

def quiescent_LeaveReferenceIdeal [hLeaveReferenceIdeal : Cert.LeaveReferenceIdeal.Facts] : Prop :=
  ∀ (m : (ℓ : Loc Cert.LeaveReferenceIdeal.nD Cert.LeaveReferenceIdeal.τ Cert.LeaveReferenceIdeal.sig) → Buf (Elt Ideal) ℓ) (g : Dev Cert.LeaveReferenceIdeal.nD → PrngReg), Pre_LeaveReferenceIdeal m →
    θ_run (Cert.LeaveReferenceIdeal.defs (F := Ideal)) (onTc (τ := Cert.LeaveReferenceIdeal.τ) (Cert.LeaveReferenceIdeal.main (F := Ideal))) ⟨m, fun _ => 0, g⟩ (fun r => (∀ c : Dev Cert.LeaveReferenceIdeal.nD,
      r.2.mem ((c.tc : Thread Cert.LeaveReferenceIdeal.nD Cert.LeaveReferenceIdeal.τ).loc Cert.LeaveReferenceIdeal.main_arg0) = m ((c.tc : Thread Cert.LeaveReferenceIdeal.nD Cert.LeaveReferenceIdeal.τ).loc Cert.LeaveReferenceIdeal.main_arg0)
      ∧ r.2.mem ((c.tc : Thread Cert.LeaveReferenceIdeal.nD Cert.LeaveReferenceIdeal.τ).loc Cert.LeaveReferenceIdeal.main_arg1) = m ((c.tc : Thread Cert.LeaveReferenceIdeal.nD Cert.LeaveReferenceIdeal.τ).loc Cert.LeaveReferenceIdeal.main_arg1)
      ∧ r.2.mem ((c.tc : Thread Cert.LeaveReferenceIdeal.nD Cert.LeaveReferenceIdeal.τ).loc Cert.LeaveReferenceIdeal.main_arg2) = m ((c.tc : Thread Cert.LeaveReferenceIdeal.nD Cert.LeaveReferenceIdeal.τ).loc Cert.LeaveReferenceIdeal.main_arg2)
      ∧ r.2.mem ((c.tc : Thread Cert.LeaveReferenceIdeal.nD Cert.LeaveReferenceIdeal.τ).loc Cert.LeaveReferenceIdeal.main_arg3) = m ((c.tc : Thread Cert.LeaveReferenceIdeal.nD Cert.LeaveReferenceIdeal.τ).loc Cert.LeaveReferenceIdeal.main_arg3)
      ∧ r.2.mem ((c.tc : Thread Cert.LeaveReferenceIdeal.nD Cert.LeaveReferenceIdeal.τ).loc Cert.LeaveReferenceIdeal.main_arg4) = m ((c.tc : Thread Cert.LeaveReferenceIdeal.nD Cert.LeaveReferenceIdeal.τ).loc Cert.LeaveReferenceIdeal.main_arg4))
      ∧ r.2.sem = fun _ => 0)

def quiescent_LeaveReferenceIdeal_pre_finite_leave [hLeaveReferenceIdeal : Cert.LeaveReferenceIdeal.Facts] [hPre_finite_leave : Cert.Pre_finite_leave.Facts] : Prop :=
  ∀ (m : (ℓ : Loc Cert.LeaveReferenceIdeal.nD Cert.LeaveReferenceIdeal.τ Cert.LeaveReferenceIdeal.sig) → Buf (Elt Ideal) ℓ) (g : Dev Cert.LeaveReferenceIdeal.nD → PrngReg), Pre_LeaveReferenceIdeal_finite_leave m →
    θ_run (Cert.LeaveReferenceIdeal.defs (F := Ideal)) (onTc (τ := Cert.LeaveReferenceIdeal.τ) (Cert.LeaveReferenceIdeal.main (F := Ideal))) ⟨m, fun _ => 0, g⟩ (fun r => (∀ c : Dev Cert.LeaveReferenceIdeal.nD,
      r.2.mem ((c.tc : Thread Cert.LeaveReferenceIdeal.nD Cert.LeaveReferenceIdeal.τ).loc Cert.LeaveReferenceIdeal.main_arg0) = m ((c.tc : Thread Cert.LeaveReferenceIdeal.nD Cert.LeaveReferenceIdeal.τ).loc Cert.LeaveReferenceIdeal.main_arg0)
      ∧ r.2.mem ((c.tc : Thread Cert.LeaveReferenceIdeal.nD Cert.LeaveReferenceIdeal.τ).loc Cert.LeaveReferenceIdeal.main_arg1) = m ((c.tc : Thread Cert.LeaveReferenceIdeal.nD Cert.LeaveReferenceIdeal.τ).loc Cert.LeaveReferenceIdeal.main_arg1)
      ∧ r.2.mem ((c.tc : Thread Cert.LeaveReferenceIdeal.nD Cert.LeaveReferenceIdeal.τ).loc Cert.LeaveReferenceIdeal.main_arg2) = m ((c.tc : Thread Cert.LeaveReferenceIdeal.nD Cert.LeaveReferenceIdeal.τ).loc Cert.LeaveReferenceIdeal.main_arg2)
      ∧ r.2.mem ((c.tc : Thread Cert.LeaveReferenceIdeal.nD Cert.LeaveReferenceIdeal.τ).loc Cert.LeaveReferenceIdeal.main_arg3) = m ((c.tc : Thread Cert.LeaveReferenceIdeal.nD Cert.LeaveReferenceIdeal.τ).loc Cert.LeaveReferenceIdeal.main_arg3)
      ∧ r.2.mem ((c.tc : Thread Cert.LeaveReferenceIdeal.nD Cert.LeaveReferenceIdeal.τ).loc Cert.LeaveReferenceIdeal.main_arg4) = m ((c.tc : Thread Cert.LeaveReferenceIdeal.nD Cert.LeaveReferenceIdeal.τ).loc Cert.LeaveReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_PoolReferenceIdeal_pre_finite_pool [hPoolReferenceIdeal : Cert.PoolReferenceIdeal.Facts] [hPre_finite_pool : Cert.Pre_finite_pool.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_pool m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_v460) = v1 c
          ∧ r.2.mem ((c.tc : Thread Cert.ReferenceIdeal.nD Cert.ReferenceIdeal.τ).loc Cert.ReferenceIdeal.main_v451) = v2 c
          ∧ r.2.mem ((c.tc : Thread Cert.ReferenceIdeal.nD Cert.ReferenceIdeal.τ).loc Cert.ReferenceIdeal.main_v176) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)
      ∧ m' ((c.tc : Thread Cert.NormGradReferenceIdeal.nD Cert.NormGradReferenceIdeal.τ).loc Cert.NormGradReferenceIdeal.main_arg5) = m ((c.tc : Thread Cert.NormGradIdeal.nD Cert.NormGradIdeal.τ).loc Cert.NormGradIdeal.main_arg5)
      ∧ m' ((c.tc : Thread Cert.NormGradReferenceIdeal.nD Cert.NormGradReferenceIdeal.τ).loc Cert.NormGradReferenceIdeal.main_arg6) = m ((c.tc : Thread Cert.NormGradIdeal.nD Cert.NormGradIdeal.τ).loc Cert.NormGradIdeal.main_arg6)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v45) = v0 c
          ∧ r.2.mem ((c.tc : Thread Cert.NormGradReferenceIdeal.nD Cert.NormGradReferenceIdeal.τ).loc Cert.NormGradReferenceIdeal.main_v28) = v1 c
          ∧ r.2.mem ((c.tc : Thread Cert.NormGradReferenceIdeal.nD Cert.NormGradReferenceIdeal.τ).loc Cert.NormGradReferenceIdeal.main_v25) = v2 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4)
          ∧ r.2.mem ((c.tc : Thread Cert.NormGradReferenceIdeal.nD Cert.NormGradReferenceIdeal.τ).loc Cert.NormGradReferenceIdeal.main_arg5) = m' ((c.tc : Thread Cert.NormGradReferenceIdeal.nD Cert.NormGradReferenceIdeal.τ).loc Cert.NormGradReferenceIdeal.main_arg5)
          ∧ r.2.mem ((c.tc : Thread Cert.NormGradReferenceIdeal.nD Cert.NormGradReferenceIdeal.τ).loc Cert.NormGradReferenceIdeal.main_arg6) = m' ((c.tc : Thread Cert.NormGradReferenceIdeal.nD Cert.NormGradReferenceIdeal.τ).loc Cert.NormGradReferenceIdeal.main_arg6))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v16) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_GateGrad_GateGradIdeal : Prop :=
  True

def algebraic_GateGradIdeal_GateGradReferenceIdeal_pre_finite_gates [hGateGradIdeal : Cert.GateGradIdeal.Facts] [hGateGradReferenceIdeal : Cert.GateGradReferenceIdeal.Facts] [hPre_finite_gates : Cert.Pre_finite_gates.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal_finite_gates m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)
      ∧ m' ((c.tc : Thread Cert.GateGradReferenceIdeal.nD Cert.GateGradReferenceIdeal.τ).loc Cert.GateGradReferenceIdeal.main_arg3) = m ((c.tc : Thread Cert.GateGradIdeal.nD Cert.GateGradIdeal.τ).loc Cert.GateGradIdeal.main_arg3)
      ∧ m' ((c.tc : Thread Cert.GateGradReferenceIdeal.nD Cert.GateGradReferenceIdeal.τ).loc Cert.GateGradReferenceIdeal.main_arg4) = m ((c.tc : Thread Cert.GateGradIdeal.nD Cert.GateGradIdeal.τ).loc Cert.GateGradIdeal.main_arg4)
      ∧ m' ((c.tc : Thread Cert.GateGradReferenceIdeal.nD Cert.GateGradReferenceIdeal.τ).loc Cert.GateGradReferenceIdeal.main_arg5) = m ((c.tc : Thread Cert.GateGradIdeal.nD Cert.GateGradIdeal.τ).loc Cert.GateGradIdeal.main_arg5)) →
    ∃ (v0 : (c : Dev Cert.GateGradIdeal.nD) → Buf (Elt Ideal) ((c.tc : Thread Cert.GateGradIdeal.nD Cert.GateGradIdeal.τ).loc Cert.GateGradIdeal.main_v26_0)) (v1 : (c : Dev Cert.GateGradIdeal.nD) → Buf (Elt Ideal) ((c.tc : Thread Cert.GateGradIdeal.nD Cert.GateGradIdeal.τ).loc Cert.GateGradIdeal.main_v26_1)) (v2 : (c : Dev Cert.GateGradIdeal.nD) → Buf (Elt Ideal) ((c.tc : Thread Cert.GateGradIdeal.nD Cert.GateGradIdeal.τ).loc Cert.GateGradIdeal.main_v26_2)) (v3 : (c : Dev Cert.GateGradIdeal.nD) → Buf (Elt Ideal) ((c.tc : Thread Cert.GateGradIdeal.nD Cert.GateGradIdeal.τ).loc Cert.GateGradIdeal.main_v26_3)) (v4 : (c : Dev Cert.GateGradIdeal.nD) → Buf (Elt Ideal) ((c.tc : Thread Cert.GateGradIdeal.nD Cert.GateGradIdeal.τ).loc Cert.GateGradIdeal.main_v26_4)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v26_0) = v0 c
          ∧ r.2.mem ((c.tc : Thread Cert.GateGradIdeal.nD Cert.GateGradIdeal.τ).loc Cert.GateGradIdeal.main_v26_1) = v1 c
          ∧ r.2.mem ((c.tc : Thread Cert.GateGradIdeal.nD Cert.GateGradIdeal.τ).loc Cert.GateGradIdeal.main_v26_2) = v2 c
          ∧ r.2.mem ((c.tc : Thread Cert.GateGradIdeal.nD Cert.GateGradIdeal.τ).loc Cert.GateGradIdeal.main_v26_3) = v3 c
          ∧ r.2.mem ((c.tc : Thread Cert.GateGradIdeal.nD Cert.GateGradIdeal.τ).loc Cert.GateGradIdeal.main_v26_4) = v4 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
          ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
          ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v65) = v0 c
          ∧ r.2.mem ((c.tc : Thread Cert.GateGradReferenceIdeal.nD Cert.GateGradReferenceIdeal.τ).loc Cert.GateGradReferenceIdeal.main_v66) = v1 c
          ∧ r.2.mem ((c.tc : Thread Cert.GateGradReferenceIdeal.nD Cert.GateGradReferenceIdeal.τ).loc Cert.GateGradReferenceIdeal.main_v33) = v2 c
          ∧ r.2.mem ((c.tc : Thread Cert.GateGradReferenceIdeal.nD Cert.GateGradReferenceIdeal.τ).loc Cert.GateGradReferenceIdeal.main_v43) = v3 c
          ∧ r.2.mem ((c.tc : Thread Cert.GateGradReferenceIdeal.nD Cert.GateGradReferenceIdeal.τ).loc Cert.GateGradReferenceIdeal.main_v40) = v4 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2)
          ∧ r.2.mem ((c.tc : Thread Cert.GateGradReferenceIdeal.nD Cert.GateGradReferenceIdeal.τ).loc Cert.GateGradReferenceIdeal.main_arg3) = m' ((c.tc : Thread Cert.GateGradReferenceIdeal.nD Cert.GateGradReferenceIdeal.τ).loc Cert.GateGradReferenceIdeal.main_arg3)
          ∧ r.2.mem ((c.tc : Thread Cert.GateGradReferenceIdeal.nD Cert.GateGradReferenceIdeal.τ).loc Cert.GateGradReferenceIdeal.main_arg4) = m' ((c.tc : Thread Cert.GateGradReferenceIdeal.nD Cert.GateGradReferenceIdeal.τ).loc Cert.GateGradReferenceIdeal.main_arg4)
          ∧ r.2.mem ((c.tc : Thread Cert.GateGradReferenceIdeal.nD Cert.GateGradReferenceIdeal.τ).loc Cert.GateGradReferenceIdeal.main_arg5) = m' ((c.tc : Thread Cert.GateGradReferenceIdeal.nD Cert.GateGradReferenceIdeal.τ).loc Cert.GateGradReferenceIdeal.main_arg5))

def preserves_ConvForward_ConvForwardIdeal : Prop :=
  True

def algebraic_ConvForwardIdeal_ConvForwardReferenceIdeal [hConvForwardIdeal : Cert.ConvForwardIdeal.Facts] [hConvForwardReferenceIdeal : Cert.ConvForwardReferenceIdeal.Facts] : Prop :=
  ∀ (m : (ℓ : Loc Cert.ConvForwardIdeal.nD Cert.ConvForwardIdeal.τ Cert.ConvForwardIdeal.sig) → Buf (Elt Ideal) ℓ) (g : Dev Cert.ConvForwardIdeal.nD → PrngReg)
    (m' : (ℓ : Loc Cert.ConvForwardReferenceIdeal.nD Cert.ConvForwardReferenceIdeal.τ Cert.ConvForwardReferenceIdeal.sig) → Buf (Elt Ideal) ℓ) (g' : Dev Cert.ConvForwardReferenceIdeal.nD → PrngReg), Pre_ConvForwardIdeal m →
    (∀ c : Dev Cert.ConvForwardIdeal.nD,
      m' ((c.tc : Thread Cert.ConvForwardReferenceIdeal.nD Cert.ConvForwardReferenceIdeal.τ).loc Cert.ConvForwardReferenceIdeal.main_arg0) = m ((c.tc : Thread Cert.ConvForwardIdeal.nD Cert.ConvForwardIdeal.τ).loc Cert.ConvForwardIdeal.main_arg0)
      ∧ m' ((c.tc : Thread Cert.ConvForwardReferenceIdeal.nD Cert.ConvForwardReferenceIdeal.τ).loc Cert.ConvForwardReferenceIdeal.main_arg1) = m ((c.tc : Thread Cert.ConvForwardIdeal.nD Cert.ConvForwardIdeal.τ).loc Cert.ConvForwardIdeal.main_arg1)
      ∧ m' ((c.tc : Thread Cert.ConvForwardReferenceIdeal.nD Cert.ConvForwardReferenceIdeal.τ).loc Cert.ConvForwardReferenceIdeal.main_arg2) = m ((c.tc : Thread Cert.ConvForwardIdeal.nD Cert.ConvForwardIdeal.τ).loc Cert.ConvForwardIdeal.main_arg2)
      ∧ m' ((c.tc : Thread Cert.ConvForwardReferenceIdeal.nD Cert.ConvForwardReferenceIdeal.τ).loc Cert.ConvForwardReferenceIdeal.main_arg3) = m ((c.tc : Thread Cert.ConvForwardIdeal.nD Cert.ConvForwardIdeal.τ).loc Cert.ConvForwardIdeal.main_arg3)
      ∧ m' ((c.tc : Thread Cert.ConvForwardReferenceIdeal.nD Cert.ConvForwardReferenceIdeal.τ).loc Cert.ConvForwardReferenceIdeal.main_arg4) = m ((c.tc : Thread Cert.ConvForwardIdeal.nD Cert.ConvForwardIdeal.τ).loc Cert.ConvForwardIdeal.main_arg4)) →
    ∃ (v0 : (c : Dev Cert.ConvForwardIdeal.nD) → Buf (Elt Ideal) ((c.tc : Thread Cert.ConvForwardIdeal.nD Cert.ConvForwardIdeal.τ).loc Cert.ConvForwardIdeal.main_v1_0)) (v1 : (c : Dev Cert.ConvForwardIdeal.nD) → Buf (Elt Ideal) ((c.tc : Thread Cert.ConvForwardIdeal.nD Cert.ConvForwardIdeal.τ).loc Cert.ConvForwardIdeal.main_v1_1)),
      θ_run (Cert.ConvForwardIdeal.defs (F := Ideal)) (onTc (τ := Cert.ConvForwardIdeal.τ) (Cert.ConvForwardIdeal.main (F := Ideal))) ⟨m, fun _ => 0, g⟩ (fun r => ∀ c : Dev Cert.ConvForwardIdeal.nD,
          r.2.mem ((c.tc : Thread Cert.ConvForwardIdeal.nD Cert.ConvForwardIdeal.τ).loc Cert.ConvForwardIdeal.main_v1_0) = v0 c
          ∧ r.2.mem ((c.tc : Thread Cert.ConvForwardIdeal.nD Cert.ConvForwardIdeal.τ).loc Cert.ConvForwardIdeal.main_v1_1) = v1 c
          ∧ r.2.mem ((c.tc : Thread Cert.ConvForwardIdeal.nD Cert.ConvForwardIdeal.τ).loc Cert.ConvForwardIdeal.main_arg0) = m ((c.tc : Thread Cert.ConvForwardIdeal.nD Cert.ConvForwardIdeal.τ).loc Cert.ConvForwardIdeal.main_arg0)
          ∧ r.2.mem ((c.tc : Thread Cert.ConvForwardIdeal.nD Cert.ConvForwardIdeal.τ).loc Cert.ConvForwardIdeal.main_arg1) = m ((c.tc : Thread Cert.ConvForwardIdeal.nD Cert.ConvForwardIdeal.τ).loc Cert.ConvForwardIdeal.main_arg1)
          ∧ r.2.mem ((c.tc : Thread Cert.ConvForwardIdeal.nD Cert.ConvForwardIdeal.τ).loc Cert.ConvForwardIdeal.main_arg2) = m ((c.tc : Thread Cert.ConvForwardIdeal.nD Cert.ConvForwardIdeal.τ).loc Cert.ConvForwardIdeal.main_arg2)
          ∧ r.2.mem ((c.tc : Thread Cert.ConvForwardIdeal.nD Cert.ConvForwardIdeal.τ).loc Cert.ConvForwardIdeal.main_arg3) = m ((c.tc : Thread Cert.ConvForwardIdeal.nD Cert.ConvForwardIdeal.τ).loc Cert.ConvForwardIdeal.main_arg3)
          ∧ r.2.mem ((c.tc : Thread Cert.ConvForwardIdeal.nD Cert.ConvForwardIdeal.τ).loc Cert.ConvForwardIdeal.main_arg4) = m ((c.tc : Thread Cert.ConvForwardIdeal.nD Cert.ConvForwardIdeal.τ).loc Cert.ConvForwardIdeal.main_arg4))
      ∧ θ_run (Cert.ConvForwardReferenceIdeal.defs (F := Ideal)) (onTc (τ := Cert.ConvForwardReferenceIdeal.τ) (Cert.ConvForwardReferenceIdeal.main (F := Ideal))) ⟨m', fun _ => 0, g'⟩ (fun r => ∀ c : Dev Cert.ConvForwardReferenceIdeal.nD,
          r.2.mem ((c.tc : Thread Cert.ConvForwardReferenceIdeal.nD Cert.ConvForwardReferenceIdeal.τ).loc Cert.ConvForwardReferenceIdeal.main_v194) = v0 c
          ∧ r.2.mem ((c.tc : Thread Cert.ConvForwardReferenceIdeal.nD Cert.ConvForwardReferenceIdeal.τ).loc Cert.ConvForwardReferenceIdeal.main_v169) = v1 c
          ∧ r.2.mem ((c.tc : Thread Cert.ConvForwardReferenceIdeal.nD Cert.ConvForwardReferenceIdeal.τ).loc Cert.ConvForwardReferenceIdeal.main_arg0) = m' ((c.tc : Thread Cert.ConvForwardReferenceIdeal.nD Cert.ConvForwardReferenceIdeal.τ).loc Cert.ConvForwardReferenceIdeal.main_arg0)
          ∧ r.2.mem ((c.tc : Thread Cert.ConvForwardReferenceIdeal.nD Cert.ConvForwardReferenceIdeal.τ).loc Cert.ConvForwardReferenceIdeal.main_arg1) = m' ((c.tc : Thread Cert.ConvForwardReferenceIdeal.nD Cert.ConvForwardReferenceIdeal.τ).loc Cert.ConvForwardReferenceIdeal.main_arg1)
          ∧ r.2.mem ((c.tc : Thread Cert.ConvForwardReferenceIdeal.nD Cert.ConvForwardReferenceIdeal.τ).loc Cert.ConvForwardReferenceIdeal.main_arg2) = m' ((c.tc : Thread Cert.ConvForwardReferenceIdeal.nD Cert.ConvForwardReferenceIdeal.τ).loc Cert.ConvForwardReferenceIdeal.main_arg2)
          ∧ r.2.mem ((c.tc : Thread Cert.ConvForwardReferenceIdeal.nD Cert.ConvForwardReferenceIdeal.τ).loc Cert.ConvForwardReferenceIdeal.main_arg3) = m' ((c.tc : Thread Cert.ConvForwardReferenceIdeal.nD Cert.ConvForwardReferenceIdeal.τ).loc Cert.ConvForwardReferenceIdeal.main_arg3)
          ∧ r.2.mem ((c.tc : Thread Cert.ConvForwardReferenceIdeal.nD Cert.ConvForwardReferenceIdeal.τ).loc Cert.ConvForwardReferenceIdeal.main_arg4) = m' ((c.tc : Thread Cert.ConvForwardReferenceIdeal.nD Cert.ConvForwardReferenceIdeal.τ).loc Cert.ConvForwardReferenceIdeal.main_arg4))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)
      ∧ m' ((c.tc : Thread Cert.AdamReferenceIdeal.nD Cert.AdamReferenceIdeal.τ).loc Cert.AdamReferenceIdeal.main_arg4) = m ((c.tc : Thread Cert.AdamIdeal.nD Cert.AdamIdeal.τ).loc Cert.AdamIdeal.main_arg4)
      ∧ m' ((c.tc : Thread Cert.AdamReferenceIdeal.nD Cert.AdamReferenceIdeal.τ).loc Cert.AdamReferenceIdeal.main_arg5) = m ((c.tc : Thread Cert.AdamIdeal.nD Cert.AdamIdeal.τ).loc Cert.AdamIdeal.main_arg5)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v7) = v0 c
          ∧ r.2.mem ((c.tc : Thread Cert.AdamReferenceIdeal.nD Cert.AdamReferenceIdeal.τ).loc Cert.AdamReferenceIdeal.main_v31) = v1 c
          ∧ r.2.mem ((c.tc : Thread Cert.AdamReferenceIdeal.nD Cert.AdamReferenceIdeal.τ).loc Cert.AdamReferenceIdeal.main_v12) = v2 c
          ∧ r.2.mem ((c.tc : Thread Cert.AdamReferenceIdeal.nD Cert.AdamReferenceIdeal.τ).loc Cert.AdamReferenceIdeal.main_v18) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5))

def preserves_EvenGrad_EvenGradIdeal : Prop :=
  True

def algebraic_EvenGradIdeal_EvenGradReferenceIdeal [hEvenGradIdeal : Cert.EvenGradIdeal.Facts] [hEvenGradReferenceIdeal : Cert.EvenGradReferenceIdeal.Facts] : Prop :=
  ∀ (m : (ℓ : Loc Cert.EvenGradIdeal.nD Cert.EvenGradIdeal.τ Cert.EvenGradIdeal.sig) → Buf (Elt Ideal) ℓ) (g : Dev Cert.EvenGradIdeal.nD → PrngReg)
    (m' : (ℓ : Loc Cert.EvenGradReferenceIdeal.nD Cert.EvenGradReferenceIdeal.τ Cert.EvenGradReferenceIdeal.sig) → Buf (Elt Ideal) ℓ) (g' : Dev Cert.EvenGradReferenceIdeal.nD → PrngReg), Pre_EvenGradIdeal m →
    (∀ c : Dev Cert.EvenGradIdeal.nD,
      m' ((c.tc : Thread Cert.EvenGradReferenceIdeal.nD Cert.EvenGradReferenceIdeal.τ).loc Cert.EvenGradReferenceIdeal.main_arg0) = m ((c.tc : Thread Cert.EvenGradIdeal.nD Cert.EvenGradIdeal.τ).loc Cert.EvenGradIdeal.main_arg0)
      ∧ m' ((c.tc : Thread Cert.EvenGradReferenceIdeal.nD Cert.EvenGradReferenceIdeal.τ).loc Cert.EvenGradReferenceIdeal.main_arg1) = m ((c.tc : Thread Cert.EvenGradIdeal.nD Cert.EvenGradIdeal.τ).loc Cert.EvenGradIdeal.main_arg1)
      ∧ m' ((c.tc : Thread Cert.EvenGradReferenceIdeal.nD Cert.EvenGradReferenceIdeal.τ).loc Cert.EvenGradReferenceIdeal.main_arg2) = m ((c.tc : Thread Cert.EvenGradIdeal.nD Cert.EvenGradIdeal.τ).loc Cert.EvenGradIdeal.main_arg2)
      ∧ m' ((c.tc : Thread Cert.EvenGradReferenceIdeal.nD Cert.EvenGradReferenceIdeal.τ).loc Cert.EvenGradReferenceIdeal.main_arg3) = m ((c.tc : Thread Cert.EvenGradIdeal.nD Cert.EvenGradIdeal.τ).loc Cert.EvenGradIdeal.main_arg3)
      ∧ m' ((c.tc : Thread Cert.EvenGradReferenceIdeal.nD Cert.EvenGradReferenceIdeal.τ).loc Cert.EvenGradReferenceIdeal.main_arg4) = m ((c.tc : Thread Cert.EvenGradIdeal.nD Cert.EvenGradIdeal.τ).loc Cert.EvenGradIdeal.main_arg4)
      ∧ m' ((c.tc : Thread Cert.EvenGradReferenceIdeal.nD Cert.EvenGradReferenceIdeal.τ).loc Cert.EvenGradReferenceIdeal.main_arg5) = m ((c.tc : Thread Cert.EvenGradIdeal.nD Cert.EvenGradIdeal.τ).loc Cert.EvenGradIdeal.main_arg5)
      ∧ m' ((c.tc : Thread Cert.EvenGradReferenceIdeal.nD Cert.EvenGradReferenceIdeal.τ).loc Cert.EvenGradReferenceIdeal.main_arg6) = m ((c.tc : Thread Cert.EvenGradIdeal.nD Cert.EvenGradIdeal.τ).loc Cert.EvenGradIdeal.main_arg6)) →
    ∃ (v0 : (c : Dev Cert.EvenGradIdeal.nD) → Buf (Elt Ideal) ((c.tc : Thread Cert.EvenGradIdeal.nD Cert.EvenGradIdeal.τ).loc Cert.EvenGradIdeal.main_v0_0)) (v1 : (c : Dev Cert.EvenGradIdeal.nD) → Buf (Elt Ideal) ((c.tc : Thread Cert.EvenGradIdeal.nD Cert.EvenGradIdeal.τ).loc Cert.EvenGradIdeal.main_v0_1)) (v2 : (c : Dev Cert.EvenGradIdeal.nD) → Buf (Elt Ideal) ((c.tc : Thread Cert.EvenGradIdeal.nD Cert.EvenGradIdeal.τ).loc Cert.EvenGradIdeal.main_v0_2)),
      θ_run (Cert.EvenGradIdeal.defs (F := Ideal)) (onTc (τ := Cert.EvenGradIdeal.τ) (Cert.EvenGradIdeal.main (F := Ideal))) ⟨m, fun _ => 0, g⟩ (fun r => ∀ c : Dev Cert.EvenGradIdeal.nD,
          r.2.mem ((c.tc : Thread Cert.EvenGradIdeal.nD Cert.EvenGradIdeal.τ).loc Cert.EvenGradIdeal.main_v0_0) = v0 c
          ∧ r.2.mem ((c.tc : Thread Cert.EvenGradIdeal.nD Cert.EvenGradIdeal.τ).loc Cert.EvenGradIdeal.main_v0_1) = v1 c
          ∧ r.2.mem ((c.tc : Thread Cert.EvenGradIdeal.nD Cert.EvenGradIdeal.τ).loc Cert.EvenGradIdeal.main_v0_2) = v2 c
          ∧ r.2.mem ((c.tc : Thread Cert.EvenGradIdeal.nD Cert.EvenGradIdeal.τ).loc Cert.EvenGradIdeal.main_arg0) = m ((c.tc : Thread Cert.EvenGradIdeal.nD Cert.EvenGradIdeal.τ).loc Cert.EvenGradIdeal.main_arg0)
          ∧ r.2.mem ((c.tc : Thread Cert.EvenGradIdeal.nD Cert.EvenGradIdeal.τ).loc Cert.EvenGradIdeal.main_arg1) = m ((c.tc : Thread Cert.EvenGradIdeal.nD Cert.EvenGradIdeal.τ).loc Cert.EvenGradIdeal.main_arg1)
          ∧ r.2.mem ((c.tc : Thread Cert.EvenGradIdeal.nD Cert.EvenGradIdeal.τ).loc Cert.EvenGradIdeal.main_arg2) = m ((c.tc : Thread Cert.EvenGradIdeal.nD Cert.EvenGradIdeal.τ).loc Cert.EvenGradIdeal.main_arg2)
          ∧ r.2.mem ((c.tc : Thread Cert.EvenGradIdeal.nD Cert.EvenGradIdeal.τ).loc Cert.EvenGradIdeal.main_arg3) = m ((c.tc : Thread Cert.EvenGradIdeal.nD Cert.EvenGradIdeal.τ).loc Cert.EvenGradIdeal.main_arg3)
          ∧ r.2.mem ((c.tc : Thread Cert.EvenGradIdeal.nD Cert.EvenGradIdeal.τ).loc Cert.EvenGradIdeal.main_arg4) = m ((c.tc : Thread Cert.EvenGradIdeal.nD Cert.EvenGradIdeal.τ).loc Cert.EvenGradIdeal.main_arg4)
          ∧ r.2.mem ((c.tc : Thread Cert.EvenGradIdeal.nD Cert.EvenGradIdeal.τ).loc Cert.EvenGradIdeal.main_arg5) = m ((c.tc : Thread Cert.EvenGradIdeal.nD Cert.EvenGradIdeal.τ).loc Cert.EvenGradIdeal.main_arg5)
          ∧ r.2.mem ((c.tc : Thread Cert.EvenGradIdeal.nD Cert.EvenGradIdeal.τ).loc Cert.EvenGradIdeal.main_arg6) = m ((c.tc : Thread Cert.EvenGradIdeal.nD Cert.EvenGradIdeal.τ).loc Cert.EvenGradIdeal.main_arg6))
      ∧ θ_run (Cert.EvenGradReferenceIdeal.defs (F := Ideal)) (onTc (τ := Cert.EvenGradReferenceIdeal.τ) (Cert.EvenGradReferenceIdeal.main (F := Ideal))) ⟨m', fun _ => 0, g'⟩ (fun r => ∀ c : Dev Cert.EvenGradReferenceIdeal.nD,
          r.2.mem ((c.tc : Thread Cert.EvenGradReferenceIdeal.nD Cert.EvenGradReferenceIdeal.τ).loc Cert.EvenGradReferenceIdeal.main_v45) = v0 c
          ∧ r.2.mem ((c.tc : Thread Cert.EvenGradReferenceIdeal.nD Cert.EvenGradReferenceIdeal.τ).loc Cert.EvenGradReferenceIdeal.main_v28) = v1 c
          ∧ r.2.mem ((c.tc : Thread Cert.EvenGradReferenceIdeal.nD Cert.EvenGradReferenceIdeal.τ).loc Cert.EvenGradReferenceIdeal.main_v25) = v2 c
          ∧ r.2.mem ((c.tc : Thread Cert.EvenGradReferenceIdeal.nD Cert.EvenGradReferenceIdeal.τ).loc Cert.EvenGradReferenceIdeal.main_arg0) = m' ((c.tc : Thread Cert.EvenGradReferenceIdeal.nD Cert.EvenGradReferenceIdeal.τ).loc Cert.EvenGradReferenceIdeal.main_arg0)
          ∧ r.2.mem ((c.tc : Thread Cert.EvenGradReferenceIdeal.nD Cert.EvenGradReferenceIdeal.τ).loc Cert.EvenGradReferenceIdeal.main_arg1) = m' ((c.tc : Thread Cert.EvenGradReferenceIdeal.nD Cert.EvenGradReferenceIdeal.τ).loc Cert.EvenGradReferenceIdeal.main_arg1)
          ∧ r.2.mem ((c.tc : Thread Cert.EvenGradReferenceIdeal.nD Cert.EvenGradReferenceIdeal.τ).loc Cert.EvenGradReferenceIdeal.main_arg2) = m' ((c.tc : Thread Cert.EvenGradReferenceIdeal.nD Cert.EvenGradReferenceIdeal.τ).loc Cert.EvenGradReferenceIdeal.main_arg2)
          ∧ r.2.mem ((c.tc : Thread Cert.EvenGradReferenceIdeal.nD Cert.EvenGradReferenceIdeal.τ).loc Cert.EvenGradReferenceIdeal.main_arg3) = m' ((c.tc : Thread Cert.EvenGradReferenceIdeal.nD Cert.EvenGradReferenceIdeal.τ).loc Cert.EvenGradReferenceIdeal.main_arg3)
          ∧ r.2.mem ((c.tc : Thread Cert.EvenGradReferenceIdeal.nD Cert.EvenGradReferenceIdeal.τ).loc Cert.EvenGradReferenceIdeal.main_arg4) = m' ((c.tc : Thread Cert.EvenGradReferenceIdeal.nD Cert.EvenGradReferenceIdeal.τ).loc Cert.EvenGradReferenceIdeal.main_arg4)
          ∧ r.2.mem ((c.tc : Thread Cert.EvenGradReferenceIdeal.nD Cert.EvenGradReferenceIdeal.τ).loc Cert.EvenGradReferenceIdeal.main_arg5) = m' ((c.tc : Thread Cert.EvenGradReferenceIdeal.nD Cert.EvenGradReferenceIdeal.τ).loc Cert.EvenGradReferenceIdeal.main_arg5)
          ∧ r.2.mem ((c.tc : Thread Cert.EvenGradReferenceIdeal.nD Cert.EvenGradReferenceIdeal.τ).loc Cert.EvenGradReferenceIdeal.main_arg6) = m' ((c.tc : Thread Cert.EvenGradReferenceIdeal.nD Cert.EvenGradReferenceIdeal.τ).loc Cert.EvenGradReferenceIdeal.main_arg6))

def preserves_Enter_EnterIdeal : Prop :=
  True

def algebraic_EnterIdeal_EnterReferenceIdeal [hEnterIdeal : Cert.EnterIdeal.Facts] [hEnterReferenceIdeal : Cert.EnterReferenceIdeal.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterReferenceIdeal.nD Cert.EnterReferenceIdeal.τ Cert.EnterReferenceIdeal.sig) → Buf (Elt Ideal) ℓ) (g' : Dev Cert.EnterReferenceIdeal.nD → PrngReg), Pre_EnterIdeal m →
    (∀ c : Dev Cert.EnterIdeal.nD,
      m' ((c.tc : Thread Cert.EnterReferenceIdeal.nD Cert.EnterReferenceIdeal.τ).loc Cert.EnterReferenceIdeal.main_arg0) = m ((c.tc : Thread Cert.EnterIdeal.nD Cert.EnterIdeal.τ).loc Cert.EnterIdeal.main_arg0)
      ∧ m' ((c.tc : Thread Cert.EnterReferenceIdeal.nD Cert.EnterReferenceIdeal.τ).loc Cert.EnterReferenceIdeal.main_arg1) = m ((c.tc : Thread Cert.EnterIdeal.nD Cert.EnterIdeal.τ).loc Cert.EnterIdeal.main_arg1)
      ∧ m' ((c.tc : Thread Cert.EnterReferenceIdeal.nD Cert.EnterReferenceIdeal.τ).loc Cert.EnterReferenceIdeal.main_arg2) = m ((c.tc : Thread Cert.EnterIdeal.nD Cert.EnterIdeal.τ).loc Cert.EnterIdeal.main_arg2)) →
    ∃ (v0 : (c : Dev Cert.EnterIdeal.nD) → Buf (Elt Ideal) ((c.tc : Thread Cert.EnterIdeal.nD Cert.EnterIdeal.τ).loc Cert.EnterIdeal.main_v0)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v0) = v0 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
          ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2))
      ∧ θ_run (Cert.EnterReferenceIdeal.defs (F := Ideal)) (onTc (τ := Cert.EnterReferenceIdeal.τ) (Cert.EnterReferenceIdeal.main (F := Ideal))) ⟨m', fun _ => 0, g'⟩ (fun r => ∀ c : Dev Cert.EnterReferenceIdeal.nD,
          r.2.mem ((c.tc : Thread Cert.EnterReferenceIdeal.nD Cert.EnterReferenceIdeal.τ).loc Cert.EnterReferenceIdeal.main_v16) = v0 c
          ∧ r.2.mem ((c.tc : Thread Cert.EnterReferenceIdeal.nD Cert.EnterReferenceIdeal.τ).loc Cert.EnterReferenceIdeal.main_arg0) = m' ((c.tc : Thread Cert.EnterReferenceIdeal.nD Cert.EnterReferenceIdeal.τ).loc Cert.EnterReferenceIdeal.main_arg0)
          ∧ r.2.mem ((c.tc : Thread Cert.EnterReferenceIdeal.nD Cert.EnterReferenceIdeal.τ).loc Cert.EnterReferenceIdeal.main_arg1) = m' ((c.tc : Thread Cert.EnterReferenceIdeal.nD Cert.EnterReferenceIdeal.τ).loc Cert.EnterReferenceIdeal.main_arg1)
          ∧ r.2.mem ((c.tc : Thread Cert.EnterReferenceIdeal.nD Cert.EnterReferenceIdeal.τ).loc Cert.EnterReferenceIdeal.main_arg2) = m' ((c.tc : Thread Cert.EnterReferenceIdeal.nD Cert.EnterReferenceIdeal.τ).loc Cert.EnterReferenceIdeal.main_arg2))

def preserves_Leave_LeaveIdeal : Prop :=
  True

def algebraic_LeaveIdeal_LeaveReferenceIdeal_pre_finite_leave [hLeaveIdeal : Cert.LeaveIdeal.Facts] [hLeaveReferenceIdeal : Cert.LeaveReferenceIdeal.Facts] [hPre_finite_leave : Cert.Pre_finite_leave.Facts] : Prop :=
  ∀ (m : (ℓ : Loc Cert.LeaveIdeal.nD Cert.LeaveIdeal.τ Cert.LeaveIdeal.sig) → Buf (Elt Ideal) ℓ) (g : Dev Cert.LeaveIdeal.nD → PrngReg)
    (m' : (ℓ : Loc Cert.LeaveReferenceIdeal.nD Cert.LeaveReferenceIdeal.τ Cert.LeaveReferenceIdeal.sig) → Buf (Elt Ideal) ℓ) (g' : Dev Cert.LeaveReferenceIdeal.nD → PrngReg), Pre_LeaveIdeal_finite_leave m →
    (∀ c : Dev Cert.LeaveIdeal.nD,
      m' ((c.tc : Thread Cert.LeaveReferenceIdeal.nD Cert.LeaveReferenceIdeal.τ).loc Cert.LeaveReferenceIdeal.main_arg0) = m ((c.tc : Thread Cert.LeaveIdeal.nD Cert.LeaveIdeal.τ).loc Cert.LeaveIdeal.main_arg0)
      ∧ m' ((c.tc : Thread Cert.LeaveReferenceIdeal.nD Cert.LeaveReferenceIdeal.τ).loc Cert.LeaveReferenceIdeal.main_arg1) = m ((c.tc : Thread Cert.LeaveIdeal.nD Cert.LeaveIdeal.τ).loc Cert.LeaveIdeal.main_arg1)
      ∧ m' ((c.tc : Thread Cert.LeaveReferenceIdeal.nD Cert.LeaveReferenceIdeal.τ).loc Cert.LeaveReferenceIdeal.main_arg2) = m ((c.tc : Thread Cert.LeaveIdeal.nD Cert.LeaveIdeal.τ).loc Cert.LeaveIdeal.main_arg2)
      ∧ m' ((c.tc : Thread Cert.LeaveReferenceIdeal.nD Cert.LeaveReferenceIdeal.τ).loc Cert.LeaveReferenceIdeal.main_arg3) = m ((c.tc : Thread Cert.LeaveIdeal.nD Cert.LeaveIdeal.τ).loc Cert.LeaveIdeal.main_arg3)
      ∧ m' ((c.tc : Thread Cert.LeaveReferenceIdeal.nD Cert.LeaveReferenceIdeal.τ).loc Cert.LeaveReferenceIdeal.main_arg4) = m ((c.tc : Thread Cert.LeaveIdeal.nD Cert.LeaveIdeal.τ).loc Cert.LeaveIdeal.main_arg4)) →
    ∃ (v0 : (c : Dev Cert.LeaveIdeal.nD) → Buf (Elt Ideal) ((c.tc : Thread Cert.LeaveIdeal.nD Cert.LeaveIdeal.τ).loc Cert.LeaveIdeal.main_v6_0)) (v1 : (c : Dev Cert.LeaveIdeal.nD) → Buf (Elt Ideal) ((c.tc : Thread Cert.LeaveIdeal.nD Cert.LeaveIdeal.τ).loc Cert.LeaveIdeal.main_v6_1)) (v2 : (c : Dev Cert.LeaveIdeal.nD) → Buf (Elt Ideal) ((c.tc : Thread Cert.LeaveIdeal.nD Cert.LeaveIdeal.τ).loc Cert.LeaveIdeal.main_v6_2)),
      θ_run (Cert.LeaveIdeal.defs (F := Ideal)) (onTc (τ := Cert.LeaveIdeal.τ) (Cert.LeaveIdeal.main (F := Ideal))) ⟨m, fun _ => 0, g⟩ (fun r => ∀ c : Dev Cert.LeaveIdeal.nD,
          r.2.mem ((c.tc : Thread Cert.LeaveIdeal.nD Cert.LeaveIdeal.τ).loc Cert.LeaveIdeal.main_v6_0) = v0 c
          ∧ r.2.mem ((c.tc : Thread Cert.LeaveIdeal.nD Cert.LeaveIdeal.τ).loc Cert.LeaveIdeal.main_v6_1) = v1 c
          ∧ r.2.mem ((c.tc : Thread Cert.LeaveIdeal.nD Cert.LeaveIdeal.τ).loc Cert.LeaveIdeal.main_v6_2) = v2 c
          ∧ r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
          ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
          ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
          ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3)
          ∧ r.2.mem ((c.tc : Thread Cert.LeaveIdeal.nD Cert.LeaveIdeal.τ).loc Cert.LeaveIdeal.main_arg4) = m ((c.tc : Thread Cert.LeaveIdeal.nD Cert.LeaveIdeal.τ).loc Cert.LeaveIdeal.main_arg4))
      ∧ θ_run (Cert.LeaveReferenceIdeal.defs (F := Ideal)) (onTc (τ := Cert.LeaveReferenceIdeal.τ) (Cert.LeaveReferenceIdeal.main (F := Ideal))) ⟨m', fun _ => 0, g'⟩ (fun r => ∀ c : Dev Cert.LeaveReferenceIdeal.nD,
          r.2.mem ((c.tc : Thread Cert.LeaveReferenceIdeal.nD Cert.LeaveReferenceIdeal.τ).loc Cert.LeaveReferenceIdeal.main_v13) = v0 c
          ∧ r.2.mem ((c.tc : Thread Cert.LeaveReferenceIdeal.nD Cert.LeaveReferenceIdeal.τ).loc Cert.LeaveReferenceIdeal.main_v14) = v1 c
          ∧ r.2.mem ((c.tc : Thread Cert.LeaveReferenceIdeal.nD Cert.LeaveReferenceIdeal.τ).loc Cert.LeaveReferenceIdeal.main_v8) = v2 c
          ∧ r.2.mem ((c.tc : Thread Cert.LeaveReferenceIdeal.nD Cert.LeaveReferenceIdeal.τ).loc Cert.LeaveReferenceIdeal.main_arg0) = m' ((c.tc : Thread Cert.LeaveReferenceIdeal.nD Cert.LeaveReferenceIdeal.τ).loc Cert.LeaveReferenceIdeal.main_arg0)
          ∧ r.2.mem ((c.tc : Thread Cert.LeaveReferenceIdeal.nD Cert.LeaveReferenceIdeal.τ).loc Cert.LeaveReferenceIdeal.main_arg1) = m' ((c.tc : Thread Cert.LeaveReferenceIdeal.nD Cert.LeaveReferenceIdeal.τ).loc Cert.LeaveReferenceIdeal.main_arg1)
          ∧ r.2.mem ((c.tc : Thread Cert.LeaveReferenceIdeal.nD Cert.LeaveReferenceIdeal.τ).loc Cert.LeaveReferenceIdeal.main_arg2) = m' ((c.tc : Thread Cert.LeaveReferenceIdeal.nD Cert.LeaveReferenceIdeal.τ).loc Cert.LeaveReferenceIdeal.main_arg2)
          ∧ r.2.mem ((c.tc : Thread Cert.LeaveReferenceIdeal.nD Cert.LeaveReferenceIdeal.τ).loc Cert.LeaveReferenceIdeal.main_arg3) = m' ((c.tc : Thread Cert.LeaveReferenceIdeal.nD Cert.LeaveReferenceIdeal.τ).loc Cert.LeaveReferenceIdeal.main_arg3)
          ∧ r.2.mem ((c.tc : Thread Cert.LeaveReferenceIdeal.nD Cert.LeaveReferenceIdeal.τ).loc Cert.LeaveReferenceIdeal.main_arg4) = m' ((c.tc : Thread Cert.LeaveReferenceIdeal.nD Cert.LeaveReferenceIdeal.τ).loc Cert.LeaveReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v8) = v0 c
          ∧ r.2.mem ((c.tc : Thread Cert.MergeReferenceIdeal.nD Cert.MergeReferenceIdeal.τ).loc Cert.MergeReferenceIdeal.main_v9) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v26) = v1 c
          ∧ r.2.mem ((c.tc : Thread Cert.LossReferenceIdeal.nD Cert.LossReferenceIdeal.τ).loc Cert.LossReferenceIdeal.main_v36) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_Pool_PoolIdeal : Prop :=
  True

def algebraic_PoolIdeal_PoolReferenceIdeal_pre_finite_pool [hPoolIdeal : Cert.PoolIdeal.Facts] [hPoolReferenceIdeal : Cert.PoolReferenceIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_finite_pool m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v70) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def Claim : Prop :=
  ∃ (hKernel : Cert.Kernel.Facts) (hKernelIdeal : Cert.KernelIdeal.Facts) (hReferenceIdeal : Cert.ReferenceIdeal.Facts) (hNormGrad : Cert.NormGrad.Facts) (hNormGradIdeal : Cert.NormGradIdeal.Facts) (hNormGradReferenceIdeal : Cert.NormGradReferenceIdeal.Facts) (hProject : Cert.Project.Facts) (hProjectIdeal : Cert.ProjectIdeal.Facts) (hProjectReferenceIdeal : Cert.ProjectReferenceIdeal.Facts) (hGateGrad : Cert.GateGrad.Facts) (hGateGradIdeal : Cert.GateGradIdeal.Facts) (hGateGradReferenceIdeal : Cert.GateGradReferenceIdeal.Facts) (hConvForward : Cert.ConvForward.Facts) (hConvForwardIdeal : Cert.ConvForwardIdeal.Facts) (hConvForwardReferenceIdeal : Cert.ConvForwardReferenceIdeal.Facts) (hAdam : Cert.Adam.Facts) (hAdamIdeal : Cert.AdamIdeal.Facts) (hAdamReferenceIdeal : Cert.AdamReferenceIdeal.Facts) (hEvenGrad : Cert.EvenGrad.Facts) (hEvenGradIdeal : Cert.EvenGradIdeal.Facts) (hEvenGradReferenceIdeal : Cert.EvenGradReferenceIdeal.Facts) (hEnter : Cert.Enter.Facts) (hEnterIdeal : Cert.EnterIdeal.Facts) (hEnterReferenceIdeal : Cert.EnterReferenceIdeal.Facts) (hLeave : Cert.Leave.Facts) (hLeaveIdeal : Cert.LeaveIdeal.Facts) (hLeaveReferenceIdeal : Cert.LeaveReferenceIdeal.Facts) (hMerge : Cert.Merge.Facts) (hMergeIdeal : Cert.MergeIdeal.Facts) (hMergeReferenceIdeal : Cert.MergeReferenceIdeal.Facts) (hLoss : Cert.Loss.Facts) (hLossIdeal : Cert.LossIdeal.Facts) (hLossReferenceIdeal : Cert.LossReferenceIdeal.Facts) (hPool : Cert.Pool.Facts) (hPoolIdeal : Cert.PoolIdeal.Facts) (hPoolReferenceIdeal : Cert.PoolReferenceIdeal.Facts) (hPre_finite_gates : Cert.Pre_finite_gates.Facts) (hPre_finite_leave : Cert.Pre_finite_leave.Facts) (hPre_finite_pool : Cert.Pre_finite_pool.Facts),
    quiescent_Kernel (hKernel := hKernel)
    ∧ quiescent_KernelIdeal (hKernelIdeal := hKernelIdeal)
    ∧ quiescent_ReferenceIdeal (hReferenceIdeal := hReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_GateGrad (hGateGrad := hGateGrad)
    ∧ quiescent_GateGradIdeal (hGateGradIdeal := hGateGradIdeal)
    ∧ quiescent_GateGradIdeal_pre_finite_gates (hGateGradIdeal := hGateGradIdeal) (hPre_finite_gates := hPre_finite_gates)
    ∧ quiescent_GateGradReferenceIdeal (hGateGradReferenceIdeal := hGateGradReferenceIdeal)
    ∧ quiescent_GateGradReferenceIdeal_pre_finite_gates (hGateGradReferenceIdeal := hGateGradReferenceIdeal) (hPre_finite_gates := hPre_finite_gates)
    ∧ quiescent_ConvForward (hConvForward := hConvForward)
    ∧ quiescent_ConvForwardIdeal (hConvForwardIdeal := hConvForwardIdeal)
    ∧ quiescent_ConvForwardReferenceIdeal (hConvForwardReferenceIdeal := hConvForwardReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_EvenGrad (hEvenGrad := hEvenGrad)
    ∧ quiescent_EvenGradIdeal (hEvenGradIdeal := hEvenGradIdeal)
    ∧ quiescent_EvenGradReferenceIdeal (hEvenGradReferenceIdeal := hEvenGradReferenceIdeal)
    ∧ quiescent_Enter (hEnter := hEnter)
    ∧ quiescent_EnterIdeal (hEnterIdeal := hEnterIdeal)
    ∧ quiescent_EnterReferenceIdeal (hEnterReferenceIdeal := hEnterReferenceIdeal)
    ∧ quiescent_Leave (hLeave := hLeave)
    ∧ quiescent_LeaveIdeal (hLeaveIdeal := hLeaveIdeal)
    ∧ quiescent_LeaveIdeal_pre_finite_leave (hLeaveIdeal := hLeaveIdeal) (hPre_finite_leave := hPre_finite_leave)
    ∧ quiescent_LeaveReferenceIdeal (hLeaveReferenceIdeal := hLeaveReferenceIdeal)
    ∧ quiescent_LeaveReferenceIdeal_pre_finite_leave (hLeaveReferenceIdeal := hLeaveReferenceIdeal) (hPre_finite_leave := hPre_finite_leave)
    ∧ quiescent_Merge (hMerge := hMerge)
    ∧ quiescent_MergeIdeal (hMergeIdeal := hMergeIdeal)
    ∧ quiescent_MergeReferenceIdeal (hMergeReferenceIdeal := hMergeReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolReferenceIdeal (hPoolReferenceIdeal := hPoolReferenceIdeal)
    ∧ quiescent_PoolReferenceIdeal_pre_finite_pool (hPoolReferenceIdeal := hPoolReferenceIdeal) (hPre_finite_pool := hPre_finite_pool)
    ∧ preserves_Kernel_KernelIdeal
    ∧ algebraic_KernelIdeal_ReferenceIdeal (hKernelIdeal := hKernelIdeal) (hReferenceIdeal := hReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_Project_ProjectIdeal
    ∧ algebraic_ProjectIdeal_ProjectReferenceIdeal (hProjectIdeal := hProjectIdeal) (hProjectReferenceIdeal := hProjectReferenceIdeal)
    ∧ preserves_GateGrad_GateGradIdeal
    ∧ algebraic_GateGradIdeal_GateGradReferenceIdeal_pre_finite_gates (hGateGradIdeal := hGateGradIdeal) (hGateGradReferenceIdeal := hGateGradReferenceIdeal) (hPre_finite_gates := hPre_finite_gates)
    ∧ preserves_ConvForward_ConvForwardIdeal
    ∧ algebraic_ConvForwardIdeal_ConvForwardReferenceIdeal (hConvForwardIdeal := hConvForwardIdeal) (hConvForwardReferenceIdeal := hConvForwardReferenceIdeal)
    ∧ preserves_Adam_AdamIdeal
    ∧ algebraic_AdamIdeal_AdamReferenceIdeal (hAdamIdeal := hAdamIdeal) (hAdamReferenceIdeal := hAdamReferenceIdeal)
    ∧ preserves_EvenGrad_EvenGradIdeal
    ∧ algebraic_EvenGradIdeal_EvenGradReferenceIdeal (hEvenGradIdeal := hEvenGradIdeal) (hEvenGradReferenceIdeal := hEvenGradReferenceIdeal)
    ∧ preserves_Enter_EnterIdeal
    ∧ algebraic_EnterIdeal_EnterReferenceIdeal (hEnterIdeal := hEnterIdeal) (hEnterReferenceIdeal := hEnterReferenceIdeal)
    ∧ preserves_Leave_LeaveIdeal
    ∧ algebraic_LeaveIdeal_LeaveReferenceIdeal_pre_finite_leave (hLeaveIdeal := hLeaveIdeal) (hLeaveReferenceIdeal := hLeaveReferenceIdeal) (hPre_finite_leave := hPre_finite_leave)
    ∧ preserves_Merge_MergeIdeal
    ∧ algebraic_MergeIdeal_MergeReferenceIdeal (hMergeIdeal := hMergeIdeal) (hMergeReferenceIdeal := hMergeReferenceIdeal)
    ∧ preserves_Loss_LossIdeal
    ∧ algebraic_LossIdeal_LossReferenceIdeal (hLossIdeal := hLossIdeal) (hLossReferenceIdeal := hLossReferenceIdeal)
    ∧ preserves_Pool_PoolIdeal
    ∧ algebraic_PoolIdeal_PoolReferenceIdeal_pre_finite_pool (hPoolIdeal := hPoolIdeal) (hPoolReferenceIdeal := hPoolReferenceIdeal) (hPre_finite_pool := hPre_finite_pool)
-- ==== Pre_finite_gates.lean ====
abbrev S8192x1024 : Shape := ⟨2, ![8192, 1024]⟩
abbrev S1024x1024 : Shape := ⟨2, ![1024, 1024]⟩
abbrev S8192x3072 : Shape := ⟨2, ![8192, 3072]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  slices_S8192x3072_S8192x1024_0_2048 : S8192x3072.Slices ![0, 2048] S8192x1024
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S1x1024 .f32 := Host.absf main_arg5
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S8192x1024 .f32) (main_arg1 : FVec F S1024x1024 .bf16) (main_arg2 : FVec F S8192x1024 .f32) (main_arg3 : FVec F S8192x3072 .bf16) (main_arg4 : FVec F S1x1024 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S8192x1024 .bf16 := (extractStridedSlice S8192x1024 ![0, 2048] · slices_S8192x3072_S8192x1024_0_2048) main_arg3
  let main_v11 : FVec F S8192x1024 .f32 := (extf .f32 · bitsLt_bf16_f32) main_v10
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v9 main_v15
  let main_v17 : FVec F S1x1024 .f32 := Host.absf main_arg4
  fn_part1 (F := F) main_arg5 main_v16 main_v17
-- ==== Pre_finite_leave.lean ====
abbrev S8192x1024 : Shape := ⟨2, ![8192, 1024]⟩
abbrev S1024x1024 : Shape := ⟨2, ![1024, 1024]⟩
abbrev S8192x512 : Shape := ⟨2, ![8192, 512]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v14 : IVec S_ 1) (main_v15 : FVec F S8192x512 .f32) (main_v16 : FVec F S8192x512 .f32) : IVec S_ 1 :=
  let main_v17 : IVec S8192x512 1 := cmpf .olt main_v15 main_v16
  let main_c_5 : IVec S_ 1 := constantI S_ 1 1#1
  let main_v18 : IVec S_ 1 := (fun x v => Host.reduce IntOp.andi x v reducesTo_S8192x512_S_d0_1 h_S_) main_v17 main_c_5
  let main_v19 : IVec S_ 1 := andi main_v14 main_v18
  main_v19

def fn {F : FTy → Type} [FloatOps F] (main_arg0 : FVec F S8192x1024 .f32) (main_arg1 : FVec F S1024x1024 .bf16) (main_arg2 : FVec F S8192x512 .f32) (main_arg3 : FVec F S8192x512 .f32) (main_arg4 : FVec F S8192x2048 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S8192x512 .f32 := Host.absf main_arg2
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v9 main_v13
  let main_v15 : FVec F S8192x512 .f32 := Host.absf main_arg3
  let main_cst_4 : FVec F S_ .f32 := constant S_ .f32 0x7F800000#32
  let main_v16 : FVec F S8192x512 .f32 := broadcastInDim S8192x512 ![] bcast_S_S8192x512 main_cst_4
  fn_part1 (F := F) main_v14 main_v15 main_v16
-- ==== Pre_finite_pool.lean ====
abbrev S8192x2048 : Shape := ⟨2, ![8192, 2048]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩

class Facts : Prop where
  slices_S8192x2048_S8192x512_0_0 : S8192x2048.Slices ![0, 0] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x2048 .bf16) (main_arg1 : FVec F S4x128x128 .bf16) (main_arg2 : FVec F S1x512 .f32) : IVec S_ 1 :=
  let main_v0 : FVec F S8192x512 .bf16 := (extractStridedSlice S8192x512 ![0, 0] · slices_S8192x2048_S8192x512_0_0) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  main_v5
-- ==== Kernel.lean ====
abbrev S8192x1024 : Shape := ⟨2, ![8192, 1024]⟩
abbrev S8192x3072 : Shape := ⟨2, ![8192, 3072]⟩
abbrev S31x1024 : Shape := ⟨2, ![31, 1024]⟩
abbrev S1x1024 : Shape := ⟨2, ![1, 1024]⟩
abbrev S32x1024 : Shape := ⟨2, ![32, 1024]⟩
abbrev S256x1024 : Shape := ⟨2, ![256, 1024]⟩
abbrev S288x1024 : Shape := ⟨2, ![288, 1024]⟩
abbrev S7x280x1024 : Shape := ⟨3, ![7, 280, 1024]⟩
abbrev S280x1024 : Shape := ⟨2, ![280, 1024]⟩
abbrev S1x280x1024 : Shape := ⟨3, ![1, 280, 1024]⟩
abbrev S1024 : Shape := ⟨1, ![1024]⟩
abbrev S256x128 : Shape := ⟨2, ![256, 128]⟩
abbrev S1x128 : Shape := ⟨2, ![1, 128]⟩
abbrev S1x256x128 : Shape := ⟨3, ![1, 256, 128]⟩
abbrev S8x128 : Shape := ⟨2, ![8, 128]⟩
abbrev S1x8x128 : Shape := ⟨3, ![1, 8, 128]⟩
abbrev S32x8x1024 : Shape := ⟨3, ![32, 8, 1024]⟩
abbrev S_ : Shape := ⟨0, ![]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S31x1024, .f32⟩
  | .hbm, ⟨3, _⟩ => ⟨S1x1024, .f32⟩
  | .hbm, ⟨4, _⟩ => ⟨S32x1024, .f32⟩
  | .hbm, ⟨5, _⟩ => ⟨S8192x1024, .bf16⟩
  | .hbm, ⟨6, _⟩ => ⟨S8192x1024, .bf16⟩
  | .hbm, ⟨7, _⟩ => ⟨S256x1024, .f32⟩
  | .hbm, ⟨8, _⟩ => ⟨S1x1024, .f32⟩
  | .hbm, ⟨9, _⟩ => ⟨S32x8x1024, .f32⟩
  | .hbm, ⟨10, _⟩ => ⟨S_, .f32⟩
  | .hbm, ⟨11, _⟩ => ⟨S32x1024, .f32⟩
  | .hbm, ⟨12, _⟩ => ⟨S31x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S32x1024, .bf16⟩
  | .local _ .vmem, ⟨9, _⟩ => ⟨S32x1024, .bf16⟩
  | .local _ .vmem, ⟨10, _⟩ => ⟨S32x1024, .bf16⟩
  | .local _ .vmem, ⟨11, _⟩ => ⟨S32x1024, .bf16⟩
  | .local _ .vmem, ⟨12, _⟩ => ⟨S32x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S1x1024, .f32⟩
  | .local _ .vmem, ⟨19, _⟩ => ⟨S288x1024, .f32⟩
  | .local _ .vmem, ⟨20, _⟩ => ⟨S288x1024, .f32⟩
  | .local _ .vmem, ⟨21, _⟩ => ⟨S256x1024, .f32⟩
  | .local _ .vmem, ⟨22, _⟩ => ⟨S7x280x1024, .f32⟩
  | .local _ .vmem, ⟨23, _⟩ => ⟨S7x280x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_94 : BitVec 32 := 0#32
  let c8_i32 : BitVec 32 := 8#32
  let v109 : BitVec 32 := Scalar.addi c0_i32_94 c8_i32
  let c1_i32 : BitVec 32 := 1#32
  ⟨c0_i32_94, v109, c1_i32⟩
def k0_mult1 (k0_t1 : Fin k0_t1_loop.trips) : BitVec 32 :=
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  v122
def k0_off1 (k0_t1 : Fin k0_t1_loop.trips) : Fin 2 → Nat :=
  let c0_108 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v125 : Index := Scalar.indexCast v123
  ![0, v125.toNat]
def k0_off2 (k0_t1 : Fin k0_t1_loop.trips) : Fin 3 → Nat :=
  let c5_109 : Index := 5#32
  let c24 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v128 : Index := Scalar.indexCast v123
  ![5, 24, v128.toNat]
def k0_off3 (k0_t1 : Fin k0_t1_loop.trips) : Fin 2 → Nat :=
  let c1_110 : Index := 1#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v134 : Index := Scalar.indexCast v123
  ![1, v134.toNat]
def k0_off4 (k0_t1 : Fin k0_t1_loop.trips) : Fin 3 → Nat :=
  let c4_111 : Index := 4#32
  let c24_112 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v137 : Index := Scalar.indexCast v123
  ![4, 24, v137.toNat]
def k0_off5 (k0_t1 : Fin k0_t1_loop.trips) : Fin 2 → Nat :=
  let c2_113 : Index := 2#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v143 : Index := Scalar.indexCast v123
  ![2, v143.toNat]
def k0_off6 (k0_t1 : Fin k0_t1_loop.trips) : Fin 3 → Nat :=
  let c3_114 : Index := 3#32
  let c24_115 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v146 : Index := Scalar.indexCast v123
  ![3, 24, v146.toNat]
def k0_off7 (k0_t1 : Fin k0_t1_loop.trips) : Fin 2 → Nat :=
  let c3_116 : Index := 3#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v152 : Index := Scalar.indexCast v123
  ![3, v152.toNat]
def k0_off8 (k0_t1 : Fin k0_t1_loop.trips) : Fin 3 → Nat :=
  let c2_117 : Index := 2#32
  let c24_118 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v155 : Index := Scalar.indexCast v123
  ![2, 24, v155.toNat]
def k0_off9 (k0_t1 : Fin k0_t1_loop.trips) : Fin 2 → Nat :=
  let c4_119 : Index := 4#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v161 : Index := Scalar.indexCast v123
  ![4, v161.toNat]
def k0_off10 (k0_t1 : Fin k0_t1_loop.trips) : Fin 3 → Nat :=
  let c1_120 : Index := 1#32
  let c24_121 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v164 : Index := Scalar.indexCast v123
  ![1, 24, v164.toNat]
def k0_off11 (k0_t1 : Fin k0_t1_loop.trips) : Fin 2 → Nat :=
  let c5_122 : Index := 5#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v170 : Index := Scalar.indexCast v123
  ![5, v170.toNat]
def k0_off12 (k0_t1 : Fin k0_t1_loop.trips) : Fin 3 → Nat :=
  let c0_123 : Index := 0#32
  let c24_124 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v173 : Index := Scalar.indexCast v123
  ![0, 24, v173.toNat]
def k0_off13 (k0_t1 : Fin k0_t1_loop.trips) : Fin 2 → Nat :=
  let c6_125 : Index := 6#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v179 : Index := Scalar.indexCast v123
  ![6, v179.toNat]
def k0_off14 (k0_t1 : Fin k0_t1_loop.trips) : Fin 2 → Nat :=
  let c24_126 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v182 : Index := Scalar.indexCast v123
  ![24, v182.toNat]
def k0_off15 (k0_t1 : Fin k0_t1_loop.trips) : Fin 2 → Nat :=
  let c7_127 : Index := 7#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v187 : Index := Scalar.indexCast v123
  ![7, v187.toNat]
def k0_off16 (k0_t1 : Fin k0_t1_loop.trips) : Fin 3 → Nat :=
  let c6_128 : Index := 6#32
  let c16 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v190 : Index := Scalar.indexCast v123
  ![6, 16, v190.toNat]
def k0_off17 (k0_t1 : Fin k0_t1_loop.trips) : Fin 2 → Nat :=
  let c8 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v196 : Index := Scalar.indexCast v123
  ![8, v196.toNat]
def k0_off18 (k0_t1 : Fin k0_t1_loop.trips) : Fin 3 → Nat :=
  let c5_129 : Index := 5#32
  let c16_130 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v199 : Index := Scalar.indexCast v123
  ![5, 16, v199.toNat]
def k0_off19 (k0_t1 : Fin k0_t1_loop.trips) : Fin 2 → Nat :=
  let c9 : Index := 9#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v205 : Index := Scalar.indexCast v123
  ![9, v205.toNat]
def k0_off20 (k0_t1 : Fin k0_t1_loop.trips) : Fin 3 → Nat :=
  let c4_131 : Index := 4#32
  let c16_132 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v208 : Index := Scalar.indexCast v123
  ![4, 16, v208.toNat]
def k0_off21 (k0_t1 : Fin k0_t1_loop.trips) : Fin 2 → Nat :=
  let c10 : Index := 10#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v214 : Index := Scalar.indexCast v123
  ![10, v214.toNat]
def k0_off22 (k0_t1 : Fin k0_t1_loop.trips) : Fin 3 → Nat :=
  let c3_133 : Index := 3#32
  let c16_134 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v217 : Index := Scalar.indexCast v123
  ![3, 16, v217.toNat]
def k0_off23 (k0_t1 : Fin k0_t1_loop.trips) : Fin 2 → Nat :=
  let c11 : Index := 11#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v223 : Index := Scalar.indexCast v123
  ![11, v223.toNat]
def k0_off24 (k0_t1 : Fin k0_t1_loop.trips) : Fin 3 → Nat :=
  let c2_135 : Index := 2#32
  let c16_136 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v226 : Index := Scalar.indexCast v123
  ![2, 16, v226.toNat]
def k0_off25 (k0_t1 : Fin k0_t1_loop.trips) : Fin 2 → Nat :=
  let c12 : Index := 12#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v232 : Index := Scalar.indexCast v123
  ![12, v232.toNat]
def k0_off26 (k0_t1 : Fin k0_t1_loop.trips) : Fin 3 → Nat :=
  let c1_137 : Index := 1#32
  let c16_138 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v235 : Index := Scalar.indexCast v123
  ![1, 16, v235.toNat]
def k0_off27 (k0_t1 : Fin k0_t1_loop.trips) : Fin 2 → Nat :=
  let c13 : Index := 13#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v241 : Index := Scalar.indexCast v123
  ![13, v241.toNat]
def k0_off28 (k0_t1 : Fin k0_t1_loop.trips) : Fin 3 → Nat :=
  let c0_139 : Index := 0#32
  let c16_140 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v244 : Index := Scalar.indexCast v123
  ![0, 16, v244.toNat]
def k0_off29 (k0_t1 : Fin k0_t1_loop.trips) : Fin 2 → Nat :=
  let c14 : Index := 14#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v250 : Index := Scalar.indexCast v123
  ![14, v250.toNat]
def k0_off30 (k0_t1 : Fin k0_t1_loop.trips) : Fin 2 → Nat :=
  let c16_141 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v253 : Index := Scalar.indexCast v123
  ![16, v253.toNat]
def k0_off31 (k0_t1 : Fin k0_t1_loop.trips) : Fin 2 → Nat :=
  let c15 : Index := 15#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v258 : Index := Scalar.indexCast v123
  ![15, v258.toNat]
def k0_off32 (k0_t1 : Fin k0_t1_loop.trips) : Fin 3 → Nat :=
  let c6_142 : Index := 6#32
  let c8_143 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v261 : Index := Scalar.indexCast v123
  ![6, 8, v261.toNat]
def k0_off33 (k0_t1 : Fin k0_t1_loop.trips) : Fin 2 → Nat :=
  let c16_144 : Index := 16#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v267 : Index := Scalar.indexCast v123
  ![16, v267.toNat]
def k0_off34 (k0_t1 : Fin k0_t1_loop.trips) : Fin 3 → Nat :=
  let c5_145 : Index := 5#32
  let c8_146 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v270 : Index := Scalar.indexCast v123
  ![5, 8, v270.toNat]
def k0_off35 (k0_t1 : Fin k0_t1_loop.trips) : Fin 2 → Nat :=
  let c17 : Index := 17#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v276 : Index := Scalar.indexCast v123
  ![17, v276.toNat]
def k0_off36 (k0_t1 : Fin k0_t1_loop.trips) : Fin 3 → Nat :=
  let c4_147 : Index := 4#32
  let c8_148 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v279 : Index := Scalar.indexCast v123
  ![4, 8, v279.toNat]
def k0_off37 (k0_t1 : Fin k0_t1_loop.trips) : Fin 2 → Nat :=
  let c18 : Index := 18#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v285 : Index := Scalar.indexCast v123
  ![18, v285.toNat]
def k0_off38 (k0_t1 : Fin k0_t1_loop.trips) : Fin 3 → Nat :=
  let c3_149 : Index := 3#32
  let c8_150 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v288 : Index := Scalar.indexCast v123
  ![3, 8, v288.toNat]
def k0_off39 (k0_t1 : Fin k0_t1_loop.trips) : Fin 2 → Nat :=
  let c19 : Index := 19#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v294 : Index := Scalar.indexCast v123
  ![19, v294.toNat]
def k0_off40 (k0_t1 : Fin k0_t1_loop.trips) : Fin 3 → Nat :=
  let c2_151 : Index := 2#32
  let c8_152 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v297 : Index := Scalar.indexCast v123
  ![2, 8, v297.toNat]
def k0_off41 (k0_t1 : Fin k0_t1_loop.trips) : Fin 2 → Nat :=
  let c20 : Index := 20#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v303 : Index := Scalar.indexCast v123
  ![20, v303.toNat]
def k0_off42 (k0_t1 : Fin k0_t1_loop.trips) : Fin 3 → Nat :=
  let c1_153 : Index := 1#32
  let c8_154 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v306 : Index := Scalar.indexCast v123
  ![1, 8, v306.toNat]
def k0_off43 (k0_t1 : Fin k0_t1_loop.trips) : Fin 2 → Nat :=
  let c21 : Index := 21#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v312 : Index := Scalar.indexCast v123
  ![21, v312.toNat]
def k0_off44 (k0_t1 : Fin k0_t1_loop.trips) : Fin 3 → Nat :=
  let c0_155 : Index := 0#32
  let c8_156 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v315 : Index := Scalar.indexCast v123
  ![0, 8, v315.toNat]
def k0_off45 (k0_t1 : Fin k0_t1_loop.trips) : Fin 2 → Nat :=
  let c22 : Index := 22#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v321 : Index := Scalar.indexCast v123
  ![22, v321.toNat]
def k0_off46 (k0_t1 : Fin k0_t1_loop.trips) : Fin 2 → Nat :=
  let c8_157 : Index := 8#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v324 : Index := Scalar.indexCast v123
  ![8, v324.toNat]
def k0_off47 (k0_t1 : Fin k0_t1_loop.trips) : Fin 2 → Nat :=
  let c23 : Index := 23#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v329 : Index := Scalar.indexCast v123
  ![23, v329.toNat]
def k0_off48 (k0_t1 : Fin k0_t1_loop.trips) : Fin 3 → Nat :=
  let c6_158 : Index := 6#32
  let c0_159 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v332 : Index := Scalar.indexCast v123
  ![6, 0, v332.toNat]
def k0_off49 (k0_t1 : Fin k0_t1_loop.trips) : Fin 2 → Nat :=
  let c24_160 : Index := 24#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v338 : Index := Scalar.indexCast v123
  ![24, v338.toNat]
def k0_off50 (k0_t1 : Fin k0_t1_loop.trips) : Fin 3 → Nat :=
  let c5_161 : Index := 5#32
  let c0_162 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v341 : Index := Scalar.indexCast v123
  ![5, 0, v341.toNat]
def k0_off51 (k0_t1 : Fin k0_t1_loop.trips) : Fin 2 → Nat :=
  let c25 : Index := 25#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v347 : Index := Scalar.indexCast v123
  ![25, v347.toNat]
def k0_off52 (k0_t1 : Fin k0_t1_loop.trips) : Fin 3 → Nat :=
  let c4_163 : Index := 4#32
  let c0_164 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v350 : Index := Scalar.indexCast v123
  ![4, 0, v350.toNat]
def k0_off53 (k0_t1 : Fin k0_t1_loop.trips) : Fin 2 → Nat :=
  let c26 : Index := 26#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v356 : Index := Scalar.indexCast v123
  ![26, v356.toNat]
def k0_off54 (k0_t1 : Fin k0_t1_loop.trips) : Fin 3 → Nat :=
  let c3_165 : Index := 3#32
  let c0_166 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v359 : Index := Scalar.indexCast v123
  ![3, 0, v359.toNat]
def k0_off55 (k0_t1 : Fin k0_t1_loop.trips) : Fin 2 → Nat :=
  let c27 : Index := 27#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v365 : Index := Scalar.indexCast v123
  ![27, v365.toNat]
def k0_off56 (k0_t1 : Fin k0_t1_loop.trips) : Fin 3 → Nat :=
  let c2_167 : Index := 2#32
  let c0_168 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v368 : Index := Scalar.indexCast v123
  ![2, 0, v368.toNat]
def k0_off57 (k0_t1 : Fin k0_t1_loop.trips) : Fin 2 → Nat :=
  let c28 : Index := 28#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v374 : Index := Scalar.indexCast v123
  ![28, v374.toNat]
def k0_off58 (k0_t1 : Fin k0_t1_loop.trips) : Fin 3 → Nat :=
  let c1_169 : Index := 1#32
  let c0_170 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v377 : Index := Scalar.indexCast v123
  ![1, 0, v377.toNat]
def k0_off59 (k0_t1 : Fin k0_t1_loop.trips) : Fin 2 → Nat :=
  let c29 : Index := 29#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v383 : Index := Scalar.indexCast v123
  ![29, v383.toNat]
def k0_off60 (k0_t1 : Fin k0_t1_loop.trips) : Fin 3 → Nat :=
  let c0_171 : Index := 0#32
  let c0_172 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v386 : Index := Scalar.indexCast v123
  ![0, 0, v386.toNat]
def k0_off61 (k0_t1 : Fin k0_t1_loop.trips) : Fin 2 → Nat :=
  let c30 : Index := 30#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v392 : Index := Scalar.indexCast v123
  ![30, v392.toNat]
def k0_off62 (k0_t1 : Fin k0_t1_loop.trips) : Fin 2 → Nat :=
  let c0_173 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v395 : Index := Scalar.indexCast v123
  ![0, v395.toNat]
def k0_off63 (k0_t1 : Fin k0_t1_loop.trips) : Fin 2 → Nat :=
  let c0_174 : Index := 0#32
  let c0_i32_94 : BitVec 32 := 0#32
  let c1_i32 : BitVec 32 := 1#32
  let arg17 : BitVec 32 := Scf.iv c0_i32_94 c1_i32 k0_t1
  let c128_i32 : BitVec 32 := 128#32
  let v122 : BitVec 32 := Scalar.muli arg17 c128_i32
  let v123 : BitVec 32 := v122
  let v400 : Index := Scalar.indexCast v123
  ![0, v400.toNat]
@[reducible] def k0_t2_loop : Scf.Loop 32 :=
  let c0_i32_96 : BitVec 32 := 0#32
  let c8_i32_97 : BitVec 32 := 8#32
  let v110 : BitVec 32 := Scalar.addi c0_i32_96 c8_i32_97
  let c1_i32_98 : BitVec 32 := 1#32
  ⟨c0_i32_96, v110, c1_i32_98⟩
def k0_mult2 (k0_t2 : Fin k0_t2_loop.trips) : BitVec 32 :=
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  v122
def k0_off64 (k0_t2 : Fin k0_t2_loop.trips) : Fin 2 → Nat :=
  let c0_107 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v124 : Index := Scalar.indexCast v123
  ![0, v124.toNat]
def k0_off65 (k0_t2 : Fin k0_t2_loop.trips) : Fin 2 → Nat :=
  let c8 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v126 : Index := Scalar.indexCast v123
  ![8, v126.toNat]
def k0_off66 (k0_t2 : Fin k0_t2_loop.trips) : Fin 2 → Nat :=
  let c16 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v128 : Index := Scalar.indexCast v123
  ![16, v128.toNat]
def k0_off67 (k0_t2 : Fin k0_t2_loop.trips) : Fin 2 → Nat :=
  let c24 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v130 : Index := Scalar.indexCast v123
  ![24, v130.toNat]
def k0_off68 (k0_t2 : Fin k0_t2_loop.trips) : Fin 2 → Nat :=
  let c32_108 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v132 : Index := Scalar.indexCast v123
  ![32, v132.toNat]
def k0_off69 (k0_t2 : Fin k0_t2_loop.trips) : Fin 2 → Nat :=
  let c40 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v134 : Index := Scalar.indexCast v123
  ![40, v134.toNat]
def k0_off70 (k0_t2 : Fin k0_t2_loop.trips) : Fin 2 → Nat :=
  let c48 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v136 : Index := Scalar.indexCast v123
  ![48, v136.toNat]
def k0_off71 (k0_t2 : Fin k0_t2_loop.trips) : Fin 2 → Nat :=
  let c56 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v138 : Index := Scalar.indexCast v123
  ![56, v138.toNat]
def k0_off72 (k0_t2 : Fin k0_t2_loop.trips) : Fin 2 → Nat :=
  let c64 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v140 : Index := Scalar.indexCast v123
  ![64, v140.toNat]
def k0_off73 (k0_t2 : Fin k0_t2_loop.trips) : Fin 2 → Nat :=
  let c72 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v142 : Index := Scalar.indexCast v123
  ![72, v142.toNat]
def k0_off74 (k0_t2 : Fin k0_t2_loop.trips) : Fin 2 → Nat :=
  let c80 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v144 : Index := Scalar.indexCast v123
  ![80, v144.toNat]
def k0_off75 (k0_t2 : Fin k0_t2_loop.trips) : Fin 2 → Nat :=
  let c88 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v146 : Index := Scalar.indexCast v123
  ![88, v146.toNat]
def k0_off76 (k0_t2 : Fin k0_t2_loop.trips) : Fin 2 → Nat :=
  let c96 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v148 : Index := Scalar.indexCast v123
  ![96, v148.toNat]
def k0_off77 (k0_t2 : Fin k0_t2_loop.trips) : Fin 2 → Nat :=
  let c104 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v150 : Index := Scalar.indexCast v123
  ![104, v150.toNat]
def k0_off78 (k0_t2 : Fin k0_t2_loop.trips) : Fin 2 → Nat :=
  let c112 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v152 : Index := Scalar.indexCast v123
  ![112, v152.toNat]
def k0_off79 (k0_t2 : Fin k0_t2_loop.trips) : Fin 2 → Nat :=
  let c120 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v154 : Index := Scalar.indexCast v123
  ![120, v154.toNat]
def k0_off80 (k0_t2 : Fin k0_t2_loop.trips) : Fin 2 → Nat :=
  let c128 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v156 : Index := Scalar.indexCast v123
  ![128, v156.toNat]
def k0_off81 (k0_t2 : Fin k0_t2_loop.trips) : Fin 2 → Nat :=
  let c136 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v158 : Index := Scalar.indexCast v123
  ![136, v158.toNat]
def k0_off82 (k0_t2 : Fin k0_t2_loop.trips) : Fin 2 → Nat :=
  let c144 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v160 : Index := Scalar.indexCast v123
  ![144, v160.toNat]
def k0_off83 (k0_t2 : Fin k0_t2_loop.trips) : Fin 2 → Nat :=
  let c152 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v162 : Index := Scalar.indexCast v123
  ![152, v162.toNat]
def k0_off84 (k0_t2 : Fin k0_t2_loop.trips) : Fin 2 → Nat :=
  let c160 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v164 : Index := Scalar.indexCast v123
  ![160, v164.toNat]
def k0_off85 (k0_t2 : Fin k0_t2_loop.trips) : Fin 2 → Nat :=
  let c168 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v166 : Index := Scalar.indexCast v123
  ![168, v166.toNat]
def k0_off86 (k0_t2 : Fin k0_t2_loop.trips) : Fin 2 → Nat :=
  let c176 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v168 : Index := Scalar.indexCast v123
  ![176, v168.toNat]
def k0_off87 (k0_t2 : Fin k0_t2_loop.trips) : Fin 2 → Nat :=
  let c184 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v170 : Index := Scalar.indexCast v123
  ![184, v170.toNat]
def k0_off88 (k0_t2 : Fin k0_t2_loop.trips) : Fin 2 → Nat :=
  let c192 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v172 : Index := Scalar.indexCast v123
  ![192, v172.toNat]
def k0_off89 (k0_t2 : Fin k0_t2_loop.trips) : Fin 2 → Nat :=
  let c200 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v174 : Index := Scalar.indexCast v123
  ![200, v174.toNat]
def k0_off90 (k0_t2 : Fin k0_t2_loop.trips) : Fin 2 → Nat :=
  let c208 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v176 : Index := Scalar.indexCast v123
  ![208, v176.toNat]
def k0_off91 (k0_t2 : Fin k0_t2_loop.trips) : Fin 2 → Nat :=
  let c216 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v178 : Index := Scalar.indexCast v123
  ![216, v178.toNat]
def k0_off92 (k0_t2 : Fin k0_t2_loop.trips) : Fin 2 → Nat :=
  let c224 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v180 : Index := Scalar.indexCast v123
  ![224, v180.toNat]
def k0_off93 (k0_t2 : Fin k0_t2_loop.trips) : Fin 2 → Nat :=
  let c232 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v182 : Index := Scalar.indexCast v123
  ![232, v182.toNat]
def k0_off94 (k0_t2 : Fin k0_t2_loop.trips) : Fin 2 → Nat :=
  let c240 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v184 : Index := Scalar.indexCast v123
  ![240, v184.toNat]
def k0_off95 (k0_t2 : Fin k0_t2_loop.trips) : Fin 2 → Nat :=
  let c248 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v186 : Index := Scalar.indexCast v123
  ![248, v186.toNat]
def k0_off96 (k0_t2 : Fin k0_t2_loop.trips) : Fin 2 → Nat :=
  let c8_109 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v188 : Index := Scalar.indexCast v123
  ![8, v188.toNat]
def k0_off97 (k0_t2 : Fin k0_t2_loop.trips) : Fin 2 → Nat :=
  let c16_110 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v191 : Index := Scalar.indexCast v123
  ![16, v191.toNat]
def k0_off98 (k0_t2 : Fin k0_t2_loop.trips) : Fin 2 → Nat :=
  let c24_111 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v196 : Index := Scalar.indexCast v123
  ![24, v196.toNat]
def k0_off99 (k0_t2 : Fin k0_t2_loop.trips) : Fin 2 → Nat :=
  let c32_112 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v203 : Index := Scalar.indexCast v123
  ![32, v203.toNat]
def k0_off100 (k0_t2 : Fin k0_t2_loop.trips) : Fin 2 → Nat :=
  let c40_113 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v212 : Index := Scalar.indexCast v123
  ![40, v212.toNat]
def k0_off101 (k0_t2 : Fin k0_t2_loop.trips) : Fin 2 → Nat :=
  let c48_114 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v222 : Index := Scalar.indexCast v123
  ![48, v222.toNat]
def k0_off102 (k0_t2 : Fin k0_t2_loop.trips) : Fin 2 → Nat :=
  let c56_115 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v232 : Index := Scalar.indexCast v123
  ![56, v232.toNat]
def k0_off103 (k0_t2 : Fin k0_t2_loop.trips) : Fin 2 → Nat :=
  let c64_116 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v242 : Index := Scalar.indexCast v123
  ![64, v242.toNat]
def k0_off104 (k0_t2 : Fin k0_t2_loop.trips) : Fin 2 → Nat :=
  let c72_117 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v252 : Index := Scalar.indexCast v123
  ![72, v252.toNat]
def k0_off105 (k0_t2 : Fin k0_t2_loop.trips) : Fin 2 → Nat :=
  let c80_118 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v262 : Index := Scalar.indexCast v123
  ![80, v262.toNat]
def k0_off106 (k0_t2 : Fin k0_t2_loop.trips) : Fin 2 → Nat :=
  let c88_119 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v272 : Index := Scalar.indexCast v123
  ![88, v272.toNat]
def k0_off107 (k0_t2 : Fin k0_t2_loop.trips) : Fin 2 → Nat :=
  let c96_120 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v282 : Index := Scalar.indexCast v123
  ![96, v282.toNat]
def k0_off108 (k0_t2 : Fin k0_t2_loop.trips) : Fin 2 → Nat :=
  let c104_121 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v292 : Index := Scalar.indexCast v123
  ![104, v292.toNat]
def k0_off109 (k0_t2 : Fin k0_t2_loop.trips) : Fin 2 → Nat :=
  let c112_122 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v302 : Index := Scalar.indexCast v123
  ![112, v302.toNat]
def k0_off110 (k0_t2 : Fin k0_t2_loop.trips) : Fin 2 → Nat :=
  let c120_123 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v312 : Index := Scalar.indexCast v123
  ![120, v312.toNat]
def k0_off111 (k0_t2 : Fin k0_t2_loop.trips) : Fin 2 → Nat :=
  let c128_124 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v322 : Index := Scalar.indexCast v123
  ![128, v322.toNat]
def k0_off112 (k0_t2 : Fin k0_t2_loop.trips) : Fin 2 → Nat :=
  let c136_125 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v332 : Index := Scalar.indexCast v123
  ![136, v332.toNat]
def k0_off113 (k0_t2 : Fin k0_t2_loop.trips) : Fin 2 → Nat :=
  let c144_126 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v342 : Index := Scalar.indexCast v123
  ![144, v342.toNat]
def k0_off114 (k0_t2 : Fin k0_t2_loop.trips) : Fin 2 → Nat :=
  let c152_127 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v352 : Index := Scalar.indexCast v123
  ![152, v352.toNat]
def k0_off115 (k0_t2 : Fin k0_t2_loop.trips) : Fin 2 → Nat :=
  let c160_128 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v362 : Index := Scalar.indexCast v123
  ![160, v362.toNat]
def k0_off116 (k0_t2 : Fin k0_t2_loop.trips) : Fin 2 → Nat :=
  let c168_129 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v372 : Index := Scalar.indexCast v123
  ![168, v372.toNat]
def k0_off117 (k0_t2 : Fin k0_t2_loop.trips) : Fin 2 → Nat :=
  let c176_130 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v382 : Index := Scalar.indexCast v123
  ![176, v382.toNat]
def k0_off118 (k0_t2 : Fin k0_t2_loop.trips) : Fin 2 → Nat :=
  let c184_131 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v392 : Index := Scalar.indexCast v123
  ![184, v392.toNat]
def k0_off119 (k0_t2 : Fin k0_t2_loop.trips) : Fin 2 → Nat :=
  let c192_132 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v402 : Index := Scalar.indexCast v123
  ![192, v402.toNat]
def k0_off120 (k0_t2 : Fin k0_t2_loop.trips) : Fin 2 → Nat :=
  let c200_133 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v412 : Index := Scalar.indexCast v123
  ![200, v412.toNat]
def k0_off121 (k0_t2 : Fin k0_t2_loop.trips) : Fin 2 → Nat :=
  let c208_134 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v422 : Index := Scalar.indexCast v123
  ![208, v422.toNat]
def k0_off122 (k0_t2 : Fin k0_t2_loop.trips) : Fin 2 → Nat :=
  let c216_135 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v432 : Index := Scalar.indexCast v123
  ![216, v432.toNat]
def k0_off123 (k0_t2 : Fin k0_t2_loop.trips) : Fin 2 → Nat :=
  let c224_136 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v442 : Index := Scalar.indexCast v123
  ![224, v442.toNat]
def k0_off124 (k0_t2 : Fin k0_t2_loop.trips) : Fin 2 → Nat :=
  let c232_137 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v452 : Index := Scalar.indexCast v123
  ![232, v452.toNat]
def k0_off125 (k0_t2 : Fin k0_t2_loop.trips) : Fin 2 → Nat :=
  let c240_138 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v462 : Index := Scalar.indexCast v123
  ![240, v462.toNat]
def k0_off126 (k0_t2 : Fin k0_t2_loop.trips) : Fin 2 → Nat :=
  let c248_139 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v472 : Index := Scalar.indexCast v123
  ![248, v472.toNat]
def k0_off127 (k0_t2 : Fin k0_t2_loop.trips) : Fin 2 → Nat :=
  let c256_140 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v482 : Index := Scalar.indexCast v123
  ![256, v482.toNat]
def k0_off128 (k0_t2 : Fin k0_t2_loop.trips) : Fin 2 → Nat :=
  let c264 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v492 : Index := Scalar.indexCast v123
  ![264, v492.toNat]
def k0_off129 (k0_t2 : Fin k0_t2_loop.trips) : Fin 2 → Nat :=
  let c272 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v500 : Index := Scalar.indexCast v123
  ![272, v500.toNat]
def k0_off130 (k0_t2 : Fin k0_t2_loop.trips) : Fin 2 → Nat :=
  let c280 : Index := 280#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v506 : Index := Scalar.indexCast v123
  ![280, v506.toNat]
def k0_off131 (k0_t2 : Fin k0_t2_loop.trips) : Fin 3 → Nat :=
  let c0_149 : Index := 0#32
  let c8_150 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v534 : Index := Scalar.indexCast v123
  ![0, 8, v534.toNat]
def k0_off132 (k0_t2 : Fin k0_t2_loop.trips) : Fin 3 → Nat :=
  let c0_151 : Index := 0#32
  let c16_152 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v538 : Index := Scalar.indexCast v123
  ![0, 16, v538.toNat]
def k0_off133 (k0_t2 : Fin k0_t2_loop.trips) : Fin 3 → Nat :=
  let c0_153 : Index := 0#32
  let c24_154 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v544 : Index := Scalar.indexCast v123
  ![0, 24, v544.toNat]
def k0_off134 (k0_t2 : Fin k0_t2_loop.trips) : Fin 3 → Nat :=
  let c0_155 : Index := 0#32
  let c32_156 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v552 : Index := Scalar.indexCast v123
  ![0, 32, v552.toNat]
def k0_off135 (k0_t2 : Fin k0_t2_loop.trips) : Fin 3 → Nat :=
  let c0_157 : Index := 0#32
  let c40_158 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v561 : Index := Scalar.indexCast v123
  ![0, 40, v561.toNat]
def k0_off136 (k0_t2 : Fin k0_t2_loop.trips) : Fin 3 → Nat :=
  let c0_159 : Index := 0#32
  let c48_160 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v570 : Index := Scalar.indexCast v123
  ![0, 48, v570.toNat]
def k0_off137 (k0_t2 : Fin k0_t2_loop.trips) : Fin 3 → Nat :=
  let c0_161 : Index := 0#32
  let c56_162 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v579 : Index := Scalar.indexCast v123
  ![0, 56, v579.toNat]
def k0_off138 (k0_t2 : Fin k0_t2_loop.trips) : Fin 3 → Nat :=
  let c0_163 : Index := 0#32
  let c64_164 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v588 : Index := Scalar.indexCast v123
  ![0, 64, v588.toNat]
def k0_off139 (k0_t2 : Fin k0_t2_loop.trips) : Fin 3 → Nat :=
  let c0_165 : Index := 0#32
  let c72_166 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v597 : Index := Scalar.indexCast v123
  ![0, 72, v597.toNat]
def k0_off140 (k0_t2 : Fin k0_t2_loop.trips) : Fin 3 → Nat :=
  let c0_167 : Index := 0#32
  let c80_168 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v606 : Index := Scalar.indexCast v123
  ![0, 80, v606.toNat]
def k0_off141 (k0_t2 : Fin k0_t2_loop.trips) : Fin 3 → Nat :=
  let c0_169 : Index := 0#32
  let c88_170 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v615 : Index := Scalar.indexCast v123
  ![0, 88, v615.toNat]
def k0_off142 (k0_t2 : Fin k0_t2_loop.trips) : Fin 3 → Nat :=
  let c0_171 : Index := 0#32
  let c96_172 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v624 : Index := Scalar.indexCast v123
  ![0, 96, v624.toNat]
def k0_off143 (k0_t2 : Fin k0_t2_loop.trips) : Fin 3 → Nat :=
  let c0_173 : Index := 0#32
  let c104_174 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v633 : Index := Scalar.indexCast v123
  ![0, 104, v633.toNat]
def k0_off144 (k0_t2 : Fin k0_t2_loop.trips) : Fin 3 → Nat :=
  let c0_175 : Index := 0#32
  let c112_176 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v642 : Index := Scalar.indexCast v123
  ![0, 112, v642.toNat]
def k0_off145 (k0_t2 : Fin k0_t2_loop.trips) : Fin 3 → Nat :=
  let c0_177 : Index := 0#32
  let c120_178 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v651 : Index := Scalar.indexCast v123
  ![0, 120, v651.toNat]
def k0_off146 (k0_t2 : Fin k0_t2_loop.trips) : Fin 3 → Nat :=
  let c0_179 : Index := 0#32
  let c128_180 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v660 : Index := Scalar.indexCast v123
  ![0, 128, v660.toNat]
def k0_off147 (k0_t2 : Fin k0_t2_loop.trips) : Fin 3 → Nat :=
  let c0_181 : Index := 0#32
  let c136_182 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v669 : Index := Scalar.indexCast v123
  ![0, 136, v669.toNat]
def k0_off148 (k0_t2 : Fin k0_t2_loop.trips) : Fin 3 → Nat :=
  let c0_183 : Index := 0#32
  let c144_184 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v678 : Index := Scalar.indexCast v123
  ![0, 144, v678.toNat]
def k0_off149 (k0_t2 : Fin k0_t2_loop.trips) : Fin 3 → Nat :=
  let c0_185 : Index := 0#32
  let c152_186 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v687 : Index := Scalar.indexCast v123
  ![0, 152, v687.toNat]
def k0_off150 (k0_t2 : Fin k0_t2_loop.trips) : Fin 3 → Nat :=
  let c0_187 : Index := 0#32
  let c160_188 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v696 : Index := Scalar.indexCast v123
  ![0, 160, v696.toNat]
def k0_off151 (k0_t2 : Fin k0_t2_loop.trips) : Fin 3 → Nat :=
  let c0_189 : Index := 0#32
  let c168_190 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v705 : Index := Scalar.indexCast v123
  ![0, 168, v705.toNat]
def k0_off152 (k0_t2 : Fin k0_t2_loop.trips) : Fin 3 → Nat :=
  let c0_191 : Index := 0#32
  let c176_192 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v714 : Index := Scalar.indexCast v123
  ![0, 176, v714.toNat]
def k0_off153 (k0_t2 : Fin k0_t2_loop.trips) : Fin 3 → Nat :=
  let c0_193 : Index := 0#32
  let c184_194 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v723 : Index := Scalar.indexCast v123
  ![0, 184, v723.toNat]
def k0_off154 (k0_t2 : Fin k0_t2_loop.trips) : Fin 3 → Nat :=
  let c0_195 : Index := 0#32
  let c192_196 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v732 : Index := Scalar.indexCast v123
  ![0, 192, v732.toNat]
def k0_off155 (k0_t2 : Fin k0_t2_loop.trips) : Fin 3 → Nat :=
  let c0_197 : Index := 0#32
  let c200_198 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v741 : Index := Scalar.indexCast v123
  ![0, 200, v741.toNat]
def k0_off156 (k0_t2 : Fin k0_t2_loop.trips) : Fin 3 → Nat :=
  let c0_199 : Index := 0#32
  let c208_200 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v750 : Index := Scalar.indexCast v123
  ![0, 208, v750.toNat]
def k0_off157 (k0_t2 : Fin k0_t2_loop.trips) : Fin 3 → Nat :=
  let c0_201 : Index := 0#32
  let c216_202 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v759 : Index := Scalar.indexCast v123
  ![0, 216, v759.toNat]
def k0_off158 (k0_t2 : Fin k0_t2_loop.trips) : Fin 3 → Nat :=
  let c0_203 : Index := 0#32
  let c224_204 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v768 : Index := Scalar.indexCast v123
  ![0, 224, v768.toNat]
def k0_off159 (k0_t2 : Fin k0_t2_loop.trips) : Fin 3 → Nat :=
  let c0_205 : Index := 0#32
  let c232_206 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v777 : Index := Scalar.indexCast v123
  ![0, 232, v777.toNat]
def k0_off160 (k0_t2 : Fin k0_t2_loop.trips) : Fin 3 → Nat :=
  let c0_207 : Index := 0#32
  let c240_208 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v786 : Index := Scalar.indexCast v123
  ![0, 240, v786.toNat]
def k0_off161 (k0_t2 : Fin k0_t2_loop.trips) : Fin 3 → Nat :=
  let c0_209 : Index := 0#32
  let c248_210 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v795 : Index := Scalar.indexCast v123
  ![0, 248, v795.toNat]
def k0_off162 (k0_t2 : Fin k0_t2_loop.trips) : Fin 3 → Nat :=
  let c0_211 : Index := 0#32
  let c256_212 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v804 : Index := Scalar.indexCast v123
  ![0, 256, v804.toNat]
def k0_off163 (k0_t2 : Fin k0_t2_loop.trips) : Fin 3 → Nat :=
  let c0_213 : Index := 0#32
  let c264_214 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v813 : Index := Scalar.indexCast v123
  ![0, 264, v813.toNat]
def k0_off164 (k0_t2 : Fin k0_t2_loop.trips) : Fin 3 → Nat :=
  let c0_215 : Index := 0#32
  let c272_216 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v820 : Index := Scalar.indexCast v123
  ![0, 272, v820.toNat]
def k0_off165 (k0_t2 : Fin k0_t2_loop.trips) : Fin 3 → Nat :=
  let c1_223 : Index := 1#32
  let c0_224 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v843 : Index := Scalar.indexCast v123
  ![1, 0, v843.toNat]
def k0_off166 (k0_t2 : Fin k0_t2_loop.trips) : Fin 3 → Nat :=
  let c1_225 : Index := 1#32
  let c8_226 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v847 : Index := Scalar.indexCast v123
  ![1, 8, v847.toNat]
def k0_off167 (k0_t2 : Fin k0_t2_loop.trips) : Fin 3 → Nat :=
  let c1_227 : Index := 1#32
  let c16_228 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v853 : Index := Scalar.indexCast v123
  ![1, 16, v853.toNat]
def k0_off168 (k0_t2 : Fin k0_t2_loop.trips) : Fin 3 → Nat :=
  let c1_229 : Index := 1#32
  let c24_230 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v861 : Index := Scalar.indexCast v123
  ![1, 24, v861.toNat]
def k0_off169 (k0_t2 : Fin k0_t2_loop.trips) : Fin 3 → Nat :=
  let c1_231 : Index := 1#32
  let c32_232 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v871 : Index := Scalar.indexCast v123
  ![1, 32, v871.toNat]
def k0_off170 (k0_t2 : Fin k0_t2_loop.trips) : Fin 3 → Nat :=
  let c1_233 : Index := 1#32
  let c40_234 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v882 : Index := Scalar.indexCast v123
  ![1, 40, v882.toNat]
def k0_off171 (k0_t2 : Fin k0_t2_loop.trips) : Fin 3 → Nat :=
  let c1_235 : Index := 1#32
  let c48_236 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v893 : Index := Scalar.indexCast v123
  ![1, 48, v893.toNat]
def k0_off172 (k0_t2 : Fin k0_t2_loop.trips) : Fin 3 → Nat :=
  let c1_237 : Index := 1#32
  let c56_238 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v904 : Index := Scalar.indexCast v123
  ![1, 56, v904.toNat]
def k0_off173 (k0_t2 : Fin k0_t2_loop.trips) : Fin 3 → Nat :=
  let c1_239 : Index := 1#32
  let c64_240 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v915 : Index := Scalar.indexCast v123
  ![1, 64, v915.toNat]
def k0_off174 (k0_t2 : Fin k0_t2_loop.trips) : Fin 3 → Nat :=
  let c1_241 : Index := 1#32
  let c72_242 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v926 : Index := Scalar.indexCast v123
  ![1, 72, v926.toNat]
def k0_off175 (k0_t2 : Fin k0_t2_loop.trips) : Fin 3 → Nat :=
  let c1_243 : Index := 1#32
  let c80_244 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v937 : Index := Scalar.indexCast v123
  ![1, 80, v937.toNat]
def k0_off176 (k0_t2 : Fin k0_t2_loop.trips) : Fin 3 → Nat :=
  let c1_245 : Index := 1#32
  let c88_246 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v948 : Index := Scalar.indexCast v123
  ![1, 88, v948.toNat]
def k0_off177 (k0_t2 : Fin k0_t2_loop.trips) : Fin 3 → Nat :=
  let c1_247 : Index := 1#32
  let c96_248 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v959 : Index := Scalar.indexCast v123
  ![1, 96, v959.toNat]
def k0_off178 (k0_t2 : Fin k0_t2_loop.trips) : Fin 3 → Nat :=
  let c1_249 : Index := 1#32
  let c104_250 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v970 : Index := Scalar.indexCast v123
  ![1, 104, v970.toNat]
def k0_off179 (k0_t2 : Fin k0_t2_loop.trips) : Fin 3 → Nat :=
  let c1_251 : Index := 1#32
  let c112_252 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v981 : Index := Scalar.indexCast v123
  ![1, 112, v981.toNat]
def k0_off180 (k0_t2 : Fin k0_t2_loop.trips) : Fin 3 → Nat :=
  let c1_253 : Index := 1#32
  let c120_254 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v992 : Index := Scalar.indexCast v123
  ![1, 120, v992.toNat]
def k0_off181 (k0_t2 : Fin k0_t2_loop.trips) : Fin 3 → Nat :=
  let c1_255 : Index := 1#32
  let c128_256 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1003 : Index := Scalar.indexCast v123
  ![1, 128, v1003.toNat]
def k0_off182 (k0_t2 : Fin k0_t2_loop.trips) : Fin 3 → Nat :=
  let c1_257 : Index := 1#32
  let c136_258 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1014 : Index := Scalar.indexCast v123
  ![1, 136, v1014.toNat]
def k0_off183 (k0_t2 : Fin k0_t2_loop.trips) : Fin 3 → Nat :=
  let c1_259 : Index := 1#32
  let c144_260 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1025 : Index := Scalar.indexCast v123
  ![1, 144, v1025.toNat]
def k0_off184 (k0_t2 : Fin k0_t2_loop.trips) : Fin 3 → Nat :=
  let c1_261 : Index := 1#32
  let c152_262 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1036 : Index := Scalar.indexCast v123
  ![1, 152, v1036.toNat]
def k0_off185 (k0_t2 : Fin k0_t2_loop.trips) : Fin 3 → Nat :=
  let c1_263 : Index := 1#32
  let c160_264 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1047 : Index := Scalar.indexCast v123
  ![1, 160, v1047.toNat]
def k0_off186 (k0_t2 : Fin k0_t2_loop.trips) : Fin 3 → Nat :=
  let c1_265 : Index := 1#32
  let c168_266 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1058 : Index := Scalar.indexCast v123
  ![1, 168, v1058.toNat]
def k0_off187 (k0_t2 : Fin k0_t2_loop.trips) : Fin 3 → Nat :=
  let c1_267 : Index := 1#32
  let c176_268 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1069 : Index := Scalar.indexCast v123
  ![1, 176, v1069.toNat]
def k0_off188 (k0_t2 : Fin k0_t2_loop.trips) : Fin 3 → Nat :=
  let c1_269 : Index := 1#32
  let c184_270 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1080 : Index := Scalar.indexCast v123
  ![1, 184, v1080.toNat]
def k0_off189 (k0_t2 : Fin k0_t2_loop.trips) : Fin 3 → Nat :=
  let c1_271 : Index := 1#32
  let c192_272 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1091 : Index := Scalar.indexCast v123
  ![1, 192, v1091.toNat]
def k0_off190 (k0_t2 : Fin k0_t2_loop.trips) : Fin 3 → Nat :=
  let c1_273 : Index := 1#32
  let c200_274 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1102 : Index := Scalar.indexCast v123
  ![1, 200, v1102.toNat]
def k0_off191 (k0_t2 : Fin k0_t2_loop.trips) : Fin 3 → Nat :=
  let c1_275 : Index := 1#32
  let c208_276 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1113 : Index := Scalar.indexCast v123
  ![1, 208, v1113.toNat]
def k0_off192 (k0_t2 : Fin k0_t2_loop.trips) : Fin 3 → Nat :=
  let c1_277 : Index := 1#32
  let c216_278 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1124 : Index := Scalar.indexCast v123
  ![1, 216, v1124.toNat]
def k0_off193 (k0_t2 : Fin k0_t2_loop.trips) : Fin 3 → Nat :=
  let c1_279 : Index := 1#32
  let c224_280 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1135 : Index := Scalar.indexCast v123
  ![1, 224, v1135.toNat]
def k0_off194 (k0_t2 : Fin k0_t2_loop.trips) : Fin 3 → Nat :=
  let c1_281 : Index := 1#32
  let c232_282 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1146 : Index := Scalar.indexCast v123
  ![1, 232, v1146.toNat]
def k0_off195 (k0_t2 : Fin k0_t2_loop.trips) : Fin 3 → Nat :=
  let c1_283 : Index := 1#32
  let c240_284 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1157 : Index := Scalar.indexCast v123
  ![1, 240, v1157.toNat]
def k0_off196 (k0_t2 : Fin k0_t2_loop.trips) : Fin 3 → Nat :=
  let c1_285 : Index := 1#32
  let c248_286 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1168 : Index := Scalar.indexCast v123
  ![1, 248, v1168.toNat]
def k0_off197 (k0_t2 : Fin k0_t2_loop.trips) : Fin 3 → Nat :=
  let c1_287 : Index := 1#32
  let c256_288 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1179 : Index := Scalar.indexCast v123
  ![1, 256, v1179.toNat]
def k0_off198 (k0_t2 : Fin k0_t2_loop.trips) : Fin 3 → Nat :=
  let c1_289 : Index := 1#32
  let c264_290 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1188 : Index := Scalar.indexCast v123
  ![1, 264, v1188.toNat]
def k0_off199 (k0_t2 : Fin k0_t2_loop.trips) : Fin 3 → Nat :=
  let c1_291 : Index := 1#32
  let c272_292 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1195 : Index := Scalar.indexCast v123
  ![1, 272, v1195.toNat]
def k0_off200 (k0_t2 : Fin k0_t2_loop.trips) : Fin 3 → Nat :=
  let c2_301 : Index := 2#32
  let c0_302 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1224 : Index := Scalar.indexCast v123
  ![2, 0, v1224.toNat]
def k0_off201 (k0_t2 : Fin k0_t2_loop.trips) : Fin 3 → Nat :=
  let c2_303 : Index := 2#32
  let c8_304 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1228 : Index := Scalar.indexCast v123
  ![2, 8, v1228.toNat]
def k0_off202 (k0_t2 : Fin k0_t2_loop.trips) : Fin 3 → Nat :=
  let c2_305 : Index := 2#32
  let c16_306 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1234 : Index := Scalar.indexCast v123
  ![2, 16, v1234.toNat]
def k0_off203 (k0_t2 : Fin k0_t2_loop.trips) : Fin 3 → Nat :=
  let c2_307 : Index := 2#32
  let c24_308 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1242 : Index := Scalar.indexCast v123
  ![2, 24, v1242.toNat]
def k0_off204 (k0_t2 : Fin k0_t2_loop.trips) : Fin 3 → Nat :=
  let c2_309 : Index := 2#32
  let c32_310 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1252 : Index := Scalar.indexCast v123
  ![2, 32, v1252.toNat]
def k0_off205 (k0_t2 : Fin k0_t2_loop.trips) : Fin 3 → Nat :=
  let c2_311 : Index := 2#32
  let c40_312 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1263 : Index := Scalar.indexCast v123
  ![2, 40, v1263.toNat]
def k0_off206 (k0_t2 : Fin k0_t2_loop.trips) : Fin 3 → Nat :=
  let c2_313 : Index := 2#32
  let c48_314 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1274 : Index := Scalar.indexCast v123
  ![2, 48, v1274.toNat]
def k0_off207 (k0_t2 : Fin k0_t2_loop.trips) : Fin 3 → Nat :=
  let c2_315 : Index := 2#32
  let c56_316 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1285 : Index := Scalar.indexCast v123
  ![2, 56, v1285.toNat]
def k0_off208 (k0_t2 : Fin k0_t2_loop.trips) : Fin 3 → Nat :=
  let c2_317 : Index := 2#32
  let c64_318 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1296 : Index := Scalar.indexCast v123
  ![2, 64, v1296.toNat]
def k0_off209 (k0_t2 : Fin k0_t2_loop.trips) : Fin 3 → Nat :=
  let c2_319 : Index := 2#32
  let c72_320 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1307 : Index := Scalar.indexCast v123
  ![2, 72, v1307.toNat]
def k0_off210 (k0_t2 : Fin k0_t2_loop.trips) : Fin 3 → Nat :=
  let c2_321 : Index := 2#32
  let c80_322 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1318 : Index := Scalar.indexCast v123
  ![2, 80, v1318.toNat]
def k0_off211 (k0_t2 : Fin k0_t2_loop.trips) : Fin 3 → Nat :=
  let c2_323 : Index := 2#32
  let c88_324 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1329 : Index := Scalar.indexCast v123
  ![2, 88, v1329.toNat]
def k0_off212 (k0_t2 : Fin k0_t2_loop.trips) : Fin 3 → Nat :=
  let c2_325 : Index := 2#32
  let c96_326 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1340 : Index := Scalar.indexCast v123
  ![2, 96, v1340.toNat]
def k0_off213 (k0_t2 : Fin k0_t2_loop.trips) : Fin 3 → Nat :=
  let c2_327 : Index := 2#32
  let c104_328 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1351 : Index := Scalar.indexCast v123
  ![2, 104, v1351.toNat]
def k0_off214 (k0_t2 : Fin k0_t2_loop.trips) : Fin 3 → Nat :=
  let c2_329 : Index := 2#32
  let c112_330 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1362 : Index := Scalar.indexCast v123
  ![2, 112, v1362.toNat]
def k0_off215 (k0_t2 : Fin k0_t2_loop.trips) : Fin 3 → Nat :=
  let c2_331 : Index := 2#32
  let c120_332 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1373 : Index := Scalar.indexCast v123
  ![2, 120, v1373.toNat]
def k0_off216 (k0_t2 : Fin k0_t2_loop.trips) : Fin 3 → Nat :=
  let c2_333 : Index := 2#32
  let c128_334 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1384 : Index := Scalar.indexCast v123
  ![2, 128, v1384.toNat]
def k0_off217 (k0_t2 : Fin k0_t2_loop.trips) : Fin 3 → Nat :=
  let c2_335 : Index := 2#32
  let c136_336 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1395 : Index := Scalar.indexCast v123
  ![2, 136, v1395.toNat]
def k0_off218 (k0_t2 : Fin k0_t2_loop.trips) : Fin 3 → Nat :=
  let c2_337 : Index := 2#32
  let c144_338 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1406 : Index := Scalar.indexCast v123
  ![2, 144, v1406.toNat]
def k0_off219 (k0_t2 : Fin k0_t2_loop.trips) : Fin 3 → Nat :=
  let c2_339 : Index := 2#32
  let c152_340 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1417 : Index := Scalar.indexCast v123
  ![2, 152, v1417.toNat]
def k0_off220 (k0_t2 : Fin k0_t2_loop.trips) : Fin 3 → Nat :=
  let c2_341 : Index := 2#32
  let c160_342 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1428 : Index := Scalar.indexCast v123
  ![2, 160, v1428.toNat]
def k0_off221 (k0_t2 : Fin k0_t2_loop.trips) : Fin 3 → Nat :=
  let c2_343 : Index := 2#32
  let c168_344 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1439 : Index := Scalar.indexCast v123
  ![2, 168, v1439.toNat]
def k0_off222 (k0_t2 : Fin k0_t2_loop.trips) : Fin 3 → Nat :=
  let c2_345 : Index := 2#32
  let c176_346 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1450 : Index := Scalar.indexCast v123
  ![2, 176, v1450.toNat]
def k0_off223 (k0_t2 : Fin k0_t2_loop.trips) : Fin 3 → Nat :=
  let c2_347 : Index := 2#32
  let c184_348 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1461 : Index := Scalar.indexCast v123
  ![2, 184, v1461.toNat]
def k0_off224 (k0_t2 : Fin k0_t2_loop.trips) : Fin 3 → Nat :=
  let c2_349 : Index := 2#32
  let c192_350 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1472 : Index := Scalar.indexCast v123
  ![2, 192, v1472.toNat]
def k0_off225 (k0_t2 : Fin k0_t2_loop.trips) : Fin 3 → Nat :=
  let c2_351 : Index := 2#32
  let c200_352 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1483 : Index := Scalar.indexCast v123
  ![2, 200, v1483.toNat]
def k0_off226 (k0_t2 : Fin k0_t2_loop.trips) : Fin 3 → Nat :=
  let c2_353 : Index := 2#32
  let c208_354 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1494 : Index := Scalar.indexCast v123
  ![2, 208, v1494.toNat]
def k0_off227 (k0_t2 : Fin k0_t2_loop.trips) : Fin 3 → Nat :=
  let c2_355 : Index := 2#32
  let c216_356 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1505 : Index := Scalar.indexCast v123
  ![2, 216, v1505.toNat]
def k0_off228 (k0_t2 : Fin k0_t2_loop.trips) : Fin 3 → Nat :=
  let c2_357 : Index := 2#32
  let c224_358 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1516 : Index := Scalar.indexCast v123
  ![2, 224, v1516.toNat]
def k0_off229 (k0_t2 : Fin k0_t2_loop.trips) : Fin 3 → Nat :=
  let c2_359 : Index := 2#32
  let c232_360 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1527 : Index := Scalar.indexCast v123
  ![2, 232, v1527.toNat]
def k0_off230 (k0_t2 : Fin k0_t2_loop.trips) : Fin 3 → Nat :=
  let c2_361 : Index := 2#32
  let c240_362 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1538 : Index := Scalar.indexCast v123
  ![2, 240, v1538.toNat]
def k0_off231 (k0_t2 : Fin k0_t2_loop.trips) : Fin 3 → Nat :=
  let c2_363 : Index := 2#32
  let c248_364 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1549 : Index := Scalar.indexCast v123
  ![2, 248, v1549.toNat]
def k0_off232 (k0_t2 : Fin k0_t2_loop.trips) : Fin 3 → Nat :=
  let c2_365 : Index := 2#32
  let c256_366 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1560 : Index := Scalar.indexCast v123
  ![2, 256, v1560.toNat]
def k0_off233 (k0_t2 : Fin k0_t2_loop.trips) : Fin 3 → Nat :=
  let c2_367 : Index := 2#32
  let c264_368 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1569 : Index := Scalar.indexCast v123
  ![2, 264, v1569.toNat]
def k0_off234 (k0_t2 : Fin k0_t2_loop.trips) : Fin 3 → Nat :=
  let c2_369 : Index := 2#32
  let c272_370 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1576 : Index := Scalar.indexCast v123
  ![2, 272, v1576.toNat]
def k0_off235 (k0_t2 : Fin k0_t2_loop.trips) : Fin 3 → Nat :=
  let c3_379 : Index := 3#32
  let c0_380 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1605 : Index := Scalar.indexCast v123
  ![3, 0, v1605.toNat]
def k0_off236 (k0_t2 : Fin k0_t2_loop.trips) : Fin 3 → Nat :=
  let c3_381 : Index := 3#32
  let c8_382 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1609 : Index := Scalar.indexCast v123
  ![3, 8, v1609.toNat]
def k0_off237 (k0_t2 : Fin k0_t2_loop.trips) : Fin 3 → Nat :=
  let c3_383 : Index := 3#32
  let c16_384 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1615 : Index := Scalar.indexCast v123
  ![3, 16, v1615.toNat]
def k0_off238 (k0_t2 : Fin k0_t2_loop.trips) : Fin 3 → Nat :=
  let c3_385 : Index := 3#32
  let c24_386 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1623 : Index := Scalar.indexCast v123
  ![3, 24, v1623.toNat]
def k0_off239 (k0_t2 : Fin k0_t2_loop.trips) : Fin 3 → Nat :=
  let c3_387 : Index := 3#32
  let c32_388 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1633 : Index := Scalar.indexCast v123
  ![3, 32, v1633.toNat]
def k0_off240 (k0_t2 : Fin k0_t2_loop.trips) : Fin 3 → Nat :=
  let c3_389 : Index := 3#32
  let c40_390 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1644 : Index := Scalar.indexCast v123
  ![3, 40, v1644.toNat]
def k0_off241 (k0_t2 : Fin k0_t2_loop.trips) : Fin 3 → Nat :=
  let c3_391 : Index := 3#32
  let c48_392 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1655 : Index := Scalar.indexCast v123
  ![3, 48, v1655.toNat]
def k0_off242 (k0_t2 : Fin k0_t2_loop.trips) : Fin 3 → Nat :=
  let c3_393 : Index := 3#32
  let c56_394 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1666 : Index := Scalar.indexCast v123
  ![3, 56, v1666.toNat]
def k0_off243 (k0_t2 : Fin k0_t2_loop.trips) : Fin 3 → Nat :=
  let c3_395 : Index := 3#32
  let c64_396 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1677 : Index := Scalar.indexCast v123
  ![3, 64, v1677.toNat]
def k0_off244 (k0_t2 : Fin k0_t2_loop.trips) : Fin 3 → Nat :=
  let c3_397 : Index := 3#32
  let c72_398 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1688 : Index := Scalar.indexCast v123
  ![3, 72, v1688.toNat]
def k0_off245 (k0_t2 : Fin k0_t2_loop.trips) : Fin 3 → Nat :=
  let c3_399 : Index := 3#32
  let c80_400 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1699 : Index := Scalar.indexCast v123
  ![3, 80, v1699.toNat]
def k0_off246 (k0_t2 : Fin k0_t2_loop.trips) : Fin 3 → Nat :=
  let c3_401 : Index := 3#32
  let c88_402 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1710 : Index := Scalar.indexCast v123
  ![3, 88, v1710.toNat]
def k0_off247 (k0_t2 : Fin k0_t2_loop.trips) : Fin 3 → Nat :=
  let c3_403 : Index := 3#32
  let c96_404 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1721 : Index := Scalar.indexCast v123
  ![3, 96, v1721.toNat]
def k0_off248 (k0_t2 : Fin k0_t2_loop.trips) : Fin 3 → Nat :=
  let c3_405 : Index := 3#32
  let c104_406 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1732 : Index := Scalar.indexCast v123
  ![3, 104, v1732.toNat]
def k0_off249 (k0_t2 : Fin k0_t2_loop.trips) : Fin 3 → Nat :=
  let c3_407 : Index := 3#32
  let c112_408 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1743 : Index := Scalar.indexCast v123
  ![3, 112, v1743.toNat]
def k0_off250 (k0_t2 : Fin k0_t2_loop.trips) : Fin 3 → Nat :=
  let c3_409 : Index := 3#32
  let c120_410 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1754 : Index := Scalar.indexCast v123
  ![3, 120, v1754.toNat]
def k0_off251 (k0_t2 : Fin k0_t2_loop.trips) : Fin 3 → Nat :=
  let c3_411 : Index := 3#32
  let c128_412 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1765 : Index := Scalar.indexCast v123
  ![3, 128, v1765.toNat]
def k0_off252 (k0_t2 : Fin k0_t2_loop.trips) : Fin 3 → Nat :=
  let c3_413 : Index := 3#32
  let c136_414 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1776 : Index := Scalar.indexCast v123
  ![3, 136, v1776.toNat]
def k0_off253 (k0_t2 : Fin k0_t2_loop.trips) : Fin 3 → Nat :=
  let c3_415 : Index := 3#32
  let c144_416 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1787 : Index := Scalar.indexCast v123
  ![3, 144, v1787.toNat]
def k0_off254 (k0_t2 : Fin k0_t2_loop.trips) : Fin 3 → Nat :=
  let c3_417 : Index := 3#32
  let c152_418 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1798 : Index := Scalar.indexCast v123
  ![3, 152, v1798.toNat]
def k0_off255 (k0_t2 : Fin k0_t2_loop.trips) : Fin 3 → Nat :=
  let c3_419 : Index := 3#32
  let c160_420 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1809 : Index := Scalar.indexCast v123
  ![3, 160, v1809.toNat]
def k0_off256 (k0_t2 : Fin k0_t2_loop.trips) : Fin 3 → Nat :=
  let c3_421 : Index := 3#32
  let c168_422 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1820 : Index := Scalar.indexCast v123
  ![3, 168, v1820.toNat]
def k0_off257 (k0_t2 : Fin k0_t2_loop.trips) : Fin 3 → Nat :=
  let c3_423 : Index := 3#32
  let c176_424 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1831 : Index := Scalar.indexCast v123
  ![3, 176, v1831.toNat]
def k0_off258 (k0_t2 : Fin k0_t2_loop.trips) : Fin 3 → Nat :=
  let c3_425 : Index := 3#32
  let c184_426 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1842 : Index := Scalar.indexCast v123
  ![3, 184, v1842.toNat]
def k0_off259 (k0_t2 : Fin k0_t2_loop.trips) : Fin 3 → Nat :=
  let c3_427 : Index := 3#32
  let c192_428 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1853 : Index := Scalar.indexCast v123
  ![3, 192, v1853.toNat]
def k0_off260 (k0_t2 : Fin k0_t2_loop.trips) : Fin 3 → Nat :=
  let c3_429 : Index := 3#32
  let c200_430 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1864 : Index := Scalar.indexCast v123
  ![3, 200, v1864.toNat]
def k0_off261 (k0_t2 : Fin k0_t2_loop.trips) : Fin 3 → Nat :=
  let c3_431 : Index := 3#32
  let c208_432 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1875 : Index := Scalar.indexCast v123
  ![3, 208, v1875.toNat]
def k0_off262 (k0_t2 : Fin k0_t2_loop.trips) : Fin 3 → Nat :=
  let c3_433 : Index := 3#32
  let c216_434 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1886 : Index := Scalar.indexCast v123
  ![3, 216, v1886.toNat]
def k0_off263 (k0_t2 : Fin k0_t2_loop.trips) : Fin 3 → Nat :=
  let c3_435 : Index := 3#32
  let c224_436 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1897 : Index := Scalar.indexCast v123
  ![3, 224, v1897.toNat]
def k0_off264 (k0_t2 : Fin k0_t2_loop.trips) : Fin 3 → Nat :=
  let c3_437 : Index := 3#32
  let c232_438 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1908 : Index := Scalar.indexCast v123
  ![3, 232, v1908.toNat]
def k0_off265 (k0_t2 : Fin k0_t2_loop.trips) : Fin 3 → Nat :=
  let c3_439 : Index := 3#32
  let c240_440 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1919 : Index := Scalar.indexCast v123
  ![3, 240, v1919.toNat]
def k0_off266 (k0_t2 : Fin k0_t2_loop.trips) : Fin 3 → Nat :=
  let c3_441 : Index := 3#32
  let c248_442 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1930 : Index := Scalar.indexCast v123
  ![3, 248, v1930.toNat]
def k0_off267 (k0_t2 : Fin k0_t2_loop.trips) : Fin 3 → Nat :=
  let c3_443 : Index := 3#32
  let c256_444 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1941 : Index := Scalar.indexCast v123
  ![3, 256, v1941.toNat]
def k0_off268 (k0_t2 : Fin k0_t2_loop.trips) : Fin 3 → Nat :=
  let c3_445 : Index := 3#32
  let c264_446 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1950 : Index := Scalar.indexCast v123
  ![3, 264, v1950.toNat]
def k0_off269 (k0_t2 : Fin k0_t2_loop.trips) : Fin 3 → Nat :=
  let c3_447 : Index := 3#32
  let c272_448 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1957 : Index := Scalar.indexCast v123
  ![3, 272, v1957.toNat]
def k0_off270 (k0_t2 : Fin k0_t2_loop.trips) : Fin 3 → Nat :=
  let c4_457 : Index := 4#32
  let c0_458 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1986 : Index := Scalar.indexCast v123
  ![4, 0, v1986.toNat]
def k0_off271 (k0_t2 : Fin k0_t2_loop.trips) : Fin 3 → Nat :=
  let c4_459 : Index := 4#32
  let c8_460 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1990 : Index := Scalar.indexCast v123
  ![4, 8, v1990.toNat]
def k0_off272 (k0_t2 : Fin k0_t2_loop.trips) : Fin 3 → Nat :=
  let c4_461 : Index := 4#32
  let c16_462 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v1996 : Index := Scalar.indexCast v123
  ![4, 16, v1996.toNat]
def k0_off273 (k0_t2 : Fin k0_t2_loop.trips) : Fin 3 → Nat :=
  let c4_463 : Index := 4#32
  let c24_464 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2004 : Index := Scalar.indexCast v123
  ![4, 24, v2004.toNat]
def k0_off274 (k0_t2 : Fin k0_t2_loop.trips) : Fin 3 → Nat :=
  let c4_465 : Index := 4#32
  let c32_466 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2014 : Index := Scalar.indexCast v123
  ![4, 32, v2014.toNat]
def k0_off275 (k0_t2 : Fin k0_t2_loop.trips) : Fin 3 → Nat :=
  let c4_467 : Index := 4#32
  let c40_468 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2025 : Index := Scalar.indexCast v123
  ![4, 40, v2025.toNat]
def k0_off276 (k0_t2 : Fin k0_t2_loop.trips) : Fin 3 → Nat :=
  let c4_469 : Index := 4#32
  let c48_470 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2036 : Index := Scalar.indexCast v123
  ![4, 48, v2036.toNat]
def k0_off277 (k0_t2 : Fin k0_t2_loop.trips) : Fin 3 → Nat :=
  let c4_471 : Index := 4#32
  let c56_472 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2047 : Index := Scalar.indexCast v123
  ![4, 56, v2047.toNat]
def k0_off278 (k0_t2 : Fin k0_t2_loop.trips) : Fin 3 → Nat :=
  let c4_473 : Index := 4#32
  let c64_474 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2058 : Index := Scalar.indexCast v123
  ![4, 64, v2058.toNat]
def k0_off279 (k0_t2 : Fin k0_t2_loop.trips) : Fin 3 → Nat :=
  let c4_475 : Index := 4#32
  let c72_476 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2069 : Index := Scalar.indexCast v123
  ![4, 72, v2069.toNat]
def k0_off280 (k0_t2 : Fin k0_t2_loop.trips) : Fin 3 → Nat :=
  let c4_477 : Index := 4#32
  let c80_478 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2080 : Index := Scalar.indexCast v123
  ![4, 80, v2080.toNat]
def k0_off281 (k0_t2 : Fin k0_t2_loop.trips) : Fin 3 → Nat :=
  let c4_479 : Index := 4#32
  let c88_480 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2091 : Index := Scalar.indexCast v123
  ![4, 88, v2091.toNat]
def k0_off282 (k0_t2 : Fin k0_t2_loop.trips) : Fin 3 → Nat :=
  let c4_481 : Index := 4#32
  let c96_482 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2102 : Index := Scalar.indexCast v123
  ![4, 96, v2102.toNat]
def k0_off283 (k0_t2 : Fin k0_t2_loop.trips) : Fin 3 → Nat :=
  let c4_483 : Index := 4#32
  let c104_484 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2113 : Index := Scalar.indexCast v123
  ![4, 104, v2113.toNat]
def k0_off284 (k0_t2 : Fin k0_t2_loop.trips) : Fin 3 → Nat :=
  let c4_485 : Index := 4#32
  let c112_486 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2124 : Index := Scalar.indexCast v123
  ![4, 112, v2124.toNat]
def k0_off285 (k0_t2 : Fin k0_t2_loop.trips) : Fin 3 → Nat :=
  let c4_487 : Index := 4#32
  let c120_488 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2135 : Index := Scalar.indexCast v123
  ![4, 120, v2135.toNat]
def k0_off286 (k0_t2 : Fin k0_t2_loop.trips) : Fin 3 → Nat :=
  let c4_489 : Index := 4#32
  let c128_490 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2146 : Index := Scalar.indexCast v123
  ![4, 128, v2146.toNat]
def k0_off287 (k0_t2 : Fin k0_t2_loop.trips) : Fin 3 → Nat :=
  let c4_491 : Index := 4#32
  let c136_492 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2157 : Index := Scalar.indexCast v123
  ![4, 136, v2157.toNat]
def k0_off288 (k0_t2 : Fin k0_t2_loop.trips) : Fin 3 → Nat :=
  let c4_493 : Index := 4#32
  let c144_494 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2168 : Index := Scalar.indexCast v123
  ![4, 144, v2168.toNat]
def k0_off289 (k0_t2 : Fin k0_t2_loop.trips) : Fin 3 → Nat :=
  let c4_495 : Index := 4#32
  let c152_496 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2179 : Index := Scalar.indexCast v123
  ![4, 152, v2179.toNat]
def k0_off290 (k0_t2 : Fin k0_t2_loop.trips) : Fin 3 → Nat :=
  let c4_497 : Index := 4#32
  let c160_498 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2190 : Index := Scalar.indexCast v123
  ![4, 160, v2190.toNat]
def k0_off291 (k0_t2 : Fin k0_t2_loop.trips) : Fin 3 → Nat :=
  let c4_499 : Index := 4#32
  let c168_500 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2201 : Index := Scalar.indexCast v123
  ![4, 168, v2201.toNat]
def k0_off292 (k0_t2 : Fin k0_t2_loop.trips) : Fin 3 → Nat :=
  let c4_501 : Index := 4#32
  let c176_502 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2212 : Index := Scalar.indexCast v123
  ![4, 176, v2212.toNat]
def k0_off293 (k0_t2 : Fin k0_t2_loop.trips) : Fin 3 → Nat :=
  let c4_503 : Index := 4#32
  let c184_504 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2223 : Index := Scalar.indexCast v123
  ![4, 184, v2223.toNat]
def k0_off294 (k0_t2 : Fin k0_t2_loop.trips) : Fin 3 → Nat :=
  let c4_505 : Index := 4#32
  let c192_506 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2234 : Index := Scalar.indexCast v123
  ![4, 192, v2234.toNat]
def k0_off295 (k0_t2 : Fin k0_t2_loop.trips) : Fin 3 → Nat :=
  let c4_507 : Index := 4#32
  let c200_508 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2245 : Index := Scalar.indexCast v123
  ![4, 200, v2245.toNat]
def k0_off296 (k0_t2 : Fin k0_t2_loop.trips) : Fin 3 → Nat :=
  let c4_509 : Index := 4#32
  let c208_510 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2256 : Index := Scalar.indexCast v123
  ![4, 208, v2256.toNat]
def k0_off297 (k0_t2 : Fin k0_t2_loop.trips) : Fin 3 → Nat :=
  let c4_511 : Index := 4#32
  let c216_512 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2267 : Index := Scalar.indexCast v123
  ![4, 216, v2267.toNat]
def k0_off298 (k0_t2 : Fin k0_t2_loop.trips) : Fin 3 → Nat :=
  let c4_513 : Index := 4#32
  let c224_514 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2278 : Index := Scalar.indexCast v123
  ![4, 224, v2278.toNat]
def k0_off299 (k0_t2 : Fin k0_t2_loop.trips) : Fin 3 → Nat :=
  let c4_515 : Index := 4#32
  let c232_516 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2289 : Index := Scalar.indexCast v123
  ![4, 232, v2289.toNat]
def k0_off300 (k0_t2 : Fin k0_t2_loop.trips) : Fin 3 → Nat :=
  let c4_517 : Index := 4#32
  let c240_518 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2300 : Index := Scalar.indexCast v123
  ![4, 240, v2300.toNat]
def k0_off301 (k0_t2 : Fin k0_t2_loop.trips) : Fin 3 → Nat :=
  let c4_519 : Index := 4#32
  let c248_520 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2311 : Index := Scalar.indexCast v123
  ![4, 248, v2311.toNat]
def k0_off302 (k0_t2 : Fin k0_t2_loop.trips) : Fin 3 → Nat :=
  let c4_521 : Index := 4#32
  let c256_522 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2322 : Index := Scalar.indexCast v123
  ![4, 256, v2322.toNat]
def k0_off303 (k0_t2 : Fin k0_t2_loop.trips) : Fin 3 → Nat :=
  let c4_523 : Index := 4#32
  let c264_524 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2331 : Index := Scalar.indexCast v123
  ![4, 264, v2331.toNat]
def k0_off304 (k0_t2 : Fin k0_t2_loop.trips) : Fin 3 → Nat :=
  let c4_525 : Index := 4#32
  let c272_526 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2338 : Index := Scalar.indexCast v123
  ![4, 272, v2338.toNat]
def k0_off305 (k0_t2 : Fin k0_t2_loop.trips) : Fin 3 → Nat :=
  let c5_535 : Index := 5#32
  let c0_536 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2367 : Index := Scalar.indexCast v123
  ![5, 0, v2367.toNat]
def k0_off306 (k0_t2 : Fin k0_t2_loop.trips) : Fin 3 → Nat :=
  let c5_537 : Index := 5#32
  let c8_538 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2371 : Index := Scalar.indexCast v123
  ![5, 8, v2371.toNat]
def k0_off307 (k0_t2 : Fin k0_t2_loop.trips) : Fin 3 → Nat :=
  let c5_539 : Index := 5#32
  let c16_540 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2377 : Index := Scalar.indexCast v123
  ![5, 16, v2377.toNat]
def k0_off308 (k0_t2 : Fin k0_t2_loop.trips) : Fin 3 → Nat :=
  let c5_541 : Index := 5#32
  let c24_542 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2385 : Index := Scalar.indexCast v123
  ![5, 24, v2385.toNat]
def k0_off309 (k0_t2 : Fin k0_t2_loop.trips) : Fin 3 → Nat :=
  let c5_543 : Index := 5#32
  let c32_544 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2395 : Index := Scalar.indexCast v123
  ![5, 32, v2395.toNat]
def k0_off310 (k0_t2 : Fin k0_t2_loop.trips) : Fin 3 → Nat :=
  let c5_545 : Index := 5#32
  let c40_546 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2406 : Index := Scalar.indexCast v123
  ![5, 40, v2406.toNat]
def k0_off311 (k0_t2 : Fin k0_t2_loop.trips) : Fin 3 → Nat :=
  let c5_547 : Index := 5#32
  let c48_548 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2417 : Index := Scalar.indexCast v123
  ![5, 48, v2417.toNat]
def k0_off312 (k0_t2 : Fin k0_t2_loop.trips) : Fin 3 → Nat :=
  let c5_549 : Index := 5#32
  let c56_550 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2428 : Index := Scalar.indexCast v123
  ![5, 56, v2428.toNat]
def k0_off313 (k0_t2 : Fin k0_t2_loop.trips) : Fin 3 → Nat :=
  let c5_551 : Index := 5#32
  let c64_552 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2439 : Index := Scalar.indexCast v123
  ![5, 64, v2439.toNat]
def k0_off314 (k0_t2 : Fin k0_t2_loop.trips) : Fin 3 → Nat :=
  let c5_553 : Index := 5#32
  let c72_554 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2450 : Index := Scalar.indexCast v123
  ![5, 72, v2450.toNat]
def k0_off315 (k0_t2 : Fin k0_t2_loop.trips) : Fin 3 → Nat :=
  let c5_555 : Index := 5#32
  let c80_556 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2461 : Index := Scalar.indexCast v123
  ![5, 80, v2461.toNat]
def k0_off316 (k0_t2 : Fin k0_t2_loop.trips) : Fin 3 → Nat :=
  let c5_557 : Index := 5#32
  let c88_558 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2472 : Index := Scalar.indexCast v123
  ![5, 88, v2472.toNat]
def k0_off317 (k0_t2 : Fin k0_t2_loop.trips) : Fin 3 → Nat :=
  let c5_559 : Index := 5#32
  let c96_560 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2483 : Index := Scalar.indexCast v123
  ![5, 96, v2483.toNat]
def k0_off318 (k0_t2 : Fin k0_t2_loop.trips) : Fin 3 → Nat :=
  let c5_561 : Index := 5#32
  let c104_562 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2494 : Index := Scalar.indexCast v123
  ![5, 104, v2494.toNat]
def k0_off319 (k0_t2 : Fin k0_t2_loop.trips) : Fin 3 → Nat :=
  let c5_563 : Index := 5#32
  let c112_564 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2505 : Index := Scalar.indexCast v123
  ![5, 112, v2505.toNat]
def k0_off320 (k0_t2 : Fin k0_t2_loop.trips) : Fin 3 → Nat :=
  let c5_565 : Index := 5#32
  let c120_566 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2516 : Index := Scalar.indexCast v123
  ![5, 120, v2516.toNat]
def k0_off321 (k0_t2 : Fin k0_t2_loop.trips) : Fin 3 → Nat :=
  let c5_567 : Index := 5#32
  let c128_568 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2527 : Index := Scalar.indexCast v123
  ![5, 128, v2527.toNat]
def k0_off322 (k0_t2 : Fin k0_t2_loop.trips) : Fin 3 → Nat :=
  let c5_569 : Index := 5#32
  let c136_570 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2538 : Index := Scalar.indexCast v123
  ![5, 136, v2538.toNat]
def k0_off323 (k0_t2 : Fin k0_t2_loop.trips) : Fin 3 → Nat :=
  let c5_571 : Index := 5#32
  let c144_572 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2549 : Index := Scalar.indexCast v123
  ![5, 144, v2549.toNat]
def k0_off324 (k0_t2 : Fin k0_t2_loop.trips) : Fin 3 → Nat :=
  let c5_573 : Index := 5#32
  let c152_574 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2560 : Index := Scalar.indexCast v123
  ![5, 152, v2560.toNat]
def k0_off325 (k0_t2 : Fin k0_t2_loop.trips) : Fin 3 → Nat :=
  let c5_575 : Index := 5#32
  let c160_576 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2571 : Index := Scalar.indexCast v123
  ![5, 160, v2571.toNat]
def k0_off326 (k0_t2 : Fin k0_t2_loop.trips) : Fin 3 → Nat :=
  let c5_577 : Index := 5#32
  let c168_578 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2582 : Index := Scalar.indexCast v123
  ![5, 168, v2582.toNat]
def k0_off327 (k0_t2 : Fin k0_t2_loop.trips) : Fin 3 → Nat :=
  let c5_579 : Index := 5#32
  let c176_580 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2593 : Index := Scalar.indexCast v123
  ![5, 176, v2593.toNat]
def k0_off328 (k0_t2 : Fin k0_t2_loop.trips) : Fin 3 → Nat :=
  let c5_581 : Index := 5#32
  let c184_582 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2604 : Index := Scalar.indexCast v123
  ![5, 184, v2604.toNat]
def k0_off329 (k0_t2 : Fin k0_t2_loop.trips) : Fin 3 → Nat :=
  let c5_583 : Index := 5#32
  let c192_584 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2615 : Index := Scalar.indexCast v123
  ![5, 192, v2615.toNat]
def k0_off330 (k0_t2 : Fin k0_t2_loop.trips) : Fin 3 → Nat :=
  let c5_585 : Index := 5#32
  let c200_586 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2626 : Index := Scalar.indexCast v123
  ![5, 200, v2626.toNat]
def k0_off331 (k0_t2 : Fin k0_t2_loop.trips) : Fin 3 → Nat :=
  let c5_587 : Index := 5#32
  let c208_588 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2637 : Index := Scalar.indexCast v123
  ![5, 208, v2637.toNat]
def k0_off332 (k0_t2 : Fin k0_t2_loop.trips) : Fin 3 → Nat :=
  let c5_589 : Index := 5#32
  let c216_590 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2648 : Index := Scalar.indexCast v123
  ![5, 216, v2648.toNat]
def k0_off333 (k0_t2 : Fin k0_t2_loop.trips) : Fin 3 → Nat :=
  let c5_591 : Index := 5#32
  let c224_592 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2659 : Index := Scalar.indexCast v123
  ![5, 224, v2659.toNat]
def k0_off334 (k0_t2 : Fin k0_t2_loop.trips) : Fin 3 → Nat :=
  let c5_593 : Index := 5#32
  let c232_594 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2670 : Index := Scalar.indexCast v123
  ![5, 232, v2670.toNat]
def k0_off335 (k0_t2 : Fin k0_t2_loop.trips) : Fin 3 → Nat :=
  let c5_595 : Index := 5#32
  let c240_596 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2681 : Index := Scalar.indexCast v123
  ![5, 240, v2681.toNat]
def k0_off336 (k0_t2 : Fin k0_t2_loop.trips) : Fin 3 → Nat :=
  let c5_597 : Index := 5#32
  let c248_598 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2692 : Index := Scalar.indexCast v123
  ![5, 248, v2692.toNat]
def k0_off337 (k0_t2 : Fin k0_t2_loop.trips) : Fin 3 → Nat :=
  let c5_599 : Index := 5#32
  let c256_600 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2703 : Index := Scalar.indexCast v123
  ![5, 256, v2703.toNat]
def k0_off338 (k0_t2 : Fin k0_t2_loop.trips) : Fin 3 → Nat :=
  let c5_601 : Index := 5#32
  let c264_602 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2712 : Index := Scalar.indexCast v123
  ![5, 264, v2712.toNat]
def k0_off339 (k0_t2 : Fin k0_t2_loop.trips) : Fin 3 → Nat :=
  let c5_603 : Index := 5#32
  let c272_604 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2719 : Index := Scalar.indexCast v123
  ![5, 272, v2719.toNat]
def k0_off340 (k0_t2 : Fin k0_t2_loop.trips) : Fin 3 → Nat :=
  let c6_613 : Index := 6#32
  let c0_614 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2748 : Index := Scalar.indexCast v123
  ![6, 0, v2748.toNat]
def k0_off341 (k0_t2 : Fin k0_t2_loop.trips) : Fin 3 → Nat :=
  let c6_615 : Index := 6#32
  let c8_616 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2752 : Index := Scalar.indexCast v123
  ![6, 8, v2752.toNat]
def k0_off342 (k0_t2 : Fin k0_t2_loop.trips) : Fin 3 → Nat :=
  let c6_617 : Index := 6#32
  let c16_618 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2758 : Index := Scalar.indexCast v123
  ![6, 16, v2758.toNat]
def k0_off343 (k0_t2 : Fin k0_t2_loop.trips) : Fin 3 → Nat :=
  let c6_619 : Index := 6#32
  let c24_620 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2766 : Index := Scalar.indexCast v123
  ![6, 24, v2766.toNat]
def k0_off344 (k0_t2 : Fin k0_t2_loop.trips) : Fin 3 → Nat :=
  let c6_621 : Index := 6#32
  let c32_622 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2776 : Index := Scalar.indexCast v123
  ![6, 32, v2776.toNat]
def k0_off345 (k0_t2 : Fin k0_t2_loop.trips) : Fin 3 → Nat :=
  let c6_623 : Index := 6#32
  let c40_624 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2787 : Index := Scalar.indexCast v123
  ![6, 40, v2787.toNat]
def k0_off346 (k0_t2 : Fin k0_t2_loop.trips) : Fin 3 → Nat :=
  let c6_625 : Index := 6#32
  let c48_626 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2798 : Index := Scalar.indexCast v123
  ![6, 48, v2798.toNat]
def k0_off347 (k0_t2 : Fin k0_t2_loop.trips) : Fin 3 → Nat :=
  let c6_627 : Index := 6#32
  let c56_628 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2809 : Index := Scalar.indexCast v123
  ![6, 56, v2809.toNat]
def k0_off348 (k0_t2 : Fin k0_t2_loop.trips) : Fin 3 → Nat :=
  let c6_629 : Index := 6#32
  let c64_630 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2820 : Index := Scalar.indexCast v123
  ![6, 64, v2820.toNat]
def k0_off349 (k0_t2 : Fin k0_t2_loop.trips) : Fin 3 → Nat :=
  let c6_631 : Index := 6#32
  let c72_632 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2831 : Index := Scalar.indexCast v123
  ![6, 72, v2831.toNat]
def k0_off350 (k0_t2 : Fin k0_t2_loop.trips) : Fin 3 → Nat :=
  let c6_633 : Index := 6#32
  let c80_634 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2842 : Index := Scalar.indexCast v123
  ![6, 80, v2842.toNat]
def k0_off351 (k0_t2 : Fin k0_t2_loop.trips) : Fin 3 → Nat :=
  let c6_635 : Index := 6#32
  let c88_636 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2853 : Index := Scalar.indexCast v123
  ![6, 88, v2853.toNat]
def k0_off352 (k0_t2 : Fin k0_t2_loop.trips) : Fin 3 → Nat :=
  let c6_637 : Index := 6#32
  let c96_638 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2864 : Index := Scalar.indexCast v123
  ![6, 96, v2864.toNat]
def k0_off353 (k0_t2 : Fin k0_t2_loop.trips) : Fin 3 → Nat :=
  let c6_639 : Index := 6#32
  let c104_640 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2875 : Index := Scalar.indexCast v123
  ![6, 104, v2875.toNat]
def k0_off354 (k0_t2 : Fin k0_t2_loop.trips) : Fin 3 → Nat :=
  let c6_641 : Index := 6#32
  let c112_642 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2886 : Index := Scalar.indexCast v123
  ![6, 112, v2886.toNat]
def k0_off355 (k0_t2 : Fin k0_t2_loop.trips) : Fin 3 → Nat :=
  let c6_643 : Index := 6#32
  let c120_644 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2897 : Index := Scalar.indexCast v123
  ![6, 120, v2897.toNat]
def k0_off356 (k0_t2 : Fin k0_t2_loop.trips) : Fin 3 → Nat :=
  let c6_645 : Index := 6#32
  let c128_646 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2908 : Index := Scalar.indexCast v123
  ![6, 128, v2908.toNat]
def k0_off357 (k0_t2 : Fin k0_t2_loop.trips) : Fin 3 → Nat :=
  let c6_647 : Index := 6#32
  let c136_648 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2919 : Index := Scalar.indexCast v123
  ![6, 136, v2919.toNat]
def k0_off358 (k0_t2 : Fin k0_t2_loop.trips) : Fin 3 → Nat :=
  let c6_649 : Index := 6#32
  let c144_650 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2930 : Index := Scalar.indexCast v123
  ![6, 144, v2930.toNat]
def k0_off359 (k0_t2 : Fin k0_t2_loop.trips) : Fin 3 → Nat :=
  let c6_651 : Index := 6#32
  let c152_652 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2941 : Index := Scalar.indexCast v123
  ![6, 152, v2941.toNat]
def k0_off360 (k0_t2 : Fin k0_t2_loop.trips) : Fin 3 → Nat :=
  let c6_653 : Index := 6#32
  let c160_654 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2952 : Index := Scalar.indexCast v123
  ![6, 160, v2952.toNat]
def k0_off361 (k0_t2 : Fin k0_t2_loop.trips) : Fin 3 → Nat :=
  let c6_655 : Index := 6#32
  let c168_656 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2963 : Index := Scalar.indexCast v123
  ![6, 168, v2963.toNat]
def k0_off362 (k0_t2 : Fin k0_t2_loop.trips) : Fin 3 → Nat :=
  let c6_657 : Index := 6#32
  let c176_658 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2974 : Index := Scalar.indexCast v123
  ![6, 176, v2974.toNat]
def k0_off363 (k0_t2 : Fin k0_t2_loop.trips) : Fin 3 → Nat :=
  let c6_659 : Index := 6#32
  let c184_660 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2985 : Index := Scalar.indexCast v123
  ![6, 184, v2985.toNat]
def k0_off364 (k0_t2 : Fin k0_t2_loop.trips) : Fin 3 → Nat :=
  let c6_661 : Index := 6#32
  let c192_662 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v2996 : Index := Scalar.indexCast v123
  ![6, 192, v2996.toNat]
def k0_off365 (k0_t2 : Fin k0_t2_loop.trips) : Fin 3 → Nat :=
  let c6_663 : Index := 6#32
  let c200_664 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3007 : Index := Scalar.indexCast v123
  ![6, 200, v3007.toNat]
def k0_off366 (k0_t2 : Fin k0_t2_loop.trips) : Fin 3 → Nat :=
  let c6_665 : Index := 6#32
  let c208_666 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3018 : Index := Scalar.indexCast v123
  ![6, 208, v3018.toNat]
def k0_off367 (k0_t2 : Fin k0_t2_loop.trips) : Fin 3 → Nat :=
  let c6_667 : Index := 6#32
  let c216_668 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3029 : Index := Scalar.indexCast v123
  ![6, 216, v3029.toNat]
def k0_off368 (k0_t2 : Fin k0_t2_loop.trips) : Fin 3 → Nat :=
  let c6_669 : Index := 6#32
  let c224_670 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3040 : Index := Scalar.indexCast v123
  ![6, 224, v3040.toNat]
def k0_off369 (k0_t2 : Fin k0_t2_loop.trips) : Fin 3 → Nat :=
  let c6_671 : Index := 6#32
  let c232_672 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3051 : Index := Scalar.indexCast v123
  ![6, 232, v3051.toNat]
def k0_off370 (k0_t2 : Fin k0_t2_loop.trips) : Fin 3 → Nat :=
  let c6_673 : Index := 6#32
  let c240_674 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3062 : Index := Scalar.indexCast v123
  ![6, 240, v3062.toNat]
def k0_off371 (k0_t2 : Fin k0_t2_loop.trips) : Fin 3 → Nat :=
  let c6_675 : Index := 6#32
  let c248_676 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3073 : Index := Scalar.indexCast v123
  ![6, 248, v3073.toNat]
def k0_off372 (k0_t2 : Fin k0_t2_loop.trips) : Fin 3 → Nat :=
  let c6_677 : Index := 6#32
  let c256_678 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3084 : Index := Scalar.indexCast v123
  ![6, 256, v3084.toNat]
def k0_off373 (k0_t2 : Fin k0_t2_loop.trips) : Fin 3 → Nat :=
  let c6_679 : Index := 6#32
  let c264_680 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3093 : Index := Scalar.indexCast v123
  ![6, 264, v3093.toNat]
def k0_off374 (k0_t2 : Fin k0_t2_loop.trips) : Fin 3 → Nat :=
  let c6_681 : Index := 6#32
  let c272_682 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v122 : BitVec 32 := Scalar.muli arg17 c128_i32
  let v123 : BitVec 32 := v122
  let v3100 : Index := Scalar.indexCast v123
  ![6, 272, v3100.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S8192x3072 : Shape := ⟨2, ![8192, 3072]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S8222x1024 : Shape := ⟨2, ![8222, 1024]⟩
abbrev S1024 : Shape := ⟨1, ![1024]⟩

abbrev nBuf : Space → Nat
  | .hbm => 565
  | .vmem => 0
  | .smem => 0
  | _ => 0

abbrev hbmTy0_0 (i : Nat) : BufTy := match i % 128 with
  | 0 => ⟨S8192x1024, .f32⟩
  | 1 => ⟨S8192x3072, .bf16⟩
  | 2 => ⟨S31x1024, .f32⟩
  | 3 => ⟨S1x1024, .f32⟩
  | 4 => ⟨S8192x3072, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S30x1024, .f32⟩
  | 22 => ⟨S8222x1024, .f32⟩
  | 23 => ⟨S_, .f32⟩
  | 24 => ⟨S30x1024, .f32⟩
  | 25 => ⟨S_, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S1x1024, .f32⟩
  | 94 => ⟨S8192x1024, .f32⟩
  | 95 => ⟨S8192x1024, .f32⟩
  | 96 => ⟨S8192x1024, .f32⟩
  | 97 => ⟨S8192x1024, .f32⟩
  | 98 => ⟨S1x1024, .f32⟩
  | 99 => ⟨S8192x1024, .f32⟩
  | 100 => ⟨S8192x1024, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S1x1024, .f32⟩
  | 114 => ⟨S8192x1024, .f32⟩
  | 115 => ⟨S8192x1024, .f32⟩
  | 116 => ⟨S8192x1024, .f32⟩
  | 117 => ⟨S8192x1024, .f32⟩
  | 118 => ⟨S1x1024, .f32⟩
  | 119 => ⟨S8192x1024, .f32⟩
  | 120 => ⟨S8192x1024, .f32⟩
  | 121 => ⟨S8192x1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S1x1024, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S_, .f32⟩
  | 67 => ⟨S31x1024, .f32⟩
  | 68 => ⟨S_, .f32⟩
  | 69 => ⟨S8222x1024, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S_, .f32⟩
  | 77 => ⟨S31x1024, .f32⟩
  | 78 => ⟨S31x1024, .f32⟩
  | 79 => ⟨S_, .f32⟩
  | 80 => ⟨S8222x1024, .f32⟩
  | 81 => ⟨S8222x1024, .f32⟩
  | 82 => ⟨S8192x1024, .f32⟩
  | 83 => ⟨S_, .f32⟩
  | 84 => ⟨S1024, .f32⟩
  | 85 => ⟨S1x1024, .f32⟩
  | 86 => ⟨S8192x1024, .f32⟩
  | 87 => ⟨S8192x1024, .f32⟩
  | 88 => ⟨S_, .f32⟩
  | 89 => ⟨S31x1024, .f32⟩
  | 90 => ⟨S31x1024, .f32⟩
  | 91 => ⟨S_, .f32⟩
  | 92 => ⟨S8222x1024, .f32⟩
  | 93 => ⟨S8222x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S_, .f32⟩
  | 101 => ⟨S31x1024, .f32⟩
  | 102 => ⟨S31x1024, .f32⟩
  | 103 => ⟨S_, .f32⟩
  | 104 => ⟨S8222x1024, .f32⟩
  | 105 => ⟨S8222x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S31x1024, .f32⟩
  | 114 => ⟨S31x1024, .f32⟩
  | 115 => ⟨S_, .f32⟩
  | 116 => ⟨S8222x1024, .f32⟩
  | 117 => ⟨S8222x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S31x1024, .f32⟩
  | 126 => ⟨S31x1024, .f32⟩
  | 127 => ⟨S_, .f32⟩
  | _ => ⟨S8192x1024, .f32⟩

abbrev hbmTy0_2 (i : Nat) : BufTy := match i % 128 with
  | 0 => ⟨S8222x1024, .f32⟩
  | 1 => ⟨S8222x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S31x1024, .f32⟩
  | 10 => ⟨S31x1024, .f32⟩
  | 11 => ⟨S_, .f32⟩
  | 12 => ⟨S8222x1024, .f32⟩
  | 13 => ⟨S8222x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S_, .f32⟩
  | 21 => ⟨S31x1024, .f32⟩
  | 22 => ⟨S31x1024, .f32⟩
  | 23 => ⟨S_, .f32⟩
  | 24 => ⟨S8222x1024, .f32⟩
  | 25 => ⟨S8222x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S_, .f32⟩
  | 33 => ⟨S31x1024, .f32⟩
  | 34 => ⟨S31x1024, .f32⟩
  | 35 => ⟨S_, .f32⟩
  | 36 => ⟨S8222x1024, .f32⟩
  | 37 => ⟨S8222x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S31x1024, .f32⟩
  | 46 => ⟨S31x1024, .f32⟩
  | 47 => ⟨S_, .f32⟩
  | 48 => ⟨S8222x1024, .f32⟩
  | 49 => ⟨S8222x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S31x1024, .f32⟩
  | 58 => ⟨S31x1024, .f32⟩
  | 59 => ⟨S_, .f32⟩
  | 60 => ⟨S8222x1024, .f32⟩
  | 61 => ⟨S8222x1024, .f32⟩
  | 62 => ⟨S8192x1024, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S_, .f32⟩
  | 69 => ⟨S31x1024, .f32⟩
  | 70 => ⟨S31x1024, .f32⟩
  | 71 => ⟨S_, .f32⟩
  | 72 => ⟨S8222x1024, .f32⟩
  | 73 => ⟨S8222x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S8192x1024, .f32⟩
  | 80 => ⟨S_, .f32⟩
  | 81 => ⟨S31x1024, .f32⟩
  | 82 => ⟨S31x1024, .f32⟩
  | 83 => ⟨S_, .f32⟩
  | 84 => ⟨S8222x1024, .f32⟩
  | 85 => ⟨S8222x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S_, .f32⟩
  | 93 => ⟨S31x1024, .f32⟩
  | 94 => ⟨S31x1024, .f32⟩
  | 95 => ⟨S_, .f32⟩
  | 96 => ⟨S8222x1024, .f32⟩
  | 97 => ⟨S8222x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S31x1024, .f32⟩
  | 106 => ⟨S31x1024, .f32⟩
  | 107 => ⟨S_, .f32⟩
  | 108 => ⟨S8222x1024, .f32⟩
  | 109 => ⟨S8222x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S_, .f32⟩
  | 117 => ⟨S31x1024, .f32⟩
  | 118 => ⟨S31x1024, .f32⟩
  | 119 => ⟨S_, .f32⟩
  | 120 => ⟨S8222x1024, .f32⟩
  | 121 => ⟨S8222x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_3 (i : Nat) : BufTy := match i % 128 with
  | 0 => ⟨S_, .f32⟩
  | 1 => ⟨S31x1024, .f32⟩
  | 2 => ⟨S31x1024, .f32⟩
  | 3 => ⟨S_, .f32⟩
  | 4 => ⟨S8222x1024, .f32⟩
  | 5 => ⟨S8222x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S31x1024, .f32⟩
  | 14 => ⟨S31x1024, .f32⟩
  | 15 => ⟨S_, .f32⟩
  | 16 => ⟨S8222x1024, .f32⟩
  | 17 => ⟨S8222x1024, .f32⟩
  | 18 => ⟨S8192x1024, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S_, .f32⟩
  | 25 => ⟨S31x1024, .f32⟩
  | 26 => ⟨S31x1024, .f32⟩
  | 27 => ⟨S_, .f32⟩
  | 28 => ⟨S8222x1024, .f32⟩
  | 29 => ⟨S8222x1024, .f32⟩
  | 30 => ⟨S8192x1024, .f32⟩
  | 31 => ⟨S_, .f32⟩
  | 32 => ⟨S1024, .f32⟩
  | 33 => ⟨S1x1024, .f32⟩
  | 34 => ⟨S8192x1024, .f32⟩
  | 35 => ⟨S8192x1024, .f32⟩
  | 36 => ⟨S_, .f32⟩
  | 37 => ⟨S31x1024, .f32⟩
  | 38 => ⟨S31x1024, .f32⟩
  | 39 => ⟨S_, .f32⟩
  | 40 => ⟨S8222x1024, .f32⟩
  | 41 => ⟨S8222x1024, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S_, .f32⟩
  | 49 => ⟨S31x1024, .f32⟩
  | 50 => ⟨S31x1024, .f32⟩
  | 51 => ⟨S_, .f32⟩
  | 52 => ⟨S8222x1024, .f32⟩
  | 53 => ⟨S8222x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S_, .f32⟩
  | 61 => ⟨S31x1024, .f32⟩
  | 62 => ⟨S31x1024, .f32⟩
  | 63 => ⟨S_, .f32⟩
  | 64 => ⟨S8222x1024, .f32⟩
  | 65 => ⟨S8222x1024, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S_, .f32⟩
  | 73 => ⟨S31x1024, .f32⟩
  | 74 => ⟨S31x1024, .f32⟩
  | 75 => ⟨S_, .f32⟩
  | 76 => ⟨S8222x1024, .f32⟩
  | 77 => ⟨S8222x1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S_, .f32⟩
  | 85 => ⟨S31x1024, .f32⟩
  | 86 => ⟨S31x1024, .f32⟩
  | 87 => ⟨S_, .f32⟩
  | 88 => ⟨S8222x1024, .f32⟩
  | 89 => ⟨S8222x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S_, .f32⟩
  | 97 => ⟨S31x1024, .f32⟩
  | 98 => ⟨S31x1024, .f32⟩
  | 99 => ⟨S_, .f32⟩
  | 100 => ⟨S8222x1024, .f32⟩
  | 101 => ⟨S8222x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S31x1024, .f32⟩
  | 110 => ⟨S31x1024, .f32⟩
  | 111 => ⟨S_, .f32⟩
  | 112 => ⟨S8222x1024, .f32⟩
  | 113 => ⟨S8222x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S31x1024, .f32⟩
  | 122 => ⟨S31x1024, .f32⟩
  | 123 => ⟨S_, .f32⟩
  | 124 => ⟨S8222x1024, .f32⟩
  | 125 => ⟨S8222x1024, .f32⟩
  | 126 => ⟨S8192x1024, .f32⟩
  | 127 => ⟨S_, .f32⟩
  | _ => ⟨S8192x1024, .f32⟩

abbrev hbmTy0_4 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S31x1024, .f32⟩
  | 6 => ⟨S31x1024, .f32⟩
  | 7 => ⟨S_, .f32⟩
  | 8 => ⟨S8222x1024, .f32⟩
  | 9 => ⟨S8222x1024, .f32⟩
  | 10 => ⟨S8192x1024, .f32⟩
  | 11 => ⟨S_, .f32⟩
  | 12 => ⟨S1024, .f32⟩
  | 13 => ⟨S1x1024, .f32⟩
  | 14 => ⟨S8192x1024, .f32⟩
  | 15 => ⟨S8192x1024, .f32⟩
  | 16 => ⟨S_, .f32⟩
  | 17 => ⟨S31x1024, .f32⟩
  | 18 => ⟨S31x1024, .f32⟩
  | 19 => ⟨S_, .f32⟩
  | 20 => ⟨S8222x1024, .f32⟩
  | 21 => ⟨S8222x1024, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S8192x1024, .f32⟩
  | 28 => ⟨S_, .f32⟩
  | 29 => ⟨S31x1024, .f32⟩
  | 30 => ⟨S31x1024, .f32⟩
  | 31 => ⟨S_, .f32⟩
  | 32 => ⟨S8222x1024, .f32⟩
  | 33 => ⟨S8222x1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S8192x1024, .f32⟩
  | 40 => ⟨S_, .f32⟩
  | 41 => ⟨S31x1024, .f32⟩
  | 42 => ⟨S31x1024, .f32⟩
  | 43 => ⟨S_, .f32⟩
  | 44 => ⟨S8222x1024, .f32⟩
  | 45 => ⟨S8222x1024, .f32⟩
  | 46 => ⟨S30x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .bf16⟩
  | 52 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_cst_5 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_cst_6 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_cst_7 : Ref sig .tc := ⟨.hbm, 194, rfl⟩
abbrev main_v182 : Ref sig .tc := ⟨.hbm, 195, rfl⟩
abbrev main_cst_8 : Ref sig .tc := ⟨.hbm, 196, rfl⟩
abbrev main_v183 : Ref sig .tc := ⟨.hbm, 197, rfl⟩
abbrev main_v184 : Ref sig .tc := ⟨.hbm, 198, rfl⟩
abbrev main_cst_9 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_cst_10 : Ref sig .tc := ⟨.hbm, 204, rfl⟩
abbrev main_v189 : Ref sig .tc := ⟨.hbm, 205, rfl⟩
abbrev main_v190 : Ref sig .tc := ⟨.hbm, 206, rfl⟩
abbrev main_cst_11 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_cst_12 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_cst_13 : Ref sig .tc := ⟨.hbm, 216, rfl⟩
abbrev main_v198 : Ref sig .tc := ⟨.hbm, 217, rfl⟩
abbrev main_v199 : Ref sig .tc := ⟨.hbm, 218, rfl⟩
abbrev main_cst_14 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_cst_15 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_cst_16 : Ref sig .tc := ⟨.hbm, 228, rfl⟩
abbrev main_v207 : Ref sig .tc := ⟨.hbm, 229, rfl⟩
abbrev main_v208 : Ref sig .tc := ⟨.hbm, 230, rfl⟩
abbrev main_cst_17 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_cst_18 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_cst_19 : Ref sig .tc := ⟨.hbm, 240, rfl⟩
abbrev main_v216 : Ref sig .tc := ⟨.hbm, 241, rfl⟩
abbrev main_v217 : Ref sig .tc := ⟨.hbm, 242, rfl⟩
abbrev main_cst_20 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_cst_21 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_cst_22 : Ref sig .tc := ⟨.hbm, 252, rfl⟩
abbrev main_v225 : Ref sig .tc := ⟨.hbm, 253, rfl⟩
abbrev main_v226 : Ref sig .tc := ⟨.hbm, 254, rfl⟩
abbrev main_cst_23 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_cst_24 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_cst_25 : Ref sig .tc := ⟨.hbm, 264, rfl⟩
abbrev main_v234 : Ref sig .tc := ⟨.hbm, 265, rfl⟩
abbrev main_v235 : Ref sig .tc := ⟨.hbm, 266, rfl⟩
abbrev main_cst_26 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_cst_27 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_cst_28 : Ref sig .tc := ⟨.hbm, 276, rfl⟩
abbrev main_v243 : Ref sig .tc := ⟨.hbm, 277, rfl⟩
abbrev main_v244 : Ref sig .tc := ⟨.hbm, 278, rfl⟩
abbrev main_cst_29 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_cst_30 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_cst_31 : Ref sig .tc := ⟨.hbm, 288, rfl⟩
abbrev main_v252 : Ref sig .tc := ⟨.hbm, 289, rfl⟩
abbrev main_v253 : Ref sig .tc := ⟨.hbm, 290, rfl⟩
abbrev main_cst_32 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_cst_33 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_cst_34 : Ref sig .tc := ⟨.hbm, 300, rfl⟩
abbrev main_v261 : Ref sig .tc := ⟨.hbm, 301, rfl⟩
abbrev main_v262 : Ref sig .tc := ⟨.hbm, 302, rfl⟩
abbrev main_cst_35 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_cst_36 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_cst_37 : Ref sig .tc := ⟨.hbm, 312, rfl⟩
abbrev main_v270 : Ref sig .tc := ⟨.hbm, 313, rfl⟩
abbrev main_v271 : Ref sig .tc := ⟨.hbm, 314, rfl⟩
abbrev main_cst_38 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_cst_39 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_cst_40 : Ref sig .tc := ⟨.hbm, 324, rfl⟩
abbrev main_v279 : Ref sig .tc := ⟨.hbm, 325, rfl⟩
abbrev main_v280 : Ref sig .tc := ⟨.hbm, 326, rfl⟩
abbrev main_cst_41 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_cst_42 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_cst_43 : Ref sig .tc := ⟨.hbm, 336, rfl⟩
abbrev main_v288 : Ref sig .tc := ⟨.hbm, 337, rfl⟩
abbrev main_v289 : Ref sig .tc := ⟨.hbm, 338, rfl⟩
abbrev main_cst_44 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_cst_45 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_cst_46 : Ref sig .tc := ⟨.hbm, 348, rfl⟩
abbrev main_v297 : Ref sig .tc := ⟨.hbm, 349, rfl⟩
abbrev main_v298 : Ref sig .tc := ⟨.hbm, 350, rfl⟩
abbrev main_cst_47 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_cst_48 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_cst_49 : Ref sig .tc := ⟨.hbm, 360, rfl⟩
abbrev main_v306 : Ref sig .tc := ⟨.hbm, 361, rfl⟩
abbrev main_v307 : Ref sig .tc := ⟨.hbm, 362, rfl⟩
abbrev main_cst_50 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_cst_51 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_cst_52 : Ref sig .tc := ⟨.hbm, 372, rfl⟩
abbrev main_v315 : Ref sig .tc := ⟨.hbm, 373, rfl⟩
abbrev main_v316 : Ref sig .tc := ⟨.hbm, 374, rfl⟩
abbrev main_cst_53 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_cst_54 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_cst_55 : Ref sig .tc := ⟨.hbm, 384, rfl⟩
abbrev main_v324 : Ref sig .tc := ⟨.hbm, 385, rfl⟩
abbrev main_v325 : Ref sig .tc := ⟨.hbm, 386, rfl⟩
abbrev main_cst_56 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_cst_57 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_cst_58 : Ref sig .tc := ⟨.hbm, 396, rfl⟩
abbrev main_v333 : Ref sig .tc := ⟨.hbm, 397, rfl⟩
abbrev main_v334 : Ref sig .tc := ⟨.hbm, 398, rfl⟩
abbrev main_cst_59 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_cst_60 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_cst_61 : Ref sig .tc := ⟨.hbm, 408, rfl⟩
abbrev main_v342 : Ref sig .tc := ⟨.hbm, 409, rfl⟩
abbrev main_v343 : Ref sig .tc := ⟨.hbm, 410, rfl⟩
abbrev main_cst_62 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_cst_63 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_cst_64 : Ref sig .tc := ⟨.hbm, 420, rfl⟩
abbrev main_v351 : Ref sig .tc := ⟨.hbm, 421, rfl⟩
abbrev main_v352 : Ref sig .tc := ⟨.hbm, 422, rfl⟩
abbrev main_cst_65 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_cst_66 : Ref sig .tc := ⟨.hbm, 427, rfl⟩
abbrev main_v356 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_cst_67 : Ref sig .tc := ⟨.hbm, 432, rfl⟩
abbrev main_v360 : Ref sig .tc := ⟨.hbm, 433, rfl⟩
abbrev main_v361 : Ref sig .tc := ⟨.hbm, 434, rfl⟩
abbrev main_cst_68 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩
abbrev main_cst_69 : Ref sig .tc := ⟨.hbm, 439, rfl⟩
abbrev main_v365 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_cst_70 : Ref sig .tc := ⟨.hbm, 444, rfl⟩
abbrev main_v369 : Ref sig .tc := ⟨.hbm, 445, rfl⟩
abbrev main_v370 : Ref sig .tc := ⟨.hbm, 446, rfl⟩
abbrev main_cst_71 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_cst_72 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_cst_73 : Ref sig .tc := ⟨.hbm, 456, rfl⟩
abbrev main_v378 : Ref sig .tc := ⟨.hbm, 457, rfl⟩
abbrev main_v379 : Ref sig .tc := ⟨.hbm, 458, rfl⟩
abbrev main_cst_74 : Ref sig .tc := ⟨.hbm, 459, rfl⟩
abbrev main_v380 : Ref sig .tc := ⟨.hbm, 460, rfl⟩
abbrev main_v381 : Ref sig .tc := ⟨.hbm, 461, rfl⟩
abbrev main_v382 : Ref sig .tc := ⟨.hbm, 462, rfl⟩
abbrev main_cst_75 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_cst_76 : Ref sig .tc := ⟨.hbm, 468, rfl⟩
abbrev main_v387 : Ref sig .tc := ⟨.hbm, 469, rfl⟩
abbrev main_v388 : Ref sig .tc := ⟨.hbm, 470, rfl⟩
abbrev main_cst_77 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_cst_78 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_cst_79 : Ref sig .tc := ⟨.hbm, 480, rfl⟩
abbrev main_v396 : Ref sig .tc := ⟨.hbm, 481, rfl⟩
abbrev main_v397 : Ref sig .tc := ⟨.hbm, 482, rfl⟩
abbrev main_cst_80 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_cst_81 : Ref sig .tc := ⟨.hbm, 487, rfl⟩
abbrev main_v401 : Ref sig .tc := ⟨.hbm, 488, rfl⟩
abbrev main_v402 : Ref sig .tc := ⟨.hbm, 489, rfl⟩
abbrev main_v403 : Ref sig .tc := ⟨.hbm, 490, rfl⟩
abbrev main_v404 : Ref sig .tc := ⟨.hbm, 491, rfl⟩
abbrev main_cst_82 : Ref sig .tc := ⟨.hbm, 492, rfl⟩
abbrev main_v405 : Ref sig .tc := ⟨.hbm, 493, rfl⟩
abbrev main_v406 : Ref sig .tc := ⟨.hbm, 494, rfl⟩
abbrev main_cst_83 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_cst_84 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_cst_85 : Ref sig .tc := ⟨.hbm, 504, rfl⟩
abbrev main_v414 : Ref sig .tc := ⟨.hbm, 505, rfl⟩
abbrev main_v415 : Ref sig .tc := ⟨.hbm, 506, rfl⟩
abbrev main_cst_86 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_cst_87 : Ref sig .tc := ⟨.hbm, 511, rfl⟩
abbrev main_v419 : Ref sig .tc := ⟨.hbm, 512, rfl⟩
abbrev main_v420 : Ref sig .tc := ⟨.hbm, 513, rfl⟩
abbrev main_v421 : Ref sig .tc := ⟨.hbm, 514, rfl⟩
abbrev main_v422 : Ref sig .tc := ⟨.hbm, 515, rfl⟩
abbrev main_cst_88 : Ref sig .tc := ⟨.hbm, 516, rfl⟩
abbrev main_v423 : Ref sig .tc := ⟨.hbm, 517, rfl⟩
abbrev main_v424 : Ref sig .tc := ⟨.hbm, 518, rfl⟩
abbrev main_cst_89 : Ref sig .tc := ⟨.hbm, 519, rfl⟩
abbrev main_v425 : Ref sig .tc := ⟨.hbm, 520, rfl⟩
abbrev main_v426 : Ref sig .tc := ⟨.hbm, 521, rfl⟩
abbrev main_v427 : Ref sig .tc := ⟨.hbm, 522, rfl⟩
abbrev main_cst_90 : Ref sig .tc := ⟨.hbm, 523, rfl⟩
abbrev main_v428 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_cst_91 : Ref sig .tc := ⟨.hbm, 528, rfl⟩
abbrev main_v432 : Ref sig .tc := ⟨.hbm, 529, rfl⟩
abbrev main_v433 : Ref sig .tc := ⟨.hbm, 530, rfl⟩
abbrev main_cst_92 : Ref sig .tc := ⟨.hbm, 531, rfl⟩
abbrev main_v434 : Ref sig .tc := ⟨.hbm, 532, rfl⟩
abbrev main_v435 : Ref sig .tc := ⟨.hbm, 533, rfl⟩
abbrev main_v436 : Ref sig .tc := ⟨.hbm, 534, rfl⟩
abbrev main_cst_93 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_cst_94 : Ref sig .tc := ⟨.hbm, 540, rfl⟩
abbrev main_v441 : Ref sig .tc := ⟨.hbm, 541, rfl⟩
abbrev main_v442 : Ref sig .tc := ⟨.hbm, 542, rfl⟩
abbrev main_cst_95 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_cst_96 : Ref sig .tc := ⟨.hbm, 547, rfl⟩
abbrev main_v446 : Ref sig .tc := ⟨.hbm, 548, rfl⟩
abbrev main_v447 : Ref sig .tc := ⟨.hbm, 549, rfl⟩
abbrev main_v448 : Ref sig .tc := ⟨.hbm, 550, rfl⟩
abbrev main_v449 : Ref sig .tc := ⟨.hbm, 551, rfl⟩
abbrev main_cst_97 : Ref sig .tc := ⟨.hbm, 552, rfl⟩
abbrev main_v450 : Ref sig .tc := ⟨.hbm, 553, rfl⟩
abbrev main_v451 : Ref sig .tc := ⟨.hbm, 554, rfl⟩
abbrev main_cst_98 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_v460 : Ref sig .tc := ⟨.hbm, 564, rfl⟩

abbrev nD : Nat := 1
abbrev τ : Topo := Topo.v7x

variable {F : FTy → Type} [FloatOps F]
-- ==== NormGrad.lean ====
abbrev S8192x1024 : Shape := ⟨2, ![8192, 1024]⟩
abbrev S4x1024x768 : Shape := ⟨3, ![4, 1024, 768]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩
abbrev S1x1024x768 : Shape := ⟨3, ![1, 1024, 768]⟩
abbrev S1024x768 : Shape := ⟨2, ![1024, 768]⟩
abbrev S512x256 : Shape := ⟨2, ![512, 256]⟩
abbrev S1x1024x256 : Shape := ⟨3, ![1, 1024, 256]⟩
abbrev S1024x256 : Shape := ⟨2, ![1024, 256]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S4x1024x768, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S4x1024x768, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x1024x768, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormGradReferenceIdeal.lean ====
abbrev S8192x1024 : Shape := ⟨2, ![8192, 1024]⟩
abbrev S4x1024x768 : Shape := ⟨3, ![4, 1024, 768]⟩
abbrev S1x1024 : Shape := ⟨2, ![1, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024x4x768 : Shape := ⟨3, ![1024, 4, 768]⟩
abbrev S1024x3072 : Shape := ⟨2, ![1024, 3072]⟩
abbrev S3072x1024 : Shape := ⟨2, ![3072, 1024]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S4x1024x768, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x3072, .bf16⟩
  | .hbm, ⟨8, _⟩ => ⟨S8192x3072, .f32⟩
  | .hbm, ⟨9, _⟩ => ⟨S4x1024x768, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x4x768, .f32⟩
  | .hbm, ⟨30, _⟩ => ⟨S1024x3072, .f32⟩
  | .hbm, ⟨31, _⟩ => ⟨S8192x3072, .f32⟩
  | .hbm, ⟨32, _⟩ => ⟨S3072x1024, .f32⟩
  | .hbm, ⟨33, _⟩ => ⟨S1024x3072, .f32⟩
  | .hbm, ⟨34, _⟩ => ⟨S8192x1024, .f32⟩
  | .hbm, ⟨35, _⟩ => ⟨S1024x4x768, .f32⟩
  | .hbm, ⟨36, _⟩ => ⟨S4x1024x768, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Project.lean ====
abbrev S8192x1024 : Shape := ⟨2, ![8192, 1024]⟩
abbrev S1x1024 : Shape := ⟨2, ![1, 1024]⟩
abbrev S4x1024x768 : Shape := ⟨3, ![4, 1024, 768]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x768, .bf16⟩
  | .hbm, ⟨3, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x3072, .bf16⟩
  | .local _ .vmem, ⟨5, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReferenceIdeal.lean ====
abbrev S8192x1024 : Shape := ⟨2, ![8192, 1024]⟩
abbrev S1x1024 : Shape := ⟨2, ![1, 1024]⟩
abbrev S4x1024x768 : Shape := ⟨3, ![4, 1024, 768]⟩
abbrev S_ : Shape := ⟨0, ![]⟩
abbrev S8192 : Shape := ⟨1, ![8192]⟩
abbrev S8192x1 : Shape := ⟨2, ![8192, 1]⟩
abbrev S1024x4x768 : Shape := ⟨3, ![1024, 4, 768]⟩
abbrev S1024x3072 : Shape := ⟨2, ![1024, 3072]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x768, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x768, .f32⟩
  | .hbm, ⟨19, _⟩ => ⟨S1024x4x768, .f32⟩
  | .hbm, ⟨20, _⟩ => ⟨S1024x3072, .f32⟩
  | .hbm, ⟨21, _⟩ => ⟨S8192x3072, .f32⟩
  | .hbm, ⟨22, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GateGrad.lean ====
abbrev S8192x1024 : Shape := ⟨2, ![8192, 1024]⟩
abbrev S1024x1024 : Shape := ⟨2, ![1024, 1024]⟩
abbrev S8192x3072 : Shape := ⟨2, ![8192, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 58
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x3072, .bf16⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S8192x1024, .f32⟩
  | .hbm, ⟨54, _⟩ => ⟨S8192x1024, .bf16⟩
  | .hbm, ⟨55, _⟩ => ⟨S1024x1024, .f32⟩
  | .hbm, ⟨56, _⟩ => ⟨S1x1024, .f32⟩
  | .hbm, ⟨57, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev main_v26_3 : Ref sig .tc := ⟨.hbm, 56, rfl⟩
abbrev main_v26_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateGradReferenceIdeal.lean ====
abbrev S8192x1024 : Shape := ⟨2, ![8192, 1024]⟩
abbrev S1024x1024 : Shape := ⟨2, ![1024, 1024]⟩
abbrev S8192x3072 : Shape := ⟨2, ![8192, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x3072, .bf16⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S1024x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1024x1024, .f32⟩
  | .hbm, ⟨70, _⟩ => ⟨S1024x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S8192, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S_, .f32⟩
  | .hbm, ⟨114, _⟩ => ⟨S8192, .f32⟩
  | .hbm, ⟨115, _⟩ => ⟨S8192x1024, .f32⟩
  | .hbm, ⟨116, _⟩ => ⟨S8192x1024, .f32⟩
  | .hbm, ⟨117, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v28_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v28_1 : Ref sig .tc := ⟨.hbm, 52, rfl⟩
abbrev main_v28_0 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_v29_2 : Ref sig .tc := ⟨.hbm, 61, rfl⟩
abbrev main_call1_cst_1 : Ref sig .tc := ⟨.hbm, 62, rfl⟩
abbrev main_call1_v6 : Ref sig .tc := ⟨.hbm, 63, rfl⟩
abbrev main_call1_v7 : Ref sig .tc := ⟨.hbm, 64, rfl⟩
abbrev main_v29_1 : Ref sig .tc := ⟨.hbm, 65, rfl⟩
abbrev main_v29_0 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v37 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v38 : Ref sig .tc := ⟨.hbm, 81, rfl⟩
abbrev main_cst_6 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_8 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_9 : Ref sig .tc := ⟨.hbm, 98, rfl⟩
abbrev main_v52 : Ref sig .tc := ⟨.hbm, 99, rfl⟩
abbrev main_v53 : Ref sig .tc := ⟨.hbm, 100, rfl⟩
abbrev main_cst_10 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_11 : Ref sig .tc := ⟨.hbm, 107, rfl⟩
abbrev main_v59 : Ref sig .tc := ⟨.hbm, 108, rfl⟩
abbrev main_v60 : Ref sig .tc := ⟨.hbm, 109, rfl⟩
abbrev main_cst_12 : Ref sig .tc := ⟨.hbm, 110, rfl⟩
abbrev main_v61 : Ref sig .tc := ⟨.hbm, 111, rfl⟩
abbrev main_v62 : Ref sig .tc := ⟨.hbm, 112, rfl⟩
abbrev main_cst_13 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩

abbrev nD : Nat := 1
abbrev τ : Topo := Topo.v7x

variable {F : FTy → Type} [FloatOps F]
-- ==== ConvForward.lean ====
abbrev S8192x3072 : Shape := ⟨2, ![8192, 3072]⟩
abbrev S31x1024 : Shape := ⟨2, ![31, 1024]⟩
abbrev S1x1024 : Shape := ⟨2, ![1, 1024]⟩
abbrev S32x1024 : Shape := ⟨2, ![32, 1024]⟩
abbrev S8192x1024 : Shape := ⟨2, ![8192, 1024]⟩
abbrev S256x1024 : Shape := ⟨2, ![256, 1024]⟩
abbrev S288x1024 : Shape := ⟨2, ![288, 1024]⟩
abbrev S7x280x1024 : Shape := ⟨3, ![7, 280, 1024]⟩
abbrev S280x1024 : Shape := ⟨2, ![280, 1024]⟩
abbrev S1x280x1024 : Shape := ⟨3, ![1, 280, 1024]⟩
abbrev S1x128 : Shape := ⟨2, ![1, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 8
  | .vmem => 20
  | .smem => 0
  | _ => 0

abbrev bufTy : (tb : Table) → Fin (tcTables nBuf tb) → BufTy
  | .hbm, ⟨0, _⟩ => ⟨S8192x3072, .bf16⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S32x1024, .f32⟩
  | .hbm, ⟨6, _⟩ => ⟨S8192x1024, .bf16⟩
  | .hbm, ⟨7, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S32x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S288x1024, .f32⟩
  | .local _ .vmem, ⟨19, _⟩ => ⟨S7x280x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_44 : BitVec 32 := 0#32
  let c8_i32 : BitVec 32 := 8#32
  let v61 : BitVec 32 := Scalar.addi c0_i32_44 c8_i32
  let c1_i32 : BitVec 32 := 1#32
  ⟨c0_i32_44, v61, c1_i32⟩
def k0_mult1 (k0_t1 : Fin k0_t1_loop.trips) : BitVec 32 :=
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  v107
def k0_off1 (k0_t1 : Fin k0_t1_loop.trips) : Fin 2 → Nat :=
  let c0_67 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v109 : Index := Scalar.indexCast v108
  ![0, v109.toNat]
def k0_off2 (k0_t1 : Fin k0_t1_loop.trips) : Fin 2 → Nat :=
  let c0_68 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v113 : Index := Scalar.indexCast v108
  ![0, v113.toNat]
def k0_off3 (k0_t1 : Fin k0_t1_loop.trips) : Fin 3 → Nat :=
  let c1_69 : Index := 1#32
  let c0_70 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v116 : Index := Scalar.indexCast v108
  ![1, 0, v116.toNat]
def k0_off4 (k0_t1 : Fin k0_t1_loop.trips) : Fin 2 → Nat :=
  let c1_71 : Index := 1#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v122 : Index := Scalar.indexCast v108
  ![1, v122.toNat]
def k0_off5 (k0_t1 : Fin k0_t1_loop.trips) : Fin 3 → Nat :=
  let c2_72 : Index := 2#32
  let c0_73 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v125 : Index := Scalar.indexCast v108
  ![2, 0, v125.toNat]
def k0_off6 (k0_t1 : Fin k0_t1_loop.trips) : Fin 2 → Nat :=
  let c2_74 : Index := 2#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v131 : Index := Scalar.indexCast v108
  ![2, v131.toNat]
def k0_off7 (k0_t1 : Fin k0_t1_loop.trips) : Fin 3 → Nat :=
  let c3_75 : Index := 3#32
  let c0_76 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v134 : Index := Scalar.indexCast v108
  ![3, 0, v134.toNat]
def k0_off8 (k0_t1 : Fin k0_t1_loop.trips) : Fin 2 → Nat :=
  let c3_77 : Index := 3#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v140 : Index := Scalar.indexCast v108
  ![3, v140.toNat]
def k0_off9 (k0_t1 : Fin k0_t1_loop.trips) : Fin 3 → Nat :=
  let c4_78 : Index := 4#32
  let c0_79 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v143 : Index := Scalar.indexCast v108
  ![4, 0, v143.toNat]
def k0_off10 (k0_t1 : Fin k0_t1_loop.trips) : Fin 2 → Nat :=
  let c4_80 : Index := 4#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v149 : Index := Scalar.indexCast v108
  ![4, v149.toNat]
def k0_off11 (k0_t1 : Fin k0_t1_loop.trips) : Fin 3 → Nat :=
  let c5_81 : Index := 5#32
  let c0_82 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v152 : Index := Scalar.indexCast v108
  ![5, 0, v152.toNat]
def k0_off12 (k0_t1 : Fin k0_t1_loop.trips) : Fin 2 → Nat :=
  let c5_83 : Index := 5#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v158 : Index := Scalar.indexCast v108
  ![5, v158.toNat]
def k0_off13 (k0_t1 : Fin k0_t1_loop.trips) : Fin 3 → Nat :=
  let c6_84 : Index := 6#32
  let c0_85 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v161 : Index := Scalar.indexCast v108
  ![6, 0, v161.toNat]
def k0_off14 (k0_t1 : Fin k0_t1_loop.trips) : Fin 2 → Nat :=
  let c6_86 : Index := 6#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v167 : Index := Scalar.indexCast v108
  ![6, v167.toNat]
def k0_off15 (k0_t1 : Fin k0_t1_loop.trips) : Fin 2 → Nat :=
  let c8 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v170 : Index := Scalar.indexCast v108
  ![8, v170.toNat]
def k0_off16 (k0_t1 : Fin k0_t1_loop.trips) : Fin 2 → Nat :=
  let c7_87 : Index := 7#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v175 : Index := Scalar.indexCast v108
  ![7, v175.toNat]
def k0_off17 (k0_t1 : Fin k0_t1_loop.trips) : Fin 3 → Nat :=
  let c0_88 : Index := 0#32
  let c8_89 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v178 : Index := Scalar.indexCast v108
  ![0, 8, v178.toNat]
def k0_off18 (k0_t1 : Fin k0_t1_loop.trips) : Fin 2 → Nat :=
  let c8_90 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v184 : Index := Scalar.indexCast v108
  ![8, v184.toNat]
def k0_off19 (k0_t1 : Fin k0_t1_loop.trips) : Fin 3 → Nat :=
  let c1_91 : Index := 1#32
  let c8_92 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v187 : Index := Scalar.indexCast v108
  ![1, 8, v187.toNat]
def k0_off20 (k0_t1 : Fin k0_t1_loop.trips) : Fin 2 → Nat :=
  let c9 : Index := 9#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v193 : Index := Scalar.indexCast v108
  ![9, v193.toNat]
def k0_off21 (k0_t1 : Fin k0_t1_loop.trips) : Fin 3 → Nat :=
  let c2_93 : Index := 2#32
  let c8_94 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v196 : Index := Scalar.indexCast v108
  ![2, 8, v196.toNat]
def k0_off22 (k0_t1 : Fin k0_t1_loop.trips) : Fin 2 → Nat :=
  let c10 : Index := 10#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v202 : Index := Scalar.indexCast v108
  ![10, v202.toNat]
def k0_off23 (k0_t1 : Fin k0_t1_loop.trips) : Fin 3 → Nat :=
  let c3_95 : Index := 3#32
  let c8_96 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v205 : Index := Scalar.indexCast v108
  ![3, 8, v205.toNat]
def k0_off24 (k0_t1 : Fin k0_t1_loop.trips) : Fin 2 → Nat :=
  let c11 : Index := 11#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v211 : Index := Scalar.indexCast v108
  ![11, v211.toNat]
def k0_off25 (k0_t1 : Fin k0_t1_loop.trips) : Fin 3 → Nat :=
  let c4_97 : Index := 4#32
  let c8_98 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v214 : Index := Scalar.indexCast v108
  ![4, 8, v214.toNat]
def k0_off26 (k0_t1 : Fin k0_t1_loop.trips) : Fin 2 → Nat :=
  let c12 : Index := 12#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v220 : Index := Scalar.indexCast v108
  ![12, v220.toNat]
def k0_off27 (k0_t1 : Fin k0_t1_loop.trips) : Fin 3 → Nat :=
  let c5_99 : Index := 5#32
  let c8_100 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v223 : Index := Scalar.indexCast v108
  ![5, 8, v223.toNat]
def k0_off28 (k0_t1 : Fin k0_t1_loop.trips) : Fin 2 → Nat :=
  let c13 : Index := 13#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v229 : Index := Scalar.indexCast v108
  ![13, v229.toNat]
def k0_off29 (k0_t1 : Fin k0_t1_loop.trips) : Fin 3 → Nat :=
  let c6_101 : Index := 6#32
  let c8_102 : Index := 8#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v232 : Index := Scalar.indexCast v108
  ![6, 8, v232.toNat]
def k0_off30 (k0_t1 : Fin k0_t1_loop.trips) : Fin 2 → Nat :=
  let c14 : Index := 14#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v238 : Index := Scalar.indexCast v108
  ![14, v238.toNat]
def k0_off31 (k0_t1 : Fin k0_t1_loop.trips) : Fin 2 → Nat :=
  let c16 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v241 : Index := Scalar.indexCast v108
  ![16, v241.toNat]
def k0_off32 (k0_t1 : Fin k0_t1_loop.trips) : Fin 2 → Nat :=
  let c15 : Index := 15#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v246 : Index := Scalar.indexCast v108
  ![15, v246.toNat]
def k0_off33 (k0_t1 : Fin k0_t1_loop.trips) : Fin 3 → Nat :=
  let c0_103 : Index := 0#32
  let c16_104 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v249 : Index := Scalar.indexCast v108
  ![0, 16, v249.toNat]
def k0_off34 (k0_t1 : Fin k0_t1_loop.trips) : Fin 2 → Nat :=
  let c16_105 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v255 : Index := Scalar.indexCast v108
  ![16, v255.toNat]
def k0_off35 (k0_t1 : Fin k0_t1_loop.trips) : Fin 3 → Nat :=
  let c1_106 : Index := 1#32
  let c16_107 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v258 : Index := Scalar.indexCast v108
  ![1, 16, v258.toNat]
def k0_off36 (k0_t1 : Fin k0_t1_loop.trips) : Fin 2 → Nat :=
  let c17 : Index := 17#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v264 : Index := Scalar.indexCast v108
  ![17, v264.toNat]
def k0_off37 (k0_t1 : Fin k0_t1_loop.trips) : Fin 3 → Nat :=
  let c2_108 : Index := 2#32
  let c16_109 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v267 : Index := Scalar.indexCast v108
  ![2, 16, v267.toNat]
def k0_off38 (k0_t1 : Fin k0_t1_loop.trips) : Fin 2 → Nat :=
  let c18 : Index := 18#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v273 : Index := Scalar.indexCast v108
  ![18, v273.toNat]
def k0_off39 (k0_t1 : Fin k0_t1_loop.trips) : Fin 3 → Nat :=
  let c3_110 : Index := 3#32
  let c16_111 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v276 : Index := Scalar.indexCast v108
  ![3, 16, v276.toNat]
def k0_off40 (k0_t1 : Fin k0_t1_loop.trips) : Fin 2 → Nat :=
  let c19 : Index := 19#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v282 : Index := Scalar.indexCast v108
  ![19, v282.toNat]
def k0_off41 (k0_t1 : Fin k0_t1_loop.trips) : Fin 3 → Nat :=
  let c4_112 : Index := 4#32
  let c16_113 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v285 : Index := Scalar.indexCast v108
  ![4, 16, v285.toNat]
def k0_off42 (k0_t1 : Fin k0_t1_loop.trips) : Fin 2 → Nat :=
  let c20 : Index := 20#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v291 : Index := Scalar.indexCast v108
  ![20, v291.toNat]
def k0_off43 (k0_t1 : Fin k0_t1_loop.trips) : Fin 3 → Nat :=
  let c5_114 : Index := 5#32
  let c16_115 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v294 : Index := Scalar.indexCast v108
  ![5, 16, v294.toNat]
def k0_off44 (k0_t1 : Fin k0_t1_loop.trips) : Fin 2 → Nat :=
  let c21 : Index := 21#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v300 : Index := Scalar.indexCast v108
  ![21, v300.toNat]
def k0_off45 (k0_t1 : Fin k0_t1_loop.trips) : Fin 3 → Nat :=
  let c6_116 : Index := 6#32
  let c16_117 : Index := 16#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v303 : Index := Scalar.indexCast v108
  ![6, 16, v303.toNat]
def k0_off46 (k0_t1 : Fin k0_t1_loop.trips) : Fin 2 → Nat :=
  let c22 : Index := 22#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v309 : Index := Scalar.indexCast v108
  ![22, v309.toNat]
def k0_off47 (k0_t1 : Fin k0_t1_loop.trips) : Fin 2 → Nat :=
  let c24 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v312 : Index := Scalar.indexCast v108
  ![24, v312.toNat]
def k0_off48 (k0_t1 : Fin k0_t1_loop.trips) : Fin 2 → Nat :=
  let c23 : Index := 23#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v317 : Index := Scalar.indexCast v108
  ![23, v317.toNat]
def k0_off49 (k0_t1 : Fin k0_t1_loop.trips) : Fin 3 → Nat :=
  let c0_118 : Index := 0#32
  let c24_119 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v320 : Index := Scalar.indexCast v108
  ![0, 24, v320.toNat]
def k0_off50 (k0_t1 : Fin k0_t1_loop.trips) : Fin 2 → Nat :=
  let c24_120 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v326 : Index := Scalar.indexCast v108
  ![24, v326.toNat]
def k0_off51 (k0_t1 : Fin k0_t1_loop.trips) : Fin 3 → Nat :=
  let c1_121 : Index := 1#32
  let c24_122 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v329 : Index := Scalar.indexCast v108
  ![1, 24, v329.toNat]
def k0_off52 (k0_t1 : Fin k0_t1_loop.trips) : Fin 2 → Nat :=
  let c25 : Index := 25#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v335 : Index := Scalar.indexCast v108
  ![25, v335.toNat]
def k0_off53 (k0_t1 : Fin k0_t1_loop.trips) : Fin 3 → Nat :=
  let c2_123 : Index := 2#32
  let c24_124 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v338 : Index := Scalar.indexCast v108
  ![2, 24, v338.toNat]
def k0_off54 (k0_t1 : Fin k0_t1_loop.trips) : Fin 2 → Nat :=
  let c26 : Index := 26#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v344 : Index := Scalar.indexCast v108
  ![26, v344.toNat]
def k0_off55 (k0_t1 : Fin k0_t1_loop.trips) : Fin 3 → Nat :=
  let c3_125 : Index := 3#32
  let c24_126 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v347 : Index := Scalar.indexCast v108
  ![3, 24, v347.toNat]
def k0_off56 (k0_t1 : Fin k0_t1_loop.trips) : Fin 2 → Nat :=
  let c27 : Index := 27#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v353 : Index := Scalar.indexCast v108
  ![27, v353.toNat]
def k0_off57 (k0_t1 : Fin k0_t1_loop.trips) : Fin 3 → Nat :=
  let c4_127 : Index := 4#32
  let c24_128 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v356 : Index := Scalar.indexCast v108
  ![4, 24, v356.toNat]
def k0_off58 (k0_t1 : Fin k0_t1_loop.trips) : Fin 2 → Nat :=
  let c28 : Index := 28#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v362 : Index := Scalar.indexCast v108
  ![28, v362.toNat]
def k0_off59 (k0_t1 : Fin k0_t1_loop.trips) : Fin 3 → Nat :=
  let c5_129 : Index := 5#32
  let c24_130 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v365 : Index := Scalar.indexCast v108
  ![5, 24, v365.toNat]
def k0_off60 (k0_t1 : Fin k0_t1_loop.trips) : Fin 2 → Nat :=
  let c29 : Index := 29#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v371 : Index := Scalar.indexCast v108
  ![29, v371.toNat]
def k0_off61 (k0_t1 : Fin k0_t1_loop.trips) : Fin 3 → Nat :=
  let c6_131 : Index := 6#32
  let c24_132 : Index := 24#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v374 : Index := Scalar.indexCast v108
  ![6, 24, v374.toNat]
def k0_off62 (k0_t1 : Fin k0_t1_loop.trips) : Fin 2 → Nat :=
  let c30 : Index := 30#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v380 : Index := Scalar.indexCast v108
  ![30, v380.toNat]
def k0_off63 (k0_t1 : Fin k0_t1_loop.trips) : Fin 2 → Nat :=
  let c32_133 : Index := 32#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v383 : Index := Scalar.indexCast v108
  ![32, v383.toNat]
def k0_off64 (k0_t1 : Fin k0_t1_loop.trips) : Fin 2 → Nat :=
  let c0_134 : Index := 0#32
  let c0_i32_44 : BitVec 32 := 0#32
  let c1_i32 : BitVec 32 := 1#32
  let arg14 : BitVec 32 := Scf.iv c0_i32_44 c1_i32 k0_t1
  let c128_i32 : BitVec 32 := 128#32
  let v107 : BitVec 32 := Scalar.muli arg14 c128_i32
  let v108 : BitVec 32 := v107
  let v388 : Index := Scalar.indexCast v108
  ![0, v388.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvForwardReferenceIdeal.lean ====
abbrev S8192x3072 : Shape := ⟨2, ![8192, 3072]⟩
abbrev S31x1024 : Shape := ⟨2, ![31, 1024]⟩
abbrev S1x1024 : Shape := ⟨2, ![1, 1024]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S8192 : Shape := ⟨1, ![8192]⟩
abbrev S8192x1 : Shape := ⟨2, ![8192, 1]⟩

abbrev nBuf : Space → Nat
  | .hbm => 225
  | .vmem => 0
  | .smem => 0
  | _ => 0

abbrev hbmTy0_0 (i : Nat) : BufTy := match i % 128 with
  | 0 => ⟨S8192x3072, .bf16⟩
  | 1 => ⟨S31x1024, .f32⟩
  | 2 => ⟨S1x1024, .f32⟩
  | 3 => ⟨S1x1024, .f32⟩
  | 4 => ⟨S1x1024, .f32⟩
  | 5 => ⟨S8192x3072, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S_, .f32⟩
  | 18 => ⟨S30x1024, .f32⟩
  | 19 => ⟨S8222x1024, .f32⟩
  | 20 => ⟨S_, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S1x1024, .f32⟩
  | 94 => ⟨S8192x1024, .f32⟩
  | 95 => ⟨S8192x1024, .f32⟩
  | 96 => ⟨S8192x1024, .f32⟩
  | 97 => ⟨S8192x1024, .f32⟩
  | 98 => ⟨S1x1024, .f32⟩
  | 99 => ⟨S8192x1024, .f32⟩
  | 100 => ⟨S8192x1024, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S1x1024, .f32⟩
  | 114 => ⟨S8192x1024, .f32⟩
  | 115 => ⟨S8192x1024, .f32⟩
  | 116 => ⟨S8192x1024, .f32⟩
  | 117 => ⟨S8192x1024, .f32⟩
  | 118 => ⟨S1x1024, .f32⟩
  | 119 => ⟨S8192x1024, .f32⟩
  | 120 => ⟨S8192x1024, .f32⟩
  | 121 => ⟨S8192x1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x3072, .bf16⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S1x1024, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_cst_3 : Ref sig .tc := ⟨.hbm, 180, rfl⟩
abbrev main_v171 : Ref sig .tc := ⟨.hbm, 181, rfl⟩
abbrev main_v172 : Ref sig .tc := ⟨.hbm, 182, rfl⟩
abbrev main_cst_4 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_cst_5 : Ref sig .tc := ⟨.hbm, 189, rfl⟩
abbrev main_v178 : Ref sig .tc := ⟨.hbm, 190, rfl⟩
abbrev main_v179 : Ref sig .tc := ⟨.hbm, 191, rfl⟩
abbrev main_cst_6 : Ref sig .tc := ⟨.hbm, 192, rfl⟩
abbrev main_v180 : Ref sig .tc := ⟨.hbm, 193, rfl⟩
abbrev main_v181 : Ref sig .tc := ⟨.hbm, 194, rfl⟩
abbrev main_cst_7 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_call0_v0 : Ref sig .tc := ⟨.hbm, 205, rfl⟩
abbrev main_call0_v1 : Ref sig .tc := ⟨.hbm, 206, rfl⟩
abbrev main_call0_cst : Ref sig .tc := ⟨.hbm, 207, rfl⟩
abbrev main_call0_v2 : Ref sig .tc := ⟨.hbm, 208, rfl⟩
abbrev main_call0_v3 : Ref sig .tc := ⟨.hbm, 209, rfl⟩
abbrev main_call0_cst_0 : Ref sig .tc := ⟨.hbm, 210, rfl⟩
abbrev main_call0_v4 : Ref sig .tc := ⟨.hbm, 211, rfl⟩
abbrev main_call0_v5 : Ref sig .tc := ⟨.hbm, 212, rfl⟩
abbrev main_v191 : Ref sig .tc := ⟨.hbm, 213, rfl⟩
abbrev main_call1_v0 : Ref sig .tc := ⟨.hbm, 214, rfl⟩
abbrev main_call1_v1 : Ref sig .tc := ⟨.hbm, 215, rfl⟩
abbrev main_call1_cst : Ref sig .tc := ⟨.hbm, 216, rfl⟩
abbrev main_call1_v2 : Ref sig .tc := ⟨.hbm, 217, rfl⟩
abbrev main_call1_v3 : Ref sig .tc := ⟨.hbm, 218, rfl⟩
abbrev main_call1_cst_0 : Ref sig .tc := ⟨.hbm, 219, rfl⟩
abbrev main_call1_v4 : Ref sig .tc := ⟨.hbm, 220, rfl⟩
abbrev main_call1_v5 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩

abbrev nD : Nat := 1
abbrev τ : Topo := Topo.v7x

variable {F : FTy → Type} [FloatOps F]
-- ==== Adam.lean ====
abbrev S1 : Shape := ⟨1, ![1]⟩
abbrev S768x1024 : Shape := ⟨2, ![768, 1024]⟩
abbrev S640x1024 : Shape := ⟨2, ![640, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S640x1024, .f32⟩
  | .hbm, ⟨4, _⟩ => ⟨S640x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![6], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c5_i32 : BitVec 32 := 5#32
  let c0_i32_0 : BitVec 32 := 0#32
  let v1 : BitVec 1 := Scalar.cmpi .eq c5_i32 c0_i32_0
  let c1_i32 : BitVec 32 := 1#32
  let v2 : BitVec 32 := Scalar.select v1 c1_i32 c5_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c5_i32 : BitVec 32 := 5#32
  let c0_i32_0 : BitVec 32 := 0#32
  let v1 : BitVec 1 := Scalar.cmpi .eq c5_i32 c0_i32_0
  let c1_i32 : BitVec 32 := 1#32
  let v2 : BitVec 32 := Scalar.select v1 c1_i32 c5_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamReferenceIdeal.lean ====
abbrev S1 : Shape := ⟨1, ![1]⟩
abbrev S768x1024 : Shape := ⟨2, ![768, 1024]⟩
abbrev S640x1024 : Shape := ⟨2, ![640, 1024]⟩
abbrev S_ : Shape := ⟨0, ![]⟩
abbrev S1280x1024 : Shape := ⟨2, ![1280, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S640x1024, .f32⟩
  | .hbm, ⟨5, _⟩ => ⟨S640x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S640x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S640x1024, .f32⟩
  | .hbm, ⟨14, _⟩ => ⟨S1280x1024, .f32⟩
  | .hbm, ⟨15, _⟩ => ⟨S768x1024, .f32⟩
  | .hbm, ⟨16, _⟩ => ⟨S_, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S768x1024, .f32⟩
  | .hbm, ⟨23, _⟩ => ⟨S_, .f32⟩
  | .hbm, ⟨24, _⟩ => ⟨S768x1024, .f32⟩
  | .hbm, ⟨25, _⟩ => ⟨S768x1024, .f32⟩
  | .hbm, ⟨26, _⟩ => ⟨S768x1024, .f32⟩
  | .hbm, ⟨27, _⟩ => ⟨S_, .f32⟩
  | .hbm, ⟨28, _⟩ => ⟨S768x1024, .f32⟩
  | .hbm, ⟨29, _⟩ => ⟨S768x1024, .f32⟩
  | .hbm, ⟨30, _⟩ => ⟨S768x1024, .f32⟩
  | .hbm, ⟨31, _⟩ => ⟨S_, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | .hbm, ⟨37, _⟩ => ⟨S768x1024, .f32⟩
  | .hbm, ⟨38, _⟩ => ⟨S_, .f32⟩
  | .hbm, ⟨39, _⟩ => ⟨S768x1024, .f32⟩
  | .hbm, ⟨40, _⟩ => ⟨S768x1024, .f32⟩
  | .hbm, ⟨41, _⟩ => ⟨S768x1024, .f32⟩
  | .hbm, ⟨42, _⟩ => ⟨S_, .f32⟩
  | .hbm, ⟨43, _⟩ => ⟨S768x1024, .f32⟩
  | .hbm, ⟨44, _⟩ => ⟨S768x1024, .f32⟩
  | .hbm, ⟨45, _⟩ => ⟨S768x1024, .f32⟩
  | .hbm, ⟨46, _⟩ => ⟨S_, .f32⟩
  | .hbm, ⟨47, _⟩ => ⟨S768x1024, .f32⟩
  | .hbm, ⟨48, _⟩ => ⟨S768x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== EvenGrad.lean ====
abbrev S8192x512 : Shape := ⟨2, ![8192, 512]⟩
abbrev S8192x1024 : Shape := ⟨2, ![8192, 1024]⟩
abbrev S4x1024x512 : Shape := ⟨3, ![4, 1024, 512]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S4x1024x512, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S4x1024x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S4x1024x512, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== EvenGradReferenceIdeal.lean ====
abbrev S8192x512 : Shape := ⟨2, ![8192, 512]⟩
abbrev S8192x1024 : Shape := ⟨2, ![8192, 1024]⟩
abbrev S4x1024x512 : Shape := ⟨3, ![4, 1024, 512]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024x4x512 : Shape := ⟨3, ![1024, 4, 512]⟩
abbrev S1024x2048 : Shape := ⟨2, ![1024, 2048]⟩
abbrev S2048x1024 : Shape := ⟨2, ![2048, 1024]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S4x1024x512, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2048, .bf16⟩
  | .hbm, ⟨8, _⟩ => ⟨S8192x2048, .f32⟩
  | .hbm, ⟨9, _⟩ => ⟨S4x1024x512, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x4x512, .f32⟩
  | .hbm, ⟨30, _⟩ => ⟨S1024x2048, .f32⟩
  | .hbm, ⟨31, _⟩ => ⟨S8192x2048, .f32⟩
  | .hbm, ⟨32, _⟩ => ⟨S2048x1024, .f32⟩
  | .hbm, ⟨33, _⟩ => ⟨S1024x2048, .f32⟩
  | .hbm, ⟨34, _⟩ => ⟨S8192x1024, .f32⟩
  | .hbm, ⟨35, _⟩ => ⟨S1024x4x512, .f32⟩
  | .hbm, ⟨36, _⟩ => ⟨S4x1024x512, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Enter.lean ====
abbrev S8192x1024 : Shape := ⟨2, ![8192, 1024]⟩
abbrev S1x1024 : Shape := ⟨2, ![1, 1024]⟩
abbrev S4x1024x512 : Shape := ⟨3, ![4, 1024, 512]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x512, .bf16⟩
  | .hbm, ⟨3, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S512x2048, .bf16⟩
  | .local _ .vmem, ⟨5, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EnterReferenceIdeal.lean ====
abbrev S8192x1024 : Shape := ⟨2, ![8192, 1024]⟩
abbrev S1x1024 : Shape := ⟨2, ![1, 1024]⟩
abbrev S4x1024x512 : Shape := ⟨3, ![4, 1024, 512]⟩
abbrev S_ : Shape := ⟨0, ![]⟩
abbrev S8192 : Shape := ⟨1, ![8192]⟩
abbrev S8192x1 : Shape := ⟨2, ![8192, 1]⟩
abbrev S1024x4x512 : Shape := ⟨3, ![1024, 4, 512]⟩
abbrev S1024x2048 : Shape := ⟨2, ![1024, 2048]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x512, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x512, .f32⟩
  | .hbm, ⟨19, _⟩ => ⟨S1024x4x512, .f32⟩
  | .hbm, ⟨20, _⟩ => ⟨S1024x2048, .f32⟩
  | .hbm, ⟨21, _⟩ => ⟨S8192x2048, .f32⟩
  | .hbm, ⟨22, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Leave.lean ====
abbrev S8192x1024 : Shape := ⟨2, ![8192, 1024]⟩
abbrev S1024x1024 : Shape := ⟨2, ![1024, 1024]⟩
abbrev S8192x512 : Shape := ⟨2, ![8192, 512]⟩
abbrev S8192x2048 : Shape := ⟨2, ![8192, 2048]⟩
abbrev S_ : Shape := ⟨0, ![]⟩
abbrev S512x1024 : Shape := ⟨2, ![512, 1024]⟩
abbrev S512x512 : Shape := ⟨2, ![512, 512]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S8192x2048, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LeaveReferenceIdeal.lean ====
abbrev S8192x1024 : Shape := ⟨2, ![8192, 1024]⟩
abbrev S1024x1024 : Shape := ⟨2, ![1024, 1024]⟩
abbrev S8192x512 : Shape := ⟨2, ![8192, 512]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S8192x2048, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S1024x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Merge.lean ====
abbrev S8192x512 : Shape := ⟨2, ![8192, 512]⟩
abbrev S8192x2048 : Shape := ⟨2, ![8192, 2048]⟩
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2048, .bf16⟩
  | .hbm, ⟨3, _⟩ => ⟨S8192x1024, .f32⟩
  | .hbm, ⟨4, _⟩ => ⟨S1024x1024, .bf16⟩
  | .hbm, ⟨5, _⟩ => ⟨S8192x1024, .f32⟩
  | .hbm, ⟨6, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S8192x512 : Shape := ⟨2, ![8192, 512]⟩
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2048, .bf16⟩
  | .hbm, ⟨3, _⟩ => ⟨S8192x1024, .f32⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Loss.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Pool.lean ====
abbrev S8192x2048 : Shape := ⟨2, ![8192, 2048]⟩
abbrev S4x128x128 : Shape := ⟨3, ![4, 128, 128]⟩
abbrev S1x512 : Shape := ⟨2, ![1, 512]⟩
abbrev S8192x512 : Shape := ⟨2, ![8192, 512]⟩
abbrev S256x512 : Shape := ⟨2, ![256, 512]⟩
abbrev S16x512 : Shape := ⟨2, ![16, 512]⟩
abbrev S256x1 : Shape := ⟨2, ![256, 1]⟩
abbrev S256x128 : Shape := ⟨2, ![256, 128]⟩
abbrev S16x128 : Shape := ⟨2, ![16, 128]⟩
abbrev S272x128 : Shape := ⟨2, ![272, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x128x128, .bf16⟩
  | .hbm, ⟨2, _⟩ => ⟨S1x512, .f32⟩
  | .hbm, ⟨3, _⟩ => ⟨S8192x512, .f32⟩
  | .local _ .vmem, ⟨0, _⟩ => ⟨S256x512, .bf16⟩
  | .local _ .vmem, ⟨1, _⟩ => ⟨S256x512, .bf16⟩
  | .local _ .vmem, ⟨2, _⟩ => ⟨S16x512, .bf16⟩
  | .local _ .vmem, ⟨3, _⟩ => ⟨S16x512, .bf16⟩
  | .local _ .vmem, ⟨4, _⟩ => ⟨S4x128x128, .bf16⟩
  | .local _ .vmem, ⟨5, _⟩ => ⟨S1x512, .f32⟩
  | .local _ .vmem, ⟨6, _⟩ => ⟨S256x512, .f32⟩
  | .local _ .vmem, ⟨7, _⟩ => ⟨S256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolReferenceIdeal.lean ====
abbrev S8192x2048 : Shape := ⟨2, ![8192, 2048]⟩
abbrev S4x128x128 : Shape := ⟨3, ![4, 128, 128]⟩
abbrev S1x512 : Shape := ⟨2, ![1, 512]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1 : Shape := ⟨2, ![8192, 1]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x128x128, .bf16⟩
  | .hbm, ⟨2, _⟩ => ⟨S1x512, .f32⟩
  | .hbm, ⟨3, _⟩ => ⟨S8192x512, .bf16⟩
  | .hbm, ⟨4, _⟩ => ⟨S8192x512, .f32⟩
  | .hbm, ⟨5, _⟩ => ⟨S4x128x128, .f32⟩
  | .hbm, ⟨6, _⟩ => ⟨S8192x4x128, .f32⟩
  | .hbm, ⟨7, _⟩ => ⟨S_, .f32⟩
  | .hbm, ⟨8, _⟩ => ⟨S_, .f32⟩
  | .hbm, ⟨9, _⟩ => ⟨S8192x4x128, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x1x128, .f32⟩
  | .hbm, ⟨16, _⟩ => ⟨S8192x128, .f32⟩
  | .hbm, ⟨17, _⟩ => ⟨S_, .f32⟩
  | .hbm, ⟨18, _⟩ => ⟨S2x128, .f32⟩
  | .hbm, ⟨19, _⟩ => ⟨S8190x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x1x128, .f32⟩
  | .hbm, ⟨28, _⟩ => ⟨S8192x128, .f32⟩
  | .hbm, ⟨29, _⟩ => ⟨S8192x128, .f32⟩
  | .hbm, ⟨30, _⟩ => ⟨S8192x1x128, .f32⟩
  | .hbm, ⟨31, _⟩ => ⟨S8192x128, .f32⟩
  | .hbm, ⟨32, _⟩ => ⟨S_, .f32⟩
  | .hbm, ⟨33, _⟩ => ⟨S4x128, .f32⟩
  | .hbm, ⟨34, _⟩ => ⟨S8188x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x128, .f32⟩
  | .hbm, ⟨41, _⟩ => ⟨S8192x128, .f32⟩
  | .hbm, ⟨42, _⟩ => ⟨S8192x1x128, .f32⟩
  | .hbm, ⟨43, _⟩ => ⟨S8192x128, .f32⟩
  | .hbm, ⟨44, _⟩ => ⟨S8192x128, .f32⟩
  | .hbm, ⟨45, _⟩ => ⟨S8192x1x128, .f32⟩
  | .hbm, ⟨46, _⟩ => ⟨S8192x128, .f32⟩
  | .hbm, ⟨47, _⟩ => ⟨S_, .f32⟩
  | .hbm, ⟨48, _⟩ => ⟨S8x128, .f32⟩
  | .hbm, ⟨49, _⟩ => ⟨S8184x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x128, .f32⟩
  | .hbm, ⟨56, _⟩ => ⟨S8192x128, .f32⟩
  | .hbm, ⟨57, _⟩ => ⟨S8192x1x128, .f32⟩
  | .hbm, ⟨58, _⟩ => ⟨S8192x128, .f32⟩
  | .hbm, ⟨59, _⟩ => ⟨S8192x128, .f32⟩
  | .hbm, ⟨60, _⟩ => ⟨S8192x1x128, .f32⟩
  | .hbm, ⟨61, _⟩ => ⟨S8192x128, .f32⟩
  | .hbm, ⟨62, _⟩ => ⟨S_, .f32⟩
  | .hbm, ⟨63, _⟩ => ⟨S16x128, .f32⟩
  | .hbm, ⟨64, _⟩ => ⟨S8176x128, .f32⟩
  | .hbm, ⟨65, _⟩ => ⟨S8192x128, .f32⟩
  | .hbm, ⟨66, _⟩ => ⟨S8192x128, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x128, .f32⟩
  | .hbm, ⟨71, _⟩ => ⟨S8192x128, .f32⟩
  | .hbm, ⟨72, _⟩ => ⟨S8192x1x128, .f32⟩
  | .hbm, ⟨73, _⟩ => ⟨S8192x128, .f32⟩
  | .hbm, ⟨74, _⟩ => ⟨S8192x128, .f32⟩
  | .hbm, ⟨75, _⟩ => ⟨S8192x1x128, .f32⟩
  | .hbm, ⟨76, _⟩ => ⟨S8192x1x128, .f32⟩
  | .hbm, ⟨77, _⟩ => ⟨S8192x1x128, .f32⟩
  | .hbm, ⟨78, _⟩ => ⟨S8192x1x128, .f32⟩
  | .hbm, ⟨79, _⟩ => ⟨S8192x4x128, .f32⟩
  | .hbm, ⟨80, _⟩ => ⟨S4x128x8192, .f32⟩
  | .hbm, ⟨81, _⟩ => ⟨S8192x4x128, .f32⟩
  | .hbm, ⟨82, _⟩ => ⟨S8192x512, .f32⟩
  | .hbm, ⟨83, _⟩ => ⟨S8192x512, .f32⟩
  | .hbm, ⟨84, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Proof.Spec.lean ====
module
public import Idealize.ShloMosaic.Lib.Pointwise
@[expose] public section
noncomputable section
/-! The gradient of the gated causal convolution as plain functions of a row number and a lane number. -/

namespace Cert.ConvGrad
open Idealize.ShloMosaic

/-- An array of `R` rows and `C` lanes read at any row and lane, zero outside. -/
def at2 {R C : ℕ} (x : (⟨2, ![R, C]⟩ : Shape).Idx → EReal) (a b : ℕ) : EReal :=
  if h : a < R ∧ b < C then x (ix2 ⟨a, h.1⟩ ⟨b, h.2⟩) else 0

theorem at2_ix2 {R C : ℕ} (x : (⟨2, ![R, C]⟩ : Shape).Idx → EReal) (a : Fin R) (b : Fin C) : at2 x a.val b.val = x (ix2 a b) :=
  dif_pos ⟨a.isLt, b.isLt⟩

theorem at2_of_lt {R C : ℕ} (x : (⟨2, ![R, C]⟩ : Shape).Idx → EReal) (a b : ℕ) (ha : a < R) (hb : b < C) : at2 x a b = x (ix2 ⟨a, ha⟩ ⟨b, hb⟩) :=
  dif_pos ⟨ha, hb⟩

theorem at2_of_ge {R C : ℕ} (x : (⟨2, ![R, C]⟩ : Shape).Idx → EReal) (a b : ℕ) (ha : R ≤ a) : at2 x a b = 0 :=
  dif_neg fun h => by omega

/-- An array at an index whose coordinates are known. -/
theorem at2_at {R C : ℕ} (x : (⟨2, ![R, C]⟩ : Shape).Idx → EReal) (i : (⟨2, ![R, C]⟩ : Shape).Idx) (a b : ℕ) (ha : (i 0).val = a) (hb : (i 1).val = b) :
    x i = at2 x a b := by
  subst ha hb
  exact (congrArg x (eq_ix2 i)).trans (at2_ix2 x (i 0) (i 1)).symm

/-- The logistic function. -/
def sg (z : EReal) : EReal := Ideal.div 1 (1 + Ideal.exp (-z))

/-- The gated value of row `t`. -/
def gated (q : (⟨2, ![8192, 3072]⟩ : Shape).Idx → EReal) (t l : ℕ) : EReal := at2 q t l * sg (at2 q t (1024 + l))

/-- The gated values behind 32 zero rows. -/
def padded (q : (⟨2, ![8192, 3072]⟩ : Shape).Idx → EReal) (u l : ℕ) : EReal := if u < 32 then 0 else gated q (u - 32) l

/-- The gradient of the gated value of row `t`: tap `k` sent it to row `t + 30 - k`. -/
def dGated (d : (⟨2, ![8192, 1024]⟩ : Shape).Idx → EReal) (w : ℕ → ℕ → EReal) (t l : ℕ) : EReal :=
  ∑ k ∈ Finset.range 31, w k l * at2 d (30 - k + t) l

/-- The gradient of the value half. -/
def dValue (d : (⟨2, ![8192, 1024]⟩ : Shape).Idx → EReal) (q : (⟨2, ![8192, 3072]⟩ : Shape).Idx → EReal) (w : ℕ → ℕ → EReal) (t l : ℕ) : EReal :=
  dGated d w t l * sg (at2 q t (1024 + l))

/-- The gradient of the gate half. -/
def dGate (d : (⟨2, ![8192, 1024]⟩ : Shape).Idx → EReal) (q : (⟨2, ![8192, 3072]⟩ : Shape).Idx → EReal) (w : ℕ → ℕ → EReal) (t l : ℕ) : EReal :=
  dGated d w t l * at2 q t l * sg (at2 q t (1024 + l)) * (1 - sg (at2 q t (1024 + l)))

/-- The gradient of tap `k`. -/
def dTap (d : (⟨2, ![8192, 1024]⟩ : Shape).Idx → EReal) (q : (⟨2, ![8192, 3072]⟩ : Shape).Idx → EReal) (k l : ℕ) : EReal :=
  ∑ t ∈ Finset.range 8192, at2 d t l * padded q (t + k + 2) l

/-- The gradient of the bias. -/
def dBias (d : (⟨2, ![8192, 1024]⟩ : Shape).Idx → EReal) (l : ℕ) : EReal := ∑ t ∈ Finset.range 8192, at2 d t l

end Cert.ConvGrad
end
-- ==== Proof.Inputs.lean ====
module
public import proofs.«01_k».proof.Proof.Spec
public import proofs.«01_k».proof.Proof.Gen.KernelIdeal.Frame
public import Idealize.ShloMosaic.Lib.Pipeline.Value
public import Idealize.ShloMosaic.PureOps.Ideal.Laws
@[expose] public section
set_option maxRecDepth 16384
noncomputable section
/-! The blocks the body finds at a point, as rows of the whole arrays. -/

namespace Cert.ConvGrad
open Cert.KernelIdeal Cert.KernelIdeal.Gen
open Idealize.ShloMosaic Idealize.ShloMosaic.TcCoe Idealize.ShloMosaic.Tactic
open Idealize.SL.Sem
variable (m : (ℓ : Loc nD τ sig) → Buf (Elt Ideal) ℓ) (c : Dev nD) (t : Fin cfg0.N)

/-- The incoming gradient, the projected rows and the taps as the region finds them. -/
abbrev dArr : (⟨2, ![8192, 1024]⟩ : Shape).Idx → EReal := V m c main_arg0
abbrev qArr : (⟨2, ![8192, 3072]⟩ : Shape).Idx → EReal := V m c main_arg1
abbrev wArr : (⟨2, ![32, 1024]⟩ : Shape).Idx → EReal := V m c main_v0

theorem index_0 : win0_0.index t 0 = t.val ∧ win0_0.index t 1 = 0 := (by decide +kernel : ∀ t : Fin grid0.N, win0_0.index t 0 = t.val ∧ win0_0.index t 1 = 0) t
theorem index_1 : win0_1.index t 0 = min (8 * t.val + 8) 255 ∧ win0_1.index t 1 = 0 := (by decide +kernel : ∀ t : Fin grid0.N, win0_1.index t 0 = min (8 * t.val + 8) 255 ∧ win0_1.index t 1 = 0) t
theorem index_2 : win0_2.index t 0 = t.val ∧ win0_2.index t 1 = 0 := (by decide +kernel : ∀ t : Fin grid0.N, win0_2.index t 0 = t.val ∧ win0_2.index t 1 = 0) t
theorem index_3 : win0_3.index t 0 = t.val ∧ win0_3.index t 1 = 1 := (by decide +kernel : ∀ t : Fin grid0.N, win0_3.index t 0 = t.val ∧ win0_3.index t 1 = 1) t
theorem index_4 : win0_4.index t 0 = 8 * t.val - 1 ∧ win0_4.index t 1 = 0 := (by decide +kernel : ∀ t : Fin grid0.N, win0_4.index t 0 = 8 * t.val - 1 ∧ win0_4.index t 1 = 0) t
theorem index_5 : win0_5.index t 0 = 8 * t.val - 1 ∧ win0_5.index t 1 = 1 := (by decide +kernel : ∀ t : Fin grid0.N, win0_5.index t 0 = 8 * t.val - 1 ∧ win0_5.index t 1 = 1) t
theorem index_6 : win0_6.index t 0 = 0 ∧ win0_6.index t 1 = 0 := (by decide +kernel : ∀ t : Fin grid0.N, win0_6.index t 0 = 0 ∧ win0_6.index t 1 = 0) t

theorem iblk_0 : (iblk m c 0 t : Vec Ideal S256x1024 .f32) = fun j => at2 (dArr m c) (256 * t.val + (j 0).val) ((j 1).val) := by
  have hN : t.val < 32 := t.isLt
  obtain ⟨i0, i1⟩ := index_0 t
  funext j
  unfold iblk
  rw [View.read_apply]
  refine at2_at (dArr m c) _ _ _ ?_ ?_
  · show win0_0.index t 0 * 256 + 1 * (j 0).val = _
    rw [i0]; omega
  · show win0_0.index t 1 * 1024 + 1 * (j 1).val = _
    rw [i1]; omega

theorem iblk_1 (ht : t.val ≠ 31) : (iblk m c 1 t : Vec Ideal S32x1024 .f32) = fun j => at2 (dArr m c) (256 * t.val + 256 + (j 0).val) ((j 1).val) := by
  have hN : t.val < 32 := t.isLt
  obtain ⟨i0, i1⟩ := index_1 t
  funext j
  unfold iblk
  rw [View.read_apply]
  refine at2_at (dArr m c) _ _ _ ?_ ?_
  · show win0_1.index t 0 * 32 + 1 * (j 0).val = _
    rw [i0]; omega
  · show win0_1.index t 1 * 1024 + 1 * (j 1).val = _
    rw [i1]; omega

theorem iblk_2 : (iblk m c 2 t : Vec Ideal S256x1024 .bf16) = fun j => at2 (qArr m c) (256 * t.val + (j 0).val) ((j 1).val) := by
  have hN : t.val < 32 := t.isLt
  obtain ⟨i0, i1⟩ := index_2 t
  funext j
  unfold iblk
  rw [View.read_apply]
  refine at2_at (qArr m c) _ _ _ ?_ ?_
  · show win0_2.index t 0 * 256 + 1 * (j 0).val = _
    rw [i0]; omega
  · show win0_2.index t 1 * 1024 + 1 * (j 1).val = _
    rw [i1]; omega

theorem iblk_3 : (iblk m c 3 t : Vec Ideal S256x1024 .bf16) = fun j => at2 (qArr m c) (256 * t.val + (j 0).val) (1024 + (j 1).val) := by
  have hN : t.val < 32 := t.isLt
  obtain ⟨i0, i1⟩ := index_3 t
  funext j
  unfold iblk
  rw [View.read_apply]
  refine at2_at (qArr m c) _ _ _ ?_ ?_
  · show win0_3.index t 0 * 256 + 1 * (j 0).val = _
    rw [i0]; omega
  · show win0_3.index t 1 * 1024 + 1 * (j 1).val = _
    rw [i1]; omega

theorem iblk_4 (ht : t.val ≠ 0) : (iblk m c 4 t : Vec Ideal S32x1024 .bf16) = fun j => at2 (qArr m c) (256 * t.val - 32 + (j 0).val) ((j 1).val) := by
  have hN : t.val < 32 := t.isLt
  obtain ⟨i0, i1⟩ := index_4 t
  funext j
  unfold iblk
  rw [View.read_apply]
  refine at2_at (qArr m c) _ _ _ ?_ ?_
  · show win0_4.index t 0 * 32 + 1 * (j 0).val = _
    rw [i0]; omega
  · show win0_4.index t 1 * 1024 + 1 * (j 1).val = _
    rw [i1]; omega

theorem iblk_5 (ht : t.val ≠ 0) : (iblk m c 5 t : Vec Ideal S32x1024 .bf16) = fun j => at2 (qArr m c) (256 * t.val - 32 + (j 0).val) (1024 + (j 1).val) := by
  have hN : t.val < 32 := t.isLt
  obtain ⟨i0, i1⟩ := index_5 t
  funext j
  unfold iblk
  rw [View.read_apply]
  refine at2_at (qArr m c) _ _ _ ?_ ?_
  · show win0_5.index t 0 * 32 + 1 * (j 0).val = _
    rw [i0]; omega
  · show win0_5.index t 1 * 1024 + 1 * (j 1).val = _
    rw [i1]; omega

theorem iblk_6 : (iblk m c 6 t : Vec Ideal S32x1024 .f32) = fun j => at2 (wArr m c) ((j 0).val) ((j 1).val) := by
  have hN : t.val < 32 := t.isLt
  obtain ⟨i0, i1⟩ := index_6 t
  funext j
  unfold iblk
  rw [View.read_apply]
  refine at2_at (wArr m c) _ _ _ ?_ ?_
  · show win0_6.index t 0 * 32 + 1 * (j 0).val = _
    rw [i0]; omega
  · show win0_6.index t 1 * 1024 + 1 * (j 1).val = _
    rw [i1]; omega

theorem coord : (grid0.coords t 0).val = t.val := (by decide +kernel : ∀ t : Fin grid0.N, (grid0.coords t 0).val = t.val) t

/-- The first point is known by its counter being zero. -/
theorem at_first : Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1) t

/-- The last point is known by its counter being 31. -/
theorem at_last : Scalar.cmpi .eq (BitVec.ofNat 32 (grid0.coords t 0).val) 31#32 = if t.val = 31 then 1#1 else 0#1 :=
  (by decide +kernel : ∀ t : Fin grid0.N, Scalar.cmpi .eq (BitVec.ofNat 32 (grid0.coords t 0).val) 31#32 = if t.val = 31 then 1#1 else 0#1) t
end Cert.ConvGrad
end
-- ==== Proof.Taps.lean ====
module
public import proofs.«01_k».proof.Proof.Gen.KernelIdeal.Frame
public import Idealize.ShloMosaic.Lib.Pipeline.Value
public import Idealize.ShloMosaic.Lib.Pointwise
public import Idealize.ShloMosaic.PureOps.Ideal.Laws
@[expose] public section
set_option maxRecDepth 16384
noncomputable section
/-! The first loop of the body: eight trips, each over 128 lanes, each writing the 31-tap sum of its lanes. -/

namespace Cert.ConvGrad
open Cert.KernelIdeal Cert.KernelIdeal.Gen
open Idealize.ShloMosaic Idealize.ShloMosaic.TcCoe Idealize.ShloMosaic.Tactic
open Idealize.SL.Sem

/-- What one trip of the tap loop stores. -/
abbrev tapTrip (c : Dev nD) (t : Fin cfg0.N) (X7 : BufTy.Contents (Elt Ideal) (ms0_6 t).view.ty) (X13 : BufTy.Contents (Elt Ideal) scM0_1.view.ty)
    (X16 : BufTy.Contents (Elt Ideal) scM0_4.view.ty) (n : Fin k0_t1_loop.trips) : List (View.Piece (Elt Ideal) S256x1024 .f32) :=
  (trip_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (0#32) X7 X13 X16 n).1

/-- What the trips before `k` of the tap loop have stored. -/
abbrev tapList (c : Dev nD) (t : Fin cfg0.N) (X7 : BufTy.Contents (Elt Ideal) (ms0_6 t).view.ty) (X13 : BufTy.Contents (Elt Ideal) scM0_1.view.ty)
    (X16 : BufTy.Contents (Elt Ideal) scM0_4.view.ty) (k : ℕ) : List (View.Piece (Elt Ideal) S256x1024 .f32) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (0#32) X7 X13 X16 k

/-- The 31-tap sum over the rows of `D` that follow row `r`, at lane `l`. -/
def tapSum (W D : ℕ → ℕ → EReal) (r l : ℕ) : EReal := ∑ k ∈ Finset.range 31, W k l * D (30 - k + r) l

section
variable (c : Dev nD) (t : Fin cfg0.N) (W D : ℕ → ℕ → EReal)
  (X7 : BufTy.Contents (Elt Ideal) (ms0_6 t).view.ty) (X13 : BufTy.Contents (Elt Ideal) scM0_1.view.ty)
  (X16 : BufTy.Contents (Elt Ideal) scM0_4.view.ty)
  (e7 : (ms0_6 t).view.read (Elt Ideal) X7 = fun j => W (j 0).val (j 1).val)
  (e13 : scM0_1.view.read (Elt Ideal) X13 = fun j => D (j 0).val (j 1).val)
  (e16 : scM0_4.view.read (Elt Ideal) X16 = fun j => D ((j 0).val + 1 + (j 1).val) (j 2).val)
include e7 e13 e16

/-- One trip's block holds the 31-tap sums of its lanes. -/
theorem tapTrip_apply (n : Fin k0_t1_loop.trips) : ∀ p ∈ tapTrip c t X7 X13 X16 n,
    ∀ x : p.1.shape.Idx, p.2 x = (fun j : S256x1024.Idx => tapSum W D (j 0).val (j 1).val) (p.1.emb x) := by
  unfold tapTrip trip_k0_t1
  dsimp only
  sl_unfold_words
  intro p hp
  obtain rfl := List.mem_singleton.mp hp
  intro (x : S256x128.Idx)
  simp only [View.readAt_eq_ld, e7, e13, e16, tapSum]
  unfold_payloads
  dsimp only
  idx_vars x
  pointwise [Rect.emb_apply, Finset.sum_range_succ, Finset.sum_range_zero]
  generalize BitVec.toNat (Scalar.indexCast (Scalar.muli (Scf.iv 0#32 1#32 n.val) 128#32)) = o
  simp only [← Nat.add_assoc, Nat.reduceAdd]

/-- So do the blocks of any number of trips. -/
theorem tapList_apply : ∀ k : ℕ, k ≤ k0_t1_loop.trips → ∀ p ∈ tapList c t X7 X13 X16 k,
    ∀ x : p.1.shape.Idx, p.2 x = (fun j : S256x1024.Idx => tapSum W D (j 0).val (j 1).val) (p.1.emb x)
  | 0, _, p, hp => absurd hp List.not_mem_nil
  | k + 1, hk, p, hp => by
    have hs : tapList c t X7 X13 X16 (k + 1) = tapTrip c t X7 X13 X16 ⟨k, hk⟩ ++ tapList c t X7 X13 X16 k :=
      pb_k0_t1_succ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (0#32) X7 X13 X16 ⟨k, hk⟩
    rw [hs] at hp
    rcases List.mem_append.mp hp with hp | hp
    · exact tapTrip_apply c t W D X7 X13 X16 e7 e13 e16 ⟨k, hk⟩ p hp
    · exact tapList_apply k (Nat.le_of_succ_le hk) p hp

omit e7 e13 e16 in
/-- The eight trips cover the block. -/
theorem tapList_cover (y : S256x1024.Idx) : ∃ p ∈ tapList c t X7 X13 X16 k0_t1_loop.trips, y ∈ p.1.set :=
  View.cover_of_tiledL (tapList c t X7 X13 X16 k0_t1_loop.trips) ![256, 128] (by sl_kernel_rfl) y

/-- What the tap loop leaves. -/
theorem tapList_canon : View.canon (tapList c t X7 X13 X16 k0_t1_loop.trips) = fun j : S256x1024.Idx => tapSum W D (j 0).val (j 1).val :=
  funext fun y => View.canon_apply_of_pieces (fun j : S256x1024.Idx => tapSum W D (j 0).val (j 1).val) _
    (tapList_apply c t W D X7 X13 X16 e7 e13 e16 _ le_rfl) y (tapList_cover c t X7 X13 X16 y)
end
end Cert.ConvGrad
end
-- ==== Proof.Weights.lean ====
module
public import proofs.«01_k».proof.Proof.Gen.KernelIdeal.Frame
public import Idealize.ShloMosaic.Lib.Pipeline.Value
public import Idealize.ShloMosaic.Lib.Pointwise
public import Idealize.ShloMosaic.PureOps.Ideal.Laws
@[expose] public section
set_option maxRecDepth 16384
noncomputable section
/-! The second loop of the body: eight trips, each over 128 lanes, each adding to the rows `8 k + s` of the running
    weight gradient the products of the block's rows `8 r + s` with the gate rows `k + 2` further down. -/

namespace Cert.ConvGrad
open Cert.KernelIdeal Cert.KernelIdeal.Gen
open Idealize.ShloMosaic Idealize.ShloMosaic.TcCoe Idealize.ShloMosaic.Tactic
open Idealize.SL.Sem

/-- What one trip of the weight loop stores over the contents `f`. -/
abbrev weightTrip (c : Dev nD) (t : Fin cfg0.N) (X1 : BufTy.Contents (Elt Ideal) (ms0_0 t).view.ty) (X12 : BufTy.Contents (Elt Ideal) scM0_0.view.ty)
    (X15 : BufTy.Contents (Elt Ideal) scM0_3.view.ty) (n : Fin k0_t2_loop.trips) (f : BufTy.Contents (Elt Ideal) (ms0_9 t).view.ty) :
    List (View.Piece (Elt Ideal) S256x1024 .f32) :=
  (trip_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) X1 X12 X15 n).1 f

/-- What the trips before `k` of the weight loop have stored over the contents `f`. -/
abbrev weightList (c : Dev nD) (t : Fin cfg0.N) (X1 : BufTy.Contents (Elt Ideal) (ms0_0 t).view.ty) (X12 : BufTy.Contents (Elt Ideal) scM0_0.view.ty)
    (X15 : BufTy.Contents (Elt Ideal) scM0_3.view.ty) (f : BufTy.Contents (Elt Ideal) (ms0_9 t).view.ty) (k : ℕ) :
    List (View.Piece (Elt Ideal) S256x1024 .f32) :=
  pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) X1 X12 X15 f k

/-- The sum a block adds at row `a` and lane `l` of the running weight gradient. -/
def rowSum (D G : ℕ → ℕ → EReal) (a l : ℕ) : EReal := ∑ r ∈ Finset.range 32, D (8 * r + a % 8) l * G (8 * r + (a / 8 + 2) + a % 8) l

theorem row_mod (a s : ℕ) (ha : a % 8 = 0) (hs : s < 8) : (a + s) % 8 = s := by omega
theorem row_div (a s : ℕ) (ha : a % 8 = 0) (hs : s < 8) : (a + s) / 8 = a / 8 := by omega

section
variable (c : Dev nD) (t : Fin cfg0.N) (D G : ℕ → ℕ → EReal)
  (X1 : BufTy.Contents (Elt Ideal) (ms0_0 t).view.ty) (X12 : BufTy.Contents (Elt Ideal) scM0_0.view.ty)
  (X15 : BufTy.Contents (Elt Ideal) scM0_3.view.ty)
  (e1 : (ms0_0 t).view.read (Elt Ideal) X1 = fun j => D (j 0).val (j 1).val)
  (e12 : scM0_0.view.read (Elt Ideal) X12 = fun j => G (j 0).val (j 1).val)
  (e15 : scM0_3.view.read (Elt Ideal) X15 = fun j => G ((j 0).val + 1 + (j 1).val) (j 2).val)

/-- The places one trip writes: the rows before 248 of its 128 lanes. -/
theorem weightTrip_places (n : Fin k0_t2_loop.trips) (f : BufTy.Contents (Elt Ideal) (ms0_9 t).view.ty) (y : S256x1024.Idx) :
    (∃ p ∈ weightTrip c t X1 X12 X15 n f, y ∈ p.1.set) ↔ (y 0).val < 248 ∧ 128 * n.val ≤ (y 1).val ∧ (y 1).val < 128 * n.val + 128 := by
  have ho : BitVec.toNat (Scalar.indexCast (Scalar.muli (Scf.iv 0#32 1#32 n.val) 128#32)) = 128 * n.val := by
    revert n; decide +kernel
  unfold weightTrip trip_k0_t2
  dsimp only
  sl_unfold_words
  simp only [List.exists_mem_cons_iff, List.not_mem_nil, false_and, exists_false, or_false, Rect.mem_set_unit, Fin.forall_fin_two,
    Matrix.cons_val_zero, Matrix.cons_val_one, Matrix.cons_val_fin_one, ho]
  omega

include e1 e12 e15

set_option maxHeartbeats 8000000 in
/-- One trip adds the block's sums to what the rows held. -/
theorem weightTrip_apply (A : ℕ → ℕ → EReal) (n : Fin k0_t2_loop.trips) (f : BufTy.Contents (Elt Ideal) (ms0_9 t).view.ty)
    (e10 : (ms0_9 t).view.read (Elt Ideal) f = fun j => A (j 0).val (j 1).val) : ∀ p ∈ weightTrip c t X1 X12 X15 n f,
    ∀ x : p.1.shape.Idx, p.2 x = (fun j : S256x1024.Idx => A (j 0).val (j 1).val + rowSum D G (j 0).val (j 1).val) (p.1.emb x) := by
  unfold weightTrip trip_k0_t2
  dsimp only
  sl_unfold_words
  simp only [View.readAt_eq_ld, e1, e10, e12, e15, rowSum]
  repeat' (first | exact List.forall_mem_nil _ | refine List.forall_mem_cons.mpr ⟨?_, ?_⟩)
  all_goals
    intro (x : S8x128.Idx)
    unfold_payloads
    dsimp only
    idx_vars x
    pointwise [Rect.emb_apply, Finset.sum_range_succ, Finset.sum_range_zero]
    generalize BitVec.toNat (Scalar.indexCast (Scalar.muli (Scf.iv 0#32 1#32 n.val) 128#32)) = o
    have hs : x0.val < 8 := x0.isLt
    generalize x0.val = s at *
    simp only [row_mod _ _ _ hs, row_div _ _ _ hs, Nat.mod_eq_of_lt hs, Nat.div_eq_of_lt hs, Nat.reduceDiv, Nat.reduceMod, ← Nat.add_assoc,
      Nat.reduceAdd, Nat.zero_add]

/-- After `k` trips the sums are in for the lanes before `128 k`. -/
theorem weightList_read (A : ℕ → ℕ → EReal) (f : BufTy.Contents (Elt Ideal) (ms0_9 t).view.ty)
    (e10 : (ms0_9 t).view.read (Elt Ideal) f = fun j => A (j 0).val (j 1).val) : ∀ k : ℕ, k ≤ k0_t2_loop.trips →
    (ms0_9 t).view.read (Elt Ideal) ((ms0_9 t).view.writes (Elt Ideal) f (weightList c t X1 X12 X15 f k))
      = fun j => (fun a l => if a < 248 ∧ l < 128 * k then A a l + rowSum D G a l else A a l) (j 0).val (j 1).val
  | 0, _ => by
    refine e10.trans (funext fun j => ?_)
    dsimp only
    rw [if_neg (by omega)]
  | k + 1, hk => by
    have hs : weightList c t X1 X12 X15 f (k + 1) = weightTrip c t X1 X12 X15 ⟨k, hk⟩ ((ms0_9 t).view.writes (Elt Ideal) f (weightList c t X1 X12 X15 f k))
        ++ weightList c t X1 X12 X15 f k :=
      pb_k0_t2_succ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) X1 X12 X15 f ⟨k, hk⟩
    have ih := weightList_read A f e10 k (Nat.le_of_succ_le hk)
    rw [hs, View.writes_append]
    generalize (ms0_9 t).view.writes (Elt Ideal) f (weightList c t X1 X12 X15 f k) = f' at ih ⊢
    funext y
    have hp := weightTrip_places c t X1 X12 X15 ⟨k, hk⟩ f' y
    dsimp only at hp
    by_cases hy : ∃ p ∈ weightTrip c t X1 X12 X15 ⟨k, hk⟩ f', y ∈ p.1.set
    · have hG := weightTrip_apply c t D G X1 X12 X15 e1 e12 e15 (fun a l => if a < 248 ∧ l < 128 * k then A a l + rowSum D G a l else A a l) ⟨k, hk⟩ f' ih
      refine (View.read_writes_apply_of_pieces (ms0_9 t).view f' (fun j : S256x1024.Idx => (fun a l => if a < 248 ∧ l < 128 * k then
        A a l + rowSum D G a l else A a l) (j 0).val (j 1).val + rowSum D G (j 0).val (j 1).val) _ hG y hy).trans ?_
      have hq := hp.mp hy
      dsimp only
      rw [if_neg (by omega), if_pos (by omega)]
    · rw [View.read_writes_apply_of_forall_not_mem _ _ y _ (fun p hp hq => hy ⟨p, hp, hq⟩), ih]
      have hq : ¬((y 0).val < 248 ∧ 128 * k ≤ (y 1).val ∧ (y 1).val < 128 * k + 128) := fun h => hy (hp.mpr h)
      dsimp only
      refine if_congr ?_ rfl rfl
      omega

/-- What the weight loop leaves. -/
theorem weightList_final (A : ℕ → ℕ → EReal) (f : BufTy.Contents (Elt Ideal) (ms0_9 t).view.ty)
    (e10 : (ms0_9 t).view.read (Elt Ideal) f = fun j => A (j 0).val (j 1).val) :
    (ms0_9 t).view.read (Elt Ideal) ((ms0_9 t).view.writes (Elt Ideal) f (weightList c t X1 X12 X15 f k0_t2_loop.trips))
      = fun j => (fun a l => if a < 248 then A a l + rowSum D G a l else A a l) (j 0).val (j 1).val := by
  rw [weightList_read c t D G X1 X12 X15 e1 e12 e15 A f e10 _ le_rfl]
  funext j
  have hl : (j 1).val < 1024 := (j 1).isLt
  have ht : k0_t2_loop.trips = 8 := by decide
  refine if_congr ?_ rfl rfl
  rw [ht]
  omega
end
end Cert.ConvGrad
end
-- ==== Proof.Body.lean ====
module
public import proofs.«01_k».proof.Proof.Inputs
public import proofs.«01_k».proof.Proof.Taps
public import proofs.«01_k».proof.Proof.Weights
public import Idealize.ShloMosaic.Lib.Pipeline.Value
public import Idealize.ShloMosaic.Lib.Pointwise
public import Idealize.ShloMosaic.PureOps.Ideal.Laws
@[expose] public section
set_option maxRecDepth 16384
noncomputable section
/-! The scratch buffers at a point: the gradient rows with the 32 that follow, the gated rows behind the 32 before them,
    and for each the seven copies that start 1 to 7 rows further down. -/

namespace Cert.ConvGrad
open Cert.KernelIdeal Cert.KernelIdeal.Gen
open Idealize.ShloMosaic Idealize.ShloMosaic.TcCoe Idealize.ShloMosaic.Tactic
open Idealize.SL.Sem
variable (m : (ℓ : Loc nD τ sig) → Buf (Elt Ideal) ℓ) (c : Dev nD) (t : Fin cfg0.N)

theorem hz : (![0, 0] : Fin 2 → Nat) = fun _ => 0 := funext fun a => by fin_cases a <;> rfl

/-- The rows of the incoming gradient from the point's first row on. -/
abbrev dRow (r l : ℕ) : EReal := at2 (dArr m c) (256 * t.val + r) l
/-- The gated rows behind 32 zero rows, from the point's first row on. -/
abbrev gRow (r l : ℕ) : EReal := padded (qArr m c) (256 * t.val + r) l
/-- The taps, and the bias in the last row. -/
abbrev wRow (k l : ℕ) : EReal := at2 (wArr m c) k l

/-- What the body stores in the gradient scratch. -/
abbrev dExt : List (View.Piece (Elt Ideal) S288x1024 .f32) :=
  [⟨Rect.unit ![256, 0] S32x1024.size inb_S288x1024_S32x1024_256_0, k0_pay515 (BitVec.ofNat 32 (grid0.coords t 0).val) (View.readAt (Elt Ideal) (ms0_1 t).view (Rect.unit ![0, 0] S32x1024.size inb_S32x1024_S32x1024_0_0).toLoadRect ((hs0_1 t).unread (iblk m c 1 t)))⟩,
   ⟨Rect.unit ![0, 0] S256x1024.size inb_S288x1024_S256x1024_0_0, k0_pay514 (View.readAt (Elt Ideal) (ms0_0 t).view (Rect.unit ![0, 0] S256x1024.size inb_S256x1024_S256x1024_0_0).toLoadRect ((hs0_0 t).unread (iblk m c 0 t)))⟩]

/-- What the body stores in the gate scratch. -/
abbrev gExt : List (View.Piece (Elt Ideal) S288x1024 .f32) :=
  [⟨Rect.unit ![32, 0] S256x1024.size inb_S288x1024_S256x1024_32_0, k0_pay513 (k0_pay512 (View.readAt (Elt Ideal) (ms0_2 t).view (Rect.unit ![0, 0] S256x1024.size inb_S256x1024_S256x1024_0_0).toLoadRect ((hs0_2 t).unread (iblk m c 2 t))) (View.readAt (Elt Ideal) (ms0_3 t).view (Rect.unit ![0, 0] S256x1024.size inb_S256x1024_S256x1024_0_0).toLoadRect ((hs0_3 t).unread (iblk m c 3 t))))⟩,
   ⟨Rect.unit ![0, 0] S32x1024.size inb_S288x1024_S32x1024_0_0, k0_pay511 (grid0.coords t) (View.readAt (Elt Ideal) (ms0_4 t).view (Rect.unit ![0, 0] S32x1024.size inb_S32x1024_S32x1024_0_0).toLoadRect ((hs0_4 t).unread (iblk m c 4 t))) (View.readAt (Elt Ideal) (ms0_5 t).view (Rect.unit ![0, 0] S32x1024.size inb_S32x1024_S32x1024_0_0).toLoadRect ((hs0_5 t).unread (iblk m c 5 t)))⟩]

/-- What the body stores in the shifted copies of the gradient scratch. -/
abbrev dCopies : List (View.Piece (Elt Ideal) S7x280x1024 .f32) :=
  [⟨Rect.unit ![6, 0, 0] S1x280x1024.size inb_S7x280x1024_S1x280x1024_6_0_0, k0_pay529 (scM0_1.view.readCov (dExt m c t) (Rect.unit (s := S288x1024) ![7, 0] S280x1024.size inb_S288x1024_S280x1024_7_0).toLoadRect)⟩,
   ⟨Rect.unit ![5, 0, 0] S1x280x1024.size inb_S7x280x1024_S1x280x1024_5_0_0, k0_pay528 (scM0_1.view.readCov (dExt m c t) (Rect.unit (s := S288x1024) ![6, 0] S280x1024.size inb_S288x1024_S280x1024_6_0).toLoadRect)⟩,
   ⟨Rect.unit ![4, 0, 0] S1x280x1024.size inb_S7x280x1024_S1x280x1024_4_0_0, k0_pay527 (scM0_1.view.readCov (dExt m c t) (Rect.unit (s := S288x1024) ![5, 0] S280x1024.size inb_S288x1024_S280x1024_5_0).toLoadRect)⟩,
   ⟨Rect.unit ![3, 0, 0] S1x280x1024.size inb_S7x280x1024_S1x280x1024_3_0_0, k0_pay526 (scM0_1.view.readCov (dExt m c t) (Rect.unit (s := S288x1024) ![4, 0] S280x1024.size inb_S288x1024_S280x1024_4_0).toLoadRect)⟩,
   ⟨Rect.unit ![2, 0, 0] S1x280x1024.size inb_S7x280x1024_S1x280x1024_2_0_0, k0_pay525 (scM0_1.view.readCov (dExt m c t) (Rect.unit (s := S288x1024) ![3, 0] S280x1024.size inb_S288x1024_S280x1024_3_0).toLoadRect)⟩,
   ⟨Rect.unit ![1, 0, 0] S1x280x1024.size inb_S7x280x1024_S1x280x1024_1_0_0, k0_pay524 (scM0_1.view.readCov (dExt m c t) (Rect.unit (s := S288x1024) ![2, 0] S280x1024.size inb_S288x1024_S280x1024_2_0).toLoadRect)⟩,
   ⟨Rect.unit ![0, 0, 0] S1x280x1024.size inb_S7x280x1024_S1x280x1024_0_0_0, k0_pay523 (scM0_1.view.readCov (dExt m c t) (Rect.unit (s := S288x1024) ![1, 0] S280x1024.size inb_S288x1024_S280x1024_1_0).toLoadRect)⟩]

/-- What the body stores in the shifted copies of the gate scratch. -/
abbrev gCopies : List (View.Piece (Elt Ideal) S7x280x1024 .f32) :=
  [⟨Rect.unit ![6, 0, 0] S1x280x1024.size inb_S7x280x1024_S1x280x1024_6_0_0, k0_pay522 (scM0_0.view.readCov (gExt m c t) (Rect.unit (s := S288x1024) ![7, 0] S280x1024.size inb_S288x1024_S280x1024_7_0).toLoadRect)⟩,
   ⟨Rect.unit ![5, 0, 0] S1x280x1024.size inb_S7x280x1024_S1x280x1024_5_0_0, k0_pay521 (scM0_0.view.readCov (gExt m c t) (Rect.unit (s := S288x1024) ![6, 0] S280x1024.size inb_S288x1024_S280x1024_6_0).toLoadRect)⟩,
   ⟨Rect.unit ![4, 0, 0] S1x280x1024.size inb_S7x280x1024_S1x280x1024_4_0_0, k0_pay520 (scM0_0.view.readCov (gExt m c t) (Rect.unit (s := S288x1024) ![5, 0] S280x1024.size inb_S288x1024_S280x1024_5_0).toLoadRect)⟩,
   ⟨Rect.unit ![3, 0, 0] S1x280x1024.size inb_S7x280x1024_S1x280x1024_3_0_0, k0_pay519 (scM0_0.view.readCov (gExt m c t) (Rect.unit (s := S288x1024) ![4, 0] S280x1024.size inb_S288x1024_S280x1024_4_0).toLoadRect)⟩,
   ⟨Rect.unit ![2, 0, 0] S1x280x1024.size inb_S7x280x1024_S1x280x1024_2_0_0, k0_pay518 (scM0_0.view.readCov (gExt m c t) (Rect.unit (s := S288x1024) ![3, 0] S280x1024.size inb_S288x1024_S280x1024_3_0).toLoadRect)⟩,
   ⟨Rect.unit ![1, 0, 0] S1x280x1024.size inb_S7x280x1024_S1x280x1024_1_0_0, k0_pay517 (scM0_0.view.readCov (gExt m c t) (Rect.unit (s := S288x1024) ![2, 0] S280x1024.size inb_S288x1024_S280x1024_2_0).toLoadRect)⟩,
   ⟨Rect.unit ![0, 0, 0] S1x280x1024.size inb_S7x280x1024_S1x280x1024_0_0_0, k0_pay516 (scM0_0.view.readCov (gExt m c t) (Rect.unit (s := S288x1024) ![1, 0] S280x1024.size inb_S288x1024_S280x1024_1_0).toLoadRect)⟩]

/-- The incoming block. -/
theorem read_0 : View.readAt (Elt Ideal) (ms0_0 t).view (Rect.unit ![0, 0] S256x1024.size inb_S256x1024_S256x1024_0_0).toLoadRect ((hs0_0 t).unread (iblk m c 0 t))
    = fun j : S256x1024.Idx => dRow m c t (j 0).val (j 1).val := by
  rw [View.readAt_eq_ld, (hs0_0 t).read_unread, View.ld_unit_zero (S := S256x1024) hz]
  exact iblk_0 m c t

/-- The value half of the projected block. -/
theorem read_2 : View.readAt (Elt Ideal) (ms0_2 t).view (Rect.unit ![0, 0] S256x1024.size inb_S256x1024_S256x1024_0_0).toLoadRect ((hs0_2 t).unread (iblk m c 2 t))
    = fun j : S256x1024.Idx => at2 (qArr m c) (256 * t.val + (j 0).val) (j 1).val := by
  rw [View.readAt_eq_ld, (hs0_2 t).read_unread, View.ld_unit_zero (S := S256x1024) hz]
  exact iblk_2 m c t

/-- The gate half of the projected block. -/
theorem read_3 : View.readAt (Elt Ideal) (ms0_3 t).view (Rect.unit ![0, 0] S256x1024.size inb_S256x1024_S256x1024_0_0).toLoadRect ((hs0_3 t).unread (iblk m c 3 t))
    = fun j : S256x1024.Idx => at2 (qArr m c) (256 * t.val + (j 0).val) (1024 + (j 1).val) := by
  rw [View.readAt_eq_ld, (hs0_3 t).read_unread, View.ld_unit_zero (S := S256x1024) hz]
  exact iblk_3 m c t

/-- The rows after the block, zero after the last. -/
theorem after_rows : k0_pay515 (F := Ideal) (BitVec.ofNat 32 (grid0.coords t 0).val) (View.readAt (Elt Ideal) (ms0_1 t).view (Rect.unit ![0, 0] S32x1024.size inb_S32x1024_S32x1024_0_0).toLoadRect ((hs0_1 t).unread (iblk m c 1 t)))
    = fun j : S32x1024.Idx => dRow m c t (256 + (j 0).val) (j 1).val := by
  have hN : t.val < 32 := t.isLt
  rw [View.readAt_eq_ld, (hs0_1 t).read_unread, View.ld_unit_zero (S := S32x1024) hz]
  unfold k0_pay515
  dsimp only
  rw [shapeCast_self, at_last t]
  by_cases ht : t.val = 31
  · rw [if_pos ht]
    funext j
    unfold dRow
    rw [at2_of_ge _ _ _ (by omega)]
    pointwise
  · rw [if_neg ht, iblk_1 m c t ht]
    funext j
    unfold dRow
    rw [← Nat.add_assoc]
    pointwise

/-- The gated rows before the block, zero before the first. -/
theorem before_rows : k0_pay511 (F := Ideal) (grid0.coords t) (View.readAt (Elt Ideal) (ms0_4 t).view (Rect.unit ![0, 0] S32x1024.size inb_S32x1024_S32x1024_0_0).toLoadRect ((hs0_4 t).unread (iblk m c 4 t)))
      (View.readAt (Elt Ideal) (ms0_5 t).view (Rect.unit ![0, 0] S32x1024.size inb_S32x1024_S32x1024_0_0).toLoadRect ((hs0_5 t).unread (iblk m c 5 t)))
    = fun j : S32x1024.Idx => gRow m c t (j 0).val (j 1).val := by
  rw [View.readAt_eq_ld, (hs0_4 t).read_unread, View.ld_unit_zero (S := S32x1024) hz, View.readAt_eq_ld, (hs0_5 t).read_unread, View.ld_unit_zero (S := S32x1024) hz]
  unfold k0_pay511
  dsimp only
  rw [shapeCast_self, at_first t]
  funext j
  have hj : (j 0).val < 32 := (j 0).isLt
  unfold gRow padded
  by_cases ht : t.val = 0
  · rw [if_pos ht, if_pos (by omega)]
    pointwise
  · rw [if_neg ht, iblk_4 m c t ht, iblk_5 m c t ht, if_neg (by omega), show 256 * t.val + (j 0).val - 32 = 256 * t.val - 32 + (j 0).val by omega]
    unfold gated sg
    pointwise [zero_sub]

/-- The gated rows of the block. -/
theorem block_rows : k0_pay513 (F := Ideal) (k0_pay512 (View.readAt (Elt Ideal) (ms0_2 t).view (Rect.unit ![0, 0] S256x1024.size inb_S256x1024_S256x1024_0_0).toLoadRect ((hs0_2 t).unread (iblk m c 2 t)))
      (View.readAt (Elt Ideal) (ms0_3 t).view (Rect.unit ![0, 0] S256x1024.size inb_S256x1024_S256x1024_0_0).toLoadRect ((hs0_3 t).unread (iblk m c 3 t))))
    = fun j : S256x1024.Idx => gRow m c t (32 + (j 0).val) (j 1).val := by
  rw [read_2, read_3]
  unfold_payloads
  dsimp only
  rw [shapeCast_self]
  funext j
  unfold gRow padded
  rw [if_neg (by omega), show 256 * t.val + (32 + (j 0).val) - 32 = 256 * t.val + (j 0).val by omega]
  unfold gated sg
  pointwise [zero_sub]

theorem dExt_cover (y : S288x1024.Idx) : ∃ p ∈ dExt m c t, y ∈ p.1.set := by
  have h0 : (y 0).val < 288 := (y 0).isLt
  have h1 : (y 1).val < 1024 := (y 1).isLt
  simp only [List.exists_mem_cons_iff, List.not_mem_nil, false_and, exists_false, or_false, Rect.mem_set_unit, Fin.forall_fin_two,
    Matrix.cons_val_zero, Matrix.cons_val_one, Matrix.cons_val_fin_one]
  omega

theorem dExt_canon : View.canon (dExt m c t) = fun j : S288x1024.Idx => dRow m c t (j 0).val (j 1).val := by
  funext y
  refine View.canon_apply_of_pieces (Val := Elt Ideal) (e := .f32) (fun j : S288x1024.Idx => dRow m c t (j 0).val (j 1).val) _ ?_ y (dExt_cover m c t y)
  refine List.forall_mem_cons.mpr ⟨?_, List.forall_mem_cons.mpr ⟨?_, List.forall_mem_nil _⟩⟩
  · intro (x : S32x1024.Idx)
    rw [after_rows]
    simp only [Rect.emb_apply]
    pointwise
  · intro (x : S256x1024.Idx)
    rw [read_0]
    unfold k0_pay514
    dsimp only
    rw [shapeCast_self]
    simp only [Rect.emb_apply]
    pointwise

theorem gExt_cover (y : S288x1024.Idx) : ∃ p ∈ gExt m c t, y ∈ p.1.set := by
  have h0 : (y 0).val < 288 := (y 0).isLt
  have h1 : (y 1).val < 1024 := (y 1).isLt
  simp only [List.exists_mem_cons_iff, List.not_mem_nil, false_and, exists_false, or_false, Rect.mem_set_unit, Fin.forall_fin_two,
    Matrix.cons_val_zero, Matrix.cons_val_one, Matrix.cons_val_fin_one]
  omega

theorem gExt_canon : View.canon (gExt m c t) = fun j : S288x1024.Idx => gRow m c t (j 0).val (j 1).val := by
  funext y
  refine View.canon_apply_of_pieces (Val := Elt Ideal) (e := .f32) (fun j : S288x1024.Idx => gRow m c t (j 0).val (j 1).val) _ ?_ y (gExt_cover m c t y)
  refine List.forall_mem_cons.mpr ⟨?_, List.forall_mem_cons.mpr ⟨?_, List.forall_mem_nil _⟩⟩
  · intro (x : S256x1024.Idx)
    rw [block_rows]
    simp only [Rect.emb_apply]
    pointwise
  · intro (x : S32x1024.Idx)
    rw [before_rows]
    simp only [Rect.emb_apply]
    pointwise

/-- Rows loaded back from it. -/
theorem dExt_load {sp : Space} {κ : Kind} (v : View sig κ sp S288x1024 .f32) (o : ℕ) (h : ∀ a, (![o, 0] : Fin 2 → ℕ) a + S280x1024.size a ≤ S288x1024.size a) (j : S280x1024.Idx) :
    v.readCov (Val := Elt Ideal) (dExt m c t) (Rect.unit (s := S288x1024) ![o, 0] S280x1024.size h).toLoadRect j = dRow m c t (o + (j 0).val) (j 1).val := by
  rw [View.readCov_eq_canon', dExt_canon]
  show dRow m c t (o + 1 * (j 0).val) (0 + 1 * (j 1).val) = _
  rw [Nat.one_mul, Nat.one_mul, Nat.zero_add]

theorem dCopies_canon : View.canon (dCopies m c t) = fun j : S7x280x1024.Idx => dRow m c t ((j 0).val + 1 + (j 1).val) (j 2).val := by
  funext y
  refine View.canon_apply_of_pieces (Val := Elt Ideal) (e := .f32) (fun j : S7x280x1024.Idx => dRow m c t ((j 0).val + 1 + (j 1).val) (j 2).val) _ ?_ y (View.cover_of_tiledL _ ![1, 280, 1024] (by sl_kernel_rfl) y)
  repeat' (first | exact List.forall_mem_nil _ | refine List.forall_mem_cons.mpr ⟨?_, ?_⟩)
  all_goals
    intro (x : S1x280x1024.Idx)
    unfold_payloads
    dsimp only
    idx_vars x
    pointwise [Rect.emb_apply]
    exact dExt_load m c t _ _ _ _

/-- Rows loaded back from it. -/
theorem gExt_load {sp : Space} {κ : Kind} (v : View sig κ sp S288x1024 .f32) (o : ℕ) (h : ∀ a, (![o, 0] : Fin 2 → ℕ) a + S280x1024.size a ≤ S288x1024.size a) (j : S280x1024.Idx) :
    v.readCov (Val := Elt Ideal) (gExt m c t) (Rect.unit (s := S288x1024) ![o, 0] S280x1024.size h).toLoadRect j = gRow m c t (o + (j 0).val) (j 1).val := by
  rw [View.readCov_eq_canon', gExt_canon]
  show gRow m c t (o + 1 * (j 0).val) (0 + 1 * (j 1).val) = _
  rw [Nat.one_mul, Nat.one_mul, Nat.zero_add]

theorem gCopies_canon : View.canon (gCopies m c t) = fun j : S7x280x1024.Idx => gRow m c t ((j 0).val + 1 + (j 1).val) (j 2).val := by
  funext y
  refine View.canon_apply_of_pieces (Val := Elt Ideal) (e := .f32) (fun j : S7x280x1024.Idx => gRow m c t ((j 0).val + 1 + (j 1).val) (j 2).val) _ ?_ y (View.cover_of_tiledL _ ![1, 280, 1024] (by sl_kernel_rfl) y)
  repeat' (first | exact List.forall_mem_nil _ | refine List.forall_mem_cons.mpr ⟨?_, ?_⟩)
  all_goals
    intro (x : S1x280x1024.Idx)
    unfold_payloads
    dsimp only
    idx_vars x
    pointwise [Rect.emb_apply]
    exact gExt_load m c t _ _ _ _

end Cert.ConvGrad
end
-- ==== Proof.Outputs.lean ====
module
public import proofs.«01_k».proof.Proof.Body
public import Idealize.ShloMosaic.Lib.Pipeline.Value
public import Idealize.ShloMosaic.Lib.Pointwise
public import Idealize.ShloMosaic.PureOps.Ideal.Laws
@[expose] public section
set_option maxRecDepth 16384
noncomputable section
/-! What a point leaves in the four output blocks. -/

namespace Cert.ConvGrad
open Cert.KernelIdeal Cert.KernelIdeal.Gen
open Idealize.ShloMosaic Idealize.ShloMosaic.TcCoe Idealize.ShloMosaic.Tactic
open Idealize.SL.Sem
variable (m : (ℓ : Loc nD τ sig) → Buf (Elt Ideal) ℓ) (c : Dev nD) (t : Fin cfg0.N)

/-- The tap sums, as the last lines of the body load them. -/
theorem taps_left : (View.whole cc0_scratch2).readCov (tapList c t ((hs0_6 t).unread (iblk m c 6 t))
      ((View.whole cc0_scratch1).writes (Elt Ideal) (View.whole cc0_scratch1).junk (dExt m c t))
      ((View.whole cc0_scratch4).writes (Elt Ideal) (View.whole cc0_scratch4).junk (dCopies m c t)) k0_t1_loop.trips)
      (Rect.unit ![0, 0] S256x1024.size inb_S256x1024_S256x1024_0_0).toLoadRect
    = fun j : S256x1024.Idx => dGated (dArr m c) (wRow m c) (256 * t.val + (j 0).val) (j 1).val := by
  rw [View.readCov_eq_canon', tapList_canon c t (wRow m c) (dRow m c t)]
  · funext j
    show tapSum (wRow m c) (dRow m c t) (0 + 1 * (j 0).val) (0 + 1 * (j 1).val) = _
    unfold tapSum dGated
    simp only [Nat.one_mul, Nat.zero_add]
    exact Finset.sum_congr rfl fun k _ => by rw [Nat.add_left_comm]
  · rw [(hs0_6 t).read_unread]
    exact iblk_6 m c t
  · exact (View.read_writes_junk_eq_canon _ _).trans (dExt_canon m c t)
  · exact (View.read_writes_junk_eq_canon _ _).trans (dCopies_canon m c t)

/-- The value gradient's block. -/
theorem value_block (x : S256x1024.Idx → EReal) (hx : x = fun j : S256x1024.Idx => dGated (dArr m c) (wRow m c) (256 * t.val + (j 0).val) (j 1).val) :
    k0_pay7 (F := Ideal) (k0_pay510 (View.readAt (Elt Ideal) (ms0_3 t).view (Rect.unit ![0, 0] S256x1024.size inb_S256x1024_S256x1024_0_0).toLoadRect ((hs0_3 t).unread (iblk m c 3 t)))) x
    = fun j : S256x1024.Idx => dValue (dArr m c) (qArr m c) (wRow m c) (256 * t.val + (j 0).val) (j 1).val := by
  rw [read_3, hx]
  unfold_payloads
  funext j
  unfold dValue sg
  pointwise [zero_sub]

/-- The gate gradient's block. -/
theorem gate_block (x : S256x1024.Idx → EReal) (hx : x = fun j : S256x1024.Idx => dGated (dArr m c) (wRow m c) (256 * t.val + (j 0).val) (j 1).val) :
    k0_pay8 (F := Ideal) (k0_pay509 (View.readAt (Elt Ideal) (ms0_2 t).view (Rect.unit ![0, 0] S256x1024.size inb_S256x1024_S256x1024_0_0).toLoadRect ((hs0_2 t).unread (iblk m c 2 t))))
      (k0_pay510 (View.readAt (Elt Ideal) (ms0_3 t).view (Rect.unit ![0, 0] S256x1024.size inb_S256x1024_S256x1024_0_0).toLoadRect ((hs0_3 t).unread (iblk m c 3 t)))) x
    = fun j : S256x1024.Idx => dGate (dArr m c) (qArr m c) (wRow m c) (256 * t.val + (j 0).val) (j 1).val := by
  rw [read_2, read_3, hx]
  unfold_payloads
  funext j
  unfold dGate sg
  pointwise [zero_sub]

theorem out_value : (outsAt0 m c t.val t.isLt).1 = fun j : S256x1024.Idx => dValue (dArr m c) (qArr m c) (wRow m c) (256 * t.val + (j 0).val) (j 1).val := by
  by_cases h0 : t.val % 32 = 0
  · rw [outsAt0_A m c t h0]; dsimp only; unfold out0_A_7
    unfold kernelRun0_A; dsimp only
    sl_unfold_words
    rw [View.read_writes_junk_eq_canon, View.canon_cons_unit_zero (S := S256x1024) hz]
    exact value_block m c t _ (taps_left m c t)
  · rw [outsAt0_B m c t h0]; dsimp only; unfold out0_B_7
    unfold kernelRun0_B; dsimp only
    sl_unfold_words
    rw [View.read_writes_junk_eq_canon, View.canon_cons_unit_zero (S := S256x1024) hz]
    exact value_block m c t _ (taps_left m c t)

theorem out_gate : (outsAt0 m c t.val t.isLt).2.1 = fun j : S256x1024.Idx => dGate (dArr m c) (qArr m c) (wRow m c) (256 * t.val + (j 0).val) (j 1).val := by
  by_cases h0 : t.val % 32 = 0
  · rw [outsAt0_A m c t h0]; dsimp only; unfold out0_A_8
    unfold kernelRun0_A; dsimp only
    sl_unfold_words
    rw [View.read_writes_junk_eq_canon, View.canon_cons_unit_zero (S := S256x1024) hz]
    exact gate_block m c t _ (taps_left m c t)
  · rw [outsAt0_B m c t h0]; dsimp only; unfold out0_B_8
    unfold kernelRun0_B; dsimp only
    sl_unfold_words
    rw [View.read_writes_junk_eq_canon, View.canon_cons_unit_zero (S := S256x1024) hz]
    exact gate_block m c t _ (taps_left m c t)

/-- The weight loop at a point adds the block's sums to what its rows held. -/
theorem weights_left (A : ℕ → ℕ → EReal) (f : BufTy.Contents (Elt Ideal) (ms0_9 t).view.ty)
    (hf : (ms0_9 t).view.read (Elt Ideal) f = fun j => A (j 0).val (j 1).val) :
    (ms0_9 t).view.read (Elt Ideal) ((ms0_9 t).view.writes (Elt Ideal) f (weightList c t ((hs0_0 t).unread (iblk m c 0 t))
      ((View.whole cc0_scratch0).writes (Elt Ideal) (View.whole cc0_scratch0).junk (gExt m c t))
      ((View.whole cc0_scratch3).writes (Elt Ideal) (View.whole cc0_scratch3).junk (gCopies m c t)) f k0_t2_loop.trips))
    = fun j => (fun a l => if a < 248 then A a l + rowSum (dRow m c t) (gRow m c t) a l else A a l) (j 0).val (j 1).val := by
  refine weightList_final c t (dRow m c t) (gRow m c t) _ _ _ ?_ ?_ ?_ A f hf
  · rw [(hs0_0 t).read_unread]
    exact iblk_0 m c t
  · exact (View.read_writes_junk_eq_canon _ _).trans (gExt_canon m c t)
  · exact (View.read_writes_junk_eq_canon _ _).trans (gCopies_canon m c t)

theorem out_taps_first (h0 : t.val % 32 = 0) : (outsAt0 m c t.val t.isLt).2.2.1 = fun j : S256x1024.Idx =>
    if (j 0).val < 248 then rowSum (dRow m c t) (gRow m c t) (j 0).val (j 1).val else 0 := by
  rw [outsAt0_A m c t h0]; dsimp only; unfold out0_A_9
  unfold kernelRun0_A; dsimp only
  sl_unfold_words
  rw [View.read_writes_junk_eq_canon, ← View.read_writes_junk_eq_canon (ms0_9 t).view, View.writes_append]
  refine (weights_left m c t (fun _ _ => 0) _ ?_).trans (funext fun j => ?_)
  · rw [View.read_writes_junk_eq_canon, View.canon_cons_unit_zero (S := S256x1024) hz]
    unfold k0_pay507
    funext j
    pointwise
  · simp only [zero_add]

theorem out_taps_next (h0 : ¬ t.val % 32 = 0) (A : ℕ → ℕ → EReal)
    (hA : (outsAt0 m c (t.val - 1) (Nat.lt_of_le_of_lt (Nat.sub_le _ _) t.isLt)).2.2.1 = fun j : S256x1024.Idx => A (j 0).val (j 1).val) :
    (outsAt0 m c t.val t.isLt).2.2.1 = fun j : S256x1024.Idx =>
      if (j 0).val < 248 then A (j 0).val (j 1).val + rowSum (dRow m c t) (gRow m c t) (j 0).val (j 1).val else A (j 0).val (j 1).val := by
  rw [outsAt0_B m c t h0]; dsimp only; unfold out0_B_9
  unfold kernelRun0_B; dsimp only
  sl_unfold_words
  refine weights_left m c t A _ ?_
  rw [(hs0_9 t).read_unread]
  exact hA

theorem out_bias_first (h0 : t.val % 32 = 0) : (outsAt0 m c t.val t.isLt).2.2.2 = fun j : S1x1024.Idx =>
    ∑ r ∈ Finset.range 256, dRow m c t r (j 1).val := by
  rw [outsAt0_A m c t h0]; dsimp only; unfold out0_A_10
  unfold kernelRun0_A; dsimp only
  sl_unfold_words
  rw [View.read_writes_junk_eq_canon, View.canon_cons_unit_zero (S := S1x1024) hz, read_0, View.readCov_unit_zero (S := S1x1024) _ hz]
  unfold_payloads
  funext j
  idx_vars j
  pointwise
  exact Fin.sum_univ_eq_sum_range (fun r => dRow m c t r j1.val) 256

theorem out_bias_next (h0 : ¬ t.val % 32 = 0) (A : ℕ → EReal)
    (hA : (outsAt0 m c (t.val - 1) (Nat.lt_of_le_of_lt (Nat.sub_le _ _) t.isLt)).2.2.2 = fun j : S1x1024.Idx => A (j 1).val) :
    (outsAt0 m c t.val t.isLt).2.2.2 = fun j : S1x1024.Idx => A (j 1).val + ∑ r ∈ Finset.range 256, dRow m c t r (j 1).val := by
  rw [outsAt0_B m c t h0]; dsimp only; unfold out0_B_10
  unfold kernelRun0_B; dsimp only
  sl_unfold_words
  rw [View.read_writes_junk_eq_canon, View.canon_cons_unit_zero (S := S1x1024) hz, read_0, View.readAt_eq_ld, (hs0_10 t).read_unread, View.ld_unit_zero (S := S1x1024) hz, hA]
  unfold_payloads
  funext j
  idx_vars j
  pointwise
  exact congrArg (A j1.val + ·) (Fin.sum_univ_eq_sum_range (fun r => dRow m c t r j1.val) 256)

end Cert.ConvGrad
end
-- ==== Proof.Final.lean ====
module
public import proofs.«01_k».proof.Proof.Outputs
public import Idealize.ShloMosaic.Lib.Pipeline.Value
public import Idealize.ShloMosaic.Lib.Pipeline.ValueKit
public import Idealize.ShloMosaic.Lib.Pointwise
public import Idealize.ShloMosaic.PureOps.Ideal.Laws
@[expose] public section
set_option maxRecDepth 16384
noncomputable section
/-! The four output arrays after the last point. -/

namespace Cert.ConvGrad
open Cert.KernelIdeal Cert.KernelIdeal.Gen
open Idealize.ShloMosaic Idealize.ShloMosaic.TcCoe Idealize.ShloMosaic.Tactic
open Idealize.SL.Sem
variable (m : (ℓ : Loc nD τ sig) → Buf (Elt Ideal) ℓ) (c : Dev nD)

/-- What the block starting at row `256 i` adds at row `a` of the running weight gradient. -/
abbrev blockSum (i a l : ℕ) : EReal :=
  rowSum (fun r l => at2 (dArr m c) (256 * i + r) l) (fun r l => padded (qArr m c) (256 * i + r) l) a l

/-- The running weight gradient after point `n`. -/
theorem taps_after : ∀ (n : ℕ) (h : n < cfg0.N), (outsAt0 m c n h).2.2.1
    = fun j : S256x1024.Idx => (fun a l => if a < 248 then ∑ i ∈ Finset.range (n + 1), blockSum m c i a l else 0) (j 0).val (j 1).val
  | 0, h => by
    refine (out_taps_first m c ⟨0, h⟩ rfl).trans (funext fun j => ?_)
    simp only [Nat.zero_add, Finset.sum_range_one]
  | n + 1, h => by
    have hN : n + 1 < 32 := h
    refine (out_taps_next m c ⟨n + 1, h⟩ (by show ¬(n + 1) % 32 = 0; omega)
      (fun a l => if a < 248 then ∑ i ∈ Finset.range (n + 1), blockSum m c i a l else 0) (taps_after n (Nat.lt_of_succ_lt h))).trans (funext fun j => ?_)
    dsimp only
    by_cases hj : (j 0).val < 248
    · rw [if_pos hj, if_pos hj, if_pos hj, Finset.sum_range_succ _ (n + 1)]
    · rw [if_neg hj, if_neg hj, if_neg hj]

/-- The running bias gradient after point `n`. -/
theorem bias_after : ∀ (n : ℕ) (h : n < cfg0.N), (outsAt0 m c n h).2.2.2
    = fun j : S1x1024.Idx => (fun l => ∑ i ∈ Finset.range (n + 1), ∑ r ∈ Finset.range 256, at2 (dArr m c) (256 * i + r) l) (j 1).val
  | 0, h => by
    refine (out_bias_first m c ⟨0, h⟩ rfl).trans (funext fun j => ?_)
    simp only [Nat.zero_add, Finset.sum_range_one]
  | n + 1, h => by
    have hN : n + 1 < 32 := h
    refine (out_bias_next m c ⟨n + 1, h⟩ (by show ¬(n + 1) % 32 = 0; omega)
      (fun l => ∑ i ∈ Finset.range (n + 1), ∑ r ∈ Finset.range 256, at2 (dArr m c) (256 * i + r) l) (bias_after n (Nat.lt_of_succ_lt h))).trans (funext fun j => ?_)
    dsimp only
    rw [Finset.sum_range_succ _ (n + 1)]

theorem index_7 (t : Fin cfg0.N) : win0_7.index t 0 = t.val ∧ win0_7.index t 1 = 0 := (by decide +kernel : ∀ t : Fin grid0.N, win0_7.index t 0 = t.val ∧ win0_7.index t 1 = 0) t
theorem index_8 (t : Fin cfg0.N) : win0_8.index t 0 = t.val ∧ win0_8.index t 1 = 0 := (by decide +kernel : ∀ t : Fin grid0.N, win0_8.index t 0 = t.val ∧ win0_8.index t 1 = 0) t
theorem index_9 (t : Fin cfg0.N) : win0_9.index t 0 = 0 ∧ win0_9.index t 1 = 0 := (by decide +kernel : ∀ t : Fin grid0.N, win0_9.index t 0 = 0 ∧ win0_9.index t 1 = 0) t
theorem index_10 (t : Fin cfg0.N) : win0_10.index t 0 = 0 ∧ win0_10.index t 1 = 0 := (by decide +kernel : ∀ t : Fin grid0.N, win0_10.index t 0 = 0 ∧ win0_10.index t 1 = 0) t

theorem final_value : (dats m 0 c).arrAt 7 cfg0.N = fun i : S8192x1024.Idx => dValue (dArr m c) (qArr m c) (wRow m c) (i 0).val (i 1).val := by
  refine (dats m 0 c).arrAt_eq_of_covers 7 (fun i : S8192x1024.Idx => dValue (dArr m c) (qArr m c) (wRow m c) (i 0).val (i 1).val) ?_ ?_
  · decide +kernel
  · intro t _ y
    show (dats m 0 c).after 7 t y = dValue (dArr m c) (qArr m c) (wRow m c) (win0_7.index t 0 * 256 + 1 * (y 0).val) (win0_7.index t 1 * 1024 + 1 * (y 1).val)
    rw [after0_7, out_value, (index_7 t).1, (index_7 t).2]
    simp only [Nat.one_mul, Nat.zero_mul, Nat.zero_add, Nat.mul_comm]

theorem final_gate : (dats m 0 c).arrAt 8 cfg0.N = fun i : S8192x1024.Idx => dGate (dArr m c) (qArr m c) (wRow m c) (i 0).val (i 1).val := by
  refine (dats m 0 c).arrAt_eq_of_covers 8 (fun i : S8192x1024.Idx => dGate (dArr m c) (qArr m c) (wRow m c) (i 0).val (i 1).val) ?_ ?_
  · decide +kernel
  · intro t _ y
    show (dats m 0 c).after 8 t y = dGate (dArr m c) (qArr m c) (wRow m c) (win0_8.index t 0 * 256 + 1 * (y 0).val) (win0_8.index t 1 * 1024 + 1 * (y 1).val)
    rw [after0_8, out_gate, (index_8 t).1, (index_8 t).2]
    simp only [Nat.one_mul, Nat.zero_mul, Nat.zero_add, Nat.mul_comm]

theorem final_taps : (dats m 0 c).arrAt 9 cfg0.N = fun i : S256x1024.Idx =>
    (fun a l => if a < 248 then ∑ k ∈ Finset.range 32, blockSum m c k a l else 0) (i 0).val (i 1).val := by
  refine (dats m 0 c).arrAt_eq_of_covers 9 (fun i : S256x1024.Idx =>
    (fun a l => if a < 248 then ∑ k ∈ Finset.range 32, blockSum m c k a l else 0) (i 0).val (i 1).val) ?_ ?_
  · decide +kernel
  · intro t ht y
    have hN : t.val < 32 := t.isLt
    have h31 := (flush0_9 t).mp ht
    obtain rfl : t = ⟨31, by decide⟩ := Fin.ext (by show t.val = 31; omega)
    show (dats m 0 c).after 9 _ y = (fun a l => if a < 248 then ∑ k ∈ Finset.range 32, blockSum m c k a l else 0)
      (win0_9.index _ 0 * 256 + 1 * (y 0).val) (win0_9.index _ 1 * 1024 + 1 * (y 1).val)
    rw [after0_9, taps_after, (index_9 _).1, (index_9 _).2]
    simp only [Nat.one_mul, Nat.zero_mul, Nat.zero_add]

theorem final_bias : (dats m 0 c).arrAt 10 cfg0.N = fun i : S1x1024.Idx =>
    (fun l => ∑ k ∈ Finset.range 32, ∑ r ∈ Finset.range 256, at2 (dArr m c) (256 * k + r) l) (i 1).val := by
  refine (dats m 0 c).arrAt_eq_of_covers 10 (fun i : S1x1024.Idx =>
    (fun l => ∑ k ∈ Finset.range 32, ∑ r ∈ Finset.range 256, at2 (dArr m c) (256 * k + r) l) (i 1).val) ?_ ?_
  · decide +kernel
  · intro t ht y
    have hN : t.val < 32 := t.isLt
    have h31 := (flush0_10 t).mp ht
    obtain rfl : t = ⟨31, by decide⟩ := Fin.ext (by show t.val = 31; omega)
    show (dats m 0 c).after 10 _ y = (fun l => ∑ k ∈ Finset.range 32, ∑ r ∈ Finset.range 256, at2 (dArr m c) (256 * k + r) l)
      (win0_10.index _ 1 * 1024 + 1 * (y 1).val)
    rw [after0_10, bias_after, (index_10 _).2]
    simp only [Nat.one_mul, Nat.zero_mul, Nat.zero_add]

end Cert.ConvGrad
end
-- ==== Proof.Run.lean ====
module
public import proofs.«01_k».proof.Proof.Final
public import Idealize.ShloMosaic.Lib.Pipeline.Value
public import Idealize.ShloMosaic.Lib.Pipeline.ValueKit
public import Idealize.ShloMosaic.Lib.KernelVsHost
public import Idealize.ShloMosaic.Lib.Pointwise
public import Idealize.ShloMosaic.PureOps.Ideal.Laws
@[expose] public section
set_option maxRecDepth 16384
noncomputable section
/-! The whole program: the host lines around the region, and the four results. -/

namespace Cert.ConvGrad
open Cert.KernelIdeal Cert.KernelIdeal.Gen
open Idealize.ShloMosaic Idealize.ShloMosaic.TcCoe Idealize.ShloMosaic.Tactic
open Idealize.SL.Sem
variable (m : (ℓ : Loc nD τ sig) → Buf (Elt Ideal) ℓ) (ρ : Dev nD → PrngReg) (c : Dev nD)

/-- The four arguments as launched. -/
abbrev arg0 : S8192x1024.Idx → EReal := m ((c : Thread nD τ).loc main_arg0)
abbrev arg1 : S8192x3072.Idx → EReal := m ((c : Thread nD τ).loc main_arg1)
abbrev arg2 : S31x1024.Idx → EReal := m ((c : Thread nD τ).loc main_arg2)
abbrev arg3 : S1x1024.Idx → EReal := m ((c : Thread nD τ).loc main_arg3)

theorem dArr_eq : dArr m c = arg0 m c := V_main_arg0 m c
theorem qArr_eq : qArr m c = arg1 m c := V_main_arg1 m c

/-- The taps the region finds are the first 31 rows. -/
theorem wRow_eq (k l : ℕ) (hk : k < 31) (hl : l < 1024) : wRow m c k l = at2 (arg2 m c) k l := by
  have e : wArr m c = concatenate S32x1024 0 [⟨S31x1024, arg2 m c⟩, ⟨S1x1024, arg3 m c⟩] concatenates_S31x1024_S1x1024_S32x1024_d0 := by
    show V m c main_v0 = _
    show StableHlo.after hostOps0 (fun b => m (c, b)) _ = _
    after_results
  unfold wRow
  rw [at2_of_lt _ _ _ (by omega) hl, at2_of_lt _ _ _ hk hl, e]
  exact concatenate_pair_apply_left (s₁ := S31x1024) (s₂ := S1x1024) (t := S32x1024) 0 _ _ _ _ rfl _ fun b => by
    match b with
    | ⟨0, _⟩ => rfl
    | ⟨1, _⟩ => rfl

theorem dGated_eq (t l : ℕ) (hl : l < 1024) : dGated (dArr m c) (wRow m c) t l = dGated (arg0 m c) (at2 (arg2 m c)) t l := by
  unfold dGated
  rw [dArr_eq]
  exact Finset.sum_congr rfl fun k hk => by rw [wRow_eq m c k l (Finset.mem_range.mp hk) hl]

/-- The sum over blocks, sublanes and rows of a block is the sum over all rows. -/
theorem sum_rows (f : ℕ → EReal) : ∑ s ∈ Finset.range 8, ∑ i ∈ Finset.range 32, ∑ r ∈ Finset.range 32, f (256 * i + (8 * r + s)) = ∑ t ∈ Finset.range 8192, f t := by
  rw [Finset.sum_comm, show 8192 = 32 * 256 from rfl, Finset.sum_range_mul_split]
  refine Finset.sum_congr rfl fun i _ => ?_
  rw [Finset.sum_comm, show Finset.range 256 = Finset.range (32 * 8) from rfl, Finset.sum_range_mul_split 32 8]
  refine Finset.sum_congr rfl fun r _ => Finset.sum_congr rfl fun s _ => ?_
  rw [Nat.mul_comm 256 i, Nat.mul_comm 8 r]

theorem tail_taps : Pipeline.afterTail₀ cfgs (dats m) 0 (V0 m) [hostOps1] c main_v4 = fun i : S31x1024.Idx => dTap (arg0 m c) (arg1 m c) (i 0).val (i 1).val := by
  show StableHlo.after hostOps1 _ _ = _
  after_results
  have e : Pipeline.withArrays (cfgs 0).spec c (V0 m c) (fun w => (dats m 0 c).arrAt w (cfgs 0).N) (Proc.tc.devRef main_v1_2) = fun i : S256x1024.Idx =>
      (fun a l => if a < 248 then ∑ k ∈ Finset.range 32, blockSum m c k a l else 0) (i 0).val (i 1).val :=
    (Pipeline.withArrays_arr_shared spec0 c (V0 m c) _ ((dats m 0 c).arrAt_sharedIn sharedIn0 (V0 m c) (A_eq m c) _) 9).trans (final_taps m c)
  rw [e]
  funext i
  have h0 : (i 0).val < 31 := (i 0).isLt
  idx_vars i
  pointwise
  rw [Fin.sum_univ_eq_sum_range (fun s => if i0.val * 8 + s < 248 then ∑ k ∈ Finset.range 32, blockSum m c k (i0.val * 8 + s) i1.val else 0) 8]
  unfold dTap
  rw [← sum_rows]
  refine Finset.sum_congr rfl fun s hs => ?_
  have hs8 : s < 8 := Finset.mem_range.mp hs
  rw [if_pos (by omega)]
  refine Finset.sum_congr rfl fun k _ => ?_
  unfold blockSum rowSum
  rw [dArr_eq, qArr_eq, row_mod _ _ (Nat.mul_mod_left _ _) hs8, row_div _ _ (Nat.mul_mod_left _ _) hs8, Nat.mul_div_cancel _ (by decide)]
  refine Finset.sum_congr rfl fun r _ => ?_
  dsimp only
  rw [show 256 * k + (8 * r + (i0.val + 2) + s) = 256 * k + (8 * r + s) + i0.val + 2 by omega]

theorem value_eq (i : S8192x1024.Idx) : dValue (dArr m c) (qArr m c) (wRow m c) (i 0).val (i 1).val = dValue (arg0 m c) (arg1 m c) (at2 (arg2 m c)) (i 0).val (i 1).val := by
  unfold dValue
  rw [dGated_eq m c _ _ (i 1).isLt, qArr_eq]

theorem gate_eq (i : S8192x1024.Idx) : dGate (dArr m c) (qArr m c) (wRow m c) (i 0).val (i 1).val = dGate (arg0 m c) (arg1 m c) (at2 (arg2 m c)) (i 0).val (i 1).val := by
  unfold dGate
  rw [dGated_eq m c _ _ (i 1).isLt, qArr_eq]

theorem bias_eq (l : ℕ) : ∑ k ∈ Finset.range 32, ∑ r ∈ Finset.range 256, at2 (dArr m c) (256 * k + r) l = dBias (arg0 m c) l := by
  unfold dBias
  rw [dArr_eq]
  refine Eq.trans ?_ (Finset.sum_range_mul_split 32 256 fun t => at2 (arg0 m c) t l).symm
  exact Finset.sum_congr rfl fun k _ => Finset.sum_congr rfl fun r _ => by rw [Nat.mul_comm]

/-- Every run of the kernel leaves the four gradients and its arguments as they were. -/
theorem run : θ_run defs (onTc (τ := τ) (main (F := Ideal))) ⟨m, fun _ => 0, ρ⟩ fun r => ∀ c : Dev nD,
      r.2.mem ((c : Thread nD τ).loc main_v1_0) = (fun i : S8192x1024.Idx => dValue (arg0 m c) (arg1 m c) (at2 (arg2 m c)) (i 0).val (i 1).val)
      ∧ r.2.mem ((c : Thread nD τ).loc main_v1_1) = (fun i : S8192x1024.Idx => dGate (arg0 m c) (arg1 m c) (at2 (arg2 m c)) (i 0).val (i 1).val)
      ∧ r.2.mem ((c : Thread nD τ).loc main_v4) = (fun i : S31x1024.Idx => dTap (arg0 m c) (arg1 m c) (i 0).val (i 1).val)
      ∧ r.2.mem ((c : Thread nD τ).loc main_v1_3) = (fun i : S1x1024.Idx => dBias (arg0 m c) (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(((h c).1 7).trans (final_value m c)).trans (funext fun i => value_eq m c i),
     (((h c).1 8).trans (final_gate m c)).trans (funext fun i => gate_eq m c i),
     ((h c).2 main_v4 (Pipeline.mem_restRefs_of main_v4 (by decide) (by decide))).trans (tail_taps m c),
     (((h c).1 10).trans (final_bias m c)).trans (funext fun i => bias_eq m c (i 1).val),
     ((h c).1 1).trans (((dats m 0 c).arrAt_in 1 rfl _).trans ((A_eq m c 1).trans (V_main_arg0 m c))),
     ((h c).1 5).trans (((dats m 0 c).arrAt_in 5 rfl _).trans ((A_eq m c 5).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.ConvGrad
end
-- ==== Proof.Plain.lean ====
module
public import proofs.«01_k».proof.Proof.Spec
public import proofs.«01_k».proof.Proof.Gen.ReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain gradient, read at a row and a lane. -/

namespace Cert.ConvGrad.Plain
open Cert.ReferenceIdeal Cert.ReferenceIdeal.Gen Cert.ReferenceIdeal.Read
open Idealize.ShloMosaic Idealize.ShloMosaic.TcCoe Idealize.ShloMosaic.Tactic
variable (x0 : S8192x1024.Idx → EReal) (x1 : S8192x3072.Idx → EReal) (x2 : S31x1024.Idx → EReal)

theorem tap_slices : ∀ k < 31, S31x1024.Slices ![k, 0] S1x1024 := by decide
theorem row_slices : ∀ k < 31, S8222x1024.Slices ![k, 0] S8192x1024 := by decide
theorem row_pads : ∀ k < 31, S8192x1024.Pads (![k, 0] : Fin 2 → ℕ) ![30 - k, 0] ![0, 0] S8222x1024 := by decide
theorem tap_pads : ∀ k < 31, S1x1024.Pads (![k, 0] : Fin 2 → ℕ) ![30 - k, 0] ![0, 0] S31x1024 := by decide

/-- The incoming gradient is copied as it is. -/
theorem grad_eq : val_main_v174 (F := Ideal) x0 = x0 := shapeCast_self _ _

/-- What tap `k` sends back to the padded rows. -/
def spread (k : ℕ) (hk : k < 31) : S8222x1024.Idx → EReal :=
  pad S8222x1024 ![k, 0] ![30 - k, 0] ![0, 0]
    (mulf (F := Ideal) (φ := .f32) (val_main_v174 (F := Ideal) x0) (broadcastInDim S8192x1024 ![0, 1] bcast_S1x1024_S8192x1024_0_1 (extractStridedSlice S1x1024 ![k, 0] x2 (tap_slices k hk))))
    (constant (F := Ideal) S_ .f32 0x00000000#32) (row_pads k hk) h_S_

theorem spread_apply (k : ℕ) (hk : k < 31) (t : Fin 8192) (l : Fin 1024) (ht : t.val + 30 < 8222) :
    spread x0 x2 k hk (ix2 ⟨t.val + 30, ht⟩ l) = at2 x2 k l * at2 x0 (30 - k + t) l := by
  unfold spread
  rw [grad_eq]
  pointwise
  by_cases h : t.val + 30 - k < 8192
  · rw [dif_pos ⟨by omega, h⟩, mul_comm, ← at2_of_lt x0 _ _ h l.isLt, ← at2_of_lt x2 _ _ hk l.isLt, show t.val + 30 - k = 30 - k + t.val by omega]
  · rw [dif_neg fun e => h e.2, at2_of_ge x0 _ _ (by omega), mul_zero]

/-- The tap in row `k` of the filter's gradient. -/
def tapRow (k : ℕ) (hk : k < 31) : S31x1024.Idx → EReal :=
  pad S31x1024 ![k, 0] ![30 - k, 0] ![0, 0]
    (shapeCast S1x1024 (Host.reduceAdd (F := Ideal) (φ := .f32) (mulf (F := Ideal) (φ := .f32) (extractStridedSlice S8192x1024 ![k, 0] (val_main_v14 (F := Ideal) x1) (row_slices k hk)) (val_main_v174 (F := Ideal) x0)) (constant (F := Ideal) S_ .f32 0x00000000#32) reducesTo_S8192x1024_S1024_d0 h_S_) shapeCasts_S1024_S1x1024)
    (constant (F := Ideal) S_ .f32 0x00000000#32) (tap_pads k hk) h_S_

/-- The value half of a row. -/
theorem value_half (t : Fin 8192) (l : Fin 1024) : val_main_v1 (F := Ideal) x1 (ix2 t l) = at2 x1 t l := by
  unfold val_main_v1 val_main_v0
  pointwise
  exact (at2_ix2 x1 t ⟨l.val, _⟩).symm

/-- The logistic function of the gate half of a row. -/
theorem logistic (t : Fin 8192) (l : Fin 1024) : val_main_v8 (F := Ideal) x1 (ix2 t l) = sg (at2 x1 t (1024 + l)) := by
  unfold val_main_v8 val_main_v7 val_main_v6 val_main_v5 val_main_v4 val_main_v3 val_main_v2 val_main_v0
  pointwise
  unfold val_main_cst val_main_cst_0 sg
  pointwise
  rw [at2_of_lt x1 t.val (1024 + l.val) t.isLt (by omega)]

/-- The gated rows behind thirty zero rows. -/
theorem gated_rows (u : Fin 8222) (l : Fin 1024) : val_main_v14 (F := Ideal) x1 (ix2 u l) = padded x1 (u + 2) l := by
  unfold val_main_v14
  pointwise
  unfold padded
  by_cases h : u.val < 30
  · refine (dif_pos h).trans (Eq.trans ?_ (if_pos (by omega)).symm)
    refine (val_main_v13_apply _).trans ?_
    unfold val_main_cst_2
    pointwise
  · refine (dif_neg h).trans (Eq.trans ?_ (if_neg (by omega)).symm)
    refine (val_main_v12_apply (F := Ideal) x1 _).trans ?_
    refine (congrArg₂ (fun a b : EReal => a * b) (value_half x1 ⟨u.val - 30, by omega⟩ l) (logistic x1 ⟨u.val - 30, by omega⟩ l)).trans ?_
    exact congrArg (fun v => gated x1 v l.val) (by simp only []; omega)

theorem tapRow_apply (k : ℕ) (hk : k < 31) (a : Fin 31) (l : Fin 1024) :
    tapRow x0 x1 k hk (ix2 a l) = if a.val = k then dTap x0 x1 a l else 0 := by
  unfold tapRow
  rw [grad_eq]
  pointwise
  by_cases h : a.val = k
  · rw [if_pos h, dif_pos (by omega)]
    unfold dTap
    rw [← Fin.sum_univ_eq_sum_range (fun t => at2 x0 t l.val * padded x1 (t + a.val + 2) l.val) 8192]
    refine Finset.sum_congr rfl fun t _ => ?_
    rw [gated_rows, mul_comm, at2_ix2]
    exact congrArg (fun u => x0 (ix2 t l) * padded x1 u l.val) (by simp only [h]; omega)
  · rw [if_neg h, dif_neg (by omega)]

theorem sum_rows (i : S8222x1024.Idx) : val_main_v453 (F := Ideal) x0 x2 i = ∑ j ∈ Finset.range 31, (if h : 30 - j < 31 then spread x0 x2 (30 - j) h i else 0) := by
  simp only [Finset.sum_range_succ, Finset.sum_range_zero, zero_add]
  rfl

theorem sum_taps (i : S31x1024.Idx) : val_main_v451 (F := Ideal) x0 x1 i = ∑ j ∈ Finset.range 31, (if h : 30 - j < 31 then tapRow x0 x1 (30 - j) h i else 0) := by
  simp only [Finset.sum_range_succ, Finset.sum_range_zero, zero_add]
  rfl

/-- The gradient of the gated value. -/
theorem gated_grad (t : Fin 8192) (l : Fin 1024) : val_main_v455 (F := Ideal) x0 x2 (ix2 t l) = dGated x0 (at2 x2) t l := by
  refine (show val_main_v455 (F := Ideal) x0 x2 (ix2 t l) = val_main_v453 (F := Ideal) x0 x2 (ix2 ⟨t.val + 30, by omega⟩ l) from ?_).trans ?_
  · unfold val_main_v455
    generalize val_main_v453 (F := Ideal) x0 x2 = y
    pointwise
    exact congrArg (fun a => y (ix2 a l)) (Fin.ext (Nat.add_comm _ _))
  · rw [sum_rows]
    unfold dGated
    refine Eq.trans ?_ (Finset.sum_range_reflect (fun k => at2 x2 k l.val * at2 x0 (30 - k + t.val) l.val) 31)
    refine Finset.sum_congr rfl fun j hj => ?_
    have hj' : j < 31 := Finset.mem_range.mp hj
    rw [dif_pos (by omega)]
    exact spread_apply x0 x2 (30 - j) _ t l _

/-- The gradient of the value half. -/
theorem value_grad : val_main_v459 (F := Ideal) x0 x1 x2 = fun i : S8192x1024.Idx => dValue x0 x1 (at2 x2) (i 0).val (i 1).val := by
  funext i
  idx_vars i
  show val_main_v455 (F := Ideal) x0 x2 (ix2 i0 i1) * val_main_v8 (F := Ideal) x1 (ix2 i0 i1) = _
  rw [gated_grad, logistic]
  rfl

/-- The gradient of the gate half. -/
theorem gate_grad : val_main_v460 (F := Ideal) x0 x1 x2 = fun i : S8192x1024.Idx => dGate x0 x1 (at2 x2) (i 0).val (i 1).val := by
  funext i
  idx_vars i
  show val_main_v1 (F := Ideal) x1 (ix2 i0 i1) * val_main_v455 (F := Ideal) x0 x2 (ix2 i0 i1) * (val_main_v8 (F := Ideal) x1 (ix2 i0 i1) * (val_main_v9 (F := Ideal) (ix2 i0 i1) - val_main_v8 (F := Ideal) x1 (ix2 i0 i1))) = _
  rw [gated_grad, logistic, value_half, val_main_v9_apply]
  unfold val_main_cst_1
  pointwise
  unfold dGate
  rw [mul_comm (at2 x1 i0.val i1.val), mul_assoc, mul_assoc, mul_assoc]

/-- The gradient of the filter. -/
theorem taps_grad : val_main_v451 (F := Ideal) x0 x1 = fun i : S31x1024.Idx => dTap x0 x1 (i 0).val (i 1).val := by
  funext i
  idx_vars i
  rw [sum_taps]
  refine (Finset.sum_eq_single (30 - i0.val) (fun j hj hne => ?_) fun h => absurd (Finset.mem_range.mpr (by omega)) h).trans ?_
  · rw [dif_pos (by omega), tapRow_apply, if_neg (by have := Finset.mem_range.mp hj; omega)]
  · rw [dif_pos (by omega), tapRow_apply, if_pos (by omega)]

/-- The gradient of the bias. -/
theorem bias_grad : val_main_v176 (F := Ideal) x0 = fun i : S1x1024.Idx => dBias x0 (i 1).val := by
  funext i
  idx_vars i
  unfold val_main_v176 val_main_v175 val_main_cst_5
  pointwise
  unfold dBias
  rw [← Fin.sum_univ_eq_sum_range (fun t => at2 x0 t i1.val) 8192]
  exact Finset.sum_congr rfl fun t _ => (at2_ix2 x0 t i1).symm

end Cert.ConvGrad.Plain
end
-- ==== Proof.NormSpec.lean ====
module
public import proofs.«01_k».proof.Proof.Spec
public import Idealize.ShloMosaic.Lib.Pointwise
public import Idealize.ShloMosaic.PureOps.Ideal.Laws
@[expose] public section
noncomputable section
/-! The backward pass of the root-mean-square norm over the extended reals: the short form with the normed row and the
    long form with the row and the derivative of the inverse root agree at every input, infinite ones too. -/

namespace Cert.NormGrad
open Idealize.ShloMosaic Cert.ConvGrad

/-- The length of a row, as the programs spell it. -/
abbrev width : EReal := Ideal.ofBits .f32 0x44800000#32
/-- The small number under the root. -/
abbrev small : EReal := Ideal.ofBits .f32 0x358637BD#32
/-- Minus a half. -/
abbrev minusHalf : EReal := Ideal.ofBits .f32 0xBF000000#32

theorem width_eq : width = ((1024 : ℝ) : EReal) := by
  simp [width, Ideal.ofBits, Ideal.ieee]
  norm_num [← EReal.coe_mul]

theorem minusHalf_eq : minusHalf = ((-(1 / 2) : ℝ) : EReal) := by
  simp [minusHalf, Ideal.ofBits, Ideal.ieee]
  norm_num [← EReal.coe_mul, ← EReal.coe_neg]

theorem small_eq : ∃ s : ℝ, 0 < s ∧ small = (s : EReal) := by
  refine ⟨8796093 * (2 : ℝ) ^ (-43 : ℤ), by positivity, ?_⟩
  simp [small, Ideal.ofBits, Ideal.ieee]

theorem div_width (a : EReal) : Ideal.div a width = a * ((1 / 1024 : ℝ) : EReal) := by
  rw [width_eq, Ideal.div_coe (by norm_num)]

/-- The mean square of a row with the small number added. -/
def meanSquare (x : ℕ → EReal) : EReal := Ideal.div (∑ j ∈ Finset.range 1024, x j * x j) width + small

/-- The inverse root of the mean square. -/
def inv (x : ℕ → EReal) : EReal := Ideal.rsqrt (meanSquare x)

/-- The gradient of a row through its norm, from the normed row. -/
def throughNorm (x dn : ℕ → EReal) (d : EReal) (e : ℕ) : EReal :=
  d + inv x * (dn e - x e * inv x * Ideal.div (∑ j ∈ Finset.range 1024, dn j * (x j * inv x)) width)

/-- The derivative by the mean square, spread over the row. -/
def pull (x dn : ℕ → EReal) : EReal :=
  Ideal.div ((∑ j ∈ Finset.range 1024, x j * dn j) * (minusHalf * Ideal.div (inv x) (meanSquare x))) width

theorem mul_self_nonneg (a : EReal) : 0 ≤ a * a := by
  rcases le_total 0 a with h | h
  · exact EReal.mul_nonneg h h
  · rw [← neg_mul_neg]
    exact EReal.mul_nonneg (EReal.neg_nonneg.mpr h) (EReal.neg_nonneg.mpr h)

/-- A number that is not negative and not infinite goes into a sum. -/
theorem coe_mul_sum {r : ℝ} (hr : 0 ≤ r) (f : ℕ → EReal) (n : ℕ) :
    (r : EReal) * ∑ j ∈ Finset.range n, f j = ∑ j ∈ Finset.range n, r * f j := by
  induction n with
  | zero => simp
  | succ n ih => rw [Finset.sum_range_succ, Finset.sum_range_succ, EReal.left_distrib_of_nonneg_of_ne_top (EReal.coe_nonneg.mpr hr) (EReal.coe_ne_top r), ih]

/-- A row with an infinite entry has an infinite mean square. -/
theorem meanSquare_top (x : ℕ → EReal) (j : ℕ) (hj : j < 1024) (h : x j = ⊤ ∨ x j = ⊥) : meanSquare x = ⊤ := by
  have e : x j * x j = ⊤ := by rcases h with h | h <;> rw [h] <;> rfl
  have s : ∑ j ∈ Finset.range 1024, x j * x j = ⊤ :=
    top_le_iff.mp (e ▸ Finset.single_le_sum (fun i _ => mul_self_nonneg (x i)) (Finset.mem_range.mpr hj))
  obtain ⟨s', _, hs⟩ := small_eq
  rw [meanSquare, s, div_width, EReal.top_mul_coe_of_pos (by norm_num), hs, EReal.top_add_coe]

/-- A finite row has a positive mean square. -/
theorem meanSquare_coe (x : ℕ → ℝ) : ∃ v : ℝ, 0 < v ∧ meanSquare (fun j => (x j : EReal)) = (v : EReal) := by
  obtain ⟨s, hs, e⟩ := small_eq
  refine ⟨(∑ j ∈ Finset.range 1024, x j * x j) * (1 / 1024) + s, ?_, ?_⟩
  · have : 0 ≤ ∑ j ∈ Finset.range 1024, x j * x j := Finset.sum_nonneg fun j _ => _root_.mul_self_nonneg (x j)
    positivity
  · unfold meanSquare
    rw [e, div_width]
    have : ∀ n, ∑ j ∈ Finset.range n, (x j : EReal) * (x j : EReal) = ((∑ j ∈ Finset.range n, x j * x j : ℝ) : EReal) := fun n => by
      induction n with
      | zero => simp
      | succ n ih => rw [Finset.sum_range_succ, Finset.sum_range_succ, ih, EReal.coe_add, EReal.coe_mul]
    rw [this, EReal.coe_add, EReal.coe_mul]

/-- Twice the half of a multiple. -/
theorem half_add_half (c : ℝ) (a : EReal) : ((c / 2 : ℝ) : EReal) * a + ((c / 2 : ℝ) : EReal) * a = (c : EReal) * a := by
  have h : ∀ y : EReal, y + y = ((2 : ℝ) : EReal) * y := fun y => by
    induction y with
    | bot => rw [EReal.coe_mul_bot_of_pos (by norm_num)]; rfl
    | top => rw [EReal.coe_mul_top_of_pos (by norm_num)]; rfl
    | coe y => rw [← EReal.coe_mul, ← EReal.coe_add, two_mul]
  rw [h, ← mul_assoc, ← EReal.coe_mul]
  congr 2
  ring

/-- The short form is the long form. -/
theorem throughNorm_eq (x dn : ℕ → EReal) (d : EReal) (e : ℕ) (he : e < 1024) :
    throughNorm x dn d e = d + dn e * inv x + x e * pull x dn + pull x dn * x e := by
  by_cases hx : ∃ j < 1024, x j = ⊤ ∨ x j = ⊥
  · obtain ⟨j, hj, h⟩ := hx
    have ht := meanSquare_top x j hj h
    have h0 : inv x = 0 := by unfold inv; rw [ht]; rfl
    have hp : pull x dn = 0 := by
      unfold pull
      rw [h0, ht, div_width]
      simp [Ideal.div]
    unfold throughNorm
    rw [h0, hp]
    simp
  · have hc : ∀ j < 1024, x j = ((x j).toReal : EReal) := fun j hj =>
      (EReal.coe_toReal (fun h => hx ⟨j, hj, .inl h⟩) (fun h => hx ⟨j, hj, .inr h⟩)).symm
    obtain ⟨v, hv, e0⟩ := meanSquare_coe fun j => (x j).toReal
    have ev : meanSquare x = (v : EReal) := by
      rw [← e0]
      unfold meanSquare
      exact congrArg (fun y => Ideal.div y width + small) (Finset.sum_congr rfl fun j hj => congrArg₂ (· * ·) (hc j (Finset.mem_range.mp hj)) (hc j (Finset.mem_range.mp hj)))
    have er : inv x = (((Real.sqrt v)⁻¹ : ℝ) : EReal) := by
      unfold inv
      rw [ev, Ideal.rsqrt_coe, if_neg (not_lt.mpr hv.le), if_neg hv.ne']
    have hs : 0 < Real.sqrt v := Real.sqrt_pos.mpr hv
    have hss : Real.sqrt v * Real.sqrt v = v := Real.mul_self_sqrt hv.le
    generalize Real.sqrt v = q at er hs hss
    have hq : 0 ≤ q⁻¹ := by positivity
    have e1 : ∑ j ∈ Finset.range 1024, dn j * (x j * inv x) = (q⁻¹ : ℝ) * ∑ j ∈ Finset.range 1024, x j * dn j := by
      rw [coe_mul_sum hq]
      refine Finset.sum_congr rfl fun j _ => ?_
      rw [er]
      ac_rfl
    have e2 : Ideal.div (inv x) (meanSquare x) = ((q⁻¹ * (1 / v) : ℝ) : EReal) := by
      rw [ev, er, Ideal.div_coe hv.ne', EReal.coe_mul]
    unfold throughNorm pull
    rw [e1, e2, er, minusHalf_eq, div_width, div_width, hc e he, sub_eq_add_neg, EReal.left_distrib_of_nonneg_of_ne_top (EReal.coe_nonneg.mpr hq) (EReal.coe_ne_top _)]
    generalize ∑ j ∈ Finset.range 1024, x j * dn j = a
    generalize (x e).toReal = b
    have k1 : ((q⁻¹ : ℝ) : EReal) * -((b : EReal) * (q⁻¹ : ℝ) * ((q⁻¹ : ℝ) * a * ((1 / 1024 : ℝ) : EReal))) = ((-(q⁻¹ * b * q⁻¹ * q⁻¹ * (1 / 1024)) : ℝ) : EReal) * a := by
      rw [EReal.coe_neg, EReal.coe_mul, EReal.coe_mul, EReal.coe_mul, EReal.coe_mul, mul_neg, neg_mul]
      exact congrArg Neg.neg (by ac_rfl)
    have k2 : (b : EReal) * (a * (((-(1 / 2) : ℝ) : EReal) * ((q⁻¹ * (1 / v) : ℝ) : EReal)) * ((1 / 1024 : ℝ) : EReal)) = ((-(q⁻¹ * b * q⁻¹ * q⁻¹ * (1 / 1024)) / 2 : ℝ) : EReal) * a := by
      have : -(q⁻¹ * b * q⁻¹ * q⁻¹ * (1 / 1024)) / 2 = b * (-(1 / 2) * (q⁻¹ * (1 / v)) * (1 / 1024)) := by
        rw [← hss]
        field_simp
      rw [this, EReal.coe_mul b, EReal.coe_mul _ (1 / 1024), EReal.coe_mul (-(1 / 2))]
      ac_rfl
    rw [k1, mul_comm _ (b : EReal), k2, ← half_add_half (-(q⁻¹ * b * q⁻¹ * q⁻¹ * (1 / 1024))), mul_comm (dn e)]
    ac_rfl

/-- An array of three coordinates read at any three numbers, zero outside. -/
def at3 {A B C : ℕ} (x : (⟨3, ![A, B, C]⟩ : Shape).Idx → EReal) (a b k : ℕ) : EReal :=
  if h : a < A ∧ b < B ∧ k < C then x (ix3 ⟨a, h.1⟩ ⟨b, h.2.1⟩ ⟨k, h.2.2⟩) else 0

theorem at3_of_lt {A B C : ℕ} (x : (⟨3, ![A, B, C]⟩ : Shape).Idx → EReal) (a b k : ℕ) (ha : a < A) (hb : b < B) (hk : k < C) :
    at3 x a b k = x (ix3 ⟨a, ha⟩ ⟨b, hb⟩ ⟨k, hk⟩) := dif_pos ⟨ha, hb, hk⟩

/-- An array at an index whose coordinates are known. -/
theorem at3_at {A B C : ℕ} (x : (⟨3, ![A, B, C]⟩ : Shape).Idx → EReal) (i : (⟨3, ![A, B, C]⟩ : Shape).Idx) (a b k : ℕ)
    (ha : (i 0).val = a) (hb : (i 1).val = b) (hk : (i 2).val = k) : x i = at3 x a b k := by
  subst ha hb hk
  exact (congrArg x (eq_ix3 i)).trans (at3_of_lt x _ _ _ (i 0).isLt (i 1).isLt (i 2).isLt).symm

section Rows
variable (a b z : (⟨2, ![8192, 1024]⟩ : Shape).Idx → EReal) (w : (⟨3, ![4, 1024, 768]⟩ : Shape).Idx → EReal)
  (x : (⟨2, ![8192, 1024]⟩ : Shape).Idx → EReal) (g : (⟨2, ![1, 1024]⟩ : Shape).Idx → EReal) (d : (⟨2, ![8192, 1024]⟩ : Shape).Idx → EReal)

/-- The gradient of the projection: its three thirds side by side. -/
def proj (r k : ℕ) : EReal := if k < 1024 then at2 a r k else if k < 2048 then at2 b r (k - 1024) else at2 z r (k - 2048)

/-- The weights with the columns of the four parts side by side. -/
def column (e k : ℕ) : EReal := at3 w (k / 768) e (k % 768)

/-- The normed row. -/
def normed (r e : ℕ) : EReal := at2 x r e * inv (at2 x r)

/-- The gradient of the normed and scaled row. -/
def dScaled (r e : ℕ) : EReal := ∑ k ∈ Finset.range 3072, proj a b z r k * column w e k

/-- The gradient of the row. -/
def dRow (r e : ℕ) : EReal := throughNorm (at2 x r) (fun j => dScaled a b z w r j * at2 g 0 j) (at2 d r e) e

/-- The gradient of the scale. -/
def dScale (e : ℕ) : EReal := ∑ r ∈ Finset.range 8192, dScaled a b z w r e * normed x r e

/-- The gradient of the weight of feature `e` in column `k`. -/
def dWeight (e k : ℕ) : EReal := ∑ r ∈ Finset.range 8192, normed x r e * at2 g 0 e * proj a b z r k

end Rows

end Cert.NormGrad
end
-- ==== Proof.NormBody.lean ====
module
public import proofs.«01_k».proof.Proof.NormSpec
public import proofs.«01_k».proof.Proof.Gen.NormGradIdeal.Frame
public import Idealize.ShloMosaic.Lib.Pipeline.Value
public import Idealize.ShloMosaic.Lib.Pipeline.ValueKit
public import Idealize.ShloMosaic.Lib.Pointwise
public import Idealize.ShloMosaic.PureOps.Ideal.Laws
@[expose] public section
set_option maxRecDepth 16384
noncomputable section
/-! What the body computes from the blocks it loads, whatever rows these are. -/

namespace Cert.NormGrad
open Cert.NormGradIdeal Cert.NormGradIdeal.Gen
open Idealize.ShloMosaic Idealize.ShloMosaic.TcCoe Idealize.ShloMosaic.Tactic
open Idealize.SL.Sem Cert.ConvGrad
variable (X D0 D1 D2 : ℕ → ℕ → EReal) (W : ℕ → ℕ → ℕ → EReal) (G : ℕ → EReal)

theorem inv_block : k0_pay6 (F := Ideal) (fun j : S512x1024.Idx => X (j 0).val (j 1).val) = fun j : S512x1.Idx => inv (X (j 0).val) := by
  unfold k0_pay6
  funext j
  idx_vars j
  pointwise
  unfold inv meanSquare
  rw [Fin.sum_univ_eq_sum_range (fun k => X j0.val k * X j0.val k) 1024]

theorem normed_block : k0_pay7 (F := Ideal) (fun j : S512x1024.Idx => X (j 0).val (j 1).val) = fun j : S512x1024.Idx => X (j 0).val (j 1).val * inv (X (j 0).val) := by
  unfold k0_pay7
  rw [inv_block]
  funext j
  idx_vars j
  pointwise

theorem scaled_block : k0_pay8 (F := Ideal) (fun j : S512x1024.Idx => X (j 0).val (j 1).val) (fun j : S1x1024.Idx => G (j 1).val)
    = fun j : S512x1024.Idx => X (j 0).val (j 1).val * inv (X (j 0).val) * G (j 1).val := by
  unfold k0_pay8
  rw [normed_block]
  funext j
  idx_vars j
  pointwise

/-- The six products of a block's projection gradients with the weights. -/
def sixParts (r e : ℕ) : EReal :=
  ∑ k ∈ Finset.range 768, D0 r k * W 0 e k + ∑ k ∈ Finset.range 256, D0 r (768 + k) * W 1 e k + ∑ k ∈ Finset.range 512, D1 r k * W 1 e (256 + k)
    + ∑ k ∈ Finset.range 512, D1 r (512 + k) * W 2 e k + ∑ k ∈ Finset.range 256, D2 r k * W 2 e (512 + k) + ∑ k ∈ Finset.range 768, D2 r (256 + k) * W 3 e k

theorem parts_block : k0_pay16 (F := Ideal)
      (k0_pay13 (k0_pay9 (fun j : S512x768.Idx => D0 (j 0).val (j 1).val) (fun j : S1x1024x768.Idx => W 0 (j 1).val (j 2).val))
        (fun j : S512x256.Idx => D0 (j 0).val (768 + (j 1).val)) (fun j : S1x1024x256.Idx => W 1 (j 1).val (j 2).val)
        (fun j : S512x512.Idx => D1 (j 0).val (j 1).val) (fun j : S1x1024x512.Idx => W 1 (j 1).val (256 + (j 2).val))
        (fun j : S512x512.Idx => D1 (j 0).val (512 + (j 1).val)) (fun j : S1x1024x512.Idx => W 2 (j 1).val (j 2).val))
      (fun j : S512x256.Idx => D2 (j 0).val (j 1).val) (fun j : S1x1024x256.Idx => W 2 (j 1).val (512 + (j 2).val))
      (fun j : S512x768.Idx => D2 (j 0).val (256 + (j 1).val)) (fun j : S1x1024x768.Idx => W 3 (j 1).val (j 2).val)
    = fun j : S512x1024.Idx => sixParts D0 D1 D2 W (j 0).val (j 1).val := by
  unfold k0_pay16 k0_pay13 k0_pay9
  funext j
  idx_vars j
  pointwise
  unfold sixParts
  simp only [← Fin.sum_univ_eq_sum_range]

/-- The scale's gradient: the block's sum is added to what was there. -/
theorem scale_block (N P : ℕ → ℕ → EReal) (A : ℕ → EReal) :
    k0_pay2 (F := Ideal) (fun j : S512x1024.Idx => N (j 0).val (j 1).val) (fun j : S512x1024.Idx => P (j 0).val (j 1).val) (fun j : S1x1024.Idx => A (j 1).val)
    = fun j : S1x1024.Idx => A (j 1).val + ∑ r ∈ Finset.range 512, P r (j 1).val * N r (j 1).val := by
  unfold k0_pay2
  funext j
  idx_vars j
  pointwise
  simp only [← Fin.sum_univ_eq_sum_range]

/-- The rows' gradient. -/
theorem row_block (P R : ℕ → ℕ → EReal) :
    k0_pay3 (F := Ideal) (fun j : S512x1.Idx => inv (X (j 0).val)) (fun j : S512x1024.Idx => X (j 0).val (j 1).val * inv (X (j 0).val))
      (fun j : S512x1024.Idx => P (j 0).val (j 1).val) (fun j : S1x1024.Idx => G (j 1).val) (fun j : S512x1024.Idx => R (j 0).val (j 1).val)
    = fun j : S512x1024.Idx => throughNorm (X (j 0).val) (fun e => P (j 0).val e * G e) (R (j 0).val (j 1).val) (j 1).val := by
  unfold k0_pay3
  funext j
  idx_vars j
  pointwise
  unfold throughNorm
  simp only [← Fin.sum_univ_eq_sum_range]

section Weights
variable (H D : ℕ → ℕ → EReal)

/-- The weights' gradient, part by part: the block's sum is added to what was there. -/
theorem weight_0 (v : S1x1024x768.Idx → EReal) :
    k0_pay10 (F := Ideal) (fun j : S512x1024.Idx => X (j 0).val (j 1).val) (fun j : S1x1024.Idx => G (j 1).val) (fun j : S512x768.Idx => D (j 0).val (j 1).val) v
    = fun j : S1x1024x768.Idx => v j + ∑ r ∈ Finset.range 512, X r (j 1).val * inv (X r) * G (j 1).val * D r (j 2).val := by
  unfold k0_pay10
  rw [scaled_block]
  funext j
  idx_vars j
  obtain rfl : j0 = 0 := Subsingleton.elim _ _
  pointwise
  simp only [← Fin.sum_univ_eq_sum_range]

theorem weight_1 (v : S1x1024x256.Idx → EReal) :
    k0_pay11 (F := Ideal) (fun j : S512x1024.Idx => H (j 0).val (j 1).val) (fun j : S512x256.Idx => D (j 0).val (j 1).val) v
    = fun j : S1x1024x256.Idx => v j + ∑ r ∈ Finset.range 512, H r (j 1).val * D r (j 2).val := by
  unfold k0_pay11
  funext j
  idx_vars j
  obtain rfl : j0 = 0 := Subsingleton.elim _ _
  pointwise
  simp only [← Fin.sum_univ_eq_sum_range]

theorem weight_2 (v : S1x1024x512.Idx → EReal) :
    k0_pay12 (F := Ideal) (fun j : S512x1024.Idx => H (j 0).val (j 1).val) (fun j : S512x512.Idx => D (j 0).val (j 1).val) v
    = fun j : S1x1024x512.Idx => v j + ∑ r ∈ Finset.range 512, H r (j 1).val * D r (j 2).val := by
  unfold k0_pay12
  funext j
  idx_vars j
  obtain rfl : j0 = 0 := Subsingleton.elim _ _
  pointwise
  simp only [← Fin.sum_univ_eq_sum_range]

theorem weight_3 (v : S1x1024x512.Idx → EReal) :
    k0_pay14 (F := Ideal) (fun j : S512x1024.Idx => H (j 0).val (j 1).val) (fun j : S512x512.Idx => D (j 0).val (j 1).val) v
    = fun j : S1x1024x512.Idx => v j + ∑ r ∈ Finset.range 512, H r (j 1).val * D r (j 2).val :=
  weight_2 H D v

theorem weight_4 (v : S1x1024x256.Idx → EReal) :
    k0_pay15 (F := Ideal) (fun j : S512x1024.Idx => H (j 0).val (j 1).val) (fun j : S512x256.Idx => D (j 0).val (j 1).val) v
    = fun j : S1x1024x256.Idx => v j + ∑ r ∈ Finset.range 512, H r (j 1).val * D r (j 2).val :=
  weight_1 H D v

theorem weight_5 (v : S1x1024x768.Idx → EReal) :
    k0_pay1 (F := Ideal) (k0_pay17 (fun j : S512x1024.Idx => H (j 0).val (j 1).val) (fun j : S512x768.Idx => D (j 0).val (j 1).val) v)
    = fun j : S1x1024x768.Idx => v j + ∑ r ∈ Finset.range 512, H r (j 1).val * D r (j 2).val := by
  unfold k0_pay1 k0_pay17
  funext j
  idx_vars j
  obtain rfl : j0 = 0 := Subsingleton.elim _ _
  pointwise
  simp only [← Fin.sum_univ_eq_sum_range]

end Weights

end Cert.NormGrad
end
-- ==== Proof.NormInputs.lean ====
module
public import proofs.«01_k».proof.Proof.NormSpec
public import proofs.«01_k».proof.Proof.Gen.NormGradIdeal.Frame
public import Idealize.ShloMosaic.Lib.Pipeline.Value
public import Idealize.ShloMosaic.Lib.Pipeline.ValueKit
public import Idealize.ShloMosaic.PureOps.Ideal.Laws
@[expose] public section
set_option maxRecDepth 16384
noncomputable section
/-! The blocks the body finds at a point, as rows of the whole arrays. -/

namespace Cert.NormGrad
open Cert.NormGradIdeal Cert.NormGradIdeal.Gen
open Idealize.ShloMosaic Idealize.ShloMosaic.TcCoe Idealize.ShloMosaic.Tactic
open Idealize.SL.Sem Cert.ConvGrad
variable (m : (ℓ : Loc nD τ sig) → Buf (Elt Ideal) ℓ) (c : Dev nD) (t : Fin cfg0.N)

/-- The seven arguments as the region finds them: the three thirds of the projection's gradient, the weights, the rows,
    the scale and the gradient that passes by the norm. -/
abbrev arr0 : (⟨2, ![8192, 1024]⟩ : Shape).Idx → EReal := V m c main_arg0
abbrev arr1 : (⟨2, ![8192, 1024]⟩ : Shape).Idx → EReal := V m c main_arg1
abbrev arr2 : (⟨2, ![8192, 1024]⟩ : Shape).Idx → EReal := V m c main_arg2
abbrev arr3 : (⟨3, ![4, 1024, 768]⟩ : Shape).Idx → EReal := V m c main_arg3
abbrev arr4 : (⟨2, ![8192, 1024]⟩ : Shape).Idx → EReal := V m c main_arg4
abbrev arr5 : (⟨2, ![1, 1024]⟩ : Shape).Idx → EReal := V m c main_arg5
abbrev arr6 : (⟨2, ![8192, 1024]⟩ : Shape).Idx → EReal := V m c main_arg6

theorem index_0 : win0_0.index t 0 = t.val ∧ win0_0.index t 1 = 0 := (by decide +kernel : ∀ t : Fin grid0.N, win0_0.index t 0 = t.val ∧ win0_0.index t 1 = 0) t
theorem index_1 : win0_1.index t 0 = t.val ∧ win0_1.index t 1 = 0 := (by decide +kernel : ∀ t : Fin grid0.N, win0_1.index t 0 = t.val ∧ win0_1.index t 1 = 0) t
theorem index_2 : win0_2.index t 0 = t.val ∧ win0_2.index t 1 = 0 := (by decide +kernel : ∀ t : Fin grid0.N, win0_2.index t 0 = t.val ∧ win0_2.index t 1 = 0) t
theorem index_4 : win0_4.index t 0 = t.val ∧ win0_4.index t 1 = 0 := (by decide +kernel : ∀ t : Fin grid0.N, win0_4.index t 0 = t.val ∧ win0_4.index t 1 = 0) t
theorem index_6 : win0_6.index t 0 = t.val ∧ win0_6.index t 1 = 0 := (by decide +kernel : ∀ t : Fin grid0.N, win0_6.index t 0 = t.val ∧ win0_6.index t 1 = 0) t
theorem index_7 : win0_7.index t 0 = t.val ∧ win0_7.index t 1 = 0 := (by decide +kernel : ∀ t : Fin grid0.N, win0_7.index t 0 = t.val ∧ win0_7.index t 1 = 0) t
theorem index_5 : win0_5.index t 0 = 0 ∧ win0_5.index t 1 = 0 := (by decide +kernel : ∀ t : Fin grid0.N, win0_5.index t 0 = 0 ∧ win0_5.index t 1 = 0) t
theorem index_8 : win0_8.index t 0 = 0 ∧ win0_8.index t 1 = 0 := (by decide +kernel : ∀ t : Fin grid0.N, win0_8.index t 0 = 0 ∧ win0_8.index t 1 = 0) t
theorem index_3 : win0_3.index t 0 = 0 ∧ win0_3.index t 1 = 0 ∧ win0_3.index t 2 = 0 := (by decide +kernel : ∀ t : Fin grid0.N, win0_3.index t 0 = 0 ∧ win0_3.index t 1 = 0 ∧ win0_3.index t 2 = 0) t
theorem index_9 : win0_9.index t 0 = 0 ∧ win0_9.index t 1 = 0 ∧ win0_9.index t 2 = 0 := (by decide +kernel : ∀ t : Fin grid0.N, win0_9.index t 0 = 0 ∧ win0_9.index t 1 = 0 ∧ win0_9.index t 2 = 0) t

theorem iblk_0 : (iblk m c 0 t : Vec Ideal S512x1024 .bf16) = fun j => at2 (arr0 m c) (512 * t.val + (j 0).val) (j 1).val := by
  obtain ⟨i0, i1⟩ := index_0 t
  funext j
  unfold iblk
  rw [View.read_apply]
  refine at2_at (arr0 m c) _ _ _ ?_ ?_
  · show win0_0.index t 0 * 512 + 1 * (j 0).val = _
    rw [i0]; omega
  · show win0_0.index t 1 * 1024 + 1 * (j 1).val = _
    rw [i1]; omega

theorem iblk_1 : (iblk m c 1 t : Vec Ideal S512x1024 .bf16) = fun j => at2 (arr1 m c) (512 * t.val + (j 0).val) (j 1).val := by
  obtain ⟨i0, i1⟩ := index_1 t
  funext j
  unfold iblk
  rw [View.read_apply]
  refine at2_at (arr1 m c) _ _ _ ?_ ?_
  · show win0_1.index t 0 * 512 + 1 * (j 0).val = _
    rw [i0]; omega
  · show win0_1.index t 1 * 1024 + 1 * (j 1).val = _
    rw [i1]; omega

theorem iblk_2 : (iblk m c 2 t : Vec Ideal S512x1024 .bf16) = fun j => at2 (arr2 m c) (512 * t.val + (j 0).val) (j 1).val := by
  obtain ⟨i0, i1⟩ := index_2 t
  funext j
  unfold iblk
  rw [View.read_apply]
  refine at2_at (arr2 m c) _ _ _ ?_ ?_
  · show win0_2.index t 0 * 512 + 1 * (j 0).val = _
    rw [i0]; omega
  · show win0_2.index t 1 * 1024 + 1 * (j 1).val = _
    rw [i1]; omega

theorem iblk_4 : (iblk m c 4 t : Vec Ideal S512x1024 .f32) = fun j => at2 (arr4 m c) (512 * t.val + (j 0).val) (j 1).val := by
  obtain ⟨i0, i1⟩ := index_4 t
  funext j
  unfold iblk
  rw [View.read_apply]
  refine at2_at (arr4 m c) _ _ _ ?_ ?_
  · show win0_4.index t 0 * 512 + 1 * (j 0).val = _
    rw [i0]; omega
  · show win0_4.index t 1 * 1024 + 1 * (j 1).val = _
    rw [i1]; omega

theorem iblk_6 : (iblk m c 6 t : Vec Ideal S512x1024 .f32) = fun j => at2 (arr6 m c) (512 * t.val + (j 0).val) (j 1).val := by
  obtain ⟨i0, i1⟩ := index_6 t
  funext j
  unfold iblk
  rw [View.read_apply]
  refine at2_at (arr6 m c) _ _ _ ?_ ?_
  · show win0_6.index t 0 * 512 + 1 * (j 0).val = _
    rw [i0]; omega
  · show win0_6.index t 1 * 1024 + 1 * (j 1).val = _
    rw [i1]; omega

theorem iblk_5 : (iblk m c 5 t : Vec Ideal S1x1024 .f32) = fun j => at2 (arr5 m c) ((j 0).val) (j 1).val := by
  obtain ⟨i0, i1⟩ := index_5 t
  funext j
  unfold iblk
  rw [View.read_apply]
  refine at2_at (arr5 m c) _ _ _ ?_ ?_
  · show win0_5.index t 0 * 1 + 1 * (j 0).val = _
    rw [i0]; omega
  · show win0_5.index t 1 * 1024 + 1 * (j 1).val = _
    rw [i1]; omega

theorem iblk_3 : (iblk m c 3 t : Vec Ideal S4x1024x768 .bf16) = fun j => at3 (arr3 m c) (j 0).val (j 1).val (j 2).val := by
  obtain ⟨i0, i1, i2⟩ := index_3 t
  funext j
  unfold iblk
  rw [View.read_apply]
  refine at3_at (arr3 m c) _ _ _ _ ?_ ?_ ?_
  · show win0_3.index t 0 * 4 + 1 * (j 0).val = _
    rw [i0]; omega
  · show win0_3.index t 1 * 1024 + 1 * (j 1).val = _
    rw [i1]; omega
  · show win0_3.index t 2 * 768 + 1 * (j 2).val = _
    rw [i2]; omega

/-- A part of a block of two coordinates. -/
theorem part2 {R C : ℕ} {e : EltTy} (F : ℕ → ℕ → Elt Ideal e) (off size : Fin 2 → ℕ) (inb) :
    View.ld (Val := Elt Ideal) (S := ⟨2, ![R, C]⟩) (e' := e) (fun j => F (j 0).val (j 1).val) (Rect.unit off size inb) = fun j => F (off 0 + (j 0).val) (off 1 + (j 1).val) := by
  funext j
  show F (off 0 + 1 * (j 0).val) (off 1 + 1 * (j 1).val) = _
  rw [Nat.one_mul, Nat.one_mul]

/-- A part of a block of three coordinates. -/
theorem part3 {A B C : ℕ} {e : EltTy} (F : ℕ → ℕ → ℕ → Elt Ideal e) (off size : Fin 3 → ℕ) (inb) :
    View.ld (Val := Elt Ideal) (S := ⟨3, ![A, B, C]⟩) (e' := e) (fun j => F (j 0).val (j 1).val (j 2).val) (Rect.unit off size inb)
      = fun j => F (off 0 + (j 0).val) (off 1 + (j 1).val) (off 2 + (j 2).val) := by
  funext j
  show F (off 0 + 1 * (j 0).val) (off 1 + 1 * (j 1).val) (off 2 + 1 * (j 2).val) = _
  rw [Nat.one_mul, Nat.one_mul, Nat.one_mul]

theorem hz2 : (![0, 0] : Fin 2 → ℕ) = fun _ => 0 := by funext i; fin_cases i <;> rfl

theorem read_0 (l : ℕ) (size : Fin 2 → ℕ) (inb) : View.readAt (Elt Ideal) (ms0_0 t).view (Rect.unit ![0, l] size inb).toLoadRect ((hs0_0 t).unread (iblk m c 0 t))
    = fun j => at2 (arr0 m c) (512 * t.val + (j 0).val) (l + (j 1).val) := by
  rw [View.readAt_eq_ld, (hs0_0 t).read_unread, iblk_0]
  refine (part2 (e := .bf16) (fun r k => at2 (arr0 m c) (512 * t.val + r) k) ![0, l] size inb).trans (funext fun j => ?_)
  show at2 (arr0 m c) (512 * t.val + (0 + (j 0).val)) (l + (j 1).val) = _
  rw [Nat.zero_add]

theorem read_1 (l : ℕ) (size : Fin 2 → ℕ) (inb) : View.readAt (Elt Ideal) (ms0_1 t).view (Rect.unit ![0, l] size inb).toLoadRect ((hs0_1 t).unread (iblk m c 1 t))
    = fun j => at2 (arr1 m c) (512 * t.val + (j 0).val) (l + (j 1).val) := by
  rw [View.readAt_eq_ld, (hs0_1 t).read_unread, iblk_1]
  refine (part2 (e := .bf16) (fun r k => at2 (arr1 m c) (512 * t.val + r) k) ![0, l] size inb).trans (funext fun j => ?_)
  show at2 (arr1 m c) (512 * t.val + (0 + (j 0).val)) (l + (j 1).val) = _
  rw [Nat.zero_add]

theorem read_2 (l : ℕ) (size : Fin 2 → ℕ) (inb) : View.readAt (Elt Ideal) (ms0_2 t).view (Rect.unit ![0, l] size inb).toLoadRect ((hs0_2 t).unread (iblk m c 2 t))
    = fun j => at2 (arr2 m c) (512 * t.val + (j 0).val) (l + (j 1).val) := by
  rw [View.readAt_eq_ld, (hs0_2 t).read_unread, iblk_2]
  refine (part2 (e := .bf16) (fun r k => at2 (arr2 m c) (512 * t.val + r) k) ![0, l] size inb).trans (funext fun j => ?_)
  show at2 (arr2 m c) (512 * t.val + (0 + (j 0).val)) (l + (j 1).val) = _
  rw [Nat.zero_add]

theorem read_4 (l : ℕ) (size : Fin 2 → ℕ) (inb) : View.readAt (Elt Ideal) (ms0_4 t).view (Rect.unit ![0, l] size inb).toLoadRect ((hs0_4 t).unread (iblk m c 4 t))
    = fun j => at2 (arr4 m c) (512 * t.val + (j 0).val) (l + (j 1).val) := by
  rw [View.readAt_eq_ld, (hs0_4 t).read_unread, iblk_4]
  refine (part2 (e := .f32) (fun r k => at2 (arr4 m c) (512 * t.val + r) k) ![0, l] size inb).trans (funext fun j => ?_)
  show at2 (arr4 m c) (512 * t.val + (0 + (j 0).val)) (l + (j 1).val) = _
  rw [Nat.zero_add]

theorem read_6 (l : ℕ) (size : Fin 2 → ℕ) (inb) : View.readAt (Elt Ideal) (ms0_6 t).view (Rect.unit ![0, l] size inb).toLoadRect ((hs0_6 t).unread (iblk m c 6 t))
    = fun j => at2 (arr6 m c) (512 * t.val + (j 0).val) (l + (j 1).val) := by
  rw [View.readAt_eq_ld, (hs0_6 t).read_unread, iblk_6]
  refine (part2 (e := .f32) (fun r k => at2 (arr6 m c) (512 * t.val + r) k) ![0, l] size inb).trans (funext fun j => ?_)
  show at2 (arr6 m c) (512 * t.val + (0 + (j 0).val)) (l + (j 1).val) = _
  rw [Nat.zero_add]

theorem read_5 (size : Fin 2 → ℕ) (inb) : View.readAt (Elt Ideal) (ms0_5 t).view (Rect.unit ![0, 0] size inb).toLoadRect ((hs0_5 t).unread (iblk m c 5 t))
    = fun j => at2 (arr5 m c) (j 0).val (j 1).val := by
  rw [View.readAt_eq_ld, (hs0_5 t).read_unread, iblk_5]
  refine (part2 (e := .f32) (fun r k => at2 (arr5 m c) r k) ![0, 0] size inb).trans (funext fun j => ?_)
  show at2 (arr5 m c) (0 + (j 0).val) (0 + (j 1).val) = _
  rw [Nat.zero_add, Nat.zero_add]

theorem read_3 (s l n k : ℕ) (inb) : View.readAt (Elt Ideal) (ms0_3 t).view (Rect.unit ![s, 0, l] ![1, n, k] inb).toLoadRect ((hs0_3 t).unread (iblk m c 3 t))
    = fun j => at3 (arr3 m c) s (j 1).val (l + (j 2).val) := by
  rw [View.readAt_eq_ld, (hs0_3 t).read_unread, iblk_3]
  refine (part3 (e := .bf16) (fun a b k => at3 (arr3 m c) a b k) ![s, 0, l] ![1, n, k] inb).trans (funext fun j => ?_)
  have hj : (j 0).val = 0 := Nat.lt_one_iff.mp (j 0).isLt
  show at3 (arr3 m c) (s + (j 0).val) (0 + (j 1).val) (l + (j 2).val) = _
  rw [Nat.zero_add, hj, Nat.add_zero]

end Cert.NormGrad
end
-- ==== Proof.NormOutputs.lean ====
module
public import proofs.«01_k».proof.Proof.NormBody
public import proofs.«01_k».proof.Proof.NormInputs
public import proofs.«01_k».proof.Proof.Gen.NormGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! What a point leaves in the blocks of the rows' gradient and of the scale's. -/

namespace Cert.NormGrad
open Cert.NormGradIdeal Cert.NormGradIdeal.Gen
open Idealize.ShloMosaic Idealize.ShloMosaic.TcCoe Idealize.ShloMosaic.Tactic
open Idealize.SL.Sem Cert.ConvGrad

/-- The 3072 columns of the projection fall into six parts, as the thirds of the gradient and the quarters of the weights overlap. -/
theorem sum_split (f : ℕ → EReal) : ∑ k ∈ Finset.range 3072, f k
    = ∑ k ∈ Finset.range 768, f k + ∑ k ∈ Finset.range 256, f (768 + k) + ∑ k ∈ Finset.range 512, f (1024 + k)
      + ∑ k ∈ Finset.range 512, f (1536 + k) + ∑ k ∈ Finset.range 256, f (2048 + k) + ∑ k ∈ Finset.range 768, f (2304 + k) := by
  have h1 : ∑ k ∈ Finset.range 1024, f k = ∑ k ∈ Finset.range 768, f k + ∑ k ∈ Finset.range 256, f (768 + k) := Finset.sum_range_add f 768 256
  have h2 : ∑ k ∈ Finset.range 1536, f k = ∑ k ∈ Finset.range 1024, f k + ∑ k ∈ Finset.range 512, f (1024 + k) := Finset.sum_range_add f 1024 512
  have h3 : ∑ k ∈ Finset.range 2048, f k = ∑ k ∈ Finset.range 1536, f k + ∑ k ∈ Finset.range 512, f (1536 + k) := Finset.sum_range_add f 1536 512
  have h4 : ∑ k ∈ Finset.range 2304, f k = ∑ k ∈ Finset.range 2048, f k + ∑ k ∈ Finset.range 256, f (2048 + k) := Finset.sum_range_add f 2048 256
  have h5 : ∑ k ∈ Finset.range 3072, f k = ∑ k ∈ Finset.range 2304, f k + ∑ k ∈ Finset.range 768, f (2304 + k) := Finset.sum_range_add f 2304 768
  rw [h5, h4, h3, h2, h1]

section Split
variable (a b z : (⟨2, ![8192, 1024]⟩ : Shape).Idx → EReal) (w : (⟨3, ![4, 1024, 768]⟩ : Shape).Idx → EReal)

theorem proj_first (r k : ℕ) (h : k < 1024) : proj a b z r k = at2 a r k := if_pos h

theorem proj_second (r k l : ℕ) (h : 1024 ≤ k) (h' : k < 2048) (hl : k - 1024 = l) : proj a b z r k = at2 b r l := by
  subst hl
  exact (if_neg (by omega)).trans (if_pos h')

theorem proj_third (r k l : ℕ) (h : 2048 ≤ k) (hl : k - 2048 = l) : proj a b z r k = at2 z r l := by
  subst hl
  exact (if_neg (by omega)).trans (if_neg (by omega))

theorem column_at (e k s l : ℕ) (hs : k / 768 = s) (hl : k % 768 = l) : column w e k = at3 w s e l := by
  subst hs hl
  rfl

/-- The six parts together are the product with the whole weight. -/
theorem sixParts_eq (R r e : ℕ) : sixParts (fun r k => at2 a (R + r) k) (fun r k => at2 b (R + r) k) (fun r k => at2 z (R + r) k) (at3 w) r e
    = dScaled a b z w (R + r) e := by
  unfold dScaled sixParts
  rw [sum_split]
  refine congrArg₂ (· + ·) (congrArg₂ (· + ·) (congrArg₂ (· + ·) (congrArg₂ (· + ·) (congrArg₂ (· + ·) ?_ ?_) ?_) ?_) ?_) ?_ <;>
    refine Finset.sum_congr rfl fun k hk => ?_ <;> have hk := Finset.mem_range.mp hk
  · rw [proj_first a b z _ _ (by omega), column_at w e k 0 k (by omega) (by omega)]
  · rw [proj_first a b z _ _ (by omega), column_at w e _ 1 k (by omega) (by omega)]
  · rw [proj_second a b z _ _ k (by omega) (by omega) (by omega), column_at w e _ 1 (256 + k) (by omega) (by omega)]
  · rw [proj_second a b z _ _ (512 + k) (by omega) (by omega) (by omega), column_at w e _ 2 k (by omega) (by omega)]
  · rw [proj_third a b z _ _ k (by omega) (by omega), column_at w e _ 2 (512 + k) (by omega) (by omega)]
  · rw [proj_third a b z _ _ (256 + k) (by omega) (by omega), column_at w e _ 3 k (by omega) (by omega)]

end Split

variable (m : (ℓ : Loc nD τ sig) → Buf (Elt Ideal) ℓ) (c : Dev nD) (t : Fin cfg0.N)

/-- A row of the loaded block. -/
abbrev rowX (r e : ℕ) : EReal := at2 (arr4 m c) (512 * t.val + r) e

/-- The rows and the scale, as the body loads them. -/
theorem row_x : View.readAt (Elt Ideal) (ms0_4 t).view (Rect.unit (s := S512x1024) ![0, 0] S512x1024.size inb_S512x1024_S512x1024_0_0).toLoadRect ((hs0_4 t).unread (iblk m c 4 t))
    = fun j : S512x1024.Idx => rowX m c t (j 0).val (j 1).val := by
  rw [read_4]
  simp only [Nat.zero_add]
  rfl

theorem row_g : View.readAt (Elt Ideal) (ms0_5 t).view (Rect.unit (s := S1x1024) ![0, 0] S1x1024.size inb_S1x1024_S1x1024_0_0).toLoadRect ((hs0_5 t).unread (iblk m c 5 t))
    = fun j : S1x1024.Idx => at2 (arr5 m c) 0 (j 1).val := by
  rw [read_5]
  exact funext fun j => congrArg (fun a => at2 (arr5 m c) a (j 1).val) (Nat.lt_one_iff.mp (j 0).isLt)

/-- The projection's gradients against the weights: the six products of a block. -/
theorem parts_left : k0_pay16 (F := Ideal)
      (k0_pay13 (k0_pay9 (View.readAt (Elt Ideal) (ms0_0 t).view (Rect.unit (s := S512x1024) ![0, 0] S512x768.size inb_S512x1024_S512x768_0_0).toLoadRect ((hs0_0 t).unread (iblk m c 0 t)))
          (View.readAt (Elt Ideal) (ms0_3 t).view (Rect.unit (s := S4x1024x768) ![0, 0, 0] S1x1024x768.size inb_S4x1024x768_S1x1024x768_0_0_0).toLoadRect ((hs0_3 t).unread (iblk m c 3 t))))
        (View.readAt (Elt Ideal) (ms0_0 t).view (Rect.unit (s := S512x1024) ![0, 768] S512x256.size inb_S512x1024_S512x256_0_768).toLoadRect ((hs0_0 t).unread (iblk m c 0 t)))
        (View.readAt (Elt Ideal) (ms0_3 t).view (Rect.unit (s := S4x1024x768) ![1, 0, 0] S1x1024x256.size inb_S4x1024x768_S1x1024x256_1_0_0).toLoadRect ((hs0_3 t).unread (iblk m c 3 t)))
        (View.readAt (Elt Ideal) (ms0_1 t).view (Rect.unit (s := S512x1024) ![0, 0] S512x512.size inb_S512x1024_S512x512_0_0).toLoadRect ((hs0_1 t).unread (iblk m c 1 t)))
        (View.readAt (Elt Ideal) (ms0_3 t).view (Rect.unit (s := S4x1024x768) ![1, 0, 256] S1x1024x512.size inb_S4x1024x768_S1x1024x512_1_0_256).toLoadRect ((hs0_3 t).unread (iblk m c 3 t)))
        (View.readAt (Elt Ideal) (ms0_1 t).view (Rect.unit (s := S512x1024) ![0, 512] S512x512.size inb_S512x1024_S512x512_0_512).toLoadRect ((hs0_1 t).unread (iblk m c 1 t)))
        (View.readAt (Elt Ideal) (ms0_3 t).view (Rect.unit (s := S4x1024x768) ![2, 0, 0] S1x1024x512.size inb_S4x1024x768_S1x1024x512_2_0_0).toLoadRect ((hs0_3 t).unread (iblk m c 3 t))))
      (View.readAt (Elt Ideal) (ms0_2 t).view (Rect.unit (s := S512x1024) ![0, 0] S512x256.size inb_S512x1024_S512x256_0_0).toLoadRect ((hs0_2 t).unread (iblk m c 2 t)))
      (View.readAt (Elt Ideal) (ms0_3 t).view (Rect.unit (s := S4x1024x768) ![2, 0, 512] S1x1024x256.size inb_S4x1024x768_S1x1024x256_2_0_512).toLoadRect ((hs0_3 t).unread (iblk m c 3 t)))
      (View.readAt (Elt Ideal) (ms0_2 t).view (Rect.unit (s := S512x1024) ![0, 256] S512x768.size inb_S512x1024_S512x768_0_256).toLoadRect ((hs0_2 t).unread (iblk m c 2 t)))
      (View.readAt (Elt Ideal) (ms0_3 t).view (Rect.unit (s := S4x1024x768) ![3, 0, 0] S1x1024x768.size inb_S4x1024x768_S1x1024x768_3_0_0).toLoadRect ((hs0_3 t).unread (iblk m c 3 t)))
    = fun j : S512x1024.Idx => dScaled (arr0 m c) (arr1 m c) (arr2 m c) (arr3 m c) (512 * t.val + (j 0).val) (j 1).val := by
  simp only [read_0, read_1, read_2, read_3, Nat.zero_add]
  exact (parts_block (fun r k => at2 (arr0 m c) (512 * t.val + r) k) (fun r k => at2 (arr1 m c) (512 * t.val + r) k)
    (fun r k => at2 (arr2 m c) (512 * t.val + r) k) (at3 (arr3 m c))).trans (funext fun j => sixParts_eq _ _ _ _ _ _ _)

/-- The block of the rows' gradient, once the six products are summed. -/
theorem row_left : k0_pay3 (F := Ideal)
      (k0_pay6 (View.readAt (Elt Ideal) (ms0_4 t).view (Rect.unit (s := S512x1024) ![0, 0] S512x1024.size inb_S512x1024_S512x1024_0_0).toLoadRect ((hs0_4 t).unread (iblk m c 4 t))))
      (k0_pay7 (View.readAt (Elt Ideal) (ms0_4 t).view (Rect.unit (s := S512x1024) ![0, 0] S512x1024.size inb_S512x1024_S512x1024_0_0).toLoadRect ((hs0_4 t).unread (iblk m c 4 t))))
      (fun j : S512x1024.Idx => dScaled (arr0 m c) (arr1 m c) (arr2 m c) (arr3 m c) (512 * t.val + (j 0).val) (j 1).val)
      (View.readAt (Elt Ideal) (ms0_5 t).view (Rect.unit (s := S1x1024) ![0, 0] S1x1024.size inb_S1x1024_S1x1024_0_0).toLoadRect ((hs0_5 t).unread (iblk m c 5 t)))
      (View.readAt (Elt Ideal) (ms0_6 t).view (Rect.unit (s := S512x1024) ![0, 0] S512x1024.size inb_S512x1024_S512x1024_0_0).toLoadRect ((hs0_6 t).unread (iblk m c 6 t)))
    = fun j : S512x1024.Idx => dRow (arr0 m c) (arr1 m c) (arr2 m c) (arr3 m c) (arr4 m c) (arr5 m c) (arr6 m c) (512 * t.val + (j 0).val) (j 1).val := by
  rw [row_x, row_g, read_6, inv_block (rowX m c t), normed_block (rowX m c t)]
  simp only [Nat.zero_add]
  exact row_block (rowX m c t) (at2 (arr5 m c) 0) (fun r e => dScaled (arr0 m c) (arr1 m c) (arr2 m c) (arr3 m c) (512 * t.val + r) e)
    (fun r e => at2 (arr6 m c) (512 * t.val + r) e)

theorem out_row : (outsAt0 m c t.val t.isLt).1 = fun j : S512x1024.Idx =>
    dRow (arr0 m c) (arr1 m c) (arr2 m c) (arr3 m c) (arr4 m c) (arr5 m c) (arr6 m c) (512 * t.val + (j 0).val) (j 1).val := by
  by_cases h0 : t.val % 16 = 0
  · rw [outsAt0_A m c t h0]; dsimp only; unfold out0_A_7
    unfold kernelRun0_A; dsimp only
    sl_unfold_words
    rw [View.read_writes_junk_eq_canon, View.canon_cons_unit_zero (S := S512x1024) hz2, parts_left]
    exact row_left m c t
  · rw [outsAt0_B m c t h0]; dsimp only; unfold out0_B_7
    unfold kernelRun0_B; dsimp only
    sl_unfold_words
    rw [View.read_writes_junk_eq_canon, View.canon_cons_unit_zero (S := S512x1024) hz2, parts_left]
    exact row_left m c t

theorem out_scale_first (h0 : t.val % 16 = 0) : (outsAt0 m c t.val t.isLt).2.1 = fun j : S1x1024.Idx =>
    ∑ r ∈ Finset.range 512, dScaled (arr0 m c) (arr1 m c) (arr2 m c) (arr3 m c) (512 * t.val + r) (j 1).val * normed (arr4 m c) (512 * t.val + r) (j 1).val := by
  rw [outsAt0_A m c t h0]; dsimp only; unfold out0_A_8
  unfold kernelRun0_A; dsimp only
  sl_unfold_words
  rw [View.read_writes_junk_eq_canon, View.canon_cons_unit_zero (S := S1x1024) hz2, parts_left, row_x, normed_block (rowX m c t), View.readCov_unit_zero (S := S1x1024) _ hz2]
  have hzero : k0_pay4 (F := Ideal) = fun j : S1x1024.Idx => 0 := by
    unfold k0_pay4
    funext j
    pointwise
  rw [hzero]
  refine (scale_block (fun r e => rowX m c t r e * inv (rowX m c t r)) (fun r e => dScaled (arr0 m c) (arr1 m c) (arr2 m c) (arr3 m c) (512 * t.val + r) e)
    (fun _ => 0)).trans (funext fun j => zero_add _)

theorem out_scale_next (h0 : ¬ t.val % 16 = 0) (A : ℕ → EReal)
    (hA : (outsAt0 m c (t.val - 1) (Nat.lt_of_le_of_lt (Nat.sub_le _ _) t.isLt)).2.1 = fun j : S1x1024.Idx => A (j 1).val) :
    (outsAt0 m c t.val t.isLt).2.1 = fun j : S1x1024.Idx => A (j 1).val +
    ∑ r ∈ Finset.range 512, dScaled (arr0 m c) (arr1 m c) (arr2 m c) (arr3 m c) (512 * t.val + r) (j 1).val * normed (arr4 m c) (512 * t.val + r) (j 1).val := by
  rw [outsAt0_B m c t h0]; dsimp only; unfold out0_B_8
  unfold kernelRun0_B; dsimp only
  sl_unfold_words
  rw [View.read_writes_junk_eq_canon, View.canon_cons_unit_zero (S := S1x1024) hz2, parts_left, row_x, normed_block (rowX m c t), View.readAt_eq_ld, (hs0_8 t).read_unread,
    View.ld_unit_zero (S := S1x1024) hz2, hA]
  exact scale_block (fun r e => rowX m c t r e * inv (rowX m c t r)) (fun r e => dScaled (arr0 m c) (arr1 m c) (arr2 m c) (arr3 m c) (512 * t.val + r) e) A

end Cert.NormGrad
end
-- ==== Proof.NormWeights.lean ====
module
public import proofs.«01_k».proof.Proof.NormOutputs
public import Idealize.ShloMosaic.Lib.Pipeline.ReadBack
public import proofs.«01_k».proof.Proof.NormInputs
public import proofs.«01_k».proof.Proof.Gen.NormGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! What a point leaves in the block of the weights' gradient. -/

namespace Cert.NormGrad
open Cert.NormGradIdeal Cert.NormGradIdeal.Gen
open Idealize.ShloMosaic Idealize.ShloMosaic.TcCoe Idealize.ShloMosaic.Tactic
open Idealize.SL.Sem Cert.ConvGrad
variable (m : (ℓ : Loc nD τ sig) → Buf (Elt Ideal) ℓ) (c : Dev nD) (t : Fin cfg0.N)

/-- What the block at a point adds to the gradient of weight `k` of row `e`. -/
def blockWeight (R e k : ℕ) : EReal :=
  ∑ r ∈ Finset.range 512, normed (arr4 m c) (R + r) e * at2 (arr5 m c) 0 e * proj (arr0 m c) (arr1 m c) (arr2 m c) (R + r) k

/-- The scaled normed rows, from the loads. -/
abbrev scaledLoad : Vec Ideal S512x1024 .bf16 := k0_pay8 (F := Ideal)
        (View.readAt (Elt Ideal) (ms0_4 t).view (Rect.unit (s := S512x1024) ![0, 0] S512x1024.size inb_S512x1024_S512x1024_0_0).toLoadRect ((hs0_4 t).unread (iblk m c 4 t)))
        (View.readAt (Elt Ideal) (ms0_5 t).view (Rect.unit (s := S1x1024) ![0, 0] S1x1024.size inb_S1x1024_S1x1024_0_0).toLoadRect ((hs0_5 t).unread (iblk m c 5 t)))

/-- The six stores of a point over weights `Z`, the last one first. -/
abbrev weightList (Z : S4x1024x768.Idx → EReal) : List (View.Piece (Elt Ideal) S4x1024x768 .f32) :=
  [⟨Rect.unit (s := S4x1024x768) ![3, 0, 0] S1x1024x768.size inb_S4x1024x768_S1x1024x768_3_0_0,
      k0_pay1 (F := Ideal) (k0_pay17 (F := Ideal) (scaledLoad m c t)
        (View.readAt (Elt Ideal) (ms0_2 t).view (Rect.unit (s := S512x1024) ![0, 256] S512x768.size inb_S512x1024_S512x768_0_256).toLoadRect ((hs0_2 t).unread (iblk m c 2 t))) (View.ld Z (Rect.unit (s := S4x1024x768) ![3, 0, 0] S1x1024x768.size inb_S4x1024x768_S1x1024x768_3_0_0)))⟩,
    ⟨Rect.unit (s := S4x1024x768) ![2, 0, 512] S1x1024x256.size inb_S4x1024x768_S1x1024x256_2_0_512,
      k0_pay15 (F := Ideal) (scaledLoad m c t)
        (View.readAt (Elt Ideal) (ms0_2 t).view (Rect.unit (s := S512x1024) ![0, 0] S512x256.size inb_S512x1024_S512x256_0_0).toLoadRect ((hs0_2 t).unread (iblk m c 2 t))) (View.ld Z (Rect.unit (s := S4x1024x768) ![2, 0, 512] S1x1024x256.size inb_S4x1024x768_S1x1024x256_2_0_512))⟩,
    ⟨Rect.unit (s := S4x1024x768) ![2, 0, 0] S1x1024x512.size inb_S4x1024x768_S1x1024x512_2_0_0,
      k0_pay14 (F := Ideal) (scaledLoad m c t)
        (View.readAt (Elt Ideal) (ms0_1 t).view (Rect.unit (s := S512x1024) ![0, 512] S512x512.size inb_S512x1024_S512x512_0_512).toLoadRect ((hs0_1 t).unread (iblk m c 1 t))) (View.ld Z (Rect.unit (s := S4x1024x768) ![2, 0, 0] S1x1024x512.size inb_S4x1024x768_S1x1024x512_2_0_0))⟩,
    ⟨Rect.unit (s := S4x1024x768) ![1, 0, 256] S1x1024x512.size inb_S4x1024x768_S1x1024x512_1_0_256,
      k0_pay12 (F := Ideal) (scaledLoad m c t)
        (View.readAt (Elt Ideal) (ms0_1 t).view (Rect.unit (s := S512x1024) ![0, 0] S512x512.size inb_S512x1024_S512x512_0_0).toLoadRect ((hs0_1 t).unread (iblk m c 1 t))) (View.ld Z (Rect.unit (s := S4x1024x768) ![1, 0, 256] S1x1024x512.size inb_S4x1024x768_S1x1024x512_1_0_256))⟩,
    ⟨Rect.unit (s := S4x1024x768) ![1, 0, 0] S1x1024x256.size inb_S4x1024x768_S1x1024x256_1_0_0,
      k0_pay11 (F := Ideal) (scaledLoad m c t)
        (View.readAt (Elt Ideal) (ms0_0 t).view (Rect.unit (s := S512x1024) ![0, 768] S512x256.size inb_S512x1024_S512x256_0_768).toLoadRect ((hs0_0 t).unread (iblk m c 0 t))) (View.ld Z (Rect.unit (s := S4x1024x768) ![1, 0, 0] S1x1024x256.size inb_S4x1024x768_S1x1024x256_1_0_0))⟩,
    ⟨Rect.unit (s := S4x1024x768) ![0, 0, 0] S1x1024x768.size inb_S4x1024x768_S1x1024x768_0_0_0,
      k0_pay10 (F := Ideal) (View.readAt (Elt Ideal) (ms0_4 t).view (Rect.unit (s := S512x1024) ![0, 0] S512x1024.size inb_S512x1024_S512x1024_0_0).toLoadRect ((hs0_4 t).unread (iblk m c 4 t)))
        (View.readAt (Elt Ideal) (ms0_5 t).view (Rect.unit (s := S1x1024) ![0, 0] S1x1024.size inb_S1x1024_S1x1024_0_0).toLoadRect ((hs0_5 t).unread (iblk m c 5 t)))
        (View.readAt (Elt Ideal) (ms0_0 t).view (Rect.unit (s := S512x1024) ![0, 0] S512x768.size inb_S512x1024_S512x768_0_0).toLoadRect ((hs0_0 t).unread (iblk m c 0 t))) (View.ld Z (Rect.unit (s := S4x1024x768) ![0, 0, 0] S1x1024x768.size inb_S4x1024x768_S1x1024x768_0_0_0))⟩]

/-- The gradient's columns, as the scaled rows meet them. -/
abbrev scaledRow (r e : ℕ) : EReal := rowX m c t r e * inv (rowX m c t r) * at2 (arr5 m c) 0 e

theorem scaledLoad_eq : scaledLoad m c t = fun j : S512x1024.Idx => scaledRow m c t (j 0).val (j 1).val := by
  unfold scaledLoad
  rw [row_x, row_g]
  exact scaled_block (rowX m c t) (at2 (arr5 m c) 0)

theorem blockWeight_of (e e' k : ℕ) (he : e = e') (D : ℕ → EReal) (h : ∀ r, proj (arr0 m c) (arr1 m c) (arr2 m c) (512 * t.val + r) k = D r) :
    ∑ r ∈ Finset.range 512, scaledRow m c t r e * D r = blockWeight m c (512 * t.val) e' k := by
  subst he
  unfold blockWeight
  refine Finset.sum_congr rfl fun r _ => ?_
  rw [h]
  rfl

/-- The stores leave each weight with what the block adds to it. -/
theorem weightList_pieces (Z : S4x1024x768.Idx → EReal) :
    View.PiecesOf (Val := Elt Ideal) (e := .f32) (fun i : S4x1024x768.Idx => Z i + blockWeight m c (512 * t.val) (i 1).val (768 * (i 0).val + (i 2).val)) (weightList m c t Z) := by
  refine ⟨?_, ?_, ?_, ?_, ?_, ?_, trivial⟩
  · intro x
    have h2 : (x 2).val < 768 := (x 2).isLt
    have h0 : (x 0).val < 1 := (x 0).isLt
    dsimp only
    rw [scaledLoad_eq, read_2]
    refine (congrFun (weight_5 (scaledRow m c t) (fun r k => at2 (arr2 m c) (512 * t.val + r) (256 + k)) _) x).trans (congrArg₂ (· + ·) rfl ?_)
    refine blockWeight_of m c t _ _ _ ?_ (fun r => at2 (arr2 m c) (512 * t.val + r) (256 + (x 2).val)) fun r => ?_
    · show (x 1).val = 0 + 1 * (x 1).val
      omega
    · show proj _ _ _ _ (768 * (3 + 1 * (x 0).val) + (0 + 1 * (x 2).val)) = _
      exact (proj_third _ _ _ _ _ _ (by omega) (by omega))
  · intro x
    have h2 : (x 2).val < 256 := (x 2).isLt
    have h0 : (x 0).val < 1 := (x 0).isLt
    dsimp only
    rw [scaledLoad_eq, read_2]
    refine (congrFun (weight_4 (scaledRow m c t) (fun r k => at2 (arr2 m c) (512 * t.val + r) (0 + k)) _) x).trans (congrArg₂ (· + ·) rfl ?_)
    refine blockWeight_of m c t _ _ _ ?_ (fun r => at2 (arr2 m c) (512 * t.val + r) (0 + (x 2).val)) fun r => ?_
    · show (x 1).val = 0 + 1 * (x 1).val
      omega
    · show proj _ _ _ _ (768 * (2 + 1 * (x 0).val) + (512 + 1 * (x 2).val)) = _
      exact (proj_third _ _ _ _ _ _ (by omega) (by omega))
  · intro x
    have h2 : (x 2).val < 512 := (x 2).isLt
    have h0 : (x 0).val < 1 := (x 0).isLt
    dsimp only
    rw [scaledLoad_eq, read_1]
    refine (congrFun (weight_3 (scaledRow m c t) (fun r k => at2 (arr1 m c) (512 * t.val + r) (512 + k)) _) x).trans (congrArg₂ (· + ·) rfl ?_)
    refine blockWeight_of m c t _ _ _ ?_ (fun r => at2 (arr1 m c) (512 * t.val + r) (512 + (x 2).val)) fun r => ?_
    · show (x 1).val = 0 + 1 * (x 1).val
      omega
    · show proj _ _ _ _ (768 * (2 + 1 * (x 0).val) + (0 + 1 * (x 2).val)) = _
      exact (proj_second _ _ _ _ _ _ (by omega) (by omega) (by omega))
  · intro x
    have h2 : (x 2).val < 512 := (x 2).isLt
    have h0 : (x 0).val < 1 := (x 0).isLt
    dsimp only
    rw [scaledLoad_eq, read_1]
    refine (congrFun (weight_2 (scaledRow m c t) (fun r k => at2 (arr1 m c) (512 * t.val + r) (0 + k)) _) x).trans (congrArg₂ (· + ·) rfl ?_)
    refine blockWeight_of m c t _ _ _ ?_ (fun r => at2 (arr1 m c) (512 * t.val + r) (0 + (x 2).val)) fun r => ?_
    · show (x 1).val = 0 + 1 * (x 1).val
      omega
    · show proj _ _ _ _ (768 * (1 + 1 * (x 0).val) + (256 + 1 * (x 2).val)) = _
      exact (proj_second _ _ _ _ _ _ (by omega) (by omega) (by omega))
  · intro x
    have h2 : (x 2).val < 256 := (x 2).isLt
    have h0 : (x 0).val < 1 := (x 0).isLt
    dsimp only
    rw [scaledLoad_eq, read_0]
    refine (congrFun (weight_1 (scaledRow m c t) (fun r k => at2 (arr0 m c) (512 * t.val + r) (768 + k)) _) x).trans (congrArg₂ (· + ·) rfl ?_)
    refine blockWeight_of m c t _ _ _ ?_ (fun r => at2 (arr0 m c) (512 * t.val + r) (768 + (x 2).val)) fun r => ?_
    · show (x 1).val = 0 + 1 * (x 1).val
      omega
    · show proj _ _ _ _ (768 * (1 + 1 * (x 0).val) + (0 + 1 * (x 2).val)) = _
      exact ((proj_first _ _ _ _ _ (by omega)).trans (congrArg _ (by omega)))
  · intro x
    have h2 : (x 2).val < 768 := (x 2).isLt
    have h0 : (x 0).val < 1 := (x 0).isLt
    dsimp only
    rw [row_x, row_g, read_0]
    refine (congrFun (weight_0 (rowX m c t) (at2 (arr5 m c) 0) (fun r k => at2 (arr0 m c) (512 * t.val + r) (0 + k)) _) x).trans (congrArg₂ (· + ·) rfl ?_)
    refine blockWeight_of m c t _ _ _ ?_ (fun r => at2 (arr0 m c) (512 * t.val + r) (0 + (x 2).val)) fun r => ?_
    · show (x 1).val = 0 + 1 * (x 1).val
      omega
    · show proj _ _ _ _ (768 * (0 + 1 * (x 0).val) + (0 + 1 * (x 2).val)) = _
      exact ((proj_first _ _ _ _ _ (by omega)).trans (congrArg _ (by omega)))

theorem weightList_canon (Z : S4x1024x768.Idx → EReal) (L' : List (View.Piece (Elt Ideal) S4x1024x768 .f32)) :
    View.canon (weightList m c t Z ++ L') = fun i : S4x1024x768.Idx => Z i + blockWeight m c (512 * t.val) (i 1).val (768 * (i 0).val + (i 2).val) :=
  funext fun y => View.canon_append_of_piecesOf _ L' _ (weightList_pieces m c t Z) y (View.cover_of_tiledBy (weightList m c t Z) ![1, 1024, 256] (by sl_kernel_rfl) y)

theorem out_weight_first (h0 : t.val % 16 = 0) : (outsAt0 m c t.val t.isLt).2.2 = fun i : S4x1024x768.Idx =>
    blockWeight m c (512 * t.val) (i 1).val (768 * (i 0).val + (i 2).val) := by
  rw [outsAt0_A m c t h0]; dsimp only; unfold out0_A_9
  unfold kernelRun0_A; dsimp only
  sl_unfold_words
  rw [View.read_writes_junk_eq_canon]
  simp (disch := decide) only [↓View.readCov_skip, ↓View.readCov_fill]
  refine (weightList_canon m c t (k0_pay5 (F := Ideal)) [⟨Rect.unit (s := S4x1024x768) ![0, 0, 0] S4x1024x768.size inb_S4x1024x768_S4x1024x768_0_0_0, k0_pay5 (F := Ideal)⟩]).trans ?_
  have hzero : k0_pay5 (F := Ideal) = fun j : S4x1024x768.Idx => 0 := by
    unfold k0_pay5
    funext j
    pointwise
  rw [hzero]
  exact funext fun j => zero_add _

theorem out_weight_next (h0 : ¬ t.val % 16 = 0) (A : ℕ → ℕ → ℕ → EReal)
    (hA : (outsAt0 m c (t.val - 1) (Nat.lt_of_le_of_lt (Nat.sub_le _ _) t.isLt)).2.2 = fun i : S4x1024x768.Idx => A (i 0).val (i 1).val (i 2).val) :
    (outsAt0 m c t.val t.isLt).2.2 = fun i : S4x1024x768.Idx => A (i 0).val (i 1).val (i 2).val + blockWeight m c (512 * t.val) (i 1).val (768 * (i 0).val + (i 2).val) := by
  rw [outsAt0_B m c t h0]; dsimp only; unfold out0_B_9
  unfold kernelRun0_B; dsimp only
  sl_unfold_words
  rw [View.read_writes_junk_eq_canon]
  have hload (r : Rect S4x1024x768) : View.readAt (Elt Ideal) (ms0_9 t).view r.toLoadRect
      ((hs0_9 t).unread (outsAt0 m c (t.val - 1) (Nat.lt_of_le_of_lt (Nat.sub_le _ _) t.isLt)).2.2)
      = View.ld (fun i : S4x1024x768.Idx => A (i 0).val (i 1).val (i 2).val) r := by
    rw [View.readAt_eq_ld, (hs0_9 t).read_unread, hA]
  simp only [hload]
  exact (congrArg View.canon (List.append_nil _).symm).trans (weightList_canon m c t (fun i : S4x1024x768.Idx => A (i 0).val (i 1).val (i 2).val) [])

end Cert.NormGrad
end
-- ==== Proof.NormFinal.lean ====
module
public import proofs.«01_k».proof.Proof.NormWeights
public import proofs.«01_k».proof.Proof.Gen.NormGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! The three gradients once every block has run. -/

namespace Cert.NormGrad
open Cert.NormGradIdeal Cert.NormGradIdeal.Gen
open Idealize.ShloMosaic Idealize.ShloMosaic.TcCoe Idealize.ShloMosaic.Tactic
open Idealize.SL.Sem Cert.ConvGrad
variable (m : (ℓ : Loc nD τ sig) → Buf (Elt Ideal) ℓ) (c : Dev nD)

/-- What the block starting at row `512 i` adds to the scale's gradient. -/
abbrev blockScale (i e : ℕ) : EReal :=
  ∑ r ∈ Finset.range 512, dScaled (arr0 m c) (arr1 m c) (arr2 m c) (arr3 m c) (512 * i + r) e * normed (arr4 m c) (512 * i + r) e

/-- The running gradient of the scale after point `n`. -/
theorem scale_after : ∀ (n : ℕ) (h : n < cfg0.N), (outsAt0 m c n h).2.1
    = fun j : S1x1024.Idx => (fun e => ∑ i ∈ Finset.range (n + 1), blockScale m c i e) (j 1).val
  | 0, h => by
    refine (out_scale_first m c ⟨0, h⟩ rfl).trans (funext fun j => ?_)
    simp only [Nat.zero_add, Finset.sum_range_one]
  | n + 1, h => by
    have hN : n + 1 < 16 := h
    refine (out_scale_next m c ⟨n + 1, h⟩ (by show ¬(n + 1) % 16 = 0; omega)
      (fun e => ∑ i ∈ Finset.range (n + 1), blockScale m c i e) (scale_after n (Nat.lt_of_succ_lt h))).trans (funext fun j => ?_)
    dsimp only
    rw [Finset.sum_range_succ _ (n + 1)]

/-- The running gradient of the weights after point `n`. -/
theorem weight_after : ∀ (n : ℕ) (h : n < cfg0.N), (outsAt0 m c n h).2.2
    = fun i : S4x1024x768.Idx => (fun s e k => ∑ p ∈ Finset.range (n + 1), blockWeight m c (512 * p) e (768 * s + k)) (i 0).val (i 1).val (i 2).val
  | 0, h => by
    refine (out_weight_first m c ⟨0, h⟩ rfl).trans (funext fun j => ?_)
    simp only [Nat.zero_add, Finset.sum_range_one]
  | n + 1, h => by
    have hN : n + 1 < 16 := h
    refine (out_weight_next m c ⟨n + 1, h⟩ (by show ¬(n + 1) % 16 = 0; omega)
      (fun s e k => ∑ p ∈ Finset.range (n + 1), blockWeight m c (512 * p) e (768 * s + k)) (weight_after n (Nat.lt_of_succ_lt h))).trans (funext fun j => ?_)
    dsimp only
    rw [Finset.sum_range_succ _ (n + 1)]

theorem final_row : (dats m 0 c).arrAt 7 cfg0.N = fun i : S8192x1024.Idx =>
    dRow (arr0 m c) (arr1 m c) (arr2 m c) (arr3 m c) (arr4 m c) (arr5 m c) (arr6 m c) (i 0).val (i 1).val := by
  refine (dats m 0 c).arrAt_eq_of_covers 7 (fun i : S8192x1024.Idx =>
    dRow (arr0 m c) (arr1 m c) (arr2 m c) (arr3 m c) (arr4 m c) (arr5 m c) (arr6 m c) (i 0).val (i 1).val) ?_ ?_
  · decide +kernel
  · intro t _ y
    show (dats m 0 c).after 7 t y = dRow (arr0 m c) (arr1 m c) (arr2 m c) (arr3 m c) (arr4 m c) (arr5 m c) (arr6 m c)
      (win0_7.index t 0 * 512 + 1 * (y 0).val) (win0_7.index t 1 * 1024 + 1 * (y 1).val)
    rw [after0_7, out_row, (index_7 t).1, (index_7 t).2]
    simp only [Nat.one_mul, Nat.zero_mul, Nat.zero_add, Nat.mul_comm]

theorem final_scale : (dats m 0 c).arrAt 8 cfg0.N = fun i : S1x1024.Idx => (fun e => ∑ k ∈ Finset.range 16, blockScale m c k e) (i 1).val := by
  refine (dats m 0 c).arrAt_eq_of_covers 8 (fun i : S1x1024.Idx => (fun e => ∑ k ∈ Finset.range 16, blockScale m c k e) (i 1).val) ?_ ?_
  · decide +kernel
  · intro t ht y
    have hN : t.val < 16 := t.isLt
    have h15 := (flush0_8 t).mp ht
    obtain rfl : t = ⟨15, by decide⟩ := Fin.ext (by show t.val = 15; omega)
    show (dats m 0 c).after 8 _ y = (fun e => ∑ k ∈ Finset.range 16, blockScale m c k e) (win0_8.index _ 1 * 1024 + 1 * (y 1).val)
    rw [after0_8, scale_after, (index_8 _).2]
    simp only [Nat.one_mul, Nat.zero_mul, Nat.zero_add]

theorem final_weight : (dats m 0 c).arrAt 9 cfg0.N = fun i : S4x1024x768.Idx =>
    (fun s e k => ∑ p ∈ Finset.range 16, blockWeight m c (512 * p) e (768 * s + k)) (i 0).val (i 1).val (i 2).val := by
  refine (dats m 0 c).arrAt_eq_of_covers 9 (fun i : S4x1024x768.Idx =>
    (fun s e k => ∑ p ∈ Finset.range 16, blockWeight m c (512 * p) e (768 * s + k)) (i 0).val (i 1).val (i 2).val) ?_ ?_
  · decide +kernel
  · intro t ht y
    have hN : t.val < 16 := t.isLt
    have h15 := (flush0_9 t).mp ht
    obtain rfl : t = ⟨15, by decide⟩ := Fin.ext (by show t.val = 15; omega)
    show (dats m 0 c).after 9 _ y = (fun s e k => ∑ p ∈ Finset.range 16, blockWeight m c (512 * p) e (768 * s + k))
      (win0_9.index _ 0 * 4 + 1 * (y 0).val) (win0_9.index _ 1 * 1024 + 1 * (y 1).val) (win0_9.index _ 2 * 768 + 1 * (y 2).val)
    rw [after0_9, weight_after, (index_9 _).1, (index_9 _).2.1, (index_9 _).2.2]
    simp only [Nat.one_mul, Nat.zero_mul, Nat.zero_add]

end Cert.NormGrad
end
-- ==== Proof.NormRun.lean ====
module
public import proofs.«01_k».proof.Proof.NormFinal
public import proofs.«01_k».proof.Proof.Gen.NormGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! Every run of the kernel leaves the three gradients. -/

namespace Cert.NormGrad
open Cert.NormGradIdeal Cert.NormGradIdeal.Gen
open Idealize.ShloMosaic Idealize.ShloMosaic.TcCoe Idealize.ShloMosaic.Tactic
open Idealize.SL.Sem
open Cert.ConvGrad (at2)
variable (m : (ℓ : Loc nD τ sig) → Buf (Elt Ideal) ℓ) (ρ : Dev nD → PrngReg) (c : Dev nD)

/-- The seven arguments as launched. -/
abbrev arg0 : S8192x1024.Idx → EReal := m ((c : Thread nD τ).loc main_arg0)
abbrev arg1 : S8192x1024.Idx → EReal := m ((c : Thread nD τ).loc main_arg1)
abbrev arg2 : S8192x1024.Idx → EReal := m ((c : Thread nD τ).loc main_arg2)
abbrev arg3 : S4x1024x768.Idx → EReal := m ((c : Thread nD τ).loc main_arg3)
abbrev arg4 : S8192x1024.Idx → EReal := m ((c : Thread nD τ).loc main_arg4)
abbrev arg5 : S1x1024.Idx → EReal := m ((c : Thread nD τ).loc main_arg5)
abbrev arg6 : S8192x1024.Idx → EReal := m ((c : Thread nD τ).loc main_arg6)

theorem arr0_eq : arr0 m c = arg0 m c := V_main_arg0 m c
theorem arr1_eq : arr1 m c = arg1 m c := V_main_arg1 m c
theorem arr2_eq : arr2 m c = arg2 m c := V_main_arg2 m c
theorem arr3_eq : arr3 m c = arg3 m c := V_main_arg3 m c
theorem arr4_eq : arr4 m c = arg4 m c := V_main_arg4 m c
theorem arr5_eq : arr5 m c = arg5 m c := V_main_arg5 m c
theorem arr6_eq : arr6 m c = arg6 m c := V_main_arg6 m c

/-- A sum over blocks and rows of a block is a sum over rows. -/
theorem sum_blocks (f : ℕ → EReal) : ∑ i ∈ Finset.range 16, ∑ r ∈ Finset.range 512, f (512 * i + r) = ∑ t ∈ Finset.range 8192, f t := by
  refine Eq.trans ?_ (Finset.sum_range_mul_split 16 512 f).symm
  exact Finset.sum_congr rfl fun i _ => Finset.sum_congr rfl fun r _ => by rw [Nat.mul_comm]

theorem row_eq (i : S8192x1024.Idx) : dRow (arr0 m c) (arr1 m c) (arr2 m c) (arr3 m c) (arr4 m c) (arr5 m c) (arr6 m c) (i 0).val (i 1).val
    = dRow (arg0 m c) (arg1 m c) (arg2 m c) (arg3 m c) (arg4 m c) (arg5 m c) (arg6 m c) (i 0).val (i 1).val := by
  rw [arr0_eq, arr1_eq, arr2_eq, arr3_eq, arr4_eq, arr5_eq, arr6_eq]

theorem scale_eq (e : ℕ) : ∑ k ∈ Finset.range 16, blockScale m c k e = dScale (arg0 m c) (arg1 m c) (arg2 m c) (arg3 m c) (arg4 m c) e := by
  unfold dScale
  rw [← arr0_eq, ← arr1_eq, ← arr2_eq, ← arr3_eq, ← arr4_eq]
  exact sum_blocks fun r => dScaled (arr0 m c) (arr1 m c) (arr2 m c) (arr3 m c) r e * normed (arr4 m c) r e

theorem weight_eq (e k : ℕ) : ∑ p ∈ Finset.range 16, blockWeight m c (512 * p) e k = dWeight (arg0 m c) (arg1 m c) (arg2 m c) (arg4 m c) (arg5 m c) e k := by
  unfold dWeight blockWeight
  rw [← arr0_eq, ← arr1_eq, ← arr2_eq, ← arr4_eq, ← arr5_eq]
  exact sum_blocks fun r => normed (arr4 m c) r e * at2 (arr5 m c) 0 e * proj (arr0 m c) (arr1 m c) (arr2 m c) r k

/-- Every run of the kernel leaves the three gradients and its arguments as they were. -/
theorem run : θ_run defs (onTc (τ := τ) (main (F := Ideal))) ⟨m, fun _ => 0, ρ⟩ fun r => ∀ c : Dev nD,
      r.2.mem ((c : Thread nD τ).loc main_v0_0) = (fun i : S8192x1024.Idx => dRow (arg0 m c) (arg1 m c) (arg2 m c) (arg3 m c) (arg4 m c) (arg5 m c) (arg6 m c) (i 0).val (i 1).val)
      ∧ r.2.mem ((c : Thread nD τ).loc main_v0_1) = (fun i : S1x1024.Idx => dScale (arg0 m c) (arg1 m c) (arg2 m c) (arg3 m c) (arg4 m c) (i 1).val)
      ∧ r.2.mem ((c : Thread nD τ).loc main_v0_2) = (fun i : S4x1024x768.Idx => dWeight (arg0 m c) (arg1 m c) (arg2 m c) (arg4 m c) (arg5 m c) (i 1).val (768 * (i 0).val + (i 2).val))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).1.trans (final_row m c)).trans (funext fun i => row_eq m c i),
     ((h c).2.1.trans (final_scale m c)).trans (funext fun i => scale_eq m c (i 1).val),
     ((h c).2.2.1.trans (final_weight m c)).trans (funext fun i => weight_eq m c (i 1).val (768 * (i 0).val + (i 2).val)),
     (h c).2.2.2⟩)
    (Cert.NormGradIdeal.Value.run_blocks m ρ)

end Cert.NormGrad
end
-- ==== Proof.NormPlain.lean ====
module
public import proofs.«01_k».proof.Proof.NormSpec
public import proofs.«01_k».proof.Proof.Gen.NormGradReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain gradient through the norm, read at a row and a lane. -/

namespace Cert.NormGrad.Plain
open Cert.NormGradReferenceIdeal Cert.NormGradReferenceIdeal.Gen Cert.NormGradReferenceIdeal.Read
open Idealize.ShloMosaic Idealize.ShloMosaic.TcCoe Idealize.ShloMosaic.Tactic
open Cert.ConvGrad (at2 at2_ix2 at2_of_lt)
variable (x0 x1 x2 : S8192x1024.Idx → EReal) (x3 : S4x1024x768.Idx → EReal) (x4 : S8192x1024.Idx → EReal) (x5 : S1x1024.Idx → EReal) (x6 : S8192x1024.Idx → EReal)

/-- A sum over a row's lanes. -/
theorem sum_lanes {R C : ℕ} (x : (⟨2, ![R, C]⟩ : Shape).Idx → EReal) (f : EReal → ℕ → EReal) (r : Fin R) :
    ∑ k : Fin C, f (x (ix2 r k)) k.val = ∑ k ∈ Finset.range C, f (at2 x r.val k) k := by
  rw [← Fin.sum_univ_eq_sum_range (fun k => f (at2 x r.val k) k) C]
  exact Finset.sum_congr rfl fun k _ => by rw [at2_ix2]

theorem mean_square (r : Fin 8192) (u : Fin 1) : val_main_v9 (F := Ideal) x4 (ix2 r u) = meanSquare (at2 x4 r) := by
  unfold val_main_v9 val_main_v8 val_main_v7 val_main_v6 val_main_v5 val_main_v4 val_main_v3 val_main_cst val_main_cst_0 val_main_cst_1
  pointwise
  unfold meanSquare
  rw [← sum_lanes x4 (fun a _ => a * a) r]

theorem inv_row (r : Fin 8192) (u : Fin 1) : val_main_v10 (F := Ideal) x4 (ix2 r u) = inv (at2 x4 r) := by
  unfold val_main_v10
  refine (congrArg Ideal.rsqrt (mean_square x4 r u)).trans ?_
  rfl

theorem half_row (r : Fin 8192) (u : Fin 1) : val_main_v13 (F := Ideal) x4 (ix2 r u) = minusHalf * Ideal.div (inv (at2 x4 r)) (meanSquare (at2 x4 r)) := by
  unfold val_main_v13 val_main_v12 val_main_v11 val_main_cst_2
  pointwise
  rw [inv_row, mean_square]

theorem normed_row (r : Fin 8192) (e : Fin 1024) : val_main_v15 (F := Ideal) x4 (ix2 r e) = normed x4 r e := by
  unfold val_main_v15 val_main_v14
  pointwise
  rw [inv_row, ← at2_ix2 x4]
  rfl

theorem scaled_row (r : Fin 8192) (e : Fin 1024) : val_main_v17 (F := Ideal) x4 x5 (ix2 r e) = normed x4 r e * at2 x5 0 e := by
  unfold val_main_v17 val_main_v16
  pointwise
  rw [normed_row, ← at2_ix2 x5]
  rfl

theorem proj_row (r : Fin 8192) (k : Fin 3072) : val_main_v1 (F := Ideal) x0 x1 x2 (ix2 r k) = proj x0 x1 x2 r k := by
  unfold val_main_v1 val_main_v0
  pointwise
  unfold proj
  by_cases h : k.val < 1024
  · rw [dif_pos h, if_pos h]
    exact (at2_of_lt x0 _ _ r.isLt h).symm
  · rw [dif_neg h, if_neg h]
    by_cases h' : k.val - 1024 < 1024
    · have hk : k.val < 2048 := by omega
      rw [dif_pos h']
      exact (at2_of_lt x1 _ _ r.isLt h').symm.trans (if_pos hk).symm
    · have hk : ¬ k.val < 2048 := by omega
      have hs : k.val - 2048 = k.val - 1024 - 1024 := by omega
      rw [dif_neg h']
      exact (at2_of_lt x2 _ _ r.isLt (by omega)).symm.trans ((congrArg (at2 x2 r.val) hs.symm).trans (if_neg hk).symm)

theorem column_row (e : Fin 1024) (k : Fin 3072) : val_main_v19 (F := Ideal) x3 (ix2 e k) = column x3 e k := by
  unfold val_main_v19 val_main_v18 val_main_v2
  pointwise
  unfold column
  exact (at3_of_lt x3 _ _ _ (by omega) e.isLt (by omega)).symm

theorem scaled_grad (r : Fin 8192) (e : Fin 1024) : val_main_v23 (F := Ideal) x0 x1 x2 x3 (ix2 r e) = dScaled x0 x1 x2 x3 r e := by
  unfold val_main_v23
  pointwise
  simp only [proj_row, column_row]
  exact Fin.sum_univ_eq_sum_range (fun k => proj x0 x1 x2 r.val k * column x3 e.val k) 3072

/-- The gradient of the weights. -/
theorem weight_grad : val_main_v25 (F := Ideal) x0 x1 x2 x4 x5 = fun i : S4x1024x768.Idx => dWeight x0 x1 x2 x4 x5 (i 1).val (768 * (i 0).val + (i 2).val) := by
  funext i
  idx_vars i
  unfold val_main_v25 val_main_v24 val_main_v22 val_main_v21
  pointwise
  simp only [proj_row, scaled_row]
  unfold dWeight
  rw [← Fin.sum_univ_eq_sum_range (fun r => normed x4 r i1.val * at2 x5 0 i1.val * proj x0 x1 x2 r (768 * i0.val + i2.val)) 8192, Nat.mul_comm 768]
  exact Finset.sum_congr rfl fun r _ => mul_comm _ _

/-- The gradient of the scale. -/
theorem scale_grad : val_main_v28 (F := Ideal) x0 x1 x2 x3 x4 = fun i : S1x1024.Idx => dScale x0 x1 x2 x3 x4 (i 1).val := by
  funext i
  idx_vars i
  unfold val_main_v28 val_main_v27 val_main_v26 val_main_cst_3
  pointwise
  simp only [normed_row, scaled_grad]
  unfold dScale
  rw [← Fin.sum_univ_eq_sum_range (fun r => dScaled x0 x1 x2 x3 r i1.val * normed x4 r i1.val) 8192]
  exact Finset.sum_congr rfl fun r _ => mul_comm _ _

/-- The gradient of the normed rows, scale included. -/
theorem normed_grad (r : Fin 8192) (e : Fin 1024) : val_main_v30 (F := Ideal) x0 x1 x2 x3 x5 (ix2 r e) = dScaled x0 x1 x2 x3 r e * at2 x5 0 e := by
  unfold val_main_v30 val_main_v29
  pointwise
  rw [scaled_grad, ← at2_ix2 x5]
  rfl

theorem pull_row (r : Fin 8192) : val_main_v40 (F := Ideal) x0 x1 x2 x3 x4 x5 (ix1 r) = pull (at2 x4 r) (fun j => dScaled x0 x1 x2 x3 r j * at2 x5 0 j) := by
  unfold val_main_v40 val_main_v39 val_main_v38 val_main_v37 val_main_v33 val_main_v32 val_main_v31 val_main_cst_4 val_main_cst_5 val_main_cst_6
  pointwise
  simp only [half_row, normed_grad]
  rw [Fin.sum_univ_one, sum_lanes x4 (fun a j => a * (dScaled x0 x1 x2 x3 r.val j * at2 x5 0 j)) r]
  rfl

/-- The gradient of the rows. -/
theorem row_grad : val_main_v45 (F := Ideal) x0 x1 x2 x3 x4 x5 x6 = fun i : S8192x1024.Idx => dRow x0 x1 x2 x3 x4 x5 x6 (i 0).val (i 1).val := by
  funext i
  idx_vars i
  unfold val_main_v45 val_main_v44 val_main_v43 val_main_v42 val_main_v36 val_main_v35 val_main_v34 val_main_v41
  pointwise
  rw [pull_row, inv_row, normed_grad]
  unfold dRow
  rw [throughNorm_eq _ _ _ _ i1.isLt, at2_ix2, at2_ix2]

end Cert.NormGrad.Plain
end
-- ==== Proof.EvenSpec.lean ====
module
public import proofs.«01_k».proof.Proof.NormSpec
@[expose] public section
noncomputable section
/-! The gradient of the even layer's projection and norm: the same norm as the odd layer's before a projection to 2048
    columns, whose gradient comes in two parts of 512 columns and one of 1024. -/

namespace Cert.EvenIn
open Idealize.ShloMosaic Cert.ConvGrad
open Cert.NormGrad (at3 throughNorm normed)

section Rows
variable (a b : (⟨2, ![8192, 512]⟩ : Shape).Idx → EReal) (z : (⟨2, ![8192, 1024]⟩ : Shape).Idx → EReal) (w : (⟨3, ![4, 1024, 512]⟩ : Shape).Idx → EReal)
  (x : (⟨2, ![8192, 1024]⟩ : Shape).Idx → EReal) (g : (⟨2, ![1, 1024]⟩ : Shape).Idx → EReal) (d : (⟨2, ![8192, 1024]⟩ : Shape).Idx → EReal)

/-- The gradient of the projection: the pooling's, the recurrence's and the gate's columns side by side. -/
def proj (r k : ℕ) : EReal := if k < 512 then at2 a r k else if k < 1024 then at2 b r (k - 512) else at2 z r (k - 1024)

/-- The weights with the columns of the four parts side by side. -/
def column (e k : ℕ) : EReal := at3 w (k / 512) e (k % 512)

/-- The gradient of the normed and scaled row. -/
def dScaled (r e : ℕ) : EReal := ∑ k ∈ Finset.range 2048, proj a b z r k * column w e k

/-- The gradient of the row. -/
def dRow (r e : ℕ) : EReal := throughNorm (at2 x r) (fun j => dScaled a b z w r j * at2 g 0 j) (at2 d r e) e

/-- The gradient of the scale. -/
def dScale (e : ℕ) : EReal := ∑ r ∈ Finset.range 8192, dScaled a b z w r e * normed x r e

/-- The gradient of the weight of feature `e` in column `k`. -/
def dWeight (e k : ℕ) : EReal := ∑ r ∈ Finset.range 8192, normed x r e * at2 g 0 e * proj a b z r k

end Rows

end Cert.EvenIn
end
-- ==== Proof.EvenBody.lean ====
module
public import proofs.«01_k».proof.Proof.EvenSpec
public import proofs.«01_k».proof.Proof.Gen.EvenGradIdeal.Frame
public import Idealize.ShloMosaic.Lib.Pipeline.Value
public import Idealize.ShloMosaic.Lib.Pipeline.ValueKit
public import Idealize.ShloMosaic.Lib.Pointwise
public import Idealize.ShloMosaic.PureOps.Ideal.Laws
@[expose] public section
set_option maxRecDepth 16384
noncomputable section
/-! What the body computes from the blocks it loads, whatever rows these are. -/

namespace Cert.EvenIn
open Cert.EvenGradIdeal Cert.EvenGradIdeal.Gen
open Idealize.ShloMosaic hiding inv
open Idealize.ShloMosaic.TcCoe Idealize.ShloMosaic.Tactic
open Idealize.SL.Sem Cert.ConvGrad
open Cert.NormGrad (at3 at3_of_lt at3_at inv meanSquare minusHalf pull throughNorm throughNorm_eq normed)
variable (X D0 D1 D2 : ℕ → ℕ → EReal) (W : ℕ → ℕ → ℕ → EReal) (G : ℕ → EReal)

theorem inv_block : k0_pay6 (F := Ideal) (fun j : S512x1024.Idx => X (j 0).val (j 1).val) = fun j : S512x1.Idx => inv (X (j 0).val) := by
  unfold k0_pay6
  funext j
  idx_vars j
  pointwise
  unfold inv meanSquare
  rw [Fin.sum_univ_eq_sum_range (fun k => X j0.val k * X j0.val k) 1024]

theorem normed_block : k0_pay7 (F := Ideal) (fun j : S512x1024.Idx => X (j 0).val (j 1).val) = fun j : S512x1024.Idx => X (j 0).val (j 1).val * inv (X (j 0).val) := by
  unfold k0_pay7
  rw [inv_block]
  funext j
  idx_vars j
  pointwise

theorem scaled_block : k0_pay8 (F := Ideal) (fun j : S512x1024.Idx => X (j 0).val (j 1).val) (fun j : S1x1024.Idx => G (j 1).val)
    = fun j : S512x1024.Idx => X (j 0).val (j 1).val * inv (X (j 0).val) * G (j 1).val := by
  unfold k0_pay8
  rw [normed_block]
  funext j
  idx_vars j
  pointwise

/-- The four products of a block's projection gradients with the weights. -/
def fourParts (r e : ℕ) : EReal :=
  ∑ k ∈ Finset.range 512, D0 r k * W 0 e k + ∑ k ∈ Finset.range 512, D1 r k * W 1 e k
    + ∑ k ∈ Finset.range 512, D2 r k * W 2 e k + ∑ k ∈ Finset.range 512, D2 r (512 + k) * W 3 e k

theorem parts_block : k0_pay13 (F := Ideal)
      (k0_pay9 (fun j : S512x512.Idx => D0 (j 0).val (j 1).val) (fun j : S1x1024x512.Idx => W 0 (j 1).val (j 2).val))
      (fun j : S512x512.Idx => D1 (j 0).val (j 1).val) (fun j : S1x1024x512.Idx => W 1 (j 1).val (j 2).val)
      (fun j : S512x512.Idx => D2 (j 0).val (j 1).val) (fun j : S1x1024x512.Idx => W 2 (j 1).val (j 2).val)
      (fun j : S512x512.Idx => D2 (j 0).val (512 + (j 1).val)) (fun j : S1x1024x512.Idx => W 3 (j 1).val (j 2).val)
    = fun j : S512x1024.Idx => fourParts D0 D1 D2 W (j 0).val (j 1).val := by
  unfold k0_pay13 k0_pay9
  funext j
  idx_vars j
  pointwise
  unfold fourParts
  simp only [← Fin.sum_univ_eq_sum_range]

/-- The scale's gradient: the block's sum is added to what was there. -/
theorem scale_block (N P : ℕ → ℕ → EReal) (A : ℕ → EReal) :
    k0_pay2 (F := Ideal) (fun j : S512x1024.Idx => N (j 0).val (j 1).val) (fun j : S512x1024.Idx => P (j 0).val (j 1).val) (fun j : S1x1024.Idx => A (j 1).val)
    = fun j : S1x1024.Idx => A (j 1).val + ∑ r ∈ Finset.range 512, P r (j 1).val * N r (j 1).val := by
  unfold k0_pay2
  funext j
  idx_vars j
  pointwise
  simp only [← Fin.sum_univ_eq_sum_range]

/-- The rows' gradient. -/
theorem row_block (P R : ℕ → ℕ → EReal) :
    k0_pay3 (F := Ideal) (fun j : S512x1.Idx => inv (X (j 0).val)) (fun j : S512x1024.Idx => X (j 0).val (j 1).val * inv (X (j 0).val))
      (fun j : S512x1024.Idx => P (j 0).val (j 1).val) (fun j : S1x1024.Idx => G (j 1).val) (fun j : S512x1024.Idx => R (j 0).val (j 1).val)
    = fun j : S512x1024.Idx => throughNorm (X (j 0).val) (fun e => P (j 0).val e * G e) (R (j 0).val (j 1).val) (j 1).val := by
  unfold k0_pay3
  funext j
  idx_vars j
  pointwise
  unfold throughNorm
  simp only [← Fin.sum_univ_eq_sum_range]

section Weights
variable (H D : ℕ → ℕ → EReal)

/-- The weights' gradient, part by part: the block's sum is added to what was there. -/
theorem weight_0 (v : S1x1024x512.Idx → EReal) :
    k0_pay10 (F := Ideal) (fun j : S512x1024.Idx => X (j 0).val (j 1).val) (fun j : S1x1024.Idx => G (j 1).val) (fun j : S512x512.Idx => D (j 0).val (j 1).val) v
    = fun j : S1x1024x512.Idx => v j + ∑ r ∈ Finset.range 512, X r (j 1).val * inv (X r) * G (j 1).val * D r (j 2).val := by
  unfold k0_pay10
  rw [scaled_block]
  funext j
  idx_vars j
  obtain rfl : j0 = 0 := Subsingleton.elim _ _
  pointwise
  simp only [← Fin.sum_univ_eq_sum_range]

theorem weight_1 (v : S1x1024x512.Idx → EReal) :
    k0_pay11 (F := Ideal) (fun j : S512x1024.Idx => H (j 0).val (j 1).val) (fun j : S512x512.Idx => D (j 0).val (j 1).val) v
    = fun j : S1x1024x512.Idx => v j + ∑ r ∈ Finset.range 512, H r (j 1).val * D r (j 2).val := by
  unfold k0_pay11
  funext j
  idx_vars j
  obtain rfl : j0 = 0 := Subsingleton.elim _ _
  pointwise
  simp only [← Fin.sum_univ_eq_sum_range]

theorem weight_2 (v : S1x1024x512.Idx → EReal) :
    k0_pay12 (F := Ideal) (fun j : S512x1024.Idx => H (j 0).val (j 1).val) (fun j : S512x512.Idx => D (j 0).val (j 1).val) v
    = fun j : S1x1024x512.Idx => v j + ∑ r ∈ Finset.range 512, H r (j 1).val * D r (j 2).val :=
  weight_1 H D v

theorem weight_3 (v : S1x1024x512.Idx → EReal) :
    k0_pay1 (F := Ideal) (fun j : S512x1024.Idx => H (j 0).val (j 1).val) (fun j : S512x512.Idx => D (j 0).val (j 1).val) v
    = fun j : S1x1024x512.Idx => v j + ∑ r ∈ Finset.range 512, H r (j 1).val * D r (j 2).val :=
  weight_1 H D v

end Weights

end Cert.EvenIn
end
-- ==== Proof.EvenInputs.lean ====
module
public import proofs.«01_k».proof.Proof.EvenSpec
public import proofs.«01_k».proof.Proof.NormInputs
public import proofs.«01_k».proof.Proof.Gen.EvenGradIdeal.Frame
public import Idealize.ShloMosaic.Lib.Pipeline.Value
public import Idealize.ShloMosaic.Lib.Pipeline.ValueKit
public import Idealize.ShloMosaic.PureOps.Ideal.Laws
@[expose] public section
set_option maxRecDepth 16384
noncomputable section
/-! The blocks the body finds at a point, as rows of the whole arrays. -/

namespace Cert.EvenIn
open Cert.EvenGradIdeal Cert.EvenGradIdeal.Gen
open Idealize.ShloMosaic hiding inv
open Idealize.ShloMosaic.TcCoe Idealize.ShloMosaic.Tactic
open Idealize.SL.Sem Cert.ConvGrad
open Cert.NormGrad (at3 at3_of_lt at3_at inv meanSquare minusHalf pull throughNorm throughNorm_eq normed part2 part3 hz2)
variable (m : (ℓ : Loc nD τ sig) → Buf (Elt Ideal) ℓ) (c : Dev nD) (t : Fin cfg0.N)

/-- The seven arguments as the region finds them: the three parts of the projection's gradient, the weights, the rows,
    the scale and the gradient that passes by the norm. -/
abbrev arr0 : (⟨2, ![8192, 512]⟩ : Shape).Idx → EReal := V m c main_arg0
abbrev arr1 : (⟨2, ![8192, 512]⟩ : Shape).Idx → EReal := V m c main_arg1
abbrev arr2 : (⟨2, ![8192, 1024]⟩ : Shape).Idx → EReal := V m c main_arg2
abbrev arr3 : (⟨3, ![4, 1024, 512]⟩ : Shape).Idx → EReal := V m c main_arg3
abbrev arr4 : (⟨2, ![8192, 1024]⟩ : Shape).Idx → EReal := V m c main_arg4
abbrev arr5 : (⟨2, ![1, 1024]⟩ : Shape).Idx → EReal := V m c main_arg5
abbrev arr6 : (⟨2, ![8192, 1024]⟩ : Shape).Idx → EReal := V m c main_arg6

theorem index_0 : win0_0.index t 0 = t.val ∧ win0_0.index t 1 = 0 := (by decide +kernel : ∀ t : Fin grid0.N, win0_0.index t 0 = t.val ∧ win0_0.index t 1 = 0) t
theorem index_1 : win0_1.index t 0 = t.val ∧ win0_1.index t 1 = 0 := (by decide +kernel : ∀ t : Fin grid0.N, win0_1.index t 0 = t.val ∧ win0_1.index t 1 = 0) t
theorem index_2 : win0_2.index t 0 = t.val ∧ win0_2.index t 1 = 0 := (by decide +kernel : ∀ t : Fin grid0.N, win0_2.index t 0 = t.val ∧ win0_2.index t 1 = 0) t
theorem index_4 : win0_4.index t 0 = t.val ∧ win0_4.index t 1 = 0 := (by decide +kernel : ∀ t : Fin grid0.N, win0_4.index t 0 = t.val ∧ win0_4.index t 1 = 0) t
theorem index_6 : win0_6.index t 0 = t.val ∧ win0_6.index t 1 = 0 := (by decide +kernel : ∀ t : Fin grid0.N, win0_6.index t 0 = t.val ∧ win0_6.index t 1 = 0) t
theorem index_7 : win0_7.index t 0 = t.val ∧ win0_7.index t 1 = 0 := (by decide +kernel : ∀ t : Fin grid0.N, win0_7.index t 0 = t.val ∧ win0_7.index t 1 = 0) t
theorem index_5 : win0_5.index t 0 = 0 ∧ win0_5.index t 1 = 0 := (by decide +kernel : ∀ t : Fin grid0.N, win0_5.index t 0 = 0 ∧ win0_5.index t 1 = 0) t
theorem index_8 : win0_8.index t 0 = 0 ∧ win0_8.index t 1 = 0 := (by decide +kernel : ∀ t : Fin grid0.N, win0_8.index t 0 = 0 ∧ win0_8.index t 1 = 0) t
theorem index_3 : win0_3.index t 0 = 0 ∧ win0_3.index t 1 = 0 ∧ win0_3.index t 2 = 0 := (by decide +kernel : ∀ t : Fin grid0.N, win0_3.index t 0 = 0 ∧ win0_3.index t 1 = 0 ∧ win0_3.index t 2 = 0) t
theorem index_9 : win0_9.index t 0 = 0 ∧ win0_9.index t 1 = 0 ∧ win0_9.index t 2 = 0 := (by decide +kernel : ∀ t : Fin grid0.N, win0_9.index t 0 = 0 ∧ win0_9.index t 1 = 0 ∧ win0_9.index t 2 = 0) t

theorem iblk_0 : (iblk m c 0 t : Vec Ideal S512x512 .bf16) = fun j => at2 (arr0 m c) (512 * t.val + (j 0).val) (j 1).val := by
  obtain ⟨i0, i1⟩ := index_0 t
  funext j
  unfold iblk
  rw [View.read_apply]
  refine at2_at (arr0 m c) _ _ _ ?_ ?_
  · show win0_0.index t 0 * 512 + 1 * (j 0).val = _
    rw [i0]; omega
  · show win0_0.index t 1 * 512 + 1 * (j 1).val = _
    rw [i1]; omega

theorem iblk_1 : (iblk m c 1 t : Vec Ideal S512x512 .bf16) = fun j => at2 (arr1 m c) (512 * t.val + (j 0).val) (j 1).val := by
  obtain ⟨i0, i1⟩ := index_1 t
  funext j
  unfold iblk
  rw [View.read_apply]
  refine at2_at (arr1 m c) _ _ _ ?_ ?_
  · show win0_1.index t 0 * 512 + 1 * (j 0).val = _
    rw [i0]; omega
  · show win0_1.index t 1 * 512 + 1 * (j 1).val = _
    rw [i1]; omega

theorem iblk_2 : (iblk m c 2 t : Vec Ideal S512x1024 .bf16) = fun j => at2 (arr2 m c) (512 * t.val + (j 0).val) (j 1).val := by
  obtain ⟨i0, i1⟩ := index_2 t
  funext j
  unfold iblk
  rw [View.read_apply]
  refine at2_at (arr2 m c) _ _ _ ?_ ?_
  · show win0_2.index t 0 * 512 + 1 * (j 0).val = _
    rw [i0]; omega
  · show win0_2.index t 1 * 1024 + 1 * (j 1).val = _
    rw [i1]; omega

theorem iblk_4 : (iblk m c 4 t : Vec Ideal S512x1024 .f32) = fun j => at2 (arr4 m c) (512 * t.val + (j 0).val) (j 1).val := by
  obtain ⟨i0, i1⟩ := index_4 t
  funext j
  unfold iblk
  rw [View.read_apply]
  refine at2_at (arr4 m c) _ _ _ ?_ ?_
  · show win0_4.index t 0 * 512 + 1 * (j 0).val = _
    rw [i0]; omega
  · show win0_4.index t 1 * 1024 + 1 * (j 1).val = _
    rw [i1]; omega

theorem iblk_6 : (iblk m c 6 t : Vec Ideal S512x1024 .f32) = fun j => at2 (arr6 m c) (512 * t.val + (j 0).val) (j 1).val := by
  obtain ⟨i0, i1⟩ := index_6 t
  funext j
  unfold iblk
  rw [View.read_apply]
  refine at2_at (arr6 m c) _ _ _ ?_ ?_
  · show win0_6.index t 0 * 512 + 1 * (j 0).val = _
    rw [i0]; omega
  · show win0_6.index t 1 * 1024 + 1 * (j 1).val = _
    rw [i1]; omega

theorem iblk_5 : (iblk m c 5 t : Vec Ideal S1x1024 .f32) = fun j => at2 (arr5 m c) ((j 0).val) (j 1).val := by
  obtain ⟨i0, i1⟩ := index_5 t
  funext j
  unfold iblk
  rw [View.read_apply]
  refine at2_at (arr5 m c) _ _ _ ?_ ?_
  · show win0_5.index t 0 * 1 + 1 * (j 0).val = _
    rw [i0]; omega
  · show win0_5.index t 1 * 1024 + 1 * (j 1).val = _
    rw [i1]; omega

theorem iblk_3 : (iblk m c 3 t : Vec Ideal S4x1024x512 .bf16) = fun j => at3 (arr3 m c) (j 0).val (j 1).val (j 2).val := by
  obtain ⟨i0, i1, i2⟩ := index_3 t
  funext j
  unfold iblk
  rw [View.read_apply]
  refine at3_at (arr3 m c) _ _ _ _ ?_ ?_ ?_
  · show win0_3.index t 0 * 4 + 1 * (j 0).val = _
    rw [i0]; omega
  · show win0_3.index t 1 * 1024 + 1 * (j 1).val = _
    rw [i1]; omega
  · show win0_3.index t 2 * 512 + 1 * (j 2).val = _
    rw [i2]; omega

theorem read_0 (l : ℕ) (size : Fin 2 → ℕ) (inb) : View.readAt (Elt Ideal) (ms0_0 t).view (Rect.unit ![0, l] size inb).toLoadRect ((hs0_0 t).unread (iblk m c 0 t))
    = fun j => at2 (arr0 m c) (512 * t.val + (j 0).val) (l + (j 1).val) := by
  rw [View.readAt_eq_ld, (hs0_0 t).read_unread, iblk_0]
  refine (part2 (e := .bf16) (fun r k => at2 (arr0 m c) (512 * t.val + r) k) ![0, l] size inb).trans (funext fun j => ?_)
  show at2 (arr0 m c) (512 * t.val + (0 + (j 0).val)) (l + (j 1).val) = _
  rw [Nat.zero_add]

theorem read_1 (l : ℕ) (size : Fin 2 → ℕ) (inb) : View.readAt (Elt Ideal) (ms0_1 t).view (Rect.unit ![0, l] size inb).toLoadRect ((hs0_1 t).unread (iblk m c 1 t))
    = fun j => at2 (arr1 m c) (512 * t.val + (j 0).val) (l + (j 1).val) := by
  rw [View.readAt_eq_ld, (hs0_1 t).read_unread, iblk_1]
  refine (part2 (e := .bf16) (fun r k => at2 (arr1 m c) (512 * t.val + r) k) ![0, l] size inb).trans (funext fun j => ?_)
  show at2 (arr1 m c) (512 * t.val + (0 + (j 0).val)) (l + (j 1).val) = _
  rw [Nat.zero_add]

theorem read_2 (l : ℕ) (size : Fin 2 → ℕ) (inb) : View.readAt (Elt Ideal) (ms0_2 t).view (Rect.unit ![0, l] size inb).toLoadRect ((hs0_2 t).unread (iblk m c 2 t))
    = fun j => at2 (arr2 m c) (512 * t.val + (j 0).val) (l + (j 1).val) := by
  rw [View.readAt_eq_ld, (hs0_2 t).read_unread, iblk_2]
  refine (part2 (e := .bf16) (fun r k => at2 (arr2 m c) (512 * t.val + r) k) ![0, l] size inb).trans (funext fun j => ?_)
  show at2 (arr2 m c) (512 * t.val + (0 + (j 0).val)) (l + (j 1).val) = _
  rw [Nat.zero_add]

theorem read_4 (l : ℕ) (size : Fin 2 → ℕ) (inb) : View.readAt (Elt Ideal) (ms0_4 t).view (Rect.unit ![0, l] size inb).toLoadRect ((hs0_4 t).unread (iblk m c 4 t))
    = fun j => at2 (arr4 m c) (512 * t.val + (j 0).val) (l + (j 1).val) := by
  rw [View.readAt_eq_ld, (hs0_4 t).read_unread, iblk_4]
  refine (part2 (e := .f32) (fun r k => at2 (arr4 m c) (512 * t.val + r) k) ![0, l] size inb).trans (funext fun j => ?_)
  show at2 (arr4 m c) (512 * t.val + (0 + (j 0).val)) (l + (j 1).val) = _
  rw [Nat.zero_add]

theorem read_6 (l : ℕ) (size : Fin 2 → ℕ) (inb) : View.readAt (Elt Ideal) (ms0_6 t).view (Rect.unit ![0, l] size inb).toLoadRect ((hs0_6 t).unread (iblk m c 6 t))
    = fun j => at2 (arr6 m c) (512 * t.val + (j 0).val) (l + (j 1).val) := by
  rw [View.readAt_eq_ld, (hs0_6 t).read_unread, iblk_6]
  refine (part2 (e := .f32) (fun r k => at2 (arr6 m c) (512 * t.val + r) k) ![0, l] size inb).trans (funext fun j => ?_)
  show at2 (arr6 m c) (512 * t.val + (0 + (j 0).val)) (l + (j 1).val) = _
  rw [Nat.zero_add]

theorem read_5 (size : Fin 2 → ℕ) (inb) : View.readAt (Elt Ideal) (ms0_5 t).view (Rect.unit ![0, 0] size inb).toLoadRect ((hs0_5 t).unread (iblk m c 5 t))
    = fun j => at2 (arr5 m c) (j 0).val (j 1).val := by
  rw [View.readAt_eq_ld, (hs0_5 t).read_unread, iblk_5]
  refine (part2 (e := .f32) (fun r k => at2 (arr5 m c) r k) ![0, 0] size inb).trans (funext fun j => ?_)
  show at2 (arr5 m c) (0 + (j 0).val) (0 + (j 1).val) = _
  rw [Nat.zero_add, Nat.zero_add]

theorem read_3 (s l n k : ℕ) (inb) : View.readAt (Elt Ideal) (ms0_3 t).view (Rect.unit ![s, 0, l] ![1, n, k] inb).toLoadRect ((hs0_3 t).unread (iblk m c 3 t))
    = fun j => at3 (arr3 m c) s (j 1).val (l + (j 2).val) := by
  rw [View.readAt_eq_ld, (hs0_3 t).read_unread, iblk_3]
  refine (part3 (e := .bf16) (fun a b k => at3 (arr3 m c) a b k) ![s, 0, l] ![1, n, k] inb).trans (funext fun j => ?_)
  have hj : (j 0).val = 0 := Nat.lt_one_iff.mp (j 0).isLt
  show at3 (arr3 m c) (s + (j 0).val) (0 + (j 1).val) (l + (j 2).val) = _
  rw [Nat.zero_add, hj, Nat.add_zero]

end Cert.EvenIn
end
-- ==== Proof.EvenOutputs.lean ====
module
public import proofs.«01_k».proof.Proof.EvenBody
public import proofs.«01_k».proof.Proof.EvenInputs
public import proofs.«01_k».proof.Proof.Gen.EvenGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! What a point leaves in the blocks of the rows' gradient and of the scale's. -/

namespace Cert.EvenIn
open Cert.EvenGradIdeal Cert.EvenGradIdeal.Gen
open Idealize.ShloMosaic hiding inv
open Idealize.ShloMosaic.TcCoe Idealize.ShloMosaic.Tactic
open Idealize.SL.Sem Cert.ConvGrad
open Cert.NormGrad (at3 at3_of_lt at3_at inv meanSquare minusHalf pull throughNorm throughNorm_eq normed hz2)

/-- The 2048 columns of the projection fall into the four parts of the weights. -/
theorem sum_split (f : ℕ → EReal) : ∑ k ∈ Finset.range 2048, f k
    = ∑ k ∈ Finset.range 512, f k + ∑ k ∈ Finset.range 512, f (512 + k) + ∑ k ∈ Finset.range 512, f (1024 + k) + ∑ k ∈ Finset.range 512, f (1536 + k) := by
  have h1 : ∑ k ∈ Finset.range 1024, f k = ∑ k ∈ Finset.range 512, f k + ∑ k ∈ Finset.range 512, f (512 + k) := Finset.sum_range_add f 512 512
  have h2 : ∑ k ∈ Finset.range 1536, f k = ∑ k ∈ Finset.range 1024, f k + ∑ k ∈ Finset.range 512, f (1024 + k) := Finset.sum_range_add f 1024 512
  have h3 : ∑ k ∈ Finset.range 2048, f k = ∑ k ∈ Finset.range 1536, f k + ∑ k ∈ Finset.range 512, f (1536 + k) := Finset.sum_range_add f 1536 512
  rw [h3, h2, h1]

section Split
variable (a b : (⟨2, ![8192, 512]⟩ : Shape).Idx → EReal) (z : (⟨2, ![8192, 1024]⟩ : Shape).Idx → EReal) (w : (⟨3, ![4, 1024, 512]⟩ : Shape).Idx → EReal)

theorem proj_first (r k : ℕ) (h : k < 512) : proj a b z r k = at2 a r k := if_pos h

theorem proj_second (r k l : ℕ) (h : 512 ≤ k) (h' : k < 1024) (hl : k - 512 = l) : proj a b z r k = at2 b r l := by
  subst hl
  exact (if_neg (by omega)).trans (if_pos h')

theorem proj_third (r k l : ℕ) (h : 1024 ≤ k) (hl : k - 1024 = l) : proj a b z r k = at2 z r l := by
  subst hl
  exact (if_neg (by omega)).trans (if_neg (by omega))

theorem column_at (e k s l : ℕ) (hs : k / 512 = s) (hl : k % 512 = l) : column w e k = at3 w s e l := by
  subst hs hl
  rfl

/-- The four parts together are the product with the whole weight. -/
theorem fourParts_eq (R r e : ℕ) : fourParts (fun r k => at2 a (R + r) k) (fun r k => at2 b (R + r) k) (fun r k => at2 z (R + r) k) (at3 w) r e
    = dScaled a b z w (R + r) e := by
  unfold dScaled fourParts
  rw [sum_split]
  refine congrArg₂ (· + ·) (congrArg₂ (· + ·) (congrArg₂ (· + ·) ?_ ?_) ?_) ?_ <;>
    refine Finset.sum_congr rfl fun k hk => ?_ <;> have hk := Finset.mem_range.mp hk
  · rw [proj_first a b z _ _ (by omega), column_at w e k 0 k (by omega) (by omega)]
  · rw [proj_second a b z _ _ k (by omega) (by omega) (by omega), column_at w e _ 1 k (by omega) (by omega)]
  · rw [proj_third a b z _ _ k (by omega) (by omega), column_at w e _ 2 k (by omega) (by omega)]
  · rw [proj_third a b z _ _ (512 + k) (by omega) (by omega), column_at w e _ 3 k (by omega) (by omega)]

end Split

variable (m : (ℓ : Loc nD τ sig) → Buf (Elt Ideal) ℓ) (c : Dev nD) (t : Fin cfg0.N)

/-- A row of the loaded block. -/
abbrev rowX (r e : ℕ) : EReal := at2 (arr4 m c) (512 * t.val + r) e

/-- The rows and the scale, as the body loads them. -/
theorem row_x : View.readAt (Elt Ideal) (ms0_4 t).view (Rect.unit (s := S512x1024) ![0, 0] S512x1024.size inb_S512x1024_S512x1024_0_0).toLoadRect ((hs0_4 t).unread (iblk m c 4 t))
    = fun j : S512x1024.Idx => rowX m c t (j 0).val (j 1).val := by
  rw [read_4]
  simp only [Nat.zero_add]
  rfl

theorem row_g : View.readAt (Elt Ideal) (ms0_5 t).view (Rect.unit (s := S1x1024) ![0, 0] S1x1024.size inb_S1x1024_S1x1024_0_0).toLoadRect ((hs0_5 t).unread (iblk m c 5 t))
    = fun j : S1x1024.Idx => at2 (arr5 m c) 0 (j 1).val := by
  rw [read_5]
  exact funext fun j => congrArg (fun a => at2 (arr5 m c) a (j 1).val) (Nat.lt_one_iff.mp (j 0).isLt)

/-- The projection's gradients against the weights: the four products of a block. -/
theorem parts_left : k0_pay13 (F := Ideal)
      (k0_pay9 (View.readAt (Elt Ideal) (ms0_0 t).view (Rect.unit (s := S512x512) ![0, 0] S512x512.size inb_S512x512_S512x512_0_0).toLoadRect ((hs0_0 t).unread (iblk m c 0 t)))
        (View.readAt (Elt Ideal) (ms0_3 t).view (Rect.unit (s := S4x1024x512) ![0, 0, 0] S1x1024x512.size inb_S4x1024x512_S1x1024x512_0_0_0).toLoadRect ((hs0_3 t).unread (iblk m c 3 t))))
      (View.readAt (Elt Ideal) (ms0_1 t).view (Rect.unit (s := S512x512) ![0, 0] S512x512.size inb_S512x512_S512x512_0_0).toLoadRect ((hs0_1 t).unread (iblk m c 1 t)))
      (View.readAt (Elt Ideal) (ms0_3 t).view (Rect.unit (s := S4x1024x512) ![1, 0, 0] S1x1024x512.size inb_S4x1024x512_S1x1024x512_1_0_0).toLoadRect ((hs0_3 t).unread (iblk m c 3 t)))
      (View.readAt (Elt Ideal) (ms0_2 t).view (Rect.unit (s := S512x1024) ![0, 0] S512x512.size inb_S512x1024_S512x512_0_0).toLoadRect ((hs0_2 t).unread (iblk m c 2 t)))
      (View.readAt (Elt Ideal) (ms0_3 t).view (Rect.unit (s := S4x1024x512) ![2, 0, 0] S1x1024x512.size inb_S4x1024x512_S1x1024x512_2_0_0).toLoadRect ((hs0_3 t).unread (iblk m c 3 t)))
      (View.readAt (Elt Ideal) (ms0_2 t).view (Rect.unit (s := S512x1024) ![0, 512] S512x512.size inb_S512x1024_S512x512_0_512).toLoadRect ((hs0_2 t).unread (iblk m c 2 t)))
      (View.readAt (Elt Ideal) (ms0_3 t).view (Rect.unit (s := S4x1024x512) ![3, 0, 0] S1x1024x512.size inb_S4x1024x512_S1x1024x512_3_0_0).toLoadRect ((hs0_3 t).unread (iblk m c 3 t)))
    = fun j : S512x1024.Idx => dScaled (arr0 m c) (arr1 m c) (arr2 m c) (arr3 m c) (512 * t.val + (j 0).val) (j 1).val := by
  simp only [read_0, read_1, read_2, read_3, Nat.zero_add]
  exact (parts_block (fun r k => at2 (arr0 m c) (512 * t.val + r) k) (fun r k => at2 (arr1 m c) (512 * t.val + r) k)
    (fun r k => at2 (arr2 m c) (512 * t.val + r) k) (at3 (arr3 m c))).trans (funext fun j => fourParts_eq _ _ _ _ _ _ _)

/-- The block of the rows' gradient, once the four products are summed. -/
theorem row_left : k0_pay3 (F := Ideal)
      (k0_pay6 (View.readAt (Elt Ideal) (ms0_4 t).view (Rect.unit (s := S512x1024) ![0, 0] S512x1024.size inb_S512x1024_S512x1024_0_0).toLoadRect ((hs0_4 t).unread (iblk m c 4 t))))
      (k0_pay7 (View.readAt (Elt Ideal) (ms0_4 t).view (Rect.unit (s := S512x1024) ![0, 0] S512x1024.size inb_S512x1024_S512x1024_0_0).toLoadRect ((hs0_4 t).unread (iblk m c 4 t))))
      (fun j : S512x1024.Idx => dScaled (arr0 m c) (arr1 m c) (arr2 m c) (arr3 m c) (512 * t.val + (j 0).val) (j 1).val)
      (View.readAt (Elt Ideal) (ms0_5 t).view (Rect.unit (s := S1x1024) ![0, 0] S1x1024.size inb_S1x1024_S1x1024_0_0).toLoadRect ((hs0_5 t).unread (iblk m c 5 t)))
      (View.readAt (Elt Ideal) (ms0_6 t).view (Rect.unit (s := S512x1024) ![0, 0] S512x1024.size inb_S512x1024_S512x1024_0_0).toLoadRect ((hs0_6 t).unread (iblk m c 6 t)))
    = fun j : S512x1024.Idx => dRow (arr0 m c) (arr1 m c) (arr2 m c) (arr3 m c) (arr4 m c) (arr5 m c) (arr6 m c) (512 * t.val + (j 0).val) (j 1).val := by
  rw [row_x, row_g, read_6, inv_block (rowX m c t), normed_block (rowX m c t)]
  simp only [Nat.zero_add]
  exact row_block (rowX m c t) (at2 (arr5 m c) 0) (fun r e => dScaled (arr0 m c) (arr1 m c) (arr2 m c) (arr3 m c) (512 * t.val + r) e)
    (fun r e => at2 (arr6 m c) (512 * t.val + r) e)

theorem out_row : (outsAt0 m c t.val t.isLt).1 = fun j : S512x1024.Idx =>
    dRow (arr0 m c) (arr1 m c) (arr2 m c) (arr3 m c) (arr4 m c) (arr5 m c) (arr6 m c) (512 * t.val + (j 0).val) (j 1).val := by
  by_cases h0 : t.val % 16 = 0
  · rw [outsAt0_A m c t h0]; dsimp only; unfold out0_A_7
    unfold kernelRun0_A; dsimp only
    sl_unfold_words
    rw [View.read_writes_junk_eq_canon, View.canon_cons_unit_zero (S := S512x1024) hz2, parts_left]
    exact row_left m c t
  · rw [outsAt0_B m c t h0]; dsimp only; unfold out0_B_7
    unfold kernelRun0_B; dsimp only
    sl_unfold_words
    rw [View.read_writes_junk_eq_canon, View.canon_cons_unit_zero (S := S512x1024) hz2, parts_left]
    exact row_left m c t

theorem out_scale_first (h0 : t.val % 16 = 0) : (outsAt0 m c t.val t.isLt).2.1 = fun j : S1x1024.Idx =>
    ∑ r ∈ Finset.range 512, dScaled (arr0 m c) (arr1 m c) (arr2 m c) (arr3 m c) (512 * t.val + r) (j 1).val * normed (arr4 m c) (512 * t.val + r) (j 1).val := by
  rw [outsAt0_A m c t h0]; dsimp only; unfold out0_A_8
  unfold kernelRun0_A; dsimp only
  sl_unfold_words
  rw [View.read_writes_junk_eq_canon, View.canon_cons_unit_zero (S := S1x1024) hz2, parts_left, row_x, normed_block (rowX m c t), View.readCov_unit_zero (S := S1x1024) _ hz2]
  have hzero : k0_pay4 (F := Ideal) = fun j : S1x1024.Idx => 0 := by
    unfold k0_pay4
    funext j
    pointwise
  rw [hzero]
  refine (scale_block (fun r e => rowX m c t r e * inv (rowX m c t r)) (fun r e => dScaled (arr0 m c) (arr1 m c) (arr2 m c) (arr3 m c) (512 * t.val + r) e)
    (fun _ => 0)).trans (funext fun j => zero_add _)

theorem out_scale_next (h0 : ¬ t.val % 16 = 0) (A : ℕ → EReal)
    (hA : (outsAt0 m c (t.val - 1) (Nat.lt_of_le_of_lt (Nat.sub_le _ _) t.isLt)).2.1 = fun j : S1x1024.Idx => A (j 1).val) :
    (outsAt0 m c t.val t.isLt).2.1 = fun j : S1x1024.Idx => A (j 1).val +
    ∑ r ∈ Finset.range 512, dScaled (arr0 m c) (arr1 m c) (arr2 m c) (arr3 m c) (512 * t.val + r) (j 1).val * normed (arr4 m c) (512 * t.val + r) (j 1).val := by
  rw [outsAt0_B m c t h0]; dsimp only; unfold out0_B_8
  unfold kernelRun0_B; dsimp only
  sl_unfold_words
  rw [View.read_writes_junk_eq_canon, View.canon_cons_unit_zero (S := S1x1024) hz2, parts_left, row_x, normed_block (rowX m c t), View.readAt_eq_ld, (hs0_8 t).read_unread,
    View.ld_unit_zero (S := S1x1024) hz2, hA]
  exact scale_block (fun r e => rowX m c t r e * inv (rowX m c t r)) (fun r e => dScaled (arr0 m c) (arr1 m c) (arr2 m c) (arr3 m c) (512 * t.val + r) e) A

end Cert.EvenIn
end
-- ==== Proof.EvenWeights.lean ====
module
public import proofs.«01_k».proof.Proof.EvenOutputs
public import Idealize.ShloMosaic.Lib.Pipeline.ReadBack
public import proofs.«01_k».proof.Proof.EvenInputs
public import proofs.«01_k».proof.Proof.Gen.EvenGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! What a point leaves in the block of the weights' gradient. -/

namespace Cert.EvenIn
open Cert.EvenGradIdeal Cert.EvenGradIdeal.Gen
open Idealize.ShloMosaic hiding inv
open Idealize.ShloMosaic.TcCoe Idealize.ShloMosaic.Tactic
open Idealize.SL.Sem Cert.ConvGrad
open Cert.NormGrad (at3 at3_of_lt at3_at inv meanSquare minusHalf pull throughNorm throughNorm_eq normed)
variable (m : (ℓ : Loc nD τ sig) → Buf (Elt Ideal) ℓ) (c : Dev nD) (t : Fin cfg0.N)

/-- What the block at a point adds to the gradient of weight `k` of row `e`. -/
def blockWeight (R e k : ℕ) : EReal :=
  ∑ r ∈ Finset.range 512, normed (arr4 m c) (R + r) e * at2 (arr5 m c) 0 e * proj (arr0 m c) (arr1 m c) (arr2 m c) (R + r) k

/-- The scaled normed rows, from the loads. -/
abbrev scaledLoad : Vec Ideal S512x1024 .bf16 := k0_pay8 (F := Ideal)
        (View.readAt (Elt Ideal) (ms0_4 t).view (Rect.unit (s := S512x1024) ![0, 0] S512x1024.size inb_S512x1024_S512x1024_0_0).toLoadRect ((hs0_4 t).unread (iblk m c 4 t)))
        (View.readAt (Elt Ideal) (ms0_5 t).view (Rect.unit (s := S1x1024) ![0, 0] S1x1024.size inb_S1x1024_S1x1024_0_0).toLoadRect ((hs0_5 t).unread (iblk m c 5 t)))

/-- The four stores of a point over weights `Z`, the last one first. -/
abbrev weightList (Z : S4x1024x512.Idx → EReal) : List (View.Piece (Elt Ideal) S4x1024x512 .f32) :=
  [⟨Rect.unit (s := S4x1024x512) ![3, 0, 0] S1x1024x512.size inb_S4x1024x512_S1x1024x512_3_0_0,
      k0_pay1 (F := Ideal) (scaledLoad m c t)
        (View.readAt (Elt Ideal) (ms0_2 t).view (Rect.unit (s := S512x1024) ![0, 512] S512x512.size inb_S512x1024_S512x512_0_512).toLoadRect ((hs0_2 t).unread (iblk m c 2 t))) (View.ld Z (Rect.unit (s := S4x1024x512) ![3, 0, 0] S1x1024x512.size inb_S4x1024x512_S1x1024x512_3_0_0))⟩,
    ⟨Rect.unit (s := S4x1024x512) ![2, 0, 0] S1x1024x512.size inb_S4x1024x512_S1x1024x512_2_0_0,
      k0_pay12 (F := Ideal) (scaledLoad m c t)
        (View.readAt (Elt Ideal) (ms0_2 t).view (Rect.unit (s := S512x1024) ![0, 0] S512x512.size inb_S512x1024_S512x512_0_0).toLoadRect ((hs0_2 t).unread (iblk m c 2 t))) (View.ld Z (Rect.unit (s := S4x1024x512) ![2, 0, 0] S1x1024x512.size inb_S4x1024x512_S1x1024x512_2_0_0))⟩,
    ⟨Rect.unit (s := S4x1024x512) ![1, 0, 0] S1x1024x512.size inb_S4x1024x512_S1x1024x512_1_0_0,
      k0_pay11 (F := Ideal) (scaledLoad m c t)
        (View.readAt (Elt Ideal) (ms0_1 t).view (Rect.unit (s := S512x512) ![0, 0] S512x512.size inb_S512x512_S512x512_0_0).toLoadRect ((hs0_1 t).unread (iblk m c 1 t))) (View.ld Z (Rect.unit (s := S4x1024x512) ![1, 0, 0] S1x1024x512.size inb_S4x1024x512_S1x1024x512_1_0_0))⟩,
    ⟨Rect.unit (s := S4x1024x512) ![0, 0, 0] S1x1024x512.size inb_S4x1024x512_S1x1024x512_0_0_0,
      k0_pay10 (F := Ideal) (View.readAt (Elt Ideal) (ms0_4 t).view (Rect.unit (s := S512x1024) ![0, 0] S512x1024.size inb_S512x1024_S512x1024_0_0).toLoadRect ((hs0_4 t).unread (iblk m c 4 t)))
        (View.readAt (Elt Ideal) (ms0_5 t).view (Rect.unit (s := S1x1024) ![0, 0] S1x1024.size inb_S1x1024_S1x1024_0_0).toLoadRect ((hs0_5 t).unread (iblk m c 5 t)))
        (View.readAt (Elt Ideal) (ms0_0 t).view (Rect.unit (s := S512x512) ![0, 0] S512x512.size inb_S512x512_S512x512_0_0).toLoadRect ((hs0_0 t).unread (iblk m c 0 t))) (View.ld Z (Rect.unit (s := S4x1024x512) ![0, 0, 0] S1x1024x512.size inb_S4x1024x512_S1x1024x512_0_0_0))⟩]

/-- The gradient's columns, as the scaled rows meet them. -/
abbrev scaledRow (r e : ℕ) : EReal := rowX m c t r e * inv (rowX m c t r) * at2 (arr5 m c) 0 e

theorem scaledLoad_eq : scaledLoad m c t = fun j : S512x1024.Idx => scaledRow m c t (j 0).val (j 1).val := by
  unfold scaledLoad
  rw [row_x, row_g]
  exact scaled_block (rowX m c t) (at2 (arr5 m c) 0)

theorem blockWeight_of (e e' k : ℕ) (he : e = e') (D : ℕ → EReal) (h : ∀ r, proj (arr0 m c) (arr1 m c) (arr2 m c) (512 * t.val + r) k = D r) :
    ∑ r ∈ Finset.range 512, scaledRow m c t r e * D r = blockWeight m c (512 * t.val) e' k := by
  subst he
  unfold blockWeight
  refine Finset.sum_congr rfl fun r _ => ?_
  rw [h]
  rfl

/-- The stores leave each weight with what the block adds to it. -/
theorem weightList_pieces (Z : S4x1024x512.Idx → EReal) :
    View.PiecesOf (Val := Elt Ideal) (e := .f32) (fun i : S4x1024x512.Idx => Z i + blockWeight m c (512 * t.val) (i 1).val (512 * (i 0).val + (i 2).val)) (weightList m c t Z) := by
  refine ⟨?_, ?_, ?_, ?_, trivial⟩
  · intro x
    have h2 : (x 2).val < 512 := (x 2).isLt
    have h0 : (x 0).val < 1 := (x 0).isLt
    dsimp only
    rw [scaledLoad_eq, read_2]
    refine (congrFun (weight_3 (scaledRow m c t) (fun r k => at2 (arr2 m c) (512 * t.val + r) (512 + k)) _) x).trans (congrArg₂ (· + ·) rfl ?_)
    refine blockWeight_of m c t _ _ _ ?_ (fun r => at2 (arr2 m c) (512 * t.val + r) (512 + (x 2).val)) fun r => ?_
    · show (x 1).val = 0 + 1 * (x 1).val
      omega
    · show proj _ _ _ _ (512 * (3 + 1 * (x 0).val) + (0 + 1 * (x 2).val)) = _
      exact proj_third _ _ _ _ _ _ (by omega) (by omega)
  · intro x
    have h2 : (x 2).val < 512 := (x 2).isLt
    have h0 : (x 0).val < 1 := (x 0).isLt
    dsimp only
    rw [scaledLoad_eq, read_2]
    refine (congrFun (weight_2 (scaledRow m c t) (fun r k => at2 (arr2 m c) (512 * t.val + r) (0 + k)) _) x).trans (congrArg₂ (· + ·) rfl ?_)
    refine blockWeight_of m c t _ _ _ ?_ (fun r => at2 (arr2 m c) (512 * t.val + r) (0 + (x 2).val)) fun r => ?_
    · show (x 1).val = 0 + 1 * (x 1).val
      omega
    · show proj _ _ _ _ (512 * (2 + 1 * (x 0).val) + (0 + 1 * (x 2).val)) = _
      exact proj_third _ _ _ _ _ _ (by omega) (by omega)
  · intro x
    have h2 : (x 2).val < 512 := (x 2).isLt
    have h0 : (x 0).val < 1 := (x 0).isLt
    dsimp only
    rw [scaledLoad_eq, read_1]
    refine (congrFun (weight_1 (scaledRow m c t) (fun r k => at2 (arr1 m c) (512 * t.val + r) (0 + k)) _) x).trans (congrArg₂ (· + ·) rfl ?_)
    refine blockWeight_of m c t _ _ _ ?_ (fun r => at2 (arr1 m c) (512 * t.val + r) (0 + (x 2).val)) fun r => ?_
    · show (x 1).val = 0 + 1 * (x 1).val
      omega
    · show proj _ _ _ _ (512 * (1 + 1 * (x 0).val) + (0 + 1 * (x 2).val)) = _
      exact proj_second _ _ _ _ _ _ (by omega) (by omega) (by omega)
  · intro x
    have h2 : (x 2).val < 512 := (x 2).isLt
    have h0 : (x 0).val < 1 := (x 0).isLt
    dsimp only
    rw [row_x, row_g, read_0]
    refine (congrFun (weight_0 (rowX m c t) (at2 (arr5 m c) 0) (fun r k => at2 (arr0 m c) (512 * t.val + r) (0 + k)) _) x).trans (congrArg₂ (· + ·) rfl ?_)
    refine blockWeight_of m c t _ _ _ ?_ (fun r => at2 (arr0 m c) (512 * t.val + r) (0 + (x 2).val)) fun r => ?_
    · show (x 1).val = 0 + 1 * (x 1).val
      omega
    · show proj _ _ _ _ (512 * (0 + 1 * (x 0).val) + (0 + 1 * (x 2).val)) = _
      exact (proj_first _ _ _ _ _ (by omega)).trans (congrArg _ (by omega))

theorem weightList_canon (Z : S4x1024x512.Idx → EReal) (L' : List (View.Piece (Elt Ideal) S4x1024x512 .f32)) :
    View.canon (weightList m c t Z ++ L') = fun i : S4x1024x512.Idx => Z i + blockWeight m c (512 * t.val) (i 1).val (512 * (i 0).val + (i 2).val) :=
  funext fun y => View.canon_append_of_piecesOf _ L' _ (weightList_pieces m c t Z) y (View.cover_of_tiledBy (weightList m c t Z) ![1, 1024, 512] (by sl_kernel_rfl) y)

theorem out_weight_first (h0 : t.val % 16 = 0) : (outsAt0 m c t.val t.isLt).2.2 = fun i : S4x1024x512.Idx =>
    blockWeight m c (512 * t.val) (i 1).val (512 * (i 0).val + (i 2).val) := by
  rw [outsAt0_A m c t h0]; dsimp only; unfold out0_A_9
  unfold kernelRun0_A; dsimp only
  sl_unfold_words
  rw [View.read_writes_junk_eq_canon]
  simp (disch := decide) only [↓View.readCov_skip, ↓View.readCov_fill]
  refine (weightList_canon m c t (k0_pay5 (F := Ideal)) [⟨Rect.unit (s := S4x1024x512) ![0, 0, 0] S4x1024x512.size inb_S4x1024x512_S4x1024x512_0_0_0, k0_pay5 (F := Ideal)⟩]).trans ?_
  have hzero : k0_pay5 (F := Ideal) = fun j : S4x1024x512.Idx => 0 := by
    unfold k0_pay5
    funext j
    pointwise
  rw [hzero]
  exact funext fun j => zero_add _

theorem out_weight_next (h0 : ¬ t.val % 16 = 0) (A : ℕ → ℕ → ℕ → EReal)
    (hA : (outsAt0 m c (t.val - 1) (Nat.lt_of_le_of_lt (Nat.sub_le _ _) t.isLt)).2.2 = fun i : S4x1024x512.Idx => A (i 0).val (i 1).val (i 2).val) :
    (outsAt0 m c t.val t.isLt).2.2 = fun i : S4x1024x512.Idx => A (i 0).val (i 1).val (i 2).val + blockWeight m c (512 * t.val) (i 1).val (512 * (i 0).val + (i 2).val) := by
  rw [outsAt0_B m c t h0]; dsimp only; unfold out0_B_9
  unfold kernelRun0_B; dsimp only
  sl_unfold_words
  rw [View.read_writes_junk_eq_canon]
  have hload (r : Rect S4x1024x512) : View.readAt (Elt Ideal) (ms0_9 t).view r.toLoadRect
      ((hs0_9 t).unread (outsAt0 m c (t.val - 1) (Nat.lt_of_le_of_lt (Nat.sub_le _ _) t.isLt)).2.2)
      = View.ld (fun i : S4x1024x512.Idx => A (i 0).val (i 1).val (i 2).val) r := by
    rw [View.readAt_eq_ld, (hs0_9 t).read_unread, hA]
  simp only [hload]
  exact (congrArg View.canon (List.append_nil _).symm).trans (weightList_canon m c t (fun i : S4x1024x512.Idx => A (i 0).val (i 1).val (i 2).val) [])

end Cert.EvenIn
end
-- ==== Proof.EvenFinal.lean ====
module
public import proofs.«01_k».proof.Proof.EvenWeights
public import proofs.«01_k».proof.Proof.Gen.EvenGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! The three gradients once every block has run. -/

namespace Cert.EvenIn
open Cert.EvenGradIdeal Cert.EvenGradIdeal.Gen
open Idealize.ShloMosaic hiding inv
open Idealize.ShloMosaic.TcCoe Idealize.ShloMosaic.Tactic
open Idealize.SL.Sem Cert.ConvGrad
open Cert.NormGrad (at3 at3_of_lt at3_at inv meanSquare minusHalf pull throughNorm throughNorm_eq normed)
variable (m : (ℓ : Loc nD τ sig) → Buf (Elt Ideal) ℓ) (c : Dev nD)

/-- What the block starting at row `512 i` adds to the scale's gradient. -/
abbrev blockScale (i e : ℕ) : EReal :=
  ∑ r ∈ Finset.range 512, dScaled (arr0 m c) (arr1 m c) (arr2 m c) (arr3 m c) (512 * i + r) e * normed (arr4 m c) (512 * i + r) e

/-- The running gradient of the scale after point `n`. -/
theorem scale_after : ∀ (n : ℕ) (h : n < cfg0.N), (outsAt0 m c n h).2.1
    = fun j : S1x1024.Idx => (fun e => ∑ i ∈ Finset.range (n + 1), blockScale m c i e) (j 1).val
  | 0, h => by
    refine (out_scale_first m c ⟨0, h⟩ rfl).trans (funext fun j => ?_)
    simp only [Nat.zero_add, Finset.sum_range_one]
  | n + 1, h => by
    have hN : n + 1 < 16 := h
    refine (out_scale_next m c ⟨n + 1, h⟩ (by show ¬(n + 1) % 16 = 0; omega)
      (fun e => ∑ i ∈ Finset.range (n + 1), blockScale m c i e) (scale_after n (Nat.lt_of_succ_lt h))).trans (funext fun j => ?_)
    dsimp only
    rw [Finset.sum_range_succ _ (n + 1)]

/-- The running gradient of the weights after point `n`. -/
theorem weight_after : ∀ (n : ℕ) (h : n < cfg0.N), (outsAt0 m c n h).2.2
    = fun i : S4x1024x512.Idx => (fun s e k => ∑ p ∈ Finset.range (n + 1), blockWeight m c (512 * p) e (512 * s + k)) (i 0).val (i 1).val (i 2).val
  | 0, h => by
    refine (out_weight_first m c ⟨0, h⟩ rfl).trans (funext fun j => ?_)
    simp only [Nat.zero_add, Finset.sum_range_one]
  | n + 1, h => by
    have hN : n + 1 < 16 := h
    refine (out_weight_next m c ⟨n + 1, h⟩ (by show ¬(n + 1) % 16 = 0; omega)
      (fun s e k => ∑ p ∈ Finset.range (n + 1), blockWeight m c (512 * p) e (512 * s + k)) (weight_after n (Nat.lt_of_succ_lt h))).trans (funext fun j => ?_)
    dsimp only
    rw [Finset.sum_range_succ _ (n + 1)]

theorem final_row : (dats m 0 c).arrAt 7 cfg0.N = fun i : S8192x1024.Idx =>
    dRow (arr0 m c) (arr1 m c) (arr2 m c) (arr3 m c) (arr4 m c) (arr5 m c) (arr6 m c) (i 0).val (i 1).val := by
  refine (dats m 0 c).arrAt_eq_of_covers 7 (fun i : S8192x1024.Idx =>
    dRow (arr0 m c) (arr1 m c) (arr2 m c) (arr3 m c) (arr4 m c) (arr5 m c) (arr6 m c) (i 0).val (i 1).val) ?_ ?_
  · decide +kernel
  · intro t _ y
    show (dats m 0 c).after 7 t y = dRow (arr0 m c) (arr1 m c) (arr2 m c) (arr3 m c) (arr4 m c) (arr5 m c) (arr6 m c)
      (win0_7.index t 0 * 512 + 1 * (y 0).val) (win0_7.index t 1 * 1024 + 1 * (y 1).val)
    rw [after0_7, out_row, (index_7 t).1, (index_7 t).2]
    simp only [Nat.one_mul, Nat.zero_mul, Nat.zero_add, Nat.mul_comm]

theorem final_scale : (dats m 0 c).arrAt 8 cfg0.N = fun i : S1x1024.Idx => (fun e => ∑ k ∈ Finset.range 16, blockScale m c k e) (i 1).val := by
  refine (dats m 0 c).arrAt_eq_of_covers 8 (fun i : S1x1024.Idx => (fun e => ∑ k ∈ Finset.range 16, blockScale m c k e) (i 1).val) ?_ ?_
  · decide +kernel
  · intro t ht y
    have hN : t.val < 16 := t.isLt
    have h15 := (flush0_8 t).mp ht
    obtain rfl : t = ⟨15, by decide⟩ := Fin.ext (by show t.val = 15; omega)
    show (dats m 0 c).after 8 _ y = (fun e => ∑ k ∈ Finset.range 16, blockScale m c k e) (win0_8.index _ 1 * 1024 + 1 * (y 1).val)
    rw [after0_8, scale_after, (index_8 _).2]
    simp only [Nat.one_mul, Nat.zero_mul, Nat.zero_add]

theorem final_weight : (dats m 0 c).arrAt 9 cfg0.N = fun i : S4x1024x512.Idx =>
    (fun s e k => ∑ p ∈ Finset.range 16, blockWeight m c (512 * p) e (512 * s + k)) (i 0).val (i 1).val (i 2).val := by
  refine (dats m 0 c).arrAt_eq_of_covers 9 (fun i : S4x1024x512.Idx =>
    (fun s e k => ∑ p ∈ Finset.range 16, blockWeight m c (512 * p) e (512 * s + k)) (i 0).val (i 1).val (i 2).val) ?_ ?_
  · decide +kernel
  · intro t ht y
    have hN : t.val < 16 := t.isLt
    have h15 := (flush0_9 t).mp ht
    obtain rfl : t = ⟨15, by decide⟩ := Fin.ext (by show t.val = 15; omega)
    show (dats m 0 c).after 9 _ y = (fun s e k => ∑ p ∈ Finset.range 16, blockWeight m c (512 * p) e (512 * s + k))
      (win0_9.index _ 0 * 4 + 1 * (y 0).val) (win0_9.index _ 1 * 1024 + 1 * (y 1).val) (win0_9.index _ 2 * 512 + 1 * (y 2).val)
    rw [after0_9, weight_after, (index_9 _).1, (index_9 _).2.1, (index_9 _).2.2]
    simp only [Nat.one_mul, Nat.zero_mul, Nat.zero_add]

end Cert.EvenIn
end
-- ==== Proof.EvenRun.lean ====
module
public import proofs.«01_k».proof.Proof.EvenFinal
public import proofs.«01_k».proof.Proof.Gen.EvenGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! Every run of the kernel leaves the three gradients. -/

namespace Cert.EvenIn
open Cert.EvenGradIdeal Cert.EvenGradIdeal.Gen
open Idealize.ShloMosaic hiding inv
open Idealize.ShloMosaic.TcCoe Idealize.ShloMosaic.Tactic
open Idealize.SL.Sem
open Cert.ConvGrad (at2)
open Cert.NormGrad (at3 at3_of_lt at3_at inv meanSquare minusHalf pull throughNorm throughNorm_eq normed)
variable (m : (ℓ : Loc nD τ sig) → Buf (Elt Ideal) ℓ) (ρ : Dev nD → PrngReg) (c : Dev nD)

/-- The seven arguments as launched. -/
abbrev arg0 : S8192x512.Idx → EReal := m ((c : Thread nD τ).loc main_arg0)
abbrev arg1 : S8192x512.Idx → EReal := m ((c : Thread nD τ).loc main_arg1)
abbrev arg2 : S8192x1024.Idx → EReal := m ((c : Thread nD τ).loc main_arg2)
abbrev arg3 : S4x1024x512.Idx → EReal := m ((c : Thread nD τ).loc main_arg3)
abbrev arg4 : S8192x1024.Idx → EReal := m ((c : Thread nD τ).loc main_arg4)
abbrev arg5 : S1x1024.Idx → EReal := m ((c : Thread nD τ).loc main_arg5)
abbrev arg6 : S8192x1024.Idx → EReal := m ((c : Thread nD τ).loc main_arg6)

theorem arr0_eq : arr0 m c = arg0 m c := V_main_arg0 m c
theorem arr1_eq : arr1 m c = arg1 m c := V_main_arg1 m c
theorem arr2_eq : arr2 m c = arg2 m c := V_main_arg2 m c
theorem arr3_eq : arr3 m c = arg3 m c := V_main_arg3 m c
theorem arr4_eq : arr4 m c = arg4 m c := V_main_arg4 m c
theorem arr5_eq : arr5 m c = arg5 m c := V_main_arg5 m c
theorem arr6_eq : arr6 m c = arg6 m c := V_main_arg6 m c

/-- A sum over blocks and rows of a block is a sum over rows. -/
theorem sum_blocks (f : ℕ → EReal) : ∑ i ∈ Finset.range 16, ∑ r ∈ Finset.range 512, f (512 * i + r) = ∑ t ∈ Finset.range 8192, f t := by
  refine Eq.trans ?_ (Finset.sum_range_mul_split 16 512 f).symm
  exact Finset.sum_congr rfl fun i _ => Finset.sum_congr rfl fun r _ => by rw [Nat.mul_comm]

theorem row_eq (i : S8192x1024.Idx) : dRow (arr0 m c) (arr1 m c) (arr2 m c) (arr3 m c) (arr4 m c) (arr5 m c) (arr6 m c) (i 0).val (i 1).val
    = dRow (arg0 m c) (arg1 m c) (arg2 m c) (arg3 m c) (arg4 m c) (arg5 m c) (arg6 m c) (i 0).val (i 1).val := by
  rw [arr0_eq, arr1_eq, arr2_eq, arr3_eq, arr4_eq, arr5_eq, arr6_eq]

theorem scale_eq (e : ℕ) : ∑ k ∈ Finset.range 16, blockScale m c k e = dScale (arg0 m c) (arg1 m c) (arg2 m c) (arg3 m c) (arg4 m c) e := by
  unfold dScale
  rw [← arr0_eq, ← arr1_eq, ← arr2_eq, ← arr3_eq, ← arr4_eq]
  exact sum_blocks fun r => dScaled (arr0 m c) (arr1 m c) (arr2 m c) (arr3 m c) r e * normed (arr4 m c) r e

theorem weight_eq (e k : ℕ) : ∑ p ∈ Finset.range 16, blockWeight m c (512 * p) e k = dWeight (arg0 m c) (arg1 m c) (arg2 m c) (arg4 m c) (arg5 m c) e k := by
  unfold dWeight blockWeight
  rw [← arr0_eq, ← arr1_eq, ← arr2_eq, ← arr4_eq, ← arr5_eq]
  exact sum_blocks fun r => normed (arr4 m c) r e * at2 (arr5 m c) 0 e * proj (arr0 m c) (arr1 m c) (arr2 m c) r k

/-- Every run of the kernel leaves the three gradients and its arguments as they were. -/
theorem run : θ_run defs (onTc (τ := τ) (main (F := Ideal))) ⟨m, fun _ => 0, ρ⟩ fun r => ∀ c : Dev nD,
      r.2.mem ((c : Thread nD τ).loc main_v0_0) = (fun i : S8192x1024.Idx => dRow (arg0 m c) (arg1 m c) (arg2 m c) (arg3 m c) (arg4 m c) (arg5 m c) (arg6 m c) (i 0).val (i 1).val)
      ∧ r.2.mem ((c : Thread nD τ).loc main_v0_1) = (fun i : S1x1024.Idx => dScale (arg0 m c) (arg1 m c) (arg2 m c) (arg3 m c) (arg4 m c) (i 1).val)
      ∧ r.2.mem ((c : Thread nD τ).loc main_v0_2) = (fun i : S4x1024x512.Idx => dWeight (arg0 m c) (arg1 m c) (arg2 m c) (arg4 m c) (arg5 m c) (i 1).val (512 * (i 0).val + (i 2).val))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).1.trans (final_row m c)).trans (funext fun i => row_eq m c i),
     ((h c).2.1.trans (final_scale m c)).trans (funext fun i => scale_eq m c (i 1).val),
     ((h c).2.2.1.trans (final_weight m c)).trans (funext fun i => weight_eq m c (i 1).val (512 * (i 0).val + (i 2).val)),
     (h c).2.2.2⟩)
    (Cert.EvenGradIdeal.Value.run_blocks m ρ)

end Cert.EvenIn
end
-- ==== Proof.EvenPlain.lean ====
module
public import proofs.«01_k».proof.Proof.EvenSpec
public import proofs.«01_k».proof.Proof.NormPlain
public import proofs.«01_k».proof.Proof.Gen.EvenGradReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain gradient through the norm, read at a row and a lane. -/

namespace Cert.EvenIn.Plain
open Cert.EvenGradReferenceIdeal Cert.EvenGradReferenceIdeal.Gen Cert.EvenGradReferenceIdeal.Read
open Idealize.ShloMosaic hiding inv
open Idealize.ShloMosaic.TcCoe Idealize.ShloMosaic.Tactic
open Cert.ConvGrad (at2 at2_ix2 at2_of_lt)
open Cert.NormGrad.Plain (sum_lanes)
open Cert.EvenIn
open Cert.NormGrad (at3 at3_of_lt at3_at inv meanSquare minusHalf pull throughNorm throughNorm_eq normed)
variable (x0 x1 : S8192x512.Idx → EReal) (x2 : S8192x1024.Idx → EReal) (x3 : S4x1024x512.Idx → EReal) (x4 : S8192x1024.Idx → EReal) (x5 : S1x1024.Idx → EReal) (x6 : S8192x1024.Idx → EReal)

theorem mean_square (r : Fin 8192) (u : Fin 1) : val_main_v9 (F := Ideal) x4 (ix2 r u) = meanSquare (at2 x4 r) := by
  unfold val_main_v9 val_main_v8 val_main_v7 val_main_v6 val_main_v5 val_main_v4 val_main_v3 val_main_cst val_main_cst_0 val_main_cst_1
  pointwise
  unfold meanSquare
  rw [← sum_lanes x4 (fun a _ => a * a) r]

theorem inv_row (r : Fin 8192) (u : Fin 1) : val_main_v10 (F := Ideal) x4 (ix2 r u) = inv (at2 x4 r) := by
  unfold val_main_v10
  refine (congrArg Ideal.rsqrt (mean_square x4 r u)).trans ?_
  rfl

theorem half_row (r : Fin 8192) (u : Fin 1) : val_main_v13 (F := Ideal) x4 (ix2 r u) = minusHalf * Ideal.div (inv (at2 x4 r)) (meanSquare (at2 x4 r)) := by
  unfold val_main_v13 val_main_v12 val_main_v11 val_main_cst_2
  pointwise
  rw [inv_row, mean_square]

theorem normed_row (r : Fin 8192) (e : Fin 1024) : val_main_v15 (F := Ideal) x4 (ix2 r e) = normed x4 r e := by
  unfold val_main_v15 val_main_v14
  pointwise
  rw [inv_row, ← at2_ix2 x4]
  rfl

theorem scaled_row (r : Fin 8192) (e : Fin 1024) : val_main_v17 (F := Ideal) x4 x5 (ix2 r e) = normed x4 r e * at2 x5 0 e := by
  unfold val_main_v17 val_main_v16
  pointwise
  rw [normed_row, ← at2_ix2 x5]
  rfl

theorem proj_row (r : Fin 8192) (k : Fin 2048) : val_main_v1 (F := Ideal) x0 x1 x2 (ix2 r k) = proj x0 x1 x2 r k := by
  unfold val_main_v1 val_main_v0
  pointwise
  unfold proj
  by_cases h : k.val < 512
  · rw [dif_pos h, if_pos h]
    exact (at2_of_lt x0 _ _ r.isLt h).symm
  · rw [dif_neg h, if_neg h]
    by_cases h' : k.val - 512 < 512
    · have hk : k.val < 1024 := by omega
      rw [dif_pos h']
      exact (at2_of_lt x1 _ _ r.isLt h').symm.trans (if_pos hk).symm
    · have hk : ¬ k.val < 1024 := by omega
      have hs : k.val - 1024 = k.val - 512 - 512 := by omega
      rw [dif_neg h']
      exact (at2_of_lt x2 _ _ r.isLt (by omega)).symm.trans ((congrArg (at2 x2 r.val) hs.symm).trans (if_neg hk).symm)

theorem column_row (e : Fin 1024) (k : Fin 2048) : val_main_v19 (F := Ideal) x3 (ix2 e k) = column x3 e k := by
  unfold val_main_v19 val_main_v18 val_main_v2
  pointwise
  unfold column
  exact (at3_of_lt x3 _ _ _ (by omega) e.isLt (by omega)).symm

theorem scaled_grad (r : Fin 8192) (e : Fin 1024) : val_main_v23 (F := Ideal) x0 x1 x2 x3 (ix2 r e) = dScaled x0 x1 x2 x3 r e := by
  unfold val_main_v23
  pointwise
  simp only [proj_row, column_row]
  exact Fin.sum_univ_eq_sum_range (fun k => proj x0 x1 x2 r.val k * column x3 e.val k) 2048

/-- The gradient of the weights. -/
theorem weight_grad : val_main_v25 (F := Ideal) x0 x1 x2 x4 x5 = fun i : S4x1024x512.Idx => dWeight x0 x1 x2 x4 x5 (i 1).val (512 * (i 0).val + (i 2).val) := by
  funext i
  idx_vars i
  unfold val_main_v25 val_main_v24 val_main_v22 val_main_v21
  pointwise
  simp only [proj_row, scaled_row]
  unfold dWeight
  rw [← Fin.sum_univ_eq_sum_range (fun r => normed x4 r i1.val * at2 x5 0 i1.val * proj x0 x1 x2 r (512 * i0.val + i2.val)) 8192, Nat.mul_comm 512]
  exact Finset.sum_congr rfl fun r _ => mul_comm _ _

/-- The gradient of the scale. -/
theorem scale_grad : val_main_v28 (F := Ideal) x0 x1 x2 x3 x4 = fun i : S1x1024.Idx => dScale x0 x1 x2 x3 x4 (i 1).val := by
  funext i
  idx_vars i
  unfold val_main_v28 val_main_v27 val_main_v26 val_main_cst_3
  pointwise
  simp only [normed_row, scaled_grad]
  unfold dScale
  rw [← Fin.sum_univ_eq_sum_range (fun r => dScaled x0 x1 x2 x3 r i1.val * normed x4 r i1.val) 8192]
  exact Finset.sum_congr rfl fun r _ => mul_comm _ _

/-- The gradient of the normed rows, scale included. -/
theorem normed_grad (r : Fin 8192) (e : Fin 1024) : val_main_v30 (F := Ideal) x0 x1 x2 x3 x5 (ix2 r e) = dScaled x0 x1 x2 x3 r e * at2 x5 0 e := by
  unfold val_main_v30 val_main_v29
  pointwise
  rw [scaled_grad, ← at2_ix2 x5]
  rfl

theorem pull_row (r : Fin 8192) : val_main_v40 (F := Ideal) x0 x1 x2 x3 x4 x5 (ix1 r) = pull (at2 x4 r) (fun j => dScaled x0 x1 x2 x3 r j * at2 x5 0 j) := by
  unfold val_main_v40 val_main_v39 val_main_v38 val_main_v37 val_main_v33 val_main_v32 val_main_v31 val_main_cst_4 val_main_cst_5 val_main_cst_6
  pointwise
  simp only [half_row, normed_grad]
  rw [Fin.sum_univ_one, sum_lanes x4 (fun a j => a * (dScaled x0 x1 x2 x3 r.val j * at2 x5 0 j)) r]
  rfl

/-- The gradient of the rows. -/
theorem row_grad : val_main_v45 (F := Ideal) x0 x1 x2 x3 x4 x5 x6 = fun i : S8192x1024.Idx => dRow x0 x1 x2 x3 x4 x5 x6 (i 0).val (i 1).val := by
  funext i
  idx_vars i
  unfold val_main_v45 val_main_v44 val_main_v43 val_main_v42 val_main_v36 val_main_v35 val_main_v34 val_main_v41
  pointwise
  rw [pull_row, inv_row, normed_grad]
  unfold dRow
  rw [throughNorm_eq _ _ _ _ i1.isLt, at2_ix2, at2_ix2]

end Cert.EvenIn.Plain
end
-- ==== Proof.AdamSpec.lean ====
module
public import proofs.«01_k».proof.Proof.Spec
public import Idealize.ShloMosaic.PureOps.Ideal.Laws
@[expose] public section
noncomputable section
/-! One step of the optimiser for one entry of a weight: the gradient as the two cores' halves hold it, the two moments and
    the change of the weight. The constants are the single-precision numbers the kernel holds. -/

namespace Cert.Update
open Idealize.ShloMosaic
open Cert.ConvGrad (at2 at2_at)

theorem at2_self {R C : ℕ} (x : (⟨2, ![R, C]⟩ : Shape).Idx → EReal) (i : (⟨2, ![R, C]⟩ : Shape).Idx) : at2 x (i 0).val (i 1).val = x i :=
  (at2_at x i _ _ rfl rfl).symm

/-- The gradient of row `r`: rows 0 to 639 are core 0's half, the next 640 core 1's. Core `n` holds its own half as `a` and
    the other core's as `b`. -/
def gradient (n : BitVec 32) (a b : (⟨2, ![640, 1024]⟩ : Shape).Idx → EReal) (r l : ℕ) : EReal :=
  if BitVec.ofNat 32 (r / 640) = n then at2 a (r % 640) l else at2 b (r % 640) l

/-- The new first moment from the old one and the gradient. -/
def first (x g : EReal) : EReal := FloatOps.ofBits (F := Ideal) .f32 0x3F666666#32 * x + FloatOps.ofBits (F := Ideal) .f32 0x3DCCCCCD#32 * g

/-- The new second moment from the old one and the gradient. -/
def second (x g : EReal) : EReal := FloatOps.ofBits (F := Ideal) .f32 0x3F7FBE77#32 * x + FloatOps.ofBits (F := Ideal) .f32 0x3A83126F#32 * (g * g)

/-- The change of the weight from the weight and the two new moments. -/
def change (w x y : EReal) : EReal :=
  FloatOps.ofBits (F := Ideal) .f32 0xBA83126F#32 * (FloatOps.divf (F := Ideal) (φ := .f32) (x * FloatOps.ofBits (F := Ideal) .f32 0x3FC48605#32)
      (FloatOps.sqrt (F := Ideal) (φ := .f32) (y * FloatOps.ofBits (F := Ideal) .f32 0x42C8E6D3#32) + FloatOps.ofBits (F := Ideal) .f32 0x322BCC77#32)
    + FloatOps.ofBits (F := Ideal) .f32 0x3C23D70A#32 * w)

end Cert.Update
end
-- ==== Proof.AdamRun.lean ====
module
public import proofs.«01_k».proof.Proof.AdamSpec
public import proofs.«01_k».proof.Proof.Gen.AdamIdeal.Frame
public import Idealize.ShloMosaic.Lib.Pipeline.Value
public import Idealize.ShloMosaic.Lib.Pipeline.ValueKit
public import Idealize.ShloMosaic.Lib.KernelVsHost
public import Idealize.ShloMosaic.Lib.Pointwise
public import Idealize.ShloMosaic.PureOps.Ideal.Laws
@[expose] public section
set_option maxRecDepth 16384
noncomputable section
/-! What a point of the optimiser step leaves in its four output blocks, and so what the run leaves in the arrays. -/

namespace Cert.Update
open Cert.AdamIdeal Cert.AdamIdeal.Gen
open Idealize.ShloMosaic Idealize.ShloMosaic.TcCoe Idealize.ShloMosaic.Tactic
open Idealize.SL.Sem
open Cert.ConvGrad (at2 at2_at at2_ix2)
variable (m : (ℓ : Loc nD τ sig) → Buf (Elt Ideal) ℓ) (ρ : Dev nD → PrngReg) (c : Dev nD)

theorem hz : (![0, 0] : Fin 2 → Nat) = fun _ => 0 := funext fun a => by fin_cases a <;> rfl

/-- No window's place depends on the table: the side condition of the table holds. -/
theorem ok : Ok (F := Ideal) m := trivial

/-- The core's index, and the five arrays, as launched. -/
abbrev core : BitVec 32 := (m ((c : Thread nD τ).loc main_arg0) : S1.Idx → BitVec 32) (ix1 0)
abbrev arg1 : S768x1024.Idx → EReal := m ((c : Thread nD τ).loc main_arg1)
abbrev arg2 : S768x1024.Idx → EReal := m ((c : Thread nD τ).loc main_arg2)
abbrev arg3 : S768x1024.Idx → EReal := m ((c : Thread nD τ).loc main_arg3)
abbrev arg4 : S640x1024.Idx → EReal := m ((c : Thread nD τ).loc main_arg4)
abbrev arg5 : S640x1024.Idx → EReal := m ((c : Thread nD τ).loc main_arg5)

variable (t : Fin (cfgM m (ok m)).N)

theorem place : ∀ t : Fin grid0.N, cc0_transform_0 (grid0.coords t) 0 = t.val ∧ cc0_transform_0 (grid0.coords t) 1 = 0 := by decide +kernel
theorem place_half : ∀ t : Fin grid0.N, cc0_transform_1 (grid0.coords t) 0 = t.val % 5 ∧ cc0_transform_1 (grid0.coords t) 1 = 0 := by decide +kernel

/-! The blocks a point finds: the weight and the moments at its own rows, each half of the gradient at the rows it has
    for the point. -/

theorem iblk_0 : (iblk m (ok m) c 0 t : Vec Ideal S128x1024 .f32) = fun j : S128x1024.Idx => at2 (arg1 m c) (128 * t.val + (j 0).val) (j 1).val := by
  obtain ⟨i0, i1⟩ := place t
  funext j
  unfold iblk
  rw [View.read_apply]
  refine (congrFun (V_main_arg1 m c) _).trans (at2_at (arg1 m c) _ _ _ ?_ ?_)
  · show cc0_transform_0 (grid0.coords t) 0 * 128 + 1 * (j (0 : Fin 2)).val = _
    rw [i0]; omega
  · show cc0_transform_0 (grid0.coords t) 1 * 1024 + 1 * (j (1 : Fin 2)).val = _
    rw [i1]; omega

theorem iblk_1 : (iblk m (ok m) c 1 t : Vec Ideal S128x1024 .f32) = fun j : S128x1024.Idx => at2 (arg4 m c) (128 * (t.val % 5) + (j 0).val) (j 1).val := by
  obtain ⟨i0, i1⟩ := place_half t
  funext j
  unfold iblk
  rw [View.read_apply]
  refine (congrFun (V_main_arg4 m c) _).trans (at2_at (arg4 m c) _ _ _ ?_ ?_)
  · show cc0_transform_1 (grid0.coords t) 0 * 128 + 1 * (j (0 : Fin 2)).val = _
    rw [i0]; omega
  · show cc0_transform_1 (grid0.coords t) 1 * 1024 + 1 * (j (1 : Fin 2)).val = _
    rw [i1]; omega

theorem iblk_2 : (iblk m (ok m) c 2 t : Vec Ideal S128x1024 .f32) = fun j : S128x1024.Idx => at2 (arg5 m c) (128 * (t.val % 5) + (j 0).val) (j 1).val := by
  obtain ⟨i0, i1⟩ := place_half t
  funext j
  unfold iblk
  rw [View.read_apply]
  refine (congrFun (V_main_arg5 m c) _).trans (at2_at (arg5 m c) _ _ _ ?_ ?_)
  · show cc0_transform_1 (grid0.coords t) 0 * 128 + 1 * (j (0 : Fin 2)).val = _
    rw [i0]; omega
  · show cc0_transform_1 (grid0.coords t) 1 * 1024 + 1 * (j (1 : Fin 2)).val = _
    rw [i1]; omega

theorem iblk_3 : (iblk m (ok m) c 3 t : Vec Ideal S128x1024 .f32) = fun j : S128x1024.Idx => at2 (arg2 m c) (128 * t.val + (j 0).val) (j 1).val := by
  obtain ⟨i0, i1⟩ := place t
  funext j
  unfold iblk
  rw [View.read_apply]
  refine (congrFun (V_main_arg2 m c) _).trans (at2_at (arg2 m c) _ _ _ ?_ ?_)
  · show cc0_transform_0 (grid0.coords t) 0 * 128 + 1 * (j (0 : Fin 2)).val = _
    rw [i0]; omega
  · show cc0_transform_0 (grid0.coords t) 1 * 1024 + 1 * (j (1 : Fin 2)).val = _
    rw [i1]; omega

theorem iblk_4 : (iblk m (ok m) c 4 t : Vec Ideal S128x1024 .f32) = fun j : S128x1024.Idx => at2 (arg3 m c) (128 * t.val + (j 0).val) (j 1).val := by
  obtain ⟨i0, i1⟩ := place t
  funext j
  unfold iblk
  rw [View.read_apply]
  refine (congrFun (V_main_arg3 m c) _).trans (at2_at (arg3 m c) _ _ _ ?_ ?_)
  · show cc0_transform_0 (grid0.coords t) 0 * 128 + 1 * (j (0 : Fin 2)).val = _
    rw [i0]; omega
  · show cc0_transform_0 (grid0.coords t) 1 * 1024 + 1 * (j (1 : Fin 2)).val = _
    rw [i1]; omega

/-! The same blocks as the body loads them. -/

theorem loaded (M : Memref sig .tc .vmem S128x1024 .f32) (h : M.IsWhole) (x : Vec Ideal S128x1024 .f32) :
    View.readAt (Elt Ideal) M.view (Rect.unit ![0, 0] S128x1024.size inb_S128x1024_S128x1024_0_0).toLoadRect (h.unread x) = x := by
  rw [View.readAt_eq_ld, h.read_unread, View.ld_unit_zero (S := S128x1024) hz]

theorem read_0 : View.readAt (Elt Ideal) (ms0_0 m (ok m) t).view (Rect.unit ![0, 0] S128x1024.size inb_S128x1024_S128x1024_0_0).toLoadRect ((hs0_0 m (ok m) t).unread (iblk m (ok m) c 0 t))
    = fun j : S128x1024.Idx => at2 (arg1 m c) (128 * t.val + (j 0).val) (j 1).val :=
  (loaded _ _ _).trans (iblk_0 m c t)

theorem read_1 : View.readAt (Elt Ideal) (ms0_1 m (ok m) t).view (Rect.unit ![0, 0] S128x1024.size inb_S128x1024_S128x1024_0_0).toLoadRect ((hs0_1 m (ok m) t).unread (iblk m (ok m) c 1 t))
    = fun j : S128x1024.Idx => at2 (arg4 m c) (128 * (t.val % 5) + (j 0).val) (j 1).val :=
  (loaded _ _ _).trans (iblk_1 m c t)

theorem read_2 : View.readAt (Elt Ideal) (ms0_2 m (ok m) t).view (Rect.unit ![0, 0] S128x1024.size inb_S128x1024_S128x1024_0_0).toLoadRect ((hs0_2 m (ok m) t).unread (iblk m (ok m) c 2 t))
    = fun j : S128x1024.Idx => at2 (arg5 m c) (128 * (t.val % 5) + (j 0).val) (j 1).val :=
  (loaded _ _ _).trans (iblk_2 m c t)

theorem read_3 : View.readAt (Elt Ideal) (ms0_3 m (ok m) t).view (Rect.unit ![0, 0] S128x1024.size inb_S128x1024_S128x1024_0_0).toLoadRect ((hs0_3 m (ok m) t).unread (iblk m (ok m) c 3 t))
    = fun j : S128x1024.Idx => at2 (arg2 m c) (128 * t.val + (j 0).val) (j 1).val :=
  (loaded _ _ _).trans (iblk_3 m c t)

theorem read_4 : View.readAt (Elt Ideal) (ms0_4 m (ok m) t).view (Rect.unit ![0, 0] S128x1024.size inb_S128x1024_S128x1024_0_0).toLoadRect ((hs0_4 m (ok m) t).unread (iblk m (ok m) c 4 t))
    = fun j : S128x1024.Idx => at2 (arg3 m c) (128 * t.val + (j 0).val) (j 1).val :=
  (loaded _ _ _).trans (iblk_4 m c t)

/-- The word the body reads is the core's index. -/
theorem word (h) : View.readAt (Elt Ideal) tbM0_0.view (Rect.unit ![0] S1.size inb_S1_S1_0).toLoadRect (tbl m 0) (Shape.Idx.first h) = core m c := by
  obtain rfl : c = 0 := Subsingleton.elim _ _
  have e : tbl m 0 = m (((0 : Dev nD) : Thread nD τ).loc main_arg0) := V_main_arg0 m 0
  rw [e]
  refine congrArg (m (((0 : Dev nD) : Thread nD τ).loc main_arg0) : S1.Idx → BitVec 32) (funext fun a => ?_)
  match a with
  | ⟨0, _⟩ => exact Subsingleton.elim (α := Fin 1) _ _

theorem chosen (x y n : BitVec 32) (a b : Vec Ideal S128x1024 .f32) (h : x = y) : Scalar.select (Scalar.cmpi .eq x n) a b = if y = n then a else b := by
  subst h
  unfold Scalar.select Scalar.cmpi
  by_cases e : x = n
  · simp [e, IntOp.cmpi]
  · simp [IntOp.cmpi, beq_eq_false_iff_ne.mpr e, e]

/-- A core takes its own half of the gradient at the points whose rows it has, and the other half at the others. -/
theorem pick (n : BitVec 32) (a b : Vec Ideal S128x1024 .f32) (t : Fin grid0.N) :
    k0_pay2 (F := Ideal) (grid0.coords t) n a b = if BitVec.ofNat 32 (t.val / 5) = n then a else b := by
  unfold k0_pay2
  exact chosen _ _ n a b (by decide +kernel +revert)

/-- The gradient's block. -/
abbrev gBlock : S128x1024.Idx → EReal := fun j => gradient (core m c) (arg4 m c) (arg5 m c) (128 * t.val + (j 0).val) (j 1).val

theorem picked (h) : k0_pay2 (F := Ideal) (grid0.coords t)
      (View.readAt (Elt Ideal) tbM0_0.view (Rect.unit ![0] S1.size inb_S1_S1_0).toLoadRect (tbl m 0) (Shape.Idx.first h))
      (View.readAt (Elt Ideal) (ms0_1 m (ok m) t).view (Rect.unit ![0, 0] S128x1024.size inb_S128x1024_S128x1024_0_0).toLoadRect ((hs0_1 m (ok m) t).unread (iblk m (ok m) c 1 t)))
      (View.readAt (Elt Ideal) (ms0_2 m (ok m) t).view (Rect.unit ![0, 0] S128x1024.size inb_S128x1024_S128x1024_0_0).toLoadRect ((hs0_2 m (ok m) t).unread (iblk m (ok m) c 2 t)))
    = gBlock m c t := by
  rw [read_1, read_2, word m c]
  refine (pick _ _ _ t).trans ?_
  funext j
  have h0 : (j 0).val < 128 := (j 0).isLt
  unfold gBlock gradient
  rw [show (128 * t.val + (j 0).val) / 640 = t.val / 5 by omega, show (128 * t.val + (j 0).val) % 640 = 128 * (t.val % 5) + (j 0).val by omega]
  by_cases e : BitVec.ofNat 32 (t.val / 5) = core m c
  · rw [if_pos e, if_pos e]
  · rw [if_neg e, if_neg e]

theorem out_grad : (outsAt0 m (ok m) c t).1 = gBlock m c t := by
  unfold outsAt0; dsimp only; unfold out0_A_5
  unfold kernelRun0_A; dsimp only
  sl_unfold_words
  rw [View.read_writes_junk_eq_canon, View.canon_cons_unit_zero (S := S128x1024) hz]
  exact picked m c t _

/-- The new moments' blocks and the change's. -/
abbrev mBlock : S128x1024.Idx → EReal := fun j => first (at2 (arg2 m c) (128 * t.val + (j 0).val) (j 1).val) (gBlock m c t j)
abbrev vBlock : S128x1024.Idx → EReal := fun j => second (at2 (arg3 m c) (128 * t.val + (j 0).val) (j 1).val) (gBlock m c t j)
abbrev dBlock : S128x1024.Idx → EReal := fun j => change (at2 (arg1 m c) (128 * t.val + (j 0).val) (j 1).val) (mBlock m c t j) (vBlock m c t j)

/-- The new first moment's block from whatever the gradient's is. -/
theorem first_of (i : grid0.Coords) (n : BitVec 32) (a b x : Vec Ideal S128x1024 .f32) (g : S128x1024.Idx → EReal) (h : k0_pay2 (F := Ideal) i n a b = g) :
    k0_pay3 (F := Ideal) i n a b x = fun j : S128x1024.Idx => first (x j) (g j) := by
  subst h
  rfl

theorem second_of (i : grid0.Coords) (n : BitVec 32) (a b x : Vec Ideal S128x1024 .f32) (g : S128x1024.Idx → EReal) (h : k0_pay2 (F := Ideal) i n a b = g) :
    k0_pay4 (F := Ideal) i n a b x = fun j : S128x1024.Idx => second (x j) (g j) := by
  subst h
  rfl

theorem change_of (x y w : Vec Ideal S128x1024 .f32) : k0_pay1 (F := Ideal) x y w = fun j : S128x1024.Idx => change (w j) (x j) (y j) := rfl

theorem out_first : (outsAt0 m (ok m) c t).2.2.1 = mBlock m c t := by
  unfold outsAt0; dsimp only; unfold out0_A_7
  unfold kernelRun0_A; dsimp only
  sl_unfold_words
  rw [View.read_writes_junk_eq_canon, View.canon_cons_unit_zero (S := S128x1024) hz, first_of _ _ _ _ _ _ (picked m c t _), read_3]

theorem out_second : (outsAt0 m (ok m) c t).2.2.2 = vBlock m c t := by
  unfold outsAt0; dsimp only; unfold out0_A_8
  unfold kernelRun0_A; dsimp only
  sl_unfold_words
  rw [View.read_writes_junk_eq_canon, View.canon_cons_unit_zero (S := S128x1024) hz, second_of _ _ _ _ _ _ (picked m c t _), read_4]

theorem out_change : (outsAt0 m (ok m) c t).2.1 = dBlock m c t := by
  unfold outsAt0; dsimp only; unfold out0_A_6
  unfold kernelRun0_A; dsimp only
  sl_unfold_words
  rw [View.read_writes_junk_eq_canon, View.canon_cons_unit_zero (S := S128x1024) hz, change_of, first_of _ _ _ _ _ _ (picked m c t _), second_of _ _ _ _ _ _ (picked m c t _), read_3, read_4]
  funext j
  exact congrArg (change · (mBlock m c t j) (vBlock m c t j)) (congrFun (read_0 m c t) j)

/-! What the run leaves in the four arrays. -/

abbrev gAll : S768x1024.Idx → EReal := fun i => gradient (core m c) (arg4 m c) (arg5 m c) (i 0).val (i 1).val
abbrev mAll : S768x1024.Idx → EReal := fun i => first (at2 (arg2 m c) (i 0).val (i 1).val) (gAll m c i)
abbrev vAll : S768x1024.Idx → EReal := fun i => second (at2 (arg3 m c) (i 0).val (i 1).val) (gAll m c i)
abbrev dAll : S768x1024.Idx → EReal := fun i => change (at2 (arg1 m c) (i 0).val (i 1).val) (mAll m c i) (vAll m c i)

/-- Where a point's block lies in an array. -/
theorem row (t : Fin grid0.N) (y : S128x1024.Idx) : cc0_transform_0 (grid0.coords t) 0 * 128 + 1 * (y 0).val = 128 * t.val + (y 0).val := by
  rw [(place t).1]; omega
theorem lane (t : Fin grid0.N) (y : S128x1024.Idx) : cc0_transform_0 (grid0.coords t) 1 * 1024 + 1 * (y 1).val = (y 1).val := by
  rw [(place t).2]; omega

/-- A function of row and lane at a place of the point's block. -/
theorem at_place (f : ℕ → ℕ → EReal) (t : Fin grid0.N) (y : S128x1024.Idx) :
    f (128 * t.val + (y 0).val) (y 1).val = f (cc0_transform_0 (grid0.coords t) 0 * 128 + 1 * (y 0).val) (cc0_transform_0 (grid0.coords t) 1 * 1024 + 1 * (y 1).val) := by
  rw [row, lane]

theorem final_grad : (dats m (ok m) 0 c).arrAt 5 (cfgM m (ok m)).N = gAll m c :=
  (dats m (ok m) 0 c).arrAt_eq_of_covers 5 (gAll m c) (of_decide_eq_true (by sl_kernel_rfl)) fun t _ y =>
    (congrFun ((after0_5 m (ok m) c t).trans (out_grad m c t)) y).trans (at_place (fun r l => gradient (core m c) (arg4 m c) (arg5 m c) r l) t y)

theorem final_change : (dats m (ok m) 0 c).arrAt 6 (cfgM m (ok m)).N = dAll m c :=
  (dats m (ok m) 0 c).arrAt_eq_of_covers 6 (dAll m c) (of_decide_eq_true (by sl_kernel_rfl)) fun t _ y =>
    (congrFun ((after0_6 m (ok m) c t).trans (out_change m c t)) y).trans (at_place (fun r l => change (at2 (arg1 m c) r l) (first (at2 (arg2 m c) r l) (gradient (core m c) (arg4 m c) (arg5 m c) r l)) (second (at2 (arg3 m c) r l) (gradient (core m c) (arg4 m c) (arg5 m c) r l))) t y)

theorem final_first : (dats m (ok m) 0 c).arrAt 7 (cfgM m (ok m)).N = mAll m c :=
  (dats m (ok m) 0 c).arrAt_eq_of_covers 7 (mAll m c) (of_decide_eq_true (by sl_kernel_rfl)) fun t _ y =>
    (congrFun ((after0_7 m (ok m) c t).trans (out_first m c t)) y).trans (at_place (fun r l => first (at2 (arg2 m c) r l) (gradient (core m c) (arg4 m c) (arg5 m c) r l)) t y)

theorem final_second : (dats m (ok m) 0 c).arrAt 8 (cfgM m (ok m)).N = vAll m c :=
  (dats m (ok m) 0 c).arrAt_eq_of_covers 8 (vAll m c) (of_decide_eq_true (by sl_kernel_rfl)) fun t _ y =>
    (congrFun ((after0_8 m (ok m) c t).trans (out_second m c t)) y).trans (at_place (fun r l => second (at2 (arg3 m c) r l) (gradient (core m c) (arg4 m c) (arg5 m c) r l)) t y)

/-- Every run of the kernel leaves the four results and its arguments as they were. -/
theorem run : θ_run defs (onTc (τ := τ) (main (F := Ideal))) ⟨m, fun _ => 0, ρ⟩ fun r => ∀ c : Dev nD,
      r.2.mem ((c : Thread nD τ).loc main_v0_0) = (fun i : S768x1024.Idx => gradient (core m c) (arg4 m c) (arg5 m c) (i 0).val (i 1).val)
      ∧ r.2.mem ((c : Thread nD τ).loc main_v0_1) = (fun i : S768x1024.Idx => change (arg1 m c i) (first (arg2 m c i) (gradient (core m c) (arg4 m c) (arg5 m c) (i 0).val (i 1).val)) (second (arg3 m c i) (gradient (core m c) (arg4 m c) (arg5 m c) (i 0).val (i 1).val)))
      ∧ r.2.mem ((c : Thread nD τ).loc main_v0_2) = (fun i : S768x1024.Idx => first (arg2 m c i) (gradient (core m c) (arg4 m c) (arg5 m c) (i 0).val (i 1).val))
      ∧ r.2.mem ((c : Thread nD τ).loc main_v0_3) = (fun i : S768x1024.Idx => second (arg3 m c i) (gradient (core m c) (arg4 m c) (arg5 m c) (i 0).val (i 1).val))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).1 5).trans (final_grad m c),
     (((h c).1 6).trans (final_change m c)).trans (funext fun i => by unfold dAll mAll vAll gAll; rw [at2_self (arg1 m c), at2_self (arg2 m c), at2_self (arg3 m c)]),
     (((h c).1 7).trans (final_first m c)).trans (funext fun i => by unfold mAll gAll; rw [at2_self (arg2 m c)]),
     (((h c).1 8).trans (final_second m c)).trans (funext fun i => by unfold vAll gAll; rw [at2_self (arg3 m c)]),
     ((h c).2 main_arg0 (by decide : main_arg0 ∈ Pipeline.restRefs sig spec0)).trans (V_main_arg0 m c),
     ((h c).1 0).trans (((dats m (ok m) 0 c).arrAt_in 0 rfl _).trans ((A_eq m (ok m) c 0).trans (V_main_arg1 m c))),
     ((h c).1 3).trans (((dats m (ok m) 0 c).arrAt_in 3 rfl _).trans ((A_eq m (ok m) c 3).trans (V_main_arg2 m c))),
     ((h c).1 4).trans (((dats m (ok m) 0 c).arrAt_in 4 rfl _).trans ((A_eq m (ok m) c 4).trans (V_main_arg3 m c))),
     ((h c).1 1).trans (((dats m (ok m) 0 c).arrAt_in 1 rfl _).trans ((A_eq m (ok m) c 1).trans (V_main_arg4 m c))),
     ((h c).1 2).trans (((dats m (ok m) 0 c).arrAt_in 2 rfl _).trans ((A_eq m (ok m) c 2).trans (V_main_arg5 m c)))⟩)
    (run_main m ρ (ok m))

end Cert.Update
end
-- ==== Proof.AdamPlain.lean ====
module
public import proofs.«01_k».proof.Proof.AdamSpec
public import proofs.«01_k».proof.Proof.Gen.AdamReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain optimiser step read at an entry. -/

namespace Cert.Update.Plain
open Cert.AdamReferenceIdeal Cert.AdamReferenceIdeal.Gen Cert.AdamReferenceIdeal.Read
open Idealize.ShloMosaic Idealize.ShloMosaic.TcCoe Idealize.ShloMosaic.Tactic
open Cert.ConvGrad (at2 at2_ix2 at2_of_lt)
variable (n : S1.Idx → BitVec 32) (w x y : S768x1024.Idx → EReal) (a b : S640x1024.Idx → EReal)

theorem index_zero (i : S_.Idx) : val_main_v0 (F := Ideal) n i = n (ix1 0) := by
  unfold val_main_v0
  pointwise

theorem chosen (x y : BitVec 32) (a b : EReal) : Scalar.select (IntOp.cmpi .eq x y) a b = if y = x then a else b := by
  unfold Scalar.select
  by_cases e : y = x
  · subst e; simp [IntOp.cmpi]
  · simp [IntOp.cmpi, beq_eq_false_iff_ne.mpr (Ne.symm e), e]

/-- Core 0's half. -/
theorem lower : val_main_v2 (F := Ideal) n a b = fun i => if 0#32 = n (ix1 0) then a i else b i := by
  funext i
  unfold val_main_v2
  refine (chosen _ _ _ _).trans ?_
  rw [index_zero]
  rfl

/-- Core 1's half. -/
theorem upper : val_main_v5 (F := Ideal) n a b = fun i => if 1#32 = n (ix1 0) then a i else b i := by
  funext i
  unfold val_main_v5
  refine (chosen _ _ _ _).trans ?_
  rw [show val_main_v3 (F := Ideal) n = val_main_v0 (F := Ideal) n from rfl, index_zero]
  rfl

theorem gradient_plain : val_main_v7 (F := Ideal) n a b = fun i : S768x1024.Idx => gradient (n (ix1 0)) a b (i 0).val (i 1).val := by
  funext i
  idx_vars i
  unfold val_main_v7 val_main_v6
  rw [lower, upper]
  pointwise
  unfold gradient
  by_cases h : i0.val < 640
  · refine (dif_pos h).trans ?_
    rw [show i0.val / 640 = 0 by omega, show i0.val % 640 = i0.val by omega]
    exact congrArg₂ (fun p q => if 0#32 = n (ix1 0) then p else q) (at2_of_lt a _ _ h i1.isLt).symm (at2_of_lt b _ _ h i1.isLt).symm
  · refine (dif_neg h).trans ?_
    rw [show i0.val / 640 = 1 by omega, show i0.val % 640 = i0.val - 640 by omega]
    exact congrArg₂ (fun p q => if 1#32 = n (ix1 0) then p else q) (at2_of_lt a _ _ (by omega) i1.isLt).symm (at2_of_lt b _ _ (by omega) i1.isLt).symm

theorem first_plain : val_main_v12 (F := Ideal) n x a b = fun i : S768x1024.Idx => first (x i) (gradient (n (ix1 0)) a b (i 0).val (i 1).val) := by
  funext i
  have e := congrFun (gradient_plain n a b) i
  simp only at e
  unfold first
  rw [← e]
  rfl

theorem second_plain : val_main_v18 (F := Ideal) n y a b = fun i : S768x1024.Idx => second (y i) (gradient (n (ix1 0)) a b (i 0).val (i 1).val) := by
  funext i
  have e := congrFun (gradient_plain n a b) i
  simp only at e
  unfold second
  rw [← e]
  rfl

theorem change_plain : val_main_v31 (F := Ideal) n w x y a b = fun i : S768x1024.Idx =>
    change (w i) (first (x i) (gradient (n (ix1 0)) a b (i 0).val (i 1).val)) (second (y i) (gradient (n (ix1 0)) a b (i 0).val (i 1).val)) := by
  funext i
  have e := congrFun (first_plain n x a b) i
  have f := congrFun (second_plain n y a b) i
  simp only at e f
  unfold change
  rw [← e, ← f]
  rfl

end Cert.Update.Plain
end
-- ==== Proof.ProjectBlock.lean ====
module
public import proofs.«01_k».proof.Proof.NormInputs
public import proofs.«01_k».proof.Proof.Gen.ProjectIdeal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws
@[expose] public section
set_option maxRecDepth 16384
noncomputable section
/-! The projection of the normed rows, of one block. -/

namespace Cert.Project
open Cert.ProjectIdeal Cert.ProjectIdeal.Gen
open Idealize.ShloMosaic Idealize.ShloMosaic.TcCoe Idealize.ShloMosaic.Tactic
open Idealize.SL.Sem Cert.ConvGrad
open Cert.NormGrad (at3 at3_at at3_of_lt part2 part3 hz2 meanSquare normed column)
open Cert.NormGrad renaming inv → invRoot

/-- Column `k` of the projection of row `r`. -/
def projected (x : (⟨2, ![8192, 1024]⟩ : Shape).Idx → EReal) (g : (⟨2, ![1, 1024]⟩ : Shape).Idx → EReal) (w : (⟨3, ![4, 1024, 768]⟩ : Shape).Idx → EReal) (r k : ℕ) : EReal :=
  ∑ e ∈ Finset.range 1024, normed x r e * at2 g 0 e * column w e k

section Body
variable (X : ℕ → ℕ → EReal) (W : ℕ → ℕ → EReal) (G : ℕ → EReal)

/-- The normed and scaled rows of a block. -/
theorem scaled_block : k0_pay2 (F := Ideal) (fun j : S512x1024.Idx => X (j 0).val (j 1).val) (fun j : S1x1024.Idx => G (j 1).val)
    = fun j : S512x1024.Idx => X (j 0).val (j 1).val * invRoot (X (j 0).val) * G (j 1).val := by
  unfold k0_pay2
  funext j
  idx_vars j
  pointwise
  unfold invRoot meanSquare
  rw [Fin.sum_univ_eq_sum_range (fun k => X j0.val k * X j0.val k) 1024]

/-- One quarter of the columns. -/
theorem quarter_block (H : ℕ → ℕ → EReal) : k0_pay1 (F := Ideal) (fun j : S512x1024.Idx => H (j 0).val (j 1).val) (fun j : S1x1024x768.Idx => W (j 1).val (j 2).val)
    = fun j : S512x768.Idx => ∑ e ∈ Finset.range 1024, H (j 0).val e * W e (j 1).val := by
  unfold k0_pay1
  funext j
  idx_vars j
  pointwise
  simp only [← Fin.sum_univ_eq_sum_range]

end Body

variable (m : (ℓ : Loc nD τ sig) → Buf (Elt Ideal) ℓ) (c : Dev nD) (t : Fin cfg0.N)

/-- The rows, the scale and the weights as the region finds them. -/
abbrev arr0 : (⟨2, ![8192, 1024]⟩ : Shape).Idx → EReal := V m c main_arg0
abbrev arr1 : (⟨2, ![1, 1024]⟩ : Shape).Idx → EReal := V m c main_arg1
abbrev arr2 : (⟨3, ![4, 1024, 768]⟩ : Shape).Idx → EReal := V m c main_arg2

theorem index_0 : win0_0.index t 0 = t.val ∧ win0_0.index t 1 = 0 := (by decide +kernel : ∀ t : Fin grid0.N, win0_0.index t 0 = t.val ∧ win0_0.index t 1 = 0) t
theorem index_1 : win0_1.index t 0 = 0 ∧ win0_1.index t 1 = 0 := (by decide +kernel : ∀ t : Fin grid0.N, win0_1.index t 0 = 0 ∧ win0_1.index t 1 = 0) t
theorem index_2 : win0_2.index t 0 = 0 ∧ win0_2.index t 1 = 0 ∧ win0_2.index t 2 = 0 := (by decide +kernel : ∀ t : Fin grid0.N, win0_2.index t 0 = 0 ∧ win0_2.index t 1 = 0 ∧ win0_2.index t 2 = 0) t
theorem index_3 : win0_3.index t 0 = t.val ∧ win0_3.index t 1 = 0 := (by decide +kernel : ∀ t : Fin grid0.N, win0_3.index t 0 = t.val ∧ win0_3.index t 1 = 0) t

theorem iblk_0 : (iblk m c 0 t : Vec Ideal S512x1024 .f32) = fun j => at2 (arr0 m c) (512 * t.val + (j 0).val) (j 1).val := by
  obtain ⟨i0, i1⟩ := index_0 t
  funext j
  unfold iblk
  rw [View.read_apply]
  refine at2_at (arr0 m c) _ _ _ ?_ ?_
  · show win0_0.index t 0 * 512 + 1 * (j 0).val = _
    rw [i0]; omega
  · show win0_0.index t 1 * 1024 + 1 * (j 1).val = _
    rw [i1]; omega

theorem iblk_1 : (iblk m c 1 t : Vec Ideal S1x1024 .f32) = fun j => at2 (arr1 m c) 0 (j 1).val := by
  obtain ⟨i0, i1⟩ := index_1 t
  funext j
  unfold iblk
  rw [View.read_apply]
  refine at2_at (arr1 m c) _ _ _ ?_ ?_
  · have hj : (j 0).val < 1 := (j 0).isLt
    show win0_1.index t 0 * 1 + 1 * (j 0).val = _
    rw [i0]; omega
  · show win0_1.index t 1 * 1024 + 1 * (j 1).val = _
    rw [i1]; omega

theorem iblk_2 : (iblk m c 2 t : Vec Ideal S4x1024x768 .bf16) = fun j => at3 (arr2 m c) (j 0).val (j 1).val (j 2).val := by
  obtain ⟨i0, i1, i2⟩ := index_2 t
  funext j
  unfold iblk
  rw [View.read_apply]
  refine at3_at (arr2 m c) _ _ _ _ ?_ ?_ ?_
  · show win0_2.index t 0 * 4 + 1 * (j 0).val = _
    rw [i0]; omega
  · show win0_2.index t 1 * 1024 + 1 * (j 1).val = _
    rw [i1]; omega
  · show win0_2.index t 2 * 768 + 1 * (j 2).val = _
    rw [i2]; omega

/-- A quarter of the weights, as the body loads it. -/
theorem load_2 (s : ℕ) (inb) : View.ld (Val := Elt Ideal) (e' := .bf16) (iblk m c 2 t : Vec Ideal S4x1024x768 .bf16) (Rect.unit ![s, 0, 0] S1x1024x768.size inb)
    = fun j => at3 (arr2 m c) s (j 1).val (j 2).val := by
  rw [iblk_2]
  refine (part3 (e := .bf16) (fun a b k => at3 (arr2 m c) a b k) ![s, 0, 0] ![1, 1024, 768] inb).trans (funext fun j => ?_)
  have hj : (j 0).val = 0 := Nat.lt_one_iff.mp (j 0).isLt
  show at3 (arr2 m c) (s + (j 0).val) (0 + (j 1).val) (0 + (j 2).val) = _
  rw [hj, Nat.zero_add, Nat.zero_add, Nat.add_zero]

/-- Quarter `s` of the block, over its own rows and columns. -/
theorem quarter_eq (s : ℕ) (inb) : k0_pay1 (F := Ideal) (k0_pay2 (F := Ideal) (iblk m c 0 t) (iblk m c 1 t)) (View.ld (iblk m c 2 t) (Rect.unit (s := S4x1024x768) ![s, 0, 0] S1x1024x768.size inb))
    = fun j : S512x768.Idx => projected (arr0 m c) (arr1 m c) (arr2 m c) (512 * t.val + (j 0).val) (768 * s + (j 1).val) := by
  have h : k0_pay2 (F := Ideal) (iblk m c 0 t) (iblk m c 1 t)
      = fun j : S512x1024.Idx => normed (arr0 m c) (512 * t.val + (j 0).val) (j 1).val * at2 (arr1 m c) 0 (j 1).val := by
    rw [iblk_0, iblk_1]
    exact scaled_block (fun r e => at2 (arr0 m c) (512 * t.val + r) e) (at2 (arr1 m c) 0)
  rw [load_2, h]
  refine (quarter_block (at3 (arr2 m c) s) (fun r e => normed (arr0 m c) (512 * t.val + r) e * at2 (arr1 m c) 0 e)).trans ?_
  funext j
  have hj : (j 1).val < 768 := (j 1).isLt
  unfold projected column
  rw [show (768 * s + (j 1).val) / 768 = s by omega, show (768 * s + (j 1).val) % 768 = (j 1).val by omega]

theorem place (x : S512x768.Idx) : 512 * t.val + (x 0).val = 512 * t.val + (0 + 1 * (x 0).val) := by omega

theorem place_lane (l : ℕ) (x : S512x768.Idx) : l + (x 1).val = l + 1 * (x 1).val := by omega

/-- The four stores of a point, the last one first. -/
abbrev quarters : List (View.Piece (Elt Ideal) S512x3072 .bf16) :=
  [⟨r0_9, k0_pay1 (F := Ideal) (k0_pay2 (F := Ideal) (iblk m c 0 t) (iblk m c 1 t)) (View.ld (iblk m c 2 t) r0_8)⟩,
    ⟨r0_7, k0_pay5 (F := Ideal) (iblk m c 0 t) (iblk m c 1 t) (View.ld (iblk m c 2 t) r0_6)⟩,
    ⟨r0_5, k0_pay4 (F := Ideal) (iblk m c 0 t) (iblk m c 1 t) (View.ld (iblk m c 2 t) r0_4)⟩,
    ⟨r0_3, k0_pay3 (F := Ideal) (iblk m c 0 t) (iblk m c 1 t) (View.ld (iblk m c 2 t) r0_2)⟩]

theorem quarters_pieces : View.PiecesOf (Val := Elt Ideal) (e := .bf16)
    (fun j : S512x3072.Idx => projected (arr0 m c) (arr1 m c) (arr2 m c) (512 * t.val + (j 0).val) (j 1).val) (quarters m c t) := by
  refine ⟨?_, ?_, ?_, ?_, trivial⟩
  · exact fun x => (congrFun (quarter_eq m c t 3 _) x).trans (congrArg₂ (projected _ _ _) (place t x) (place_lane 2304 x))
  · exact fun x => (congrFun (quarter_eq m c t 2 _) x).trans (congrArg₂ (projected _ _ _) (place t x) (place_lane 1536 x))
  · exact fun x => (congrFun (quarter_eq m c t 1 _) x).trans (congrArg₂ (projected _ _ _) (place t x) (place_lane 768 x))
  · exact fun x => (congrFun (quarter_eq m c t 0 _) x).trans (congrArg₂ (projected _ _ _) (place t x) (place_lane 0 x))

/-- What a point writes: the projection of its 512 rows, as four stores. -/
theorem out_eq : out0_3 (iblk m c 0 t) (iblk m c 1 t) (iblk m c 2 t)
    = fun j : S512x3072.Idx => projected (arr0 m c) (arr1 m c) (arr2 m c) (512 * t.val + (j 0).val) (j 1).val := by
  unfold out0_3
  rw [View.ld_unit_zero (S := S512x1024) hz2, View.ld_unit_zero (S := S1x1024) hz2]
  exact (congrArg View.canon (List.append_nil _).symm).trans (funext fun y => View.canon_append_of_piecesOf _ [] (quarters m c t) (quarters_pieces m c t) y
    (cover0_3 _ _ _ _ y))

end Cert.Project
end
-- ==== Proof.ProjectRun.lean ====
module
public import proofs.«01_k».proof.Proof.ProjectBlock
public import proofs.«01_k».proof.Proof.Gen.ProjectIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! Every run of the kernel leaves the projection. -/

namespace Cert.Project
open Cert.ProjectIdeal Cert.ProjectIdeal.Gen
open Idealize.ShloMosaic Idealize.ShloMosaic.TcCoe Idealize.ShloMosaic.Tactic
open Idealize.SL.Sem
variable (m : (ℓ : Loc nD τ sig) → Buf (Elt Ideal) ℓ) (ρ : Dev nD → PrngReg) (c : Dev nD)

/-- The array of the projection once every block is written. -/
theorem final : (dats m 0 c).arrAt 3 cfg0.N = fun i : S8192x3072.Idx => projected (arr0 m c) (arr1 m c) (arr2 m c) (i 0).val (i 1).val := by
  refine (dats m 0 c).arrAt_eq_of_covers 3 (fun i : S8192x3072.Idx => projected (arr0 m c) (arr1 m c) (arr2 m c) (i 0).val (i 1).val) ?_ ?_
  · decide +kernel
  · intro t _ y
    show (dats m 0 c).after 3 t y = projected (arr0 m c) (arr1 m c) (arr2 m c)
      (win0_3.index t 0 * 512 + 1 * (y 0).val) (win0_3.index t 1 * 3072 + 1 * (y 1).val)
    rw [after0_3, out_eq, (index_3 t).1, (index_3 t).2]
    simp only [Nat.one_mul, Nat.zero_mul, Nat.zero_add, Nat.mul_comm]

/-- The three arguments as launched. -/
abbrev arg0 : S8192x1024.Idx → EReal := m ((c : Thread nD τ).loc main_arg0)
abbrev arg1 : S1x1024.Idx → EReal := m ((c : Thread nD τ).loc main_arg1)
abbrev arg2 : S4x1024x768.Idx → EReal := m ((c : Thread nD τ).loc main_arg2)

/-- Every run of the kernel leaves the projection and its arguments as they were. -/
theorem run : θ_run defs (onTc (τ := τ) (main (F := Ideal))) ⟨m, fun _ => 0, ρ⟩ fun r => ∀ c : Dev nD,
      r.2.mem ((c : Thread nD τ).loc main_v0) = (fun i : S8192x3072.Idx => projected (arg0 m c) (arg1 m c) (arg2 m c) (i 0).val (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.ProjectIdeal.Value.run_blocks m ρ)

end Cert.Project
end
-- ==== Proof.ProjectPlain.lean ====
module
public import proofs.«01_k».proof.Proof.ProjectBlock
public import proofs.«01_k».proof.Proof.NormPlain
public import proofs.«01_k».proof.Proof.Gen.ProjectReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain projection, read at a row and a column. -/

namespace Cert.Project.Plain
open Cert.ProjectReferenceIdeal Cert.ProjectReferenceIdeal.Gen Cert.ProjectReferenceIdeal.Read
open Idealize.ShloMosaic Idealize.ShloMosaic.TcCoe Idealize.ShloMosaic.Tactic
open Cert.ConvGrad (at2 at2_ix2 at2_of_lt)
open Cert.NormGrad (at3 at3_of_lt meanSquare normed column)
open Cert.NormGrad renaming inv → invRoot
variable (x0 : S8192x1024.Idx → EReal) (x1 : S1x1024.Idx → EReal) (x2 : S4x1024x768.Idx → EReal)

theorem inv_row (r : Fin 8192) (u : Fin 1) : val_main_v7 (F := Ideal) x0 (ix2 r u) = invRoot (at2 x0 r) := by
  unfold val_main_v7 val_main_v6 val_main_v5 val_main_v4 val_main_v3 val_main_v2 val_main_v1 val_main_v0 val_main_cst val_main_cst_0 val_main_cst_1
  pointwise
  unfold invRoot meanSquare
  rw [← Cert.NormGrad.Plain.sum_lanes x0 (fun a _ => a * a) r]

theorem scaled_row (r : Fin 8192) (e : Fin 1024) : val_main_v11 (F := Ideal) x0 x1 (ix2 r e) = normed x0 r e * at2 x1 0 e := by
  unfold val_main_v11 val_main_v10 val_main_v9 val_main_v8
  pointwise
  rw [inv_row, ← at2_ix2 x0, ← at2_ix2 x1]
  rfl

theorem column_row (e : Fin 1024) (k : Fin 3072) : val_main_v14 (F := Ideal) x2 (ix2 e k) = column x2 e k := by
  unfold val_main_v14 val_main_v13 val_main_v12
  pointwise
  unfold column
  exact (at3_of_lt x2 _ _ _ (by omega) e.isLt (by omega)).symm

/-- The projection of the normed and scaled rows. -/
theorem projection : val_main_v16 (F := Ideal) x0 x1 x2 = fun i : S8192x3072.Idx => projected x0 x1 x2 (i 0).val (i 1).val := by
  funext i
  idx_vars i
  unfold val_main_v16 val_main_v15
  pointwise
  simp only [scaled_row, column_row]
  exact Fin.sum_univ_eq_sum_range (fun e => normed x0 i0.val e * at2 x1 0 e * column x2 e i1.val) 1024

end Cert.Project.Plain
end
-- ==== Proof.GateSpec.lean ====
module
public import proofs.«01_k».proof.Proof.NormSpec
@[expose] public section
noncomputable section
/-! The gradients of the odd layer's gates as plain functions of a row and a lane, and the backward pass of its layer
    norm over the extended reals: the short form with the normed row and the long form with the derivatives of the
    mean and of the inverse root agree wherever the incoming gradient is finite, at infinite rows too. -/

namespace Cert.Gates
open Idealize.ShloMosaic Cert.ConvGrad
open Cert.NormGrad (width width_eq minusHalf minusHalf_eq div_width mul_self_nonneg)

/-- The small number under the layer norm's root. -/
abbrev tiny : EReal := Ideal.ofBits .f32 0x3727C5AC#32

theorem tiny_eq : ∃ s : ℝ, 0 < s ∧ tiny = (s : EReal) := by
  refine ⟨10995116 * (2 : ℝ) ^ (-40 : ℤ), by positivity, ?_⟩
  simp [tiny, Ideal.ofBits, Ideal.ieee]

/-- The two of the square's derivative. -/
abbrev two : EReal := Ideal.ofBits .f32 0x40000000#32

theorem two_eq : two = ((2 : ℝ) : EReal) := by
  simp [two, Ideal.ofBits, Ideal.ieee]
  norm_num [← EReal.coe_mul]

/-- The mean of a row. -/
def mean (x : ℕ → EReal) : EReal := Ideal.div (∑ j ∈ Finset.range 1024, x j) width

/-- A row with its mean taken away. -/
def centred (x : ℕ → EReal) (e : ℕ) : EReal := x e - mean x

/-- The variance of a row with the small number added. -/
def spread (x : ℕ → EReal) : EReal := Ideal.div (∑ j ∈ Finset.range 1024, centred x j * centred x j) width + tiny

/-- The inverse root of the variance. -/
def rootInv (x : ℕ → EReal) : EReal := Ideal.rsqrt (spread x)

/-- The normed row. -/
def normed (x : ℕ → EReal) (e : ℕ) : EReal := centred x e * rootInv x

/-- The gradient of a row through its layer norm, from the normed row. -/
def throughLayer (x dn : ℕ → EReal) (e : ℕ) : EReal :=
  rootInv x * (dn e - mean dn - normed x e * mean (fun j => dn j * normed x j))

/-- The derivative by the variance, spread over the row. -/
def pull (x dn : ℕ → EReal) : EReal :=
  Ideal.div ((∑ j ∈ Finset.range 1024, centred x j * dn j) * (minusHalf * Ideal.div (rootInv x) (spread x))) width

/-- The gradient of the centred row. -/
def dCentred (x dn : ℕ → EReal) (e : ℕ) : EReal := dn e * rootInv x + pull x dn * (two * centred x e)

theorem sum_coe (f : ℕ → ℝ) (n : ℕ) : ∑ j ∈ Finset.range n, (f j : EReal) = ((∑ j ∈ Finset.range n, f j : ℝ) : EReal) := by
  induction n with
  | zero => simp
  | succ n ih => rw [Finset.sum_range_succ, Finset.sum_range_succ, ih, EReal.coe_add]

theorem sum_real (f : ℕ → EReal) (g : ℕ → ℝ) (n : ℕ) (h : ∀ j < n, f j = (g j : EReal)) :
    ∑ j ∈ Finset.range n, f j = ((∑ j ∈ Finset.range n, g j : ℝ) : EReal) :=
  (Finset.sum_congr rfl fun j hj => h j (Finset.mem_range.mp hj)).trans (sum_coe g n)

/-- A row with an infinite lane is infinite in every lane once its mean is taken away. -/
theorem centred_inf (x : ℕ → EReal) (j : ℕ) (hj : j < 1024) (h : x j = ⊤ ∨ x j = ⊥) (e : ℕ) : centred x e = ⊤ ∨ centred x e = ⊥ := by
  have hp : (0 : ℝ) < 1 / 1024 := by norm_num
  have hm : mean x = ⊤ ∨ mean x = ⊥ := by
    have hs : (∑ k ∈ Finset.range 1024, x k) = ⊤ ∨ (∑ k ∈ Finset.range 1024, x k) = ⊥ := by
      rw [← Finset.add_sum_erase _ _ (Finset.mem_range.mpr hj)]
      generalize ∑ k ∈ (Finset.range 1024).erase j, x k = y
      rcases h with h | h <;> rw [h]
      · induction y with
        | bot => right; rfl
        | top => left; rfl
        | coe y => left; exact EReal.top_add_coe y
      · right; exact EReal.bot_add y
    unfold mean
    rw [div_width]
    rcases hs with hs | hs <;> rw [hs]
    · left; exact EReal.top_mul_coe_of_pos hp
    · right; exact EReal.bot_mul_coe_of_pos hp
  unfold centred
  rw [sub_eq_add_neg]
  generalize x e = y
  rcases hm with hm | hm <;> rw [hm]
  · right
    rw [EReal.neg_top, EReal.add_bot]
  · rw [EReal.neg_bot]
    induction y with
    | bot => right; rfl
    | top => left; rfl
    | coe y => left; exact EReal.coe_add_top y

/-- Such a row has an infinite variance. -/
theorem spread_top (x : ℕ → EReal) (j : ℕ) (hj : j < 1024) (h : x j = ⊤ ∨ x j = ⊥) : spread x = ⊤ := by
  have e : centred x j * centred x j = ⊤ := by rcases centred_inf x j hj h j with h | h <;> rw [h] <;> rfl
  have s : ∑ j ∈ Finset.range 1024, centred x j * centred x j = ⊤ :=
    top_le_iff.mp (e ▸ Finset.single_le_sum (f := fun j => centred x j * centred x j) (fun i _ => mul_self_nonneg (centred x i)) (Finset.mem_range.mpr hj))
  obtain ⟨s', _, hs⟩ := tiny_eq
  rw [spread, s, div_width, EReal.top_mul_coe_of_pos (by norm_num), hs, EReal.top_add_coe]

theorem rootInv_zero (x : ℕ → EReal) (h : spread x = ⊤) : rootInv x = 0 := by
  unfold rootInv
  rw [h]
  rfl

/-- What a finite row comes to: its centred lanes are real and add up to nothing, and the root is positive. -/
theorem finite_row (x : ℕ → EReal) (hx : ¬ ∃ j < 1024, x j = ⊤ ∨ x j = ⊥) :
    ∃ (a : ℕ → ℝ) (q : ℝ), 0 < q ∧ (∀ j < 1024, centred x j = (a j : EReal)) ∧ ∑ j ∈ Finset.range 1024, a j = 0
      ∧ rootInv x = ((q⁻¹ : ℝ) : EReal) ∧ spread x = ((q * q : ℝ) : EReal) := by
  have hc : ∀ j < 1024, x j = ((x j).toReal : EReal) := fun j hj =>
    (EReal.coe_toReal (fun h => hx ⟨j, hj, .inl h⟩) (fun h => hx ⟨j, hj, .inr h⟩)).symm
  have hm : mean x = (((∑ j ∈ Finset.range 1024, (x j).toReal) * (1 / 1024) : ℝ) : EReal) := by
    unfold mean
    rw [div_width, sum_real x _ 1024 hc, EReal.coe_mul]
  have ha : ∀ j < 1024, centred x j = (((x j).toReal - (∑ j ∈ Finset.range 1024, (x j).toReal) * (1 / 1024) : ℝ) : EReal) := fun j hj => by
    unfold centred
    rw [hm, hc j hj, EReal.coe_sub]
    rfl
  obtain ⟨s, hs, et⟩ := tiny_eq
  generalize hA : (fun j => (x j).toReal - (∑ j ∈ Finset.range 1024, (x j).toReal) * (1 / 1024)) = a at ha
  have ha' : ∀ j < 1024, centred x j = (a j : EReal) := fun j hj => (ha j hj).trans (by rw [← hA])
  have hz : ∑ j ∈ Finset.range 1024, a j = 0 := by
    rw [← hA]
    simp only [Finset.sum_sub_distrib, Finset.sum_const, Finset.card_range, nsmul_eq_mul]
    norm_num
    ring
  have hv : spread x = (((∑ j ∈ Finset.range 1024, a j * a j) * (1 / 1024) + s : ℝ) : EReal) := by
    unfold spread
    rw [div_width, et, sum_real _ (fun j => a j * a j) 1024 fun j hj => by rw [ha' j hj, EReal.coe_mul], EReal.coe_add, EReal.coe_mul]
  have hpos : 0 < (∑ j ∈ Finset.range 1024, a j * a j) * (1 / 1024) + s := by
    have : 0 ≤ ∑ j ∈ Finset.range 1024, a j * a j := Finset.sum_nonneg fun j _ => _root_.mul_self_nonneg (a j)
    positivity
  generalize (∑ j ∈ Finset.range 1024, a j * a j) * (1 / 1024) + s = v at hv hpos
  refine ⟨a, Real.sqrt v, Real.sqrt_pos.mpr hpos, ha', hz, ?_, ?_⟩
  · unfold rootInv
    rw [hv, Ideal.rsqrt_coe, if_neg (not_lt.mpr hpos.le), if_neg hpos.ne']
  · rw [hv, Real.mul_self_sqrt hpos.le]

/-- The normed row is always finite. -/
theorem normed_real (x : ℕ → EReal) (e : ℕ) (he : e < 1024) : ∃ y : ℝ, normed x e = (y : EReal) := by
  by_cases hx : ∃ j < 1024, x j = ⊤ ∨ x j = ⊥
  · obtain ⟨j, hj, h⟩ := hx
    refine ⟨0, ?_⟩
    unfold normed
    rw [rootInv_zero x (spread_top x j hj h), mul_zero, EReal.coe_zero]
  · obtain ⟨a, q, _, ha, _, hr, _⟩ := finite_row x hx
    refine ⟨a e * q⁻¹, ?_⟩
    unfold normed
    rw [ha e he, hr, EReal.coe_mul]

/-- The short form is the long form, whatever the row, if the incoming gradient is finite. -/
theorem throughLayer_eq (x dn : ℕ → EReal) (hn : ∀ j < 1024, ∃ y : ℝ, dn j = (y : EReal)) (e : ℕ) (he : e < 1024) :
    throughLayer x dn e = dCentred x dn e + mean (fun j => -dCentred x dn j) := by
  by_cases hx : ∃ j < 1024, x j = ⊤ ∨ x j = ⊥
  · obtain ⟨j, hj, h⟩ := hx
    have ht := spread_top x j hj h
    have h0 := rootInv_zero x ht
    have hp : pull x dn = 0 := by
      unfold pull
      rw [h0, ht, div_width]
      simp [Ideal.div]
    unfold throughLayer dCentred mean
    rw [h0, hp]
    simp only [mul_zero, zero_mul, add_zero, neg_zero, Finset.sum_const_zero]
    rw [div_width, zero_mul, add_zero]
  · obtain ⟨a, q, hq, ha, hz, hr, hs⟩ := finite_row x hx
    have hc : ∀ j < 1024, dn j = ((dn j).toReal : EReal) := fun j hj => by
      obtain ⟨y, hy⟩ := hn j hj
      rw [hy, EReal.toReal_coe]
    generalize hN : (fun j => (dn j).toReal) = n at hc
    have hn : ∀ j < 1024, dn j = (n j : EReal) := fun j hj => (hc j hj).trans (by rw [← hN])
    have e1 : mean dn = (((∑ j ∈ Finset.range 1024, n j) * (1 / 1024) : ℝ) : EReal) := by
      unfold mean
      rw [div_width, sum_real _ n 1024 hn, EReal.coe_mul]
    have e2 : mean (fun j => dn j * normed x j) = (((∑ j ∈ Finset.range 1024, a j * n j) * q⁻¹ * (1 / 1024) : ℝ) : EReal) := by
      unfold mean normed
      rw [div_width, sum_real _ (fun j => a j * n j * q⁻¹) 1024 fun j hj => by rw [ha j hj, hr, hn j hj, ← EReal.coe_mul, ← EReal.coe_mul]; congr 1; ring,
        ← Finset.sum_mul, ← EReal.coe_mul]
    have e3 : pull x dn = (((∑ j ∈ Finset.range 1024, a j * n j) * (-(1 / 2) * (q⁻¹ * (1 / (q * q)))) * (1 / 1024) : ℝ) : EReal) := by
      unfold pull
      rw [div_width, sum_real _ (fun j => a j * n j) 1024 fun j hj => by rw [ha j hj, hn j hj, EReal.coe_mul], hs, hr, Ideal.div_coe (mul_pos hq hq).ne', minusHalf_eq]
      simp only [EReal.coe_mul]
    generalize ∑ j ∈ Finset.range 1024, a j * n j = S at e2 e3
    generalize hT : S * (-(1 / 2) * (q⁻¹ * (1 / (q * q)))) * (1 / 1024) = T at e3
    have e4 : ∀ j < 1024, dCentred x dn j = ((n j * q⁻¹ + 2 * (a j * T) : ℝ) : EReal) := fun j hj => by
      unfold dCentred
      rw [e3, ha j hj, hn j hj, hr, two_eq, ← EReal.coe_mul, ← EReal.coe_mul, ← EReal.coe_mul, ← EReal.coe_add]
      congr 1
      ring
    have e5 : mean (fun j => -dCentred x dn j) = ((-((∑ j ∈ Finset.range 1024, n j) * q⁻¹) * (1 / 1024) : ℝ) : EReal) := by
      unfold mean
      rw [div_width, sum_real _ (fun j => -(n j * q⁻¹ + 2 * (a j * T))) 1024 fun j hj => by rw [e4 j hj, EReal.coe_neg]]
      rw [← EReal.coe_mul]
      congr 2
      rw [Finset.sum_neg_distrib, Finset.sum_add_distrib, ← Finset.sum_mul, ← Finset.mul_sum, ← Finset.sum_mul, hz]
      ring
    unfold throughLayer
    rw [e1, e2, e5, e4 e he, hr, hn e he]
    unfold normed
    rw [ha e he, hr]
    simp only [← EReal.coe_mul, ← EReal.coe_sub, ← EReal.coe_add]
    congr 1
    rw [← hT]
    field_simp
    ring

/-- The logistic function of a finite number is finite. -/
theorem sg_real (z : ℝ) : ∃ y : ℝ, sg (z : EReal) = (y : EReal) := by
  refine ⟨1 / (1 + Real.exp (-z)), ?_⟩
  unfold sg
  have h : (1 : EReal) + Ideal.exp (-(z : EReal)) = ((1 + Real.exp (-z) : ℝ) : EReal) := rfl
  rw [h, Ideal.div_coe (by positivity), one_mul]

/-- The gate: a number times its logistic. -/
def silu (z : EReal) : EReal := z * sg z

/-- The gate's derivative. -/
def silu' (z : EReal) : EReal := sg z * (1 + z * (1 - sg z))

theorem silu_real (z : ℝ) : ∃ y : ℝ, silu (z : EReal) = (y : EReal) := by
  obtain ⟨s, hs⟩ := sg_real z
  exact ⟨z * s, by unfold silu; rw [hs, EReal.coe_mul]⟩

theorem silu'_real (z : ℝ) : ∃ y : ℝ, silu' (z : EReal) = (y : EReal) := by
  obtain ⟨s, hs⟩ := sg_real z
  exact ⟨s * (1 + z * (1 - s)), by unfold silu'; rw [hs]; simp [EReal.coe_mul, EReal.coe_add, EReal.coe_sub]⟩

/-- The derivative of the product `z * sg z`, term by term. -/
theorem silu_terms (d z : ℝ) : (d : EReal) * sg z + z * d * (sg z * (1 - sg z)) = (d : EReal) * silu' z := by
  obtain ⟨s, hs⟩ := sg_real z
  unfold silu'
  rw [hs, ← EReal.coe_one]
  simp only [← EReal.coe_mul, ← EReal.coe_sub, ← EReal.coe_add]
  congr 1
  ring

section Rows
variable (d : (⟨2, ![8192, 1024]⟩ : Shape).Idx → EReal) (w : (⟨2, ![1024, 1024]⟩ : Shape).Idx → EReal)
  (c : (⟨2, ![8192, 1024]⟩ : Shape).Idx → EReal) (q : (⟨2, ![8192, 3072]⟩ : Shape).Idx → EReal) (g b : (⟨2, ![1, 1024]⟩ : Shape).Idx → EReal)

/-- The normed row, scaled and moved. -/
def lifted (r e : ℕ) : EReal := normed (at2 c r) e * at2 g 0 e + at2 b 0 e

/-- The gate's input. -/
def gate (r e : ℕ) : EReal := at2 q r (2048 + e)

/-- The two gates' product, the input of the output projection. -/
def gated2 (r e : ℕ) : EReal := silu (lifted c g b r e) * silu (gate q r e)

/-- The gradient of that product. -/
def dOut (r e : ℕ) : EReal := ∑ k ∈ Finset.range 1024, at2 d r k * at2 w e k

/-- The gradient of the scaled and moved row. -/
def dLifted (r e : ℕ) : EReal := dOut d w r e * silu (gate q r e) * silu' (lifted c g b r e)

/-- The gradient of the gate's input. -/
def dGate2 (r e : ℕ) : EReal := dOut d w r e * silu (lifted c g b r e) * silu' (gate q r e)

/-- The gradient of the row under the layer norm. -/
def dRow (r e : ℕ) : EReal := throughLayer (at2 c r) (fun j => dLifted d w c q g b r j * at2 g 0 j) e

/-- The gradient of the output projection. -/
def dProj (e k : ℕ) : EReal := ∑ r ∈ Finset.range 8192, gated2 c q g b r e * at2 d r k

/-- The gradient of the layer norm's scale. -/
def dScale (e : ℕ) : EReal := ∑ r ∈ Finset.range 8192, dLifted d w c q g b r e * normed (at2 c r) e

/-- The gradient of the layer norm's shift. -/
def dShift (e : ℕ) : EReal := ∑ r ∈ Finset.range 8192, dLifted d w c q g b r e

/-- An array without infinite entries. -/
def Fin2 {R C : ℕ} (x : (⟨2, ![R, C]⟩ : Shape).Idx → EReal) : Prop := ∀ i, ∃ y : ℝ, x i = (y : EReal)

theorem Fin2.at2 {R C : ℕ} {x : (⟨2, ![R, C]⟩ : Shape).Idx → EReal} (h : Fin2 x) (a k : ℕ) : ∃ y : ℝ, ConvGrad.at2 x a k = (y : EReal) := by
  unfold ConvGrad.at2
  split
  · exact h _
  · exact ⟨0, rfl⟩

theorem dOut_real (hd : Fin2 d) (hw : Fin2 w) (r e : ℕ) : ∃ y : ℝ, dOut d w r e = (y : EReal) := by
  choose f hf using fun k => hd.at2 r k
  choose g hg using fun k => hw.at2 e k
  exact ⟨_, sum_real _ (fun k => f k * g k) 1024 fun k _ => by rw [hf, hg, EReal.coe_mul]⟩

theorem lifted_real (hg : Fin2 g) (hb : Fin2 b) (r e : ℕ) (he : e < 1024) : ∃ y : ℝ, lifted c g b r e = (y : EReal) := by
  obtain ⟨n, hn⟩ := normed_real (at2 c r) e he
  obtain ⟨s, hs⟩ := hg.at2 0 e
  obtain ⟨t, ht⟩ := hb.at2 0 e
  exact ⟨n * s + t, by unfold lifted; rw [hn, hs, ht, EReal.coe_add, EReal.coe_mul]⟩

/-- The gradient of the scaled row is finite. -/
theorem dLifted_real (hd : Fin2 d) (hw : Fin2 w) (hg : Fin2 g) (hb : Fin2 b) (r : ℕ) (hq : ∀ e < 1024, ∃ y : ℝ, gate q r e = (y : EReal)) (e : ℕ) (he : e < 1024) :
    ∃ y : ℝ, dLifted d w c q g b r e = (y : EReal) := by
  obtain ⟨o, ho⟩ := dOut_real d w hd hw r e
  obtain ⟨u, hu⟩ := lifted_real c g b hg hb r e he
  obtain ⟨z, hz⟩ := hq e he
  obtain ⟨s, hs⟩ := silu_real z
  obtain ⟨s', hs'⟩ := silu'_real u
  exact ⟨o * s * s', by unfold dLifted; rw [ho, hu, hz, hs, hs', EReal.coe_mul, EReal.coe_mul]⟩

end Rows

end Cert.Gates
end
-- ==== Proof.GateBody.lean ====
module
public import proofs.«01_k».proof.Proof.GateSpec
public import proofs.«01_k».proof.Proof.Gen.GateGradIdeal.Frame
public import Idealize.ShloMosaic.Lib.Pipeline.Value
public import Idealize.ShloMosaic.Lib.Pipeline.ValueKit
public import Idealize.ShloMosaic.Lib.Pointwise
public import Idealize.ShloMosaic.PureOps.Ideal.Laws
@[expose] public section
set_option maxRecDepth 16384
noncomputable section
/-! What the body computes from the blocks it loads, whatever rows these are. -/

namespace Cert.Gates
open Cert.GateGradIdeal Cert.GateGradIdeal.Gen
open Idealize.ShloMosaic Idealize.ShloMosaic.TcCoe Idealize.ShloMosaic.Tactic
open Idealize.SL.Sem
open Cert.ConvGrad (sg)
variable (C D Z Y P N : ℕ → ℕ → EReal) (W A : ℕ → ℕ → EReal) (G B S : ℕ → EReal)

theorem centred_block : k0_pay10 (F := Ideal) (fun j : S512x1024.Idx => C (j 0).val (j 1).val) = fun j : S512x1024.Idx => centred (C (j 0).val) (j 1).val := by
  unfold k0_pay10
  funext j
  idx_vars j
  pointwise
  unfold centred mean
  rw [Fin.sum_univ_eq_sum_range (fun k => C j0.val k) 1024]

theorem root_block : k0_pay11 (F := Ideal) (fun j : S512x1024.Idx => C (j 0).val (j 1).val) = fun j : S512x1.Idx => rootInv (C (j 0).val) := by
  unfold k0_pay11
  rw [centred_block]
  funext j
  idx_vars j
  pointwise
  unfold rootInv spread
  rw [Fin.sum_univ_eq_sum_range (fun k => centred (C j0.val) k * centred (C j0.val) k) 1024]

theorem normed_block : k0_pay12 (F := Ideal) (fun j : S512x1024.Idx => C (j 0).val (j 1).val) = fun j : S512x1024.Idx => normed (C (j 0).val) (j 1).val := by
  unfold k0_pay12
  rw [centred_block, root_block]
  funext j
  idx_vars j
  pointwise
  rfl

/-- The normed row times the scale. -/
theorem scaled_block : k0_pay13 (F := Ideal) (fun j : S512x1024.Idx => C (j 0).val (j 1).val) (fun j : S1x1024.Idx => G (j 1).val)
    = fun j : S512x1024.Idx => normed (C (j 0).val) (j 1).val * G (j 1).val := by
  unfold k0_pay13
  rw [normed_block]
  funext j
  idx_vars j
  pointwise

/-- A block of the incoming gradient against the weights. -/
theorem product_block : k0_pay8 (F := Ideal) (fun j : S512x1024.Idx => D (j 0).val (j 1).val) (fun j : S1024x1024.Idx => W (j 0).val (j 1).val)
    = fun j : S512x1024.Idx => ∑ k ∈ Finset.range 1024, D (j 0).val k * W (j 1).val k := by
  unfold k0_pay8 k0_pay7
  funext j
  idx_vars j
  pointwise
  simp only [← Fin.sum_univ_eq_sum_range]

/-- The weights' gradient: the block's product is added to what was there. -/
theorem weight_block : k0_pay9 (F := Ideal) (fun j : S512x1024.Idx => D (j 0).val (j 1).val) (fun j : S1024x1024.Idx => A (j 0).val (j 1).val) (fun j : S512x1024.Idx => Y (j 0).val (j 1).val)
    = fun j : S1024x1024.Idx => A (j 0).val (j 1).val + ∑ r ∈ Finset.range 512, Y r (j 0).val * D r (j 1).val := by
  unfold k0_pay9 k0_pay7
  funext j
  idx_vars j
  pointwise
  simp only [← Fin.sum_univ_eq_sum_range]

/-- The gradient of the scaled and moved row. -/
theorem lifted_block : k0_pay18 (F := Ideal) (fun j : S512x1024.Idx => P (j 0).val (j 1).val) (fun j : S512x1024.Idx => N (j 0).val (j 1).val) (fun j : S1x1024.Idx => B (j 1).val)
      (fun j : S512x1024.Idx => Z (j 0).val (j 1).val)
    = fun j : S512x1024.Idx => P (j 0).val (j 1).val * silu (Z (j 0).val (j 1).val) * silu' (N (j 0).val (j 1).val + B (j 1).val) := by
  unfold k0_pay18 k0_pay17 k0_pay16 k0_pay15 k0_pay14 silu silu' sg
  funext j
  idx_vars j
  pointwise [zero_sub]

/-- The gradient of the gate's input. -/
theorem gate_block : k0_pay19 (F := Ideal) (fun j : S512x1024.Idx => P (j 0).val (j 1).val) (fun j : S512x1024.Idx => N (j 0).val (j 1).val) (fun j : S1x1024.Idx => B (j 1).val)
      (fun j : S512x1024.Idx => Z (j 0).val (j 1).val)
    = fun j : S512x1024.Idx => P (j 0).val (j 1).val * silu (N (j 0).val (j 1).val + B (j 1).val) * silu' (Z (j 0).val (j 1).val) := by
  unfold k0_pay19 k0_pay17 k0_pay16 k0_pay15 k0_pay14 silu silu' sg
  funext j
  idx_vars j
  pointwise [zero_sub]

/-- The scale's gradient: the block's sum is added to what was there. -/
theorem scale_block : k0_pay1 (F := Ideal) (fun j : S512x1024.Idx => N (j 0).val (j 1).val) (fun j : S512x1024.Idx => P (j 0).val (j 1).val) (k0_pay20 (fun j : S1x1024.Idx => S (j 1).val))
    = fun j : S1x1024.Idx => S (j 1).val + ∑ r ∈ Finset.range 512, P r (j 1).val * N r (j 1).val := by
  unfold k0_pay1 k0_pay20
  funext j
  idx_vars j
  pointwise
  simp only [← Fin.sum_univ_eq_sum_range]

/-- The shift's gradient. -/
theorem shift_block : k0_pay2 (F := Ideal) (fun j : S512x1024.Idx => P (j 0).val (j 1).val) (fun j : S1x1024.Idx => S (j 1).val)
    = fun j : S1x1024.Idx => S (j 1).val + ∑ r ∈ Finset.range 512, P r (j 1).val := by
  unfold k0_pay2
  funext j
  idx_vars j
  pointwise
  simp only [← Fin.sum_univ_eq_sum_range]

/-- The rows' gradient. -/
theorem row_block : k0_pay3 (F := Ideal) (fun j : S512x1.Idx => rootInv (C (j 0).val)) (fun j : S512x1024.Idx => normed (C (j 0).val) (j 1).val)
      (fun j : S512x1024.Idx => P (j 0).val (j 1).val) (fun j : S1x1024.Idx => G (j 1).val)
    = fun j : S512x1024.Idx => throughLayer (C (j 0).val) (fun e => P (j 0).val e * G e) (j 1).val := by
  unfold k0_pay3
  funext j
  idx_vars j
  pointwise
  unfold throughLayer mean
  simp only [← Fin.sum_univ_eq_sum_range]

end Cert.Gates
end
-- ==== Proof.GateInputs.lean ====
module
public import proofs.«01_k».proof.Proof.GateSpec
public import proofs.«01_k».proof.Proof.NormInputs
public import proofs.«01_k».proof.Proof.Gen.GateGradIdeal.Frame
public import Idealize.ShloMosaic.Lib.Pipeline.Value
public import Idealize.ShloMosaic.Lib.Pipeline.ValueKit
public import Idealize.ShloMosaic.PureOps.Ideal.Laws
@[expose] public section
set_option maxRecDepth 16384
noncomputable section
/-! The blocks the body finds at a point, as rows of the whole arrays. -/

namespace Cert.Gates
open Cert.GateGradIdeal Cert.GateGradIdeal.Gen
open Idealize.ShloMosaic Idealize.ShloMosaic.TcCoe Idealize.ShloMosaic.Tactic
open Idealize.SL.Sem
open Cert.ConvGrad (at2 at2_at)
open Cert.NormGrad (hz2)
variable (m : (ℓ : Loc nD τ sig) → Buf (Elt Ideal) ℓ) (c : Dev nD) (t : Fin cfg0.N)

/-- The seven arrays the region reads: the incoming gradient, the output projection, the gates' product, the rows under
    the layer norm, the projection that holds the gate's input, the layer norm's scale and its shift. -/
abbrev inD : (⟨2, ![8192, 1024]⟩ : Shape).Idx → EReal := V m c main_arg0
abbrev inW : (⟨2, ![1024, 1024]⟩ : Shape).Idx → EReal := V m c main_arg1
abbrev inY : (⟨2, ![8192, 1024]⟩ : Shape).Idx → EReal := V m c main_v25
abbrev inC : (⟨2, ![8192, 1024]⟩ : Shape).Idx → EReal := V m c main_arg2
abbrev inQ : (⟨2, ![8192, 3072]⟩ : Shape).Idx → EReal := V m c main_arg3
abbrev inG : (⟨2, ![1, 1024]⟩ : Shape).Idx → EReal := V m c main_arg4
abbrev inB : (⟨2, ![1, 1024]⟩ : Shape).Idx → EReal := V m c main_arg5

theorem index_0 : win0_0.index t 0 = t.val ∧ win0_0.index t 1 = 0 := (by decide +kernel : ∀ t : Fin grid0.N, win0_0.index t 0 = t.val ∧ win0_0.index t 1 = 0) t
theorem index_1 : win0_1.index t 0 = 0 ∧ win0_1.index t 1 = 0 := (by decide +kernel : ∀ t : Fin grid0.N, win0_1.index t 0 = 0 ∧ win0_1.index t 1 = 0) t
theorem index_2 : win0_2.index t 0 = t.val ∧ win0_2.index t 1 = 0 := (by decide +kernel : ∀ t : Fin grid0.N, win0_2.index t 0 = t.val ∧ win0_2.index t 1 = 0) t
theorem index_3 : win0_3.index t 0 = t.val ∧ win0_3.index t 1 = 0 := (by decide +kernel : ∀ t : Fin grid0.N, win0_3.index t 0 = t.val ∧ win0_3.index t 1 = 0) t
theorem index_4 : win0_4.index t 0 = t.val ∧ win0_4.index t 1 = 2 := (by decide +kernel : ∀ t : Fin grid0.N, win0_4.index t 0 = t.val ∧ win0_4.index t 1 = 2) t
theorem index_5 : win0_5.index t 0 = 0 ∧ win0_5.index t 1 = 0 := (by decide +kernel : ∀ t : Fin grid0.N, win0_5.index t 0 = 0 ∧ win0_5.index t 1 = 0) t
theorem index_6 : win0_6.index t 0 = 0 ∧ win0_6.index t 1 = 0 := (by decide +kernel : ∀ t : Fin grid0.N, win0_6.index t 0 = 0 ∧ win0_6.index t 1 = 0) t
theorem index_7 : win0_7.index t 0 = t.val ∧ win0_7.index t 1 = 0 := (by decide +kernel : ∀ t : Fin grid0.N, win0_7.index t 0 = t.val ∧ win0_7.index t 1 = 0) t
theorem index_8 : win0_8.index t 0 = t.val ∧ win0_8.index t 1 = 0 := (by decide +kernel : ∀ t : Fin grid0.N, win0_8.index t 0 = t.val ∧ win0_8.index t 1 = 0) t
theorem index_9 : win0_9.index t 0 = 0 ∧ win0_9.index t 1 = 0 := (by decide +kernel : ∀ t : Fin grid0.N, win0_9.index t 0 = 0 ∧ win0_9.index t 1 = 0) t
theorem index_10 : win0_10.index t 0 = 0 ∧ win0_10.index t 1 = 0 := (by decide +kernel : ∀ t : Fin grid0.N, win0_10.index t 0 = 0 ∧ win0_10.index t 1 = 0) t
theorem index_11 : win0_11.index t 0 = 0 ∧ win0_11.index t 1 = 0 := (by decide +kernel : ∀ t : Fin grid0.N, win0_11.index t 0 = 0 ∧ win0_11.index t 1 = 0) t

/-- Window 0 at a point. -/
theorem load_0 : View.readAt (Elt Ideal) (ms0_0 t).view (Rect.unit (s := S512x1024) ![0, 0] S512x1024.size inb_S512x1024_S512x1024_0_0).toLoadRect ((hs0_0 t).unread (iblk m c 0 t))
    = fun j : S512x1024.Idx => at2 (inD m c) (512 * t.val + (j 0).val) ((j 1).val) := by
  have h : (iblk m c 0 t : Vec Ideal S512x1024 .f32) = fun j => at2 (inD m c) (512 * t.val + (j 0).val) ((j 1).val) := by
    obtain ⟨i0, i1⟩ := index_0 t
    funext j
    unfold iblk
    rw [View.read_apply]
    refine at2_at (inD m c) _ _ _ ?_ ?_
    · show win0_0.index t 0 * 512 + 1 * (j 0).val = _
      rw [i0]; omega
    · show win0_0.index t 1 * 1024 + 1 * (j 1).val = _
      rw [i1]; omega
  rw [View.readAt_eq_ld, (hs0_0 t).read_unread, View.ld_unit_zero (S := S512x1024) hz2]
  exact h

/-- Window 1 at a point. -/
theorem load_1 : View.readAt (Elt Ideal) (ms0_1 t).view (Rect.unit (s := S1024x1024) ![0, 0] S1024x1024.size inb_S1024x1024_S1024x1024_0_0).toLoadRect ((hs0_1 t).unread (iblk m c 1 t))
    = fun j : S1024x1024.Idx => at2 (inW m c) ((j 0).val) ((j 1).val) := by
  have h : (iblk m c 1 t : Vec Ideal S1024x1024 .bf16) = fun j => at2 (inW m c) ((j 0).val) ((j 1).val) := by
    obtain ⟨i0, i1⟩ := index_1 t
    funext j
    unfold iblk
    rw [View.read_apply]
    refine at2_at (inW m c) _ _ _ ?_ ?_
    · show win0_1.index t 0 * 1024 + 1 * (j 0).val = _
      rw [i0]; omega
    · show win0_1.index t 1 * 1024 + 1 * (j 1).val = _
      rw [i1]; omega
  rw [View.readAt_eq_ld, (hs0_1 t).read_unread, View.ld_unit_zero (S := S1024x1024) hz2]
  exact h

/-- Window 2 at a point. -/
theorem load_2 : View.readAt (Elt Ideal) (ms0_2 t).view (Rect.unit (s := S512x1024) ![0, 0] S512x1024.size inb_S512x1024_S512x1024_0_0).toLoadRect ((hs0_2 t).unread (iblk m c 2 t))
    = fun j : S512x1024.Idx => at2 (inY m c) (512 * t.val + (j 0).val) ((j 1).val) := by
  have h : (iblk m c 2 t : Vec Ideal S512x1024 .bf16) = fun j => at2 (inY m c) (512 * t.val + (j 0).val) ((j 1).val) := by
    obtain ⟨i0, i1⟩ := index_2 t
    funext j
    unfold iblk
    rw [View.read_apply]
    refine at2_at (inY m c) _ _ _ ?_ ?_
    · show win0_2.index t 0 * 512 + 1 * (j 0).val = _
      rw [i0]; omega
    · show win0_2.index t 1 * 1024 + 1 * (j 1).val = _
      rw [i1]; omega
  rw [View.readAt_eq_ld, (hs0_2 t).read_unread, View.ld_unit_zero (S := S512x1024) hz2]
  exact h

/-- Window 3 at a point. -/
theorem load_3 : View.readAt (Elt Ideal) (ms0_3 t).view (Rect.unit (s := S512x1024) ![0, 0] S512x1024.size inb_S512x1024_S512x1024_0_0).toLoadRect ((hs0_3 t).unread (iblk m c 3 t))
    = fun j : S512x1024.Idx => at2 (inC m c) (512 * t.val + (j 0).val) ((j 1).val) := by
  have h : (iblk m c 3 t : Vec Ideal S512x1024 .f32) = fun j => at2 (inC m c) (512 * t.val + (j 0).val) ((j 1).val) := by
    obtain ⟨i0, i1⟩ := index_3 t
    funext j
    unfold iblk
    rw [View.read_apply]
    refine at2_at (inC m c) _ _ _ ?_ ?_
    · show win0_3.index t 0 * 512 + 1 * (j 0).val = _
      rw [i0]; omega
    · show win0_3.index t 1 * 1024 + 1 * (j 1).val = _
      rw [i1]; omega
  rw [View.readAt_eq_ld, (hs0_3 t).read_unread, View.ld_unit_zero (S := S512x1024) hz2]
  exact h

/-- Window 4 at a point. -/
theorem load_4 : View.readAt (Elt Ideal) (ms0_4 t).view (Rect.unit (s := S512x1024) ![0, 0] S512x1024.size inb_S512x1024_S512x1024_0_0).toLoadRect ((hs0_4 t).unread (iblk m c 4 t))
    = fun j : S512x1024.Idx => at2 (inQ m c) (512 * t.val + (j 0).val) (2048 + (j 1).val) := by
  have h : (iblk m c 4 t : Vec Ideal S512x1024 .bf16) = fun j => at2 (inQ m c) (512 * t.val + (j 0).val) (2048 + (j 1).val) := by
    obtain ⟨i0, i1⟩ := index_4 t
    funext j
    unfold iblk
    rw [View.read_apply]
    refine at2_at (inQ m c) _ _ _ ?_ ?_
    · show win0_4.index t 0 * 512 + 1 * (j 0).val = _
      rw [i0]; omega
    · show win0_4.index t 1 * 1024 + 1 * (j 1).val = _
      rw [i1]; omega
  rw [View.readAt_eq_ld, (hs0_4 t).read_unread, View.ld_unit_zero (S := S512x1024) hz2]
  exact h

/-- Window 5 at a point. -/
theorem load_5 : View.readAt (Elt Ideal) (ms0_5 t).view (Rect.unit (s := S1x1024) ![0, 0] S1x1024.size inb_S1x1024_S1x1024_0_0).toLoadRect ((hs0_5 t).unread (iblk m c 5 t))
    = fun j : S1x1024.Idx => at2 (inG m c) 0 ((j 1).val) := by
  have h : (iblk m c 5 t : Vec Ideal S1x1024 .f32) = fun j => at2 (inG m c) 0 ((j 1).val) := by
    obtain ⟨i0, i1⟩ := index_5 t
    funext j
    unfold iblk
    rw [View.read_apply]
    have hj : (j 0).val = 0 := Nat.lt_one_iff.mp (j 0).isLt
    refine at2_at (inG m c) _ _ _ ?_ ?_
    · show win0_5.index t 0 * 1 + 1 * (j 0).val = _
      rw [i0, hj]
    · show win0_5.index t 1 * 1024 + 1 * (j 1).val = _
      rw [i1]; omega
  rw [View.readAt_eq_ld, (hs0_5 t).read_unread, View.ld_unit_zero (S := S1x1024) hz2]
  exact h

/-- Window 6 at a point. -/
theorem load_6 : View.readAt (Elt Ideal) (ms0_6 t).view (Rect.unit (s := S1x1024) ![0, 0] S1x1024.size inb_S1x1024_S1x1024_0_0).toLoadRect ((hs0_6 t).unread (iblk m c 6 t))
    = fun j : S1x1024.Idx => at2 (inB m c) 0 ((j 1).val) := by
  have h : (iblk m c 6 t : Vec Ideal S1x1024 .f32) = fun j => at2 (inB m c) 0 ((j 1).val) := by
    obtain ⟨i0, i1⟩ := index_6 t
    funext j
    unfold iblk
    rw [View.read_apply]
    have hj : (j 0).val = 0 := Nat.lt_one_iff.mp (j 0).isLt
    refine at2_at (inB m c) _ _ _ ?_ ?_
    · show win0_6.index t 0 * 1 + 1 * (j 0).val = _
      rw [i0, hj]
    · show win0_6.index t 1 * 1024 + 1 * (j 1).val = _
      rw [i1]; omega
  rw [View.readAt_eq_ld, (hs0_6 t).read_unread, View.ld_unit_zero (S := S1x1024) hz2]
  exact h

end Cert.Gates
end
-- ==== Proof.GateOutputs.lean ====
module
public import proofs.«01_k».proof.Proof.GateBody
public import proofs.«01_k».proof.Proof.GateInputs
public import proofs.«01_k».proof.Proof.Gen.GateGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! What a point leaves in the blocks of the five gradients. -/

namespace Cert.Gates
open Cert.GateGradIdeal Cert.GateGradIdeal.Gen
open Idealize.ShloMosaic Idealize.ShloMosaic.TcCoe Idealize.ShloMosaic.Tactic
open Idealize.SL.Sem
open Cert.ConvGrad (at2)
open Cert.NormGrad (hz2)
variable (m : (ℓ : Loc nD τ sig) → Buf (Elt Ideal) ℓ) (c : Dev nD) (t : Fin cfg0.N)

/-- The blocks as the body loads them. -/
abbrev got0 : Vec Ideal S512x1024 .f32 := View.readAt (Elt Ideal) (ms0_0 t).view (Rect.unit (s := S512x1024) ![0, 0] S512x1024.size inb_S512x1024_S512x1024_0_0).toLoadRect ((hs0_0 t).unread (iblk m c 0 t))
abbrev got1 : Vec Ideal S1024x1024 .bf16 := View.readAt (Elt Ideal) (ms0_1 t).view (Rect.unit (s := S1024x1024) ![0, 0] S1024x1024.size inb_S1024x1024_S1024x1024_0_0).toLoadRect ((hs0_1 t).unread (iblk m c 1 t))
abbrev got2 : Vec Ideal S512x1024 .bf16 := View.readAt (Elt Ideal) (ms0_2 t).view (Rect.unit (s := S512x1024) ![0, 0] S512x1024.size inb_S512x1024_S512x1024_0_0).toLoadRect ((hs0_2 t).unread (iblk m c 2 t))
abbrev got3 : Vec Ideal S512x1024 .f32 := View.readAt (Elt Ideal) (ms0_3 t).view (Rect.unit (s := S512x1024) ![0, 0] S512x1024.size inb_S512x1024_S512x1024_0_0).toLoadRect ((hs0_3 t).unread (iblk m c 3 t))
abbrev got4 : Vec Ideal S512x1024 .bf16 := View.readAt (Elt Ideal) (ms0_4 t).view (Rect.unit (s := S512x1024) ![0, 0] S512x1024.size inb_S512x1024_S512x1024_0_0).toLoadRect ((hs0_4 t).unread (iblk m c 4 t))
abbrev got5 : Vec Ideal S1x1024 .f32 := View.readAt (Elt Ideal) (ms0_5 t).view (Rect.unit (s := S1x1024) ![0, 0] S1x1024.size inb_S1x1024_S1x1024_0_0).toLoadRect ((hs0_5 t).unread (iblk m c 5 t))
abbrev got6 : Vec Ideal S1x1024 .f32 := View.readAt (Elt Ideal) (ms0_6 t).view (Rect.unit (s := S1x1024) ![0, 0] S1x1024.size inb_S1x1024_S1x1024_0_0).toLoadRect ((hs0_6 t).unread (iblk m c 6 t))

/-- The rows of a block: the incoming gradient, the gates' product, the rows under the norm, the gate's input. -/
abbrev rowD (r e : ℕ) : EReal := at2 (inD m c) (512 * t.val + r) e
abbrev rowY (r e : ℕ) : EReal := at2 (inY m c) (512 * t.val + r) e
abbrev rowC (r e : ℕ) : EReal := at2 (inC m c) (512 * t.val + r) e
abbrev rowZ (r e : ℕ) : EReal := at2 (inQ m c) (512 * t.val + r) (2048 + e)
/-- The gradients of a block: of the gates' product and of the scaled row. -/
abbrev rowO (r e : ℕ) : EReal := dOut (inD m c) (inW m c) (512 * t.val + r) e
abbrev rowL (r e : ℕ) : EReal := dLifted (inD m c) (inW m c) (inC m c) (inQ m c) (inG m c) (inB m c) (512 * t.val + r) e

theorem got0_eq : got0 m c t = fun j : S512x1024.Idx => rowD m c t (j 0).val (j 1).val := load_0 m c t
theorem got1_eq : got1 m c t = fun j : S1024x1024.Idx => at2 (inW m c) (j 0).val (j 1).val := load_1 m c t
theorem got3_eq : got3 m c t = fun j : S512x1024.Idx => rowC m c t (j 0).val (j 1).val := load_3 m c t
theorem got4_eq : got4 m c t = fun j : S512x1024.Idx => rowZ m c t (j 0).val (j 1).val := load_4 m c t
theorem got5_eq : got5 m c t = fun j : S1x1024.Idx => at2 (inG m c) 0 (j 1).val := load_5 m c t
theorem got6_eq : got6 m c t = fun j : S1x1024.Idx => at2 (inB m c) 0 (j 1).val := load_6 m c t

theorem product_left : k0_pay8 (F := Ideal) (got0 m c t) (got1 m c t) = fun j : S512x1024.Idx => rowO m c t (j 0).val (j 1).val := by
  rw [got0_eq, got1_eq]
  exact product_block (rowD m c t) (at2 (inW m c))

theorem root_left : k0_pay11 (F := Ideal) (got3 m c t) = fun j : S512x1.Idx => rootInv (rowC m c t (j 0).val) := by
  rw [got3_eq]
  exact root_block (rowC m c t)

theorem normed_left : k0_pay12 (F := Ideal) (got3 m c t) = fun j : S512x1024.Idx => normed (rowC m c t (j 0).val) (j 1).val := by
  rw [got3_eq]
  exact normed_block (rowC m c t)

theorem scaled_left : k0_pay13 (F := Ideal) (got3 m c t) (got5 m c t) = fun j : S512x1024.Idx => normed (rowC m c t (j 0).val) (j 1).val * at2 (inG m c) 0 (j 1).val := by
  rw [got3_eq, got5_eq]
  exact scaled_block (rowC m c t) (at2 (inG m c) 0)

theorem lifted_left : k0_pay18 (F := Ideal) (k0_pay8 (got0 m c t) (got1 m c t)) (k0_pay13 (got3 m c t) (got5 m c t)) (got6 m c t) (got4 m c t)
    = fun j : S512x1024.Idx => rowL m c t (j 0).val (j 1).val := by
  rw [product_left, scaled_left, got6_eq, got4_eq]
  exact lifted_block (rowZ m c t) (rowO m c t) (fun r e => normed (rowC m c t r) e * at2 (inG m c) 0 e) (at2 (inB m c) 0)

theorem gate_left : k0_pay19 (F := Ideal) (k0_pay8 (got0 m c t) (got1 m c t)) (k0_pay13 (got3 m c t) (got5 m c t)) (got6 m c t) (got4 m c t)
    = fun j : S512x1024.Idx => dGate2 (inD m c) (inW m c) (inC m c) (inQ m c) (inG m c) (inB m c) (512 * t.val + (j 0).val) (j 1).val := by
  rw [product_left, scaled_left, got6_eq, got4_eq]
  exact gate_block (rowZ m c t) (rowO m c t) (fun r e => normed (rowC m c t r) e * at2 (inG m c) 0 e) (at2 (inB m c) 0)

theorem row_left : k0_pay3 (F := Ideal) (k0_pay11 (got3 m c t)) (k0_pay12 (got3 m c t))
      (k0_pay18 (k0_pay8 (got0 m c t) (got1 m c t)) (k0_pay13 (got3 m c t) (got5 m c t)) (got6 m c t) (got4 m c t)) (got5 m c t)
    = fun j : S512x1024.Idx => dRow (inD m c) (inW m c) (inC m c) (inQ m c) (inG m c) (inB m c) (512 * t.val + (j 0).val) (j 1).val := by
  rw [root_left, normed_left, lifted_left, got5_eq]
  exact row_block (rowC m c t) (rowL m c t) (at2 (inG m c) 0)

theorem out_row : (outsAt0 m c t.val t.isLt).1 = fun j : S512x1024.Idx => dRow (inD m c) (inW m c) (inC m c) (inQ m c) (inG m c) (inB m c) (512 * t.val + (j 0).val) (j 1).val := by
  by_cases h0 : t.val % 16 = 0
  · rw [outsAt0_A m c t h0]; dsimp only; unfold out0_A_7
    unfold kernelRun0_A; dsimp only
    sl_unfold_words
    rw [View.read_writes_junk_eq_canon, View.canon_cons_unit_zero (S := S512x1024) hz2]
    exact row_left m c t
  · rw [outsAt0_B m c t h0]; dsimp only; unfold out0_B_7
    unfold kernelRun0_B; dsimp only
    sl_unfold_words
    rw [View.read_writes_junk_eq_canon, View.canon_cons_unit_zero (S := S512x1024) hz2]
    exact row_left m c t

theorem out_gate : (outsAt0 m c t.val t.isLt).2.1 = fun j : S512x1024.Idx => dGate2 (inD m c) (inW m c) (inC m c) (inQ m c) (inG m c) (inB m c) (512 * t.val + (j 0).val) (j 1).val := by
  by_cases h0 : t.val % 16 = 0
  · rw [outsAt0_A m c t h0]; dsimp only; unfold out0_A_8
    unfold kernelRun0_A; dsimp only
    sl_unfold_words
    rw [View.read_writes_junk_eq_canon, View.canon_cons_unit_zero (S := S512x1024) hz2]
    exact gate_left m c t
  · rw [outsAt0_B m c t h0]; dsimp only; unfold out0_B_8
    unfold kernelRun0_B; dsimp only
    sl_unfold_words
    rw [View.read_writes_junk_eq_canon, View.canon_cons_unit_zero (S := S512x1024) hz2]
    exact gate_left m c t

theorem zero_weight : k0_pay4 (F := Ideal) = fun j : S1024x1024.Idx => 0 := by
  unfold k0_pay4
  funext j
  pointwise

theorem out_weight_first (h0 : t.val % 16 = 0) : (outsAt0 m c t.val t.isLt).2.2.1 = fun j : S1024x1024.Idx => ∑ r ∈ Finset.range 512, rowY m c t r (j 0).val * rowD m c t r (j 1).val := by
  rw [outsAt0_A m c t h0]; dsimp only; unfold out0_A_9
  unfold kernelRun0_A; dsimp only
  sl_unfold_words
  rw [View.read_writes_junk_eq_canon, View.canon_cons_unit_zero (S := S1024x1024) hz2, View.readCov_unit_zero (S := S1024x1024) _ hz2, zero_weight]
  rw [load_0, load_2]
  exact (weight_block (rowD m c t) (rowY m c t) (fun _ _ => 0)).trans (funext fun j => zero_add _)

theorem out_weight_next (h0 : ¬ t.val % 16 = 0) (A : ℕ → ℕ → EReal)
    (hA : (outsAt0 m c (t.val - 1) (Nat.lt_of_le_of_lt (Nat.sub_le _ _) t.isLt)).2.2.1 = fun j : S1024x1024.Idx => A (j 0).val (j 1).val) :
    (outsAt0 m c t.val t.isLt).2.2.1 = fun j : S1024x1024.Idx => A (j 0).val (j 1).val + ∑ r ∈ Finset.range 512, rowY m c t r (j 0).val * rowD m c t r (j 1).val := by
  rw [outsAt0_B m c t h0]; dsimp only; unfold out0_B_9
  unfold kernelRun0_B; dsimp only
  sl_unfold_words
  rw [View.read_writes_junk_eq_canon, View.canon_cons_unit_zero (S := S1024x1024) hz2]
  rw [load_0, load_2]
  rw [View.readAt_eq_ld, (hs0_9 t).read_unread, View.ld_unit_zero (S := S1024x1024) hz2, hA]
  exact weight_block (rowD m c t) (rowY m c t) A

theorem zero_scale : k0_pay5 (F := Ideal) = fun j : S1x1024.Idx => 0 := by
  unfold k0_pay5
  funext j
  pointwise

theorem out_scale_first (h0 : t.val % 16 = 0) : (outsAt0 m c t.val t.isLt).2.2.2.1 = fun j : S1x1024.Idx => ∑ r ∈ Finset.range 512, rowL m c t r (j 1).val * normed (rowC m c t r) (j 1).val := by
  rw [outsAt0_A m c t h0]; dsimp only; unfold out0_A_10
  unfold kernelRun0_A; dsimp only
  sl_unfold_words
  rw [View.read_writes_junk_eq_canon, View.canon_cons_unit_zero (S := S1x1024) hz2, View.readCov_unit_zero (S := S1x1024) _ hz2, zero_scale]
  rw [lifted_left, normed_left]
  exact (scale_block (rowL m c t) (fun r e => normed (rowC m c t r) e) (fun _ => 0)).trans (funext fun j => zero_add _)

theorem out_scale_next (h0 : ¬ t.val % 16 = 0) (A : ℕ → EReal)
    (hA : (outsAt0 m c (t.val - 1) (Nat.lt_of_le_of_lt (Nat.sub_le _ _) t.isLt)).2.2.2.1 = fun j : S1x1024.Idx => A (j 1).val) :
    (outsAt0 m c t.val t.isLt).2.2.2.1 = fun j : S1x1024.Idx => A (j 1).val + ∑ r ∈ Finset.range 512, rowL m c t r (j 1).val * normed (rowC m c t r) (j 1).val := by
  rw [outsAt0_B m c t h0]; dsimp only; unfold out0_B_10
  unfold kernelRun0_B; dsimp only
  sl_unfold_words
  rw [View.read_writes_junk_eq_canon, View.canon_cons_unit_zero (S := S1x1024) hz2]
  rw [lifted_left, normed_left]
  rw [View.readAt_eq_ld, (hs0_10 t).read_unread, View.ld_unit_zero (S := S1x1024) hz2, hA]
  exact scale_block (rowL m c t) (fun r e => normed (rowC m c t r) e) A

theorem zero_shift : k0_pay6 (F := Ideal) = fun j : S1x1024.Idx => 0 := by
  unfold k0_pay6
  funext j
  pointwise

theorem out_shift_first (h0 : t.val % 16 = 0) : (outsAt0 m c t.val t.isLt).2.2.2.2 = fun j : S1x1024.Idx => ∑ r ∈ Finset.range 512, rowL m c t r (j 1).val := by
  rw [outsAt0_A m c t h0]; dsimp only; unfold out0_A_11
  unfold kernelRun0_A; dsimp only
  sl_unfold_words
  rw [View.read_writes_junk_eq_canon, View.canon_cons_unit_zero (S := S1x1024) hz2, View.readCov_unit_zero (S := S1x1024) _ hz2, zero_shift]
  rw [lifted_left]
  exact (shift_block (rowL m c t) (fun _ => 0)).trans (funext fun j => zero_add _)

theorem out_shift_next (h0 : ¬ t.val % 16 = 0) (A : ℕ → EReal)
    (hA : (outsAt0 m c (t.val - 1) (Nat.lt_of_le_of_lt (Nat.sub_le _ _) t.isLt)).2.2.2.2 = fun j : S1x1024.Idx => A (j 1).val) :
    (outsAt0 m c t.val t.isLt).2.2.2.2 = fun j : S1x1024.Idx => A (j 1).val + ∑ r ∈ Finset.range 512, rowL m c t r (j 1).val := by
  rw [outsAt0_B m c t h0]; dsimp only; unfold out0_B_11
  unfold kernelRun0_B; dsimp only
  sl_unfold_words
  rw [View.read_writes_junk_eq_canon, View.canon_cons_unit_zero (S := S1x1024) hz2]
  rw [lifted_left]
  rw [View.readAt_eq_ld, (hs0_11 t).read_unread, View.ld_unit_zero (S := S1x1024) hz2, hA]
  exact shift_block (rowL m c t) A

end Cert.Gates
end
-- ==== Proof.GateFinal.lean ====
module
public import proofs.«01_k».proof.Proof.GateOutputs
public import proofs.«01_k».proof.Proof.Gen.GateGradIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! The five gradients once every block has run. -/

namespace Cert.Gates
open Cert.GateGradIdeal Cert.GateGradIdeal.Gen
open Idealize.ShloMosaic Idealize.ShloMosaic.TcCoe Idealize.ShloMosaic.Tactic
open Idealize.SL.Sem
open Cert.ConvGrad (at2)
variable (m : (ℓ : Loc nD τ sig) → Buf (Elt Ideal) ℓ) (c : Dev nD)

/-- What the block starting at row `512 i` adds to the gradients of the projection, of the scale and of the shift. -/
abbrev blockProj (i e k : ℕ) : EReal := ∑ r ∈ Finset.range 512, at2 (inY m c) (512 * i + r) e * at2 (inD m c) (512 * i + r) k
abbrev blockScale (i e : ℕ) : EReal := ∑ r ∈ Finset.range 512, dLifted (inD m c) (inW m c) (inC m c) (inQ m c) (inG m c) (inB m c) (512 * i + r) e * normed (at2 (inC m c) (512 * i + r)) e
abbrev blockShift (i e : ℕ) : EReal := ∑ r ∈ Finset.range 512, dLifted (inD m c) (inW m c) (inC m c) (inQ m c) (inG m c) (inB m c) (512 * i + r) e

/-- The running gradient of the projection after point `n`. -/
theorem weight_after : ∀ (n : ℕ) (h : n < cfg0.N), (outsAt0 m c n h).2.2.1 = fun j : S1024x1024.Idx => (fun e k => ∑ p ∈ Finset.range (n + 1), blockProj m c p e k) (j 0).val (j 1).val
  | 0, h => by
    refine (out_weight_first m c ⟨0, h⟩ rfl).trans (funext fun j => ?_)
    simp only [Nat.zero_add, Finset.sum_range_one]
  | n + 1, h => by
    have hN : n + 1 < 16 := h
    refine (out_weight_next m c ⟨n + 1, h⟩ (by show ¬(n + 1) % 16 = 0; omega) (fun e k => ∑ p ∈ Finset.range (n + 1), blockProj m c p e k) (weight_after n (Nat.lt_of_succ_lt h))).trans (funext fun j => ?_)
    dsimp only
    rw [Finset.sum_range_succ _ (n + 1)]

/-- The running gradient of the scale after point `n`. -/
theorem scale_after : ∀ (n : ℕ) (h : n < cfg0.N), (outsAt0 m c n h).2.2.2.1 = fun j : S1x1024.Idx => (fun e => ∑ p ∈ Finset.range (n + 1), blockScale m c p e) (j 1).val
  | 0, h => by
    refine (out_scale_first m c ⟨0, h⟩ rfl).trans (funext fun j => ?_)
    simp only [Nat.zero_add, Finset.sum_range_one]
  | n + 1, h => by
    have hN : n + 1 < 16 := h
    refine (out_scale_next m c ⟨n + 1, h⟩ (by show ¬(n + 1) % 16 = 0; omega) (fun e => ∑ p ∈ Finset.range (n + 1), blockScale m c p e) (scale_after n (Nat.lt_of_succ_lt h))).trans (funext fun j => ?_)
    dsimp only
    rw [Finset.sum_range_succ _ (n + 1)]

/-- The running gradient of the shift after point `n`. -/
theorem shift_after : ∀ (n : ℕ) (h : n < cfg0.N), (outsAt0 m c n h).2.2.2.2 = fun j : S1x1024.Idx => (fun e => ∑ p ∈ Finset.range (n + 1), blockShift m c p e) (j 1).val
  | 0, h => by
    refine (out_shift_first m c ⟨0, h⟩ rfl).trans (funext fun j => ?_)
    simp only [Nat.zero_add, Finset.sum_range_one]
  | n + 1, h => by
    have hN : n + 1 < 16 := h
    refine (out_shift_next m c ⟨n + 1, h⟩ (by show ¬(n + 1) % 16 = 0; omega) (fun e => ∑ p ∈ Finset.range (n + 1), blockShift m c p e) (shift_after n (Nat.lt_of_succ_lt h))).trans (funext fun j => ?_)
    dsimp only
    rw [Finset.sum_range_succ _ (n + 1)]

theorem final_row : (dats m 0 c).arrAt 7 cfg0.N = fun i : S8192x1024.Idx => dRow (inD m c) (inW m c) (inC m c) (inQ m c) (inG m c) (inB m c) (i 0).val (i 1).val := by
  refine (dats m 0 c).arrAt_eq_of_covers 7 (fun i : S8192x1024.Idx => dRow (inD m c) (inW m c) (inC m c) (inQ m c) (inG m c) (inB m c) (i 0).val (i 1).val) ?_ ?_
  · decide +kernel
  · intro t _ y
    show (dats m 0 c).after 7 t y = dRow (inD m c) (inW m c) (inC m c) (inQ m c) (inG m c) (inB m c) (win0_7.index t 0 * 512 + 1 * (y 0).val) (win0_7.index t 1 * 1024 + 1 * (y 1).val)
    rw [after0_7, out_row, (index_7 t).1, (index_7 t).2]
    simp only [Nat.one_mul, Nat.zero_mul, Nat.zero_add, Nat.mul_comm]

theorem final_gate : (dats m 0 c).arrAt 8 cfg0.N = fun i : S8192x1024.Idx => dGate2 (inD m c) (inW m c) (inC m c) (inQ m c) (inG m c) (inB m c) (i 0).val (i 1).val := by
  refine (dats m 0 c).arrAt_eq_of_covers 8 (fun i : S8192x1024.Idx => dGate2 (inD m c) (inW m c) (inC m c) (inQ m c) (inG m c) (inB m c) (i 0).val (i 1).val) ?_ ?_
  · decide +kernel
  · intro t _ y
    show (dats m 0 c).after 8 t y = dGate2 (inD m c) (inW m c) (inC m c) (inQ m c) (inG m c) (inB m c) (win0_8.index t 0 * 512 + 1 * (y 0).val) (win0_8.index t 1 * 1024 + 1 * (y 1).val)
    rw [after0_8, out_gate, (index_8 t).1, (index_8 t).2]
    simp only [Nat.one_mul, Nat.zero_mul, Nat.zero_add, Nat.mul_comm]

theorem final_weight : (dats m 0 c).arrAt 9 cfg0.N = fun i : S1024x1024.Idx => (fun e k => ∑ p ∈ Finset.range 16, blockProj m c p e k) (i 0).val (i 1).val := by
  refine (dats m 0 c).arrAt_eq_of_covers 9 (fun i : S1024x1024.Idx => (fun e k => ∑ p ∈ Finset.range 16, blockProj m c p e k) (i 0).val (i 1).val) ?_ ?_
  · decide +kernel
  · intro t ht y
    have hN : t.val < 16 := t.isLt
    have h15 := (flush0_9 t).mp ht
    obtain rfl : t = ⟨15, by decide⟩ := Fin.ext (by show t.val = 15; omega)
    show (dats m 0 c).after 9 _ y = (fun e k => ∑ p ∈ Finset.range 16, blockProj m c p e k) (win0_9.index _ 0 * 1024 + 1 * (y 0).val) (win0_9.index _ 1 * 1024 + 1 * (y 1).val)
    rw [after0_9, weight_after, (index_9 _).1, (index_9 _).2]
    simp only [Nat.one_mul, Nat.zero_mul, Nat.zero_add]

theorem final_scale : (dats m 0 c).arrAt 10 cfg0.N = fun i : S1x1024.Idx => (fun e => ∑ p ∈ Finset.range 16, blockScale m c p e) (i 1).val := by
  refine (dats m 0 c).arrAt_eq_of_covers 10 (fun i : S1x1024.Idx => (fun e => ∑ p ∈ Finset.range 16, blockScale m c p e) (i 1).val) ?_ ?_
  · decide +kernel
  · intro t ht y
    have hN : t.val < 16 := t.isLt
    have h15 := (flush0_10 t).mp ht
    obtain rfl : t = ⟨15, by decide⟩ := Fin.ext (by show t.val = 15; omega)
    show (dats m 0 c).after 10 _ y = (fun e => ∑ p ∈ Finset.range 16, blockScale m c p e) (win0_10.index _ 1 * 1024 + 1 * (y 1).val)
    rw [after0_10, scale_after, (index_10 _).2]
    simp only [Nat.one_mul, Nat.zero_mul, Nat.zero_add]

theorem final_shift : (dats m 0 c).arrAt 11 cfg0.N = fun i : S1x1024.Idx => (fun e => ∑ p ∈ Finset.range 16, blockShift m c p e) (i 1).val := by
  refine (dats m 0 c).arrAt_eq_of_covers 11 (fun i : S1x1024.Idx => (fun e => ∑ p ∈ Finset.range 16, blockShift m c p e) (i 1).val) ?_ ?_
  · decide +kernel
  · intro t ht y
    have hN : t.val < 16 := t.isLt
    have h15 := (flush0_11 t).mp ht
    obtain rfl : t = ⟨15, by decide⟩ := Fin.ext (by show t.val = 15; omega)
    show (dats m 0 c).after 11 _ y = (fun e => ∑ p ∈ Finset.range 16, blockShift m c p e) (win0_11.index _ 1 * 1024 + 1 * (y 1).val)
    rw [after0_11, shift_after, (index_11 _).2]
    simp only [Nat.one_mul, Nat.zero_mul, Nat.zero_add]

end Cert.Gates
end
-- ==== Proof.GateRun.lean ====
module
public import proofs.«01_k».proof.Proof.GateFinal
public import proofs.«01_k».proof.Proof.NormRun
public import proofs.«01_k».proof.Proof.Gen.GateGradIdeal.Value
public import Idealize.ShloMosaic.Lib.Pipeline.Value
public import Idealize.ShloMosaic.Lib.Pipeline.ValueKit
public import Idealize.ShloMosaic.Lib.KernelVsHost
public import Idealize.ShloMosaic.Lib.Pointwise
public import Idealize.ShloMosaic.PureOps.Ideal.Laws
@[expose] public section
set_option maxRecDepth 16384
noncomputable section
/-! Every run of the kernel leaves the five gradients. -/

namespace Cert.Gates
open Cert.GateGradIdeal Cert.GateGradIdeal.Gen
open Idealize.ShloMosaic Idealize.ShloMosaic.TcCoe Idealize.ShloMosaic.Tactic
open Idealize.SL.Sem
open Cert.ConvGrad (at2 at2_ix2 at2_of_lt sg)
variable (m : (ℓ : Loc nD τ sig) → Buf (Elt Ideal) ℓ) (ρ : Dev nD → PrngReg) (c : Dev nD)

/-- The six arguments as launched. -/
abbrev arg0 : S8192x1024.Idx → EReal := m ((c : Thread nD τ).loc main_arg0)
abbrev arg1 : S1024x1024.Idx → EReal := m ((c : Thread nD τ).loc main_arg1)
abbrev arg2 : S8192x1024.Idx → EReal := m ((c : Thread nD τ).loc main_arg2)
abbrev arg3 : S8192x3072.Idx → EReal := m ((c : Thread nD τ).loc main_arg3)
abbrev arg4 : S1x1024.Idx → EReal := m ((c : Thread nD τ).loc main_arg4)
abbrev arg5 : S1x1024.Idx → EReal := m ((c : Thread nD τ).loc main_arg5)

theorem inD_eq : inD m c = arg0 m c := V_main_arg0 m c
theorem inW_eq : inW m c = arg1 m c := V_main_arg1 m c
theorem inC_eq : inC m c = arg2 m c := V_main_arg2 m c
theorem inQ_eq : inQ m c = arg3 m c := V_main_arg3 m c
theorem inG_eq : inG m c = arg4 m c := V_main_arg4 m c
theorem inB_eq : inB m c = arg5 m c := V_main_arg5 m c

section Host
variable (x : S8192x1024.Idx → EReal) (q : S8192x3072.Idx → EReal) (g b : S1x1024.Idx → EReal)

/-- The host's rows less their mean. -/
def hostCentred : FVec Ideal S8192x1024 .f32 :=
  subf x (broadcastInDim S8192x1024 ![0, 1] bcast_S8192x1_S8192x1024_0_1 (Host.divf
    (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))))

/-- The host's root of a row's variance, inverted. -/
def hostRoot (y : FVec Ideal S8192x1024 .f32) : FVec Ideal S8192x1 .f32 :=
  Host.rsqrt (addf (Host.divf
    (broadcastInDim S8192x1 ![0] bcast_S8192_S8192x1_0 (Host.reduceAdd (mulf y y) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x3727C5AC#32)))

/-- The host's normed rows, scaled and moved. -/
def hostLifted (y : FVec Ideal S8192x1024 .f32) : FVec Ideal S8192x1024 .f32 :=
  addf (mulf (mulf y (broadcastInDim S8192x1024 ![0, 1] bcast_S8192x1_S8192x1024_0_1 (hostRoot y)))
    (broadcastInDim S8192x1024 ![0, 1] bcast_S1x1024_S8192x1024_0_1 g)) (broadcastInDim S8192x1024 ![0, 1] bcast_S1x1024_S8192x1024_0_1 b)

/-- The host's gate. -/
def hostSilu (y : FVec Ideal S8192x1024 .f32) : FVec Ideal S8192x1024 .f32 :=
  mulf y (Host.divf (broadcastInDim S8192x1024 ![] bcast_S_S8192x1024 (constant S_ .f32 0x3F800000#32))
    (addf (broadcastInDim S8192x1024 ![] bcast_S_S8192x1024 (constant S_ .f32 0x3F800000#32)) (Host.exp (Host.negf y))))

theorem host_centred (r : Fin 8192) (e : Fin 1024) : hostCentred x (ix2 r e) = centred (at2 x r) e := by
  unfold hostCentred
  pointwise
  unfold centred mean
  rw [← Fin.sum_univ_eq_sum_range (fun k => at2 x r.val k) 1024]
  simp only [at2_ix2]

theorem host_root (r : Fin 8192) (u : Fin 1) : hostRoot (hostCentred x) (ix2 r u) = rootInv (at2 x r) := by
  unfold hostRoot
  pointwise
  simp only [host_centred]
  unfold rootInv spread
  rw [← Fin.sum_univ_eq_sum_range (fun k => centred (at2 x r.val) k * centred (at2 x r.val) k) 1024]

theorem host_lifted (r : Fin 8192) (e : Fin 1024) : hostLifted g b (hostCentred x) (ix2 r e) = lifted x g b r e := by
  unfold hostLifted
  pointwise
  rw [host_centred, host_root, ← at2_ix2 g, ← at2_ix2 b]
  rfl

theorem host_silu (y : FVec Ideal S8192x1024 .f32) (r : Fin 8192) (e : Fin 1024) : hostSilu y (ix2 r e) = silu (y (ix2 r e)) := by
  unfold hostSilu silu sg
  pointwise

/-- The product of the two gates the host makes before the kernel starts. -/
theorem host_product : inY m c = (truncf .bf16 · bitsLt_bf16_f32)
    (mulf (hostSilu (hostLifted (arg4 m c) (arg5 m c) (hostCentred (arg2 m c))))
      (hostSilu ((extf .f32 · bitsLt_bf16_f32) ((extractStridedSlice S8192x1024 ![0, 2048] · slices_S8192x3072_S8192x1024_0_2048) (arg3 m c))))) := by
  show StableHlo.after (List.flatten [hostOps0, hostOps0_1, hostOps0_2, hostOps0_3]) (fun b => m (c, b)) _ = _
  simp only [List.flatten_cons, List.flatten_nil, List.append_nil, List.cons_append, List.nil_append]
  after_results
  rfl

theorem product_at (r e : ℕ) (hr : r < 8192) (he : e < 1024) : at2 (inY m c) r e = gated2 (arg2 m c) (arg3 m c) (arg4 m c) (arg5 m c) r e := by
  rw [at2_of_lt _ _ _ hr he, host_product]
  pointwise
  rw [host_silu, host_silu, host_lifted]
  unfold gated2 gate
  pointwise
  rw [at2_of_lt (arg3 m c) _ _ hr (by omega)]

end Host

theorem row_eq (r e : ℕ) : dRow (inD m c) (inW m c) (inC m c) (inQ m c) (inG m c) (inB m c) r e = dRow (arg0 m c) (arg1 m c) (arg2 m c) (arg3 m c) (arg4 m c) (arg5 m c) r e := by
  rw [inD_eq, inW_eq, inC_eq, inQ_eq, inG_eq, inB_eq]

theorem gate_eq (r e : ℕ) : dGate2 (inD m c) (inW m c) (inC m c) (inQ m c) (inG m c) (inB m c) r e = dGate2 (arg0 m c) (arg1 m c) (arg2 m c) (arg3 m c) (arg4 m c) (arg5 m c) r e := by
  rw [inD_eq, inW_eq, inC_eq, inQ_eq, inG_eq, inB_eq]

theorem weight_eq (e k : ℕ) (he : e < 1024) : ∑ p ∈ Finset.range 16, blockProj m c p e k = dProj (arg0 m c) (arg2 m c) (arg3 m c) (arg4 m c) (arg5 m c) e k := by
  unfold dProj blockProj
  rw [inD_eq]
  refine (Cert.NormGrad.sum_blocks fun r => at2 (inY m c) r e * at2 (arg0 m c) r k).trans ?_
  exact Finset.sum_congr rfl fun r hr => by rw [product_at m c r e (Finset.mem_range.mp hr) he]

theorem scale_eq (e : ℕ) : ∑ p ∈ Finset.range 16, blockScale m c p e = dScale (arg0 m c) (arg1 m c) (arg2 m c) (arg3 m c) (arg4 m c) (arg5 m c) e := by
  unfold dScale blockScale
  rw [← inD_eq, ← inW_eq, ← inC_eq, ← inQ_eq, ← inG_eq, ← inB_eq]
  exact Cert.NormGrad.sum_blocks fun r => dLifted (inD m c) (inW m c) (inC m c) (inQ m c) (inG m c) (inB m c) r e * normed (at2 (inC m c) r) e

theorem shift_eq (e : ℕ) : ∑ p ∈ Finset.range 16, blockShift m c p e = dShift (arg0 m c) (arg1 m c) (arg2 m c) (arg3 m c) (arg4 m c) (arg5 m c) e := by
  unfold dShift blockShift
  rw [← inD_eq, ← inW_eq, ← inC_eq, ← inQ_eq, ← inG_eq, ← inB_eq]
  exact Cert.NormGrad.sum_blocks fun r => dLifted (inD m c) (inW m c) (inC m c) (inQ m c) (inG m c) (inB m c) r e

/-- Every run of the kernel leaves the five gradients and its arguments as they were. -/
theorem run : θ_run defs (onTc (τ := τ) (main (F := Ideal))) ⟨m, fun _ => 0, ρ⟩ fun r => ∀ c : Dev nD,
      r.2.mem ((c : Thread nD τ).loc main_v26_0) = (fun i : S8192x1024.Idx => dRow (arg0 m c) (arg1 m c) (arg2 m c) (arg3 m c) (arg4 m c) (arg5 m c) (i 0).val (i 1).val)
      ∧ r.2.mem ((c : Thread nD τ).loc main_v26_1) = (fun i : S8192x1024.Idx => dGate2 (arg0 m c) (arg1 m c) (arg2 m c) (arg3 m c) (arg4 m c) (arg5 m c) (i 0).val (i 1).val)
      ∧ r.2.mem ((c : Thread nD τ).loc main_v26_2) = (fun i : S1024x1024.Idx => dProj (arg0 m c) (arg2 m c) (arg3 m c) (arg4 m c) (arg5 m c) (i 0).val (i 1).val)
      ∧ r.2.mem ((c : Thread nD τ).loc main_v26_3) = (fun i : S1x1024.Idx => dScale (arg0 m c) (arg1 m c) (arg2 m c) (arg3 m c) (arg4 m c) (arg5 m c) (i 1).val)
      ∧ r.2.mem ((c : Thread nD τ).loc main_v26_4) = (fun i : S1x1024.Idx => dShift (arg0 m c) (arg1 m c) (arg2 m c) (arg3 m c) (arg4 m c) (arg5 m c) (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).1.trans (final_row m c)).trans (funext fun i => row_eq m c (i 0).val (i 1).val),
     ((h c).2.1.trans (final_gate m c)).trans (funext fun i => gate_eq m c (i 0).val (i 1).val),
     ((h c).2.2.1.trans (final_weight m c)).trans (funext fun i => weight_eq m c (i 0).val (i 1).val (i 0).isLt),
     ((h c).2.2.2.1.trans (final_scale m c)).trans (funext fun i => scale_eq m c (i 1).val),
     ((h c).2.2.2.2.1.trans (final_shift m c)).trans (funext fun i => shift_eq m c (i 1).val),
     (h c).2.2.2.2.2⟩)
    (Cert.GateGradIdeal.Value.run_blocks m ρ)

end Cert.Gates
end
-- ==== Proof.GatePlain.lean ====
module
public import proofs.«01_k».proof.Proof.GateSpec
public import proofs.«01_k».proof.Proof.NormPlain
public import proofs.«01_k».proof.Proof.Gen.GateGradReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain gradient of the gates, read at a row and a lane. -/

namespace Cert.Gates.Plain
open Cert.GateGradReferenceIdeal Cert.GateGradReferenceIdeal.Gen Cert.GateGradReferenceIdeal.Read
open Idealize.ShloMosaic Idealize.ShloMosaic.TcCoe Idealize.ShloMosaic.Tactic
open Cert.ConvGrad (at2 at2_ix2 at2_of_lt sg)
open Cert.NormGrad.Plain (sum_lanes)
variable (x0 : S8192x1024.Idx → EReal) (x1 : S1024x1024.Idx → EReal) (x2 : S8192x1024.Idx → EReal) (x3 : S8192x3072.Idx → EReal) (x4 x5 : S1x1024.Idx → EReal)

theorem centred_row (r : Fin 8192) (e : Fin 1024) : val_main_v8 (F := Ideal) x2 (ix2 r e) = centred (at2 x2 r) e := by
  unfold val_main_v8 val_main_v7 val_main_v6 val_main_v5 val_main_v4 val_main_v3 val_main_cst val_main_cst_0
  pointwise
  unfold centred mean
  rw [← Fin.sum_univ_eq_sum_range (fun k => at2 x2 r.val k) 1024]
  simp only [at2_ix2]

theorem spread_row (r : Fin 8192) (u : Fin 1) : val_main_v17 (F := Ideal) x2 (ix2 r u) = spread (at2 x2 r) := by
  unfold val_main_v17 val_main_v16 val_main_v15 val_main_v14 val_main_v13 val_main_v12 val_main_v9 val_main_cst_2 val_main_cst_3 val_main_cst_4
  pointwise
  simp only [centred_row]
  unfold spread
  rw [← Fin.sum_univ_eq_sum_range (fun k => centred (at2 x2 r.val) k * centred (at2 x2 r.val) k) 1024]

theorem root_row (r : Fin 8192) (u : Fin 1) : val_main_v18 (F := Ideal) x2 (ix2 r u) = rootInv (at2 x2 r) := by
  unfold val_main_v18
  refine (congrArg Ideal.rsqrt (spread_row x2 r u)).trans ?_
  rfl

theorem half_row (r : Fin 8192) (u : Fin 1) : val_main_v21 (F := Ideal) x2 (ix2 r u) = Cert.NormGrad.minusHalf * Ideal.div (rootInv (at2 x2 r)) (spread (at2 x2 r)) := by
  unfold val_main_v21 val_main_v20 val_main_v19 val_main_cst_5
  pointwise
  rw [root_row, spread_row]

theorem normed_row (r : Fin 8192) (e : Fin 1024) : val_main_v23 (F := Ideal) x2 (ix2 r e) = normed (at2 x2 r) e := by
  unfold val_main_v23 val_main_v22
  pointwise
  rw [centred_row, root_row]
  rfl

theorem lifted_row (r : Fin 8192) (e : Fin 1024) : val_main_v27 (F := Ideal) x2 x4 x5 (ix2 r e) = lifted x2 x4 x5 r e := by
  unfold val_main_v27 val_main_v26 val_main_v25 val_main_v24
  pointwise
  rw [normed_row, ← at2_ix2 x4, ← at2_ix2 x5]
  rfl

theorem gate_row (r : Fin 8192) (e : Fin 1024) : val_main_v1 (F := Ideal) x3 (ix2 r e) = gate x3 r e := by
  unfold val_main_v1 val_main_v0
  pointwise
  exact (at2_of_lt x3 _ _ r.isLt (by omega)).symm

/-- The logistic of the scaled row, its gate, and what the gate's derivative is made of. -/
theorem lifted_sg (r : Fin 8192) (e : Fin 1024) : val_main_v28_2 (F := Ideal) x2 x4 x5 (ix2 r e) = sg (lifted x2 x4 x5 r e) := by
  unfold val_main_v28_2 val_main_call0_v4 val_main_call0_v3 val_main_call0_v2 val_main_call0_v1 val_main_call0_v0 val_main_call0_cst val_main_call0_cst_0
  pointwise
  rw [lifted_row]
  rfl

theorem lifted_slope (r : Fin 8192) (e : Fin 1024) : val_main_v28_1 (F := Ideal) x2 x4 x5 (ix2 r e) = sg (lifted x2 x4 x5 r e) * (1 - sg (lifted x2 x4 x5 r e)) := by
  unfold val_main_v28_1 val_main_call0_v7 val_main_call0_v6 val_main_call0_cst_1
  pointwise
  rw [lifted_sg]

theorem lifted_silu (r : Fin 8192) (e : Fin 1024) : val_main_v28_0 (F := Ideal) x2 x4 x5 (ix2 r e) = silu (lifted x2 x4 x5 r e) := by
  unfold val_main_v28_0
  pointwise
  rw [lifted_sg, lifted_row]
  rfl

theorem gate_sg (r : Fin 8192) (e : Fin 1024) : val_main_v29_2 (F := Ideal) x3 (ix2 r e) = sg (gate x3 r e) := by
  unfold val_main_v29_2 val_main_call1_v4 val_main_call1_v3 val_main_call1_v2 val_main_call1_v1 val_main_call1_v0 val_main_call1_cst val_main_call1_cst_0
  pointwise
  rw [gate_row]
  rfl

theorem gate_slope (r : Fin 8192) (e : Fin 1024) : val_main_v29_1 (F := Ideal) x3 (ix2 r e) = sg (gate x3 r e) * (1 - sg (gate x3 r e)) := by
  unfold val_main_v29_1 val_main_call1_v7 val_main_call1_v6 val_main_call1_cst_1
  pointwise
  rw [gate_sg]

theorem gate_silu (r : Fin 8192) (e : Fin 1024) : val_main_v29_0 (F := Ideal) x3 (ix2 r e) = silu (gate x3 r e) := by
  unfold val_main_v29_0
  pointwise
  rw [gate_sg, gate_row]
  rfl

theorem product_row (r : Fin 8192) (e : Fin 1024) : val_main_v30 (F := Ideal) x2 x3 x4 x5 (ix2 r e) = gated2 x2 x3 x4 x5 r e := by
  unfold val_main_v30
  pointwise
  rw [lifted_silu, gate_silu]
  rfl

/-- The gradient of the output projection. -/
theorem weight_grad : val_main_v33 (F := Ideal) x0 x2 x3 x4 x5 = fun i : S1024x1024.Idx => dProj x0 x2 x3 x4 x5 (i 0).val (i 1).val := by
  funext i
  idx_vars i
  unfold val_main_v33 val_main_v32
  pointwise
  simp only [product_row]
  unfold dProj
  rw [← Fin.sum_univ_eq_sum_range (fun r => gated2 x2 x3 x4 x5 r i0.val * at2 x0 r i1.val) 8192]
  exact Finset.sum_congr rfl fun r _ => by rw [at2_ix2, mul_comm]

theorem out_row (r : Fin 8192) (e : Fin 1024) : val_main_v34 (F := Ideal) x0 x1 (ix2 r e) = dOut x0 x1 r e := by
  unfold val_main_v34 val_main_v2
  pointwise
  unfold dOut
  rw [← Fin.sum_univ_eq_sum_range (fun k => at2 x0 r.val k * at2 x1 e.val k) 1024]
  simp only [at2_ix2]

theorem twice_row (r : Fin 8192) (e : Fin 1024) : val_main_v11 (F := Ideal) x2 (ix2 r e) = two * centred (at2 x2 r) e := by
  unfold val_main_v11 val_main_v10 val_main_cst_1
  pointwise
  rw [centred_row]

section Finite
variable (h0 : Fin2 x0) (h1 : Fin2 x1) (h3 : ∀ r e : ℕ, e < 1024 → ∃ y : ℝ, gate x3 r e = (y : EReal)) (h4 : Fin2 x4) (h5 : Fin2 x5)
include h0 h1 h3 h4 h5

/-- The gradient of the scaled row: the terms of the gate's derivative gather, every number being finite. -/
theorem lifted_grad (r : Fin 8192) (e : Fin 1024) : val_main_v38 (F := Ideal) x0 x1 x2 x3 x4 x5 (ix2 r e) = dLifted x0 x1 x2 x3 x4 x5 r e := by
  unfold val_main_v38 val_main_call3_v2 val_main_call3_v1 val_main_call3_v0 val_main_v36
  pointwise
  rw [lifted_sg, lifted_slope, lifted_row, out_row, gate_silu]
  obtain ⟨o, ho⟩ := dOut_real x0 x1 h0 h1 r e
  obtain ⟨u, hu⟩ := lifted_real x2 x4 x5 h4 h5 r e e.isLt
  obtain ⟨z, hz⟩ := h3 r e e.isLt
  obtain ⟨s, hs⟩ := silu_real z
  unfold dLifted
  rw [ho, hu, hz, hs, ← EReal.coe_mul]
  exact silu_terms (o * s) u

/-- The gradient of the gate's input. -/
theorem gate_grad : val_main_v66 (F := Ideal) x0 x1 x2 x3 x4 x5 = fun i : S8192x1024.Idx => dGate2 x0 x1 x2 x3 x4 x5 (i 0).val (i 1).val := by
  funext i
  idx_vars i
  unfold val_main_v66 val_main_v37 val_main_call2_v2 val_main_call2_v1 val_main_call2_v0 val_main_v35
  pointwise
  rw [gate_sg, gate_slope, gate_row, out_row, lifted_silu]
  obtain ⟨o, ho⟩ := dOut_real x0 x1 h0 h1 i0 i1
  obtain ⟨u, hu⟩ := lifted_real x2 x4 x5 h4 h5 i0 i1 i1.isLt
  obtain ⟨z, hz⟩ := h3 i0 i1 i1.isLt
  obtain ⟨s, hs⟩ := silu_real u
  unfold dGate2
  rw [ho, hu, hz, hs, mul_comm (s : EReal), ← EReal.coe_mul]
  exact silu_terms (o * s) z

/-- The gradient of the shift. -/
theorem shift_grad : val_main_v40 (F := Ideal) x0 x1 x2 x3 x4 x5 = fun i : S1x1024.Idx => dShift x0 x1 x2 x3 x4 x5 (i 1).val := by
  funext i
  idx_vars i
  unfold val_main_v40 val_main_v39 val_main_cst_6
  pointwise
  simp only [lifted_grad x0 x1 x2 x3 x4 x5 h0 h1 h3 h4 h5]
  unfold dShift
  rw [← Fin.sum_univ_eq_sum_range (fun r => dLifted x0 x1 x2 x3 x4 x5 r i1.val) 8192]

/-- The gradient of the scale. -/
theorem scale_grad : val_main_v43 (F := Ideal) x0 x1 x2 x3 x4 x5 = fun i : S1x1024.Idx => dScale x0 x1 x2 x3 x4 x5 (i 1).val := by
  funext i
  idx_vars i
  unfold val_main_v43 val_main_v42 val_main_v41 val_main_cst_7
  pointwise
  simp only [lifted_grad x0 x1 x2 x3 x4 x5 h0 h1 h3 h4 h5, normed_row]
  unfold dScale
  rw [← Fin.sum_univ_eq_sum_range (fun r => dLifted x0 x1 x2 x3 x4 x5 r i1.val * normed (at2 x2 r) i1.val) 8192]
  exact Finset.sum_congr rfl fun r _ => mul_comm _ _

/-- The gradient of the normed row, scale included. -/
theorem normed_grad (r : Fin 8192) (e : Fin 1024) : val_main_v45 (F := Ideal) x0 x1 x2 x3 x4 x5 (ix2 r e) = dLifted x0 x1 x2 x3 x4 x5 r e * at2 x4 0 e := by
  unfold val_main_v45 val_main_v44
  pointwise
  rw [lifted_grad x0 x1 x2 x3 x4 x5 h0 h1 h3 h4 h5, ← at2_ix2 x4]
  rfl

theorem pull_row (r : Fin 8192) : val_main_v54 (F := Ideal) x0 x1 x2 x3 x4 x5 (ix1 r) = pull (at2 x2 r) (fun j => dLifted x0 x1 x2 x3 x4 x5 r j * at2 x4 0 j) := by
  unfold val_main_v54 val_main_v53 val_main_v52 val_main_v51 val_main_v48 val_main_v47 val_main_v46 val_main_cst_8 val_main_cst_9 val_main_cst_10
  pointwise
  simp only [half_row, normed_grad x0 x1 x2 x3 x4 x5 h0 h1 h3 h4 h5, centred_row]
  unfold pull
  rw [Fin.sum_univ_one, ← Fin.sum_univ_eq_sum_range (fun j => centred (at2 x2 r.val) j * (dLifted x0 x1 x2 x3 x4 x5 r.val j * at2 x4 0 j)) 1024]

theorem centred_grad (r : Fin 8192) (e : Fin 1024) : val_main_v57 (F := Ideal) x0 x1 x2 x3 x4 x5 (ix2 r e)
    = dCentred (at2 x2 r) (fun j => dLifted x0 x1 x2 x3 x4 x5 r j * at2 x4 0 j) e := by
  unfold val_main_v57 val_main_v56 val_main_v55 val_main_v50 val_main_v49
  pointwise
  rw [pull_row x0 x1 x2 x3 x4 x5 h0 h1 h3 h4 h5, root_row, normed_grad x0 x1 x2 x3 x4 x5 h0 h1 h3 h4 h5, twice_row]
  rfl

/-- The gradient of the rows. -/
theorem row_grad : val_main_v65 (F := Ideal) x0 x1 x2 x3 x4 x5 = fun i : S8192x1024.Idx => dRow x0 x1 x2 x3 x4 x5 (i 0).val (i 1).val := by
  funext i
  idx_vars i
  unfold val_main_v65 val_main_v64 val_main_v63 val_main_v62 val_main_v61 val_main_v60 val_main_v59 val_main_v58 val_main_cst_11 val_main_cst_12 val_main_cst_13
  pointwise
  simp only [centred_grad x0 x1 x2 x3 x4 x5 h0 h1 h3 h4 h5]
  unfold dRow
  rw [throughLayer_eq (at2 x2 i0) (fun j => dLifted x0 x1 x2 x3 x4 x5 i0 j * at2 x4 0 j) (fun j hj => by
    obtain ⟨a, ha⟩ := dLifted_real x0 x1 x2 x3 x4 x5 h0 h1 h4 h5 i0 (h3 i0) j hj
    obtain ⟨s, hs⟩ := h4.at2 0 j
    exact ⟨a * s, by rw [ha, hs, EReal.coe_mul]⟩) i1 i1.isLt]
  unfold mean
  rw [Fin.sum_univ_one, ← Fin.sum_univ_eq_sum_range (fun j => -dCentred (at2 x2 i0.val) (fun j => dLifted x0 x1 x2 x3 x4 x5 i0.val j * at2 x4 0 j) j) 1024]

end Finite

end Cert.Gates.Plain
end
-- ==== Proof.GateFinite.lean ====
module
public import proofs.«01_k».proof.Proof.GateSpec
public import proofs.«01_k».proof.Pre_finite_gates
public import Idealize.ShloMosaic.Lib.ReduceAll
public import Idealize.ShloMosaic.Lib.Pointwise
public import Idealize.ShloMosaic.PureOps.Ideal.Laws
@[expose] public section
set_option maxRecDepth 16384
noncomputable section
/-! What the precondition gives: the arrays it reads have no infinite entry. -/

namespace Cert.Gates
open Idealize.ShloMosaic Cert.ConvGrad

/-- The bound the precondition compares with is the infinity. -/
theorem bound_eq : Ideal.ofBits .f32 0x7F800000#32 = ⊤ := by
  simp [Ideal.ofBits, Ideal.ieee]

/-- A number whose absolute value is below infinity is finite. -/
theorem real_of_lt (x : EReal) (h : Ideal.cmp .olt (max x (-x)) (Ideal.ofBits .f32 0x7F800000#32) = 1#1) : ∃ y : ℝ, x = (y : EReal) := by
  rw [bound_eq] at h
  induction x with
  | bot => simp [Ideal.cmp] at h
  | top => simp [Ideal.cmp] at h
  | coe y => exact ⟨y, rfl⟩

/-- An array whose comparisons with infinity all hold is finite. -/
theorem real_of_all {s t : Shape} [Subsingleton t.Idx] {axes : List (Fin s.rank)} (x : s.Idx → EReal)
    (hb : (⟨0, ![]⟩ : Shape).BroadcastsInDim s (![] : Fin 0 → Fin s.rank)) (hr : s.ReducesTo axes t) (hu : 0 < (⟨0, ![]⟩ : Shape).numel) (j : t.Idx)
    (e : Host.reduce IntOp.andi (cmpf (F := Ideal) (φ := .f32) .olt (Host.absf (F := Ideal) (φ := .f32) x)
      (broadcastInDim s ![] hb (constant (F := Ideal) ⟨0, ![]⟩ .f32 0x7F800000#32))) (constantI ⟨0, ![]⟩ 1 1#1) hr hu j = 1#1) (i : s.Idx) :
    ∃ y : ℝ, x i = (y : EReal) :=
  real_of_lt (x i) (Host.reduce_andi_all _ _ hr hu j e i)

theorem finite [Pre_finite_gates.Facts] (x0 : (⟨2, ![8192, 1024]⟩ : Shape).Idx → EReal) (x1 : (⟨2, ![1024, 1024]⟩ : Shape).Idx → EReal)
    (x2 : (⟨2, ![8192, 1024]⟩ : Shape).Idx → EReal) (x3 : (⟨2, ![8192, 3072]⟩ : Shape).Idx → EReal) (x4 x5 : (⟨2, ![1, 1024]⟩ : Shape).Idx → EReal)
    (h : Pre_finite_gates.fn (F := Ideal) x0 x1 x2 x3 x4 x5 = fun _ => 1#1) :
    Fin2 x0 ∧ Fin2 x1 ∧ (∀ r e : ℕ, e < 1024 → ∃ y : ℝ, gate x3 r e = (y : EReal)) ∧ Fin2 x4 ∧ Fin2 x5 := by
  have h := congrFun h (fun a => a.elim0)
  unfold Pre_finite_gates.fn Pre_finite_gates.fn_part1 at h
  obtain ⟨h, k5⟩ := IntOp.andi_eq_one.1 h
  obtain ⟨h, k4⟩ := IntOp.andi_eq_one.1 h
  obtain ⟨h, k3⟩ := IntOp.andi_eq_one.1 h
  obtain ⟨k0, k1⟩ := IntOp.andi_eq_one.1 h
  haveI : Subsingleton (Pre_finite_gates.S_).Idx := ⟨fun a b => funext fun c => c.elim0⟩
  refine ⟨real_of_all x0 _ _ _ _ k0, real_of_all x1 _ _ _ _ k1, fun r e he => ?_, real_of_all x4 _ _ _ _ k4, real_of_all x5 _ _ _ _ k5⟩
  by_cases hr : r < 8192
  · obtain ⟨y, hy⟩ := real_of_all _ _ _ _ _ k3 (ix2 (⟨r, hr⟩ : Fin 8192) (⟨e, he⟩ : Fin 1024))
    refine ⟨y, Eq.trans ?_ hy⟩
    unfold gate
    rw [at2_of_lt x3 r (2048 + e) hr (by omega)]
    symm
    pointwise
  · refine ⟨0, ?_⟩
    unfold gate at2
    rw [dif_neg (fun h => hr h.1)]
    rfl

end Cert.Gates
end
-- ==== Proof.ForwardSpec.lean ====
module
public import proofs.«01_k».proof.Proof.GateSpec
@[expose] public section
noncomputable section
/-! The forward convolution with its layer norm and gates as plain functions of a row number and a lane number. -/

namespace Cert.Forward
open Idealize.ShloMosaic
open Cert.ConvGrad (at2 padded)
open Cert.Gates (normed silu)

/-- The gated causal convolution: row `t` takes the bias and 31 gated rows, the last of them its own. -/
def conv (q : (⟨2, ![8192, 3072]⟩ : Shape).Idx → EReal) (w : ℕ → ℕ → EReal) (b : ℕ → EReal) (t l : ℕ) : EReal :=
  b l + ∑ k ∈ Finset.range 31, w k l * padded q (t + k + 2) l

/-- The convolved row, normed, scaled and moved, through both gates. -/
def gatesOf (q : (⟨2, ![8192, 3072]⟩ : Shape).Idx → EReal) (w : ℕ → ℕ → EReal) (b g s : ℕ → EReal) (t l : ℕ) : EReal :=
  silu (normed (conv q w b t) l * g l + s l) * silu (at2 q t (2048 + l))

end Cert.Forward
end
-- ==== Proof.ForwardInputs.lean ====
module
public import proofs.«01_k».proof.Proof.GateSpec
public import proofs.«01_k».proof.Proof.Gen.ConvForwardIdeal.Frame
public import Idealize.ShloMosaic.Lib.Pipeline.Value
public import Idealize.ShloMosaic.PureOps.Ideal.Laws
@[expose] public section
set_option maxRecDepth 16384
noncomputable section
/-! The blocks the forward convolution's body finds at a point, as rows of the whole arrays. -/

namespace Cert.Forward
open Cert.ConvForwardIdeal Cert.ConvForwardIdeal.Gen
open Idealize.ShloMosaic Idealize.ShloMosaic.TcCoe Idealize.ShloMosaic.Tactic
open Idealize.SL.Sem
open Cert.ConvGrad (at2 at2_at)
variable (m : (ℓ : Loc nD τ sig) → Buf (Elt Ideal) ℓ) (c : Dev nD) (t : Fin cfg0.N)

theorem hz : (![0, 0] : Fin 2 → Nat) = fun _ => 0 := funext fun a => by fin_cases a <;> rfl

/-- The projected rows, the packed filter, the bias, the scale and the shift as the region finds them. -/
abbrev qArr : (⟨2, ![8192, 3072]⟩ : Shape).Idx → EReal := V m c main_arg0
abbrev wArr : (⟨2, ![32, 1024]⟩ : Shape).Idx → EReal := V m c main_v0
abbrev bArr : (⟨2, ![1, 1024]⟩ : Shape).Idx → EReal := V m c main_arg2
abbrev gArr : (⟨2, ![1, 1024]⟩ : Shape).Idx → EReal := V m c main_arg3
abbrev sArr : (⟨2, ![1, 1024]⟩ : Shape).Idx → EReal := V m c main_arg4

theorem index_0 : win0_0.index t 0 = t.val ∧ win0_0.index t 1 = 0 := (by decide +kernel : ∀ t : Fin grid0.N, win0_0.index t 0 = t.val ∧ win0_0.index t 1 = 0) t
theorem index_1 : win0_1.index t 0 = t.val ∧ win0_1.index t 1 = 1 := (by decide +kernel : ∀ t : Fin grid0.N, win0_1.index t 0 = t.val ∧ win0_1.index t 1 = 1) t
theorem index_2 : win0_2.index t 0 = 8 * t.val - 1 ∧ win0_2.index t 1 = 0 := (by decide +kernel : ∀ t : Fin grid0.N, win0_2.index t 0 = 8 * t.val - 1 ∧ win0_2.index t 1 = 0) t
theorem index_3 : win0_3.index t 0 = 8 * t.val - 1 ∧ win0_3.index t 1 = 1 := (by decide +kernel : ∀ t : Fin grid0.N, win0_3.index t 0 = 8 * t.val - 1 ∧ win0_3.index t 1 = 1) t
theorem index_4 : win0_4.index t 0 = t.val ∧ win0_4.index t 1 = 2 := (by decide +kernel : ∀ t : Fin grid0.N, win0_4.index t 0 = t.val ∧ win0_4.index t 1 = 2) t
theorem index_5 : win0_5.index t 0 = 0 ∧ win0_5.index t 1 = 0 := (by decide +kernel : ∀ t : Fin grid0.N, win0_5.index t 0 = 0 ∧ win0_5.index t 1 = 0) t
theorem index_6 : win0_6.index t 0 = 0 ∧ win0_6.index t 1 = 0 := (by decide +kernel : ∀ t : Fin grid0.N, win0_6.index t 0 = 0 ∧ win0_6.index t 1 = 0) t
theorem index_7 : win0_7.index t 0 = 0 ∧ win0_7.index t 1 = 0 := (by decide +kernel : ∀ t : Fin grid0.N, win0_7.index t 0 = 0 ∧ win0_7.index t 1 = 0) t
theorem index_8 : win0_8.index t 0 = 0 ∧ win0_8.index t 1 = 0 := (by decide +kernel : ∀ t : Fin grid0.N, win0_8.index t 0 = 0 ∧ win0_8.index t 1 = 0) t
theorem index_9 : win0_9.index t 0 = t.val ∧ win0_9.index t 1 = 0 := (by decide +kernel : ∀ t : Fin grid0.N, win0_9.index t 0 = t.val ∧ win0_9.index t 1 = 0) t
theorem index_10 : win0_10.index t 0 = t.val ∧ win0_10.index t 1 = 0 := (by decide +kernel : ∀ t : Fin grid0.N, win0_10.index t 0 = t.val ∧ win0_10.index t 1 = 0) t

theorem iblk_0 : (iblk m c 0 t : Vec Ideal S256x1024 .bf16) = fun j => at2 (qArr m c) (256 * t.val + (j 0).val) ((j 1).val) := by
  obtain ⟨i0, i1⟩ := index_0 t
  funext j
  unfold iblk
  rw [View.read_apply]
  refine at2_at (qArr m c) _ _ _ ?_ ?_
  · show win0_0.index t 0 * 256 + 1 * (j 0).val = _
    rw [i0]; omega
  · show win0_0.index t 1 * 1024 + 1 * (j 1).val = _
    rw [i1]; omega

theorem iblk_1 : (iblk m c 1 t : Vec Ideal S256x1024 .bf16) = fun j => at2 (qArr m c) (256 * t.val + (j 0).val) (1024 + (j 1).val) := by
  obtain ⟨i0, i1⟩ := index_1 t
  funext j
  unfold iblk
  rw [View.read_apply]
  refine at2_at (qArr m c) _ _ _ ?_ ?_
  · show win0_1.index t 0 * 256 + 1 * (j 0).val = _
    rw [i0]; omega
  · show win0_1.index t 1 * 1024 + 1 * (j 1).val = _
    rw [i1]; omega

theorem iblk_2 (ht : t.val ≠ 0) : (iblk m c 2 t : Vec Ideal S32x1024 .bf16) = fun j => at2 (qArr m c) (256 * t.val - 32 + (j 0).val) ((j 1).val) := by
  obtain ⟨i0, i1⟩ := index_2 t
  funext j
  unfold iblk
  rw [View.read_apply]
  refine at2_at (qArr m c) _ _ _ ?_ ?_
  · show win0_2.index t 0 * 32 + 1 * (j 0).val = _
    rw [i0]; omega
  · show win0_2.index t 1 * 1024 + 1 * (j 1).val = _
    rw [i1]; omega

theorem iblk_3 (ht : t.val ≠ 0) : (iblk m c 3 t : Vec Ideal S32x1024 .bf16) = fun j => at2 (qArr m c) (256 * t.val - 32 + (j 0).val) (1024 + (j 1).val) := by
  obtain ⟨i0, i1⟩ := index_3 t
  funext j
  unfold iblk
  rw [View.read_apply]
  refine at2_at (qArr m c) _ _ _ ?_ ?_
  · show win0_3.index t 0 * 32 + 1 * (j 0).val = _
    rw [i0]; omega
  · show win0_3.index t 1 * 1024 + 1 * (j 1).val = _
    rw [i1]; omega

theorem iblk_4 : (iblk m c 4 t : Vec Ideal S256x1024 .bf16) = fun j => at2 (qArr m c) (256 * t.val + (j 0).val) (2048 + (j 1).val) := by
  obtain ⟨i0, i1⟩ := index_4 t
  funext j
  unfold iblk
  rw [View.read_apply]
  refine at2_at (qArr m c) _ _ _ ?_ ?_
  · show win0_4.index t 0 * 256 + 1 * (j 0).val = _
    rw [i0]; omega
  · show win0_4.index t 1 * 1024 + 1 * (j 1).val = _
    rw [i1]; omega

theorem iblk_5 : (iblk m c 5 t : Vec Ideal S32x1024 .f32) = fun j => at2 (wArr m c) ((j 0).val) ((j 1).val) := by
  obtain ⟨i0, i1⟩ := index_5 t
  funext j
  unfold iblk
  rw [View.read_apply]
  refine at2_at (wArr m c) _ _ _ ?_ ?_
  · show win0_5.index t 0 * 32 + 1 * (j 0).val = _
    rw [i0]; omega
  · show win0_5.index t 1 * 1024 + 1 * (j 1).val = _
    rw [i1]; omega

/-- The one row of an array of one row. -/
theorem row_zero (j : S1x1024.Idx) : (j 0).val = 0 := Nat.lt_one_iff.mp (j 0).isLt

theorem iblk_6 : (iblk m c 6 t : Vec Ideal S1x1024 .f32) = fun j => at2 (bArr m c) 0 ((j 1).val) := by
  obtain ⟨i0, i1⟩ := index_6 t
  funext j
  have h0 : (j 0).val = 0 := row_zero j
  unfold iblk
  rw [View.read_apply]
  refine at2_at (bArr m c) _ _ _ ?_ ?_
  · show win0_6.index t 0 * 1 + 1 * (j 0).val = _
    rw [i0, h0]
  · show win0_6.index t 1 * 1024 + 1 * (j 1).val = _
    rw [i1]; omega

theorem iblk_7 : (iblk m c 7 t : Vec Ideal S1x1024 .f32) = fun j => at2 (gArr m c) 0 ((j 1).val) := by
  obtain ⟨i0, i1⟩ := index_7 t
  funext j
  have h0 : (j 0).val = 0 := row_zero j
  unfold iblk
  rw [View.read_apply]
  refine at2_at (gArr m c) _ _ _ ?_ ?_
  · show win0_7.index t 0 * 1 + 1 * (j 0).val = _
    rw [i0, h0]
  · show win0_7.index t 1 * 1024 + 1 * (j 1).val = _
    rw [i1]; omega

theorem iblk_8 : (iblk m c 8 t : Vec Ideal S1x1024 .f32) = fun j => at2 (sArr m c) 0 ((j 1).val) := by
  obtain ⟨i0, i1⟩ := index_8 t
  funext j
  have h0 : (j 0).val = 0 := row_zero j
  unfold iblk
  rw [View.read_apply]
  refine at2_at (sArr m c) _ _ _ ?_ ?_
  · show win0_8.index t 0 * 1 + 1 * (j 0).val = _
    rw [i0, h0]
  · show win0_8.index t 1 * 1024 + 1 * (j 1).val = _
    rw [i1]; omega

/-- The first point is known by its counter being zero. -/
theorem at_first : Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1) t
end Cert.Forward
end
-- ==== Proof.ForwardTaps.lean ====
module
public import proofs.«01_k».proof.Proof.Gen.ConvForwardIdeal.Frame
public import Idealize.ShloMosaic.Lib.Pipeline.Value
public import Idealize.ShloMosaic.Lib.Pointwise
public import Idealize.ShloMosaic.PureOps.Ideal.Laws
@[expose] public section
set_option maxRecDepth 16384
noncomputable section
/-! The loop of the forward convolution: eight trips, each over 128 lanes, each writing the 31-tap sum of its lanes on
    top of the bias. -/

namespace Cert.Forward
open Cert.ConvForwardIdeal Cert.ConvForwardIdeal.Gen
open Idealize.ShloMosaic Idealize.ShloMosaic.TcCoe Idealize.ShloMosaic.Tactic
open Idealize.SL.Sem

/-- What one trip stores. -/
abbrev tapTrip (c : Dev nD) (t : Fin cfg0.N) (v : Vec Ideal S280x1024 .f32) (X6 : BufTy.Contents (Elt Ideal) (ms0_5 t).view.ty) (X7 : BufTy.Contents (Elt Ideal) (ms0_6 t).view.ty)
    (X12 : BufTy.Contents (Elt Ideal) scM0_0.view.ty) (X13 : BufTy.Contents (Elt Ideal) scM0_1.view.ty) (n : Fin k0_t1_loop.trips) : List (View.Piece (Elt Ideal) S256x1024 .f32) :=
  (trip_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) v X6 X7 X12 X13 n).1

/-- What the trips before `k` have stored. -/
abbrev tapList (c : Dev nD) (t : Fin cfg0.N) (v : Vec Ideal S280x1024 .f32) (X6 : BufTy.Contents (Elt Ideal) (ms0_5 t).view.ty) (X7 : BufTy.Contents (Elt Ideal) (ms0_6 t).view.ty)
    (X12 : BufTy.Contents (Elt Ideal) scM0_0.view.ty) (X13 : BufTy.Contents (Elt Ideal) scM0_1.view.ty) (k : ℕ) : List (View.Piece (Elt Ideal) S256x1024 .f32) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) v X6 X7 X12 X13 k

/-- The bias and the 31-tap sum over the rows of `D` from two rows after row `r` on, at lane `l`. -/
def tapSum (W D : ℕ → ℕ → EReal) (B : ℕ → EReal) (r l : ℕ) : EReal := B l + ∑ k ∈ Finset.range 31, W k l * D (k + 2 + r) l

section
variable (c : Dev nD) (t : Fin cfg0.N) (v : Vec Ideal S280x1024 .f32) (W D : ℕ → ℕ → EReal) (B : ℕ → EReal)
  (X6 : BufTy.Contents (Elt Ideal) (ms0_5 t).view.ty) (X7 : BufTy.Contents (Elt Ideal) (ms0_6 t).view.ty)
  (X12 : BufTy.Contents (Elt Ideal) scM0_0.view.ty) (X13 : BufTy.Contents (Elt Ideal) scM0_1.view.ty)
  (e6 : (ms0_5 t).view.read (Elt Ideal) X6 = fun j => W (j 0).val (j 1).val)
  (e7 : (ms0_6 t).view.read (Elt Ideal) X7 = fun j => B (j 1).val)
  (e12 : scM0_0.view.read (Elt Ideal) X12 = fun j => D (j 0).val (j 1).val)
  (e13 : scM0_1.view.read (Elt Ideal) X13 = fun j => D ((j 0).val + 1 + (j 1).val) (j 2).val)
include e6 e7 e12 e13

/-- One trip's block holds the sums of its lanes. -/
theorem tapTrip_apply (n : Fin k0_t1_loop.trips) : ∀ p ∈ tapTrip c t v X6 X7 X12 X13 n,
    ∀ x : p.1.shape.Idx, p.2 x = (fun j : S256x1024.Idx => tapSum W D B (j 0).val (j 1).val) (p.1.emb x) := by
  unfold tapTrip trip_k0_t1
  dsimp only
  sl_unfold_words
  intro p hp
  obtain rfl := List.mem_singleton.mp hp
  intro (x : S256x128.Idx)
  simp only [View.readAt_eq_ld, e6, e7, e12, e13, tapSum]
  unfold_payloads
  dsimp only
  idx_vars x
  pointwise [Rect.emb_apply, Finset.sum_range_succ, Finset.sum_range_zero]
  generalize BitVec.toNat (Scalar.indexCast (Scalar.muli (Scf.iv 0#32 1#32 n.val) 128#32)) = o
  simp only [← Nat.add_assoc, ← add_assoc, Nat.reduceAdd]

/-- So do the blocks of any number of trips. -/
theorem tapList_apply : ∀ k : ℕ, k ≤ k0_t1_loop.trips → ∀ p ∈ tapList c t v X6 X7 X12 X13 k,
    ∀ x : p.1.shape.Idx, p.2 x = (fun j : S256x1024.Idx => tapSum W D B (j 0).val (j 1).val) (p.1.emb x)
  | 0, _, p, hp => absurd hp List.not_mem_nil
  | k + 1, hk, p, hp => by
    have hs : tapList c t v X6 X7 X12 X13 (k + 1) = tapTrip c t v X6 X7 X12 X13 ⟨k, hk⟩ ++ tapList c t v X6 X7 X12 X13 k :=
      pb_k0_t1_succ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) v X6 X7 X12 X13 ⟨k, hk⟩
    rw [hs] at hp
    rcases List.mem_append.mp hp with hp | hp
    · exact tapTrip_apply c t v W D B X6 X7 X12 X13 e6 e7 e12 e13 ⟨k, hk⟩ p hp
    · exact tapList_apply k (Nat.le_of_succ_le hk) p hp

omit e6 e7 e12 e13 in
/-- The eight trips cover the block. -/
theorem tapList_cover (y : S256x1024.Idx) : ∃ p ∈ tapList c t v X6 X7 X12 X13 k0_t1_loop.trips, y ∈ p.1.set :=
  View.cover_of_tiledL (tapList c t v X6 X7 X12 X13 k0_t1_loop.trips) ![256, 128] (by sl_kernel_rfl) y

/-- What the loop leaves. -/
theorem tapList_canon : View.canon (tapList c t v X6 X7 X12 X13 k0_t1_loop.trips) = fun j : S256x1024.Idx => tapSum W D B (j 0).val (j 1).val :=
  funext fun y => View.canon_apply_of_pieces (fun j : S256x1024.Idx => tapSum W D B (j 0).val (j 1).val) _
    (tapList_apply c t v W D B X6 X7 X12 X13 e6 e7 e12 e13 _ le_rfl) y (tapList_cover c t v X6 X7 X12 X13 y)
end
end Cert.Forward
end
-- ==== Proof.ForwardBody.lean ====
module
public import proofs.«01_k».proof.Proof.ForwardInputs
public import proofs.«01_k».proof.Proof.ForwardTaps
public import Idealize.ShloMosaic.Lib.Pipeline.Value
public import Idealize.ShloMosaic.Lib.Pointwise
public import Idealize.ShloMosaic.PureOps.Ideal.Laws
@[expose] public section
set_option maxRecDepth 16384
noncomputable section
/-! The scratch buffers of the forward convolution at a point: the gated rows behind the 32 before them, and the seven
    copies that start 1 to 7 rows further down. Then the layer norm and the two gates of a block of rows. -/

namespace Cert.Forward
open Cert.ConvForwardIdeal Cert.ConvForwardIdeal.Gen
open Idealize.ShloMosaic Idealize.ShloMosaic.TcCoe Idealize.ShloMosaic.Tactic
open Idealize.SL.Sem
open Cert.ConvGrad (at2 sg gated padded)
open Cert.Gates (mean centred spread rootInv normed silu)
variable (m : (ℓ : Loc nD τ sig) → Buf (Elt Ideal) ℓ) (c : Dev nD) (t : Fin cfg0.N)

/-- The gated rows behind 32 zero rows, from the point's first row on. -/
abbrev gRow (r l : ℕ) : EReal := padded (qArr m c) (256 * t.val + r) l

/-- What the body stores in the gate scratch. -/
abbrev gExt : List (View.Piece (Elt Ideal) S288x1024 .f32) :=
  [⟨Rect.unit ![32, 0] S256x1024.size inb_S288x1024_S256x1024_32_0, k0_pay16 (View.readAt (Elt Ideal) (ms0_0 t).view (Rect.unit ![0, 0] S256x1024.size inb_S256x1024_S256x1024_0_0).toLoadRect ((hs0_0 t).unread (iblk m c 0 t))) (View.readAt (Elt Ideal) (ms0_1 t).view (Rect.unit ![0, 0] S256x1024.size inb_S256x1024_S256x1024_0_0).toLoadRect ((hs0_1 t).unread (iblk m c 1 t)))⟩,
   ⟨Rect.unit ![0, 0] S32x1024.size inb_S288x1024_S32x1024_0_0, k0_pay15 (grid0.coords t) (View.readAt (Elt Ideal) (ms0_2 t).view (Rect.unit ![0, 0] S32x1024.size inb_S32x1024_S32x1024_0_0).toLoadRect ((hs0_2 t).unread (iblk m c 2 t))) (View.readAt (Elt Ideal) (ms0_3 t).view (Rect.unit ![0, 0] S32x1024.size inb_S32x1024_S32x1024_0_0).toLoadRect ((hs0_3 t).unread (iblk m c 3 t)))⟩]

/-- What the body stores in the shifted copies. -/
abbrev gCopies : List (View.Piece (Elt Ideal) S7x280x1024 .f32) :=
  [⟨Rect.unit ![6, 0, 0] S1x280x1024.size inb_S7x280x1024_S1x280x1024_6_0_0, k0_pay23 (scM0_0.view.readCov (gExt m c t) (Rect.unit (s := S288x1024) ![7, 0] S280x1024.size inb_S288x1024_S280x1024_7_0).toLoadRect)⟩,
   ⟨Rect.unit ![5, 0, 0] S1x280x1024.size inb_S7x280x1024_S1x280x1024_5_0_0, k0_pay22 (scM0_0.view.readCov (gExt m c t) (Rect.unit (s := S288x1024) ![6, 0] S280x1024.size inb_S288x1024_S280x1024_6_0).toLoadRect)⟩,
   ⟨Rect.unit ![4, 0, 0] S1x280x1024.size inb_S7x280x1024_S1x280x1024_4_0_0, k0_pay21 (scM0_0.view.readCov (gExt m c t) (Rect.unit (s := S288x1024) ![5, 0] S280x1024.size inb_S288x1024_S280x1024_5_0).toLoadRect)⟩,
   ⟨Rect.unit ![3, 0, 0] S1x280x1024.size inb_S7x280x1024_S1x280x1024_3_0_0, k0_pay20 (scM0_0.view.readCov (gExt m c t) (Rect.unit (s := S288x1024) ![4, 0] S280x1024.size inb_S288x1024_S280x1024_4_0).toLoadRect)⟩,
   ⟨Rect.unit ![2, 0, 0] S1x280x1024.size inb_S7x280x1024_S1x280x1024_2_0_0, k0_pay19 (scM0_0.view.readCov (gExt m c t) (Rect.unit (s := S288x1024) ![3, 0] S280x1024.size inb_S288x1024_S280x1024_3_0).toLoadRect)⟩,
   ⟨Rect.unit ![1, 0, 0] S1x280x1024.size inb_S7x280x1024_S1x280x1024_1_0_0, k0_pay18 (scM0_0.view.readCov (gExt m c t) (Rect.unit (s := S288x1024) ![2, 0] S280x1024.size inb_S288x1024_S280x1024_2_0).toLoadRect)⟩,
   ⟨Rect.unit ![0, 0, 0] S1x280x1024.size inb_S7x280x1024_S1x280x1024_0_0_0, k0_pay17 (scM0_0.view.readCov (gExt m c t) (Rect.unit (s := S288x1024) ![1, 0] S280x1024.size inb_S288x1024_S280x1024_1_0).toLoadRect)⟩]

/-- The gated rows before the block, zero before the first. -/
theorem before_rows : k0_pay15 (F := Ideal) (grid0.coords t) (View.readAt (Elt Ideal) (ms0_2 t).view (Rect.unit ![0, 0] S32x1024.size inb_S32x1024_S32x1024_0_0).toLoadRect ((hs0_2 t).unread (iblk m c 2 t)))
      (View.readAt (Elt Ideal) (ms0_3 t).view (Rect.unit ![0, 0] S32x1024.size inb_S32x1024_S32x1024_0_0).toLoadRect ((hs0_3 t).unread (iblk m c 3 t)))
    = fun j : S32x1024.Idx => gRow m c t (j 0).val (j 1).val := by
  rw [View.readAt_eq_ld, (hs0_2 t).read_unread, View.ld_unit_zero (S := S32x1024) hz, View.readAt_eq_ld, (hs0_3 t).read_unread, View.ld_unit_zero (S := S32x1024) hz]
  unfold k0_pay15
  dsimp only
  rw [shapeCast_self, at_first t]
  funext j
  have hj : (j 0).val < 32 := (j 0).isLt
  unfold gRow padded
  by_cases ht : t.val = 0
  · rw [if_pos ht, if_pos (by omega)]
    pointwise
  · rw [if_neg ht, iblk_2 m c t ht, iblk_3 m c t ht, if_neg (by omega), show 256 * t.val + (j 0).val - 32 = 256 * t.val - 32 + (j 0).val by omega]
    unfold gated sg
    pointwise [zero_sub]

/-- The gated rows of the block. -/
theorem block_rows : k0_pay16 (F := Ideal) (View.readAt (Elt Ideal) (ms0_0 t).view (Rect.unit ![0, 0] S256x1024.size inb_S256x1024_S256x1024_0_0).toLoadRect ((hs0_0 t).unread (iblk m c 0 t)))
      (View.readAt (Elt Ideal) (ms0_1 t).view (Rect.unit ![0, 0] S256x1024.size inb_S256x1024_S256x1024_0_0).toLoadRect ((hs0_1 t).unread (iblk m c 1 t)))
    = fun j : S256x1024.Idx => gRow m c t (32 + (j 0).val) (j 1).val := by
  rw [View.readAt_eq_ld, (hs0_0 t).read_unread, View.ld_unit_zero (S := S256x1024) hz, View.readAt_eq_ld, (hs0_1 t).read_unread, View.ld_unit_zero (S := S256x1024) hz, iblk_0, iblk_1]
  unfold_payloads
  dsimp only
  rw [shapeCast_self]
  funext j
  unfold gRow padded
  rw [if_neg (by omega), show 256 * t.val + (32 + (j 0).val) - 32 = 256 * t.val + (j 0).val by omega]
  unfold gated sg
  pointwise [zero_sub]

theorem gExt_cover (y : S288x1024.Idx) : ∃ p ∈ gExt m c t, y ∈ p.1.set := by
  have h0 : (y 0).val < 288 := (y 0).isLt
  have h1 : (y 1).val < 1024 := (y 1).isLt
  simp only [List.exists_mem_cons_iff, List.not_mem_nil, false_and, exists_false, or_false, Rect.mem_set_unit, Fin.forall_fin_two,
    Matrix.cons_val_zero, Matrix.cons_val_one, Matrix.cons_val_fin_one]
  omega

theorem gExt_canon : View.canon (gExt m c t) = fun j : S288x1024.Idx => gRow m c t (j 0).val (j 1).val := by
  funext y
  refine View.canon_apply_of_pieces (Val := Elt Ideal) (e := .f32) (fun j : S288x1024.Idx => gRow m c t (j 0).val (j 1).val) _ ?_ y (gExt_cover m c t y)
  refine List.forall_mem_cons.mpr ⟨?_, List.forall_mem_cons.mpr ⟨?_, List.forall_mem_nil _⟩⟩
  · intro (x : S256x1024.Idx)
    rw [block_rows]
    simp only [Rect.emb_apply]
    pointwise
  · intro (x : S32x1024.Idx)
    rw [before_rows]
    simp only [Rect.emb_apply]
    pointwise

/-- Rows loaded back from it. -/
theorem gExt_load {sp : Space} {κ : Kind} (v : View sig κ sp S288x1024 .f32) (o : ℕ) (h : ∀ a, (![o, 0] : Fin 2 → ℕ) a + S280x1024.size a ≤ S288x1024.size a) (j : S280x1024.Idx) :
    v.readCov (Val := Elt Ideal) (gExt m c t) (Rect.unit (s := S288x1024) ![o, 0] S280x1024.size h).toLoadRect j = gRow m c t (o + (j 0).val) (j 1).val := by
  rw [View.readCov_eq_canon', gExt_canon]
  show gRow m c t (o + 1 * (j 0).val) (0 + 1 * (j 1).val) = _
  rw [Nat.one_mul, Nat.one_mul, Nat.zero_add]

theorem gCopies_canon : View.canon (gCopies m c t) = fun j : S7x280x1024.Idx => gRow m c t ((j 0).val + 1 + (j 1).val) (j 2).val := by
  funext y
  refine View.canon_apply_of_pieces (Val := Elt Ideal) (e := .f32) (fun j : S7x280x1024.Idx => gRow m c t ((j 0).val + 1 + (j 1).val) (j 2).val) _ ?_ y (View.cover_of_tiledL _ ![1, 280, 1024] (by sl_kernel_rfl) y)
  repeat' (first | exact List.forall_mem_nil _ | refine List.forall_mem_cons.mpr ⟨?_, ?_⟩)
  all_goals
    intro (x : S1x280x1024.Idx)
    unfold_payloads
    dsimp only
    idx_vars x
    pointwise [Rect.emb_apply]
    exact gExt_load m c t _ _ _ _

section
variable (C Z : ℕ → ℕ → EReal) (G S : ℕ → EReal)

/-- The layer norm of a block of rows, scaled and moved. -/
theorem lifted_block : k0_pay25 (F := Ideal) (fun j : S256x1024.Idx => C (j 0).val (j 1).val) (fun j : S1x1024.Idx => G (j 1).val) (fun j : S1x1024.Idx => S (j 1).val)
    = fun j : S256x1024.Idx => normed (C (j 0).val) (j 1).val * G (j 1).val + S (j 1).val := by
  unfold k0_pay25
  funext j
  idx_vars j
  pointwise
  unfold normed rootInv spread centred mean
  simp only [← Fin.sum_univ_eq_sum_range]

/-- The two gates of a block of rows. -/
theorem gates_block : k0_pay1 (F := Ideal) (k0_pay25 (fun j : S256x1024.Idx => C (j 0).val (j 1).val) (fun j : S1x1024.Idx => G (j 1).val) (fun j : S1x1024.Idx => S (j 1).val))
      (k0_pay26 (fun j : S256x1024.Idx => Z (j 0).val (j 1).val))
      (k0_pay27 (fun j : S256x1024.Idx => C (j 0).val (j 1).val) (fun j : S1x1024.Idx => G (j 1).val) (fun j : S1x1024.Idx => S (j 1).val)) k0_pay28
    = fun j : S256x1024.Idx => silu (normed (C (j 0).val) (j 1).val * G (j 1).val + S (j 1).val) * silu (Z (j 0).val (j 1).val) := by
  unfold k0_pay1 k0_pay26 k0_pay27 k0_pay28
  rw [lifted_block]
  funext j
  idx_vars j
  pointwise [zero_sub]
  unfold silu sg
  simp only [mul_assoc]
end
end Cert.Forward
end
-- ==== Proof.ForwardOutputs.lean ====
module
public import proofs.«01_k».proof.Proof.ForwardSpec
public import proofs.«01_k».proof.Proof.ForwardBody
public import Idealize.ShloMosaic.Lib.Pipeline.Value
public import Idealize.ShloMosaic.Lib.Pipeline.ValueKit
public import Idealize.ShloMosaic.Lib.Pointwise
public import Idealize.ShloMosaic.PureOps.Ideal.Laws
@[expose] public section
set_option maxRecDepth 16384
noncomputable section
/-! What a point of the forward convolution leaves in its two output blocks, and so what the region leaves in the two
    arrays. -/

namespace Cert.Forward
open Cert.ConvForwardIdeal Cert.ConvForwardIdeal.Gen
open Idealize.ShloMosaic Idealize.ShloMosaic.TcCoe Idealize.ShloMosaic.Tactic
open Idealize.SL.Sem
open Cert.ConvGrad (at2 padded)
open Cert.Gates (normed silu)

variable (m : (ℓ : Loc nD τ sig) → Buf (Elt Ideal) ℓ) (c : Dev nD) (t : Fin cfg0.N)

/-- The taps, the bias, the scale and the shift as functions of a lane. -/
abbrev wRow (k l : ℕ) : EReal := at2 (wArr m c) k l
abbrev bRow (l : ℕ) : EReal := at2 (bArr m c) 0 l
abbrev sRow (l : ℕ) : EReal := at2 (gArr m c) 0 l
abbrev hRow (l : ℕ) : EReal := at2 (sArr m c) 0 l

/-- The pieces the loop has stored in the convolution's block when it ends. -/
abbrev tapsStored : List (View.Piece (Elt Ideal) S256x1024 .f32) :=
  tapList c t (scM0_0.view.readCov (gExt m c t) (Rect.unit (s := S288x1024) ![7, 0] S280x1024.size inb_S288x1024_S280x1024_7_0).toLoadRect) ((hs0_5 t).unread (iblk m c 5 t)) ((hs0_6 t).unread (iblk m c 6 t))
      ((View.whole cc0_scratch0).writes (Elt Ideal) (View.whole cc0_scratch0).junk (gExt m c t))
      ((View.whole cc0_scratch1).writes (Elt Ideal) (View.whole cc0_scratch1).junk (gCopies m c t)) k0_t1_loop.trips

theorem taps_canon : View.canon (tapsStored m c t) = fun j : S256x1024.Idx => conv (qArr m c) (wRow m c) (bRow m c) (256 * t.val + (j 0).val) (j 1).val := by
  unfold tapsStored
  rw [tapList_canon c t _ (wRow m c) (gRow m c t) (bRow m c)]
  · funext j
    unfold tapSum conv
    exact congrArg (bRow m c (j 1).val + ·) (Finset.sum_congr rfl fun k _ => by unfold gRow; rw [show 256 * t.val + (k + 2 + (j 0).val) = 256 * t.val + (j 0).val + k + 2 by omega])
  · rw [(hs0_5 t).read_unread]
    exact iblk_5 m c t
  · rw [(hs0_6 t).read_unread]
    exact iblk_6 m c t
  · exact (View.read_writes_junk_eq_canon _ _).trans (gExt_canon m c t)
  · exact (View.read_writes_junk_eq_canon _ _).trans (gCopies_canon m c t)

/-- The convolved rows, as the last lines of the body load them. -/
theorem taps_left {sp : Space} {κ : Kind} (v : View sig κ sp S256x1024 .f32) : v.readCov (Val := Elt Ideal) (tapsStored m c t) (Rect.unit ![0, 0] S256x1024.size inb_S256x1024_S256x1024_0_0).toLoadRect
    = fun j : S256x1024.Idx => conv (qArr m c) (wRow m c) (bRow m c) (256 * t.val + (j 0).val) (j 1).val := by
  rw [View.readCov_eq_canon', taps_canon]
  funext j
  show conv (qArr m c) (wRow m c) (bRow m c) (256 * t.val + (0 + 1 * (j 0).val)) (0 + 1 * (j 1).val) = _
  rw [Nat.one_mul, Nat.one_mul, Nat.zero_add, Nat.zero_add]

/-- The gate's block, the scale and the shift as loaded. -/
theorem read_4 : View.readAt (Elt Ideal) (ms0_4 t).view (Rect.unit ![0, 0] S256x1024.size inb_S256x1024_S256x1024_0_0).toLoadRect ((hs0_4 t).unread (iblk m c 4 t))
    = fun j : S256x1024.Idx => at2 (qArr m c) (256 * t.val + (j 0).val) (2048 + (j 1).val) := by
  rw [View.readAt_eq_ld, (hs0_4 t).read_unread, View.ld_unit_zero (S := S256x1024) hz]
  exact iblk_4 m c t

theorem read_7 : View.readAt (Elt Ideal) (ms0_7 t).view (Rect.unit ![0, 0] S1x1024.size inb_S1x1024_S1x1024_0_0).toLoadRect ((hs0_7 t).unread (iblk m c 7 t))
    = fun j : S1x1024.Idx => sRow m c (j 1).val := by
  rw [View.readAt_eq_ld, (hs0_7 t).read_unread, View.ld_unit_zero (S := S1x1024) hz]
  exact iblk_7 m c t

theorem read_8 : View.readAt (Elt Ideal) (ms0_8 t).view (Rect.unit ![0, 0] S1x1024.size inb_S1x1024_S1x1024_0_0).toLoadRect ((hs0_8 t).unread (iblk m c 8 t))
    = fun j : S1x1024.Idx => hRow m c (j 1).val := by
  rw [View.readAt_eq_ld, (hs0_8 t).read_unread, View.ld_unit_zero (S := S1x1024) hz]
  exact iblk_8 m c t

theorem out_conv : (outsAt0 m c t).2 = fun j : S256x1024.Idx => conv (qArr m c) (wRow m c) (bRow m c) (256 * t.val + (j 0).val) (j 1).val := by
  unfold outsAt0; dsimp only; unfold out0_A_10
  unfold kernelRun0_A; dsimp only
  sl_unfold_words
  rw [View.read_writes_junk_eq_canon]
  exact taps_canon m c t

theorem out_gates : (outsAt0 m c t).1 = fun j : S256x1024.Idx => gatesOf (qArr m c) (wRow m c) (bRow m c) (sRow m c) (hRow m c) (256 * t.val + (j 0).val) (j 1).val := by
  unfold outsAt0; dsimp only; unfold out0_A_9
  unfold kernelRun0_A; dsimp only
  sl_unfold_words
  rw [View.read_writes_junk_eq_canon, View.canon_cons_unit_zero (S := S256x1024) hz, read_4, read_7, read_8]
  have e := taps_left m c t (ms0_10 t).view
  unfold tapsStored at e
  rw [e]
  exact gates_block (fun a l => conv (qArr m c) (wRow m c) (bRow m c) (256 * t.val + a) l) (fun a l => at2 (qArr m c) (256 * t.val + a) (2048 + l)) (sRow m c) (hRow m c)

theorem final_gates : (dats m 0 c).arrAt 9 cfg0.N = fun i : S8192x1024.Idx => gatesOf (qArr m c) (wRow m c) (bRow m c) (sRow m c) (hRow m c) (i 0).val (i 1).val := by
  refine (dats m 0 c).arrAt_eq_of_covers 9 (fun i : S8192x1024.Idx => gatesOf (qArr m c) (wRow m c) (bRow m c) (sRow m c) (hRow m c) (i 0).val (i 1).val) ?_ ?_
  · decide +kernel
  · intro t _ y
    show (dats m 0 c).after 9 t y = gatesOf (qArr m c) (wRow m c) (bRow m c) (sRow m c) (hRow m c) (win0_9.index t 0 * 256 + 1 * (y 0).val) (win0_9.index t 1 * 1024 + 1 * (y 1).val)
    rw [after0_9, out_gates, (index_9 t).1, (index_9 t).2]
    simp only [Nat.one_mul, Nat.zero_mul, Nat.zero_add, Nat.mul_comm]

theorem final_conv : (dats m 0 c).arrAt 10 cfg0.N = fun i : S8192x1024.Idx => conv (qArr m c) (wRow m c) (bRow m c) (i 0).val (i 1).val := by
  refine (dats m 0 c).arrAt_eq_of_covers 10 (fun i : S8192x1024.Idx => conv (qArr m c) (wRow m c) (bRow m c) (i 0).val (i 1).val) ?_ ?_
  · decide +kernel
  · intro t _ y
    show (dats m 0 c).after 10 t y = conv (qArr m c) (wRow m c) (bRow m c) (win0_10.index t 0 * 256 + 1 * (y 0).val) (win0_10.index t 1 * 1024 + 1 * (y 1).val)
    rw [after0_10, out_conv, (index_10 t).1, (index_10 t).2]
    simp only [Nat.one_mul, Nat.zero_mul, Nat.zero_add, Nat.mul_comm]

end Cert.Forward
end
-- ==== Proof.ForwardRun.lean ====
module
public import proofs.«01_k».proof.Proof.ForwardOutputs
public import proofs.«01_k».proof.Proof.Gen.ConvForwardIdeal.Value
public import Idealize.ShloMosaic.Lib.Pipeline.Value
public import Idealize.ShloMosaic.Lib.Pipeline.ValueKit
public import Idealize.ShloMosaic.Lib.KernelVsHost
public import Idealize.ShloMosaic.Lib.Pointwise
public import Idealize.ShloMosaic.PureOps.Ideal.Laws
@[expose] public section
set_option maxRecDepth 16384
noncomputable section
/-! The whole program of the forward convolution: the host line that packs filter and bias, and the two results. -/

namespace Cert.Forward
open Cert.ConvForwardIdeal Cert.ConvForwardIdeal.Gen
open Idealize.ShloMosaic Idealize.ShloMosaic.TcCoe Idealize.ShloMosaic.Tactic
open Idealize.SL.Sem
open Cert.ConvGrad (at2 at2_of_lt padded)
open Cert.Gates (mean centred spread rootInv normed silu)
variable (m : (ℓ : Loc nD τ sig) → Buf (Elt Ideal) ℓ) (ρ : Dev nD → PrngReg) (c : Dev nD)

/-- The five arguments as launched. -/
abbrev arg0 : S8192x3072.Idx → EReal := m ((c : Thread nD τ).loc main_arg0)
abbrev arg1 : S31x1024.Idx → EReal := m ((c : Thread nD τ).loc main_arg1)
abbrev arg2 : S1x1024.Idx → EReal := m ((c : Thread nD τ).loc main_arg2)
abbrev arg3 : S1x1024.Idx → EReal := m ((c : Thread nD τ).loc main_arg3)
abbrev arg4 : S1x1024.Idx → EReal := m ((c : Thread nD τ).loc main_arg4)

theorem qArr_eq : qArr m c = arg0 m c := V_main_arg0 m c
theorem bArr_eq : bArr m c = arg2 m c := V_main_arg2 m c
theorem gArr_eq : gArr m c = arg3 m c := V_main_arg3 m c
theorem sArr_eq : sArr m c = arg4 m c := V_main_arg4 m c

/-- The taps the region finds are the first 31 rows. -/
theorem wRow_eq (k l : ℕ) (hk : k < 31) (hl : l < 1024) : wRow m c k l = at2 (arg1 m c) k l := by
  have e : wArr m c = concatenate S32x1024 0 [⟨S31x1024, arg1 m c⟩, ⟨S1x1024, arg2 m c⟩] concatenates_S31x1024_S1x1024_S32x1024_d0 := by
    show V m c main_v0 = _
    show StableHlo.after hostOps0 (fun b => m (c, b)) _ = _
    after_results
  unfold wRow
  rw [at2_of_lt _ _ _ (by omega) hl, at2_of_lt _ _ _ hk hl, e]
  exact concatenate_pair_apply_left (s₁ := S31x1024) (s₂ := S1x1024) (t := S32x1024) 0 _ _ _ _ rfl _ fun b => by
    match b with
    | ⟨0, _⟩ => rfl
    | ⟨1, _⟩ => rfl

theorem conv_eq (t l : ℕ) (hl : l < 1024) : conv (qArr m c) (wRow m c) (bRow m c) t l = conv (arg0 m c) (at2 (arg1 m c)) (at2 (arg2 m c) 0) t l := by
  unfold conv bRow
  rw [qArr_eq, bArr_eq]
  exact congrArg (at2 (arg2 m c) 0 l + ·) (Finset.sum_congr rfl fun k hk => by rw [wRow_eq m c k l (Finset.mem_range.mp hk) hl])

/-- Rows that agree on the lanes have the same layer norm. -/
theorem normed_congr (x y : ℕ → EReal) (h : ∀ l < 1024, x l = y l) (l : ℕ) (hl : l < 1024) : normed x l = normed y l := by
  have hm : mean x = mean y := by
    unfold mean
    rw [Finset.sum_congr rfl fun j hj => h j (Finset.mem_range.mp hj)]
  have hc : ∀ j < 1024, centred x j = centred y j := fun j hj => by
    unfold centred
    rw [h j hj, hm]
  have hs : spread x = spread y := by
    unfold spread
    rw [Finset.sum_congr rfl fun j hj => by rw [hc j (Finset.mem_range.mp hj)]]
  unfold normed rootInv
  rw [hc l hl, hs]

theorem gates_eq (t l : ℕ) (hl : l < 1024) : gatesOf (qArr m c) (wRow m c) (bRow m c) (sRow m c) (hRow m c) t l
    = gatesOf (arg0 m c) (at2 (arg1 m c)) (at2 (arg2 m c) 0) (at2 (arg3 m c) 0) (at2 (arg4 m c) 0) t l := by
  unfold gatesOf sRow hRow
  rw [normed_congr _ _ (fun j hj => conv_eq m c t j hj) l hl, qArr_eq, gArr_eq, sArr_eq]

/-- Every run of the kernel leaves the two results and its arguments as they were. -/
theorem run : θ_run defs (onTc (τ := τ) (main (F := Ideal))) ⟨m, fun _ => 0, ρ⟩ fun r => ∀ c : Dev nD,
      r.2.mem ((c : Thread nD τ).loc main_v1_0) = (fun i : S8192x1024.Idx => gatesOf (arg0 m c) (at2 (arg1 m c)) (at2 (arg2 m c) 0) (at2 (arg3 m c) 0) (at2 (arg4 m c) 0) (i 0).val (i 1).val)
      ∧ r.2.mem ((c : Thread nD τ).loc main_v1_1) = (fun i : S8192x1024.Idx => conv (arg0 m c) (at2 (arg1 m c)) (at2 (arg2 m c) 0) (i 0).val (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((Value.post9 m r h c).trans (final_gates m c)).trans (funext fun i => gates_eq m c _ _ (i 1).isLt),
     ((Value.post10 m r h c).trans (final_conv m c)).trans (funext fun i => conv_eq m c _ _ (i 1).isLt),
     Value.kept_main_arg0 m r h c, Value.kept_main_arg1 m r h c, Value.kept_main_arg2 m r h c, Value.kept_main_arg3 m r h c, Value.kept_main_arg4 m r h c⟩)
    (run_main m ρ)

end Cert.Forward
end
-- ==== Proof.ForwardPlain.lean ====
module
public import proofs.«01_k».proof.Proof.GateSpec
public import proofs.«01_k».proof.Proof.ForwardSpec
public import proofs.«01_k».proof.Proof.Gen.ConvForwardReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain convolution, layer norm and gates, read at a row and a lane. -/

namespace Cert.Forward.Plain
open Cert.ConvForwardReferenceIdeal Cert.ConvForwardReferenceIdeal.Gen Cert.ConvForwardReferenceIdeal.Read
open Idealize.ShloMosaic Idealize.ShloMosaic.TcCoe Idealize.ShloMosaic.Tactic
open Cert.ConvGrad (at2 at2_ix2 at2_of_lt sg gated padded)
open Cert.Gates (mean centred spread rootInv normed silu)
variable (x0 : S8192x3072.Idx → EReal) (x1 : S31x1024.Idx → EReal) (x2 x3 x4 : S1x1024.Idx → EReal)

theorem tap_slices : ∀ k < 31, S31x1024.Slices ![k, 0] S1x1024 := by decide
theorem row_slices : ∀ k < 31, S8222x1024.Slices ![k, 0] S8192x1024 := by decide

/-- The value half of a row. -/
theorem value_half (t : Fin 8192) (l : Fin 1024) : val_main_v1 (F := Ideal) x0 (ix2 t l) = at2 x0 t l := by
  unfold val_main_v1 val_main_v0
  pointwise
  exact (at2_ix2 x0 t ⟨l.val, _⟩).symm

/-- The logistic function of the gate half of a row. -/
theorem logistic (t : Fin 8192) (l : Fin 1024) : val_main_v8 (F := Ideal) x0 (ix2 t l) = sg (at2 x0 t (1024 + l)) := by
  unfold val_main_v8 val_main_v7 val_main_v6 val_main_v5 val_main_v4 val_main_v3 val_main_v2 val_main_v0
  pointwise
  unfold val_main_cst val_main_cst_0 sg
  pointwise
  rw [at2_of_lt x0 t.val (1024 + l.val) t.isLt (by omega)]

/-- The gated rows behind thirty zero rows. -/
theorem gated_rows (u : Fin 8222) (l : Fin 1024) : val_main_v11 (F := Ideal) x0 (ix2 u l) = padded x0 (u + 2) l := by
  unfold val_main_v11
  pointwise
  unfold padded
  by_cases h : u.val < 30
  · refine (dif_pos h).trans (Eq.trans ?_ (if_pos (by omega)).symm)
    refine (val_main_v10_apply _).trans ?_
    unfold val_main_cst_1
    pointwise
  · refine (dif_neg h).trans (Eq.trans ?_ (if_neg (by omega)).symm)
    refine (val_main_v9_apply (F := Ideal) x0 _).trans ?_
    refine (congrArg₂ (fun a b : EReal => a * b) (value_half x0 ⟨u.val - 30, by omega⟩ l) (logistic x0 ⟨u.val - 30, by omega⟩ l)).trans ?_
    exact congrArg (fun v => gated x0 v l.val) (by simp only []; omega)

/-- Tap `k` of the convolution. -/
def tap (k : ℕ) (hk : k < 31) : S8192x1024.Idx → EReal :=
  mulf (F := Ideal) (φ := .f32) (extractStridedSlice S8192x1024 ![k, 0] (val_main_v11 (F := Ideal) x0) (row_slices k hk))
    (broadcastInDim S8192x1024 ![0, 1] bcast_S1x1024_S8192x1024_0_1 (extractStridedSlice S1x1024 ![k, 0] x1 (tap_slices k hk)))

theorem tap_apply (k : ℕ) (hk : k < 31) (t : Fin 8192) (l : Fin 1024) : tap x0 x1 k hk (ix2 t l) = at2 x1 k l * padded x0 (t + k + 2) l := by
  unfold tap
  pointwise
  rw [gated_rows, mul_comm, ← at2_of_lt x1 _ _ hk l.isLt]
  exact congrArg (fun u => at2 x1 k l.val * padded x0 u l.val) (by simp only []; omega)

/-- The sum of the first `n` taps, in the order in which they are added. -/
def taps (i : S8192x1024.Idx) : ℕ → EReal
  | 0 => val_main_v12 (F := Ideal) i
  | n + 1 => taps i n + (if h : n < 31 then tap x0 x1 n h i else 0)

theorem taps_apply (t : Fin 8192) (l : Fin 1024) : ∀ n ≤ 31, taps x0 x1 (ix2 t l) n = ∑ k ∈ Finset.range n, at2 x1 k l * padded x0 (t + k + 2) l
  | 0, _ => by
    show val_main_v12 (F := Ideal) (ix2 t l) = _
    rw [val_main_v12_apply, Finset.sum_range_zero]
    unfold val_main_cst_2
    pointwise
  | n + 1, hn => by
    show taps x0 x1 (ix2 t l) n + (if h : n < 31 then tap x0 x1 n h (ix2 t l) else 0) = _
    rw [taps_apply t l n (by omega), dif_pos (by omega), tap_apply, Finset.sum_range_succ]

theorem sum_taps (i : S8192x1024.Idx) : val_main_v167 (F := Ideal) x0 x1 i = taps x0 x1 i 31 := rfl

/-- The convolved row. -/
theorem conv_row (t : Fin 8192) (l : Fin 1024) : val_main_v169 (F := Ideal) x0 x1 x2 (ix2 t l) = conv x0 (at2 x1) (at2 x2 0) t l := by
  unfold val_main_v169 val_main_v168
  pointwise
  rw [sum_taps, taps_apply x0 x1 t l 31 le_rfl, add_comm, ← at2_ix2 x2]
  rfl

/-- The layer norm of the convolved row. -/
theorem centred_row (r : Fin 8192) (e : Fin 1024) : val_main_v176 (F := Ideal) x0 x1 x2 (ix2 r e) = centred (conv x0 (at2 x1) (at2 x2 0) r) e := by
  unfold val_main_v176 val_main_v175 val_main_v174 val_main_v173 val_main_v172 val_main_v171 val_main_cst_3 val_main_cst_4
  pointwise
  simp only [conv_row]
  unfold centred mean
  rw [← Fin.sum_univ_eq_sum_range (fun k => conv x0 (at2 x1) (at2 x2 0) r.val k) 1024]

theorem spread_row (r : Fin 8192) (u : Fin 1) : val_main_v183 (F := Ideal) x0 x1 x2 (ix2 r u) = spread (conv x0 (at2 x1) (at2 x2 0) r) := by
  unfold val_main_v183 val_main_v182 val_main_v181 val_main_v180 val_main_v179 val_main_v178 val_main_v177 val_main_cst_5 val_main_cst_6 val_main_cst_7
  pointwise
  simp only [centred_row]
  unfold spread
  rw [← Fin.sum_univ_eq_sum_range (fun k => centred (conv x0 (at2 x1) (at2 x2 0) r.val) k * centred (conv x0 (at2 x1) (at2 x2 0) r.val) k) 1024]

theorem root_row (r : Fin 8192) (u : Fin 1) : val_main_v184 (F := Ideal) x0 x1 x2 (ix2 r u) = rootInv (conv x0 (at2 x1) (at2 x2 0) r) := by
  unfold val_main_v184
  refine (congrArg Ideal.rsqrt (spread_row x0 x1 x2 r u)).trans ?_
  rfl

theorem normed_row (r : Fin 8192) (e : Fin 1024) : val_main_v186 (F := Ideal) x0 x1 x2 (ix2 r e) = normed (conv x0 (at2 x1) (at2 x2 0) r) e := by
  unfold val_main_v186 val_main_v185
  pointwise
  rw [centred_row, root_row]
  rfl

/-- The normed row, scaled and moved. -/
theorem lifted_row (r : Fin 8192) (e : Fin 1024) : val_main_v190 (F := Ideal) x0 x1 x2 x3 x4 (ix2 r e) = normed (conv x0 (at2 x1) (at2 x2 0) r) e * at2 x3 0 e + at2 x4 0 e := by
  unfold val_main_v190 val_main_v189 val_main_v188 val_main_v187
  pointwise
  rw [normed_row, ← at2_ix2 x3, ← at2_ix2 x4]
  rfl

theorem lifted_silu (r : Fin 8192) (e : Fin 1024) : val_main_v191 (F := Ideal) x0 x1 x2 x3 x4 (ix2 r e)
    = silu (normed (conv x0 (at2 x1) (at2 x2 0) r) e * at2 x3 0 e + at2 x4 0 e) := by
  unfold val_main_v191 val_main_call0_v5 val_main_call0_v4 val_main_call0_v3 val_main_call0_v2 val_main_call0_v1 val_main_call0_v0 val_main_call0_cst val_main_call0_cst_0
  pointwise
  rw [lifted_row]
  rfl

theorem gate_row (r : Fin 8192) (e : Fin 1024) : val_main_v170 (F := Ideal) x0 (ix2 r e) = at2 x0 r (2048 + e) := by
  unfold val_main_v170 val_main_v0
  pointwise
  exact (at2_of_lt x0 _ _ r.isLt (by omega)).symm

theorem gate_silu (r : Fin 8192) (e : Fin 1024) : val_main_v192 (F := Ideal) x0 (ix2 r e) = silu (at2 x0 r (2048 + e)) := by
  unfold val_main_v192 val_main_call1_v5 val_main_call1_v4 val_main_call1_v3 val_main_call1_v2 val_main_call1_v1 val_main_call1_v0 val_main_call1_cst val_main_call1_cst_0
  pointwise
  rw [gate_row]
  rfl

/-- The convolution. -/
theorem conv_plain : val_main_v169 (F := Ideal) x0 x1 x2 = fun i : S8192x1024.Idx => conv x0 (at2 x1) (at2 x2 0) (i 0).val (i 1).val := by
  funext i
  idx_vars i
  exact conv_row x0 x1 x2 i0 i1

/-- The convolved rows through layer norm and gates. -/
theorem gates_plain : val_main_v194 (F := Ideal) x0 x1 x2 x3 x4 = fun i : S8192x1024.Idx => gatesOf x0 (at2 x1) (at2 x2 0) (at2 x3 0) (at2 x4 0) (i 0).val (i 1).val := by
  funext i
  idx_vars i
  show val_main_v191 (F := Ideal) x0 x1 x2 x3 x4 (ix2 i0 i1) * val_main_v192 (F := Ideal) x0 (ix2 i0 i1) = _
  rw [lifted_silu, gate_silu]
  rfl

end Cert.Forward.Plain
end
-- ==== Proof.PoolSpec.lean ====
module
public import proofs.«01_k».proof.Proof.NormSpec
public import proofs.«01_k».proof.Proof.GateSpec
@[expose] public section
set_option maxRecDepth 16384
noncomputable section
/-! The multiscale pooling: the mean of the last rows of a column group less the row itself, multiplied by the group's
    weights and scaled. -/

namespace Cert.Pooling
open Idealize.ShloMosaic

section Rows
variable (U : ℕ → ℕ → EReal)

/-- The sum of the last `w` rows up to row `r`, of as many as there are. -/
def window (w r e : ℕ) : EReal := ∑ k ∈ Finset.range w, if k ≤ r then U (r - k) e else 0

/-- The sum of all rows up to row `r`. -/
def running (r e : ℕ) : EReal := ∑ k ∈ Finset.range (r + 1), U k e

/-- How many rows there are up to row `r`. -/
def rows (r : ℕ) : EReal := ((r : ℝ) : EReal) + 1

/-- The mean of the last rows less the row itself. -/
def pooled (w : ℕ) (n : EReal) (r e : ℕ) : EReal := Ideal.div (window U w r e) (min (rows r) n) - U r e

/-- The pooled rows times the group's weights `W` and the scale `S`. -/
def mixed (w : ℕ) (n : EReal) (W : ℕ → ℕ → EReal) (S : ℕ → EReal) (r f : ℕ) : EReal :=
  (∑ k ∈ Finset.range 128, pooled U w n r k * W k f) * S f

/-- Twice as many rows: the window and the window before it. -/
theorem double (Z : ℕ → EReal) (w p : ℕ) (h : 2 * w ≤ p + 1) :
    ∑ k ∈ Finset.range w, Z (p - k) + ∑ k ∈ Finset.range w, Z (p - w - k) = ∑ k ∈ Finset.range (2 * w), Z (p - k) := by
  rw [Nat.two_mul, Finset.sum_range_add]
  exact congrArg _ (Finset.sum_congr rfl fun k _ => by rw [Nat.sub_sub])

/-- The running sum less what it was `w` rows before is the window's sum, the rows being finite. -/
theorem running_sub (e : ℕ) (hU : ∀ r, ∃ y : ℝ, U r e = (y : EReal)) (w r : ℕ) (hw : 0 < w) :
    running U r e - (if r < w then 0 else running U (r - w) e) = window U w r e := by
  unfold running window
  by_cases h : r < w
  · rw [if_pos h, sub_zero, ← Finset.sum_range_reflect (fun k => U k e) (r + 1), ← Nat.add_sub_of_le (show r + 1 ≤ w from h),
      Finset.sum_range_add _ (r + 1) (w - (r + 1))]
    have z : ∑ k ∈ Finset.range (w - (r + 1)), (if r + 1 + k ≤ r then U (r - (r + 1 + k)) e else 0) = 0 :=
      Finset.sum_eq_zero fun k _ => if_neg (by omega)
    rw [z, add_zero]
    refine Finset.sum_congr rfl fun k hk => ?_
    have hk := Finset.mem_range.mp hk
    rw [if_pos (by omega)]
    congr 1
  · rw [if_neg h]
    choose f hf using hU
    have e1 : ∑ k ∈ Finset.range (r + 1), U k e = ∑ k ∈ Finset.range (r - w + 1), U k e + ∑ k ∈ Finset.range w, if k ≤ r then U (r - k) e else 0 := by
      rw [show r + 1 = (r - w + 1) + w by omega, Finset.sum_range_add, ← Finset.sum_range_reflect (fun k => U (r - w + 1 + k) e) w]
      refine congrArg _ (Finset.sum_congr rfl fun k hk => ?_)
      have hk := Finset.mem_range.mp hk
      rw [if_pos (by omega)]
      congr 1
      omega
    have e2 : ∑ k ∈ Finset.range (r - w + 1), U k e = ((∑ k ∈ Finset.range (r - w + 1), f k : ℝ) : EReal) := by
      exact Cert.Gates.sum_real _ f _ fun k _ => hf k
    rw [e1, e2, add_comm]
    exact EReal.add_sub_cancel_right

end Rows

/-- The four groups' windows, as numbers. -/
def height : ℕ → EReal
  | 0 => Ideal.ofBits .f32 0x40000000#32
  | 1 => Ideal.ofBits .f32 0x40800000#32
  | 2 => Ideal.ofBits .f32 0x41000000#32
  | _ => Ideal.ofBits .f32 0x41800000#32

section Result
open Cert.ConvGrad (at2)
open Cert.NormGrad (at3)
variable (x : (⟨2, ![8192, 2048]⟩ : Shape).Idx → EReal) (p : (⟨3, ![4, 128, 128]⟩ : Shape).Idx → EReal) (s : (⟨2, ![1, 512]⟩ : Shape).Idx → EReal)

/-- A group's columns of the rows, and of the scale. -/
abbrev part (g r e : ℕ) : EReal := at2 x r (128 * g + e)
abbrev scale (g e : ℕ) : EReal := at2 s 0 (128 * g + e)

/-- Group `g` of the result. -/
def group (g r f : ℕ) : EReal := mixed (part x g) (2 * 2 ^ g) (height g) (at3 p g) (scale s g) r f

/-- The result: the four groups side by side. -/
def result (r l : ℕ) : EReal := group x p s (l / 128) r (l % 128)

theorem result_eq (g r f : ℕ) (hf : f < 128) : result x p s r (128 * g + f) = group x p s g r f := by
  unfold result
  rw [show (128 * g + f) / 128 = g by omega, show (128 * g + f) % 128 = f by omega]

end Result

end Cert.Pooling
end
-- ==== Proof.PoolBlock.lean ====
module
public import proofs.«01_k».proof.Proof.PoolSpec
public import proofs.«01_k».proof.Proof.NormInputs
public import proofs.«01_k».proof.Proof.Gen.PoolIdeal.Frame
public import Idealize.ShloMosaic.Lib.Pipeline.Value
public import Idealize.ShloMosaic.Lib.Pipeline.ValueKit
public import Idealize.ShloMosaic.PureOps.Ideal.Laws
public import Idealize.ShloMosaic.Lib.Pointwise
public import Idealize.ShloMosaic.Lib.KernelVsHost
public import Idealize.ShloMosaic.Lib.Pipeline.ReadBack
@[expose] public section
set_option maxRecDepth 16384
noncomputable section
/-! What the body of the pooling computes from the blocks it loads. -/

namespace Cert.Pooling
open Cert.PoolIdeal Cert.PoolIdeal.Gen
open Idealize.ShloMosaic Idealize.ShloMosaic.TcCoe Idealize.ShloMosaic.Tactic
open Idealize.SL.Sem
variable (t : Fin cfg0.N) (U : ℕ → ℕ → EReal)

/-- The rows of a block behind the sixteen before it, zero before the first row of all. -/
def behind (p e : ℕ) : EReal := if 16 ≤ 256 * t.val + p then U (256 * t.val + p - 16) e else 0

/-- The array holds the sums of the last `w` rows, where there are so many. -/
def Sums (w : ℕ) (v : S272x128.Idx → EReal) (Z : ℕ → ℕ → EReal) : Prop :=
  ∀ (p : Fin 272) (e : Fin 128), w ≤ p.val + 1 → v (ix2 p e) = ∑ k ∈ Finset.range w, Z (p.val - k) e.val

/-- The array and itself turned by `w` rows hold the sums of twice as many. -/
theorem sums_step (Z : ℕ → ℕ → EReal) (w : ℕ) (b : BitVec 32) (hb : b.toNat = w) (hw : w < 272) (v : FVec Ideal S272x128 .f32) (h : Sums w v Z) :
    Sums (2 * w) (addf v (dynamicRotate 0 b none v rotates_S272x128_d0)) Z := by
  intro p e hp
  have hr : dynamicRotate 0 b none v rotates_S272x128_d0 (ix2 p e) = v (ix2 (⟨p.val - w, by omega⟩ : Fin 272) e) :=
    dynamicRotate_apply (0 : Fin 2) b v rotates_S272x128_d0 _ _ (fun a => match a with
      | ⟨0, _⟩ => by
        show p.val - w = if (0 : Fin 2) = 0 then (p.val + 272 - b.toNat % 272) % 272 else p.val
        rw [if_pos rfl, hb]
        omega
      | ⟨1, _⟩ => by
        show e.val = if (1 : Fin 2) = 0 then (e.val + 128 - b.toNat % 128) % 128 else e.val
        rw [if_neg (by decide)])
  show v (ix2 p e) + dynamicRotate 0 b none v rotates_S272x128_d0 (ix2 p e) = _
  rw [hr, h p e (by omega), h _ e (by show w ≤ p.val - w + 1; omega)]
  exact double (fun q => Z q e.val) w p.val hp

theorem first : Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1) t

/-- The block behind the sixteen rows before it. -/
theorem behind_rows (c : BitVec 1) (hc : c = if t.val = 0 then 1#1 else 0#1) :
    Sums 1 (concatenate S272x128 0 [⟨S16x128, Scalar.select c (broadcast S16x128 (Scalar.ofBits (F := Ideal) .f32 0x00000000#32)) (fun j : S16x128.Idx => U (16 * (16 * t.val - 1) + (j 0).val) (j 1).val)⟩,
      ⟨S256x128, (fun j : S256x128.Idx => U (256 * t.val + (j 0).val) (j 1).val)⟩] concatenates_S16x128_S256x128_S272x128_d0) (behind t U) := by
  intro p e _
  rw [Finset.sum_range_one, Nat.sub_zero, hc]
  unfold behind
  by_cases ht : t.val = 0
  · rw [if_pos ht]
    pointwise
    by_cases h : p.val < 16
    · rw [dif_pos h, if_neg (by omega)]
    · rw [dif_neg h, if_pos (by omega), show 256 * t.val + (p.val - 16) = 256 * t.val + p.val - 16 by omega]
  · rw [if_neg ht]
    pointwise
    by_cases h : p.val < 16
    · rw [dif_pos h, if_pos (by omega), show 16 * (16 * t.val - 1) + p.val = 256 * t.val + p.val - 16 by omega]
    · rw [dif_neg h, if_pos (by omega), show 256 * t.val + (p.val - 16) = 256 * t.val + p.val - 16 by omega]

/-- A window's sum of the block's own rows. -/
theorem window_eq (w j e : ℕ) (hw : w ≤ 16) : ∑ k ∈ Finset.range w, behind t U (16 + j - k) e = window U w (256 * t.val + j) e := by
  unfold window behind
  refine Finset.sum_congr rfl fun k hk => ?_
  have hk := Finset.mem_range.mp hk
  by_cases h : k ≤ 256 * t.val + j
  · rw [if_pos h, if_pos (by omega), show 256 * t.val + (16 + j - k) - 16 = 256 * t.val + j - k by omega]
  · rw [if_neg h, if_neg (by omega)]

theorem place : (grid0.coords t 0).val = t.val := (by decide +kernel : ∀ t : Fin grid0.N, (grid0.coords t 0).val = t.val) t

theorem count_word (a j : ℕ) (ha : a < 32) (hj : j < 256) :
    (Scalar.addi (Scalar.muli (BitVec.ofNat 32 a) 256#32) 1#32 + BitVec.ofNat 32 j).toInt = ((256 * a + j + 1 : ℕ) : ℤ) := by
  have h : (Scalar.addi (Scalar.muli (BitVec.ofNat 32 a) 256#32) 1#32 + BitVec.ofNat 32 j).toNat = 256 * a + j + 1 := by
    show (BitVec.ofNat 32 a * 256#32 + 1#32 + BitVec.ofNat 32 j).toNat = _
    simp only [BitVec.toNat_add, BitVec.toNat_mul, BitVec.toNat_ofNat]
    omega
  rw [BitVec.toInt_eq_toNat_of_lt (by rw [h]; omega), h]

/-- The number of rows up to each row of the block. -/
theorem counts : k0_pay2 (F := Ideal) (grid0.coords t) = fun j : S256x1.Idx => rows (256 * t.val + (j 0).val) := by
  unfold k0_pay2
  funext j
  idx_vars j
  have ht : t.val < 32 := t.isLt
  have hj : j0.val < 256 := j0.isLt
  rw [place]
  pointwise
  show (((Scalar.addi (Scalar.muli (BitVec.ofNat 32 t.val) 256#32) 1#32 + BitVec.ofNat 32 j0.val).toInt : ℝ) : EReal) = _
  rw [count_word t.val j0.val ht hj]
  unfold rows
  push_cast
  rfl

/-- From the sums to the group's columns of the result. -/
theorem columns (w : ℕ) (hw : w ≤ 16) (n : EReal) (W : ℕ → ℕ → EReal) (S : ℕ → EReal) (v : FVec Ideal S272x128 .f32) (h : Sums w v (behind t U)) :
    mulf (F := Ideal) (matmul (F := Ideal) (φ₂ := .bf16) dot_S256x128_S128x128_S256x128_1_0_0_1_n_n none
      (truncf .bf16 (subf (F := Ideal) (divf (F := Ideal) (extractStridedSlice S256x128 ![16, 0] v slices_S272x128_o16_0_S256x128)
        (broadcastTo S256x128 (minimumf (F := Ideal) (fun j : S256x1.Idx => rows (256 * t.val + (j 0).val)) (broadcast S256x1 n)) broadcasts_S256x1_S256x128))
        (extf (F := Ideal) .f32 (φ := .bf16) (fun j : S256x128.Idx => U (256 * t.val + (j 0).val) (j 1).val) bitsLt_bf16_f32)) bitsLt_bf16_f32)
      (shapeCast S128x128 (fun j : S1x128x128.Idx => W (j 1).val (j 2).val) shapeCasts_S1x128x128_S128x128) (constant S256x128 .f32 0x00000000#32))
      (broadcastTo S256x128 (fun j : S1x128.Idx => S (j 1).val) broadcasts_S1x128_S256x128)
    = fun j : S256x128.Idx => mixed U w n W S (256 * t.val + (j 0).val) (j 1).val := by
  funext j
  idx_vars j
  pointwise
  unfold mixed pooled
  rw [← Fin.sum_univ_eq_sum_range (fun k => (Ideal.div (window U w (256 * t.val + j0.val) k) (min (rows (256 * t.val + j0.val)) n) - U (256 * t.val + j0.val) k) * W k j1.val) 128]
  refine congrArg (· * S j1.val) (Finset.sum_congr rfl fun x _ => ?_)
  rw [h _ x (by show w ≤ 16 + j0.val + 1; omega), window_eq t U w j0.val x.val hw]

section Payloads
variable (W : ℕ → ℕ → EReal) (S : ℕ → EReal)

theorem group_0 : k0_pay3 (F := Ideal) (grid0.coords t) (fun j : S256x128.Idx => U (256 * t.val + (j 0).val) (j 1).val) (fun j : S16x128.Idx => U (16 * (16 * t.val - 1) + (j 0).val) (j 1).val) (fun j : S1x128x128.Idx => W (j 1).val (j 2).val) (fun j : S1x128.Idx => S (j 1).val)
    = fun j : S256x128.Idx => mixed U 2 (height 0) W S (256 * t.val + (j 0).val) (j 1).val := by
  unfold k0_pay3
  rw [counts t]
  exact columns t U 2 (by decide) (height 0) W S _ (sums_step _ 1 1#32 rfl (by decide) _ (behind_rows t U _ (first t)))

theorem group_1 : k0_pay6 (F := Ideal) (k0_pay2 (grid0.coords t)) (k0_pay4 (fun j : S256x128.Idx => U (256 * t.val + (j 0).val) (j 1).val)) (Scalar.cmpi .eq (BitVec.ofNat 32 (grid0.coords t 0).val) 0#32) (k0_pay5 (fun j : S16x128.Idx => U (16 * (16 * t.val - 1) + (j 0).val) (j 1).val)) (fun j : S1x128x128.Idx => W (j 1).val (j 2).val) (fun j : S1x128.Idx => S (j 1).val)
    = fun j : S256x128.Idx => mixed U 4 (height 1) W S (256 * t.val + (j 0).val) (j 1).val := by
  unfold k0_pay6 k0_pay4 k0_pay5
  rw [counts t]
  exact columns t U 4 (by decide) (height 1) W S _ (sums_step _ 2 2#32 rfl (by decide) _ (sums_step _ 1 1#32 rfl (by decide) _ (behind_rows t U _ (first t))))

theorem group_2 : k0_pay10 (F := Ideal) (k0_pay2 (grid0.coords t)) (k0_pay7 (fun j : S256x128.Idx => U (256 * t.val + (j 0).val) (j 1).val)) (k0_pay8 (BitVec.ofNat 32 (grid0.coords t 0).val) (fun j : S256x128.Idx => U (256 * t.val + (j 0).val) (j 1).val) (fun j : S16x128.Idx => U (16 * (16 * t.val - 1) + (j 0).val) (j 1).val)) k0_pay9 (fun j : S1x128x128.Idx => W (j 1).val (j 2).val) (fun j : S1x128.Idx => S (j 1).val)
    = fun j : S256x128.Idx => mixed U 8 (height 2) W S (256 * t.val + (j 0).val) (j 1).val := by
  unfold k0_pay10 k0_pay8 k0_pay7 k0_pay9
  rw [counts t]
  exact columns t U 8 (by decide) (height 2) W S _ (sums_step _ 4 4#32 rfl (by decide) _ (sums_step _ 2 2#32 rfl (by decide) _ (sums_step _ 1 1#32 rfl (by decide) _ (behind_rows t U _ (first t)))))

theorem group_3 : k0_pay1 (F := Ideal) (k0_pay11 (BitVec.ofNat 32 (grid0.coords t 0).val) (k0_pay2 (grid0.coords t)) (fun j : S256x128.Idx => U (256 * t.val + (j 0).val) (j 1).val) (fun j : S16x128.Idx => U (16 * (16 * t.val - 1) + (j 0).val) (j 1).val)) (k0_pay12 (fun j : S1x128x128.Idx => W (j 1).val (j 2).val)) (fun j : S1x128.Idx => S (j 1).val)
    = fun j : S256x128.Idx => mixed U 16 (height 3) W S (256 * t.val + (j 0).val) (j 1).val := by
  unfold k0_pay1 k0_pay11 k0_pay12
  rw [counts t]
  exact columns t U 16 (by decide) (height 3) W S _ (sums_step _ 8 8#32 rfl (by decide) _ (sums_step _ 4 4#32 rfl (by decide) _ (sums_step _ 2 2#32 rfl (by decide) _ (sums_step _ 1 1#32 rfl (by decide) _ (behind_rows t U _ (first t))))))

end Payloads

end Cert.Pooling
end
-- ==== Proof.PoolRun.lean ====
module
public import proofs.«01_k».proof.Proof.PoolBlock
public import proofs.«01_k».proof.Proof.Gen.PoolIdeal.Value
public import Idealize.ShloMosaic.Lib.Pipeline.Value
public import Idealize.ShloMosaic.Lib.Pipeline.ValueKit
public import Idealize.ShloMosaic.PureOps.Ideal.Laws
public import Idealize.ShloMosaic.Lib.Pipeline.ReadBack
@[expose] public section
set_option maxRecDepth 16384
noncomputable section
/-! Every run of the pooling leaves its result: the blocks it loads, the four stores of a point, and the whole array. -/

namespace Cert.Pooling
open Cert.PoolIdeal Cert.PoolIdeal.Gen
open Idealize.ShloMosaic Idealize.ShloMosaic.TcCoe Idealize.ShloMosaic.Tactic
open Idealize.SL.Sem
open Cert.ConvGrad (at2 at2_at)
open Cert.NormGrad (at3 at3_at part2 part3)
variable (m : (ℓ : Loc nD τ sig) → Buf (Elt Ideal) ℓ) (ρ : Dev nD → PrngReg) (c : Dev nD) (t : Fin cfg0.N)

/-- The rows, the weights and the scale as the region finds them. -/
abbrev arr0 : (⟨2, ![8192, 2048]⟩ : Shape).Idx → EReal := V m c main_arg0
abbrev arr1 : (⟨3, ![4, 128, 128]⟩ : Shape).Idx → EReal := V m c main_arg1
abbrev arr2 : (⟨2, ![1, 512]⟩ : Shape).Idx → EReal := V m c main_arg2

theorem index_0 : win0_0.index t 0 = t.val ∧ win0_0.index t 1 = 0 := (by decide +kernel : ∀ t : Fin grid0.N, win0_0.index t 0 = t.val ∧ win0_0.index t 1 = 0) t
theorem index_1 : win0_1.index t 0 = 16 * t.val - 1 ∧ win0_1.index t 1 = 0 := (by decide +kernel : ∀ t : Fin grid0.N, win0_1.index t 0 = 16 * t.val - 1 ∧ win0_1.index t 1 = 0) t
theorem index_2 : win0_2.index t 0 = 0 ∧ win0_2.index t 1 = 0 ∧ win0_2.index t 2 = 0 := (by decide +kernel : ∀ t : Fin grid0.N, win0_2.index t 0 = 0 ∧ win0_2.index t 1 = 0 ∧ win0_2.index t 2 = 0) t
theorem index_3 : win0_3.index t 0 = 0 ∧ win0_3.index t 1 = 0 := (by decide +kernel : ∀ t : Fin grid0.N, win0_3.index t 0 = 0 ∧ win0_3.index t 1 = 0) t
theorem index_4 : win0_4.index t 0 = t.val ∧ win0_4.index t 1 = 0 := (by decide +kernel : ∀ t : Fin grid0.N, win0_4.index t 0 = t.val ∧ win0_4.index t 1 = 0) t

theorem iblk_0 : (iblk m c 0 t : Vec Ideal S256x512 .bf16) = fun j => at2 (arr0 m c) (256 * t.val + (j 0).val) (j 1).val := by
  obtain ⟨i0, i1⟩ := index_0 t
  funext j
  unfold iblk
  rw [View.read_apply]
  refine at2_at (arr0 m c) _ _ _ ?_ ?_
  · show win0_0.index t 0 * 256 + 1 * (j 0).val = _
    rw [i0]; omega
  · show win0_0.index t 1 * 512 + 1 * (j 1).val = _
    rw [i1]; omega

theorem iblk_1 : (iblk m c 1 t : Vec Ideal S16x512 .bf16) = fun j => at2 (arr0 m c) (16 * (16 * t.val - 1) + (j 0).val) (j 1).val := by
  obtain ⟨i0, i1⟩ := index_1 t
  funext j
  unfold iblk
  rw [View.read_apply]
  refine at2_at (arr0 m c) _ _ _ ?_ ?_
  · show win0_1.index t 0 * 16 + 1 * (j 0).val = _
    rw [i0, Nat.one_mul, Nat.mul_comm]
  · show win0_1.index t 1 * 512 + 1 * (j 1).val = _
    rw [i1]; omega

theorem iblk_2 : (iblk m c 2 t : Vec Ideal S4x128x128 .bf16) = fun j => at3 (arr1 m c) (j 0).val (j 1).val (j 2).val := by
  obtain ⟨i0, i1, i2⟩ := index_2 t
  funext j
  unfold iblk
  rw [View.read_apply]
  refine at3_at (arr1 m c) _ _ _ _ ?_ ?_ ?_
  · show win0_2.index t 0 * 4 + 1 * (j 0).val = _
    rw [i0]; omega
  · show win0_2.index t 1 * 128 + 1 * (j 1).val = _
    rw [i1]; omega
  · show win0_2.index t 2 * 128 + 1 * (j 2).val = _
    rw [i2]; omega

theorem iblk_3 : (iblk m c 3 t : Vec Ideal S1x512 .f32) = fun j => at2 (arr2 m c) 0 (j 1).val := by
  obtain ⟨i0, i1⟩ := index_3 t
  funext j
  unfold iblk
  rw [View.read_apply]
  refine at2_at (arr2 m c) _ _ _ ?_ ?_
  · have hj : (j 0).val < 1 := (j 0).isLt
    show win0_3.index t 0 * 1 + 1 * (j 0).val = _
    rw [i0]; omega
  · show win0_3.index t 1 * 512 + 1 * (j 1).val = _
    rw [i1]; omega

/-- A group's part of each block, as the body loads it. -/
theorem load_0 (g : ℕ) (inb) : View.ld (Val := Elt Ideal) (e' := .bf16) (iblk m c 0 t : Vec Ideal S256x512 .bf16) (Rect.unit ![0, 128 * g] S256x128.size inb)
    = fun j : S256x128.Idx => part (arr0 m c) g (256 * t.val + (j 0).val) (j 1).val := by
  rw [iblk_0]
  refine (part2 (e := .bf16) (fun a b => at2 (arr0 m c) (256 * t.val + a) b) ![0, 128 * g] ![256, 128] inb).trans (funext fun j => ?_)
  show at2 (arr0 m c) (256 * t.val + (0 + (j 0).val)) (128 * g + (j 1).val) = _
  rw [Nat.zero_add]

theorem load_1 (g : ℕ) (inb) : View.ld (Val := Elt Ideal) (e' := .bf16) (iblk m c 1 t : Vec Ideal S16x512 .bf16) (Rect.unit ![0, 128 * g] S16x128.size inb)
    = fun j : S16x128.Idx => part (arr0 m c) g (16 * (16 * t.val - 1) + (j 0).val) (j 1).val := by
  rw [iblk_1]
  refine (part2 (e := .bf16) (fun a b => at2 (arr0 m c) (16 * (16 * t.val - 1) + a) b) ![0, 128 * g] ![16, 128] inb).trans (funext fun j => ?_)
  show at2 (arr0 m c) (16 * (16 * t.val - 1) + (0 + (j 0).val)) (128 * g + (j 1).val) = _
  rw [Nat.zero_add]

theorem load_2 (g : ℕ) (inb) : View.ld (Val := Elt Ideal) (e' := .bf16) (iblk m c 2 t : Vec Ideal S4x128x128 .bf16) (Rect.unit ![g, 0, 0] S1x128x128.size inb)
    = fun j : S1x128x128.Idx => at3 (arr1 m c) g (j 1).val (j 2).val := by
  rw [iblk_2]
  refine (part3 (e := .bf16) (fun a b k => at3 (arr1 m c) a b k) ![g, 0, 0] ![1, 128, 128] inb).trans (funext fun j => ?_)
  have hj : (j 0).val = 0 := Nat.lt_one_iff.mp (j 0).isLt
  show at3 (arr1 m c) (g + (j 0).val) (0 + (j 1).val) (0 + (j 2).val) = _
  rw [hj, Nat.zero_add, Nat.zero_add, Nat.add_zero]

theorem load_3 (g : ℕ) (inb) : View.ld (Val := Elt Ideal) (e' := .f32) (iblk m c 3 t : Vec Ideal S1x512 .f32) (Rect.unit ![0, 128 * g] S1x128.size inb)
    = fun j : S1x128.Idx => scale (arr2 m c) g (j 1).val := by
  rw [iblk_3]
  exact part2 (e := .f32) (fun _ b => at2 (arr2 m c) 0 b) ![0, 128 * g] ![1, 128] inb

theorem place_row (x : S256x128.Idx) : 256 * t.val + (x 0).val = 256 * t.val + (0 + 1 * (x 0).val) := by omega

theorem place_lane (l : ℕ) (x : S256x128.Idx) : l + (x 1).val = l + 1 * (x 1).val := by omega

/-- A group's result where its store puts it. -/
theorem group_at (g : ℕ) (x : S256x128.Idx) : group (arr0 m c) (arr1 m c) (arr2 m c) g (256 * t.val + (x 0).val) (x 1).val
    = result (arr0 m c) (arr1 m c) (arr2 m c) (256 * t.val + (0 + 1 * (x 0).val)) (128 * g + 1 * (x 1).val) :=
  (result_eq _ _ _ g _ _ (x 1).isLt).symm.trans (congrArg₂ (result _ _ _) (place_row t x) (place_lane _ x))

theorem store_0 : k0_pay3 (F := Ideal) (grid0.coords t) (View.ld (iblk m c 0 t) r0_0) (View.ld (iblk m c 1 t) r0_1) (View.ld (iblk m c 2 t) r0_2) (View.ld (iblk m c 3 t) r0_3)
    = fun j : S256x128.Idx => group (arr0 m c) (arr1 m c) (arr2 m c) 0 (256 * t.val + (j 0).val) (j 1).val := by
  have h0 : View.ld (iblk m c 0 t) r0_0 = fun j : S256x128.Idx => part (arr0 m c) 0 (256 * t.val + (j 0).val) (j 1).val := load_0 m c t 0 _
  have h1 : View.ld (iblk m c 1 t) r0_1 = fun j : S16x128.Idx => part (arr0 m c) 0 (16 * (16 * t.val - 1) + (j 0).val) (j 1).val := load_1 m c t 0 _
  have h2 : View.ld (iblk m c 2 t) r0_2 = fun j : S1x128x128.Idx => at3 (arr1 m c) 0 (j 1).val (j 2).val := load_2 m c t 0 _
  have h3 : View.ld (iblk m c 3 t) r0_3 = fun j : S1x128.Idx => scale (arr2 m c) 0 (j 1).val := load_3 m c t 0 _
  rw [h0, h1, h2, h3]
  exact group_0 t (part (arr0 m c) 0) (at3 (arr1 m c) 0) (scale (arr2 m c) 0)

theorem store_1 : k0_pay6 (F := Ideal) (k0_pay2 (grid0.coords t)) (k0_pay4 (View.ld (iblk m c 0 t) r0_4)) (Scalar.cmpi .eq (BitVec.ofNat 32 (grid0.coords t 0).val) 0#32) (k0_pay5 (View.ld (iblk m c 1 t) r0_5)) (View.ld (iblk m c 2 t) r0_6) (View.ld (iblk m c 3 t) r0_7)
    = fun j : S256x128.Idx => group (arr0 m c) (arr1 m c) (arr2 m c) 1 (256 * t.val + (j 0).val) (j 1).val := by
  have h0 : View.ld (iblk m c 0 t) r0_4 = fun j : S256x128.Idx => part (arr0 m c) 1 (256 * t.val + (j 0).val) (j 1).val := load_0 m c t 1 _
  have h1 : View.ld (iblk m c 1 t) r0_5 = fun j : S16x128.Idx => part (arr0 m c) 1 (16 * (16 * t.val - 1) + (j 0).val) (j 1).val := load_1 m c t 1 _
  have h2 : View.ld (iblk m c 2 t) r0_6 = fun j : S1x128x128.Idx => at3 (arr1 m c) 1 (j 1).val (j 2).val := load_2 m c t 1 _
  have h3 : View.ld (iblk m c 3 t) r0_7 = fun j : S1x128.Idx => scale (arr2 m c) 1 (j 1).val := load_3 m c t 1 _
  rw [h0, h1, h2, h3]
  exact group_1 t (part (arr0 m c) 1) (at3 (arr1 m c) 1) (scale (arr2 m c) 1)

theorem store_2 : k0_pay10 (F := Ideal) (k0_pay2 (grid0.coords t)) (k0_pay7 (View.ld (iblk m c 0 t) r0_8)) (k0_pay8 (BitVec.ofNat 32 (grid0.coords t 0).val) (View.ld (iblk m c 0 t) r0_8) (View.ld (iblk m c 1 t) r0_9)) (k0_pay9 (F := Ideal)) (View.ld (iblk m c 2 t) r0_10) (View.ld (iblk m c 3 t) r0_11)
    = fun j : S256x128.Idx => group (arr0 m c) (arr1 m c) (arr2 m c) 2 (256 * t.val + (j 0).val) (j 1).val := by
  have h0 : View.ld (iblk m c 0 t) r0_8 = fun j : S256x128.Idx => part (arr0 m c) 2 (256 * t.val + (j 0).val) (j 1).val := load_0 m c t 2 _
  have h1 : View.ld (iblk m c 1 t) r0_9 = fun j : S16x128.Idx => part (arr0 m c) 2 (16 * (16 * t.val - 1) + (j 0).val) (j 1).val := load_1 m c t 2 _
  have h2 : View.ld (iblk m c 2 t) r0_10 = fun j : S1x128x128.Idx => at3 (arr1 m c) 2 (j 1).val (j 2).val := load_2 m c t 2 _
  have h3 : View.ld (iblk m c 3 t) r0_11 = fun j : S1x128.Idx => scale (arr2 m c) 2 (j 1).val := load_3 m c t 2 _
  rw [h0, h1, h2, h3]
  exact group_2 t (part (arr0 m c) 2) (at3 (arr1 m c) 2) (scale (arr2 m c) 2)

theorem store_3 : k0_pay1 (F := Ideal) (k0_pay11 (BitVec.ofNat 32 (grid0.coords t 0).val) (k0_pay2 (grid0.coords t)) (View.ld (iblk m c 0 t) r0_12) (View.ld (iblk m c 1 t) r0_13)) (k0_pay12 (View.ld (iblk m c 2 t) r0_14)) (View.ld (iblk m c 3 t) r0_15)
    = fun j : S256x128.Idx => group (arr0 m c) (arr1 m c) (arr2 m c) 3 (256 * t.val + (j 0).val) (j 1).val := by
  have h0 : View.ld (iblk m c 0 t) r0_12 = fun j : S256x128.Idx => part (arr0 m c) 3 (256 * t.val + (j 0).val) (j 1).val := load_0 m c t 3 _
  have h1 : View.ld (iblk m c 1 t) r0_13 = fun j : S16x128.Idx => part (arr0 m c) 3 (16 * (16 * t.val - 1) + (j 0).val) (j 1).val := load_1 m c t 3 _
  have h2 : View.ld (iblk m c 2 t) r0_14 = fun j : S1x128x128.Idx => at3 (arr1 m c) 3 (j 1).val (j 2).val := load_2 m c t 3 _
  have h3 : View.ld (iblk m c 3 t) r0_15 = fun j : S1x128.Idx => scale (arr2 m c) 3 (j 1).val := load_3 m c t 3 _
  rw [h0, h1, h2, h3]
  exact group_3 t (part (arr0 m c) 3) (at3 (arr1 m c) 3) (scale (arr2 m c) 3)

/-- The four stores of a point, the last one first. -/
abbrev stores : List (View.Piece (Elt Ideal) S256x512 .f32) :=
  [⟨r0_12, k0_pay1 (F := Ideal) (k0_pay11 (BitVec.ofNat 32 (grid0.coords t 0).val) (k0_pay2 (grid0.coords t)) (View.ld (iblk m c 0 t) r0_12) (View.ld (iblk m c 1 t) r0_13)) (k0_pay12 (View.ld (iblk m c 2 t) r0_14)) (View.ld (iblk m c 3 t) r0_15)⟩,
    ⟨r0_8, k0_pay10 (F := Ideal) (k0_pay2 (grid0.coords t)) (k0_pay7 (View.ld (iblk m c 0 t) r0_8)) (k0_pay8 (BitVec.ofNat 32 (grid0.coords t 0).val) (View.ld (iblk m c 0 t) r0_8) (View.ld (iblk m c 1 t) r0_9)) (k0_pay9 (F := Ideal)) (View.ld (iblk m c 2 t) r0_10) (View.ld (iblk m c 3 t) r0_11)⟩,
    ⟨r0_4, k0_pay6 (F := Ideal) (k0_pay2 (grid0.coords t)) (k0_pay4 (View.ld (iblk m c 0 t) r0_4)) (Scalar.cmpi .eq (BitVec.ofNat 32 (grid0.coords t 0).val) 0#32) (k0_pay5 (View.ld (iblk m c 1 t) r0_5)) (View.ld (iblk m c 2 t) r0_6) (View.ld (iblk m c 3 t) r0_7)⟩,
    ⟨r0_0, k0_pay3 (F := Ideal) (grid0.coords t) (View.ld (iblk m c 0 t) r0_0) (View.ld (iblk m c 1 t) r0_1) (View.ld (iblk m c 2 t) r0_2) (View.ld (iblk m c 3 t) r0_3)⟩]

theorem stores_pieces : View.PiecesOf (Val := Elt Ideal) (e := .f32)
    (fun j : S256x512.Idx => result (arr0 m c) (arr1 m c) (arr2 m c) (256 * t.val + (j 0).val) (j 1).val) (stores m c t) := by
  refine ⟨?_, ?_, ?_, ?_, trivial⟩
  · exact fun x => (congrFun (store_3 m c t) x).trans (group_at m c t 3 x)
  · exact fun x => (congrFun (store_2 m c t) x).trans (group_at m c t 2 x)
  · exact fun x => (congrFun (store_1 m c t) x).trans (group_at m c t 1 x)
  · exact fun x => (congrFun (store_0 m c t) x).trans (group_at m c t 0 x)

/-- What a point writes. -/
theorem out_eq : out0_4 (grid0.coords t) (iblk m c 0 t) (iblk m c 1 t) (iblk m c 2 t) (iblk m c 3 t)
    = fun j : S256x512.Idx => result (arr0 m c) (arr1 m c) (arr2 m c) (256 * t.val + (j 0).val) (j 1).val := by
  unfold_out out0_4
  exact (congrArg View.canon (List.append_nil _).symm).trans (funext fun y => View.canon_append_of_piecesOf _ [] (stores m c t) (stores_pieces m c t) y
    (cover0_4 _ _ _ _ y))

/-- The array of the result once every block is written. -/
theorem final : (dats m 0 c).arrAt 4 cfg0.N = fun i : S8192x512.Idx => result (arr0 m c) (arr1 m c) (arr2 m c) (i 0).val (i 1).val := by
  refine (dats m 0 c).arrAt_eq_of_covers 4 (fun i : S8192x512.Idx => result (arr0 m c) (arr1 m c) (arr2 m c) (i 0).val (i 1).val) ?_ ?_
  · decide +kernel
  · intro t _ y
    show (dats m 0 c).after 4 t y = result (arr0 m c) (arr1 m c) (arr2 m c)
      (win0_4.index t 0 * 256 + 1 * (y 0).val) (win0_4.index t 1 * 512 + 1 * (y 1).val)
    rw [after0_4, out_eq, (index_4 t).1, (index_4 t).2]
    simp only [Nat.one_mul, Nat.zero_mul, Nat.zero_add, Nat.mul_comm]

/-- The three arguments as launched. -/
abbrev arg0 : S8192x2048.Idx → EReal := m ((c : Thread nD τ).loc main_arg0)
abbrev arg1 : S4x128x128.Idx → EReal := m ((c : Thread nD τ).loc main_arg1)
abbrev arg2 : S1x512.Idx → EReal := m ((c : Thread nD τ).loc main_arg2)

/-- Every run of the kernel leaves the pooled columns and its arguments as they were. -/
theorem run : θ_run defs (onTc (τ := τ) (main (F := Ideal))) ⟨m, fun _ => 0, ρ⟩ fun r => ∀ c : Dev nD,
      r.2.mem ((c : Thread nD τ).loc main_v0) = (fun i : S8192x512.Idx => result (arg0 m c) (arg1 m c) (arg2 m c) (i 0).val (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.PoolIdeal.Value.run_blocks m ρ)

end Cert.Pooling
end
-- ==== Proof.PoolPlain.lean ====
module
public import proofs.«01_k».proof.Proof.PoolSpec
public import proofs.«01_k».proof.Proof.GateFinite
public import proofs.«01_k».proof.Proof.Gen.PoolReferenceIdeal.Read
public import proofs.«01_k».proof.Pre_finite_pool
public import Idealize.ShloMosaic.Lib.Pipeline.Value
public import Idealize.ShloMosaic.Lib.KernelVsHost
public import Idealize.ShloMosaic.Lib.ReduceAll
public import Idealize.ShloMosaic.Lib.Pointwise
public import Idealize.ShloMosaic.PureOps.Ideal.Laws
@[expose] public section
set_option maxRecDepth 16384
noncomputable section
/-! The plain pooling, read at a row and a lane; and what the precondition gives. -/

namespace Cert.Pooling

section Finite
open Idealize.ShloMosaic Cert.Gates Cert.ConvGrad

/-- The columns the pooling reads have no infinite entry. -/
theorem finite [Pre_finite_pool.Facts] (x0 : (⟨2, ![8192, 2048]⟩ : Shape).Idx → EReal) (x1 : (⟨3, ![4, 128, 128]⟩ : Shape).Idx → EReal)
    (x2 : (⟨2, ![1, 512]⟩ : Shape).Idx → EReal)
    (h : Pre_finite_pool.fn (F := Ideal) x0 x1 x2 = fun _ => 1#1) (r e : ℕ) (he : e < 512) : ∃ y : ℝ, at2 x0 r e = (y : EReal) := by
  have h := congrFun h (fun a => a.elim0)
  unfold Pre_finite_pool.fn at h
  haveI : Subsingleton (Pre_finite_pool.S_).Idx := ⟨fun a b => funext fun c => c.elim0⟩
  by_cases hr : r < 8192
  · obtain ⟨y, hy⟩ := real_of_all _ _ _ _ _ h (ix2 (⟨r, hr⟩ : Fin 8192) (⟨e, he⟩ : Fin 512))
    refine ⟨y, Eq.trans ?_ hy⟩
    rw [at2_of_lt x0 r e hr (by omega)]
    symm
    pointwise
  · refine ⟨0, ?_⟩
    unfold at2
    rw [dif_neg (fun h => hr h.1)]
    rfl

end Finite

namespace Plain
open Cert.PoolReferenceIdeal Cert.PoolReferenceIdeal.Gen Cert.PoolReferenceIdeal.Read
open Idealize.ShloMosaic Idealize.ShloMosaic.TcCoe Idealize.ShloMosaic.Tactic
open Cert.ConvGrad (at2 at2_ix2 at2_of_lt)
open Cert.NormGrad (at3 at3_of_lt)
variable (x0 : S8192x2048.Idx → EReal) (x1 : S4x128x128.Idx → EReal) (x2 : S1x512.Idx → EReal)

/-- A fold that adds is a sum. -/
theorem fold_sum (n : ℕ) (f : Fin n → EReal) : (List.finRange n).foldl (fun r k => r + f k) 0 = ∑ k : Fin n, f k := by
  rw [← List.foldl_map (f := f) (g := fun r a : EReal => r + a), ← List.sum_eq_foldl, ← List.ofFn_eq_map, List.sum_ofFn]

/-- The window's positions are numbered by their first coordinate. -/
theorem position {N : ℕ} (n : Fin (⟨3, ![N + 1, 1, 1]⟩ : Shape).numel) : ((⟨3, ![N + 1, 1, 1]⟩ : Shape).rowMajor.symm n 0).val = n.val
    ∧ ((⟨3, ![N + 1, 1, 1]⟩ : Shape).rowMajor.symm n 1).val = 0 ∧ ((⟨3, ![N + 1, 1, 1]⟩ : Shape).rowMajor.symm n 2).val = 0 := by
  have h1 : ((⟨3, ![N + 1, 1, 1]⟩ : Shape).rowMajor.symm n 1).val < 1 := ((⟨3, ![N + 1, 1, 1]⟩ : Shape).rowMajor.symm n 1).isLt
  have h2 : ((⟨3, ![N + 1, 1, 1]⟩ : Shape).rowMajor.symm n 2).val < 1 := ((⟨3, ![N + 1, 1, 1]⟩ : Shape).rowMajor.symm n 2).isLt
  have h : ((⟨3, ![N + 1, 1, 1]⟩ : Shape).rowMajor ((⟨3, ![N + 1, 1, 1]⟩ : Shape).rowMajor.symm n)).val = n.val := by rw [Equiv.apply_symm_apply]
  rw [Shape.rowMajor_val_three] at h
  change (((⟨3, ![N + 1, 1, 1]⟩ : Shape).rowMajor.symm n 0).val * 1 + ((⟨3, ![N + 1, 1, 1]⟩ : Shape).rowMajor.symm n 1).val) * 1
    + ((⟨3, ![N + 1, 1, 1]⟩ : Shape).rowMajor.symm n 2).val = n.val at h
  omega

/-- The sum over a window that ends at row `r`. -/
theorem window_sum (f : ℕ → EReal) (N r : ℕ) (hr : r < N + 1) :
    ∑ n ∈ Finset.range (N + 1), (if N ≤ r + n then f (r + n - N) else 0) = ∑ k ∈ Finset.range (r + 1), f k := by
  rw [show N + 1 = (N - r) + (r + 1) by omega, Finset.sum_range_add _ (N - r) (r + 1)]
  rw [Finset.sum_eq_zero (fun n hn => if_neg (by have := Finset.mem_range.mp hn; omega)), zero_add]
  refine Finset.sum_congr rfl fun k _ => ?_
  rw [if_pos (by omega)]
  congr 1
  omega

/-- The running sum along the first axis. -/
theorem cumulative {N R : ℕ} (hN : N + 1 = R) (x : (⟨3, ![R, 4, 128]⟩ : Shape).Idx → EReal) (i : S_.Idx → EReal) (hi : ∀ j, i j = 0) (h) (hu) (r : Fin R) (g : Fin 4) (e : Fin 128) :
    Host.reduceWindowAdd (F := Ideal) (φ := .f32) (s := ⟨3, ![R, 4, 128]⟩) (t := ⟨3, ![R, 4, 128]⟩) ![R, 1, 1] ![1, 1, 1] ![N, 0, 0] ![0, 0, 0] x i h hu (ix3 r g e)
      = ∑ k ∈ Finset.range (r.val + 1), at3 x k g.val e.val := by
  subst hN
  show Host.reduceWindow (· + ·) ![N + 1, 1, 1] ![1, 1, 1] ![N, 0, 0] ![0, 0, 0] x (fun _ : (⟨0, ![]⟩ : Shape).Idx => i (Shape.Idx.first hu)) h hu (ix3 r g e) = _
  rw [hi]
  unfold Host.reduceWindow
  dsimp only
  refine (fold_sum _ _).trans ?_
  rw [← window_sum (fun k => at3 x k g.val e.val) N r.val r.isLt]
  have hc : (⟨3, ![N + 1, 1, 1]⟩ : Shape).numel = N + 1 := by simp [Shape.numel, Fin.prod_univ_succ]
  refine Eq.trans (Finset.sum_congr rfl fun n _ => ?_) (Fin.sum_univ_eq_sum_range (fun n => if N ≤ r.val + n then at3 x (r.val + n - N) g.val e.val else 0) (⟨3, ![N + 1, 1, 1]⟩ : Shape).numel |>.trans (by rw [hc]))
  obtain ⟨p0, p1, p2⟩ := position n
  have hg := g.isLt
  have he := e.isLt
  have hr := r.isLt
  have hn : n.val < N + 1 := lt_of_lt_of_eq n.isLt hc
  split
  · next hin =>
    have h0 := hin 0
    change N ≤ r.val * 1 + ((⟨3, ![N + 1, 1, 1]⟩ : Shape).rowMajor.symm n 0).val ∧ _ at h0
    rw [p0] at h0
    rw [if_pos (by omega)]
    refine Cert.NormGrad.at3_at x _ _ _ _ ?_ ?_ ?_
    · show r.val * 1 + ((⟨3, ![N + 1, 1, 1]⟩ : Shape).rowMajor.symm n 0).val - N = _
      rw [p0, Nat.mul_one]
    · show g.val * 1 + ((⟨3, ![N + 1, 1, 1]⟩ : Shape).rowMajor.symm n 1).val - 0 = _
      rw [p1]; omega
    · show e.val * 1 + ((⟨3, ![N + 1, 1, 1]⟩ : Shape).rowMajor.symm n 2).val - 0 = _
      rw [p2]; omega
  · next hin =>
    rw [if_neg fun hle => hin fun a => by
      match a with
      | ⟨0, _⟩ =>
        show N ≤ r.val * 1 + ((⟨3, ![N + 1, 1, 1]⟩ : Shape).rowMajor.symm n 0).val ∧ r.val * 1 + ((⟨3, ![N + 1, 1, 1]⟩ : Shape).rowMajor.symm n 0).val - N < N + 1
        rw [p0]; omega
      | ⟨1, _⟩ =>
        show 0 ≤ g.val * 1 + ((⟨3, ![N + 1, 1, 1]⟩ : Shape).rowMajor.symm n 1).val ∧ g.val * 1 + ((⟨3, ![N + 1, 1, 1]⟩ : Shape).rowMajor.symm n 1).val - 0 < 4
        rw [p1]; omega
      | ⟨2, _⟩ =>
        show 0 ≤ e.val * 1 + ((⟨3, ![N + 1, 1, 1]⟩ : Shape).rowMajor.symm n 2).val ∧ e.val * 1 + ((⟨3, ![N + 1, 1, 1]⟩ : Shape).rowMajor.symm n 2).val - 0 < 128
        rw [p2]; omega]

theorem rows_at (r : Fin 8192) (g : Fin 4) (e : Fin 128) : val_main_v3 (F := Ideal) x0 (ix3 r g e) = part x0 g r e := by
  unfold val_main_v3 val_main_v1 val_main_v0
  pointwise
  unfold part
  rw [at2_of_lt x0 r.val (128 * g.val + e.val) r.isLt (by have := g.isLt; have := e.isLt; omega)]
  exact congrArg x0 (congrArg (ix2 r) (Fin.ext (by show g.val * 128 + e.val = 128 * g.val + e.val; omega)))

theorem running_at (r : Fin 8192) (g : Fin 4) (e : Fin 128) : val_main_v4 (F := Ideal) x0 (ix3 r g e) = running (part x0 g) r e := by
  unfold val_main_v4
  refine (cumulative (N := 8191) rfl _ _ (fun j => ?_) _ _ r g e).trans ?_
  · unfold val_main_call0_call0_v0 val_main_call0_call0_cst
    pointwise
  · unfold running
    refine Finset.sum_congr rfl fun k hk => ?_
    have hk := Finset.mem_range.mp hk
    have hr := r.isLt
    rw [at3_of_lt _ k g.val e.val (by omega) g.isLt e.isLt]
    exact rows_at x0 ⟨k, by omega⟩ g e

theorem count_at (r : Fin 8192) (z : Fin 1) : val_main_v8 (F := Ideal) (ix2 r z) = rows r := by
  unfold val_main_v8 val_main_v7 val_main_v6 val_main_v5 val_main_cst
  pointwise
  show 1 + (((BitVec.ofNat 32 r.val).toInt : ℝ) : EReal) = rows r.val
  have hr := r.isLt
  have h : (BitVec.ofNat 32 r.val).toNat = r.val := by rw [BitVec.toNat_ofNat]; omega
  rw [BitVec.toInt_eq_toNat_of_lt (by rw [h]; omega), h, add_comm]
  rfl

theorem pooled_0 (hx : ∀ r e : ℕ, e < 512 → ∃ y : ℝ, at2 x0 r e = (y : EReal)) (r : Fin 8192) (e : Fin 128) :
    val_main_v21 (F := Ideal) x0 (ix2 r e) = pooled (part x0 0) 2 (height 0) r e := by
  unfold val_main_v21 val_main_v20 val_main_v19 val_main_v18 val_main_v17 val_main_v16 val_main_v15 val_main_v14 val_main_v13 val_main_cst_1 val_main_v12 val_main_v11 val_main_v10 val_main_v9 val_main_cst_0
  pointwise
  have hr := r.isLt
  have hd := running_sub (part x0 0) e.val (fun a => hx a _ (by have := e.isLt; omega)) 2 r.val (by decide)
  unfold pooled
  rw [← hd, running_at x0 r 0 e, count_at, rows_at]
  refine congrArg (fun a => Ideal.div (running (part x0 0) r.val e.val - a) _ - _) ?_
  by_cases h : r.val < 2
  · rw [dif_pos h, if_pos h]
  · rw [dif_neg h, if_neg h]
    exact running_at x0 _ 0 e

theorem pooled_1 (hx : ∀ r e : ℕ, e < 512 → ∃ y : ℝ, at2 x0 r e = (y : EReal)) (r : Fin 8192) (e : Fin 128) :
    val_main_v34 (F := Ideal) x0 (ix2 r e) = pooled (part x0 1) 4 (height 1) r e := by
  unfold val_main_v34 val_main_v33 val_main_v32 val_main_v31 val_main_v30 val_main_v29 val_main_v28 val_main_v27 val_main_v26 val_main_cst_3 val_main_v25 val_main_v24 val_main_v23 val_main_v22 val_main_cst_2
  pointwise
  have hr := r.isLt
  have hd := running_sub (part x0 1) e.val (fun a => hx a _ (by have := e.isLt; omega)) 4 r.val (by decide)
  unfold pooled
  rw [← hd, running_at x0 r 1 e, count_at, rows_at]
  refine congrArg (fun a => Ideal.div (running (part x0 1) r.val e.val - a) _ - _) ?_
  by_cases h : r.val < 4
  · rw [dif_pos h, if_pos h]
  · rw [dif_neg h, if_neg h]
    exact running_at x0 _ 1 e

theorem pooled_2 (hx : ∀ r e : ℕ, e < 512 → ∃ y : ℝ, at2 x0 r e = (y : EReal)) (r : Fin 8192) (e : Fin 128) :
    val_main_v47 (F := Ideal) x0 (ix2 r e) = pooled (part x0 2) 8 (height 2) r e := by
  unfold val_main_v47 val_main_v46 val_main_v45 val_main_v44 val_main_v43 val_main_v42 val_main_v41 val_main_v40 val_main_v39 val_main_cst_5 val_main_v38 val_main_v37 val_main_v36 val_main_v35 val_main_cst_4
  pointwise
  have hr := r.isLt
  have hd := running_sub (part x0 2) e.val (fun a => hx a _ (by have := e.isLt; omega)) 8 r.val (by decide)
  unfold pooled
  rw [← hd, running_at x0 r 2 e, count_at, rows_at]
  refine congrArg (fun a => Ideal.div (running (part x0 2) r.val e.val - a) _ - _) ?_
  by_cases h : r.val < 8
  · rw [dif_pos h, if_pos h]
  · rw [dif_neg h, if_neg h]
    exact running_at x0 _ 2 e

theorem pooled_3 (hx : ∀ r e : ℕ, e < 512 → ∃ y : ℝ, at2 x0 r e = (y : EReal)) (r : Fin 8192) (e : Fin 128) :
    val_main_v60 (F := Ideal) x0 (ix2 r e) = pooled (part x0 3) 16 (height 3) r e := by
  unfold val_main_v60 val_main_v59 val_main_v58 val_main_v57 val_main_v56 val_main_v55 val_main_v54 val_main_v53 val_main_v52 val_main_cst_7 val_main_v51 val_main_v50 val_main_v49 val_main_v48 val_main_cst_6
  pointwise
  have hr := r.isLt
  have hd := running_sub (part x0 3) e.val (fun a => hx a _ (by have := e.isLt; omega)) 16 r.val (by decide)
  unfold pooled
  rw [← hd, running_at x0 r 3 e, count_at, rows_at]
  refine congrArg (fun a => Ideal.div (running (part x0 3) r.val e.val - a) _ - _) ?_
  by_cases h : r.val < 16
  · rw [dif_pos h, if_pos h]
  · rw [dif_neg h, if_neg h]
    exact running_at x0 _ 3 e

theorem four (hx : ∀ r e : ℕ, e < 512 → ∃ y : ℝ, at2 x0 r e = (y : EReal)) (r : Fin 8192) (g : Fin 4) (e : Fin 128) :
    val_main_v65 (F := Ideal) x0 (ix3 r g e) = pooled (part x0 g.val) (2 * 2 ^ g.val) (height g.val) r e := by
  unfold val_main_v65 val_main_v61 val_main_v62 val_main_v63 val_main_v64
  fin_cases g
  · pointwise
    exact pooled_0 x0 hx r e
  · pointwise
    exact pooled_1 x0 hx r e
  · pointwise
    exact pooled_2 x0 hx r e
  · pointwise
    exact pooled_3 x0 hx r e

/-- The plain pooling. -/
theorem pooling (hx : ∀ r e : ℕ, e < 512 → ∃ y : ℝ, at2 x0 r e = (y : EReal)) :
    val_main_v70 (F := Ideal) x0 x1 x2 = fun i : S8192x512.Idx => result x0 x1 x2 (i 0).val (i 1).val := by
  funext i
  idx_vars i
  unfold val_main_v70 val_main_v69 val_main_v68 val_main_v67 val_main_v66 val_main_v2
  pointwise
  have hi := i1.isLt
  unfold result group mixed
  rw [← Fin.sum_univ_eq_sum_range (fun k => pooled (part x0 (i1.val / 128)) (2 * 2 ^ (i1.val / 128)) (height (i1.val / 128)) i0.val k * at3 x1 (i1.val / 128) k (i1.val % 128)) 128]
  refine congrArg₂ (· * ·) (Finset.sum_congr rfl fun k _ => ?_) ?_
  · rw [four x0 hx, at3_of_lt x1 (i1.val / 128) k.val (i1.val % 128) (by omega) k.isLt (by omega), mul_comm]
  · unfold scale
    rw [show 128 * (i1.val / 128) + i1.val % 128 = i1.val by omega]
    exact (at2_ix2 x2 0 i1).symm

end Plain
end Cert.Pooling
end
-- ==== Proof.EnterBlock.lean ====
module
public import proofs.«01_k».proof.Proof.NormInputs
public import proofs.«01_k».proof.Proof.EvenSpec
public import proofs.«01_k».proof.Proof.Gen.EnterIdeal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws
@[expose] public section
set_option maxRecDepth 16384
noncomputable section
/-! The even layer's projection of the normed rows, of one block. -/

namespace Cert.Enter
open Cert.EnterIdeal Cert.EnterIdeal.Gen
open Idealize.ShloMosaic Idealize.ShloMosaic.TcCoe Idealize.ShloMosaic.Tactic
open Idealize.SL.Sem Cert.ConvGrad
open Cert.NormGrad (at3 at3_at at3_of_lt part2 part3 hz2 meanSquare normed)
open Cert.EvenIn (column)
open Cert.NormGrad renaming inv → invRoot

/-- Column `k` of the projection of row `r`. -/
def projected (x : (⟨2, ![8192, 1024]⟩ : Shape).Idx → EReal) (g : (⟨2, ![1, 1024]⟩ : Shape).Idx → EReal) (w : (⟨3, ![4, 1024, 512]⟩ : Shape).Idx → EReal) (r k : ℕ) : EReal :=
  ∑ e ∈ Finset.range 1024, normed x r e * at2 g 0 e * column w e k

section Body
variable (X : ℕ → ℕ → EReal) (W : ℕ → ℕ → EReal) (G : ℕ → EReal)

/-- The normed and scaled rows of a block. -/
theorem scaled_block : k0_pay2 (F := Ideal) (fun j : S512x1024.Idx => X (j 0).val (j 1).val) (fun j : S1x1024.Idx => G (j 1).val)
    = fun j : S512x1024.Idx => X (j 0).val (j 1).val * invRoot (X (j 0).val) * G (j 1).val := by
  unfold k0_pay2
  funext j
  idx_vars j
  pointwise
  unfold invRoot meanSquare
  rw [Fin.sum_univ_eq_sum_range (fun k => X j0.val k * X j0.val k) 1024]

/-- One quarter of the columns. -/
theorem quarter_block (H : ℕ → ℕ → EReal) : k0_pay1 (F := Ideal) (fun j : S512x1024.Idx => H (j 0).val (j 1).val) (fun j : S1x1024x512.Idx => W (j 1).val (j 2).val)
    = fun j : S512x512.Idx => ∑ e ∈ Finset.range 1024, H (j 0).val e * W e (j 1).val := by
  unfold k0_pay1
  funext j
  idx_vars j
  pointwise
  simp only [← Fin.sum_univ_eq_sum_range]

end Body

variable (m : (ℓ : Loc nD τ sig) → Buf (Elt Ideal) ℓ) (c : Dev nD) (t : Fin cfg0.N)

/-- The rows, the scale and the weights as the region finds them. -/
abbrev arr0 : (⟨2, ![8192, 1024]⟩ : Shape).Idx → EReal := V m c main_arg0
abbrev arr1 : (⟨2, ![1, 1024]⟩ : Shape).Idx → EReal := V m c main_arg1
abbrev arr2 : (⟨3, ![4, 1024, 512]⟩ : Shape).Idx → EReal := V m c main_arg2

theorem index_0 : win0_0.index t 0 = t.val ∧ win0_0.index t 1 = 0 := (by decide +kernel : ∀ t : Fin grid0.N, win0_0.index t 0 = t.val ∧ win0_0.index t 1 = 0) t
theorem index_1 : win0_1.index t 0 = 0 ∧ win0_1.index t 1 = 0 := (by decide +kernel : ∀ t : Fin grid0.N, win0_1.index t 0 = 0 ∧ win0_1.index t 1 = 0) t
theorem index_2 : win0_2.index t 0 = 0 ∧ win0_2.index t 1 = 0 ∧ win0_2.index t 2 = 0 := (by decide +kernel : ∀ t : Fin grid0.N, win0_2.index t 0 = 0 ∧ win0_2.index t 1 = 0 ∧ win0_2.index t 2 = 0) t
theorem index_3 : win0_3.index t 0 = t.val ∧ win0_3.index t 1 = 0 := (by decide +kernel : ∀ t : Fin grid0.N, win0_3.index t 0 = t.val ∧ win0_3.index t 1 = 0) t

theorem iblk_0 : (iblk m c 0 t : Vec Ideal S512x1024 .f32) = fun j => at2 (arr0 m c) (512 * t.val + (j 0).val) (j 1).val := by
  obtain ⟨i0, i1⟩ := index_0 t
  funext j
  unfold iblk
  rw [View.read_apply]
  refine at2_at (arr0 m c) _ _ _ ?_ ?_
  · show win0_0.index t 0 * 512 + 1 * (j 0).val = _
    rw [i0]; omega
  · show win0_0.index t 1 * 1024 + 1 * (j 1).val = _
    rw [i1]; omega

theorem iblk_1 : (iblk m c 1 t : Vec Ideal S1x1024 .f32) = fun j => at2 (arr1 m c) 0 (j 1).val := by
  obtain ⟨i0, i1⟩ := index_1 t
  funext j
  unfold iblk
  rw [View.read_apply]
  refine at2_at (arr1 m c) _ _ _ ?_ ?_
  · have hj : (j 0).val < 1 := (j 0).isLt
    show win0_1.index t 0 * 1 + 1 * (j 0).val = _
    rw [i0]; omega
  · show win0_1.index t 1 * 1024 + 1 * (j 1).val = _
    rw [i1]; omega

theorem iblk_2 : (iblk m c 2 t : Vec Ideal S4x1024x512 .bf16) = fun j => at3 (arr2 m c) (j 0).val (j 1).val (j 2).val := by
  obtain ⟨i0, i1, i2⟩ := index_2 t
  funext j
  unfold iblk
  rw [View.read_apply]
  refine at3_at (arr2 m c) _ _ _ _ ?_ ?_ ?_
  · show win0_2.index t 0 * 4 + 1 * (j 0).val = _
    rw [i0]; omega
  · show win0_2.index t 1 * 1024 + 1 * (j 1).val = _
    rw [i1]; omega
  · show win0_2.index t 2 * 512 + 1 * (j 2).val = _
    rw [i2]; omega

/-- A quarter of the weights, as the body loads it. -/
theorem load_2 (s : ℕ) (inb) : View.ld (Val := Elt Ideal) (e' := .bf16) (iblk m c 2 t : Vec Ideal S4x1024x512 .bf16) (Rect.unit ![s, 0, 0] S1x1024x512.size inb)
    = fun j => at3 (arr2 m c) s (j 1).val (j 2).val := by
  rw [iblk_2]
  refine (part3 (e := .bf16) (fun a b k => at3 (arr2 m c) a b k) ![s, 0, 0] ![1, 1024, 512] inb).trans (funext fun j => ?_)
  have hj : (j 0).val = 0 := Nat.lt_one_iff.mp (j 0).isLt
  show at3 (arr2 m c) (s + (j 0).val) (0 + (j 1).val) (0 + (j 2).val) = _
  rw [hj, Nat.zero_add, Nat.zero_add, Nat.add_zero]

/-- Quarter `s` of the block, over its own rows and columns. -/
theorem quarter_eq (s : ℕ) (inb) : k0_pay1 (F := Ideal) (k0_pay2 (F := Ideal) (iblk m c 0 t) (iblk m c 1 t)) (View.ld (iblk m c 2 t) (Rect.unit (s := S4x1024x512) ![s, 0, 0] S1x1024x512.size inb))
    = fun j : S512x512.Idx => projected (arr0 m c) (arr1 m c) (arr2 m c) (512 * t.val + (j 0).val) (512 * s + (j 1).val) := by
  have h : k0_pay2 (F := Ideal) (iblk m c 0 t) (iblk m c 1 t)
      = fun j : S512x1024.Idx => normed (arr0 m c) (512 * t.val + (j 0).val) (j 1).val * at2 (arr1 m c) 0 (j 1).val := by
    rw [iblk_0, iblk_1]
    exact scaled_block (fun r e => at2 (arr0 m c) (512 * t.val + r) e) (at2 (arr1 m c) 0)
  rw [load_2, h]
  refine (quarter_block (at3 (arr2 m c) s) (fun r e => normed (arr0 m c) (512 * t.val + r) e * at2 (arr1 m c) 0 e)).trans ?_
  funext j
  have hj : (j 1).val < 512 := (j 1).isLt
  unfold projected column
  rw [show (512 * s + (j 1).val) / 512 = s by omega, show (512 * s + (j 1).val) % 512 = (j 1).val by omega]

theorem place (x : S512x512.Idx) : 512 * t.val + (x 0).val = 512 * t.val + (0 + 1 * (x 0).val) := by omega

theorem place_lane (l : ℕ) (x : S512x512.Idx) : l + (x 1).val = l + 1 * (x 1).val := by omega

/-- The four stores of a point, the last one first. -/
abbrev quarters : List (View.Piece (Elt Ideal) S512x2048 .bf16) :=
  [⟨r0_9, k0_pay1 (F := Ideal) (k0_pay2 (F := Ideal) (iblk m c 0 t) (iblk m c 1 t)) (View.ld (iblk m c 2 t) r0_8)⟩,
    ⟨r0_7, k0_pay5 (F := Ideal) (iblk m c 0 t) (iblk m c 1 t) (View.ld (iblk m c 2 t) r0_6)⟩,
    ⟨r0_5, k0_pay4 (F := Ideal) (iblk m c 0 t) (iblk m c 1 t) (View.ld (iblk m c 2 t) r0_4)⟩,
    ⟨r0_3, k0_pay3 (F := Ideal) (iblk m c 0 t) (iblk m c 1 t) (View.ld (iblk m c 2 t) r0_2)⟩]

theorem quarters_pieces : View.PiecesOf (Val := Elt Ideal) (e := .bf16)
    (fun j : S512x2048.Idx => projected (arr0 m c) (arr1 m c) (arr2 m c) (512 * t.val + (j 0).val) (j 1).val) (quarters m c t) := by
  refine ⟨?_, ?_, ?_, ?_, trivial⟩
  · exact fun x => (congrFun (quarter_eq m c t 3 _) x).trans (congrArg₂ (projected _ _ _) (place t x) (place_lane 1536 x))
  · exact fun x => (congrFun (quarter_eq m c t 2 _) x).trans (congrArg₂ (projected _ _ _) (place t x) (place_lane 1024 x))
  · exact fun x => (congrFun (quarter_eq m c t 1 _) x).trans (congrArg₂ (projected _ _ _) (place t x) (place_lane 512 x))
  · exact fun x => (congrFun (quarter_eq m c t 0 _) x).trans (congrArg₂ (projected _ _ _) (place t x) (place_lane 0 x))

/-- What a point writes: the projection of its 512 rows, as four stores. -/
theorem out_eq : out0_3 (iblk m c 0 t) (iblk m c 1 t) (iblk m c 2 t)
    = fun j : S512x2048.Idx => projected (arr0 m c) (arr1 m c) (arr2 m c) (512 * t.val + (j 0).val) (j 1).val := by
  unfold out0_3
  rw [View.ld_unit_zero (S := S512x1024) hz2, View.ld_unit_zero (S := S1x1024) hz2]
  exact (congrArg View.canon (List.append_nil _).symm).trans (funext fun y => View.canon_append_of_piecesOf _ [] (quarters m c t) (quarters_pieces m c t) y
    (cover0_3 _ _ _ _ y))

end Cert.Enter
end
-- ==== Proof.EnterRun.lean ====
module
public import proofs.«01_k».proof.Proof.EnterBlock
public import proofs.«01_k».proof.Proof.Gen.EnterIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! Every run of the kernel leaves the projection. -/

namespace Cert.Enter
open Cert.EnterIdeal Cert.EnterIdeal.Gen
open Idealize.ShloMosaic Idealize.ShloMosaic.TcCoe Idealize.ShloMosaic.Tactic
open Idealize.SL.Sem
variable (m : (ℓ : Loc nD τ sig) → Buf (Elt Ideal) ℓ) (ρ : Dev nD → PrngReg) (c : Dev nD)

/-- The array of the projection once every block is written. -/
theorem final : (dats m 0 c).arrAt 3 cfg0.N = fun i : S8192x2048.Idx => projected (arr0 m c) (arr1 m c) (arr2 m c) (i 0).val (i 1).val := by
  refine (dats m 0 c).arrAt_eq_of_covers 3 (fun i : S8192x2048.Idx => projected (arr0 m c) (arr1 m c) (arr2 m c) (i 0).val (i 1).val) ?_ ?_
  · decide +kernel
  · intro t _ y
    show (dats m 0 c).after 3 t y = projected (arr0 m c) (arr1 m c) (arr2 m c)
      (win0_3.index t 0 * 512 + 1 * (y 0).val) (win0_3.index t 1 * 2048 + 1 * (y 1).val)
    rw [after0_3, out_eq, (index_3 t).1, (index_3 t).2]
    simp only [Nat.one_mul, Nat.zero_mul, Nat.zero_add, Nat.mul_comm]

/-- The three arguments as launched. -/
abbrev arg0 : S8192x1024.Idx → EReal := m ((c : Thread nD τ).loc main_arg0)
abbrev arg1 : S1x1024.Idx → EReal := m ((c : Thread nD τ).loc main_arg1)
abbrev arg2 : S4x1024x512.Idx → EReal := m ((c : Thread nD τ).loc main_arg2)

/-- Every run of the kernel leaves the projection and its arguments as they were. -/
theorem run : θ_run defs (onTc (τ := τ) (main (F := Ideal))) ⟨m, fun _ => 0, ρ⟩ fun r => ∀ c : Dev nD,
      r.2.mem ((c : Thread nD τ).loc main_v0) = (fun i : S8192x2048.Idx => projected (arg0 m c) (arg1 m c) (arg2 m c) (i 0).val (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.EnterIdeal.Value.run_blocks m ρ)

end Cert.Enter
end
-- ==== Proof.EnterPlain.lean ====
module
public import proofs.«01_k».proof.Proof.EnterBlock
public import proofs.«01_k».proof.Proof.NormPlain
public import proofs.«01_k».proof.Proof.Gen.EnterReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain projection, read at a row and a column. -/

namespace Cert.Enter.Plain
open Cert.EnterReferenceIdeal Cert.EnterReferenceIdeal.Gen Cert.EnterReferenceIdeal.Read
open Idealize.ShloMosaic Idealize.ShloMosaic.TcCoe Idealize.ShloMosaic.Tactic
open Cert.ConvGrad (at2 at2_ix2 at2_of_lt)
open Cert.NormGrad (at3 at3_of_lt meanSquare normed)
open Cert.EvenIn (column)
open Cert.NormGrad renaming inv → invRoot
variable (x0 : S8192x1024.Idx → EReal) (x1 : S1x1024.Idx → EReal) (x2 : S4x1024x512.Idx → EReal)

theorem inv_row (r : Fin 8192) (u : Fin 1) : val_main_v7 (F := Ideal) x0 (ix2 r u) = invRoot (at2 x0 r) := by
  unfold val_main_v7 val_main_v6 val_main_v5 val_main_v4 val_main_v3 val_main_v2 val_main_v1 val_main_v0 val_main_cst val_main_cst_0 val_main_cst_1
  pointwise
  unfold invRoot meanSquare
  rw [← Cert.NormGrad.Plain.sum_lanes x0 (fun a _ => a * a) r]

theorem scaled_row (r : Fin 8192) (e : Fin 1024) : val_main_v11 (F := Ideal) x0 x1 (ix2 r e) = normed x0 r e * at2 x1 0 e := by
  unfold val_main_v11 val_main_v10 val_main_v9 val_main_v8
  pointwise
  rw [inv_row, ← at2_ix2 x0, ← at2_ix2 x1]
  rfl

theorem column_row (e : Fin 1024) (k : Fin 2048) : val_main_v14 (F := Ideal) x2 (ix2 e k) = column x2 e k := by
  unfold val_main_v14 val_main_v13 val_main_v12
  pointwise
  unfold column
  exact (at3_of_lt x2 _ _ _ (by omega) e.isLt (by omega)).symm

/-- The projection of the normed and scaled rows. -/
theorem projection : val_main_v16 (F := Ideal) x0 x1 x2 = fun i : S8192x2048.Idx => projected x0 x1 x2 (i 0).val (i 1).val := by
  funext i
  idx_vars i
  unfold val_main_v16 val_main_v15
  pointwise
  simp only [scaled_row, column_row]
  exact Fin.sum_univ_eq_sum_range (fun e => normed x0 i0.val e * at2 x1 0 e * column x2 e i1.val) 1024

end Cert.Enter.Plain
end
-- ==== Proof.EvenOutSpec.lean ====
module
public import proofs.«01_k».proof.Proof.GateSpec
@[expose] public section
set_option maxRecDepth 16384
noncomputable section
/-! The gates and the output product of the even layer, and their gradients, as plain functions of a row and a lane. -/

namespace Cert.EvenOut
open Idealize.ShloMosaic Cert.ConvGrad
open Cert.Gates (silu silu' sg_real silu_terms dOut Fin2)

section Rows
variable (d : (⟨2, ![8192, 1024]⟩ : Shape).Idx → EReal) (w : (⟨2, ![1024, 1024]⟩ : Shape).Idx → EReal)
  (a b : (⟨2, ![8192, 512]⟩ : Shape).Idx → EReal) (q : (⟨2, ![8192, 2048]⟩ : Shape).Idx → EReal)

/-- The pooling's columns and the recurrence's, side by side. -/
def sides (r e : ℕ) : EReal := if e < 512 then at2 a r e else at2 b r (e - 512)

theorem sides_low (r e : ℕ) (h : e < 512) : sides a b r e = at2 a r e := if_pos h

theorem sides_high (r e : ℕ) : sides a b r (512 + e) = at2 b r e := by
  unfold sides
  rw [if_neg (by omega), Nat.add_sub_cancel_left]

/-- The gate's input. -/
def gateIn (r e : ℕ) : EReal := at2 q r (1024 + e)

/-- The gated columns, the input of the output product. -/
def gated (r e : ℕ) : EReal := sides a b r e * silu (gateIn q r e)

/-- The gradient of the columns. -/
def dSides (r e : ℕ) : EReal := dOut d w r e * silu (gateIn q r e)

/-- The gradient of the gate's input. -/
def dGateIn (r e : ℕ) : EReal := dOut d w r e * sides a b r e * silu' (gateIn q r e)

/-- The gradient of the output product's weights. -/
def dProduct (e k : ℕ) : EReal := ∑ r ∈ Finset.range 8192, gated a b q r e * at2 d r k

theorem sides_real (ha : Fin2 a) (hb : Fin2 b) (r e : ℕ) : ∃ y : ℝ, sides a b r e = (y : EReal) := by
  unfold sides
  split
  · exact ha.at2 _ _
  · exact hb.at2 _ _

end Rows

/-- The logistic at the two infinities. -/
theorem sg_top : sg ⊤ = 1 := by
  have h : Ideal.exp (-(⊤ : EReal)) = 0 := rfl
  unfold sg
  rw [h, add_zero]
  simp [Ideal.div]

theorem sg_bot : sg ⊥ = 0 := by
  have h : Ideal.exp (-(⊥ : EReal)) = ⊤ := rfl
  unfold sg
  have h2 : (1 : EReal) + ⊤ = ⊤ := EReal.coe_add_top 1
  rw [h, h2]
  simp [Ideal.div]

/-- The terms of the gate's derivative gather at an infinite input too, if the gradient is finite. -/
theorem terms_any (d : ℝ) (z : EReal) : (d : EReal) * sg z + z * d * (sg z * (1 - sg z)) = (d : EReal) * silu' z := by
  have h1 : (1 : EReal) - 1 = 0 := by rw [← EReal.coe_one, ← EReal.coe_sub, sub_self, EReal.coe_zero]
  induction z with
  | bot => unfold silu'; simp only [sg_bot, mul_zero, zero_mul, add_zero]
  | top => unfold silu'; simp only [sg_top, h1, mul_zero, mul_one, add_zero]
  | coe z => exact silu_terms d z

end Cert.EvenOut
end
-- ==== Proof.EvenOutBody.lean ====
module
public import proofs.«01_k».proof.Proof.EvenOutSpec
public import proofs.«01_k».proof.Proof.NormInputs
public import proofs.«01_k».proof.Proof.Gen.LeaveIdeal.Frame
public import Idealize.ShloMosaic.Lib.Pipeline.Value
public import Idealize.ShloMosaic.Lib.Pipeline.ValueKit
public import Idealize.ShloMosaic.PureOps.Ideal.Laws
public import Idealize.ShloMosaic.Lib.Pointwise
public import Idealize.ShloMosaic.Lib.Pipeline.ReadBack
@[expose] public section
set_option maxRecDepth 16384
noncomputable section
/-! What the body of the even layer's output gradient computes from the blocks it loads. -/

namespace Cert.EvenOut
open Cert.LeaveIdeal Cert.LeaveIdeal.Gen
open Idealize.ShloMosaic Idealize.ShloMosaic.TcCoe Idealize.ShloMosaic.Tactic
open Idealize.SL.Sem
open Cert.ConvGrad (sg at2 at2_at)
open Cert.Gates (silu silu' dOut)
open Cert.NormGrad (hz2)

section Body
variable (D Z Y P N : ℕ → ℕ → EReal) (W A : ℕ → ℕ → EReal)

/-- A block of the incoming gradient against the weights. -/
theorem product_block : k0_pay5 (F := Ideal) (fun j : S512x1024.Idx => D (j 0).val (j 1).val) (fun j : S1024x1024.Idx => W (j 0).val (j 1).val)
    = fun j : S512x1024.Idx => ∑ k ∈ Finset.range 1024, D (j 0).val k * W (j 1).val k := by
  unfold k0_pay5 k0_pay4
  funext j
  idx_vars j
  pointwise
  simp only [← Fin.sum_univ_eq_sum_range]

/-- The weights' gradient: the block's product is added to what was there. -/
theorem weight_block : k0_pay6 (F := Ideal) (fun j : S512x1024.Idx => D (j 0).val (j 1).val) (fun j : S1024x1024.Idx => A (j 0).val (j 1).val) (fun j : S512x1024.Idx => Y (j 0).val (j 1).val)
    = fun j : S1024x1024.Idx => A (j 0).val (j 1).val + ∑ r ∈ Finset.range 512, Y r (j 0).val * D r (j 1).val := by
  unfold k0_pay6 k0_pay4
  funext j
  idx_vars j
  pointwise
  simp only [← Fin.sum_univ_eq_sum_range]

/-- The gate's derivative. -/
theorem slope_block : k0_pay9 (F := Ideal) (fun j : S512x1024.Idx => Z (j 0).val (j 1).val) = fun j : S512x1024.Idx => silu' (Z (j 0).val (j 1).val) := by
  unfold k0_pay9 k0_pay8 k0_pay7 silu' sg
  funext j
  idx_vars j
  pointwise [zero_sub]

/-- The gradient of the columns. -/
theorem sides_block : k0_pay10 (F := Ideal) (fun j : S512x1024.Idx => D (j 0).val (j 1).val) (fun j : S1024x1024.Idx => W (j 0).val (j 1).val) (fun j : S512x1024.Idx => Z (j 0).val (j 1).val)
    = fun j : S512x1024.Idx => (∑ k ∈ Finset.range 1024, D (j 0).val k * W (j 1).val k) * silu (Z (j 0).val (j 1).val) := by
  unfold k0_pay10
  rw [product_block]
  unfold k0_pay8 k0_pay7 silu sg
  funext j
  idx_vars j
  pointwise [zero_sub]

/-- The gradient of the gate's input, in the first half of the columns and in the second. -/
theorem low_block : k0_pay1 (F := Ideal) (fun j : S512x1024.Idx => P (j 0).val (j 1).val) (fun j : S512x1024.Idx => N (j 0).val (j 1).val) (fun j : S512x512.Idx => Y (j 0).val (j 1).val)
    = fun j : S512x512.Idx => P (j 0).val (j 1).val * Y (j 0).val (j 1).val * N (j 0).val (j 1).val := by
  unfold k0_pay1
  funext j
  idx_vars j
  pointwise [Nat.zero_add]

theorem high_block : k0_pay2 (F := Ideal) (fun j : S512x1024.Idx => P (j 0).val (j 1).val) (fun j : S512x1024.Idx => N (j 0).val (j 1).val) (fun j : S512x512.Idx => Y (j 0).val (j 1).val)
    = fun j : S512x512.Idx => P (j 0).val (512 + (j 1).val) * Y (j 0).val (j 1).val * N (j 0).val (512 + (j 1).val) := by
  unfold k0_pay2
  funext j
  idx_vars j
  pointwise [Nat.zero_add]

end Body

variable (m : (ℓ : Loc nD τ sig) → Buf (Elt Ideal) ℓ) (c : Dev nD) (t : Fin cfg0.N)

/-- The arrays the region reads: the incoming gradient, the weights, the gated columns, the pooling's and the
    recurrence's columns, and the projection that holds the gate's input. -/
abbrev inD : (⟨2, ![8192, 1024]⟩ : Shape).Idx → EReal := V m c main_arg0
abbrev inW : (⟨2, ![1024, 1024]⟩ : Shape).Idx → EReal := V m c main_arg1
abbrev inG : (⟨2, ![8192, 1024]⟩ : Shape).Idx → EReal := V m c main_v5
abbrev inA : (⟨2, ![8192, 512]⟩ : Shape).Idx → EReal := V m c main_arg2
abbrev inB : (⟨2, ![8192, 512]⟩ : Shape).Idx → EReal := V m c main_arg3
abbrev inQ : (⟨2, ![8192, 2048]⟩ : Shape).Idx → EReal := V m c main_arg4

theorem index_0 : win0_0.index t 0 = t.val ∧ win0_0.index t 1 = 0 := (by decide +kernel : ∀ t : Fin grid0.N, win0_0.index t 0 = t.val ∧ win0_0.index t 1 = 0) t
theorem index_1 : win0_1.index t 0 = 0 ∧ win0_1.index t 1 = 0 := (by decide +kernel : ∀ t : Fin grid0.N, win0_1.index t 0 = 0 ∧ win0_1.index t 1 = 0) t
theorem index_2 : win0_2.index t 0 = t.val ∧ win0_2.index t 1 = 0 := (by decide +kernel : ∀ t : Fin grid0.N, win0_2.index t 0 = t.val ∧ win0_2.index t 1 = 0) t
theorem index_3 : win0_3.index t 0 = t.val ∧ win0_3.index t 1 = 0 := (by decide +kernel : ∀ t : Fin grid0.N, win0_3.index t 0 = t.val ∧ win0_3.index t 1 = 0) t
theorem index_4 : win0_4.index t 0 = t.val ∧ win0_4.index t 1 = 0 := (by decide +kernel : ∀ t : Fin grid0.N, win0_4.index t 0 = t.val ∧ win0_4.index t 1 = 0) t
theorem index_5 : win0_5.index t 0 = t.val ∧ win0_5.index t 1 = 1 := (by decide +kernel : ∀ t : Fin grid0.N, win0_5.index t 0 = t.val ∧ win0_5.index t 1 = 1) t
theorem index_6 : win0_6.index t 0 = t.val ∧ win0_6.index t 1 = 0 := (by decide +kernel : ∀ t : Fin grid0.N, win0_6.index t 0 = t.val ∧ win0_6.index t 1 = 0) t
theorem index_7 : win0_7.index t 0 = t.val ∧ win0_7.index t 1 = 0 := (by decide +kernel : ∀ t : Fin grid0.N, win0_7.index t 0 = t.val ∧ win0_7.index t 1 = 0) t
theorem index_8 : win0_8.index t 0 = 0 ∧ win0_8.index t 1 = 0 := (by decide +kernel : ∀ t : Fin grid0.N, win0_8.index t 0 = 0 ∧ win0_8.index t 1 = 0) t

/-- Window 0 at a point. -/
theorem load_0 : View.readAt (Elt Ideal) (ms0_0 t).view (Rect.unit (s := S512x1024) ![0, 0] S512x1024.size inb_S512x1024_S512x1024_0_0).toLoadRect ((hs0_0 t).unread (iblk m c 0 t))
    = fun j : S512x1024.Idx => at2 (inD m c) (512 * t.val + (j 0).val) (j 1).val := by
  have h : (iblk m c 0 t : Vec Ideal S512x1024 .f32) = fun j => at2 (inD m c) (512 * t.val + (j 0).val) (j 1).val := by
    obtain ⟨i0, i1⟩ := index_0 t
    funext j
    unfold iblk
    rw [View.read_apply]
    refine at2_at (inD m c) _ _ _ ?_ ?_
    · show win0_0.index t 0 * 512 + 1 * (j 0).val = _
      rw [i0]; omega
    · show win0_0.index t 1 * 1024 + 1 * (j 1).val = _
      rw [i1]; omega
  rw [View.readAt_eq_ld, (hs0_0 t).read_unread, View.ld_unit_zero (S := S512x1024) hz2]
  exact h

/-- Window 1 at a point. -/
theorem load_1 : View.readAt (Elt Ideal) (ms0_1 t).view (Rect.unit (s := S1024x1024) ![0, 0] S1024x1024.size inb_S1024x1024_S1024x1024_0_0).toLoadRect ((hs0_1 t).unread (iblk m c 1 t))
    = fun j : S1024x1024.Idx => at2 (inW m c) ((j 0).val) (j 1).val := by
  have h : (iblk m c 1 t : Vec Ideal S1024x1024 .bf16) = fun j => at2 (inW m c) ((j 0).val) (j 1).val := by
    obtain ⟨i0, i1⟩ := index_1 t
    funext j
    unfold iblk
    rw [View.read_apply]
    refine at2_at (inW m c) _ _ _ ?_ ?_
    · show win0_1.index t 0 * 1024 + 1 * (j 0).val = _
      rw [i0]; omega
    · show win0_1.index t 1 * 1024 + 1 * (j 1).val = _
      rw [i1]; omega
  rw [View.readAt_eq_ld, (hs0_1 t).read_unread, View.ld_unit_zero (S := S1024x1024) hz2]
  exact h

/-- Window 2 at a point. -/
theorem load_2 : View.readAt (Elt Ideal) (ms0_2 t).view (Rect.unit (s := S512x1024) ![0, 0] S512x1024.size inb_S512x1024_S512x1024_0_0).toLoadRect ((hs0_2 t).unread (iblk m c 2 t))
    = fun j : S512x1024.Idx => at2 (inG m c) (512 * t.val + (j 0).val) (j 1).val := by
  have h : (iblk m c 2 t : Vec Ideal S512x1024 .bf16) = fun j => at2 (inG m c) (512 * t.val + (j 0).val) (j 1).val := by
    obtain ⟨i0, i1⟩ := index_2 t
    funext j
    unfold iblk
    rw [View.read_apply]
    refine at2_at (inG m c) _ _ _ ?_ ?_
    · show win0_2.index t 0 * 512 + 1 * (j 0).val = _
      rw [i0]; omega
    · show win0_2.index t 1 * 1024 + 1 * (j 1).val = _
      rw [i1]; omega
  rw [View.readAt_eq_ld, (hs0_2 t).read_unread, View.ld_unit_zero (S := S512x1024) hz2]
  exact h

/-- Window 3 at a point. -/
theorem load_3 : View.readAt (Elt Ideal) (ms0_3 t).view (Rect.unit (s := S512x512) ![0, 0] S512x512.size inb_S512x512_S512x512_0_0).toLoadRect ((hs0_3 t).unread (iblk m c 3 t))
    = fun j : S512x512.Idx => at2 (inA m c) (512 * t.val + (j 0).val) (j 1).val := by
  have h : (iblk m c 3 t : Vec Ideal S512x512 .f32) = fun j => at2 (inA m c) (512 * t.val + (j 0).val) (j 1).val := by
    obtain ⟨i0, i1⟩ := index_3 t
    funext j
    unfold iblk
    rw [View.read_apply]
    refine at2_at (inA m c) _ _ _ ?_ ?_
    · show win0_3.index t 0 * 512 + 1 * (j 0).val = _
      rw [i0]; omega
    · show win0_3.index t 1 * 512 + 1 * (j 1).val = _
      rw [i1]; omega
  rw [View.readAt_eq_ld, (hs0_3 t).read_unread, View.ld_unit_zero (S := S512x512) hz2]
  exact h

/-- Window 4 at a point. -/
theorem load_4 : View.readAt (Elt Ideal) (ms0_4 t).view (Rect.unit (s := S512x512) ![0, 0] S512x512.size inb_S512x512_S512x512_0_0).toLoadRect ((hs0_4 t).unread (iblk m c 4 t))
    = fun j : S512x512.Idx => at2 (inB m c) (512 * t.val + (j 0).val) (j 1).val := by
  have h : (iblk m c 4 t : Vec Ideal S512x512 .f32) = fun j => at2 (inB m c) (512 * t.val + (j 0).val) (j 1).val := by
    obtain ⟨i0, i1⟩ := index_4 t
    funext j
    unfold iblk
    rw [View.read_apply]
    refine at2_at (inB m c) _ _ _ ?_ ?_
    · show win0_4.index t 0 * 512 + 1 * (j 0).val = _
      rw [i0]; omega
    · show win0_4.index t 1 * 512 + 1 * (j 1).val = _
      rw [i1]; omega
  rw [View.readAt_eq_ld, (hs0_4 t).read_unread, View.ld_unit_zero (S := S512x512) hz2]
  exact h

/-- Window 5 at a point. -/
theorem load_5 : View.readAt (Elt Ideal) (ms0_5 t).view (Rect.unit (s := S512x1024) ![0, 0] S512x1024.size inb_S512x1024_S512x1024_0_0).toLoadRect ((hs0_5 t).unread (iblk m c 5 t))
    = fun j : S512x1024.Idx => at2 (inQ m c) (512 * t.val + (j 0).val) (1024 + (j 1).val) := by
  have h : (iblk m c 5 t : Vec Ideal S512x1024 .bf16) = fun j => at2 (inQ m c) (512 * t.val + (j 0).val) (1024 + (j 1).val) := by
    obtain ⟨i0, i1⟩ := index_5 t
    funext j
    unfold iblk
    rw [View.read_apply]
    refine at2_at (inQ m c) _ _ _ ?_ ?_
    · show win0_5.index t 0 * 512 + 1 * (j 0).val = _
      rw [i0]; omega
    · show win0_5.index t 1 * 1024 + 1 * (j 1).val = _
      rw [i1]; omega
  rw [View.readAt_eq_ld, (hs0_5 t).read_unread, View.ld_unit_zero (S := S512x1024) hz2]
  exact h

end Cert.EvenOut
end
-- ==== Proof.EvenOutOutputs.lean ====
module
public import proofs.«01_k».proof.Proof.EvenOutBody
public import proofs.«01_k».proof.Proof.Gen.LeaveIdeal.Value
public import Idealize.ShloMosaic.Lib.Pipeline.Value
public import Idealize.ShloMosaic.Lib.Pipeline.ValueKit
public import Idealize.ShloMosaic.PureOps.Ideal.Laws
public import Idealize.ShloMosaic.Lib.Pipeline.ReadBack
@[expose] public section
set_option maxRecDepth 16384
noncomputable section
/-! What a point of the even layer's output gradient leaves in the blocks of the three gradients. -/

namespace Cert.EvenOut
open Cert.LeaveIdeal Cert.LeaveIdeal.Gen
open Idealize.ShloMosaic Idealize.ShloMosaic.TcCoe Idealize.ShloMosaic.Tactic
open Idealize.SL.Sem
open Cert.ConvGrad (at2)
open Cert.Gates (silu silu' dOut)
open Cert.NormGrad (hz2)
variable (m : (ℓ : Loc nD τ sig) → Buf (Elt Ideal) ℓ) (c : Dev nD) (t : Fin cfg0.N)

/-- The blocks as the body loads them. -/
abbrev got0 : Vec Ideal S512x1024 .f32 := View.readAt (Elt Ideal) (ms0_0 t).view (Rect.unit (s := S512x1024) ![0, 0] S512x1024.size inb_S512x1024_S512x1024_0_0).toLoadRect ((hs0_0 t).unread (iblk m c 0 t))
abbrev got1 : Vec Ideal S1024x1024 .bf16 := View.readAt (Elt Ideal) (ms0_1 t).view (Rect.unit (s := S1024x1024) ![0, 0] S1024x1024.size inb_S1024x1024_S1024x1024_0_0).toLoadRect ((hs0_1 t).unread (iblk m c 1 t))
abbrev got3 : Vec Ideal S512x512 .f32 := View.readAt (Elt Ideal) (ms0_3 t).view (Rect.unit (s := S512x512) ![0, 0] S512x512.size inb_S512x512_S512x512_0_0).toLoadRect ((hs0_3 t).unread (iblk m c 3 t))
abbrev got4 : Vec Ideal S512x512 .f32 := View.readAt (Elt Ideal) (ms0_4 t).view (Rect.unit (s := S512x512) ![0, 0] S512x512.size inb_S512x512_S512x512_0_0).toLoadRect ((hs0_4 t).unread (iblk m c 4 t))
abbrev got5 : Vec Ideal S512x1024 .bf16 := View.readAt (Elt Ideal) (ms0_5 t).view (Rect.unit (s := S512x1024) ![0, 0] S512x1024.size inb_S512x1024_S512x1024_0_0).toLoadRect ((hs0_5 t).unread (iblk m c 5 t))

/-- The rows of a block: the incoming gradient, the gated columns and the gate's input; and the gradient of the gated columns. -/
abbrev rowD (r e : ℕ) : EReal := at2 (inD m c) (512 * t.val + r) e
abbrev rowG (r e : ℕ) : EReal := at2 (inG m c) (512 * t.val + r) e
abbrev rowZ (r e : ℕ) : EReal := gateIn (inQ m c) (512 * t.val + r) e
abbrev rowO (r e : ℕ) : EReal := dOut (inD m c) (inW m c) (512 * t.val + r) e

theorem got0_eq : got0 m c t = fun j : S512x1024.Idx => rowD m c t (j 0).val (j 1).val := load_0 m c t
theorem got1_eq : got1 m c t = fun j : S1024x1024.Idx => at2 (inW m c) (j 0).val (j 1).val := load_1 m c t
theorem got3_eq : got3 m c t = fun j : S512x512.Idx => (fun r e => at2 (inA m c) (512 * t.val + r) e) (j 0).val (j 1).val := load_3 m c t
theorem got4_eq : got4 m c t = fun j : S512x512.Idx => (fun r e => at2 (inB m c) (512 * t.val + r) e) (j 0).val (j 1).val := load_4 m c t
theorem got5_eq : got5 m c t = fun j : S512x1024.Idx => rowZ m c t (j 0).val (j 1).val := load_5 m c t

theorem product_left : k0_pay5 (F := Ideal) (got0 m c t) (got1 m c t) = fun j : S512x1024.Idx => rowO m c t (j 0).val (j 1).val := by
  rw [got0_eq, got1_eq]
  exact product_block (rowD m c t) (at2 (inW m c))

theorem slope_left : k0_pay9 (F := Ideal) (got5 m c t) = fun j : S512x1024.Idx => (fun r e => silu' (rowZ m c t r e)) (j 0).val (j 1).val := by
  rw [got5_eq]
  exact slope_block (rowZ m c t)

theorem sides_left : k0_pay10 (F := Ideal) (got0 m c t) (got1 m c t) (got5 m c t)
    = fun j : S512x1024.Idx => dSides (inD m c) (inW m c) (inQ m c) (512 * t.val + (j 0).val) (j 1).val := by
  rw [got0_eq, got1_eq, got5_eq]
  exact sides_block (rowD m c t) (rowZ m c t) (at2 (inW m c))

theorem low_left : k0_pay1 (F := Ideal) (k0_pay5 (got0 m c t) (got1 m c t)) (k0_pay9 (got5 m c t)) (got3 m c t)
    = fun j : S512x512.Idx => dGateIn (inD m c) (inW m c) (inA m c) (inB m c) (inQ m c) (512 * t.val + (j 0).val) (j 1).val := by
  rw [product_left, slope_left, got3_eq]
  refine (low_block (fun r e => at2 (inA m c) (512 * t.val + r) e) (rowO m c t) (fun r e => silu' (rowZ m c t r e))).trans (funext fun j => ?_)
  unfold dGateIn
  rw [sides_low _ _ _ _ (j 1).isLt]

theorem high_left : k0_pay2 (F := Ideal) (k0_pay5 (got0 m c t) (got1 m c t)) (k0_pay9 (got5 m c t)) (got4 m c t)
    = fun j : S512x512.Idx => dGateIn (inD m c) (inW m c) (inA m c) (inB m c) (inQ m c) (512 * t.val + (j 0).val) (512 + (j 1).val) := by
  rw [product_left, slope_left, got4_eq]
  refine (high_block (fun r e => at2 (inB m c) (512 * t.val + r) e) (rowO m c t) (fun r e => silu' (rowZ m c t r e))).trans (funext fun j => ?_)
  unfold dGateIn
  rw [sides_high]

theorem place (x : S512x512.Idx) : 512 * t.val + (x 0).val = 512 * t.val + (0 + 1 * (x 0).val) := by omega

theorem place_lane (l : ℕ) (x : S512x512.Idx) : l + (x 1).val = l + 1 * (x 1).val := by omega

/-- The two stores of the gate's gradient, the last one first. -/
abbrev halves : List (View.Piece (Elt Ideal) S512x1024 .bf16) :=
  [⟨Rect.unit (s := S512x1024) ![0, 512] S512x512.size inb_S512x1024_S512x512_0_512, k0_pay2 (F := Ideal) (k0_pay5 (got0 m c t) (got1 m c t)) (k0_pay9 (got5 m c t)) (got4 m c t)⟩,
    ⟨Rect.unit (s := S512x1024) ![0, 0] S512x512.size inb_S512x1024_S512x512_0_0, k0_pay1 (F := Ideal) (k0_pay5 (got0 m c t) (got1 m c t)) (k0_pay9 (got5 m c t)) (got3 m c t)⟩]

theorem halves_pieces : View.PiecesOf (Val := Elt Ideal) (e := .bf16)
    (fun j : S512x1024.Idx => dGateIn (inD m c) (inW m c) (inA m c) (inB m c) (inQ m c) (512 * t.val + (j 0).val) (j 1).val) (halves m c t) := by
  refine ⟨?_, ?_, trivial⟩
  · exact fun x => (congrFun (high_left m c t) x).trans (congrArg₂ (dGateIn _ _ _ _ _) (place t x) (place_lane 512 x))
  · exact fun x => (congrFun (low_left m c t) x).trans (congrArg₂ (dGateIn _ _ _ _ _) (place t x) (by show (x 1).val = 0 + 1 * (x 1).val; omega))

theorem halves_cover (y : S512x1024.Idx) : ∃ pc ∈ halves m c t, y ∈ pc.1.set :=
  View.cover_of_tiled (halves m c t) S512x512.size (by rfl) y

theorem gate_left : View.canon (halves m c t)
    = fun j : S512x1024.Idx => dGateIn (inD m c) (inW m c) (inA m c) (inB m c) (inQ m c) (512 * t.val + (j 0).val) (j 1).val :=
  (congrArg View.canon (List.append_nil _).symm).trans (funext fun y => View.canon_append_of_piecesOf _ [] (halves m c t) (halves_pieces m c t) y (halves_cover m c t y))

theorem out_sides : (outsAt0 m c t.val t.isLt).1 = fun j : S512x1024.Idx => dSides (inD m c) (inW m c) (inQ m c) (512 * t.val + (j 0).val) (j 1).val := by
  by_cases h0 : t.val % 16 = 0
  · rw [outsAt0_A m c t h0]; dsimp only; unfold out0_A_6
    unfold kernelRun0_A; dsimp only
    sl_unfold_words
    rw [View.read_writes_junk_eq_canon, View.canon_cons_unit_zero (S := S512x1024) hz2]
    exact sides_left m c t
  · rw [outsAt0_B m c t h0]; dsimp only; unfold out0_B_6
    unfold kernelRun0_B; dsimp only
    sl_unfold_words
    rw [View.read_writes_junk_eq_canon, View.canon_cons_unit_zero (S := S512x1024) hz2]
    exact sides_left m c t

theorem out_gate : (outsAt0 m c t.val t.isLt).2.1
    = fun j : S512x1024.Idx => dGateIn (inD m c) (inW m c) (inA m c) (inB m c) (inQ m c) (512 * t.val + (j 0).val) (j 1).val := by
  by_cases h0 : t.val % 16 = 0
  · rw [outsAt0_A m c t h0]; dsimp only; unfold out0_A_7
    unfold kernelRun0_A; dsimp only
    sl_unfold_words
    rw [View.read_writes_junk_eq_canon]
    exact gate_left m c t
  · rw [outsAt0_B m c t h0]; dsimp only; unfold out0_B_7
    unfold kernelRun0_B; dsimp only
    sl_unfold_words
    rw [View.read_writes_junk_eq_canon]
    exact gate_left m c t

theorem zero_weight : k0_pay3 (F := Ideal) = fun j : S1024x1024.Idx => 0 := by
  unfold k0_pay3
  funext j
  pointwise

theorem out_weight_first (h0 : t.val % 16 = 0) : (outsAt0 m c t.val t.isLt).2.2 = fun j : S1024x1024.Idx => ∑ r ∈ Finset.range 512, rowG m c t r (j 0).val * rowD m c t r (j 1).val := by
  rw [outsAt0_A m c t h0]; dsimp only; unfold out0_A_8
  unfold kernelRun0_A; dsimp only
  sl_unfold_words
  rw [View.read_writes_junk_eq_canon, View.canon_cons_unit_zero (S := S1024x1024) hz2, View.readCov_unit_zero (S := S1024x1024) _ hz2, zero_weight]
  rw [load_0, load_2]
  exact (weight_block (rowD m c t) (rowG m c t) (fun _ _ => 0)).trans (funext fun j => zero_add _)

theorem out_weight_next (h0 : ¬ t.val % 16 = 0) (A : ℕ → ℕ → EReal)
    (hA : (outsAt0 m c (t.val - 1) (Nat.lt_of_le_of_lt (Nat.sub_le _ _) t.isLt)).2.2 = fun j : S1024x1024.Idx => A (j 0).val (j 1).val) :
    (outsAt0 m c t.val t.isLt).2.2 = fun j : S1024x1024.Idx => A (j 0).val (j 1).val + ∑ r ∈ Finset.range 512, rowG m c t r (j 0).val * rowD m c t r (j 1).val := by
  rw [outsAt0_B m c t h0]; dsimp only; unfold out0_B_8
  unfold kernelRun0_B; dsimp only
  sl_unfold_words
  rw [View.read_writes_junk_eq_canon, View.canon_cons_unit_zero (S := S1024x1024) hz2]
  rw [load_0, load_2]
  rw [View.readAt_eq_ld, (hs0_8 t).read_unread, View.ld_unit_zero (S := S1024x1024) hz2, hA]
  exact weight_block (rowD m c t) (rowG m c t) A

end Cert.EvenOut
end
-- ==== Proof.EvenOutRun.lean ====
module
public import proofs.«01_k».proof.Proof.EvenOutOutputs
public import proofs.«01_k».proof.Proof.NormRun
public import proofs.«01_k».proof.Proof.Gen.LeaveIdeal.Value
public import Idealize.ShloMosaic.Lib.Pipeline.Value
public import Idealize.ShloMosaic.Lib.Pipeline.ValueKit
public import Idealize.ShloMosaic.PureOps.Ideal.Laws
public import Idealize.ShloMosaic.Lib.KernelVsHost
public import Idealize.ShloMosaic.Lib.Pointwise
@[expose] public section
set_option maxRecDepth 16384
noncomputable section
/-! Every run of the even layer's output gradient leaves the three gradients. -/

namespace Cert.EvenOut
open Cert.LeaveIdeal Cert.LeaveIdeal.Gen
open Idealize.ShloMosaic Idealize.ShloMosaic.TcCoe Idealize.ShloMosaic.Tactic
open Idealize.SL.Sem
open Cert.ConvGrad (at2 at2_ix2 at2_of_lt sg)
open Cert.Gates (silu dOut)
variable (m : (ℓ : Loc nD τ sig) → Buf (Elt Ideal) ℓ) (ρ : Dev nD → PrngReg) (c : Dev nD)

/-- What the block starting at row `512 i` adds to the weights' gradient. -/
abbrev blockProduct (i e k : ℕ) : EReal := ∑ r ∈ Finset.range 512, at2 (inG m c) (512 * i + r) e * at2 (inD m c) (512 * i + r) k

/-- The running gradient of the weights after point `n`. -/
theorem weight_after : ∀ (n : ℕ) (h : n < cfg0.N), (outsAt0 m c n h).2.2 = fun j : S1024x1024.Idx => (fun e k => ∑ p ∈ Finset.range (n + 1), blockProduct m c p e k) (j 0).val (j 1).val
  | 0, h => by
    refine (out_weight_first m c ⟨0, h⟩ rfl).trans (funext fun j => ?_)
    simp only [Nat.zero_add, Finset.sum_range_one]
  | n + 1, h => by
    have hN : n + 1 < 16 := h
    refine (out_weight_next m c ⟨n + 1, h⟩ (by show ¬(n + 1) % 16 = 0; omega) (fun e k => ∑ p ∈ Finset.range (n + 1), blockProduct m c p e k) (weight_after n (Nat.lt_of_succ_lt h))).trans (funext fun j => ?_)
    dsimp only
    rw [Finset.sum_range_succ _ (n + 1)]

theorem final_sides : (dats m 0 c).arrAt 6 cfg0.N = fun i : S8192x1024.Idx => dSides (inD m c) (inW m c) (inQ m c) (i 0).val (i 1).val := by
  refine (dats m 0 c).arrAt_eq_of_covers 6 (fun i : S8192x1024.Idx => dSides (inD m c) (inW m c) (inQ m c) (i 0).val (i 1).val) ?_ ?_
  · decide +kernel
  · intro t _ y
    show (dats m 0 c).after 6 t y = dSides (inD m c) (inW m c) (inQ m c) (win0_6.index t 0 * 512 + 1 * (y 0).val) (win0_6.index t 1 * 1024 + 1 * (y 1).val)
    rw [after0_6, out_sides, (index_6 t).1, (index_6 t).2]
    simp only [Nat.one_mul, Nat.zero_mul, Nat.zero_add, Nat.mul_comm]

theorem final_gate : (dats m 0 c).arrAt 7 cfg0.N = fun i : S8192x1024.Idx => dGateIn (inD m c) (inW m c) (inA m c) (inB m c) (inQ m c) (i 0).val (i 1).val := by
  refine (dats m 0 c).arrAt_eq_of_covers 7 (fun i : S8192x1024.Idx => dGateIn (inD m c) (inW m c) (inA m c) (inB m c) (inQ m c) (i 0).val (i 1).val) ?_ ?_
  · decide +kernel
  · intro t _ y
    show (dats m 0 c).after 7 t y = dGateIn (inD m c) (inW m c) (inA m c) (inB m c) (inQ m c) (win0_7.index t 0 * 512 + 1 * (y 0).val) (win0_7.index t 1 * 1024 + 1 * (y 1).val)
    rw [after0_7, out_gate, (index_7 t).1, (index_7 t).2]
    simp only [Nat.one_mul, Nat.zero_mul, Nat.zero_add, Nat.mul_comm]

theorem final_weight : (dats m 0 c).arrAt 8 cfg0.N = fun i : S1024x1024.Idx => (fun e k => ∑ p ∈ Finset.range 16, blockProduct m c p e k) (i 0).val (i 1).val := by
  refine (dats m 0 c).arrAt_eq_of_covers 8 (fun i : S1024x1024.Idx => (fun e k => ∑ p ∈ Finset.range 16, blockProduct m c p e k) (i 0).val (i 1).val) ?_ ?_
  · decide +kernel
  · intro t ht y
    have hN : t.val < 16 := t.isLt
    have h15 := (flush0_8 t).mp ht
    obtain rfl : t = ⟨15, by decide⟩ := Fin.ext (by show t.val = 15; omega)
    show (dats m 0 c).after 8 _ y = (fun e k => ∑ p ∈ Finset.range 16, blockProduct m c p e k) (win0_8.index _ 0 * 1024 + 1 * (y 0).val) (win0_8.index _ 1 * 1024 + 1 * (y 1).val)
    rw [after0_8, weight_after, (index_8 _).1, (index_8 _).2]
    simp only [Nat.one_mul, Nat.zero_mul, Nat.zero_add]

/-- The five arguments as launched. -/
abbrev arg0 : S8192x1024.Idx → EReal := m ((c : Thread nD τ).loc main_arg0)
abbrev arg1 : S1024x1024.Idx → EReal := m ((c : Thread nD τ).loc main_arg1)
abbrev arg2 : S8192x512.Idx → EReal := m ((c : Thread nD τ).loc main_arg2)
abbrev arg3 : S8192x512.Idx → EReal := m ((c : Thread nD τ).loc main_arg3)
abbrev arg4 : S8192x2048.Idx → EReal := m ((c : Thread nD τ).loc main_arg4)

theorem inD_eq : inD m c = arg0 m c := V_main_arg0 m c
theorem inW_eq : inW m c = arg1 m c := V_main_arg1 m c
theorem inA_eq : inA m c = arg2 m c := V_main_arg2 m c
theorem inB_eq : inB m c = arg3 m c := V_main_arg3 m c
theorem inQ_eq : inQ m c = arg4 m c := V_main_arg4 m c

/-- The host's gate. -/
def hostSilu (y : FVec Ideal S8192x1024 .f32) : FVec Ideal S8192x1024 .f32 :=
  mulf y (Host.divf (broadcastInDim S8192x1024 ![] bcast_S_S8192x1024 (constant S_ .f32 0x3F800000#32))
    (addf (broadcastInDim S8192x1024 ![] bcast_S_S8192x1024 (constant S_ .f32 0x3F800000#32)) (Host.exp (Host.negf y))))

theorem host_silu (y : FVec Ideal S8192x1024 .f32) (r : Fin 8192) (e : Fin 1024) : hostSilu y (ix2 r e) = silu (y (ix2 r e)) := by
  unfold hostSilu silu sg
  pointwise

/-- The pooling's and the recurrence's columns as the host puts them side by side. -/
def hostSides (a b : FVec Ideal S8192x512 .f32) : FVec Ideal S8192x1024 .f32 :=
  concatenate S8192x1024 1 [⟨S8192x512, a⟩, ⟨S8192x512, b⟩] concatenates_S8192x512_S8192x512_S8192x1024_d1

theorem host_sides (a b : FVec Ideal S8192x512 .f32) (r : Fin 8192) (e : Fin 1024) : hostSides a b (ix2 r e) = sides a b r e := by
  unfold hostSides
  pointwise
  unfold sides
  by_cases h : e.val < 512
  · rw [dif_pos h, if_pos h]
    exact (at2_of_lt a _ _ r.isLt h).symm
  · rw [dif_neg h, if_neg h]
    exact (at2_of_lt b _ _ r.isLt (by omega)).symm

/-- The gated columns the host makes before the kernel starts. -/
theorem host_gated : inG m c = (truncf .bf16 · bitsLt_bf16_f32)
    (mulf (hostSides (arg2 m c) (arg3 m c))
      (hostSilu ((extf .f32 · bitsLt_bf16_f32) ((extractStridedSlice S8192x1024 ![0, 1024] · slices_S8192x2048_S8192x1024_0_1024) (arg4 m c))))) := by
  show StableHlo.after (List.flatten [hostOps0, hostOps0_1, hostOps0_2]) (fun b => m (c, b)) _ = _
  simp only [List.flatten_cons, List.flatten_nil, List.append_nil, List.cons_append, List.nil_append]
  after_results
  rfl

theorem gated_at (r e : ℕ) (hr : r < 8192) (he : e < 1024) : at2 (inG m c) r e = gated (arg2 m c) (arg3 m c) (arg4 m c) r e := by
  rw [at2_of_lt _ _ _ hr he, host_gated]
  pointwise
  rw [host_silu, host_sides]
  unfold gated gateIn
  pointwise
  rw [at2_of_lt (arg4 m c) _ _ hr (by omega)]

theorem sides_eq (r e : ℕ) : dSides (inD m c) (inW m c) (inQ m c) r e = dSides (arg0 m c) (arg1 m c) (arg4 m c) r e := by
  rw [inD_eq, inW_eq, inQ_eq]

theorem gate_eq (r e : ℕ) : dGateIn (inD m c) (inW m c) (inA m c) (inB m c) (inQ m c) r e = dGateIn (arg0 m c) (arg1 m c) (arg2 m c) (arg3 m c) (arg4 m c) r e := by
  rw [inD_eq, inW_eq, inA_eq, inB_eq, inQ_eq]

theorem weight_eq (e k : ℕ) (he : e < 1024) : ∑ p ∈ Finset.range 16, blockProduct m c p e k = dProduct (arg0 m c) (arg2 m c) (arg3 m c) (arg4 m c) e k := by
  unfold dProduct blockProduct
  rw [inD_eq]
  refine (Cert.NormGrad.sum_blocks fun r => at2 (inG m c) r e * at2 (arg0 m c) r k).trans ?_
  exact Finset.sum_congr rfl fun r hr => by rw [gated_at m c r e (Finset.mem_range.mp hr) he]

/-- Every run of the kernel leaves the three gradients and its arguments as they were. -/
theorem run : θ_run defs (onTc (τ := τ) (main (F := Ideal))) ⟨m, fun _ => 0, ρ⟩ fun r => ∀ c : Dev nD,
      r.2.mem ((c : Thread nD τ).loc main_v6_0) = (fun i : S8192x1024.Idx => dSides (arg0 m c) (arg1 m c) (arg4 m c) (i 0).val (i 1).val)
      ∧ r.2.mem ((c : Thread nD τ).loc main_v6_1) = (fun i : S8192x1024.Idx => dGateIn (arg0 m c) (arg1 m c) (arg2 m c) (arg3 m c) (arg4 m c) (i 0).val (i 1).val)
      ∧ r.2.mem ((c : Thread nD τ).loc main_v6_2) = (fun i : S1024x1024.Idx => dProduct (arg0 m c) (arg2 m c) (arg3 m c) (arg4 m c) (i 0).val (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1.trans (final_sides m c)).trans (funext fun i => sides_eq m c (i 0).val (i 1).val),
     ((h c).2.1.trans (final_gate m c)).trans (funext fun i => gate_eq m c (i 0).val (i 1).val),
     ((h c).2.2.1.trans (final_weight m c)).trans (funext fun i => weight_eq m c (i 0).val (i 1).val (i 0).isLt),
     (h c).2.2.2⟩)
    (Cert.LeaveIdeal.Value.run_blocks m ρ)

end Cert.EvenOut
end
-- ==== Proof.EvenOutPlain.lean ====
module
public import proofs.«01_k».proof.Proof.EvenOutSpec
public import proofs.«01_k».proof.Proof.NormPlain
public import proofs.«01_k».proof.Proof.GateFinite
public import proofs.«01_k».proof.Proof.Gen.LeaveReferenceIdeal.Read
public import proofs.«01_k».proof.Pre_finite_leave
public import Idealize.ShloMosaic.Lib.Pipeline.Value
public import Idealize.ShloMosaic.Lib.KernelVsHost
public import Idealize.ShloMosaic.Lib.ReduceAll
public import Idealize.ShloMosaic.Lib.Pointwise
public import Idealize.ShloMosaic.PureOps.Ideal.Laws
@[expose] public section
set_option maxRecDepth 16384
noncomputable section
/-! The plain gradient of the even layer's output product and gates, read at a row and a lane; and what the
    precondition gives. -/

namespace Cert.EvenOut

section Finite
open Idealize.ShloMosaic Cert.Gates

/-- The arrays the precondition reads have no infinite entry. -/
theorem finite [Pre_finite_leave.Facts] (x0 : (⟨2, ![8192, 1024]⟩ : Shape).Idx → EReal) (x1 : (⟨2, ![1024, 1024]⟩ : Shape).Idx → EReal)
    (x2 x3 : (⟨2, ![8192, 512]⟩ : Shape).Idx → EReal) (x4 : (⟨2, ![8192, 2048]⟩ : Shape).Idx → EReal)
    (h : Pre_finite_leave.fn (F := Ideal) x0 x1 x2 x3 x4 = fun _ => 1#1) : Fin2 x0 ∧ Fin2 x1 ∧ Fin2 x2 ∧ Fin2 x3 := by
  have h := congrFun h (fun a => a.elim0)
  unfold Pre_finite_leave.fn Pre_finite_leave.fn_part1 at h
  obtain ⟨h, k3⟩ := IntOp.andi_eq_one.1 h
  obtain ⟨h, k2⟩ := IntOp.andi_eq_one.1 h
  obtain ⟨k0, k1⟩ := IntOp.andi_eq_one.1 h
  haveI : Subsingleton (Pre_finite_leave.S_).Idx := ⟨fun a b => funext fun c => c.elim0⟩
  exact ⟨real_of_all x0 _ _ _ _ k0, real_of_all x1 _ _ _ _ k1, real_of_all x2 _ _ _ _ k2, real_of_all x3 _ _ _ _ k3⟩

end Finite

namespace Plain
open Cert.LeaveReferenceIdeal Cert.LeaveReferenceIdeal.Gen Cert.LeaveReferenceIdeal.Read
open Idealize.ShloMosaic Idealize.ShloMosaic.TcCoe Idealize.ShloMosaic.Tactic
open Cert.ConvGrad (at2 at2_ix2 at2_of_lt sg)
open Cert.Gates (silu silu' dOut dOut_real Fin2)
variable (x0 : S8192x1024.Idx → EReal) (x1 : S1024x1024.Idx → EReal) (x2 x3 : S8192x512.Idx → EReal) (x4 : S8192x2048.Idx → EReal)

theorem sides_row (r : Fin 8192) (e : Fin 1024) : val_main_v0 (F := Ideal) x2 x3 (ix2 r e) = sides x2 x3 r e := by
  unfold val_main_v0
  pointwise
  unfold sides
  by_cases h : e.val < 512
  · rw [dif_pos h, if_pos h]
    exact (at2_of_lt x2 _ _ r.isLt h).symm
  · rw [dif_neg h, if_neg h]
    exact (at2_of_lt x3 _ _ r.isLt (by omega)).symm

theorem gate_row (r : Fin 8192) (e : Fin 1024) : val_main_v2 (F := Ideal) x4 (ix2 r e) = gateIn x4 r e := by
  unfold val_main_v2 val_main_v1
  pointwise
  exact (at2_of_lt x4 _ _ r.isLt (by omega)).symm

/-- The logistic of the gate's input, the gate, and what the gate's derivative is made of. -/
theorem gate_sg (r : Fin 8192) (e : Fin 1024) : val_main_v4_2 (F := Ideal) x4 (ix2 r e) = sg (gateIn x4 r e) := by
  unfold val_main_v4_2 val_main_call0_v4 val_main_call0_v3 val_main_call0_v2 val_main_call0_v1 val_main_call0_v0 val_main_call0_cst val_main_call0_cst_0
  pointwise
  rw [gate_row]
  rfl

theorem gate_slope (r : Fin 8192) (e : Fin 1024) : val_main_v4_1 (F := Ideal) x4 (ix2 r e) = sg (gateIn x4 r e) * (1 - sg (gateIn x4 r e)) := by
  unfold val_main_v4_1 val_main_call0_v7 val_main_call0_v6 val_main_call0_cst_1
  pointwise
  rw [gate_sg]

theorem gate_silu (r : Fin 8192) (e : Fin 1024) : val_main_v4_0 (F := Ideal) x4 (ix2 r e) = silu (gateIn x4 r e) := by
  unfold val_main_v4_0
  pointwise
  rw [gate_sg, gate_row]
  rfl

theorem gated_row (r : Fin 8192) (e : Fin 1024) : val_main_v5 (F := Ideal) x2 x3 x4 (ix2 r e) = gated x2 x3 x4 r e := by
  unfold val_main_v5
  pointwise
  rw [sides_row, gate_silu]
  rfl

/-- The gradient of the weights. -/
theorem weight_grad : val_main_v8 (F := Ideal) x0 x2 x3 x4 = fun i : S1024x1024.Idx => dProduct x0 x2 x3 x4 (i 0).val (i 1).val := by
  funext i
  idx_vars i
  unfold val_main_v8 val_main_v7
  pointwise
  simp only [gated_row]
  unfold dProduct
  rw [← Fin.sum_univ_eq_sum_range (fun r => gated x2 x3 x4 r i0.val * at2 x0 r i1.val) 8192]
  exact Finset.sum_congr rfl fun r _ => by rw [at2_ix2, mul_comm]

theorem out_row (r : Fin 8192) (e : Fin 1024) : val_main_v9 (F := Ideal) x0 x1 (ix2 r e) = dOut x0 x1 r e := by
  unfold val_main_v9 val_main_v3
  pointwise
  unfold dOut
  rw [← Fin.sum_univ_eq_sum_range (fun k => at2 x0 r.val k * at2 x1 e.val k) 1024]
  simp only [at2_ix2]

/-- The gradient of the columns. -/
theorem sides_grad : val_main_v13 (F := Ideal) x0 x1 x4 = fun i : S8192x1024.Idx => dSides x0 x1 x4 (i 0).val (i 1).val := by
  funext i
  idx_vars i
  unfold val_main_v13 val_main_v11
  pointwise
  rw [out_row, gate_silu]
  rfl

/-- The gradient of the gate's input: the terms of the gate's derivative gather, the gradient being finite. -/
theorem gate_grad (h0 : Fin2 x0) (h1 : Fin2 x1) (h2 : Fin2 x2) (h3 : Fin2 x3) :
    val_main_v14 (F := Ideal) x0 x1 x2 x3 x4 = fun i : S8192x1024.Idx => dGateIn x0 x1 x2 x3 x4 (i 0).val (i 1).val := by
  funext i
  idx_vars i
  unfold val_main_v14 val_main_v12 val_main_call1_v2 val_main_call1_v1 val_main_call1_v0 val_main_v10
  pointwise
  rw [gate_sg, gate_slope, gate_row, out_row, sides_row]
  obtain ⟨o, ho⟩ := dOut_real x0 x1 h0 h1 i0 i1
  obtain ⟨s, hs⟩ := sides_real x2 x3 h2 h3 i0 i1
  unfold dGateIn
  rw [ho, hs, mul_comm (s : EReal), ← EReal.coe_mul]
  exact terms_any (o * s) (gateIn x4 i0 i1)

end Plain
end Cert.EvenOut
end
-- ==== Proof.MergeBlock.lean ====
module
public import proofs.«01_k».proof.Proof.EvenOutSpec
public import proofs.«01_k».proof.Proof.NormInputs
public import proofs.«01_k».proof.Proof.Gen.MergeIdeal.Frame
public import Idealize.ShloMosaic.Lib.Pipeline.Value
public import Idealize.ShloMosaic.Lib.Pipeline.ValueKit
public import Idealize.ShloMosaic.PureOps.Ideal.Laws
public import Idealize.ShloMosaic.Lib.Pointwise
public import Idealize.ShloMosaic.Lib.Pipeline.ReadBack
@[expose] public section
set_option maxRecDepth 16384
noncomputable section
/-! The gates and the output product of the even layer, of one block. -/

namespace Cert.EvenMerge
open Cert.MergeIdeal Cert.MergeIdeal.Gen
open Idealize.ShloMosaic Idealize.ShloMosaic.TcCoe Idealize.ShloMosaic.Tactic
open Idealize.SL.Sem
open Cert.EvenOut (sides sides_low sides_high gateIn gated)
open Cert.Gates (silu)
open Cert.ConvGrad (sg at2 at2_at)
open Cert.NormGrad (part2 hz2)

/-- The rows with the output product added: `a` and `b` the two sides of the columns, `q` the projection, `x` the rows, `w` the weights. -/
def merged (a b : (⟨2, ![8192, 512]⟩ : Shape).Idx → EReal) (q : (⟨2, ![8192, 2048]⟩ : Shape).Idx → EReal)
    (x : (⟨2, ![8192, 1024]⟩ : Shape).Idx → EReal) (w : (⟨2, ![1024, 1024]⟩ : Shape).Idx → EReal) (r k : ℕ) : EReal :=
  at2 x r k + ∑ e ∈ Finset.range 1024, gated a b q r e * at2 w e k

/-- A sum over the columns is the sums over their two halves. -/
theorem sum_two (f : ℕ → EReal) : ∑ e ∈ Finset.range 1024, f e = ∑ e ∈ Finset.range 512, f e + ∑ e ∈ Finset.range 512, f (512 + e) :=
  Finset.sum_range_add f 512 512

section Body
variable (Z Y A B X : ℕ → ℕ → EReal) (W W' : ℕ → ℕ → EReal)

/-- The first half of the gated columns and the second. -/
theorem low_block : k0_pay2 (F := Ideal) (fun j : S512x1024.Idx => Z (j 0).val (j 1).val) (fun j : S512x512.Idx => Y (j 0).val (j 1).val)
    = fun j : S512x512.Idx => Y (j 0).val (j 1).val * silu (Z (j 0).val (j 1).val) := by
  unfold k0_pay2 k0_pay1 silu sg
  funext j
  idx_vars j
  pointwise [zero_sub, Nat.zero_add]

theorem high_block : k0_pay3 (F := Ideal) (fun j : S512x1024.Idx => Z (j 0).val (j 1).val) (fun j : S512x512.Idx => Y (j 0).val (j 1).val)
    = fun j : S512x512.Idx => Y (j 0).val (j 1).val * silu (Z (j 0).val (512 + (j 1).val)) := by
  unfold k0_pay3 k0_pay1 silu sg
  funext j
  idx_vars j
  pointwise [zero_sub, Nat.zero_add]

/-- The rows, and to them the two halves against their halves of the weights. -/
theorem merged_block : k0_pay4 (F := Ideal) (fun j : S512x1024.Idx => Z (j 0).val (j 1).val) (fun j : S512x512.Idx => A (j 0).val (j 1).val)
      (fun j : S512x512.Idx => B (j 0).val (j 1).val) (fun j : S512x1024.Idx => X (j 0).val (j 1).val)
      (fun j : S512x1024.Idx => W (j 0).val (j 1).val) (fun j : S512x1024.Idx => W' (j 0).val (j 1).val)
    = fun j : S512x1024.Idx => X (j 0).val (j 1).val + (∑ e ∈ Finset.range 512, A (j 0).val e * silu (Z (j 0).val e) * W e (j 1).val)
        + ∑ e ∈ Finset.range 512, B (j 0).val e * silu (Z (j 0).val (512 + e)) * W' e (j 1).val := by
  unfold k0_pay4
  rw [low_block, high_block]
  funext j
  idx_vars j
  pointwise
  simp only [← Fin.sum_univ_eq_sum_range]

end Body

variable (m : (ℓ : Loc nD τ sig) → Buf (Elt Ideal) ℓ) (c : Dev nD) (t : Fin cfg0.N)

/-- The pooling's and the recurrence's columns, the projection, the rows and the weights as the region finds them. -/
abbrev arr0 : (⟨2, ![8192, 512]⟩ : Shape).Idx → EReal := V m c main_arg0
abbrev arr1 : (⟨2, ![8192, 512]⟩ : Shape).Idx → EReal := V m c main_arg1
abbrev arr2 : (⟨2, ![8192, 2048]⟩ : Shape).Idx → EReal := V m c main_arg2
abbrev arr3 : (⟨2, ![8192, 1024]⟩ : Shape).Idx → EReal := V m c main_arg3
abbrev arr4 : (⟨2, ![1024, 1024]⟩ : Shape).Idx → EReal := V m c main_arg4

theorem index_0 : win0_0.index t 0 = t.val ∧ win0_0.index t 1 = 0 := (by decide +kernel : ∀ t : Fin grid0.N, win0_0.index t 0 = t.val ∧ win0_0.index t 1 = 0) t
theorem index_1 : win0_1.index t 0 = t.val ∧ win0_1.index t 1 = 0 := (by decide +kernel : ∀ t : Fin grid0.N, win0_1.index t 0 = t.val ∧ win0_1.index t 1 = 0) t
theorem index_2 : win0_2.index t 0 = t.val ∧ win0_2.index t 1 = 1 := (by decide +kernel : ∀ t : Fin grid0.N, win0_2.index t 0 = t.val ∧ win0_2.index t 1 = 1) t
theorem index_3 : win0_3.index t 0 = t.val ∧ win0_3.index t 1 = 0 := (by decide +kernel : ∀ t : Fin grid0.N, win0_3.index t 0 = t.val ∧ win0_3.index t 1 = 0) t
theorem index_4 : win0_4.index t 0 = 0 ∧ win0_4.index t 1 = 0 := (by decide +kernel : ∀ t : Fin grid0.N, win0_4.index t 0 = 0 ∧ win0_4.index t 1 = 0) t
theorem index_5 : win0_5.index t 0 = t.val ∧ win0_5.index t 1 = 0 := (by decide +kernel : ∀ t : Fin grid0.N, win0_5.index t 0 = t.val ∧ win0_5.index t 1 = 0) t
theorem index_6 : win0_6.index t 0 = t.val ∧ win0_6.index t 1 = 0 := (by decide +kernel : ∀ t : Fin grid0.N, win0_6.index t 0 = t.val ∧ win0_6.index t 1 = 0) t

theorem iblk_0 : (iblk m c 0 t : Vec Ideal S512x512 .bf16) = fun j => at2 (arr0 m c) (512 * t.val + (j 0).val) (j 1).val := by
  obtain ⟨i0, i1⟩ := index_0 t
  funext j
  unfold iblk
  rw [View.read_apply]
  refine at2_at (arr0 m c) _ _ _ ?_ ?_
  · show win0_0.index t 0 * 512 + 1 * (j 0).val = _
    rw [i0]; omega
  · show win0_0.index t 1 * 512 + 1 * (j 1).val = _
    rw [i1]; omega

theorem iblk_1 : (iblk m c 1 t : Vec Ideal S512x512 .bf16) = fun j => at2 (arr1 m c) (512 * t.val + (j 0).val) (j 1).val := by
  obtain ⟨i0, i1⟩ := index_1 t
  funext j
  unfold iblk
  rw [View.read_apply]
  refine at2_at (arr1 m c) _ _ _ ?_ ?_
  · show win0_1.index t 0 * 512 + 1 * (j 0).val = _
    rw [i0]; omega
  · show win0_1.index t 1 * 512 + 1 * (j 1).val = _
    rw [i1]; omega

theorem iblk_2 : (iblk m c 2 t : Vec Ideal S512x1024 .bf16) = fun j => at2 (arr2 m c) (512 * t.val + (j 0).val) (1024 + (j 1).val) := by
  obtain ⟨i0, i1⟩ := index_2 t
  funext j
  unfold iblk
  rw [View.read_apply]
  refine at2_at (arr2 m c) _ _ _ ?_ ?_
  · show win0_2.index t 0 * 512 + 1 * (j 0).val = _
    rw [i0]; omega
  · show win0_2.index t 1 * 1024 + 1 * (j 1).val = _
    rw [i1]; omega

theorem iblk_3 : (iblk m c 3 t : Vec Ideal S512x1024 .f32) = fun j => at2 (arr3 m c) (512 * t.val + (j 0).val) (j 1).val := by
  obtain ⟨i0, i1⟩ := index_3 t
  funext j
  unfold iblk
  rw [View.read_apply]
  refine at2_at (arr3 m c) _ _ _ ?_ ?_
  · show win0_3.index t 0 * 512 + 1 * (j 0).val = _
    rw [i0]; omega
  · show win0_3.index t 1 * 1024 + 1 * (j 1).val = _
    rw [i1]; omega

theorem iblk_4 : (iblk m c 4 t : Vec Ideal S1024x1024 .bf16) = fun j => at2 (arr4 m c) ((j 0).val) (j 1).val := by
  obtain ⟨i0, i1⟩ := index_4 t
  funext j
  unfold iblk
  rw [View.read_apply]
  refine at2_at (arr4 m c) _ _ _ ?_ ?_
  · show win0_4.index t 0 * 1024 + 1 * (j 0).val = _
    rw [i0]; omega
  · show win0_4.index t 1 * 1024 + 1 * (j 1).val = _
    rw [i1]; omega

/-- A half of the weights' rows, as the body loads it. -/
theorem load_4 (s : ℕ) (inb) : View.ld (Val := Elt Ideal) (e' := .bf16) (iblk m c 4 t : Vec Ideal S1024x1024 .bf16) (Rect.unit ![s, 0] S512x1024.size inb)
    = fun j : S512x1024.Idx => at2 (arr4 m c) (s + (j 0).val) (j 1).val := by
  rw [iblk_4]
  refine (part2 (e := .bf16) (at2 (arr4 m c)) ![s, 0] ![512, 1024] inb).trans (funext fun j => ?_)
  show at2 (arr4 m c) (s + (j 0).val) (0 + (j 1).val) = _
  rw [Nat.zero_add]

theorem low_eq : k0_pay2 (F := Ideal) (iblk m c 2 t) (iblk m c 0 t) = fun j : S512x512.Idx => gated (arr0 m c) (arr1 m c) (arr2 m c) (512 * t.val + (j 0).val) (0 + (j 1).val) := by
  rw [iblk_2, iblk_0]
  refine (low_block (fun r e => gateIn (arr2 m c) (512 * t.val + r) e) (fun r e => at2 (arr0 m c) (512 * t.val + r) e)).trans (funext fun j => ?_)
  unfold gated
  rw [Nat.zero_add, sides_low _ _ _ _ (j 1).isLt]

theorem high_eq : k0_pay3 (F := Ideal) (iblk m c 2 t) (iblk m c 1 t) = fun j : S512x512.Idx => gated (arr0 m c) (arr1 m c) (arr2 m c) (512 * t.val + (j 0).val) (512 + (j 1).val) := by
  rw [iblk_2, iblk_1]
  refine (high_block (fun r e => gateIn (arr2 m c) (512 * t.val + r) e) (fun r e => at2 (arr1 m c) (512 * t.val + r) e)).trans (funext fun j => ?_)
  unfold gated
  rw [sides_high]

theorem place (x : S512x512.Idx) : 512 * t.val + (x 0).val = 512 * t.val + (0 + 1 * (x 0).val) := by omega

theorem place_lane (l : ℕ) (x : S512x512.Idx) : l + (x 1).val = l + 1 * (x 1).val := by omega

/-- The two stores of the gated columns, the last one first. -/
abbrev halves : List (View.Piece (Elt Ideal) S512x1024 .bf16) :=
  [⟨r0_3, k0_pay3 (F := Ideal) (iblk m c 2 t) (iblk m c 1 t)⟩, ⟨r0_2, k0_pay2 (F := Ideal) (iblk m c 2 t) (iblk m c 0 t)⟩]

theorem halves_pieces : View.PiecesOf (Val := Elt Ideal) (e := .bf16)
    (fun j : S512x1024.Idx => gated (arr0 m c) (arr1 m c) (arr2 m c) (512 * t.val + (j 0).val) (j 1).val) (halves m c t) := by
  refine ⟨?_, ?_, trivial⟩
  · exact fun x => (congrFun (high_eq m c t) x).trans (congrArg₂ (gated _ _ _) (place t x) (place_lane 512 x))
  · exact fun x => (congrFun (low_eq m c t) x).trans (congrArg₂ (gated _ _ _) (place t x) (place_lane 0 x))

/-- What a point writes: the gated columns of its 512 rows, as two stores. -/
theorem out_gated : out0_6 (iblk m c 0 t) (iblk m c 1 t) (iblk m c 2 t) (iblk m c 3 t) (iblk m c 4 t)
    = fun j : S512x1024.Idx => gated (arr0 m c) (arr1 m c) (arr2 m c) (512 * t.val + (j 0).val) (j 1).val := by
  unfold out0_6
  rw [View.ld_unit_zero (S := S512x1024) hz2, View.ld_unit_zero (S := S512x512) hz2, View.ld_unit_zero (S := S512x512) hz2]
  exact (congrArg View.canon (List.append_nil _).symm).trans (funext fun y => View.canon_append_of_piecesOf _ [] (halves m c t) (halves_pieces m c t) y
    (cover0_6 _ _ y))

/-- And the rows with the output product added. -/
theorem out_merged : out0_5 (iblk m c 0 t) (iblk m c 1 t) (iblk m c 2 t) (iblk m c 3 t) (iblk m c 4 t)
    = fun j : S512x1024.Idx => merged (arr0 m c) (arr1 m c) (arr2 m c) (arr3 m c) (arr4 m c) (512 * t.val + (j 0).val) (j 1).val := by
  unfold out0_5
  rw [View.canon_cons_unit_zero (S := S512x1024) hz2, View.ld_unit_zero (S := S512x1024) hz2, View.ld_unit_zero (S := S512x1024) hz2,
    View.ld_unit_zero (S := S512x512) hz2, View.ld_unit_zero (S := S512x512) hz2]
  rw [load_4, load_4, iblk_0, iblk_1, iblk_2, iblk_3]
  refine (merged_block (fun r e => gateIn (arr2 m c) (512 * t.val + r) e) (fun r e => at2 (arr0 m c) (512 * t.val + r) e) (fun r e => at2 (arr1 m c) (512 * t.val + r) e)
    (fun r e => at2 (arr3 m c) (512 * t.val + r) e) (fun e k => at2 (arr4 m c) (0 + e) k) (fun e k => at2 (arr4 m c) (512 + e) k)).trans (funext fun j => ?_)
  dsimp only
  unfold merged
  rw [sum_two, add_assoc]
  refine congrArg₂ (· + ·) rfl (congrArg₂ (· + ·) (Finset.sum_congr rfl fun e he => ?_) (Finset.sum_congr rfl fun e _ => ?_))
  · unfold gated
    rw [sides_low _ _ _ _ (Finset.mem_range.mp he), Nat.zero_add]
  · unfold gated
    rw [sides_high]

end Cert.EvenMerge
end
-- ==== Proof.MergeRun.lean ====
module
public import proofs.«01_k».proof.Proof.MergeBlock
public import proofs.«01_k».proof.Proof.Gen.MergeIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! Every run of the kernel leaves the rows with the output product added, and the gated columns. -/

namespace Cert.EvenMerge
open Cert.MergeIdeal Cert.MergeIdeal.Gen
open Idealize.ShloMosaic Idealize.ShloMosaic.TcCoe Idealize.ShloMosaic.Tactic
open Idealize.SL.Sem
open Cert.EvenOut (sides sides_low sides_high gateIn gated)
open Cert.Gates (silu)
variable (m : (ℓ : Loc nD τ sig) → Buf (Elt Ideal) ℓ) (ρ : Dev nD → PrngReg) (c : Dev nD)

theorem final_merged : (dats m 0 c).arrAt 5 cfg0.N = fun i : S8192x1024.Idx => merged (arr0 m c) (arr1 m c) (arr2 m c) (arr3 m c) (arr4 m c) (i 0).val (i 1).val := by
  refine (dats m 0 c).arrAt_eq_of_covers 5 (fun i : S8192x1024.Idx => merged (arr0 m c) (arr1 m c) (arr2 m c) (arr3 m c) (arr4 m c) (i 0).val (i 1).val) ?_ ?_
  · decide +kernel
  · intro t _ y
    show (dats m 0 c).after 5 t y = merged (arr0 m c) (arr1 m c) (arr2 m c) (arr3 m c) (arr4 m c) (win0_5.index t 0 * 512 + 1 * (y 0).val) (win0_5.index t 1 * 1024 + 1 * (y 1).val)
    rw [after0_5, out_merged, (index_5 t).1, (index_5 t).2]
    simp only [Nat.one_mul, Nat.zero_mul, Nat.zero_add, Nat.mul_comm]

theorem final_gated : (dats m 0 c).arrAt 6 cfg0.N = fun i : S8192x1024.Idx => gated (arr0 m c) (arr1 m c) (arr2 m c) (i 0).val (i 1).val := by
  refine (dats m 0 c).arrAt_eq_of_covers 6 (fun i : S8192x1024.Idx => gated (arr0 m c) (arr1 m c) (arr2 m c) (i 0).val (i 1).val) ?_ ?_
  · decide +kernel
  · intro t _ y
    show (dats m 0 c).after 6 t y = gated (arr0 m c) (arr1 m c) (arr2 m c) (win0_6.index t 0 * 512 + 1 * (y 0).val) (win0_6.index t 1 * 1024 + 1 * (y 1).val)
    rw [after0_6, out_gated, (index_6 t).1, (index_6 t).2]
    simp only [Nat.one_mul, Nat.zero_mul, Nat.zero_add, Nat.mul_comm]

/-- The five arguments as launched. -/
abbrev arg0 : S8192x512.Idx → EReal := m ((c : Thread nD τ).loc main_arg0)
abbrev arg1 : S8192x512.Idx → EReal := m ((c : Thread nD τ).loc main_arg1)
abbrev arg2 : S8192x2048.Idx → EReal := m ((c : Thread nD τ).loc main_arg2)
abbrev arg3 : S8192x1024.Idx → EReal := m ((c : Thread nD τ).loc main_arg3)
abbrev arg4 : S1024x1024.Idx → EReal := m ((c : Thread nD τ).loc main_arg4)

/-- Every run of the kernel leaves the two results and its arguments as they were. -/
theorem run : θ_run defs (onTc (τ := τ) (main (F := Ideal))) ⟨m, fun _ => 0, ρ⟩ fun r => ∀ c : Dev nD,
      r.2.mem ((c : Thread nD τ).loc main_v0_0) = (fun i : S8192x1024.Idx => merged (arg0 m c) (arg1 m c) (arg2 m c) (arg3 m c) (arg4 m c) (i 0).val (i 1).val)
      ∧ r.2.mem ((c : Thread nD τ).loc main_v0_1) = (fun i : S8192x1024.Idx => gated (arg0 m c) (arg1 m c) (arg2 m c) (i 0).val (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_merged m c), (h c).2.1.trans (final_gated m c), (h c).2.2⟩) (Cert.MergeIdeal.Value.run_blocks m ρ)

end Cert.EvenMerge
end
-- ==== Proof.MergePlain.lean ====
module
public import proofs.«01_k».proof.Proof.MergeBlock
public import proofs.«01_k».proof.Proof.NormPlain
public import proofs.«01_k».proof.Proof.Gen.MergeReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain gates and output product of the even layer, read at a row and a lane. -/

namespace Cert.EvenMerge.Plain
open Cert.MergeReferenceIdeal Cert.MergeReferenceIdeal.Gen Cert.MergeReferenceIdeal.Read
open Idealize.ShloMosaic Idealize.ShloMosaic.TcCoe Idealize.ShloMosaic.Tactic
open Cert.ConvGrad (at2 at2_ix2 at2_of_lt sg)
open Cert.EvenOut (sides gateIn gated)
open Cert.Gates (silu)
variable (x0 x1 : S8192x512.Idx → EReal) (x2 : S8192x2048.Idx → EReal) (x3 : S8192x1024.Idx → EReal) (x4 : S1024x1024.Idx → EReal)

theorem sides_row (r : Fin 8192) (e : Fin 1024) : val_main_v1 (F := Ideal) x0 x1 (ix2 r e) = sides x0 x1 r e := by
  unfold val_main_v1 val_main_v0
  pointwise
  unfold sides
  by_cases h : e.val < 512
  · rw [dif_pos h, if_pos h]
    exact (at2_of_lt x0 _ _ r.isLt h).symm
  · rw [dif_neg h, if_neg h]
    exact (at2_of_lt x1 _ _ r.isLt (by omega)).symm

theorem gate_row (r : Fin 8192) (e : Fin 1024) : val_main_v3 (F := Ideal) x2 (ix2 r e) = gateIn x2 r e := by
  unfold val_main_v3 val_main_v2
  pointwise
  exact (at2_of_lt x2 _ _ r.isLt (by omega)).symm

theorem gate_silu (r : Fin 8192) (e : Fin 1024) : val_main_v4 (F := Ideal) x2 (ix2 r e) = silu (gateIn x2 r e) := by
  unfold val_main_v4 val_main_call0_v5 val_main_call0_v4 val_main_call0_v3 val_main_call0_v2 val_main_call0_v1 val_main_call0_v0 val_main_call0_cst val_main_call0_cst_0
  pointwise
  rw [gate_row]
  rfl

theorem gated_row (r : Fin 8192) (e : Fin 1024) : val_main_v5 (F := Ideal) x0 x1 x2 (ix2 r e) = gated x0 x1 x2 r e := by
  unfold val_main_v5
  pointwise
  rw [sides_row, gate_silu]
  rfl

/-- The gated columns. -/
theorem gated_eq : val_main_v9 (F := Ideal) x0 x1 x2 = fun i : S8192x1024.Idx => gated x0 x1 x2 (i 0).val (i 1).val := by
  funext i
  idx_vars i
  unfold val_main_v9
  pointwise
  exact gated_row x0 x1 x2 i0 i1

/-- The rows with the output product added. -/
theorem merged_eq : val_main_v8 (F := Ideal) x0 x1 x2 x3 x4 = fun i : S8192x1024.Idx => merged x0 x1 x2 x3 x4 (i 0).val (i 1).val := by
  funext i
  idx_vars i
  unfold val_main_v8 val_main_v7 val_main_v6
  pointwise
  simp only [gated_row]
  unfold merged
  rw [← Fin.sum_univ_eq_sum_range (fun e => gated x0 x1 x2 i0.val e * at2 x4 e i1.val) 1024]
  simp only [at2_ix2]

end Cert.EvenMerge.Plain
end
-- ==== Proof.LossSpec.lean ====
module
public import proofs.«01_k».proof.Proof.NormSpec
@[expose] public section
set_option maxRecDepth 16384
noncomputable section
/-! The last odd layer's output product, the loss of its normed rows and the loss's gradients, as plain functions of a
    row and a lane. -/

namespace Cert.LossGrad
open Idealize.ShloMosaic hiding inv
open Cert.ConvGrad
open Cert.NormGrad (inv throughNorm coe_mul_sum)

/-- The loss's factor: one over twice the number of lanes. -/
abbrev lossScale : EReal := Ideal.ofBits .f32 0x3A000000#32
/-- The factor of the loss's gradient, twice the loss's. -/
abbrev gradScale : EReal := Ideal.ofBits .f32 0x3A800000#32

theorem lossScale_eq : lossScale = ((1 / 2048 : ℝ) : EReal) := by
  simp [lossScale, Ideal.ofBits, Ideal.ieee]
  norm_num [← EReal.coe_mul]

theorem gradScale_eq : gradScale = ((1 / 1024 : ℝ) : EReal) := by
  simp [gradScale, Ideal.ofBits, Ideal.ieee]
  norm_num [← EReal.coe_mul]

theorem two_eq : Ideal.ofBits .f32 0x40000000#32 = ((2 : ℝ) : EReal) := by
  simp [Ideal.ofBits, Ideal.ieee]
  norm_num [← EReal.coe_mul]

/-- The loss's factor times twice an error. -/
theorem twice (a : EReal) : lossScale * (((2 : ℝ) : EReal) * a) = a * gradScale := by
  rw [lossScale_eq, gradScale_eq, ← mul_assoc, ← EReal.coe_mul, mul_comm a]
  norm_num

/-- The loss's factor goes out of a sum. -/
theorem sum_scale (f : ℕ → EReal) (n : ℕ) : ∑ p ∈ Finset.range n, f p * lossScale = (∑ p ∈ Finset.range n, f p) * lossScale := by
  rw [lossScale_eq, mul_comm _ ((1 / 2048 : ℝ) : EReal), coe_mul_sum (by norm_num)]
  exact Finset.sum_congr rfl fun p _ => mul_comm _ _

section Rows
variable (X Y W T : ℕ → ℕ → EReal) (G : ℕ → EReal)

/-- The rows the loss is taken of: the rows `X` with the product of the columns `Y` and the weights `W` added. -/
def last (r e : ℕ) : EReal := X r e + ∑ k ∈ Finset.range 1024, Y r k * W k e

/-- The normed rows. -/
def unit (r e : ℕ) : EReal := last X Y W r e * inv (last X Y W r)

/-- How far the normed and scaled rows are from the target `T`. -/
def err (r e : ℕ) : EReal := unit X Y W r e * G e - T r e

/-- The gradient of the normed and scaled rows. -/
def dErr (r e : ℕ) : EReal := err X Y W T G r e * gradScale

/-- The loss, lane by lane. -/
def lanes (e : ℕ) : EReal := (∑ r ∈ Finset.range 8192, err X Y W T G r e * err X Y W T G r e) * lossScale

/-- The gradient of the scale. -/
def dScale (e : ℕ) : EReal := ∑ r ∈ Finset.range 8192, dErr X Y W T G r e * unit X Y W r e

/-- The gradient of the rows. -/
def dLast (r e : ℕ) : EReal := throughNorm (last X Y W r) (fun j => dErr X Y W T G r j * G j) 0 e

/-- The block at row `b` of each array of rows, the functions being of the row in the block. -/
theorem last_shift (b r : ℕ) : last (fun r e => X (b + r) e) (fun r e => Y (b + r) e) W r = last X Y W (b + r) := rfl

end Rows

end Cert.LossGrad
end
-- ==== Proof.LossBody.lean ====
module
public import proofs.«01_k».proof.Proof.LossSpec
public import proofs.«01_k».proof.Proof.NormInputs
public import proofs.«01_k».proof.Proof.Gen.LossIdeal.Frame
public import Idealize.ShloMosaic.Lib.Pipeline.Value
public import Idealize.ShloMosaic.Lib.Pipeline.ValueKit
public import Idealize.ShloMosaic.PureOps.Ideal.Laws
public import Idealize.ShloMosaic.Lib.Pointwise
public import Idealize.ShloMosaic.Lib.Pipeline.ReadBack
@[expose] public section
set_option maxRecDepth 16384
noncomputable section
/-! What the body of the loss and its gradients computes from the blocks it loads. -/

namespace Cert.LossGrad
open Cert.LossIdeal Cert.LossIdeal.Gen
open Idealize.ShloMosaic hiding inv
open Idealize.ShloMosaic.TcCoe Idealize.ShloMosaic.Tactic
open Idealize.SL.Sem
open Cert.ConvGrad (at2 at2_at)
open Cert.NormGrad (inv meanSquare throughNorm hz2)

section Body
variable (X Y W T : ℕ → ℕ → EReal) (G : ℕ → EReal)

theorem last_block : k0_pay5 (F := Ideal) (fun j : S512x1024.Idx => X (j 0).val (j 1).val) (fun j : S512x1024.Idx => Y (j 0).val (j 1).val) (fun j : S1024x1024.Idx => W (j 0).val (j 1).val) = fun j : S512x1024.Idx => last X Y W (j 0).val (j 1).val := by
  unfold k0_pay5
  funext j
  idx_vars j
  pointwise
  unfold last
  simp only [← Fin.sum_univ_eq_sum_range]

theorem inv_block : k0_pay6 (F := Ideal) (fun j : S512x1024.Idx => X (j 0).val (j 1).val) (fun j : S512x1024.Idx => Y (j 0).val (j 1).val) (fun j : S1024x1024.Idx => W (j 0).val (j 1).val) = fun j : S512x1.Idx => inv (last X Y W (j 0).val) := by
  unfold k0_pay6
  rw [last_block]
  funext j
  idx_vars j
  pointwise
  unfold inv meanSquare
  rw [Fin.sum_univ_eq_sum_range (fun k => last X Y W j0.val k * last X Y W j0.val k) 1024]

theorem unit_block : k0_pay7 (F := Ideal) (fun j : S512x1024.Idx => X (j 0).val (j 1).val) (fun j : S512x1024.Idx => Y (j 0).val (j 1).val) (fun j : S1024x1024.Idx => W (j 0).val (j 1).val) = fun j : S512x1024.Idx => unit X Y W (j 0).val (j 1).val := by
  unfold k0_pay7
  rw [inv_block, last_block]
  funext j
  idx_vars j
  pointwise
  rfl

theorem err_block : k0_pay8 (F := Ideal) (fun j : S512x1024.Idx => X (j 0).val (j 1).val) (fun j : S512x1024.Idx => Y (j 0).val (j 1).val) (fun j : S1024x1024.Idx => W (j 0).val (j 1).val) (fun j : S1x1024.Idx => G (j 1).val) (fun j : S512x1024.Idx => T (j 0).val (j 1).val) = fun j : S512x1024.Idx => err X Y W T G (j 0).val (j 1).val := by
  unfold k0_pay8
  rw [unit_block]
  funext j
  idx_vars j
  pointwise
  rfl

theorem grad_block : k0_pay10 (F := Ideal) (fun j : S512x1024.Idx => X (j 0).val (j 1).val) (fun j : S512x1024.Idx => Y (j 0).val (j 1).val) (fun j : S1024x1024.Idx => W (j 0).val (j 1).val) (fun j : S1x1024.Idx => G (j 1).val) (fun j : S512x1024.Idx => T (j 0).val (j 1).val) = fun j : S512x1024.Idx => dErr X Y W T G (j 0).val (j 1).val := by
  unfold k0_pay10
  rw [err_block]
  funext j
  idx_vars j
  pointwise
  rfl

/-- The loss: the block's squares are added to what was there. -/
theorem lanes_block (A : ℕ → EReal) : k0_pay9 (F := Ideal) (fun j : S512x1024.Idx => X (j 0).val (j 1).val) (fun j : S512x1024.Idx => Y (j 0).val (j 1).val) (fun j : S1024x1024.Idx => W (j 0).val (j 1).val) (fun j : S1x1024.Idx => G (j 1).val) (fun j : S512x1024.Idx => T (j 0).val (j 1).val) (fun j : S1x1024.Idx => A (j 1).val)
    = fun j : S1x1024.Idx => A (j 1).val + (∑ r ∈ Finset.range 512, err X Y W T G r (j 1).val * err X Y W T G r (j 1).val) * lossScale := by
  unfold k0_pay9
  rw [err_block]
  funext j
  idx_vars j
  pointwise
  simp only [← Fin.sum_univ_eq_sum_range]

/-- The scale's gradient: the block's sum is added to what was there. -/
theorem scale_block (N D : ℕ → ℕ → EReal) (A : ℕ → EReal) :
    k0_pay1 (F := Ideal) (fun j : S512x1024.Idx => N (j 0).val (j 1).val) (fun j : S512x1024.Idx => D (j 0).val (j 1).val) (fun j : S1x1024.Idx => A (j 1).val)
    = fun j : S1x1024.Idx => A (j 1).val + ∑ r ∈ Finset.range 512, D r (j 1).val * N r (j 1).val := by
  unfold k0_pay1
  funext j
  idx_vars j
  pointwise
  simp only [← Fin.sum_univ_eq_sum_range]

/-- The rows' gradient. -/
theorem row_block (D : ℕ → ℕ → EReal) :
    k0_pay2 (F := Ideal) (fun j : S512x1.Idx => inv (last X Y W (j 0).val)) (fun j : S512x1024.Idx => unit X Y W (j 0).val (j 1).val)
      (fun j : S512x1024.Idx => D (j 0).val (j 1).val) (fun j : S1x1024.Idx => G (j 1).val)
    = fun j : S512x1024.Idx => throughNorm (last X Y W (j 0).val) (fun e => D (j 0).val e * G e) 0 (j 1).val := by
  unfold k0_pay2
  funext j
  idx_vars j
  pointwise
  unfold throughNorm unit
  rw [zero_add]
  simp only [← Fin.sum_univ_eq_sum_range]

end Body

variable (m : (ℓ : Loc nD τ sig) → Buf (Elt Ideal) ℓ) (c : Dev nD) (t : Fin cfg0.N)

/-- The arrays the region reads: the columns, the rows, the weights, the scale and the target. -/
abbrev inY : (⟨2, ![8192, 1024]⟩ : Shape).Idx → EReal := V m c main_arg0
abbrev inX : (⟨2, ![8192, 1024]⟩ : Shape).Idx → EReal := V m c main_arg1
abbrev inW : (⟨2, ![1024, 1024]⟩ : Shape).Idx → EReal := V m c main_arg2
abbrev inG : (⟨2, ![1, 1024]⟩ : Shape).Idx → EReal := V m c main_arg3
abbrev inT : (⟨2, ![8192, 1024]⟩ : Shape).Idx → EReal := V m c main_arg4

theorem index_0 : win0_0.index t 0 = t.val ∧ win0_0.index t 1 = 0 := (by decide +kernel : ∀ t : Fin grid0.N, win0_0.index t 0 = t.val ∧ win0_0.index t 1 = 0) t
theorem index_1 : win0_1.index t 0 = t.val ∧ win0_1.index t 1 = 0 := (by decide +kernel : ∀ t : Fin grid0.N, win0_1.index t 0 = t.val ∧ win0_1.index t 1 = 0) t
theorem index_2 : win0_2.index t 0 = 0 ∧ win0_2.index t 1 = 0 := (by decide +kernel : ∀ t : Fin grid0.N, win0_2.index t 0 = 0 ∧ win0_2.index t 1 = 0) t
theorem index_3 : win0_3.index t 0 = 0 ∧ win0_3.index t 1 = 0 := (by decide +kernel : ∀ t : Fin grid0.N, win0_3.index t 0 = 0 ∧ win0_3.index t 1 = 0) t
theorem index_4 : win0_4.index t 0 = t.val ∧ win0_4.index t 1 = 0 := (by decide +kernel : ∀ t : Fin grid0.N, win0_4.index t 0 = t.val ∧ win0_4.index t 1 = 0) t
theorem index_5 : win0_5.index t 0 = t.val ∧ win0_5.index t 1 = 0 := (by decide +kernel : ∀ t : Fin grid0.N, win0_5.index t 0 = t.val ∧ win0_5.index t 1 = 0) t
theorem index_6 : win0_6.index t 0 = 0 ∧ win0_6.index t 1 = 0 := (by decide +kernel : ∀ t : Fin grid0.N, win0_6.index t 0 = 0 ∧ win0_6.index t 1 = 0) t
theorem index_7 : win0_7.index t 0 = 0 ∧ win0_7.index t 1 = 0 := (by decide +kernel : ∀ t : Fin grid0.N, win0_7.index t 0 = 0 ∧ win0_7.index t 1 = 0) t

/-- Window 0 at a point. -/
theorem load_0 : View.readAt (Elt Ideal) (ms0_0 t).view (Rect.unit (s := S512x1024) ![0, 0] S512x1024.size inb_S512x1024_S512x1024_0_0).toLoadRect ((hs0_0 t).unread (iblk m c 0 t))
    = fun j : S512x1024.Idx => at2 (inY m c) (512 * t.val + (j 0).val) (j 1).val := by
  have h : (iblk m c 0 t : Vec Ideal S512x1024 .bf16) = fun j => at2 (inY m c) (512 * t.val + (j 0).val) (j 1).val := by
    obtain ⟨i0, i1⟩ := index_0 t
    funext j
    unfold iblk
    rw [View.read_apply]
    refine at2_at (inY m c) _ _ _ ?_ ?_
    · show win0_0.index t 0 * 512 + 1 * (j 0).val = _
      rw [i0]; omega
    · show win0_0.index t 1 * 1024 + 1 * (j 1).val = _
      rw [i1]; omega
  rw [View.readAt_eq_ld, (hs0_0 t).read_unread, View.ld_unit_zero (S := S512x1024) hz2]
  exact h

/-- Window 1 at a point. -/
theorem load_1 : View.readAt (Elt Ideal) (ms0_1 t).view (Rect.unit (s := S512x1024) ![0, 0] S512x1024.size inb_S512x1024_S512x1024_0_0).toLoadRect ((hs0_1 t).unread (iblk m c 1 t))
    = fun j : S512x1024.Idx => at2 (inX m c) (512 * t.val + (j 0).val) (j 1).val := by
  have h : (iblk m c 1 t : Vec Ideal S512x1024 .f32) = fun j => at2 (inX m c) (512 * t.val + (j 0).val) (j 1).val := by
    obtain ⟨i0, i1⟩ := index_1 t
    funext j
    unfold iblk
    rw [View.read_apply]
    refine at2_at (inX m c) _ _ _ ?_ ?_
    · show win0_1.index t 0 * 512 + 1 * (j 0).val = _
      rw [i0]; omega
    · show win0_1.index t 1 * 1024 + 1 * (j 1).val = _
      rw [i1]; omega
  rw [View.readAt_eq_ld, (hs0_1 t).read_unread, View.ld_unit_zero (S := S512x1024) hz2]
  exact h

/-- Window 2 at a point. -/
theorem load_2 : View.readAt (Elt Ideal) (ms0_2 t).view (Rect.unit (s := S1024x1024) ![0, 0] S1024x1024.size inb_S1024x1024_S1024x1024_0_0).toLoadRect ((hs0_2 t).unread (iblk m c 2 t))
    = fun j : S1024x1024.Idx => at2 (inW m c) ((j 0).val) (j 1).val := by
  have h : (iblk m c 2 t : Vec Ideal S1024x1024 .bf16) = fun j => at2 (inW m c) ((j 0).val) (j 1).val := by
    obtain ⟨i0, i1⟩ := index_2 t
    funext j
    unfold iblk
    rw [View.read_apply]
    refine at2_at (inW m c) _ _ _ ?_ ?_
    · show win0_2.index t 0 * 1024 + 1 * (j 0).val = _
      rw [i0]; omega
    · show win0_2.index t 1 * 1024 + 1 * (j 1).val = _
      rw [i1]; omega
  rw [View.readAt_eq_ld, (hs0_2 t).read_unread, View.ld_unit_zero (S := S1024x1024) hz2]
  exact h

/-- Window 3 at a point. -/
theorem load_3 : View.readAt (Elt Ideal) (ms0_3 t).view (Rect.unit (s := S1x1024) ![0, 0] S1x1024.size inb_S1x1024_S1x1024_0_0).toLoadRect ((hs0_3 t).unread (iblk m c 3 t))
    = fun j : S1x1024.Idx => at2 (inG m c) (0) (j 1).val := by
  have h : (iblk m c 3 t : Vec Ideal S1x1024 .f32) = fun j => at2 (inG m c) (0) (j 1).val := by
    obtain ⟨i0, i1⟩ := index_3 t
    funext j
    unfold iblk
    rw [View.read_apply]
    refine at2_at (inG m c) _ _ _ ?_ ?_
    · show win0_3.index t 0 * 1 + 1 * (j 0).val = 0
      have h0 : (j 0).val < 1 := (j 0).isLt
      rw [i0]; omega
    · show win0_3.index t 1 * 1024 + 1 * (j 1).val = _
      rw [i1]; omega
  rw [View.readAt_eq_ld, (hs0_3 t).read_unread, View.ld_unit_zero (S := S1x1024) hz2]
  exact h

/-- Window 4 at a point. -/
theorem load_4 : View.readAt (Elt Ideal) (ms0_4 t).view (Rect.unit (s := S512x1024) ![0, 0] S512x1024.size inb_S512x1024_S512x1024_0_0).toLoadRect ((hs0_4 t).unread (iblk m c 4 t))
    = fun j : S512x1024.Idx => at2 (inT m c) (512 * t.val + (j 0).val) (j 1).val := by
  have h : (iblk m c 4 t : Vec Ideal S512x1024 .f32) = fun j => at2 (inT m c) (512 * t.val + (j 0).val) (j 1).val := by
    obtain ⟨i0, i1⟩ := index_4 t
    funext j
    unfold iblk
    rw [View.read_apply]
    refine at2_at (inT m c) _ _ _ ?_ ?_
    · show win0_4.index t 0 * 512 + 1 * (j 0).val = _
      rw [i0]; omega
    · show win0_4.index t 1 * 1024 + 1 * (j 1).val = _
      rw [i1]; omega
  rw [View.readAt_eq_ld, (hs0_4 t).read_unread, View.ld_unit_zero (S := S512x1024) hz2]
  exact h

end Cert.LossGrad
end
-- ==== Proof.LossOutputs.lean ====
module
public import proofs.«01_k».proof.Proof.LossBody
public import proofs.«01_k».proof.Proof.Gen.LossIdeal.Value
public import Idealize.ShloMosaic.Lib.Pipeline.Value
public import Idealize.ShloMosaic.Lib.Pipeline.ValueKit
public import Idealize.ShloMosaic.PureOps.Ideal.Laws
public import Idealize.ShloMosaic.Lib.Pipeline.ReadBack
@[expose] public section
set_option maxRecDepth 16384
noncomputable section
/-! What a point of the loss and its gradients leaves in the blocks of the three results. -/

namespace Cert.LossGrad
open Cert.LossIdeal Cert.LossIdeal.Gen
open Idealize.ShloMosaic hiding inv
open Idealize.ShloMosaic.TcCoe Idealize.ShloMosaic.Tactic
open Idealize.SL.Sem
open Cert.ConvGrad (at2 at2_at)
open Cert.NormGrad (inv meanSquare throughNorm hz2)
variable (m : (ℓ : Loc nD τ sig) → Buf (Elt Ideal) ℓ) (c : Dev nD) (t : Fin cfg0.N)

/-- The blocks as the body loads them. -/
abbrev got0 : Vec Ideal S512x1024 .bf16 := View.readAt (Elt Ideal) (ms0_0 t).view (Rect.unit (s := S512x1024) ![0, 0] S512x1024.size inb_S512x1024_S512x1024_0_0).toLoadRect ((hs0_0 t).unread (iblk m c 0 t))
abbrev got1 : Vec Ideal S512x1024 .f32 := View.readAt (Elt Ideal) (ms0_1 t).view (Rect.unit (s := S512x1024) ![0, 0] S512x1024.size inb_S512x1024_S512x1024_0_0).toLoadRect ((hs0_1 t).unread (iblk m c 1 t))
abbrev got2 : Vec Ideal S1024x1024 .bf16 := View.readAt (Elt Ideal) (ms0_2 t).view (Rect.unit (s := S1024x1024) ![0, 0] S1024x1024.size inb_S1024x1024_S1024x1024_0_0).toLoadRect ((hs0_2 t).unread (iblk m c 2 t))
abbrev got3 : Vec Ideal S1x1024 .f32 := View.readAt (Elt Ideal) (ms0_3 t).view (Rect.unit (s := S1x1024) ![0, 0] S1x1024.size inb_S1x1024_S1x1024_0_0).toLoadRect ((hs0_3 t).unread (iblk m c 3 t))
abbrev got4 : Vec Ideal S512x1024 .f32 := View.readAt (Elt Ideal) (ms0_4 t).view (Rect.unit (s := S512x1024) ![0, 0] S512x1024.size inb_S512x1024_S512x1024_0_0).toLoadRect ((hs0_4 t).unread (iblk m c 4 t))

/-- The rows of a block: the rows, the columns and the target. -/
abbrev rowX (r e : ℕ) : EReal := at2 (inX m c) (512 * t.val + r) e
abbrev rowY (r e : ℕ) : EReal := at2 (inY m c) (512 * t.val + r) e
abbrev rowT (r e : ℕ) : EReal := at2 (inT m c) (512 * t.val + r) e

theorem got0_eq : got0 m c t = fun j : S512x1024.Idx => rowY m c t (j 0).val (j 1).val := load_0 m c t
theorem got1_eq : got1 m c t = fun j : S512x1024.Idx => rowX m c t (j 0).val (j 1).val := load_1 m c t
theorem got2_eq : got2 m c t = fun j : S1024x1024.Idx => at2 (inW m c) (j 0).val (j 1).val := load_2 m c t
theorem got3_eq : got3 m c t = fun j : S1x1024.Idx => at2 (inG m c) 0 (j 1).val := load_3 m c t
theorem got4_eq : got4 m c t = fun j : S512x1024.Idx => rowT m c t (j 0).val (j 1).val := load_4 m c t

theorem inv_left : k0_pay6 (F := Ideal) (got1 m c t) (got0 m c t) (got2 m c t) = fun j : S512x1.Idx => inv (last (rowX m c t) (rowY m c t) (at2 (inW m c)) (j 0).val) := by
  rw [got0_eq, got1_eq, got2_eq]
  exact inv_block (rowX m c t) (rowY m c t) (at2 (inW m c))

theorem unit_left : k0_pay7 (F := Ideal) (got1 m c t) (got0 m c t) (got2 m c t) = fun j : S512x1024.Idx => unit (rowX m c t) (rowY m c t) (at2 (inW m c)) (j 0).val (j 1).val := by
  rw [got0_eq, got1_eq, got2_eq]
  exact unit_block (rowX m c t) (rowY m c t) (at2 (inW m c))

theorem grad_left : k0_pay10 (F := Ideal) (got1 m c t) (got0 m c t) (got2 m c t) (got3 m c t) (got4 m c t)
    = fun j : S512x1024.Idx => dErr (rowX m c t) (rowY m c t) (at2 (inW m c)) (rowT m c t) (at2 (inG m c) 0) (j 0).val (j 1).val := by
  rw [got0_eq, got1_eq, got2_eq, got3_eq, got4_eq]
  exact grad_block (rowX m c t) (rowY m c t) (at2 (inW m c)) (rowT m c t) (at2 (inG m c) 0)

theorem row_left : k0_pay2 (F := Ideal) (k0_pay6 (got1 m c t) (got0 m c t) (got2 m c t)) (k0_pay7 (got1 m c t) (got0 m c t) (got2 m c t)) (k0_pay10 (got1 m c t) (got0 m c t) (got2 m c t) (got3 m c t) (got4 m c t)) (got3 m c t)
    = fun j : S512x1024.Idx => dLast (at2 (inX m c)) (at2 (inY m c)) (at2 (inW m c)) (at2 (inT m c)) (at2 (inG m c) 0) (512 * t.val + (j 0).val) (j 1).val := by
  rw [inv_left, unit_left, grad_left, got3_eq]
  exact row_block (rowX m c t) (rowY m c t) (at2 (inW m c)) (at2 (inG m c) 0) (dErr (rowX m c t) (rowY m c t) (at2 (inW m c)) (rowT m c t) (at2 (inG m c) 0))

theorem lanes_left (A : ℕ → EReal) : k0_pay9 (F := Ideal) (got1 m c t) (got0 m c t) (got2 m c t) (got3 m c t) (got4 m c t) (fun j : S1x1024.Idx => A (j 1).val)
    = fun j : S1x1024.Idx => A (j 1).val + (∑ r ∈ Finset.range 512, err (at2 (inX m c)) (at2 (inY m c)) (at2 (inW m c)) (at2 (inT m c)) (at2 (inG m c) 0) (512 * t.val + r) (j 1).val * err (at2 (inX m c)) (at2 (inY m c)) (at2 (inW m c)) (at2 (inT m c)) (at2 (inG m c) 0) (512 * t.val + r) (j 1).val) * lossScale := by
  rw [got0_eq, got1_eq, got2_eq, got3_eq, got4_eq]
  exact lanes_block (rowX m c t) (rowY m c t) (at2 (inW m c)) (rowT m c t) (at2 (inG m c) 0) A

theorem scale_left (A : ℕ → EReal) : k0_pay1 (F := Ideal) (k0_pay7 (got1 m c t) (got0 m c t) (got2 m c t)) (k0_pay10 (got1 m c t) (got0 m c t) (got2 m c t) (got3 m c t) (got4 m c t)) (fun j : S1x1024.Idx => A (j 1).val)
    = fun j : S1x1024.Idx => A (j 1).val + ∑ r ∈ Finset.range 512, dErr (at2 (inX m c)) (at2 (inY m c)) (at2 (inW m c)) (at2 (inT m c)) (at2 (inG m c) 0) (512 * t.val + r) (j 1).val * unit (at2 (inX m c)) (at2 (inY m c)) (at2 (inW m c)) (512 * t.val + r) (j 1).val := by
  rw [unit_left, grad_left]
  exact scale_block (unit (rowX m c t) (rowY m c t) (at2 (inW m c))) (dErr (rowX m c t) (rowY m c t) (at2 (inW m c)) (rowT m c t) (at2 (inG m c) 0)) A

theorem zero_lanes : k0_pay3 (F := Ideal) = fun j : S1x1024.Idx => 0 := by
  unfold k0_pay3
  funext j
  pointwise

theorem zero_scale : k0_pay4 (F := Ideal) = fun j : S1x1024.Idx => 0 := by
  unfold k0_pay4
  funext j
  pointwise

theorem out_row : (outsAt0 m c t.val t.isLt).1 = fun j : S512x1024.Idx => dLast (at2 (inX m c)) (at2 (inY m c)) (at2 (inW m c)) (at2 (inT m c)) (at2 (inG m c) 0) (512 * t.val + (j 0).val) (j 1).val := by
  by_cases h0 : t.val % 16 = 0
  · rw [outsAt0_A m c t h0]; dsimp only; unfold out0_A_5
    unfold kernelRun0_A; dsimp only
    sl_unfold_words
    rw [View.read_writes_junk_eq_canon, View.canon_cons_unit_zero (S := S512x1024) hz2]
    exact row_left m c t
  · rw [outsAt0_B m c t h0]; dsimp only; unfold out0_B_5
    unfold kernelRun0_B; dsimp only
    sl_unfold_words
    rw [View.read_writes_junk_eq_canon, View.canon_cons_unit_zero (S := S512x1024) hz2]
    exact row_left m c t

theorem out_lanes_first (h0 : t.val % 16 = 0) : (outsAt0 m c t.val t.isLt).2.1 = fun j : S1x1024.Idx => (∑ r ∈ Finset.range 512, err (at2 (inX m c)) (at2 (inY m c)) (at2 (inW m c)) (at2 (inT m c)) (at2 (inG m c) 0) (512 * t.val + r) (j 1).val * err (at2 (inX m c)) (at2 (inY m c)) (at2 (inW m c)) (at2 (inT m c)) (at2 (inG m c) 0) (512 * t.val + r) (j 1).val) * lossScale := by
  rw [outsAt0_A m c t h0]; dsimp only; unfold out0_A_6
  unfold kernelRun0_A; dsimp only
  sl_unfold_words
  rw [View.read_writes_junk_eq_canon, View.canon_cons_unit_zero (S := S1x1024) hz2, View.readCov_unit_zero (S := S1x1024) _ hz2, zero_lanes]
  exact (lanes_left m c t (fun _ => 0)).trans (funext fun j => zero_add _)

theorem out_lanes_next (h0 : ¬ t.val % 16 = 0) (A : ℕ → EReal)
    (hA : (outsAt0 m c (t.val - 1) (Nat.lt_of_le_of_lt (Nat.sub_le _ _) t.isLt)).2.1 = fun j : S1x1024.Idx => A (j 1).val) :
    (outsAt0 m c t.val t.isLt).2.1 = fun j : S1x1024.Idx => A (j 1).val + (∑ r ∈ Finset.range 512, err (at2 (inX m c)) (at2 (inY m c)) (at2 (inW m c)) (at2 (inT m c)) (at2 (inG m c) 0) (512 * t.val + r) (j 1).val * err (at2 (inX m c)) (at2 (inY m c)) (at2 (inW m c)) (at2 (inT m c)) (at2 (inG m c) 0) (512 * t.val + r) (j 1).val) * lossScale := by
  have hr : View.readAt (Elt Ideal) (ms0_6 t).view (Rect.unit (s := S1x1024) ![0, 0] S1x1024.size inb_S1x1024_S1x1024_0_0).toLoadRect ((hs0_6 t).unread (outsAt0 m c (t.val - 1) (Nat.lt_of_le_of_lt (Nat.sub_le _ _) t.isLt)).2.1) = fun j : S1x1024.Idx => A (j 1).val := by
    rw [View.readAt_eq_ld, (hs0_6 t).read_unread, View.ld_unit_zero (S := S1x1024) hz2]
    exact hA
  rw [outsAt0_B m c t h0]; dsimp only; unfold out0_B_6
  unfold kernelRun0_B; dsimp only
  sl_unfold_words
  rw [View.read_writes_junk_eq_canon, View.canon_cons_unit_zero (S := S1x1024) hz2]
  exact (congrArg (k0_pay9 (F := Ideal) (got1 m c t) (got0 m c t) (got2 m c t) (got3 m c t) (got4 m c t)) hr).trans (lanes_left m c t A)

theorem out_scale_first (h0 : t.val % 16 = 0) : (outsAt0 m c t.val t.isLt).2.2 = fun j : S1x1024.Idx => ∑ r ∈ Finset.range 512, dErr (at2 (inX m c)) (at2 (inY m c)) (at2 (inW m c)) (at2 (inT m c)) (at2 (inG m c) 0) (512 * t.val + r) (j 1).val * unit (at2 (inX m c)) (at2 (inY m c)) (at2 (inW m c)) (512 * t.val + r) (j 1).val := by
  rw [outsAt0_A m c t h0]; dsimp only; unfold out0_A_7
  unfold kernelRun0_A; dsimp only
  sl_unfold_words
  rw [View.read_writes_junk_eq_canon, View.canon_cons_unit_zero (S := S1x1024) hz2, View.readCov_unit_zero (S := S1x1024) _ hz2, zero_scale]
  exact (scale_left m c t (fun _ => 0)).trans (funext fun j => zero_add _)

theorem out_scale_next (h0 : ¬ t.val % 16 = 0) (A : ℕ → EReal)
    (hA : (outsAt0 m c (t.val - 1) (Nat.lt_of_le_of_lt (Nat.sub_le _ _) t.isLt)).2.2 = fun j : S1x1024.Idx => A (j 1).val) :
    (outsAt0 m c t.val t.isLt).2.2 = fun j : S1x1024.Idx => A (j 1).val + ∑ r ∈ Finset.range 512, dErr (at2 (inX m c)) (at2 (inY m c)) (at2 (inW m c)) (at2 (inT m c)) (at2 (inG m c) 0) (512 * t.val + r) (j 1).val * unit (at2 (inX m c)) (at2 (inY m c)) (at2 (inW m c)) (512 * t.val + r) (j 1).val := by
  have hr : View.readAt (Elt Ideal) (ms0_7 t).view (Rect.unit (s := S1x1024) ![0, 0] S1x1024.size inb_S1x1024_S1x1024_0_0).toLoadRect ((hs0_7 t).unread (outsAt0 m c (t.val - 1) (Nat.lt_of_le_of_lt (Nat.sub_le _ _) t.isLt)).2.2) = fun j : S1x1024.Idx => A (j 1).val := by
    rw [View.readAt_eq_ld, (hs0_7 t).read_unread, View.ld_unit_zero (S := S1x1024) hz2]
    exact hA
  rw [outsAt0_B m c t h0]; dsimp only; unfold out0_B_7
  unfold kernelRun0_B; dsimp only
  sl_unfold_words
  rw [View.read_writes_junk_eq_canon, View.canon_cons_unit_zero (S := S1x1024) hz2]
  exact (congrArg (k0_pay1 (F := Ideal) (k0_pay7 (got1 m c t) (got0 m c t) (got2 m c t)) (k0_pay10 (got1 m c t) (got0 m c t) (got2 m c t) (got3 m c t) (got4 m c t))) hr).trans (scale_left m c t A)

end Cert.LossGrad
end
-- ==== Proof.LossRun.lean ====
module
public import proofs.«01_k».proof.Proof.LossOutputs
public import proofs.«01_k».proof.Proof.NormRun
public import proofs.«01_k».proof.Proof.Gen.LossIdeal.Value
public import Idealize.ShloMosaic.Lib.Pipeline.Value
public import Idealize.ShloMosaic.Lib.Pipeline.ValueKit
public import Idealize.ShloMosaic.PureOps.Ideal.Laws
@[expose] public section
set_option maxRecDepth 16384
noncomputable section
/-! Every run of the loss and its gradients leaves the three results. -/

namespace Cert.LossGrad
open Cert.LossIdeal Cert.LossIdeal.Gen
open Idealize.ShloMosaic hiding inv
open Idealize.ShloMosaic.TcCoe Idealize.ShloMosaic.Tactic
open Idealize.SL.Sem
open Cert.ConvGrad (at2 at2_ix2)
open Cert.NormGrad (inv meanSquare throughNorm hz2)
variable (m : (ℓ : Loc nD τ sig) → Buf (Elt Ideal) ℓ) (ρ : Dev nD → PrngReg) (c : Dev nD)

/-- What the block starting at row `512 i` adds to the loss and to the scale's gradient. -/
abbrev blockLanes (i e : ℕ) : EReal := (∑ r ∈ Finset.range 512, err (at2 (inX m c)) (at2 (inY m c)) (at2 (inW m c)) (at2 (inT m c)) (at2 (inG m c) 0) (512 * i + r) e * err (at2 (inX m c)) (at2 (inY m c)) (at2 (inW m c)) (at2 (inT m c)) (at2 (inG m c) 0) (512 * i + r) e) * lossScale
abbrev blockScale (i e : ℕ) : EReal := ∑ r ∈ Finset.range 512, dErr (at2 (inX m c)) (at2 (inY m c)) (at2 (inW m c)) (at2 (inT m c)) (at2 (inG m c) 0) (512 * i + r) e * unit (at2 (inX m c)) (at2 (inY m c)) (at2 (inW m c)) (512 * i + r) e

/-- The running value after point `n`. -/
theorem lanes_after : ∀ (n : ℕ) (h : n < cfg0.N), (outsAt0 m c n h).2.1 = fun j : S1x1024.Idx => (fun e => ∑ p ∈ Finset.range (n + 1), blockLanes m c p e) (j 1).val
  | 0, h => by
    refine (out_lanes_first m c ⟨0, h⟩ rfl).trans (funext fun j => ?_)
    simp only [Nat.zero_add, Finset.sum_range_one]
  | n + 1, h => by
    have hN : n + 1 < 16 := h
    refine (out_lanes_next m c ⟨n + 1, h⟩ (by show ¬(n + 1) % 16 = 0; omega) (fun e => ∑ p ∈ Finset.range (n + 1), blockLanes m c p e) (lanes_after n (Nat.lt_of_succ_lt h))).trans (funext fun j => ?_)
    dsimp only
    rw [Finset.sum_range_succ _ (n + 1)]

/-- The running value after point `n`. -/
theorem scale_after : ∀ (n : ℕ) (h : n < cfg0.N), (outsAt0 m c n h).2.2 = fun j : S1x1024.Idx => (fun e => ∑ p ∈ Finset.range (n + 1), blockScale m c p e) (j 1).val
  | 0, h => by
    refine (out_scale_first m c ⟨0, h⟩ rfl).trans (funext fun j => ?_)
    simp only [Nat.zero_add, Finset.sum_range_one]
  | n + 1, h => by
    have hN : n + 1 < 16 := h
    refine (out_scale_next m c ⟨n + 1, h⟩ (by show ¬(n + 1) % 16 = 0; omega) (fun e => ∑ p ∈ Finset.range (n + 1), blockScale m c p e) (scale_after n (Nat.lt_of_succ_lt h))).trans (funext fun j => ?_)
    dsimp only
    rw [Finset.sum_range_succ _ (n + 1)]

theorem final_row : (dats m 0 c).arrAt 5 cfg0.N = fun i : S8192x1024.Idx => dLast (at2 (inX m c)) (at2 (inY m c)) (at2 (inW m c)) (at2 (inT m c)) (at2 (inG m c) 0) (i 0).val (i 1).val := by
  refine (dats m 0 c).arrAt_eq_of_covers 5 (fun i : S8192x1024.Idx => dLast (at2 (inX m c)) (at2 (inY m c)) (at2 (inW m c)) (at2 (inT m c)) (at2 (inG m c) 0) (i 0).val (i 1).val) ?_ ?_
  · decide +kernel
  · intro t _ y
    show (dats m 0 c).after 5 t y = dLast (at2 (inX m c)) (at2 (inY m c)) (at2 (inW m c)) (at2 (inT m c)) (at2 (inG m c) 0) (win0_5.index t 0 * 512 + 1 * (y 0).val) (win0_5.index t 1 * 1024 + 1 * (y 1).val)
    rw [after0_5, out_row, (index_5 t).1, (index_5 t).2]
    simp only [Nat.one_mul, Nat.zero_mul, Nat.zero_add, Nat.mul_comm]

theorem final_lanes : (dats m 0 c).arrAt 6 cfg0.N = fun i : S1x1024.Idx => (fun e => ∑ p ∈ Finset.range 16, blockLanes m c p e) (i 1).val := by
  refine (dats m 0 c).arrAt_eq_of_covers 6 (fun i : S1x1024.Idx => (fun e => ∑ p ∈ Finset.range 16, blockLanes m c p e) (i 1).val) ?_ ?_
  · decide +kernel
  · intro t ht y
    have hN : t.val < 16 := t.isLt
    have h15 := (flush0_6 t).mp ht
    obtain rfl : t = ⟨15, by decide⟩ := Fin.ext (by show t.val = 15; omega)
    show (dats m 0 c).after 6 _ y = (fun e => ∑ p ∈ Finset.range 16, blockLanes m c p e) (win0_6.index _ 1 * 1024 + 1 * (y 1).val)
    rw [after0_6, lanes_after, (index_6 _).2]
    simp only [Nat.one_mul, Nat.zero_mul, Nat.zero_add]

theorem final_scale : (dats m 0 c).arrAt 7 cfg0.N = fun i : S1x1024.Idx => (fun e => ∑ p ∈ Finset.range 16, blockScale m c p e) (i 1).val := by
  refine (dats m 0 c).arrAt_eq_of_covers 7 (fun i : S1x1024.Idx => (fun e => ∑ p ∈ Finset.range 16, blockScale m c p e) (i 1).val) ?_ ?_
  · decide +kernel
  · intro t ht y
    have hN : t.val < 16 := t.isLt
    have h15 := (flush0_7 t).mp ht
    obtain rfl : t = ⟨15, by decide⟩ := Fin.ext (by show t.val = 15; omega)
    show (dats m 0 c).after 7 _ y = (fun e => ∑ p ∈ Finset.range 16, blockScale m c p e) (win0_7.index _ 1 * 1024 + 1 * (y 1).val)
    rw [after0_7, scale_after, (index_7 _).2]
    simp only [Nat.one_mul, Nat.zero_mul, Nat.zero_add]

/-- The five arguments as launched. -/
abbrev arg0 : S8192x1024.Idx → EReal := m ((c : Thread nD τ).loc main_arg0)
abbrev arg1 : S8192x1024.Idx → EReal := m ((c : Thread nD τ).loc main_arg1)
abbrev arg2 : S1024x1024.Idx → EReal := m ((c : Thread nD τ).loc main_arg2)
abbrev arg3 : S1x1024.Idx → EReal := m ((c : Thread nD τ).loc main_arg3)
abbrev arg4 : S8192x1024.Idx → EReal := m ((c : Thread nD τ).loc main_arg4)

theorem inY_eq : inY m c = arg0 m c := V_main_arg0 m c
theorem inX_eq : inX m c = arg1 m c := V_main_arg1 m c
theorem inW_eq : inW m c = arg2 m c := V_main_arg2 m c
theorem inG_eq : inG m c = arg3 m c := V_main_arg3 m c
theorem inT_eq : inT m c = arg4 m c := V_main_arg4 m c

theorem row_eq (r e : ℕ) : dLast (at2 (inX m c)) (at2 (inY m c)) (at2 (inW m c)) (at2 (inT m c)) (at2 (inG m c) 0) r e = dLast (at2 (arg1 m c)) (at2 (arg0 m c)) (at2 (arg2 m c)) (at2 (arg4 m c)) (at2 (arg3 m c) 0) r e := by
  rw [inX_eq, inY_eq, inW_eq, inT_eq, inG_eq]

theorem lanes_eq (e : ℕ) : ∑ p ∈ Finset.range 16, blockLanes m c p e = lanes (at2 (arg1 m c)) (at2 (arg0 m c)) (at2 (arg2 m c)) (at2 (arg4 m c)) (at2 (arg3 m c) 0) e := by
  unfold blockLanes lanes
  rw [inX_eq, inY_eq, inW_eq, inT_eq, inG_eq, sum_scale]
  exact congrArg (· * lossScale) (Cert.NormGrad.sum_blocks fun r => err (at2 (arg1 m c)) (at2 (arg0 m c)) (at2 (arg2 m c)) (at2 (arg4 m c)) (at2 (arg3 m c) 0) r e * err (at2 (arg1 m c)) (at2 (arg0 m c)) (at2 (arg2 m c)) (at2 (arg4 m c)) (at2 (arg3 m c) 0) r e)

theorem scale_eq (e : ℕ) : ∑ p ∈ Finset.range 16, blockScale m c p e = dScale (at2 (arg1 m c)) (at2 (arg0 m c)) (at2 (arg2 m c)) (at2 (arg4 m c)) (at2 (arg3 m c) 0) e := by
  unfold blockScale dScale
  rw [inX_eq, inY_eq, inW_eq, inT_eq, inG_eq]
  exact Cert.NormGrad.sum_blocks fun r => dErr (at2 (arg1 m c)) (at2 (arg0 m c)) (at2 (arg2 m c)) (at2 (arg4 m c)) (at2 (arg3 m c) 0) r e * unit (at2 (arg1 m c)) (at2 (arg0 m c)) (at2 (arg2 m c)) r e

/-- Every run of the kernel leaves the rows' gradient, the loss's lanes and the scale's gradient, and its arguments as they were. -/
theorem run : θ_run defs (onTc (τ := τ) (main (F := Ideal))) ⟨m, fun _ => 0, ρ⟩ fun r => ∀ c : Dev nD,
      r.2.mem ((c : Thread nD τ).loc main_v0_0) = (fun i : S8192x1024.Idx => dLast (at2 (arg1 m c)) (at2 (arg0 m c)) (at2 (arg2 m c)) (at2 (arg4 m c)) (at2 (arg3 m c) 0) (i 0).val (i 1).val)
      ∧ r.2.mem ((c : Thread nD τ).loc main_v0_1) = (fun i : S1x1024.Idx => lanes (at2 (arg1 m c)) (at2 (arg0 m c)) (at2 (arg2 m c)) (at2 (arg4 m c)) (at2 (arg3 m c) 0) (i 1).val)
      ∧ r.2.mem ((c : Thread nD τ).loc main_v0_2) = (fun i : S1x1024.Idx => dScale (at2 (arg1 m c)) (at2 (arg0 m c)) (at2 (arg2 m c)) (at2 (arg4 m c)) (at2 (arg3 m c) 0) (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1.trans (final_row m c)).trans (funext fun i => row_eq m c (i 0).val (i 1).val),
     ((h c).2.1.trans (final_lanes m c)).trans (funext fun i => lanes_eq m c (i 1).val),
     ((h c).2.2.1.trans (final_scale m c)).trans (funext fun i => scale_eq m c (i 1).val),
     (h c).2.2.2⟩)
    (Cert.LossIdeal.Value.run_blocks m ρ)

end Cert.LossGrad
end
-- ==== Proof.LossPlain.lean ====
module
public import proofs.«01_k».proof.Proof.LossSpec
public import proofs.«01_k».proof.Proof.NormPlain
public import proofs.«01_k».proof.Proof.Gen.LossReferenceIdeal.Read
public import Idealize.ShloMosaic.Lib.Pipeline.Value
public import Idealize.ShloMosaic.Lib.KernelVsHost
public import Idealize.ShloMosaic.Lib.Pointwise
public import Idealize.ShloMosaic.PureOps.Ideal.Laws
@[expose] public section
set_option maxRecDepth 16384
noncomputable section
/-! The plain loss and its gradients, read at a row and a lane. -/

namespace Cert.LossGrad.Plain
open Cert.LossReferenceIdeal Cert.LossReferenceIdeal.Gen Cert.LossReferenceIdeal.Read
open Idealize.ShloMosaic hiding inv
open Idealize.ShloMosaic.TcCoe Idealize.ShloMosaic.Tactic
open Cert.ConvGrad (at2 at2_ix2)
open Cert.LossGrad
open Cert.NormGrad (inv meanSquare minusHalf pull throughNorm throughNorm_eq)
variable (x0 x1 : S8192x1024.Idx → EReal) (x2 : S1024x1024.Idx → EReal) (x3 : S1x1024.Idx → EReal) (x4 : S8192x1024.Idx → EReal)

theorem last_row (r : Fin 8192) (e : Fin 1024) : val_main_v3 (F := Ideal) x0 x1 x2 (ix2 r e) = last (at2 x1) (at2 x0) (at2 x2) r e := by
  unfold val_main_v3 val_main_v2 val_main_v1 val_main_v0
  pointwise
  unfold last
  rw [at2_ix2, ← Fin.sum_univ_eq_sum_range (fun k => at2 x0 r.val k * at2 x2 k e.val) 1024]
  simp only [at2_ix2]

theorem mean_square (r : Fin 8192) (u : Fin 1) : val_main_v10 (F := Ideal) x0 x1 x2 (ix2 r u) = meanSquare (last (at2 x1) (at2 x0) (at2 x2) r) := by
  unfold val_main_v10 val_main_v9 val_main_v8 val_main_v7 val_main_v6 val_main_v5 val_main_v4 val_main_cst val_main_cst_0 val_main_cst_1
  pointwise
  simp only [last_row]
  unfold meanSquare
  rw [Fin.sum_univ_eq_sum_range (fun k => last (at2 x1) (at2 x0) (at2 x2) r.val k * last (at2 x1) (at2 x0) (at2 x2) r.val k) 1024]

theorem inv_row (r : Fin 8192) (u : Fin 1) : val_main_v11 (F := Ideal) x0 x1 x2 (ix2 r u) = inv (last (at2 x1) (at2 x0) (at2 x2) r) := by
  unfold val_main_v11
  refine (congrArg Ideal.rsqrt (mean_square x0 x1 x2 r u)).trans ?_
  rfl

theorem half_row (r : Fin 8192) (u : Fin 1) : val_main_v14 (F := Ideal) x0 x1 x2 (ix2 r u) = minusHalf * Ideal.div (inv (last (at2 x1) (at2 x0) (at2 x2) r)) (meanSquare (last (at2 x1) (at2 x0) (at2 x2) r)) := by
  unfold val_main_v14 val_main_v13 val_main_v12 val_main_cst_2
  pointwise
  rw [inv_row, mean_square]

theorem unit_row (r : Fin 8192) (e : Fin 1024) : val_main_v16 (F := Ideal) x0 x1 x2 (ix2 r e) = unit (at2 x1) (at2 x0) (at2 x2) r e := by
  unfold val_main_v16 val_main_v15
  pointwise
  rw [inv_row, last_row]
  rfl

theorem err_row (r : Fin 8192) (e : Fin 1024) : val_main_v19 (F := Ideal) x0 x1 x2 x3 x4 (ix2 r e) = err (at2 x1) (at2 x0) (at2 x2) (at2 x4) (at2 x3 0) r e := by
  unfold val_main_v19 val_main_v18 val_main_v17
  pointwise
  rw [unit_row, ← at2_ix2 x3, ← at2_ix2 x4]
  rfl

theorem grad_row (r : Fin 8192) (e : Fin 1024) : val_main_v32 (F := Ideal) x0 x1 x2 x3 x4 (ix2 r e) = dErr (at2 x1) (at2 x0) (at2 x2) (at2 x4) (at2 x3 0) r e := by
  unfold val_main_v32 val_main_v31 val_main_v30 val_main_v29 val_main_v28 val_main_v27 val_main_v22 val_main_v21 val_main_cst_3 val_main_cst_6 val_main_cst_7 val_main_cst_8
  pointwise
  rw [err_row, Fin.sum_univ_one]
  unfold dErr
  rw [← twice, two_eq]

/-- The loss, lane by lane. -/
theorem loss_lanes : val_main_v26 (F := Ideal) x0 x1 x2 x3 x4 = fun i : S1x1024.Idx => lanes (at2 x1) (at2 x0) (at2 x2) (at2 x4) (at2 x3 0) (i 1).val := by
  funext i
  idx_vars i
  unfold val_main_v26 val_main_v25 val_main_v24 val_main_v23 val_main_v20 val_main_cst_4 val_main_cst_5
  pointwise
  simp only [err_row]
  unfold lanes
  rw [Fin.sum_univ_eq_sum_range (fun r => err (at2 x1) (at2 x0) (at2 x2) (at2 x4) (at2 x3 0) r i1.val * err (at2 x1) (at2 x0) (at2 x2) (at2 x4) (at2 x3 0) r i1.val) 8192]

/-- The gradient of the scale. -/
theorem scale_grad : val_main_v36 (F := Ideal) x0 x1 x2 x3 x4 = fun i : S1x1024.Idx => dScale (at2 x1) (at2 x0) (at2 x2) (at2 x4) (at2 x3 0) (i 1).val := by
  funext i
  idx_vars i
  unfold val_main_v36 val_main_v35 val_main_v34 val_main_cst_9
  pointwise
  simp only [unit_row, grad_row]
  unfold dScale
  rw [← Fin.sum_univ_eq_sum_range (fun r => dErr (at2 x1) (at2 x0) (at2 x2) (at2 x4) (at2 x3 0) r i1.val * unit (at2 x1) (at2 x0) (at2 x2) r i1.val) 8192]
  exact Finset.sum_congr rfl fun r _ => mul_comm _ _

/-- The gradient of the normed rows, scale included. -/
theorem unit_grad (r : Fin 8192) (e : Fin 1024) : val_main_v38 (F := Ideal) x0 x1 x2 x3 x4 (ix2 r e) = dErr (at2 x1) (at2 x0) (at2 x2) (at2 x4) (at2 x3 0) r e * at2 x3 0 e := by
  unfold val_main_v38 val_main_v37
  pointwise
  rw [grad_row, ← at2_ix2 x3]
  rfl

theorem pull_row (r : Fin 8192) : val_main_v47 (F := Ideal) x0 x1 x2 x3 x4 (ix1 r) = pull (last (at2 x1) (at2 x0) (at2 x2) r) (fun j => dErr (at2 x1) (at2 x0) (at2 x2) (at2 x4) (at2 x3 0) r j * at2 x3 0 j) := by
  unfold val_main_v47 val_main_v46 val_main_v45 val_main_v44 val_main_v41 val_main_v40 val_main_v39 val_main_cst_10 val_main_cst_11 val_main_cst_12
  pointwise
  simp only [half_row, unit_grad, last_row]
  rw [Fin.sum_univ_one, Fin.sum_univ_eq_sum_range (fun j => last (at2 x1) (at2 x0) (at2 x2) r.val j * (dErr (at2 x1) (at2 x0) (at2 x2) (at2 x4) (at2 x3 0) r.val j * at2 x3 0 j)) 1024]
  rfl

/-- The gradient of the rows. -/
theorem row_grad : val_main_v52 (F := Ideal) x0 x1 x2 x3 x4 = fun i : S8192x1024.Idx => dLast (at2 x1) (at2 x0) (at2 x2) (at2 x4) (at2 x3 0) (i 0).val (i 1).val := by
  funext i
  idx_vars i
  unfold val_main_v52 val_main_v51 val_main_v50 val_main_v49 val_main_v48 val_main_v43 val_main_v42
  pointwise
  rw [pull_row, inv_row, unit_grad, last_row]
  unfold dLast
  rw [throughNorm_eq _ _ _ _ i1.isLt, zero_add]

end Cert.LossGrad.Plain
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradReferenceIdeal
public import proofs.«01_k».proof.Proof.Gen.NormGradReferenceIdeal.Run
public import proofs.«01_k».proof.Proof.Gen.NormGradReferenceIdeal.Read
public import proofs.«01_k».proof.Proof.Gen.EvenGrad
public import proofs.«01_k».proof.Proof.Gen.EvenGrad.Skeleton
public import proofs.«01_k».proof.Proof.Gen.EvenGrad.Launch
public import proofs.«01_k».proof.Proof.Gen.EvenGrad.Points
public import proofs.«01_k».proof.Proof.Gen.EvenGrad.Frame
public import proofs.«01_k».proof.Proof.Gen.EvenGradIdeal
public import proofs.«01_k».proof.Proof.Gen.EvenGradIdeal.Skeleton
public import proofs.«01_k».proof.Proof.Gen.EvenGradIdeal.Launch
public import proofs.«01_k».proof.Proof.Gen.EvenGradIdeal.Points
public import proofs.«01_k».proof.Proof.Gen.EvenGradIdeal.Frame
public import proofs.«01_k».proof.Proof.Gen.EvenGradIdeal.Value
public import proofs.«01_k».proof.Proof.Gen.EvenGradReferenceIdeal
public import proofs.«01_k».proof.Proof.Gen.EvenGradReferenceIdeal.Run
public import proofs.«01_k».proof.Proof.Gen.EvenGradReferenceIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Run
public import proofs.«01_k».proof.Proof.Plain
public import proofs.«01_k».proof.Proof.NormRun
public import proofs.«01_k».proof.Proof.Gen.GateGrad
public import proofs.«01_k».proof.Proof.Gen.GateGrad.Skeleton
public import proofs.«01_k».proof.Proof.Gen.GateGrad.Launch
public import proofs.«01_k».proof.Proof.Gen.GateGrad.Points
public import proofs.«01_k».proof.Proof.Gen.GateGrad.Frame
public import proofs.«01_k».proof.Proof.Gen.GateGradIdeal
public import proofs.«01_k».proof.Proof.Gen.GateGradIdeal.Skeleton
public import proofs.«01_k».proof.Proof.Gen.GateGradIdeal.Launch
public import proofs.«01_k».proof.Proof.Gen.GateGradIdeal.Points
public import proofs.«01_k».proof.Proof.Gen.GateGradIdeal.Frame
public import proofs.«01_k».proof.Proof.Gen.GateGradIdeal.Value
public import proofs.«01_k».proof.Proof.Gen.GateGradReferenceIdeal
public import proofs.«01_k».proof.Proof.Gen.GateGradReferenceIdeal.Run
public import proofs.«01_k».proof.Proof.Gen.GateGradReferenceIdeal.Read
public import proofs.«01_k».proof.Proof.Gen.ConvForward
public import proofs.«01_k».proof.Proof.Gen.ConvForward.Skeleton
public import proofs.«01_k».proof.Proof.Gen.ConvForward.Launch
public import proofs.«01_k».proof.Proof.Gen.ConvForward.Points
public import proofs.«01_k».proof.Proof.Gen.ConvForward.Frame
public import proofs.«01_k».proof.Proof.Gen.ConvForward.Loops
public import proofs.«01_k».proof.Proof.Gen.ConvForwardIdeal
public import proofs.«01_k».proof.Proof.Gen.ConvForwardIdeal.Skeleton
public import proofs.«01_k».proof.Proof.Gen.ConvForwardIdeal.Launch
public import proofs.«01_k».proof.Proof.Gen.ConvForwardIdeal.Points
public import proofs.«01_k».proof.Proof.Gen.ConvForwardIdeal.Frame
public import proofs.«01_k».proof.Proof.Gen.ConvForwardIdeal.Loops
public import proofs.«01_k».proof.Proof.Gen.ConvForwardIdeal.Value
public import proofs.«01_k».proof.Proof.Gen.ConvForwardReferenceIdeal
public import proofs.«01_k».proof.Proof.Gen.ConvForwardReferenceIdeal.Run
public import proofs.«01_k».proof.Proof.Gen.ConvForwardReferenceIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.Enter
public import proofs.«01_k».proof.Proof.Gen.Enter.Skeleton
public import proofs.«01_k».proof.Proof.Gen.Enter.Launch
public import proofs.«01_k».proof.Proof.Gen.Enter.Points
public import proofs.«01_k».proof.Proof.Gen.Enter.Frame
public import proofs.«01_k».proof.Proof.Gen.EnterIdeal
public import proofs.«01_k».proof.Proof.Gen.EnterIdeal.Skeleton
public import proofs.«01_k».proof.Proof.Gen.EnterIdeal.Launch
public import proofs.«01_k».proof.Proof.Gen.EnterIdeal.Points
public import proofs.«01_k».proof.Proof.Gen.EnterIdeal.Frame
public import proofs.«01_k».proof.Proof.Gen.EnterIdeal.Value
public import proofs.«01_k».proof.Proof.Gen.EnterReferenceIdeal
public import proofs.«01_k».proof.Proof.Gen.EnterReferenceIdeal.Run
public import proofs.«01_k».proof.Proof.Gen.EnterReferenceIdeal.Read
public import proofs.«01_k».proof.Proof.Gen.Leave
public import proofs.«01_k».proof.Proof.Gen.Leave.Skeleton
public import proofs.«01_k».proof.Proof.Gen.Leave.Launch
public import proofs.«01_k».proof.Proof.Gen.Leave.Points
public import proofs.«01_k».proof.Proof.Gen.Leave.Frame
public import proofs.«01_k».proof.Proof.Gen.LeaveIdeal
public import proofs.«01_k».proof.Proof.Gen.LeaveIdeal.Skeleton
public import proofs.«01_k».proof.Proof.Gen.LeaveIdeal.Launch
public import proofs.«01_k».proof.Proof.Gen.LeaveIdeal.Points
public import proofs.«01_k».proof.Proof.Gen.LeaveIdeal.Frame
public import proofs.«01_k».proof.Proof.Gen.LeaveIdeal.Value
public import proofs.«01_k».proof.Proof.Gen.LeaveReferenceIdeal
public import proofs.«01_k».proof.Proof.Gen.LeaveReferenceIdeal.Run
public import proofs.«01_k».proof.Proof.Gen.LeaveReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Pre_finite_gates
public import proofs.«01_k».proof.Proof.Gen.Pre_finite_leave
public import proofs.«01_k».proof.Proof.Gen.Pre_finite_pool
public import proofs.«01_k».proof.Proof.NormPlain
public import proofs.«01_k».proof.Proof.EvenRun
public import proofs.«01_k».proof.Proof.EvenPlain
public import proofs.«01_k».proof.Proof.AdamRun
public import proofs.«01_k».proof.Proof.AdamPlain
public import proofs.«01_k».proof.Proof.ProjectRun
public import proofs.«01_k».proof.Proof.ProjectPlain
public import proofs.«01_k».proof.Proof.GateRun
public import proofs.«01_k».proof.Proof.GatePlain
public import proofs.«01_k».proof.Proof.GateFinite
public import proofs.«01_k».proof.Proof.ForwardRun
public import proofs.«01_k».proof.Proof.ForwardPlain
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.PoolRun
public import proofs.«01_k».proof.Proof.PoolPlain
public import proofs.«01_k».proof.Proof.EnterRun
public import proofs.«01_k».proof.Proof.EnterPlain
public import proofs.«01_k».proof.Proof.EvenOutRun
public import proofs.«01_k».proof.Proof.EvenOutPlain
public import proofs.«01_k».proof.Proof.MergeRun
public import proofs.«01_k».proof.Proof.MergePlain
public import proofs.«01_k».proof.Proof.LossRun
public import proofs.«01_k».proof.Proof.LossPlain
public import Idealize.ShloMosaic.Adequacy
public import Idealize.ShloMosaic.Init

@[expose] public section

noncomputable section

namespace Cert.Proof

open Idealize.ShloMosaic Idealize.SL.Sem Cert.Kernel

/-- The plain gradient runs and leaves its arguments as they were. -/
theorem plain_frame : Cert.quiescent_ReferenceIdeal (hReferenceIdeal := Cert.ReferenceIdeal.Gen.facts) := fun m ρ _ =>
  (θ_run Cert.ReferenceIdeal.defs _ _).mono (fun r h => ⟨fun c => (h c).2.2.2.2, Idealize.ShloMosaic.sem_eq_zero_of_no_sems (by decide) r.2⟩) (Cert.ReferenceIdeal.Value.run m ρ)

/-- The kernel and the plain gradient leave the same four gradients. -/
theorem conv_grad : Cert.algebraic_KernelIdeal_ReferenceIdeal (hKernelIdeal := Cert.KernelIdeal.Gen.facts) (hReferenceIdeal := Cert.ReferenceIdeal.Gen.facts) := by
  intro m ρ m' ρ' _ hagree
  refine ⟨_, _, _, _, Cert.ConvGrad.run m ρ, ?_⟩
  refine (θ_run Cert.ReferenceIdeal.defs _ _).mono (fun _ h c => ?_) (Cert.ReferenceIdeal.Value.run (F := Ideal) m' ρ')
  obtain ⟨e0, e1, e2, _⟩ := hagree c
  have a0 : StableHlo.launchContents m' c (Proc.devRef .tc Cert.ReferenceIdeal.main_arg0) = Cert.ConvGrad.arg0 m c := e0
  have a1 : StableHlo.launchContents m' c (Proc.devRef .tc Cert.ReferenceIdeal.main_arg1) = Cert.ConvGrad.arg1 m c := e1
  have a2 : StableHlo.launchContents m' c (Proc.devRef .tc Cert.ReferenceIdeal.main_arg2) = Cert.ConvGrad.arg2 m c := e2
  obtain ⟨h0, h1, h2, h3, hargs⟩ := h c
  refine ⟨h0.trans ?_, h1.trans ?_, h2.trans ?_, h3.trans ?_, hargs⟩
  · exact (Cert.ReferenceIdeal.Read.val_main_v459_eq _).trans ((Cert.ConvGrad.Plain.value_grad _ _ _).trans (by rw [a0, a1, a2]))
  · exact (Cert.ReferenceIdeal.Read.val_main_v460_eq _).trans ((Cert.ConvGrad.Plain.gate_grad _ _ _).trans (by rw [a0, a1, a2]))
  · exact (Cert.ReferenceIdeal.Read.val_main_v451_eq _).trans ((Cert.ConvGrad.Plain.taps_grad _ _).trans (by rw [a0, a1]))
  · exact (Cert.ReferenceIdeal.Read.val_main_v176_eq _).trans ((Cert.ConvGrad.Plain.bias_grad _).trans (by rw [a0]))

/-- The plain gradient through the norm and the projection runs and leaves its arguments as they were. -/
theorem norm_plain_frame : Cert.quiescent_NormGradReferenceIdeal (hNormGradReferenceIdeal := Cert.NormGradReferenceIdeal.Gen.facts) := fun m ρ _ =>
  (θ_run Cert.NormGradReferenceIdeal.defs _ _).mono (fun r h => ⟨fun c => (h c).2.2.2, Idealize.ShloMosaic.sem_eq_zero_of_no_sems (by decide) r.2⟩) (Cert.NormGradReferenceIdeal.Value.run m ρ)

/-- The kernel and the plain gradient leave the same three gradients. -/
theorem norm_grad : Cert.algebraic_NormGradIdeal_NormGradReferenceIdeal (hNormGradIdeal := Cert.NormGradIdeal.Gen.facts) (hNormGradReferenceIdeal := Cert.NormGradReferenceIdeal.Gen.facts) := by
  intro m ρ m' ρ' _ hagree
  refine ⟨_, _, _, Cert.NormGrad.run m ρ, ?_⟩
  refine (θ_run Cert.NormGradReferenceIdeal.defs _ _).mono (fun _ h c => ?_) (Cert.NormGradReferenceIdeal.Value.run (F := Ideal) m' ρ')
  obtain ⟨e0, e1, e2, e3, e4, e5, e6⟩ := hagree c
  have a0 : m' ((c.tc : Thread Cert.NormGradReferenceIdeal.nD Cert.NormGradReferenceIdeal.τ).loc Cert.NormGradReferenceIdeal.main_arg0) = Cert.NormGrad.arg0 m c := e0
  have a1 : m' ((c.tc : Thread Cert.NormGradReferenceIdeal.nD Cert.NormGradReferenceIdeal.τ).loc Cert.NormGradReferenceIdeal.main_arg1) = Cert.NormGrad.arg1 m c := e1
  have a2 : m' ((c.tc : Thread Cert.NormGradReferenceIdeal.nD Cert.NormGradReferenceIdeal.τ).loc Cert.NormGradReferenceIdeal.main_arg2) = Cert.NormGrad.arg2 m c := e2
  have a3 : m' ((c.tc : Thread Cert.NormGradReferenceIdeal.nD Cert.NormGradReferenceIdeal.τ).loc Cert.NormGradReferenceIdeal.main_arg3) = Cert.NormGrad.arg3 m c := e3
  have a4 : m' ((c.tc : Thread Cert.NormGradReferenceIdeal.nD Cert.NormGradReferenceIdeal.τ).loc Cert.NormGradReferenceIdeal.main_arg4) = Cert.NormGrad.arg4 m c := e4
  have a5 : m' ((c.tc : Thread Cert.NormGradReferenceIdeal.nD Cert.NormGradReferenceIdeal.τ).loc Cert.NormGradReferenceIdeal.main_arg5) = Cert.NormGrad.arg5 m c := e5
  have a6 : m' ((c.tc : Thread Cert.NormGradReferenceIdeal.nD Cert.NormGradReferenceIdeal.τ).loc Cert.NormGradReferenceIdeal.main_arg6) = Cert.NormGrad.arg6 m c := e6
  obtain ⟨h0, h1, h2, hargs⟩ := h c
  refine ⟨h0.trans ?_, h1.trans ?_, h2.trans ?_, hargs⟩
  · exact (Cert.NormGradReferenceIdeal.Read.val_main_v45_eq _ _).trans ((Cert.NormGrad.Plain.row_grad _ _ _ _ _ _ _).trans (by rw [a0, a1, a2, a3, a4, a5, a6]))
  · exact (Cert.NormGradReferenceIdeal.Read.val_main_v28_eq _ _ _ _ _).trans ((Cert.NormGrad.Plain.scale_grad _ _ _ _ _).trans (by rw [a0, a1, a2, a3, a4]))
  · exact (Cert.NormGradReferenceIdeal.Read.val_main_v25_eq _ _ _ _ _).trans ((Cert.NormGrad.Plain.weight_grad _ _ _ _ _).trans (by rw [a0, a1, a2, a4, a5]))

/-- The plain projection runs and leaves its arguments as they were. -/
theorem project_plain_frame : Cert.quiescent_ProjectReferenceIdeal (hProjectReferenceIdeal := Cert.ProjectReferenceIdeal.Gen.facts) := fun m ρ _ =>
  (θ_run Cert.ProjectReferenceIdeal.defs _ _).mono (fun r h => ⟨fun c => (h c).2, Idealize.ShloMosaic.sem_eq_zero_of_no_sems (by decide) r.2⟩) (Cert.ProjectReferenceIdeal.Value.run m ρ)

/-- The kernel and the plain projection leave the same array. -/
theorem project : Cert.algebraic_ProjectIdeal_ProjectReferenceIdeal (hProjectIdeal := Cert.ProjectIdeal.Gen.facts) (hProjectReferenceIdeal := Cert.ProjectReferenceIdeal.Gen.facts) := by
  intro m ρ m' ρ' _ hagree
  refine ⟨_, Cert.Project.run m ρ, ?_⟩
  refine (θ_run Cert.ProjectReferenceIdeal.defs _ _).mono (fun _ h c => ?_) (Cert.ProjectReferenceIdeal.Value.run (F := Ideal) m' ρ')
  obtain ⟨e0, e1, e2⟩ := hagree c
  have a0 : m' ((c.tc : Thread Cert.ProjectReferenceIdeal.nD Cert.ProjectReferenceIdeal.τ).loc Cert.ProjectReferenceIdeal.main_arg0) = Cert.Project.arg0 m c := e0
  have a1 : m' ((c.tc : Thread Cert.ProjectReferenceIdeal.nD Cert.ProjectReferenceIdeal.τ).loc Cert.ProjectReferenceIdeal.main_arg1) = Cert.Project.arg1 m c := e1
  have a2 : m' ((c.tc : Thread Cert.ProjectReferenceIdeal.nD Cert.ProjectReferenceIdeal.τ).loc Cert.ProjectReferenceIdeal.main_arg2) = Cert.Project.arg2 m c := e2
  obtain ⟨h0, hargs⟩ := h c
  refine ⟨h0.trans ?_, hargs⟩
  exact (Cert.ProjectReferenceIdeal.Read.val_main_v16_eq _ _ _).trans ((Cert.Project.Plain.projection _ _ _).trans (by rw [a0, a1, a2]))

/-- The plain gradient through the gates and the output projection runs and leaves its arguments as they were. -/
theorem gate_plain_frame : Cert.quiescent_GateGradReferenceIdeal (hGateGradReferenceIdeal := Cert.GateGradReferenceIdeal.Gen.facts) := fun m ρ _ =>
  (θ_run Cert.GateGradReferenceIdeal.defs _ _).mono (fun r h => ⟨fun c => (h c).2.2.2.2.2, Idealize.ShloMosaic.sem_eq_zero_of_no_sems (by decide) r.2⟩) (Cert.GateGradReferenceIdeal.Value.run m ρ)

/-- The kernel and the plain gradient leave the same five gradients where the arrays the precondition reads are finite. -/
theorem gates : Cert.algebraic_GateGradIdeal_GateGradReferenceIdeal_pre_finite_gates (hGateGradIdeal := Cert.GateGradIdeal.Gen.facts)
    (hGateGradReferenceIdeal := Cert.GateGradReferenceIdeal.Gen.facts) (hPre_finite_gates := Cert.Pre_finite_gates.Gen.facts) := by
  intro m ρ m' ρ' hpre hagree
  refine ⟨_, _, _, _, _, Cert.Gates.run m ρ, ?_⟩
  refine (θ_run Cert.GateGradReferenceIdeal.defs _ _).mono (fun _ h c => ?_) (Cert.GateGradReferenceIdeal.Value.run (F := Ideal) m' ρ')
  obtain ⟨e0, e1, e2, e3, e4, e5⟩ := hagree c
  have a0 : m' ((c.tc : Thread Cert.GateGradReferenceIdeal.nD Cert.GateGradReferenceIdeal.τ).loc Cert.GateGradReferenceIdeal.main_arg0) = Cert.Gates.arg0 m c := e0
  have a1 : m' ((c.tc : Thread Cert.GateGradReferenceIdeal.nD Cert.GateGradReferenceIdeal.τ).loc Cert.GateGradReferenceIdeal.main_arg1) = Cert.Gates.arg1 m c := e1
  have a2 : m' ((c.tc : Thread Cert.GateGradReferenceIdeal.nD Cert.GateGradReferenceIdeal.τ).loc Cert.GateGradReferenceIdeal.main_arg2) = Cert.Gates.arg2 m c := e2
  have a3 : m' ((c.tc : Thread Cert.GateGradReferenceIdeal.nD Cert.GateGradReferenceIdeal.τ).loc Cert.GateGradReferenceIdeal.main_arg3) = Cert.Gates.arg3 m c := e3
  have a4 : m' ((c.tc : Thread Cert.GateGradReferenceIdeal.nD Cert.GateGradReferenceIdeal.τ).loc Cert.GateGradReferenceIdeal.main_arg4) = Cert.Gates.arg4 m c := e4
  have a5 : m' ((c.tc : Thread Cert.GateGradReferenceIdeal.nD Cert.GateGradReferenceIdeal.τ).loc Cert.GateGradReferenceIdeal.main_arg5) = Cert.Gates.arg5 m c := e5
  haveI := Cert.Pre_finite_gates.Gen.facts
  obtain ⟨f0, f1, f3, f4, f5⟩ := Cert.Gates.finite (Cert.Gates.arg0 m c) (Cert.Gates.arg1 m c) (Cert.Gates.arg2 m c) (Cert.Gates.arg3 m c) (Cert.Gates.arg4 m c) (Cert.Gates.arg5 m c) (hpre c)
  obtain ⟨h0, h1, h2, h3, h4, hargs⟩ := h c
  refine ⟨h0.trans ?_, h1.trans ?_, h2.trans ?_, h3.trans ?_, h4.trans ?_, hargs⟩
  · rw [Cert.GateGradReferenceIdeal.Read.val_main_v65_eq, a0, a1, a2, a3, a4, a5]
    exact Cert.Gates.Plain.row_grad _ _ _ _ _ _ f0 f1 f3 f4 f5
  · rw [Cert.GateGradReferenceIdeal.Read.val_main_v66_eq, a0, a1, a2, a3, a4, a5]
    exact Cert.Gates.Plain.gate_grad _ _ _ _ _ _ f0 f1 f3 f4 f5
  · rw [Cert.GateGradReferenceIdeal.Read.val_main_v33_eq, a0, a2, a3, a4, a5]
    exact Cert.Gates.Plain.weight_grad _ _ _ _ _
  · rw [Cert.GateGradReferenceIdeal.Read.val_main_v43_eq, a0, a1, a2, a3, a4, a5]
    exact Cert.Gates.Plain.scale_grad _ _ _ _ _ _ f0 f1 f3 f4 f5
  · rw [Cert.GateGradReferenceIdeal.Read.val_main_v40_eq, a0, a1, a2, a3, a4, a5]
    exact Cert.Gates.Plain.shift_grad _ _ _ _ _ _ f0 f1 f3 f4 f5

/-- The plain forward convolution runs and leaves its arguments as they were. -/
theorem forward_plain_frame : Cert.quiescent_ConvForwardReferenceIdeal (hConvForwardReferenceIdeal := Cert.ConvForwardReferenceIdeal.Gen.facts) := fun m ρ _ =>
  (θ_run Cert.ConvForwardReferenceIdeal.defs _ _).mono (fun r h => ⟨fun c => (h c).2.2, Idealize.ShloMosaic.sem_eq_zero_of_no_sems (by decide) r.2⟩) (Cert.ConvForwardReferenceIdeal.Value.run m ρ)

/-- The kernel and the plain forward convolution leave the same two arrays. -/
theorem forward : Cert.algebraic_ConvForwardIdeal_ConvForwardReferenceIdeal (hConvForwardIdeal := Cert.ConvForwardIdeal.Gen.facts) (hConvForwardReferenceIdeal := Cert.ConvForwardReferenceIdeal.Gen.facts) := by
  intro m ρ m' ρ' _ hagree
  refine ⟨_, _, Cert.Forward.run m ρ, ?_⟩
  refine (θ_run Cert.ConvForwardReferenceIdeal.defs _ _).mono (fun _ h c => ?_) (Cert.ConvForwardReferenceIdeal.Value.run (F := Ideal) m' ρ')
  obtain ⟨e0, e1, e2, e3, e4⟩ := hagree c
  have a0 : StableHlo.launchContents m' c (Proc.devRef .tc Cert.ConvForwardReferenceIdeal.main_arg0) = Cert.Forward.arg0 m c := e0
  have a1 : StableHlo.launchContents m' c (Proc.devRef .tc Cert.ConvForwardReferenceIdeal.main_arg1) = Cert.Forward.arg1 m c := e1
  have a2 : StableHlo.launchContents m' c (Proc.devRef .tc Cert.ConvForwardReferenceIdeal.main_arg2) = Cert.Forward.arg2 m c := e2
  have a3 : StableHlo.launchContents m' c (Proc.devRef .tc Cert.ConvForwardReferenceIdeal.main_arg3) = Cert.Forward.arg3 m c := e3
  have a4 : StableHlo.launchContents m' c (Proc.devRef .tc Cert.ConvForwardReferenceIdeal.main_arg4) = Cert.Forward.arg4 m c := e4
  obtain ⟨h0, h1, hargs⟩ := h c
  refine ⟨h0.trans ?_, h1.trans ?_, hargs⟩
  · exact (Cert.ConvForwardReferenceIdeal.Read.val_main_v194_eq _).trans ((Cert.Forward.Plain.gates_plain _ _ _ _ _).trans (by rw [a0, a1, a2, a3, a4]))
  · exact (Cert.ConvForwardReferenceIdeal.Read.val_main_v169_eq _).trans ((Cert.Forward.Plain.conv_plain _ _ _).trans (by rw [a0, a1, a2]))

/-- The plain optimiser step's frame. -/
theorem update_plain_frame : Cert.quiescent_AdamReferenceIdeal (hAdamReferenceIdeal := Cert.AdamReferenceIdeal.Gen.facts) := fun m ρ _ =>
  (θ_run Cert.AdamReferenceIdeal.defs _ _).mono (fun r h => ⟨fun c => (h c).2.2.2.2, Idealize.ShloMosaic.sem_eq_zero_of_no_sems (by decide) r.2⟩) (Cert.AdamReferenceIdeal.Value.run m ρ)

/-- The kernel and the plain optimiser step leave the same gradient, change and moments. -/
theorem update : Cert.algebraic_AdamIdeal_AdamReferenceIdeal (hAdamIdeal := Cert.AdamIdeal.Gen.facts) (hAdamReferenceIdeal := Cert.AdamReferenceIdeal.Gen.facts) := by
  intro m ρ m' ρ' _ hagree
  refine ⟨_, _, _, _, Cert.Update.run m ρ, ?_⟩
  refine (θ_run Cert.AdamReferenceIdeal.defs _ _).mono (fun _ h c => ?_) (Cert.AdamReferenceIdeal.Value.run (F := Ideal) m' ρ')
  obtain ⟨e0, e1, e2, e3, e4, e5⟩ := hagree c
  have a0 : m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0) := e0
  have a1 : m' ((c.tc : Thread Cert.AdamReferenceIdeal.nD Cert.AdamReferenceIdeal.τ).loc Cert.AdamReferenceIdeal.main_arg1) = Cert.Update.arg1 m c := e1
  have a2 : m' ((c.tc : Thread Cert.AdamReferenceIdeal.nD Cert.AdamReferenceIdeal.τ).loc Cert.AdamReferenceIdeal.main_arg2) = Cert.Update.arg2 m c := e2
  have a3 : m' ((c.tc : Thread Cert.AdamReferenceIdeal.nD Cert.AdamReferenceIdeal.τ).loc Cert.AdamReferenceIdeal.main_arg3) = Cert.Update.arg3 m c := e3
  have a4 : m' ((c.tc : Thread Cert.AdamReferenceIdeal.nD Cert.AdamReferenceIdeal.τ).loc Cert.AdamReferenceIdeal.main_arg4) = Cert.Update.arg4 m c := e4
  have a5 : m' ((c.tc : Thread Cert.AdamReferenceIdeal.nD Cert.AdamReferenceIdeal.τ).loc Cert.AdamReferenceIdeal.main_arg5) = Cert.Update.arg5 m c := e5
  obtain ⟨h0, h1, h2, h3, hargs⟩ := h c
  refine ⟨h0.trans ?_, h1.trans ?_, h2.trans ?_, h3.trans ?_, hargs⟩
  · exact (Cert.AdamReferenceIdeal.Read.val_main_v7_eq _ _ _).trans ((Cert.Update.Plain.gradient_plain _ _ _).trans (by rw [a0, a4, a5]))
  · exact (Cert.AdamReferenceIdeal.Read.val_main_v31_eq _ _ _ _ _ _).trans ((Cert.Update.Plain.change_plain _ _ _ _ _ _).trans (by rw [a0, a1, a2, a3, a4, a5]))
  · exact (Cert.AdamReferenceIdeal.Read.val_main_v12_eq _ _ _ _).trans ((Cert.Update.Plain.first_plain _ _ _ _).trans (by rw [a0, a2, a4, a5]))
  · exact (Cert.AdamReferenceIdeal.Read.val_main_v18_eq _ _ _ _).trans ((Cert.Update.Plain.second_plain _ _ _ _).trans (by rw [a0, a3, a4, a5]))

/-- The even layer's plain gradient through the norm and the projection runs and leaves its arguments as they were. -/
theorem even_plain_frame : Cert.quiescent_EvenGradReferenceIdeal (hEvenGradReferenceIdeal := Cert.EvenGradReferenceIdeal.Gen.facts) := fun m ρ _ =>
  (θ_run Cert.EvenGradReferenceIdeal.defs _ _).mono (fun r h => ⟨fun c => (h c).2.2.2, Idealize.ShloMosaic.sem_eq_zero_of_no_sems (by decide) r.2⟩) (Cert.EvenGradReferenceIdeal.Value.run m ρ)

/-- The kernel and the plain gradient leave the same three gradients in the even layer. -/
theorem even_grad : Cert.algebraic_EvenGradIdeal_EvenGradReferenceIdeal (hEvenGradIdeal := Cert.EvenGradIdeal.Gen.facts) (hEvenGradReferenceIdeal := Cert.EvenGradReferenceIdeal.Gen.facts) := by
  intro m ρ m' ρ' _ hagree
  refine ⟨_, _, _, Cert.EvenIn.run m ρ, ?_⟩
  refine (θ_run Cert.EvenGradReferenceIdeal.defs _ _).mono (fun _ h c => ?_) (Cert.EvenGradReferenceIdeal.Value.run (F := Ideal) m' ρ')
  obtain ⟨e0, e1, e2, e3, e4, e5, e6⟩ := hagree c
  have a0 : m' ((c.tc : Thread Cert.EvenGradReferenceIdeal.nD Cert.EvenGradReferenceIdeal.τ).loc Cert.EvenGradReferenceIdeal.main_arg0) = Cert.EvenIn.arg0 m c := e0
  have a1 : m' ((c.tc : Thread Cert.EvenGradReferenceIdeal.nD Cert.EvenGradReferenceIdeal.τ).loc Cert.EvenGradReferenceIdeal.main_arg1) = Cert.EvenIn.arg1 m c := e1
  have a2 : m' ((c.tc : Thread Cert.EvenGradReferenceIdeal.nD Cert.EvenGradReferenceIdeal.τ).loc Cert.EvenGradReferenceIdeal.main_arg2) = Cert.EvenIn.arg2 m c := e2
  have a3 : m' ((c.tc : Thread Cert.EvenGradReferenceIdeal.nD Cert.EvenGradReferenceIdeal.τ).loc Cert.EvenGradReferenceIdeal.main_arg3) = Cert.EvenIn.arg3 m c := e3
  have a4 : m' ((c.tc : Thread Cert.EvenGradReferenceIdeal.nD Cert.EvenGradReferenceIdeal.τ).loc Cert.EvenGradReferenceIdeal.main_arg4) = Cert.EvenIn.arg4 m c := e4
  have a5 : m' ((c.tc : Thread Cert.EvenGradReferenceIdeal.nD Cert.EvenGradReferenceIdeal.τ).loc Cert.EvenGradReferenceIdeal.main_arg5) = Cert.EvenIn.arg5 m c := e5
  have a6 : m' ((c.tc : Thread Cert.EvenGradReferenceIdeal.nD Cert.EvenGradReferenceIdeal.τ).loc Cert.EvenGradReferenceIdeal.main_arg6) = Cert.EvenIn.arg6 m c := e6
  obtain ⟨h0, h1, h2, hargs⟩ := h c
  refine ⟨h0.trans ?_, h1.trans ?_, h2.trans ?_, hargs⟩
  · exact (Cert.EvenGradReferenceIdeal.Read.val_main_v45_eq _ _).trans ((Cert.EvenIn.Plain.row_grad _ _ _ _ _ _ _).trans (by rw [a0, a1, a2, a3, a4, a5, a6]))
  · exact (Cert.EvenGradReferenceIdeal.Read.val_main_v28_eq _ _ _ _ _).trans ((Cert.EvenIn.Plain.scale_grad _ _ _ _ _).trans (by rw [a0, a1, a2, a3, a4]))
  · exact (Cert.EvenGradReferenceIdeal.Read.val_main_v25_eq _ _ _ _ _).trans ((Cert.EvenIn.Plain.weight_grad _ _ _ _ _).trans (by rw [a0, a1, a2, a4, a5]))

/-- The even layer's plain projection runs and leaves its arguments as they were. -/
theorem enter_plain_frame : Cert.quiescent_EnterReferenceIdeal (hEnterReferenceIdeal := Cert.EnterReferenceIdeal.Gen.facts) := fun m ρ _ =>
  (θ_run Cert.EnterReferenceIdeal.defs _ _).mono (fun r h => ⟨fun c => (h c).2, Idealize.ShloMosaic.sem_eq_zero_of_no_sems (by decide) r.2⟩) (Cert.EnterReferenceIdeal.Value.run m ρ)

/-- The kernel and the plain projection leave the same array in the even layer. -/
theorem enter : Cert.algebraic_EnterIdeal_EnterReferenceIdeal (hEnterIdeal := Cert.EnterIdeal.Gen.facts) (hEnterReferenceIdeal := Cert.EnterReferenceIdeal.Gen.facts) := by
  intro m ρ m' ρ' _ hagree
  refine ⟨_, Cert.Enter.run m ρ, ?_⟩
  refine (θ_run Cert.EnterReferenceIdeal.defs _ _).mono (fun _ h c => ?_) (Cert.EnterReferenceIdeal.Value.run (F := Ideal) m' ρ')
  obtain ⟨e0, e1, e2⟩ := hagree c
  have a0 : m' ((c.tc : Thread Cert.EnterReferenceIdeal.nD Cert.EnterReferenceIdeal.τ).loc Cert.EnterReferenceIdeal.main_arg0) = Cert.Enter.arg0 m c := e0
  have a1 : m' ((c.tc : Thread Cert.EnterReferenceIdeal.nD Cert.EnterReferenceIdeal.τ).loc Cert.EnterReferenceIdeal.main_arg1) = Cert.Enter.arg1 m c := e1
  have a2 : m' ((c.tc : Thread Cert.EnterReferenceIdeal.nD Cert.EnterReferenceIdeal.τ).loc Cert.EnterReferenceIdeal.main_arg2) = Cert.Enter.arg2 m c := e2
  obtain ⟨h0, hargs⟩ := h c
  refine ⟨h0.trans ?_, hargs⟩
  exact (Cert.EnterReferenceIdeal.Read.val_main_v16_eq _ _ _).trans ((Cert.Enter.Plain.projection _ _ _).trans (by rw [a0, a1, a2]))

/-- The plain gradient through the even layer's gates and output product runs and leaves its arguments as they were. -/
theorem leave_plain_frame : Cert.quiescent_LeaveReferenceIdeal (hLeaveReferenceIdeal := Cert.LeaveReferenceIdeal.Gen.facts) := fun m ρ _ =>
  (θ_run Cert.LeaveReferenceIdeal.defs _ _).mono (fun r h => ⟨fun c => (h c).2.2.2, Idealize.ShloMosaic.sem_eq_zero_of_no_sems (by decide) r.2⟩) (Cert.LeaveReferenceIdeal.Value.run m ρ)

/-- The kernel and the plain gradient leave the same three gradients where the arrays the precondition reads are finite. -/
theorem leave : Cert.algebraic_LeaveIdeal_LeaveReferenceIdeal_pre_finite_leave (hLeaveIdeal := Cert.LeaveIdeal.Gen.facts)
    (hLeaveReferenceIdeal := Cert.LeaveReferenceIdeal.Gen.facts) (hPre_finite_leave := Cert.Pre_finite_leave.Gen.facts) := by
  intro m ρ m' ρ' hpre hagree
  refine ⟨_, _, _, Cert.EvenOut.run m ρ, ?_⟩
  refine (θ_run Cert.LeaveReferenceIdeal.defs _ _).mono (fun _ h c => ?_) (Cert.LeaveReferenceIdeal.Value.run (F := Ideal) m' ρ')
  obtain ⟨e0, e1, e2, e3, e4⟩ := hagree c
  have a0 : m' ((c.tc : Thread Cert.LeaveReferenceIdeal.nD Cert.LeaveReferenceIdeal.τ).loc Cert.LeaveReferenceIdeal.main_arg0) = Cert.EvenOut.arg0 m c := e0
  have a1 : m' ((c.tc : Thread Cert.LeaveReferenceIdeal.nD Cert.LeaveReferenceIdeal.τ).loc Cert.LeaveReferenceIdeal.main_arg1) = Cert.EvenOut.arg1 m c := e1
  have a2 : m' ((c.tc : Thread Cert.LeaveReferenceIdeal.nD Cert.LeaveReferenceIdeal.τ).loc Cert.LeaveReferenceIdeal.main_arg2) = Cert.EvenOut.arg2 m c := e2
  have a3 : m' ((c.tc : Thread Cert.LeaveReferenceIdeal.nD Cert.LeaveReferenceIdeal.τ).loc Cert.LeaveReferenceIdeal.main_arg3) = Cert.EvenOut.arg3 m c := e3
  have a4 : m' ((c.tc : Thread Cert.LeaveReferenceIdeal.nD Cert.LeaveReferenceIdeal.τ).loc Cert.LeaveReferenceIdeal.main_arg4) = Cert.EvenOut.arg4 m c := e4
  haveI := Cert.Pre_finite_leave.Gen.facts
  obtain ⟨f0, f1, f2, f3⟩ := Cert.EvenOut.finite (Cert.EvenOut.arg0 m c) (Cert.EvenOut.arg1 m c) (Cert.EvenOut.arg2 m c) (Cert.EvenOut.arg3 m c) (Cert.EvenOut.arg4 m c) (hpre c)
  obtain ⟨h0, h1, h2, hargs⟩ := h c
  refine ⟨h0.trans ?_, h1.trans ?_, h2.trans ?_, hargs⟩
  · rw [Cert.LeaveReferenceIdeal.Read.val_main_v13_eq, a0, a1, a4]
    exact Cert.EvenOut.Plain.sides_grad _ _ _
  · rw [Cert.LeaveReferenceIdeal.Read.val_main_v14_eq, a0, a1, a2, a3, a4]
    exact Cert.EvenOut.Plain.gate_grad _ _ _ _ _ f0 f1 f2 f3
  · rw [Cert.LeaveReferenceIdeal.Read.val_main_v8_eq, a0, a2, a3, a4]
    exact Cert.EvenOut.Plain.weight_grad _ _ _ _

/-- The even layer's plain gates and output product run and leave their arguments as they were. -/
theorem merge_plain_frame : Cert.quiescent_MergeReferenceIdeal (hMergeReferenceIdeal := Cert.MergeReferenceIdeal.Gen.facts) := fun m ρ _ =>
  (θ_run Cert.MergeReferenceIdeal.defs _ _).mono (fun r h => ⟨fun c => (h c).2.2, Idealize.ShloMosaic.sem_eq_zero_of_no_sems (by decide) r.2⟩) (Cert.MergeReferenceIdeal.Value.run m ρ)

/-- The kernel and the plain gates and output product leave the same two arrays. -/
theorem merge : Cert.algebraic_MergeIdeal_MergeReferenceIdeal (hMergeIdeal := Cert.MergeIdeal.Gen.facts) (hMergeReferenceIdeal := Cert.MergeReferenceIdeal.Gen.facts) := by
  intro m ρ m' ρ' _ hagree
  refine ⟨_, _, Cert.EvenMerge.run m ρ, ?_⟩
  refine (θ_run Cert.MergeReferenceIdeal.defs _ _).mono (fun _ h c => ?_) (Cert.MergeReferenceIdeal.Value.run (F := Ideal) m' ρ')
  obtain ⟨e0, e1, e2, e3, e4⟩ := hagree c
  have a0 : m' ((c.tc : Thread Cert.MergeReferenceIdeal.nD Cert.MergeReferenceIdeal.τ).loc Cert.MergeReferenceIdeal.main_arg0) = Cert.EvenMerge.arg0 m c := e0
  have a1 : m' ((c.tc : Thread Cert.MergeReferenceIdeal.nD Cert.MergeReferenceIdeal.τ).loc Cert.MergeReferenceIdeal.main_arg1) = Cert.EvenMerge.arg1 m c := e1
  have a2 : m' ((c.tc : Thread Cert.MergeReferenceIdeal.nD Cert.MergeReferenceIdeal.τ).loc Cert.MergeReferenceIdeal.main_arg2) = Cert.EvenMerge.arg2 m c := e2
  have a3 : m' ((c.tc : Thread Cert.MergeReferenceIdeal.nD Cert.MergeReferenceIdeal.τ).loc Cert.MergeReferenceIdeal.main_arg3) = Cert.EvenMerge.arg3 m c := e3
  have a4 : m' ((c.tc : Thread Cert.MergeReferenceIdeal.nD Cert.MergeReferenceIdeal.τ).loc Cert.MergeReferenceIdeal.main_arg4) = Cert.EvenMerge.arg4 m c := e4
  obtain ⟨h0, h1, hargs⟩ := h c
  refine ⟨h0.trans ?_, h1.trans ?_, hargs⟩
  · exact (Cert.MergeReferenceIdeal.Read.val_main_v8_eq _ _ _ _ _).trans ((Cert.EvenMerge.Plain.merged_eq _ _ _ _ _).trans (by rw [a0, a1, a2, a3, a4]))
  · exact (Cert.MergeReferenceIdeal.Read.val_main_v9_eq _ _ _).trans ((Cert.EvenMerge.Plain.gated_eq _ _ _).trans (by rw [a0, a1, a2]))

/-- The plain loss and its gradients run and leave their arguments as they were. -/
theorem loss_plain_frame : Cert.quiescent_LossReferenceIdeal (hLossReferenceIdeal := Cert.LossReferenceIdeal.Gen.facts) := fun m ρ _ =>
  (θ_run Cert.LossReferenceIdeal.defs _ _).mono (fun r h => ⟨fun c => (h c).2.2.2, Idealize.ShloMosaic.sem_eq_zero_of_no_sems (by decide) r.2⟩) (Cert.LossReferenceIdeal.Value.run m ρ)

/-- The kernel and the plain program leave the same loss and the same two gradients. -/
theorem loss : Cert.algebraic_LossIdeal_LossReferenceIdeal (hLossIdeal := Cert.LossIdeal.Gen.facts) (hLossReferenceIdeal := Cert.LossReferenceIdeal.Gen.facts) := by
  intro m ρ m' ρ' _ hagree
  refine ⟨_, _, _, Cert.LossGrad.run m ρ, ?_⟩
  refine (θ_run Cert.LossReferenceIdeal.defs _ _).mono (fun _ h c => ?_) (Cert.LossReferenceIdeal.Value.run (F := Ideal) m' ρ')
  obtain ⟨e0, e1, e2, e3, e4⟩ := hagree c
  have a0 : m' ((c.tc : Thread Cert.LossReferenceIdeal.nD Cert.LossReferenceIdeal.τ).loc Cert.LossReferenceIdeal.main_arg0) = Cert.LossGrad.arg0 m c := e0
  have a1 : m' ((c.tc : Thread Cert.LossReferenceIdeal.nD Cert.LossReferenceIdeal.τ).loc Cert.LossReferenceIdeal.main_arg1) = Cert.LossGrad.arg1 m c := e1
  have a2 : m' ((c.tc : Thread Cert.LossReferenceIdeal.nD Cert.LossReferenceIdeal.τ).loc Cert.LossReferenceIdeal.main_arg2) = Cert.LossGrad.arg2 m c := e2
  have a3 : m' ((c.tc : Thread Cert.LossReferenceIdeal.nD Cert.LossReferenceIdeal.τ).loc Cert.LossReferenceIdeal.main_arg3) = Cert.LossGrad.arg3 m c := e3
  have a4 : m' ((c.tc : Thread Cert.LossReferenceIdeal.nD Cert.LossReferenceIdeal.τ).loc Cert.LossReferenceIdeal.main_arg4) = Cert.LossGrad.arg4 m c := e4
  obtain ⟨h0, h1, h2, hargs⟩ := h c
  refine ⟨h0.trans ?_, h1.trans ?_, h2.trans ?_, hargs⟩
  · exact (Cert.LossReferenceIdeal.Read.val_main_v52_eq _ _).trans ((Cert.LossGrad.Plain.row_grad _ _ _ _ _).trans (by rw [a0, a1, a2, a3, a4]))
  · exact (Cert.LossReferenceIdeal.Read.val_main_v26_eq _ _ _ _ _).trans ((Cert.LossGrad.Plain.loss_lanes _ _ _ _ _).trans (by rw [a0, a1, a2, a3, a4]))
  · exact (Cert.LossReferenceIdeal.Read.val_main_v36_eq _ _ _ _ _).trans ((Cert.LossGrad.Plain.scale_grad _ _ _ _ _).trans (by rw [a0, a1, a2, a3, a4]))

/-- The plain pooling runs and leaves its arguments as they were. -/
theorem pool_plain_frame : Cert.quiescent_PoolReferenceIdeal (hPoolReferenceIdeal := Cert.PoolReferenceIdeal.Gen.facts) := fun m ρ _ =>
  (θ_run Cert.PoolReferenceIdeal.defs _ _).mono (fun r h => ⟨fun c => (h c).2, Idealize.ShloMosaic.sem_eq_zero_of_no_sems (by decide) r.2⟩) (Cert.PoolReferenceIdeal.Value.run m ρ)

/-- The kernel and the plain pooling leave the same array where the pooling's columns are finite. -/
theorem pool : Cert.algebraic_PoolIdeal_PoolReferenceIdeal_pre_finite_pool (hPoolIdeal := Cert.PoolIdeal.Gen.facts)
    (hPoolReferenceIdeal := Cert.PoolReferenceIdeal.Gen.facts) (hPre_finite_pool := Cert.Pre_finite_pool.Gen.facts) := by
  intro m ρ m' ρ' hpre hagree
  refine ⟨_, Cert.Pooling.run m ρ, ?_⟩
  refine (θ_run Cert.PoolReferenceIdeal.defs _ _).mono (fun _ h c => ?_) (Cert.PoolReferenceIdeal.Value.run (F := Ideal) m' ρ')
  obtain ⟨e0, e1, e2⟩ := hagree c
  have a0 : m' ((c.tc : Thread Cert.PoolReferenceIdeal.nD Cert.PoolReferenceIdeal.τ).loc Cert.PoolReferenceIdeal.main_arg0) = Cert.Pooling.arg0 m c := e0
  have a1 : m' ((c.tc : Thread Cert.PoolReferenceIdeal.nD Cert.PoolReferenceIdeal.τ).loc Cert.PoolReferenceIdeal.main_arg1) = Cert.Pooling.arg1 m c := e1
  have a2 : m' ((c.tc : Thread Cert.PoolReferenceIdeal.nD Cert.PoolReferenceIdeal.τ).loc Cert.PoolReferenceIdeal.main_arg2) = Cert.Pooling.arg2 m c := e2
  haveI := Cert.Pre_finite_pool.Gen.facts
  have hx := Cert.Pooling.finite (Cert.Pooling.arg0 m c) (Cert.Pooling.arg1 m c) (Cert.Pooling.arg2 m c) (hpre c)
  obtain ⟨h0, hargs⟩ := h c
  refine ⟨h0.trans ?_, hargs⟩
  rw [Cert.PoolReferenceIdeal.Read.val_main_v70_eq, a0, a1, a2]
  exact Cert.Pooling.Plain.pooling _ _ _ hx

theorem claim : Cert.Claim := ⟨Cert.Kernel.Gen.facts, Cert.KernelIdeal.Gen.facts, Cert.ReferenceIdeal.Gen.facts,
  Cert.NormGrad.Gen.facts, Cert.NormGradIdeal.Gen.facts, Cert.NormGradReferenceIdeal.Gen.facts,
  Cert.Project.Gen.facts, Cert.ProjectIdeal.Gen.facts, Cert.ProjectReferenceIdeal.Gen.facts,
  Cert.GateGrad.Gen.facts, Cert.GateGradIdeal.Gen.facts, Cert.GateGradReferenceIdeal.Gen.facts,
  Cert.ConvForward.Gen.facts, Cert.ConvForwardIdeal.Gen.facts, Cert.ConvForwardReferenceIdeal.Gen.facts,
  Cert.Adam.Gen.facts, Cert.AdamIdeal.Gen.facts, Cert.AdamReferenceIdeal.Gen.facts,
  Cert.EvenGrad.Gen.facts, Cert.EvenGradIdeal.Gen.facts, Cert.EvenGradReferenceIdeal.Gen.facts,
  Cert.Enter.Gen.facts, Cert.EnterIdeal.Gen.facts, Cert.EnterReferenceIdeal.Gen.facts,
  Cert.Leave.Gen.facts, Cert.LeaveIdeal.Gen.facts, Cert.LeaveReferenceIdeal.Gen.facts,
  Cert.Merge.Gen.facts, Cert.MergeIdeal.Gen.facts, Cert.MergeReferenceIdeal.Gen.facts,
  Cert.Loss.Gen.facts, Cert.LossIdeal.Gen.facts, Cert.LossReferenceIdeal.Gen.facts,
  Cert.Pool.Gen.facts, Cert.PoolIdeal.Gen.facts, Cert.PoolReferenceIdeal.Gen.facts,
  Cert.Pre_finite_gates.Gen.facts, Cert.Pre_finite_leave.Gen.facts, Cert.Pre_finite_pool.Gen.facts,
  fun m ρ _ => Cert.Kernel.Gen.frame m ρ, fun m ρ _ => Cert.KernelIdeal.Gen.frame m ρ, plain_frame,
  fun m ρ _ => Cert.NormGrad.Gen.frame m ρ, fun m ρ _ => Cert.NormGradIdeal.Gen.frame m ρ, norm_plain_frame,
  fun m ρ _ => Cert.Project.Gen.frame m ρ, fun m ρ _ => Cert.ProjectIdeal.Gen.frame m ρ, project_plain_frame,
  fun m ρ _ => Cert.GateGrad.Gen.frame m ρ, fun m ρ _ => Cert.GateGradIdeal.Gen.frame m ρ, fun m ρ _ => Cert.GateGradIdeal.Gen.frame m ρ,
  gate_plain_frame, fun m ρ _ => gate_plain_frame m ρ trivial,
  fun m ρ _ => Cert.ConvForward.Gen.frame m ρ, fun m ρ _ => Cert.ConvForwardIdeal.Gen.frame m ρ, forward_plain_frame,
  fun m ρ _ => Cert.Adam.Gen.frame m ρ trivial, fun m ρ _ => Cert.AdamIdeal.Gen.frame m ρ trivial, update_plain_frame,
  fun m ρ _ => Cert.EvenGrad.Gen.frame m ρ, fun m ρ _ => Cert.EvenGradIdeal.Gen.frame m ρ, even_plain_frame,
  fun m ρ _ => Cert.Enter.Gen.frame m ρ, fun m ρ _ => Cert.EnterIdeal.Gen.frame m ρ, enter_plain_frame,
  fun m ρ _ => Cert.Leave.Gen.frame m ρ, fun m ρ _ => Cert.LeaveIdeal.Gen.frame m ρ, fun m ρ _ => Cert.LeaveIdeal.Gen.frame m ρ,
  leave_plain_frame, fun m ρ _ => leave_plain_frame m ρ trivial,
  fun m ρ _ => Cert.Merge.Gen.frame m ρ, fun m ρ _ => Cert.MergeIdeal.Gen.frame m ρ, merge_plain_frame,
  fun m ρ _ => Cert.Loss.Gen.frame m ρ, fun m ρ _ => Cert.LossIdeal.Gen.frame m ρ, loss_plain_frame,
  fun m ρ _ => Cert.Pool.Gen.frame m ρ, fun m ρ _ => Cert.PoolIdeal.Gen.frame m ρ, fun m ρ _ => Cert.PoolIdeal.Gen.frame m ρ,
  pool_plain_frame, fun m ρ _ => pool_plain_frame m ρ trivial,
  trivial, conv_grad, trivial, norm_grad, trivial, project, trivial, gates, trivial, forward, trivial, update, trivial, even_grad, trivial, enter, trivial, leave,
  trivial, merge, trivial, loss, trivial, pool⟩

end Cert.Proof

end
